-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_sorted [hPre_rows_sorted : Cert.Pre_rows_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_rows_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_sorted [hPre_rows_sorted : Cert.Pre_rows_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_sorted [hKernelIdeal : Cert.KernelIdeal.Facts] [hPre_rows_sorted : Cert.Pre_rows_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_sorted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_sorted [hReferenceIdeal : Cert.ReferenceIdeal.Facts] [hPre_rows_sorted : Cert.Pre_rows_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_sorted [hKernelIdeal : Cert.KernelIdeal.Facts] [hReferenceIdeal : Cert.ReferenceIdeal.Facts] [hPre_rows_sorted : Cert.Pre_rows_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_sorted : Cert.Pre_rows_sorted.Facts),
    quiescent_Kernel (hKernel := hKernel)
    ∧ quiescent_KernelIdeal (hKernelIdeal := hKernelIdeal)
    ∧ quiescent_KernelIdeal_pre_rows_sorted (hKernelIdeal := hKernelIdeal) (hPre_rows_sorted := hPre_rows_sorted)
    ∧ quiescent_ReferenceIdeal (hReferenceIdeal := hReferenceIdeal)
    ∧ quiescent_ReferenceIdeal_pre_rows_sorted (hReferenceIdeal := hReferenceIdeal) (hPre_rows_sorted := hPre_rows_sorted)
    ∧ preserves_Kernel_KernelIdeal
    ∧ algebraic_KernelIdeal_ReferenceIdeal_pre_rows_sorted (hKernelIdeal := hKernelIdeal) (hReferenceIdeal := hReferenceIdeal) (hPre_rows_sorted := hPre_rows_sorted)
-- ==== Pre_rows_sorted.lean ====
abbrev S4x8192x768 : Shape := ⟨3, ![4, 8192, 768]⟩
abbrev S4x8192 : Shape := ⟨2, ![4, 8192]⟩
abbrev S768x1024 : Shape := ⟨2, ![768, 1024]⟩
abbrev S1024 : Shape := ⟨1, ![1024]⟩
abbrev S4x1 : Shape := ⟨2, ![4, 1]⟩
abbrev S4x8191 : Shape := ⟨2, ![4, 8191]⟩
abbrev S_ : Shape := ⟨0, ![]⟩

class Facts : Prop where
  slices_S4x8192_S4x1_0_0 : S4x8192.Slices ![0, 0] S4x1
  slices_S4x8192_S4x8191_0_0 : S4x8192.Slices ![0, 0] S4x8191
  concatenates_S4x1_S4x8191_S4x8192_d1 : Shape.Concatenates [S4x1, S4x8191] S4x8192 1
  bcast_S_S4x8192 : S_.BroadcastsInDim S4x8192 (![] : Fin 0 → Fin S4x8192.rank)

variable [Facts]

def fn {F : FTy → Type} [FloatOps F] (main_arg0 : FVec F S4x8192x768 .f32) (main_arg1 : IVec S4x8192 32) (main_arg2 : FVec F S768x1024 .f32) (main_arg3 : FVec F S1024 .f32) : IVec S4x8192 1 :=
  let main_v0 : IVec S4x1 32 := (extractStridedSlice S4x1 ![0, 0] · slices_S4x8192_S4x1_0_0) main_arg1
  let main_v1 : IVec S4x8191 32 := (extractStridedSlice S4x8191 ![0, 0] · slices_S4x8192_S4x8191_0_0) main_arg1
  let main_v2 : IVec S4x8192 32 := (fun a b => concatenate S4x8192 1 [⟨S4x1, a⟩, ⟨S4x8191, b⟩] concatenates_S4x1_S4x8191_S4x8192_d1) main_v0 main_v1
  let main_v3 : IVec S4x8192 1 := cmpi .sle main_v2 main_arg1
  let main_c : IVec S_ 32 := constantI S_ 32 0#32
  let main_v4 : IVec S4x8192 32 := broadcastInDim S4x8192 ![] bcast_S_S4x8192 main_c
  let main_v5 : IVec S4x8192 1 := cmpi .sge main_arg1 main_v4
  let main_v6 : IVec S4x8192 1 := andi main_v3 main_v5
  let main_c_0 : IVec S_ 32 := constantI S_ 32 2048#32
  let main_v7 : IVec S4x8192 32 := broadcastInDim S4x8192 ![] bcast_S_S4x8192 main_c_0
  let main_v8 : IVec S4x8192 1 := cmpi .slt main_arg1 main_v7
  let main_v9 : IVec S4x8192 1 := andi main_v6 main_v8
  main_v9
-- ==== Kernel.lean ====
abbrev S4x8192x768 : Shape := ⟨3, ![4, 8192, 768]⟩
abbrev S4x8192 : Shape := ⟨2, ![4, 8192]⟩
abbrev S768x1024 : Shape := ⟨2, ![768, 1024]⟩
abbrev S1024 : Shape := ⟨1, ![1024]⟩
abbrev S1x1024x768 : Shape := ⟨3, ![1, 1024, 768]⟩
abbrev S25165824 : Shape := ⟨1, ![25165824]⟩
abbrev S32768 : Shape := ⟨1, ![32768]⟩
abbrev S6291456 : Shape := ⟨1, ![6291456]⟩
abbrev S8192 : Shape := ⟨1, ![8192]⟩
abbrev S99072 : Shape := ⟨1, ![99072]⟩
abbrev S144 : Shape := ⟨1, ![144]⟩
abbrev S12288 : Shape := ⟨1, ![12288]⟩
abbrev S16 : Shape := ⟨1, ![16]⟩
abbrev S_ : Shape := ⟨0, ![]⟩
abbrev S1 : Shape := ⟨1, ![1]⟩
abbrev S98304 : Shape := ⟨1, ![98304]⟩
abbrev S128 : Shape := ⟨1, ![128]⟩
abbrev S4x2048x768 : Shape := ⟨3, ![4, 2048, 768]⟩
abbrev S4x1x2048 : Shape := ⟨3, ![4, 1, 2048]⟩
abbrev S1x1024 : Shape := ⟨2, ![1, 1024]⟩
abbrev S4x2048x1024 : Shape := ⟨3, ![4, 2048, 1024]⟩
abbrev S1x512x768 : Shape := ⟨3, ![1, 512, 768]⟩
abbrev S1x1x512 : Shape := ⟨3, ![1, 1, 512]⟩
abbrev S1x512x1024 : Shape := ⟨3, ![1, 512, 1024]⟩
abbrev S512 : Shape := ⟨1, ![512]⟩
abbrev S512x1 : Shape := ⟨2, ![512, 1]⟩
abbrev S512x768 : Shape := ⟨2, ![512, 768]⟩
abbrev S512x1024 : Shape := ⟨2, ![512, 1024]⟩

abbrev nBuf : Table → Nat
  | .hbm => 13
  | .local .tc .vmem => 12
  | .local .scVector .vmem => 7
  | _ => 0

abbrev bufTy : (tb : Table) → Fin (nBuf tb) → BufTy
  | .hbm, ⟨0, _⟩ => ⟨S4x8192x768, .f32⟩
  | .hbm, ⟨1, _⟩ => ⟨S4x8192, .i32⟩
  | .hbm, ⟨2, _⟩ => ⟨S768x1024, .f32⟩
  | .hbm, ⟨3, _⟩ => ⟨S1024, .f32⟩
  | .hbm, ⟨4, _⟩ => ⟨S4x8192x768, .bf16⟩
  | .hbm, ⟨5, _⟩ => ⟨S25165824, .f32⟩
  | .hbm, ⟨6, _⟩ => ⟨S32768, .i32⟩
  | .hbm, ⟨7, _⟩ => ⟨S6291456, .f32⟩
  | .hbm, ⟨8, _⟩ => ⟨S8192, .f32⟩
  | .hbm, ⟨9, _⟩ => ⟨S4x2048x768, .f32⟩
  | .hbm, ⟨10, _⟩ => ⟨S4x1x2048, .f32⟩
  | .hbm, ⟨11, _⟩ => ⟨S1x1024, .f32⟩
  | .hbm, ⟨12, _⟩ => ⟨S4x2048x1024, .f32⟩
  | .local .tc .vmem, ⟨0, _⟩ => ⟨S1x1024x768, .f32⟩
  | .local .tc .vmem, ⟨1, _⟩ => ⟨S1x1024x768, .f32⟩
  | .local .tc .vmem, ⟨2, _⟩ => ⟨S1x1024x768, .bf16⟩
  | .local .tc .vmem, ⟨3, _⟩ => ⟨S1x1024x768, .bf16⟩
  | .local .tc .vmem, ⟨4, _⟩ => ⟨S1x512x768, .f32⟩
  | .local .tc .vmem, ⟨5, _⟩ => ⟨S1x512x768, .f32⟩
  | .local .tc .vmem, ⟨6, _⟩ => ⟨S1x1x512, .f32⟩
  | .local .tc .vmem, ⟨7, _⟩ => ⟨S1x1x512, .f32⟩
  | .local .tc .vmem, ⟨8, _⟩ => ⟨S768x1024, .f32⟩
  | .local .tc .vmem, ⟨9, _⟩ => ⟨S1x1024, .f32⟩
  | .local .tc .vmem, ⟨10, _⟩ => ⟨S1x512x1024, .f32⟩
  | .local .tc .vmem, ⟨11, _⟩ => ⟨S1x512x1024, .f32⟩
  | .local .scVector .vmem, ⟨0, _⟩ => ⟨S99072, .f32⟩
  | .local .scVector .vmem, ⟨1, _⟩ => ⟨S144, .f32⟩
  | .local .scVector .vmem, ⟨2, _⟩ => ⟨S12288, .f32⟩
  | .local .scVector .vmem, ⟨3, _⟩ => ⟨S12288, .f32⟩
  | .local .scVector .vmem, ⟨4, _⟩ => ⟨S1024, .i32⟩
  | .local .scVector .vmem, ⟨5, _⟩ => ⟨S16, .i32⟩
  | .local .scVector .vmem, ⟨6, _⟩ => ⟨S16, .i32⟩
  | _, _ => ⟨S4x8192x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v1_scv : Ref sig .scVector := ⟨.hbm, 5, rfl⟩
abbrev main_v2_scv : Ref sig .scVector := ⟨.hbm, 6, rfl⟩
abbrev main_v3_0_scv : Ref sig .scVector := ⟨.hbm, 7, rfl⟩
abbrev main_v3_1_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg4_1 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_mult1 (i : grid1.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  v30
@[reducible] def k1_t1_loop : Scf.Loop 32 :=
  let c0_i32_11 : BitVec 32 := 0#32
  let c8_i32_12 : BitVec 32 := 8#32
  let v33 : BitVec 32 := Scalar.addi c0_i32_11 c8_i32_12
  let c1_i32_13 : BitVec 32 := 1#32
  ⟨c0_i32_11, v33, c1_i32_13⟩
def k1_off1 (i : grid1.Coords) (k1_t1 : Fin k1_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_11 : BitVec 32 := 0#32
  let c1_i32_13 : BitVec 32 := 1#32
  let arg17 : BitVec 32 := Scf.iv c0_i32_11 c1_i32_13 k1_t1
  let c1024_i32 : BitVec 32 := 1024#32
  let v47 : BitVec 32 := Scalar.muli arg17 c1024_i32
  let v48 : BitVec 32 := Scalar.addi v31 v47
  ![v48.toNat]
@[reducible] def k1_t2_loop : Scf.Loop 32 :=
  let c0_i32_21 : BitVec 32 := 0#32
  let c64_i32 : BitVec 32 := 64#32
  let v49 : BitVec 32 := Scalar.addi c0_i32_21 c64_i32
  let c1_i32_22 : BitVec 32 := 1#32
  ⟨c0_i32_21, v49, c1_i32_22⟩
def k1_off2 (k1_t2 : Fin k1_t2_loop.trips) : Fin 1 → Nat :=
  let c0_i32_21 : BitVec 32 := 0#32
  let c1_i32_22 : BitVec 32 := 1#32
  let arg21 : BitVec 32 := Scf.iv c0_i32_21 c1_i32_22 k1_t2
  let c16_i32_24 : BitVec 32 := 16#32
  let v51 : BitVec 32 := Scalar.muli arg21 c16_i32_24
  let v52 : Index := Scalar.indexCast v51
  ![v52.toNat]
@[reducible] def k1_t3_loop : Scf.Loop 32 :=
  let c0_i32_18 : BitVec 32 := 0#32
  let c2_i32 : BitVec 32 := 2#32
  let v45 : BitVec 32 := Scalar.addi c0_i32_18 c2_i32
  let c1_i32_19 : BitVec 32 := 1#32
  ⟨c0_i32_18, v45, c1_i32_19⟩
@[reducible] def k1_t4_loop : Scf.Loop 32 :=
  let c0_i32_23 : BitVec 32 := 0#32
  let c6192_i32 : BitVec 32 := 6192#32
  let v53 : BitVec 32 := Scalar.addi c0_i32_23 c6192_i32
  let c1_i32_24 : BitVec 32 := 1#32
  ⟨c0_i32_23, v53, c1_i32_24⟩
def k1_off3 (k1_t4 : Fin k1_t4_loop.trips) : Fin 1 → Nat :=
  let c0_i32_64 : BitVec 32 := 0#32
  let c0_i32_23 : BitVec 32 := 0#32
  let c1_i32_24 : BitVec 32 := 1#32
  let arg19 : BitVec 32 := Scf.iv c0_i32_23 c1_i32_24 k1_t4
  let c16_i32_63 : BitVec 32 := 16#32
  let v126 : BitVec 32 := Scalar.muli arg19 c16_i32_63
  let v127 : BitVec 32 := Scalar.addi c0_i32_64 v126
  let v128 : Index := Scalar.indexCast v127
  ![v128.toNat]
@[reducible] def k1_t5_loop : Scf.Loop 32 :=
  let c0_i32_26 : BitVec 32 := 0#32
  let c9_i32 : BitVec 32 := 9#32
  let v54 : BitVec 32 := Scalar.addi c0_i32_26 c9_i32
  let c1_i32_27 : BitVec 32 := 1#32
  ⟨c0_i32_26, v54, c1_i32_27⟩
def k1_off4 (k1_t5 : Fin k1_t5_loop.trips) : Fin 1 → Nat :=
  let c0_i32_64 : BitVec 32 := 0#32
  let c0_i32_26 : BitVec 32 := 0#32
  let c1_i32_27 : BitVec 32 := 1#32
  let arg19 : BitVec 32 := Scf.iv c0_i32_26 c1_i32_27 k1_t5
  let c16_i32_63 : BitVec 32 := 16#32
  let v126 : BitVec 32 := Scalar.muli arg19 c16_i32_63
  let v127 : BitVec 32 := Scalar.addi c0_i32_64 v126
  let v128 : Index := Scalar.indexCast v127
  ![v128.toNat]
def k1_mult2 (v37 : BitVec 32) (v40 : BitVec 32) (k1_t3 : Fin k1_t3_loop.trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_63 : BitVec 32 := 0#32
  let v126 : BitVec 32 := Scalar.addi v72 c0_i32_63
  let c8176_i32 : BitVec 32 := 8176#32
  let v127 : BitVec 32 := Scalar.minsi v126 c8176_i32
  v127
def k1_cond1 (v37 : BitVec 32) (v40 : BitVec 32) (v43 : BitVec 32) (k1_t3 : Fin k1_t3_loop.trips) : BitVec 1 :=
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c0_i32_46 : BitVec 32 := 0#32
  let v93 : BitVec 1 := Scalar.cmpi .sgt v92 c0_i32_46
  let v94 : BitVec 32 := Scalar.extui v93
  let c0_i32_47 : BitVec 32 := 0#32
  let v95 : BitVec 1 := Scalar.cmpi .ne v94 c0_i32_47
  v95

def k1_off5 (i : grid1.Coords) (v37 : BitVec 32) (v40 : BitVec 32) (k1_t3 : Fin k1_t3_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_63 : BitVec 32 := 0#32
  let v126 : BitVec 32 := Scalar.addi v72 c0_i32_63
  let c8176_i32 : BitVec 32 := 8176#32
  let v127 : BitVec 32 := Scalar.minsi v126 c8176_i32
  let v128 : BitVec 32 := v127
  let v129 : BitVec 32 := Scalar.addi v31 v128
  ![v129.toNat]
def k1_off6 (i : grid1.Coords) (v37 : BitVec 32) (v40 : BitVec 32) (k1_t3 : Fin k1_t3_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_63 : BitVec 32 := 0#32
  let v126 : BitVec 32 := Scalar.addi v72 c0_i32_63
  let c8176_i32 : BitVec 32 := 8176#32
  let v127 : BitVec 32 := Scalar.minsi v126 c8176_i32
  let v128 : BitVec 32 := v127
  let v132 : BitVec 32 := Scalar.addi v31 v128
  let c768_i32_64 : BitVec 32 := 768#32
  let v133 : BitVec 32 := Scalar.muli v132 c768_i32_64
  ![v133.toNat]
@[reducible] def k1_t6_loop (v37 : BitVec 32) (v40 : BitVec 32) (v43 : BitVec 32) (k1_t3 : Fin k1_t3_loop.trips) : Scf.Loop 32 :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_59 : BitVec 32 := 1#32
  ⟨c0_i32_56, v118, c1_i32_59⟩
def k1_mult3 (v37 : BitVec 32) (v40 : BitVec 32) (v43 : BitVec 32) (k1_t3 : Fin k1_t3_loop.trips) (k1_t6 : Fin (k1_t6_loop v37 v40 v43 k1_t3).trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_68 : BitVec 32 := 16#32
  let v134 : BitVec 32 := Scalar.muli v126 c16_i32_68
  let v135 : BitVec 32 := Scalar.addi v72 v134
  let c8176_i32 : BitVec 32 := 8176#32
  let v136 : BitVec 32 := Scalar.minsi v135 c8176_i32
  v136
def k1_cond2 (v37 : BitVec 32) (v40 : BitVec 32) (v43 : BitVec 32) (k1_t3 : Fin k1_t3_loop.trips) (k1_t6 : Fin (k1_t6_loop v37 v40 v43 k1_t3).trips) : BitVec 1 :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let v127 : BitVec 1 := Scalar.cmpi .slt v126 v92
  let v128 : BitVec 32 := Scalar.extui v127
  let c0_i32_64 : BitVec 32 := 0#32
  let v129 : BitVec 1 := Scalar.cmpi .ne v128 c0_i32_64
  v129

def k1_off7 (i : grid1.Coords) (v37 : BitVec 32) (v40 : BitVec 32) (v43 : BitVec 32) (k1_t3 : Fin k1_t3_loop.trips) (k1_t6 : Fin (k1_t6_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_68 : BitVec 32 := 16#32
  let v134 : BitVec 32 := Scalar.muli v126 c16_i32_68
  let v135 : BitVec 32 := Scalar.addi v72 v134
  let c8176_i32 : BitVec 32 := 8176#32
  let v136 : BitVec 32 := Scalar.minsi v135 c8176_i32
  let v137 : BitVec 32 := v136
  let v138 : BitVec 32 := Scalar.addi v31 v137
  ![v138.toNat]
def k1_off8 (i : grid1.Coords) (v37 : BitVec 32) (v40 : BitVec 32) (v43 : BitVec 32) (k1_t3 : Fin k1_t3_loop.trips) (k1_t6 : Fin (k1_t6_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_68 : BitVec 32 := 16#32
  let v134 : BitVec 32 := Scalar.muli v126 c16_i32_68
  let v135 : BitVec 32 := Scalar.addi v72 v134
  let c8176_i32 : BitVec 32 := 8176#32
  let v136 : BitVec 32 := Scalar.minsi v135 c8176_i32
  let v137 : BitVec 32 := v136
  let v141 : BitVec 32 := Scalar.addi v31 v137
  let c768_i32_69 : BitVec 32 := 768#32
  let v142 : BitVec 32 := Scalar.muli v141 c768_i32_69
  ![v142.toNat]
def k1_mult4 (v37 : BitVec 32) (v40 : BitVec 32) (v43 : BitVec 32) (k1_t3 : Fin k1_t3_loop.trips) (k1_t6 : Fin (k1_t6_loop v37 v40 v43 k1_t3).trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_293 : BitVec 32 := 1#32
  let v447 : BitVec 32 := Scalar.addi v126 c1_i32_293
  let c16_i32_294 : BitVec 32 := 16#32
  let v448 : BitVec 32 := Scalar.muli v447 c16_i32_294
  let v449 : BitVec 32 := Scalar.addi v72 v448
  let c8176_i32_295 : BitVec 32 := 8176#32
  let v450 : BitVec 32 := Scalar.minsi v449 c8176_i32_295
  v450
def k1_cond3 (v37 : BitVec 32) (v40 : BitVec 32) (v43 : BitVec 32) (k1_t3 : Fin k1_t3_loop.trips) (k1_t6 : Fin (k1_t6_loop v37 v40 v43 k1_t3).trips) : BitVec 1 :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_70 : BitVec 32 := 1#32
  let v145 : BitVec 32 := Scalar.addi v126 c1_i32_70
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let v146 : BitVec 1 := Scalar.cmpi .slt v145 v92
  let v147 : BitVec 32 := Scalar.extui v146
  let c0_i32_71 : BitVec 32 := 0#32
  let v148 : BitVec 1 := Scalar.cmpi .ne v147 c0_i32_71
  v148

def k1_off9 (i : grid1.Coords) (v37 : BitVec 32) (v40 : BitVec 32) (v43 : BitVec 32) (k1_t3 : Fin k1_t3_loop.trips) (k1_t6 : Fin (k1_t6_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_293 : BitVec 32 := 1#32
  let v447 : BitVec 32 := Scalar.addi v126 c1_i32_293
  let c16_i32_294 : BitVec 32 := 16#32
  let v448 : BitVec 32 := Scalar.muli v447 c16_i32_294
  let v449 : BitVec 32 := Scalar.addi v72 v448
  let c8176_i32_295 : BitVec 32 := 8176#32
  let v450 : BitVec 32 := Scalar.minsi v449 c8176_i32_295
  let v451 : BitVec 32 := v450
  let v452 : BitVec 32 := Scalar.addi v31 v451
  ![v452.toNat]
def k1_off10 (i : grid1.Coords) (v37 : BitVec 32) (v40 : BitVec 32) (v43 : BitVec 32) (k1_t3 : Fin k1_t3_loop.trips) (k1_t6 : Fin (k1_t6_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_293 : BitVec 32 := 1#32
  let v447 : BitVec 32 := Scalar.addi v126 c1_i32_293
  let c16_i32_294 : BitVec 32 := 16#32
  let v448 : BitVec 32 := Scalar.muli v447 c16_i32_294
  let v449 : BitVec 32 := Scalar.addi v72 v448
  let c8176_i32_295 : BitVec 32 := 8176#32
  let v450 : BitVec 32 := Scalar.minsi v449 c8176_i32_295
  let v451 : BitVec 32 := v450
  let v455 : BitVec 32 := Scalar.addi v31 v451
  let c768_i32_296 : BitVec 32 := 768#32
  let v456 : BitVec 32 := Scalar.muli v455 c768_i32_296
  ![v456.toNat]
def k1_mult5 (v37 : BitVec 32) (v40 : BitVec 32) (v43 : BitVec 32) (k1_t3 : Fin k1_t3_loop.trips) (k1_t6 : Fin (k1_t6_loop v37 v40 v43 k1_t3).trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  v151

def k1_chk2 (v37 : BitVec 32) (v40 : BitVec 32) (v43 : BitVec 32) (k1_t3 : Fin k1_t3_loop.trips) (k1_t6 : Fin (k1_t6_loop v37 v40 v43 k1_t3).trips) (v174 : IVec S16 32) : Prop :=
  (∀ (k1_h2 : k1_cond2 v37 v40 v43 k1_t3 k1_t6 = 1#1), ∀ a x, ((![v174] : Fin 1 → IVec S16 32) a x).toNat < S144.size a)
theorem k1_idx1_inb : ∀ (v37 : BitVec 32) (v40 : BitVec 32) (v43 : BitVec 32) (k1_t3 : Fin k1_t3_loop.trips) (k1_t6 : Fin (k1_t6_loop v37 v40 v43 k1_t3).trips) (v174 : IVec S16 32) (k1_hw2 : k1_chk2 v37 v40 v43 k1_t3 k1_t6 v174), ∀ (k1_h2 : k1_cond2 v37 v40 v43 k1_t3 k1_t6 = 1#1), ∀ a x, ((![v174] : Fin 1 → IVec S16 32) a x).toNat < S144.size a := fun v37 v40 v43 k1_t3 k1_t6 v174 k1_hw2 k1_h2 => k1_hw2 k1_h2
@[reducible] def k1_t7_loop : Scf.Loop 32 :=
  let c0_i32_91 : BitVec 32 := 0#32
  let c48_i32 : BitVec 32 := 48#32
  let v191 : BitVec 32 := Scalar.addi c0_i32_91 c48_i32
  let c1_i32_92 : BitVec 32 := 1#32
  ⟨c0_i32_91, v191, c1_i32_92⟩
def k1_off11 (i : grid1.Coords) (v37 : BitVec 32) (v40 : BitVec 32) (v43 : BitVec 32) (k1_t3 : Fin k1_t3_loop.trips) (k1_t6 : Fin (k1_t6_loop v37 v40 v43 k1_t3).trips) (v179 : BitVec 32) (k1_t7 : Fin k1_t7_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_81 : BitVec 32 := 16#32
  let v175 : BitVec 32 := Scalar.muli v126 c16_i32_81
  let c0_i32_82 : BitVec 32 := 0#32
  let v176 : BitVec 32 := Scalar.addi v175 c0_i32_82
  let c0_i32_83 : BitVec 32 := 0#32
  let v177 : BitVec 32 := Scalar.addi v176 c0_i32_83
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v181 : BitVec 1 := Scalar.cmpi .slt v177 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v180 : BitVec 32 := Scalar.subi v179 v48
  let c0_i32_84 : BitVec 32 := 0#32
  let v182 : BitVec 1 := Scalar.cmpi .sge v180 c0_i32_84
  let v183 : BitVec 1 := Scalar.andi v181 v182
  let c128_i32_85 : BitVec 32 := 128#32
  let v184 : BitVec 1 := Scalar.cmpi .slt v180 c128_i32_85
  let v185 : BitVec 1 := Scalar.andi v183 v184
  let c128_i32_86 : BitVec 32 := 128#32
  let v186 : BitVec 32 := Scalar.select v185 v180 c128_i32_86
  let c768_i32_87 : BitVec 32 := 768#32
  let v187 : BitVec 32 := Scalar.muli v186 c768_i32_87
  let c0_i32_294 : BitVec 32 := 0#32
  let c0_i32_91 : BitVec 32 := 0#32
  let c1_i32_92 : BitVec 32 := 1#32
  let arg21 : BitVec 32 := Scf.iv c0_i32_91 c1_i32_92 k1_t7
  let c16_i32_293 : BitVec 32 := 16#32
  let v447 : BitVec 32 := Scalar.muli arg21 c16_i32_293
  let v448 : BitVec 32 := Scalar.addi c0_i32_294 v447
  let v449 : BitVec 32 := Scalar.addi v187 v448
  let v450 : Index := Scalar.indexCast v449
  ![v450.toNat]

def k1_chk3 (i : grid1.Coords) (v37 : BitVec 32) (v40 : BitVec 32) (v43 : BitVec 32) (k1_t3 : Fin k1_t3_loop.trips) (k1_t6 : Fin (k1_t6_loop v37 v40 v43 k1_t3).trips) (v179 : BitVec 32) : Prop :=
  (∀ k1_t7 : Fin k1_t7_loop.trips, ∀ (k1_h2 : k1_cond2 v37 v40 v43 k1_t3 k1_t6 = 1#1), ∀ a, (k1_off11 i v37 v40 v43 k1_t3 k1_t6 v179 k1_t7) a + S16.size a ≤ S99072.size a)
theorem k1_off11_inb : ∀ (i : grid1.Coords) (v37 : BitVec 32) (v40 : BitVec 32) (v43 : BitVec 32) (k1_t3 : Fin k1_t3_loop.trips) (k1_t6 : Fin (k1_t6_loop v37 v40 v43 k1_t3).trips) (v179 : BitVec 32) (k1_hw3 : k1_chk3 i v37 v40 v43 k1_t3 k1_t6 v179) (k1_t7 : Fin k1_t7_loop.trips), ∀ (k1_h2 : k1_cond2 v37 v40 v43 k1_t3 k1_t6 = 1#1), ∀ a, (k1_off11 i v37 v40 v43 k1_t3 k1_t6 v179 k1_t7) a + S16.size a ≤ S99072.size a := fun i v37 v40 v43 k1_t3 k1_t6 v179 k1_hw3 k1_t7 k1_h2 => k1_hw3 k1_t7 k1_h2

def k1_off12 (v37 : BitVec 32) (v40 : BitVec 32) (v43 : BitVec 32) (k1_t3 : Fin k1_t3_loop.trips) (k1_t6 : Fin (k1_t6_loop v37 v40 v43 k1_t3).trips) (k1_t7 : Fin k1_t7_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_88 : BitVec 32 := 0#32
  let v188 : BitVec 32 := Scalar.addi v155 c0_i32_88
  let c0_i32_89 : BitVec 32 := 0#32
  let v189 : BitVec 32 := Scalar.addi v188 c0_i32_89
  let c768_i32_90 : BitVec 32 := 768#32
  let v190 : BitVec 32 := Scalar.muli v189 c768_i32_90
  let c0_i32_294 : BitVec 32 := 0#32
  let c0_i32_91 : BitVec 32 := 0#32
  let c1_i32_92 : BitVec 32 := 1#32
  let arg21 : BitVec 32 := Scf.iv c0_i32_91 c1_i32_92 k1_t7
  let c16_i32_293 : BitVec 32 := 16#32
  let v447 : BitVec 32 := Scalar.muli arg21 c16_i32_293
  let v448 : BitVec 32 := Scalar.addi c0_i32_294 v447
  let v452 : BitVec 32 := Scalar.addi v190 v448
  let v453 : Index := Scalar.indexCast v452
  ![v453.toNat]
@[reducible] def k1_t8_loop : Scf.Loop 32 :=
  let c0_i32_104 : BitVec 32 := 0#32
  let c48_i32_105 : BitVec 32 := 48#32
  let v208 : BitVec 32 := Scalar.addi c0_i32_104 c48_i32_105
  let c1_i32_106 : BitVec 32 := 1#32
  ⟨c0_i32_104, v208, c1_i32_106⟩
def k1_off13 (i : grid1.Coords) (v37 : BitVec 32) (v40 : BitVec 32) (v43 : BitVec 32) (k1_t3 : Fin k1_t3_loop.trips) (k1_t6 : Fin (k1_t6_loop v37 v40 v43 k1_t3).trips) (v196 : BitVec 32) (k1_t8 : Fin k1_t8_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_94 : BitVec 32 := 16#32
  let v192 : BitVec 32 := Scalar.muli v126 c16_i32_94
  let c0_i32_95 : BitVec 32 := 0#32
  let v193 : BitVec 32 := Scalar.addi v192 c0_i32_95
  let c1_i32_96 : BitVec 32 := 1#32
  let v194 : BitVec 32 := Scalar.addi v193 c1_i32_96
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v198 : BitVec 1 := Scalar.cmpi .slt v194 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v197 : BitVec 32 := Scalar.subi v196 v48
  let c0_i32_97 : BitVec 32 := 0#32
  let v199 : BitVec 1 := Scalar.cmpi .sge v197 c0_i32_97
  let v200 : BitVec 1 := Scalar.andi v198 v199
  let c128_i32_98 : BitVec 32 := 128#32
  let v201 : BitVec 1 := Scalar.cmpi .slt v197 c128_i32_98
  let v202 : BitVec 1 := Scalar.andi v200 v201
  let c128_i32_99 : BitVec 32 := 128#32
  let v203 : BitVec 32 := Scalar.select v202 v197 c128_i32_99
  let c768_i32_100 : BitVec 32 := 768#32
  let v204 : BitVec 32 := Scalar.muli v203 c768_i32_100
  let c0_i32_294 : BitVec 32 := 0#32
  let c0_i32_104 : BitVec 32 := 0#32
  let c1_i32_106 : BitVec 32 := 1#32
  let arg21 : BitVec 32 := Scf.iv c0_i32_104 c1_i32_106 k1_t8
  let c16_i32_293 : BitVec 32 := 16#32
  let v447 : BitVec 32 := Scalar.muli arg21 c16_i32_293
  let v448 : BitVec 32 := Scalar.addi c0_i32_294 v447
  let v449 : BitVec 32 := Scalar.addi v204 v448
  let v450 : Index := Scalar.indexCast v449
  ![v450.toNat]

def k1_chk4 (i : grid1.Coords) (v37 : BitVec 32) (v40 : BitVec 32) (v43 : BitVec 32) (k1_t3 : Fin k1_t3_loop.trips) (k1_t6 : Fin (k1_t6_loop v37 v40 v43 k1_t3).trips) (v196 : BitVec 32) : Prop :=
  (∀ k1_t8 : Fin k1_t8_loop.trips, ∀ (k1_h2 : k1_cond2 v37 v40 v43 k1_t3 k1_t6 = 1#1), ∀ a, (k1_off13 i v37 v40 v43 k1_t3 k1_t6 v196 k1_t8) a + S16.size a ≤ S99072.size a)
theorem k1_off13_inb : ∀ (i : grid1.Coords) (v37 : BitVec 32) (v40 : BitVec 32) (v43 : BitVec 32) (k1_t3 : Fin k1_t3_loop.trips) (k1_t6 : Fin (k1_t6_loop v37 v40 v43 k1_t3).trips) (v196 : BitVec 32) (k1_hw4 : k1_chk4 i v37 v40 v43 k1_t3 k1_t6 v196) (k1_t8 : Fin k1_t8_loop.trips), ∀ (k1_h2 : k1_cond2 v37 v40 v43 k1_t3 k1_t6 = 1#1), ∀ a, (k1_off13 i v37 v40 v43 k1_t3 k1_t6 v196 k1_t8) a + S16.size a ≤ S99072.size a := fun i v37 v40 v43 k1_t3 k1_t6 v196 k1_hw4 k1_t8 k1_h2 => k1_hw4 k1_t8 k1_h2

def k1_off14 (v37 : BitVec 32) (v40 : BitVec 32) (v43 : BitVec 32) (k1_t3 : Fin k1_t3_loop.trips) (k1_t6 : Fin (k1_t6_loop v37 v40 v43 k1_t3).trips) (k1_t8 : Fin k1_t8_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_101 : BitVec 32 := 0#32
  let v205 : BitVec 32 := Scalar.addi v155 c0_i32_101
  let c1_i32_102 : BitVec 32 := 1#32
  let v206 : BitVec 32 := Scalar.addi v205 c1_i32_102
  let c768_i32_103 : BitVec 32 := 768#32
  let v207 : BitVec 32 := Scalar.muli v206 c768_i32_103
  let c0_i32_294 : BitVec 32 := 0#32
  let c0_i32_104 : BitVec 32 := 0#32
  let c1_i32_106 : BitVec 32 := 1#32
  let arg21 : BitVec 32 := Scf.iv c0_i32_104 c1_i32_106 k1_t8
  let c16_i32_293 : BitVec 32 := 16#32
  let v447 : BitVec 32 := Scalar.muli arg21 c16_i32_293
  let v448 : BitVec 32 := Scalar.addi c0_i32_294 v447
  let v452 : BitVec 32 := Scalar.addi v207 v448
  let v453 : Index := Scalar.indexCast v452
  ![v453.toNat]
@[reducible] def k1_t9_loop : Scf.Loop 32 :=
  let c0_i32_118 : BitVec 32 := 0#32
  let c48_i32_119 : BitVec 32 := 48#32
  let v225 : BitVec 32 := Scalar.addi c0_i32_118 c48_i32_119
  let c1_i32_120 : BitVec 32 := 1#32
  ⟨c0_i32_118, v225, c1_i32_120⟩
def k1_off15 (i : grid1.Coords) (v37 : BitVec 32) (v40 : BitVec 32) (v43 : BitVec 32) (k1_t3 : Fin k1_t3_loop.trips) (k1_t6 : Fin (k1_t6_loop v37 v40 v43 k1_t3).trips) (v213 : BitVec 32) (k1_t9 : Fin k1_t9_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_108 : BitVec 32 := 16#32
  let v209 : BitVec 32 := Scalar.muli v126 c16_i32_108
  let c0_i32_109 : BitVec 32 := 0#32
  let v210 : BitVec 32 := Scalar.addi v209 c0_i32_109
  let c2_i32_110 : BitVec 32 := 2#32
  let v211 : BitVec 32 := Scalar.addi v210 c2_i32_110
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v215 : BitVec 1 := Scalar.cmpi .slt v211 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v214 : BitVec 32 := Scalar.subi v213 v48
  let c0_i32_111 : BitVec 32 := 0#32
  let v216 : BitVec 1 := Scalar.cmpi .sge v214 c0_i32_111
  let v217 : BitVec 1 := Scalar.andi v215 v216
  let c128_i32_112 : BitVec 32 := 128#32
  let v218 : BitVec 1 := Scalar.cmpi .slt v214 c128_i32_112
  let v219 : BitVec 1 := Scalar.andi v217 v218
  let c128_i32_113 : BitVec 32 := 128#32
  let v220 : BitVec 32 := Scalar.select v219 v214 c128_i32_113
  let c768_i32_114 : BitVec 32 := 768#32
  let v221 : BitVec 32 := Scalar.muli v220 c768_i32_114
  let c0_i32_294 : BitVec 32 := 0#32
  let c0_i32_118 : BitVec 32 := 0#32
  let c1_i32_120 : BitVec 32 := 1#32
  let arg21 : BitVec 32 := Scf.iv c0_i32_118 c1_i32_120 k1_t9
  let c16_i32_293 : BitVec 32 := 16#32
  let v447 : BitVec 32 := Scalar.muli arg21 c16_i32_293
  let v448 : BitVec 32 := Scalar.addi c0_i32_294 v447
  let v449 : BitVec 32 := Scalar.addi v221 v448
  let v450 : Index := Scalar.indexCast v449
  ![v450.toNat]

def k1_chk5 (i : grid1.Coords) (v37 : BitVec 32) (v40 : BitVec 32) (v43 : BitVec 32) (k1_t3 : Fin k1_t3_loop.trips) (k1_t6 : Fin (k1_t6_loop v37 v40 v43 k1_t3).trips) (v213 : BitVec 32) : Prop :=
  (∀ k1_t9 : Fin k1_t9_loop.trips, ∀ (k1_h2 : k1_cond2 v37 v40 v43 k1_t3 k1_t6 = 1#1), ∀ a, (k1_off15 i v37 v40 v43 k1_t3 k1_t6 v213 k1_t9) a + S16.size a ≤ S99072.size a)
theorem k1_off15_inb : ∀ (i : grid1.Coords) (v37 : BitVec 32) (v40 : BitVec 32) (v43 : BitVec 32) (k1_t3 : Fin k1_t3_loop.trips) (k1_t6 : Fin (k1_t6_loop v37 v40 v43 k1_t3).trips) (v213 : BitVec 32) (k1_hw5 : k1_chk5 i v37 v40 v43 k1_t3 k1_t6 v213) (k1_t9 : Fin k1_t9_loop.trips), ∀ (k1_h2 : k1_cond2 v37 v40 v43 k1_t3 k1_t6 = 1#1), ∀ a, (k1_off15 i v37 v40 v43 k1_t3 k1_t6 v213 k1_t9) a + S16.size a ≤ S99072.size a := fun i v37 v40 v43 k1_t3 k1_t6 v213 k1_hw5 k1_t9 k1_h2 => k1_hw5 k1_t9 k1_h2

def k1_off16 (v37 : BitVec 32) (v40 : BitVec 32) (v43 : BitVec 32) (k1_t3 : Fin k1_t3_loop.trips) (k1_t6 : Fin (k1_t6_loop v37 v40 v43 k1_t3).trips) (k1_t9 : Fin k1_t9_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_115 : BitVec 32 := 0#32
  let v222 : BitVec 32 := Scalar.addi v155 c0_i32_115
  let c2_i32_116 : BitVec 32 := 2#32
  let v223 : BitVec 32 := Scalar.addi v222 c2_i32_116
  let c768_i32_117 : BitVec 32 := 768#32
  let v224 : BitVec 32 := Scalar.muli v223 c768_i32_117
  let c0_i32_294 : BitVec 32 := 0#32
  let c0_i32_118 : BitVec 32 := 0#32
  let c1_i32_120 : BitVec 32 := 1#32
  let arg21 : BitVec 32 := Scf.iv c0_i32_118 c1_i32_120 k1_t9
  let c16_i32_293 : BitVec 32 := 16#32
  let v447 : BitVec 32 := Scalar.muli arg21 c16_i32_293
  let v448 : BitVec 32 := Scalar.addi c0_i32_294 v447
  let v452 : BitVec 32 := Scalar.addi v224 v448
  let v453 : Index := Scalar.indexCast v452
  ![v453.toNat]
@[reducible] def k1_t10_loop : Scf.Loop 32 :=
  let c0_i32_131 : BitVec 32 := 0#32
  let c48_i32_132 : BitVec 32 := 48#32
  let v242 : BitVec 32 := Scalar.addi c0_i32_131 c48_i32_132
  let c1_i32_133 : BitVec 32 := 1#32
  ⟨c0_i32_131, v242, c1_i32_133⟩
def k1_off17 (i : grid1.Coords) (v37 : BitVec 32) (v40 : BitVec 32) (v43 : BitVec 32) (k1_t3 : Fin k1_t3_loop.trips) (k1_t6 : Fin (k1_t6_loop v37 v40 v43 k1_t3).trips) (v230 : BitVec 32) (k1_t10 : Fin k1_t10_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_122 : BitVec 32 := 16#32
  let v226 : BitVec 32 := Scalar.muli v126 c16_i32_122
  let c0_i32_123 : BitVec 32 := 0#32
  let v227 : BitVec 32 := Scalar.addi v226 c0_i32_123
  let c3_i32 : BitVec 32 := 3#32
  let v228 : BitVec 32 := Scalar.addi v227 c3_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v232 : BitVec 1 := Scalar.cmpi .slt v228 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v231 : BitVec 32 := Scalar.subi v230 v48
  let c0_i32_124 : BitVec 32 := 0#32
  let v233 : BitVec 1 := Scalar.cmpi .sge v231 c0_i32_124
  let v234 : BitVec 1 := Scalar.andi v232 v233
  let c128_i32_125 : BitVec 32 := 128#32
  let v235 : BitVec 1 := Scalar.cmpi .slt v231 c128_i32_125
  let v236 : BitVec 1 := Scalar.andi v234 v235
  let c128_i32_126 : BitVec 32 := 128#32
  let v237 : BitVec 32 := Scalar.select v236 v231 c128_i32_126
  let c768_i32_127 : BitVec 32 := 768#32
  let v238 : BitVec 32 := Scalar.muli v237 c768_i32_127
  let c0_i32_294 : BitVec 32 := 0#32
  let c0_i32_131 : BitVec 32 := 0#32
  let c1_i32_133 : BitVec 32 := 1#32
  let arg21 : BitVec 32 := Scf.iv c0_i32_131 c1_i32_133 k1_t10
  let c16_i32_293 : BitVec 32 := 16#32
  let v447 : BitVec 32 := Scalar.muli arg21 c16_i32_293
  let v448 : BitVec 32 := Scalar.addi c0_i32_294 v447
  let v449 : BitVec 32 := Scalar.addi v238 v448
  let v450 : Index := Scalar.indexCast v449
  ![v450.toNat]

def k1_chk6 (i : grid1.Coords) (v37 : BitVec 32) (v40 : BitVec 32) (v43 : BitVec 32) (k1_t3 : Fin k1_t3_loop.trips) (k1_t6 : Fin (k1_t6_loop v37 v40 v43 k1_t3).trips) (v230 : BitVec 32) : Prop :=
  (∀ k1_t10 : Fin k1_t10_loop.trips, ∀ (k1_h2 : k1_cond2 v37 v40 v43 k1_t3 k1_t6 = 1#1), ∀ a, (k1_off17 i v37 v40 v43 k1_t3 k1_t6 v230 k1_t10) a + S16.size a ≤ S99072.size a)
theorem k1_off17_inb : ∀ (i : grid1.Coords) (v37 : BitVec 32) (v40 : BitVec 32) (v43 : BitVec 32) (k1_t3 : Fin k1_t3_loop.trips) (k1_t6 : Fin (k1_t6_loop v37 v40 v43 k1_t3).trips) (v230 : BitVec 32) (k1_hw6 : k1_chk6 i v37 v40 v43 k1_t3 k1_t6 v230) (k1_t10 : Fin k1_t10_loop.trips), ∀ (k1_h2 : k1_cond2 v37 v40 v43 k1_t3 k1_t6 = 1#1), ∀ a, (k1_off17 i v37 v40 v43 k1_t3 k1_t6 v230 k1_t10) a + S16.size a ≤ S99072.size a := fun i v37 v40 v43 k1_t3 k1_t6 v230 k1_hw6 k1_t10 k1_h2 => k1_hw6 k1_t10 k1_h2

def k1_off18 (v37 : BitVec 32) (v40 : BitVec 32) (v43 : BitVec 32) (k1_t3 : Fin k1_t3_loop.trips) (k1_t6 : Fin (k1_t6_loop v37 v40 v43 k1_t3).trips) (k1_t10 : Fin k1_t10_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_128 : BitVec 32 := 0#32
  let v239 : BitVec 32 := Scalar.addi v155 c0_i32_128
  let c3_i32_129 : BitVec 32 := 3#32
  let v240 : BitVec 32 := Scalar.addi v239 c3_i32_129
  let c768_i32_130 : BitVec 32 := 768#32
  let v241 : BitVec 32 := Scalar.muli v240 c768_i32_130
  let c0_i32_294 : BitVec 32 := 0#32
  let c0_i32_131 : BitVec 32 := 0#32
  let c1_i32_133 : BitVec 32 := 1#32
  let arg21 : BitVec 32 := Scf.iv c0_i32_131 c1_i32_133 k1_t10
  let c16_i32_293 : BitVec 32 := 16#32
  let v447 : BitVec 32 := Scalar.muli arg21 c16_i32_293
  let v448 : BitVec 32 := Scalar.addi c0_i32_294 v447
  let v452 : BitVec 32 := Scalar.addi v241 v448
  let v453 : Index := Scalar.indexCast v452
  ![v453.toNat]
@[reducible] def k1_t11_loop : Scf.Loop 32 :=
  let c0_i32_144 : BitVec 32 := 0#32
  let c48_i32_145 : BitVec 32 := 48#32
  let v259 : BitVec 32 := Scalar.addi c0_i32_144 c48_i32_145
  let c1_i32_146 : BitVec 32 := 1#32
  ⟨c0_i32_144, v259, c1_i32_146⟩
def k1_off19 (i : grid1.Coords) (v37 : BitVec 32) (v40 : BitVec 32) (v43 : BitVec 32) (k1_t3 : Fin k1_t3_loop.trips) (k1_t6 : Fin (k1_t6_loop v37 v40 v43 k1_t3).trips) (v247 : BitVec 32) (k1_t11 : Fin k1_t11_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_135 : BitVec 32 := 16#32
  let v243 : BitVec 32 := Scalar.muli v126 c16_i32_135
  let c0_i32_136 : BitVec 32 := 0#32
  let v244 : BitVec 32 := Scalar.addi v243 c0_i32_136
  let c4_i32 : BitVec 32 := 4#32
  let v245 : BitVec 32 := Scalar.addi v244 c4_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v249 : BitVec 1 := Scalar.cmpi .slt v245 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v248 : BitVec 32 := Scalar.subi v247 v48
  let c0_i32_137 : BitVec 32 := 0#32
  let v250 : BitVec 1 := Scalar.cmpi .sge v248 c0_i32_137
  let v251 : BitVec 1 := Scalar.andi v249 v250
  let c128_i32_138 : BitVec 32 := 128#32
  let v252 : BitVec 1 := Scalar.cmpi .slt v248 c128_i32_138
  let v253 : BitVec 1 := Scalar.andi v251 v252
  let c128_i32_139 : BitVec 32 := 128#32
  let v254 : BitVec 32 := Scalar.select v253 v248 c128_i32_139
  let c768_i32_140 : BitVec 32 := 768#32
  let v255 : BitVec 32 := Scalar.muli v254 c768_i32_140
  let c0_i32_294 : BitVec 32 := 0#32
  let c0_i32_144 : BitVec 32 := 0#32
  let c1_i32_146 : BitVec 32 := 1#32
  let arg21 : BitVec 32 := Scf.iv c0_i32_144 c1_i32_146 k1_t11
  let c16_i32_293 : BitVec 32 := 16#32
  let v447 : BitVec 32 := Scalar.muli arg21 c16_i32_293
  let v448 : BitVec 32 := Scalar.addi c0_i32_294 v447
  let v449 : BitVec 32 := Scalar.addi v255 v448
  let v450 : Index := Scalar.indexCast v449
  ![v450.toNat]

def k1_chk7 (i : grid1.Coords) (v37 : BitVec 32) (v40 : BitVec 32) (v43 : BitVec 32) (k1_t3 : Fin k1_t3_loop.trips) (k1_t6 : Fin (k1_t6_loop v37 v40 v43 k1_t3).trips) (v247 : BitVec 32) : Prop :=
  (∀ k1_t11 : Fin k1_t11_loop.trips, ∀ (k1_h2 : k1_cond2 v37 v40 v43 k1_t3 k1_t6 = 1#1), ∀ a, (k1_off19 i v37 v40 v43 k1_t3 k1_t6 v247 k1_t11) a + S16.size a ≤ S99072.size a)
theorem k1_off19_inb : ∀ (i : grid1.Coords) (v37 : BitVec 32) (v40 : BitVec 32) (v43 : BitVec 32) (k1_t3 : Fin k1_t3_loop.trips) (k1_t6 : Fin (k1_t6_loop v37 v40 v43 k1_t3).trips) (v247 : BitVec 32) (k1_hw7 : k1_chk7 i v37 v40 v43 k1_t3 k1_t6 v247) (k1_t11 : Fin k1_t11_loop.trips), ∀ (k1_h2 : k1_cond2 v37 v40 v43 k1_t3 k1_t6 = 1#1), ∀ a, (k1_off19 i v37 v40 v43 k1_t3 k1_t6 v247 k1_t11) a + S16.size a ≤ S99072.size a := fun i v37 v40 v43 k1_t3 k1_t6 v247 k1_hw7 k1_t11 k1_h2 => k1_hw7 k1_t11 k1_h2

def k1_off20 (v37 : BitVec 32) (v40 : BitVec 32) (v43 : BitVec 32) (k1_t3 : Fin k1_t3_loop.trips) (k1_t6 : Fin (k1_t6_loop v37 v40 v43 k1_t3).trips) (k1_t11 : Fin k1_t11_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_141 : BitVec 32 := 0#32
  let v256 : BitVec 32 := Scalar.addi v155 c0_i32_141
  let c4_i32_142 : BitVec 32 := 4#32
  let v257 : BitVec 32 := Scalar.addi v256 c4_i32_142
  let c768_i32_143 : BitVec 32 := 768#32
  let v258 : BitVec 32 := Scalar.muli v257 c768_i32_143
  let c0_i32_294 : BitVec 32 := 0#32
  let c0_i32_144 : BitVec 32 := 0#32
  let c1_i32_146 : BitVec 32 := 1#32
  let arg21 : BitVec 32 := Scf.iv c0_i32_144 c1_i32_146 k1_t11
  let c16_i32_293 : BitVec 32 := 16#32
  let v447 : BitVec 32 := Scalar.muli arg21 c16_i32_293
  let v448 : BitVec 32 := Scalar.addi c0_i32_294 v447
  let v452 : BitVec 32 := Scalar.addi v258 v448
  let v453 : Index := Scalar.indexCast v452
  ![v453.toNat]
@[reducible] def k1_t12_loop : Scf.Loop 32 :=
  let c0_i32_157 : BitVec 32 := 0#32
  let c48_i32_158 : BitVec 32 := 48#32
  let v276 : BitVec 32 := Scalar.addi c0_i32_157 c48_i32_158
  let c1_i32_159 : BitVec 32 := 1#32
  ⟨c0_i32_157, v276, c1_i32_159⟩
def k1_off21 (i : grid1.Coords) (v37 : BitVec 32) (v40 : BitVec 32) (v43 : BitVec 32) (k1_t3 : Fin k1_t3_loop.trips) (k1_t6 : Fin (k1_t6_loop v37 v40 v43 k1_t3).trips) (v264 : BitVec 32) (k1_t12 : Fin k1_t12_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_148 : BitVec 32 := 16#32
  let v260 : BitVec 32 := Scalar.muli v126 c16_i32_148
  let c0_i32_149 : BitVec 32 := 0#32
  let v261 : BitVec 32 := Scalar.addi v260 c0_i32_149
  let c5_i32 : BitVec 32 := 5#32
  let v262 : BitVec 32 := Scalar.addi v261 c5_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v266 : BitVec 1 := Scalar.cmpi .slt v262 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v265 : BitVec 32 := Scalar.subi v264 v48
  let c0_i32_150 : BitVec 32 := 0#32
  let v267 : BitVec 1 := Scalar.cmpi .sge v265 c0_i32_150
  let v268 : BitVec 1 := Scalar.andi v266 v267
  let c128_i32_151 : BitVec 32 := 128#32
  let v269 : BitVec 1 := Scalar.cmpi .slt v265 c128_i32_151
  let v270 : BitVec 1 := Scalar.andi v268 v269
  let c128_i32_152 : BitVec 32 := 128#32
  let v271 : BitVec 32 := Scalar.select v270 v265 c128_i32_152
  let c768_i32_153 : BitVec 32 := 768#32
  let v272 : BitVec 32 := Scalar.muli v271 c768_i32_153
  let c0_i32_294 : BitVec 32 := 0#32
  let c0_i32_157 : BitVec 32 := 0#32
  let c1_i32_159 : BitVec 32 := 1#32
  let arg21 : BitVec 32 := Scf.iv c0_i32_157 c1_i32_159 k1_t12
  let c16_i32_293 : BitVec 32 := 16#32
  let v447 : BitVec 32 := Scalar.muli arg21 c16_i32_293
  let v448 : BitVec 32 := Scalar.addi c0_i32_294 v447
  let v449 : BitVec 32 := Scalar.addi v272 v448
  let v450 : Index := Scalar.indexCast v449
  ![v450.toNat]

def k1_chk8 (i : grid1.Coords) (v37 : BitVec 32) (v40 : BitVec 32) (v43 : BitVec 32) (k1_t3 : Fin k1_t3_loop.trips) (k1_t6 : Fin (k1_t6_loop v37 v40 v43 k1_t3).trips) (v264 : BitVec 32) : Prop :=
  (∀ k1_t12 : Fin k1_t12_loop.trips, ∀ (k1_h2 : k1_cond2 v37 v40 v43 k1_t3 k1_t6 = 1#1), ∀ a, (k1_off21 i v37 v40 v43 k1_t3 k1_t6 v264 k1_t12) a + S16.size a ≤ S99072.size a)
theorem k1_off21_inb : ∀ (i : grid1.Coords) (v37 : BitVec 32) (v40 : BitVec 32) (v43 : BitVec 32) (k1_t3 : Fin k1_t3_loop.trips) (k1_t6 : Fin (k1_t6_loop v37 v40 v43 k1_t3).trips) (v264 : BitVec 32) (k1_hw8 : k1_chk8 i v37 v40 v43 k1_t3 k1_t6 v264) (k1_t12 : Fin k1_t12_loop.trips), ∀ (k1_h2 : k1_cond2 v37 v40 v43 k1_t3 k1_t6 = 1#1), ∀ a, (k1_off21 i v37 v40 v43 k1_t3 k1_t6 v264 k1_t12) a + S16.size a ≤ S99072.size a := fun i v37 v40 v43 k1_t3 k1_t6 v264 k1_hw8 k1_t12 k1_h2 => k1_hw8 k1_t12 k1_h2

def k1_off22 (v37 : BitVec 32) (v40 : BitVec 32) (v43 : BitVec 32) (k1_t3 : Fin k1_t3_loop.trips) (k1_t6 : Fin (k1_t6_loop v37 v40 v43 k1_t3).trips) (k1_t12 : Fin k1_t12_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_154 : BitVec 32 := 0#32
  let v273 : BitVec 32 := Scalar.addi v155 c0_i32_154
  let c5_i32_155 : BitVec 32 := 5#32
  let v274 : BitVec 32 := Scalar.addi v273 c5_i32_155
  let c768_i32_156 : BitVec 32 := 768#32
  let v275 : BitVec 32 := Scalar.muli v274 c768_i32_156
  let c0_i32_294 : BitVec 32 := 0#32
  let c0_i32_157 : BitVec 32 := 0#32
  let c1_i32_159 : BitVec 32 := 1#32
  let arg21 : BitVec 32 := Scf.iv c0_i32_157 c1_i32_159 k1_t12
  let c16_i32_293 : BitVec 32 := 16#32
  let v447 : BitVec 32 := Scalar.muli arg21 c16_i32_293
  let v448 : BitVec 32 := Scalar.addi c0_i32_294 v447
  let v452 : BitVec 32 := Scalar.addi v275 v448
  let v453 : Index := Scalar.indexCast v452
  ![v453.toNat]
@[reducible] def k1_t13_loop : Scf.Loop 32 :=
  let c0_i32_170 : BitVec 32 := 0#32
  let c48_i32_171 : BitVec 32 := 48#32
  let v293 : BitVec 32 := Scalar.addi c0_i32_170 c48_i32_171
  let c1_i32_172 : BitVec 32 := 1#32
  ⟨c0_i32_170, v293, c1_i32_172⟩
def k1_off23 (i : grid1.Coords) (v37 : BitVec 32) (v40 : BitVec 32) (v43 : BitVec 32) (k1_t3 : Fin k1_t3_loop.trips) (k1_t6 : Fin (k1_t6_loop v37 v40 v43 k1_t3).trips) (v281 : BitVec 32) (k1_t13 : Fin k1_t13_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_161 : BitVec 32 := 16#32
  let v277 : BitVec 32 := Scalar.muli v126 c16_i32_161
  let c0_i32_162 : BitVec 32 := 0#32
  let v278 : BitVec 32 := Scalar.addi v277 c0_i32_162
  let c6_i32 : BitVec 32 := 6#32
  let v279 : BitVec 32 := Scalar.addi v278 c6_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v283 : BitVec 1 := Scalar.cmpi .slt v279 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v282 : BitVec 32 := Scalar.subi v281 v48
  let c0_i32_163 : BitVec 32 := 0#32
  let v284 : BitVec 1 := Scalar.cmpi .sge v282 c0_i32_163
  let v285 : BitVec 1 := Scalar.andi v283 v284
  let c128_i32_164 : BitVec 32 := 128#32
  let v286 : BitVec 1 := Scalar.cmpi .slt v282 c128_i32_164
  let v287 : BitVec 1 := Scalar.andi v285 v286
  let c128_i32_165 : BitVec 32 := 128#32
  let v288 : BitVec 32 := Scalar.select v287 v282 c128_i32_165
  let c768_i32_166 : BitVec 32 := 768#32
  let v289 : BitVec 32 := Scalar.muli v288 c768_i32_166
  let c0_i32_294 : BitVec 32 := 0#32
  let c0_i32_170 : BitVec 32 := 0#32
  let c1_i32_172 : BitVec 32 := 1#32
  let arg21 : BitVec 32 := Scf.iv c0_i32_170 c1_i32_172 k1_t13
  let c16_i32_293 : BitVec 32 := 16#32
  let v447 : BitVec 32 := Scalar.muli arg21 c16_i32_293
  let v448 : BitVec 32 := Scalar.addi c0_i32_294 v447
  let v449 : BitVec 32 := Scalar.addi v289 v448
  let v450 : Index := Scalar.indexCast v449
  ![v450.toNat]

def k1_chk9 (i : grid1.Coords) (v37 : BitVec 32) (v40 : BitVec 32) (v43 : BitVec 32) (k1_t3 : Fin k1_t3_loop.trips) (k1_t6 : Fin (k1_t6_loop v37 v40 v43 k1_t3).trips) (v281 : BitVec 32) : Prop :=
  (∀ k1_t13 : Fin k1_t13_loop.trips, ∀ (k1_h2 : k1_cond2 v37 v40 v43 k1_t3 k1_t6 = 1#1), ∀ a, (k1_off23 i v37 v40 v43 k1_t3 k1_t6 v281 k1_t13) a + S16.size a ≤ S99072.size a)
theorem k1_off23_inb : ∀ (i : grid1.Coords) (v37 : BitVec 32) (v40 : BitVec 32) (v43 : BitVec 32) (k1_t3 : Fin k1_t3_loop.trips) (k1_t6 : Fin (k1_t6_loop v37 v40 v43 k1_t3).trips) (v281 : BitVec 32) (k1_hw9 : k1_chk9 i v37 v40 v43 k1_t3 k1_t6 v281) (k1_t13 : Fin k1_t13_loop.trips), ∀ (k1_h2 : k1_cond2 v37 v40 v43 k1_t3 k1_t6 = 1#1), ∀ a, (k1_off23 i v37 v40 v43 k1_t3 k1_t6 v281 k1_t13) a + S16.size a ≤ S99072.size a := fun i v37 v40 v43 k1_t3 k1_t6 v281 k1_hw9 k1_t13 k1_h2 => k1_hw9 k1_t13 k1_h2

def k1_off24 (v37 : BitVec 32) (v40 : BitVec 32) (v43 : BitVec 32) (k1_t3 : Fin k1_t3_loop.trips) (k1_t6 : Fin (k1_t6_loop v37 v40 v43 k1_t3).trips) (k1_t13 : Fin k1_t13_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_167 : BitVec 32 := 0#32
  let v290 : BitVec 32 := Scalar.addi v155 c0_i32_167
  let c6_i32_168 : BitVec 32 := 6#32
  let v291 : BitVec 32 := Scalar.addi v290 c6_i32_168
  let c768_i32_169 : BitVec 32 := 768#32
  let v292 : BitVec 32 := Scalar.muli v291 c768_i32_169
  let c0_i32_294 : BitVec 32 := 0#32
  let c0_i32_170 : BitVec 32 := 0#32
  let c1_i32_172 : BitVec 32 := 1#32
  let arg21 : BitVec 32 := Scf.iv c0_i32_170 c1_i32_172 k1_t13
  let c16_i32_293 : BitVec 32 := 16#32
  let v447 : BitVec 32 := Scalar.muli arg21 c16_i32_293
  let v448 : BitVec 32 := Scalar.addi c0_i32_294 v447
  let v452 : BitVec 32 := Scalar.addi v292 v448
  let v453 : Index := Scalar.indexCast v452
  ![v453.toNat]
@[reducible] def k1_t14_loop : Scf.Loop 32 :=
  let c0_i32_183 : BitVec 32 := 0#32
  let c48_i32_184 : BitVec 32 := 48#32
  let v310 : BitVec 32 := Scalar.addi c0_i32_183 c48_i32_184
  let c1_i32_185 : BitVec 32 := 1#32
  ⟨c0_i32_183, v310, c1_i32_185⟩
def k1_off25 (i : grid1.Coords) (v37 : BitVec 32) (v40 : BitVec 32) (v43 : BitVec 32) (k1_t3 : Fin k1_t3_loop.trips) (k1_t6 : Fin (k1_t6_loop v37 v40 v43 k1_t3).trips) (v298 : BitVec 32) (k1_t14 : Fin k1_t14_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_174 : BitVec 32 := 16#32
  let v294 : BitVec 32 := Scalar.muli v126 c16_i32_174
  let c0_i32_175 : BitVec 32 := 0#32
  let v295 : BitVec 32 := Scalar.addi v294 c0_i32_175
  let c7_i32 : BitVec 32 := 7#32
  let v296 : BitVec 32 := Scalar.addi v295 c7_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v300 : BitVec 1 := Scalar.cmpi .slt v296 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v299 : BitVec 32 := Scalar.subi v298 v48
  let c0_i32_176 : BitVec 32 := 0#32
  let v301 : BitVec 1 := Scalar.cmpi .sge v299 c0_i32_176
  let v302 : BitVec 1 := Scalar.andi v300 v301
  let c128_i32_177 : BitVec 32 := 128#32
  let v303 : BitVec 1 := Scalar.cmpi .slt v299 c128_i32_177
  let v304 : BitVec 1 := Scalar.andi v302 v303
  let c128_i32_178 : BitVec 32 := 128#32
  let v305 : BitVec 32 := Scalar.select v304 v299 c128_i32_178
  let c768_i32_179 : BitVec 32 := 768#32
  let v306 : BitVec 32 := Scalar.muli v305 c768_i32_179
  let c0_i32_294 : BitVec 32 := 0#32
  let c0_i32_183 : BitVec 32 := 0#32
  let c1_i32_185 : BitVec 32 := 1#32
  let arg21 : BitVec 32 := Scf.iv c0_i32_183 c1_i32_185 k1_t14
  let c16_i32_293 : BitVec 32 := 16#32
  let v447 : BitVec 32 := Scalar.muli arg21 c16_i32_293
  let v448 : BitVec 32 := Scalar.addi c0_i32_294 v447
  let v449 : BitVec 32 := Scalar.addi v306 v448
  let v450 : Index := Scalar.indexCast v449
  ![v450.toNat]

def k1_chk10 (i : grid1.Coords) (v37 : BitVec 32) (v40 : BitVec 32) (v43 : BitVec 32) (k1_t3 : Fin k1_t3_loop.trips) (k1_t6 : Fin (k1_t6_loop v37 v40 v43 k1_t3).trips) (v298 : BitVec 32) : Prop :=
  (∀ k1_t14 : Fin k1_t14_loop.trips, ∀ (k1_h2 : k1_cond2 v37 v40 v43 k1_t3 k1_t6 = 1#1), ∀ a, (k1_off25 i v37 v40 v43 k1_t3 k1_t6 v298 k1_t14) a + S16.size a ≤ S99072.size a)
theorem k1_off25_inb : ∀ (i : grid1.Coords) (v37 : BitVec 32) (v40 : BitVec 32) (v43 : BitVec 32) (k1_t3 : Fin k1_t3_loop.trips) (k1_t6 : Fin (k1_t6_loop v37 v40 v43 k1_t3).trips) (v298 : BitVec 32) (k1_hw10 : k1_chk10 i v37 v40 v43 k1_t3 k1_t6 v298) (k1_t14 : Fin k1_t14_loop.trips), ∀ (k1_h2 : k1_cond2 v37 v40 v43 k1_t3 k1_t6 = 1#1), ∀ a, (k1_off25 i v37 v40 v43 k1_t3 k1_t6 v298 k1_t14) a + S16.size a ≤ S99072.size a := fun i v37 v40 v43 k1_t3 k1_t6 v298 k1_hw10 k1_t14 k1_h2 => k1_hw10 k1_t14 k1_h2

def k1_off26 (v37 : BitVec 32) (v40 : BitVec 32) (v43 : BitVec 32) (k1_t3 : Fin k1_t3_loop.trips) (k1_t6 : Fin (k1_t6_loop v37 v40 v43 k1_t3).trips) (k1_t14 : Fin k1_t14_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_180 : BitVec 32 := 0#32
  let v307 : BitVec 32 := Scalar.addi v155 c0_i32_180
  let c7_i32_181 : BitVec 32 := 7#32
  let v308 : BitVec 32 := Scalar.addi v307 c7_i32_181
  let c768_i32_182 : BitVec 32 := 768#32
  let v309 : BitVec 32 := Scalar.muli v308 c768_i32_182
  let c0_i32_294 : BitVec 32 := 0#32
  let c0_i32_183 : BitVec 32 := 0#32
  let c1_i32_185 : BitVec 32 := 1#32
  let arg21 : BitVec 32 := Scf.iv c0_i32_183 c1_i32_185 k1_t14
  let c16_i32_293 : BitVec 32 := 16#32
  let v447 : BitVec 32 := Scalar.muli arg21 c16_i32_293
  let v448 : BitVec 32 := Scalar.addi c0_i32_294 v447
  let v452 : BitVec 32 := Scalar.addi v309 v448
  let v453 : Index := Scalar.indexCast v452
  ![v453.toNat]
@[reducible] def k1_t15_loop : Scf.Loop 32 :=
  let c0_i32_197 : BitVec 32 := 0#32
  let c48_i32_198 : BitVec 32 := 48#32
  let v327 : BitVec 32 := Scalar.addi c0_i32_197 c48_i32_198
  let c1_i32_199 : BitVec 32 := 1#32
  ⟨c0_i32_197, v327, c1_i32_199⟩
def k1_off27 (i : grid1.Coords) (v37 : BitVec 32) (v40 : BitVec 32) (v43 : BitVec 32) (k1_t3 : Fin k1_t3_loop.trips) (k1_t6 : Fin (k1_t6_loop v37 v40 v43 k1_t3).trips) (v315 : BitVec 32) (k1_t15 : Fin k1_t15_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_187 : BitVec 32 := 16#32
  let v311 : BitVec 32 := Scalar.muli v126 c16_i32_187
  let c0_i32_188 : BitVec 32 := 0#32
  let v312 : BitVec 32 := Scalar.addi v311 c0_i32_188
  let c8_i32_189 : BitVec 32 := 8#32
  let v313 : BitVec 32 := Scalar.addi v312 c8_i32_189
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v317 : BitVec 1 := Scalar.cmpi .slt v313 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v316 : BitVec 32 := Scalar.subi v315 v48
  let c0_i32_190 : BitVec 32 := 0#32
  let v318 : BitVec 1 := Scalar.cmpi .sge v316 c0_i32_190
  let v319 : BitVec 1 := Scalar.andi v317 v318
  let c128_i32_191 : BitVec 32 := 128#32
  let v320 : BitVec 1 := Scalar.cmpi .slt v316 c128_i32_191
  let v321 : BitVec 1 := Scalar.andi v319 v320
  let c128_i32_192 : BitVec 32 := 128#32
  let v322 : BitVec 32 := Scalar.select v321 v316 c128_i32_192
  let c768_i32_193 : BitVec 32 := 768#32
  let v323 : BitVec 32 := Scalar.muli v322 c768_i32_193
  let c0_i32_294 : BitVec 32 := 0#32
  let c0_i32_197 : BitVec 32 := 0#32
  let c1_i32_199 : BitVec 32 := 1#32
  let arg21 : BitVec 32 := Scf.iv c0_i32_197 c1_i32_199 k1_t15
  let c16_i32_293 : BitVec 32 := 16#32
  let v447 : BitVec 32 := Scalar.muli arg21 c16_i32_293
  let v448 : BitVec 32 := Scalar.addi c0_i32_294 v447
  let v449 : BitVec 32 := Scalar.addi v323 v448
  let v450 : Index := Scalar.indexCast v449
  ![v450.toNat]

def k1_chk11 (i : grid1.Coords) (v37 : BitVec 32) (v40 : BitVec 32) (v43 : BitVec 32) (k1_t3 : Fin k1_t3_loop.trips) (k1_t6 : Fin (k1_t6_loop v37 v40 v43 k1_t3).trips) (v315 : BitVec 32) : Prop :=
  (∀ k1_t15 : Fin k1_t15_loop.trips, ∀ (k1_h2 : k1_cond2 v37 v40 v43 k1_t3 k1_t6 = 1#1), ∀ a, (k1_off27 i v37 v40 v43 k1_t3 k1_t6 v315 k1_t15) a + S16.size a ≤ S99072.size a)
theorem k1_off27_inb : ∀ (i : grid1.Coords) (v37 : BitVec 32) (v40 : BitVec 32) (v43 : BitVec 32) (k1_t3 : Fin k1_t3_loop.trips) (k1_t6 : Fin (k1_t6_loop v37 v40 v43 k1_t3).trips) (v315 : BitVec 32) (k1_hw11 : k1_chk11 i v37 v40 v43 k1_t3 k1_t6 v315) (k1_t15 : Fin k1_t15_loop.trips), ∀ (k1_h2 : k1_cond2 v37 v40 v43 k1_t3 k1_t6 = 1#1), ∀ a, (k1_off27 i v37 v40 v43 k1_t3 k1_t6 v315 k1_t15) a + S16.size a ≤ S99072.size a := fun i v37 v40 v43 k1_t3 k1_t6 v315 k1_hw11 k1_t15 k1_h2 => k1_hw11 k1_t15 k1_h2

def k1_off28 (v37 : BitVec 32) (v40 : BitVec 32) (v43 : BitVec 32) (k1_t3 : Fin k1_t3_loop.trips) (k1_t6 : Fin (k1_t6_loop v37 v40 v43 k1_t3).trips) (k1_t15 : Fin k1_t15_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_194 : BitVec 32 := 0#32
  let v324 : BitVec 32 := Scalar.addi v155 c0_i32_194
  let c8_i32_195 : BitVec 32 := 8#32
  let v325 : BitVec 32 := Scalar.addi v324 c8_i32_195
  let c768_i32_196 : BitVec 32 := 768#32
  let v326 : BitVec 32 := Scalar.muli v325 c768_i32_196
  let c0_i32_294 : BitVec 32 := 0#32
  let c0_i32_197 : BitVec 32 := 0#32
  let c1_i32_199 : BitVec 32 := 1#32
  let arg21 : BitVec 32 := Scf.iv c0_i32_197 c1_i32_199 k1_t15
  let c16_i32_293 : BitVec 32 := 16#32
  let v447 : BitVec 32 := Scalar.muli arg21 c16_i32_293
  let v448 : BitVec 32 := Scalar.addi c0_i32_294 v447
  let v452 : BitVec 32 := Scalar.addi v326 v448
  let v453 : Index := Scalar.indexCast v452
  ![v453.toNat]
@[reducible] def k1_t16_loop : Scf.Loop 32 :=
  let c0_i32_211 : BitVec 32 := 0#32
  let c48_i32_212 : BitVec 32 := 48#32
  let v344 : BitVec 32 := Scalar.addi c0_i32_211 c48_i32_212
  let c1_i32_213 : BitVec 32 := 1#32
  ⟨c0_i32_211, v344, c1_i32_213⟩
def k1_off29 (i : grid1.Coords) (v37 : BitVec 32) (v40 : BitVec 32) (v43 : BitVec 32) (k1_t3 : Fin k1_t3_loop.trips) (k1_t6 : Fin (k1_t6_loop v37 v40 v43 k1_t3).trips) (v332 : BitVec 32) (k1_t16 : Fin k1_t16_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_201 : BitVec 32 := 16#32
  let v328 : BitVec 32 := Scalar.muli v126 c16_i32_201
  let c0_i32_202 : BitVec 32 := 0#32
  let v329 : BitVec 32 := Scalar.addi v328 c0_i32_202
  let c9_i32_203 : BitVec 32 := 9#32
  let v330 : BitVec 32 := Scalar.addi v329 c9_i32_203
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v334 : BitVec 1 := Scalar.cmpi .slt v330 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v333 : BitVec 32 := Scalar.subi v332 v48
  let c0_i32_204 : BitVec 32 := 0#32
  let v335 : BitVec 1 := Scalar.cmpi .sge v333 c0_i32_204
  let v336 : BitVec 1 := Scalar.andi v334 v335
  let c128_i32_205 : BitVec 32 := 128#32
  let v337 : BitVec 1 := Scalar.cmpi .slt v333 c128_i32_205
  let v338 : BitVec 1 := Scalar.andi v336 v337
  let c128_i32_206 : BitVec 32 := 128#32
  let v339 : BitVec 32 := Scalar.select v338 v333 c128_i32_206
  let c768_i32_207 : BitVec 32 := 768#32
  let v340 : BitVec 32 := Scalar.muli v339 c768_i32_207
  let c0_i32_294 : BitVec 32 := 0#32
  let c0_i32_211 : BitVec 32 := 0#32
  let c1_i32_213 : BitVec 32 := 1#32
  let arg21 : BitVec 32 := Scf.iv c0_i32_211 c1_i32_213 k1_t16
  let c16_i32_293 : BitVec 32 := 16#32
  let v447 : BitVec 32 := Scalar.muli arg21 c16_i32_293
  let v448 : BitVec 32 := Scalar.addi c0_i32_294 v447
  let v449 : BitVec 32 := Scalar.addi v340 v448
  let v450 : Index := Scalar.indexCast v449
  ![v450.toNat]

def k1_chk12 (i : grid1.Coords) (v37 : BitVec 32) (v40 : BitVec 32) (v43 : BitVec 32) (k1_t3 : Fin k1_t3_loop.trips) (k1_t6 : Fin (k1_t6_loop v37 v40 v43 k1_t3).trips) (v332 : BitVec 32) : Prop :=
  (∀ k1_t16 : Fin k1_t16_loop.trips, ∀ (k1_h2 : k1_cond2 v37 v40 v43 k1_t3 k1_t6 = 1#1), ∀ a, (k1_off29 i v37 v40 v43 k1_t3 k1_t6 v332 k1_t16) a + S16.size a ≤ S99072.size a)
theorem k1_off29_inb : ∀ (i : grid1.Coords) (v37 : BitVec 32) (v40 : BitVec 32) (v43 : BitVec 32) (k1_t3 : Fin k1_t3_loop.trips) (k1_t6 : Fin (k1_t6_loop v37 v40 v43 k1_t3).trips) (v332 : BitVec 32) (k1_hw12 : k1_chk12 i v37 v40 v43 k1_t3 k1_t6 v332) (k1_t16 : Fin k1_t16_loop.trips), ∀ (k1_h2 : k1_cond2 v37 v40 v43 k1_t3 k1_t6 = 1#1), ∀ a, (k1_off29 i v37 v40 v43 k1_t3 k1_t6 v332 k1_t16) a + S16.size a ≤ S99072.size a := fun i v37 v40 v43 k1_t3 k1_t6 v332 k1_hw12 k1_t16 k1_h2 => k1_hw12 k1_t16 k1_h2

def k1_off30 (v37 : BitVec 32) (v40 : BitVec 32) (v43 : BitVec 32) (k1_t3 : Fin k1_t3_loop.trips) (k1_t6 : Fin (k1_t6_loop v37 v40 v43 k1_t3).trips) (k1_t16 : Fin k1_t16_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_208 : BitVec 32 := 0#32
  let v341 : BitVec 32 := Scalar.addi v155 c0_i32_208
  let c9_i32_209 : BitVec 32 := 9#32
  let v342 : BitVec 32 := Scalar.addi v341 c9_i32_209
  let c768_i32_210 : BitVec 32 := 768#32
  let v343 : BitVec 32 := Scalar.muli v342 c768_i32_210
  let c0_i32_294 : BitVec 32 := 0#32
  let c0_i32_211 : BitVec 32 := 0#32
  let c1_i32_213 : BitVec 32 := 1#32
  let arg21 : BitVec 32 := Scf.iv c0_i32_211 c1_i32_213 k1_t16
  let c16_i32_293 : BitVec 32 := 16#32
  let v447 : BitVec 32 := Scalar.muli arg21 c16_i32_293
  let v448 : BitVec 32 := Scalar.addi c0_i32_294 v447
  let v452 : BitVec 32 := Scalar.addi v343 v448
  let v453 : Index := Scalar.indexCast v452
  ![v453.toNat]
@[reducible] def k1_t17_loop : Scf.Loop 32 :=
  let c0_i32_224 : BitVec 32 := 0#32
  let c48_i32_225 : BitVec 32 := 48#32
  let v361 : BitVec 32 := Scalar.addi c0_i32_224 c48_i32_225
  let c1_i32_226 : BitVec 32 := 1#32
  ⟨c0_i32_224, v361, c1_i32_226⟩
def k1_off31 (i : grid1.Coords) (v37 : BitVec 32) (v40 : BitVec 32) (v43 : BitVec 32) (k1_t3 : Fin k1_t3_loop.trips) (k1_t6 : Fin (k1_t6_loop v37 v40 v43 k1_t3).trips) (v349 : BitVec 32) (k1_t17 : Fin k1_t17_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_215 : BitVec 32 := 16#32
  let v345 : BitVec 32 := Scalar.muli v126 c16_i32_215
  let c0_i32_216 : BitVec 32 := 0#32
  let v346 : BitVec 32 := Scalar.addi v345 c0_i32_216
  let c10_i32 : BitVec 32 := 10#32
  let v347 : BitVec 32 := Scalar.addi v346 c10_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v351 : BitVec 1 := Scalar.cmpi .slt v347 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v350 : BitVec 32 := Scalar.subi v349 v48
  let c0_i32_217 : BitVec 32 := 0#32
  let v352 : BitVec 1 := Scalar.cmpi .sge v350 c0_i32_217
  let v353 : BitVec 1 := Scalar.andi v351 v352
  let c128_i32_218 : BitVec 32 := 128#32
  let v354 : BitVec 1 := Scalar.cmpi .slt v350 c128_i32_218
  let v355 : BitVec 1 := Scalar.andi v353 v354
  let c128_i32_219 : BitVec 32 := 128#32
  let v356 : BitVec 32 := Scalar.select v355 v350 c128_i32_219
  let c768_i32_220 : BitVec 32 := 768#32
  let v357 : BitVec 32 := Scalar.muli v356 c768_i32_220
  let c0_i32_294 : BitVec 32 := 0#32
  let c0_i32_224 : BitVec 32 := 0#32
  let c1_i32_226 : BitVec 32 := 1#32
  let arg21 : BitVec 32 := Scf.iv c0_i32_224 c1_i32_226 k1_t17
  let c16_i32_293 : BitVec 32 := 16#32
  let v447 : BitVec 32 := Scalar.muli arg21 c16_i32_293
  let v448 : BitVec 32 := Scalar.addi c0_i32_294 v447
  let v449 : BitVec 32 := Scalar.addi v357 v448
  let v450 : Index := Scalar.indexCast v449
  ![v450.toNat]

def k1_chk13 (i : grid1.Coords) (v37 : BitVec 32) (v40 : BitVec 32) (v43 : BitVec 32) (k1_t3 : Fin k1_t3_loop.trips) (k1_t6 : Fin (k1_t6_loop v37 v40 v43 k1_t3).trips) (v349 : BitVec 32) : Prop :=
  (∀ k1_t17 : Fin k1_t17_loop.trips, ∀ (k1_h2 : k1_cond2 v37 v40 v43 k1_t3 k1_t6 = 1#1), ∀ a, (k1_off31 i v37 v40 v43 k1_t3 k1_t6 v349 k1_t17) a + S16.size a ≤ S99072.size a)
theorem k1_off31_inb : ∀ (i : grid1.Coords) (v37 : BitVec 32) (v40 : BitVec 32) (v43 : BitVec 32) (k1_t3 : Fin k1_t3_loop.trips) (k1_t6 : Fin (k1_t6_loop v37 v40 v43 k1_t3).trips) (v349 : BitVec 32) (k1_hw13 : k1_chk13 i v37 v40 v43 k1_t3 k1_t6 v349) (k1_t17 : Fin k1_t17_loop.trips), ∀ (k1_h2 : k1_cond2 v37 v40 v43 k1_t3 k1_t6 = 1#1), ∀ a, (k1_off31 i v37 v40 v43 k1_t3 k1_t6 v349 k1_t17) a + S16.size a ≤ S99072.size a := fun i v37 v40 v43 k1_t3 k1_t6 v349 k1_hw13 k1_t17 k1_h2 => k1_hw13 k1_t17 k1_h2

def k1_off32 (v37 : BitVec 32) (v40 : BitVec 32) (v43 : BitVec 32) (k1_t3 : Fin k1_t3_loop.trips) (k1_t6 : Fin (k1_t6_loop v37 v40 v43 k1_t3).trips) (k1_t17 : Fin k1_t17_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_221 : BitVec 32 := 0#32
  let v358 : BitVec 32 := Scalar.addi v155 c0_i32_221
  let c10_i32_222 : BitVec 32 := 10#32
  let v359 : BitVec 32 := Scalar.addi v358 c10_i32_222
  let c768_i32_223 : BitVec 32 := 768#32
  let v360 : BitVec 32 := Scalar.muli v359 c768_i32_223
  let c0_i32_294 : BitVec 32 := 0#32
  let c0_i32_224 : BitVec 32 := 0#32
  let c1_i32_226 : BitVec 32 := 1#32
  let arg21 : BitVec 32 := Scf.iv c0_i32_224 c1_i32_226 k1_t17
  let c16_i32_293 : BitVec 32 := 16#32
  let v447 : BitVec 32 := Scalar.muli arg21 c16_i32_293
  let v448 : BitVec 32 := Scalar.addi c0_i32_294 v447
  let v452 : BitVec 32 := Scalar.addi v360 v448
  let v453 : Index := Scalar.indexCast v452
  ![v453.toNat]
@[reducible] def k1_t18_loop : Scf.Loop 32 :=
  let c0_i32_237 : BitVec 32 := 0#32
  let c48_i32_238 : BitVec 32 := 48#32
  let v378 : BitVec 32 := Scalar.addi c0_i32_237 c48_i32_238
  let c1_i32_239 : BitVec 32 := 1#32
  ⟨c0_i32_237, v378, c1_i32_239⟩
def k1_off33 (i : grid1.Coords) (v37 : BitVec 32) (v40 : BitVec 32) (v43 : BitVec 32) (k1_t3 : Fin k1_t3_loop.trips) (k1_t6 : Fin (k1_t6_loop v37 v40 v43 k1_t3).trips) (v366 : BitVec 32) (k1_t18 : Fin k1_t18_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_228 : BitVec 32 := 16#32
  let v362 : BitVec 32 := Scalar.muli v126 c16_i32_228
  let c0_i32_229 : BitVec 32 := 0#32
  let v363 : BitVec 32 := Scalar.addi v362 c0_i32_229
  let c11_i32 : BitVec 32 := 11#32
  let v364 : BitVec 32 := Scalar.addi v363 c11_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v368 : BitVec 1 := Scalar.cmpi .slt v364 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v367 : BitVec 32 := Scalar.subi v366 v48
  let c0_i32_230 : BitVec 32 := 0#32
  let v369 : BitVec 1 := Scalar.cmpi .sge v367 c0_i32_230
  let v370 : BitVec 1 := Scalar.andi v368 v369
  let c128_i32_231 : BitVec 32 := 128#32
  let v371 : BitVec 1 := Scalar.cmpi .slt v367 c128_i32_231
  let v372 : BitVec 1 := Scalar.andi v370 v371
  let c128_i32_232 : BitVec 32 := 128#32
  let v373 : BitVec 32 := Scalar.select v372 v367 c128_i32_232
  let c768_i32_233 : BitVec 32 := 768#32
  let v374 : BitVec 32 := Scalar.muli v373 c768_i32_233
  let c0_i32_294 : BitVec 32 := 0#32
  let c0_i32_237 : BitVec 32 := 0#32
  let c1_i32_239 : BitVec 32 := 1#32
  let arg21 : BitVec 32 := Scf.iv c0_i32_237 c1_i32_239 k1_t18
  let c16_i32_293 : BitVec 32 := 16#32
  let v447 : BitVec 32 := Scalar.muli arg21 c16_i32_293
  let v448 : BitVec 32 := Scalar.addi c0_i32_294 v447
  let v449 : BitVec 32 := Scalar.addi v374 v448
  let v450 : Index := Scalar.indexCast v449
  ![v450.toNat]

def k1_chk14 (i : grid1.Coords) (v37 : BitVec 32) (v40 : BitVec 32) (v43 : BitVec 32) (k1_t3 : Fin k1_t3_loop.trips) (k1_t6 : Fin (k1_t6_loop v37 v40 v43 k1_t3).trips) (v366 : BitVec 32) : Prop :=
  (∀ k1_t18 : Fin k1_t18_loop.trips, ∀ (k1_h2 : k1_cond2 v37 v40 v43 k1_t3 k1_t6 = 1#1), ∀ a, (k1_off33 i v37 v40 v43 k1_t3 k1_t6 v366 k1_t18) a + S16.size a ≤ S99072.size a)
theorem k1_off33_inb : ∀ (i : grid1.Coords) (v37 : BitVec 32) (v40 : BitVec 32) (v43 : BitVec 32) (k1_t3 : Fin k1_t3_loop.trips) (k1_t6 : Fin (k1_t6_loop v37 v40 v43 k1_t3).trips) (v366 : BitVec 32) (k1_hw14 : k1_chk14 i v37 v40 v43 k1_t3 k1_t6 v366) (k1_t18 : Fin k1_t18_loop.trips), ∀ (k1_h2 : k1_cond2 v37 v40 v43 k1_t3 k1_t6 = 1#1), ∀ a, (k1_off33 i v37 v40 v43 k1_t3 k1_t6 v366 k1_t18) a + S16.size a ≤ S99072.size a := fun i v37 v40 v43 k1_t3 k1_t6 v366 k1_hw14 k1_t18 k1_h2 => k1_hw14 k1_t18 k1_h2

def k1_off34 (v37 : BitVec 32) (v40 : BitVec 32) (v43 : BitVec 32) (k1_t3 : Fin k1_t3_loop.trips) (k1_t6 : Fin (k1_t6_loop v37 v40 v43 k1_t3).trips) (k1_t18 : Fin k1_t18_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_234 : BitVec 32 := 0#32
  let v375 : BitVec 32 := Scalar.addi v155 c0_i32_234
  let c11_i32_235 : BitVec 32 := 11#32
  let v376 : BitVec 32 := Scalar.addi v375 c11_i32_235
  let c768_i32_236 : BitVec 32 := 768#32
  let v377 : BitVec 32 := Scalar.muli v376 c768_i32_236
  let c0_i32_294 : BitVec 32 := 0#32
  let c0_i32_237 : BitVec 32 := 0#32
  let c1_i32_239 : BitVec 32 := 1#32
  let arg21 : BitVec 32 := Scf.iv c0_i32_237 c1_i32_239 k1_t18
  let c16_i32_293 : BitVec 32 := 16#32
  let v447 : BitVec 32 := Scalar.muli arg21 c16_i32_293
  let v448 : BitVec 32 := Scalar.addi c0_i32_294 v447
  let v452 : BitVec 32 := Scalar.addi v377 v448
  let v453 : Index := Scalar.indexCast v452
  ![v453.toNat]
@[reducible] def k1_t19_loop : Scf.Loop 32 :=
  let c0_i32_250 : BitVec 32 := 0#32
  let c48_i32_251 : BitVec 32 := 48#32
  let v395 : BitVec 32 := Scalar.addi c0_i32_250 c48_i32_251
  let c1_i32_252 : BitVec 32 := 1#32
  ⟨c0_i32_250, v395, c1_i32_252⟩
def k1_off35 (i : grid1.Coords) (v37 : BitVec 32) (v40 : BitVec 32) (v43 : BitVec 32) (k1_t3 : Fin k1_t3_loop.trips) (k1_t6 : Fin (k1_t6_loop v37 v40 v43 k1_t3).trips) (v383 : BitVec 32) (k1_t19 : Fin k1_t19_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_241 : BitVec 32 := 16#32
  let v379 : BitVec 32 := Scalar.muli v126 c16_i32_241
  let c0_i32_242 : BitVec 32 := 0#32
  let v380 : BitVec 32 := Scalar.addi v379 c0_i32_242
  let c12_i32 : BitVec 32 := 12#32
  let v381 : BitVec 32 := Scalar.addi v380 c12_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v385 : BitVec 1 := Scalar.cmpi .slt v381 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v384 : BitVec 32 := Scalar.subi v383 v48
  let c0_i32_243 : BitVec 32 := 0#32
  let v386 : BitVec 1 := Scalar.cmpi .sge v384 c0_i32_243
  let v387 : BitVec 1 := Scalar.andi v385 v386
  let c128_i32_244 : BitVec 32 := 128#32
  let v388 : BitVec 1 := Scalar.cmpi .slt v384 c128_i32_244
  let v389 : BitVec 1 := Scalar.andi v387 v388
  let c128_i32_245 : BitVec 32 := 128#32
  let v390 : BitVec 32 := Scalar.select v389 v384 c128_i32_245
  let c768_i32_246 : BitVec 32 := 768#32
  let v391 : BitVec 32 := Scalar.muli v390 c768_i32_246
  let c0_i32_294 : BitVec 32 := 0#32
  let c0_i32_250 : BitVec 32 := 0#32
  let c1_i32_252 : BitVec 32 := 1#32
  let arg21 : BitVec 32 := Scf.iv c0_i32_250 c1_i32_252 k1_t19
  let c16_i32_293 : BitVec 32 := 16#32
  let v447 : BitVec 32 := Scalar.muli arg21 c16_i32_293
  let v448 : BitVec 32 := Scalar.addi c0_i32_294 v447
  let v449 : BitVec 32 := Scalar.addi v391 v448
  let v450 : Index := Scalar.indexCast v449
  ![v450.toNat]

def k1_chk15 (i : grid1.Coords) (v37 : BitVec 32) (v40 : BitVec 32) (v43 : BitVec 32) (k1_t3 : Fin k1_t3_loop.trips) (k1_t6 : Fin (k1_t6_loop v37 v40 v43 k1_t3).trips) (v383 : BitVec 32) : Prop :=
  (∀ k1_t19 : Fin k1_t19_loop.trips, ∀ (k1_h2 : k1_cond2 v37 v40 v43 k1_t3 k1_t6 = 1#1), ∀ a, (k1_off35 i v37 v40 v43 k1_t3 k1_t6 v383 k1_t19) a + S16.size a ≤ S99072.size a)
theorem k1_off35_inb : ∀ (i : grid1.Coords) (v37 : BitVec 32) (v40 : BitVec 32) (v43 : BitVec 32) (k1_t3 : Fin k1_t3_loop.trips) (k1_t6 : Fin (k1_t6_loop v37 v40 v43 k1_t3).trips) (v383 : BitVec 32) (k1_hw15 : k1_chk15 i v37 v40 v43 k1_t3 k1_t6 v383) (k1_t19 : Fin k1_t19_loop.trips), ∀ (k1_h2 : k1_cond2 v37 v40 v43 k1_t3 k1_t6 = 1#1), ∀ a, (k1_off35 i v37 v40 v43 k1_t3 k1_t6 v383 k1_t19) a + S16.size a ≤ S99072.size a := fun i v37 v40 v43 k1_t3 k1_t6 v383 k1_hw15 k1_t19 k1_h2 => k1_hw15 k1_t19 k1_h2

def k1_off36 (v37 : BitVec 32) (v40 : BitVec 32) (v43 : BitVec 32) (k1_t3 : Fin k1_t3_loop.trips) (k1_t6 : Fin (k1_t6_loop v37 v40 v43 k1_t3).trips) (k1_t19 : Fin k1_t19_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_247 : BitVec 32 := 0#32
  let v392 : BitVec 32 := Scalar.addi v155 c0_i32_247
  let c12_i32_248 : BitVec 32 := 12#32
  let v393 : BitVec 32 := Scalar.addi v392 c12_i32_248
  let c768_i32_249 : BitVec 32 := 768#32
  let v394 : BitVec 32 := Scalar.muli v393 c768_i32_249
  let c0_i32_294 : BitVec 32 := 0#32
  let c0_i32_250 : BitVec 32 := 0#32
  let c1_i32_252 : BitVec 32 := 1#32
  let arg21 : BitVec 32 := Scf.iv c0_i32_250 c1_i32_252 k1_t19
  let c16_i32_293 : BitVec 32 := 16#32
  let v447 : BitVec 32 := Scalar.muli arg21 c16_i32_293
  let v448 : BitVec 32 := Scalar.addi c0_i32_294 v447
  let v452 : BitVec 32 := Scalar.addi v394 v448
  let v453 : Index := Scalar.indexCast v452
  ![v453.toNat]
@[reducible] def k1_t20_loop : Scf.Loop 32 :=
  let c0_i32_263 : BitVec 32 := 0#32
  let c48_i32_264 : BitVec 32 := 48#32
  let v412 : BitVec 32 := Scalar.addi c0_i32_263 c48_i32_264
  let c1_i32_265 : BitVec 32 := 1#32
  ⟨c0_i32_263, v412, c1_i32_265⟩
def k1_off37 (i : grid1.Coords) (v37 : BitVec 32) (v40 : BitVec 32) (v43 : BitVec 32) (k1_t3 : Fin k1_t3_loop.trips) (k1_t6 : Fin (k1_t6_loop v37 v40 v43 k1_t3).trips) (v400 : BitVec 32) (k1_t20 : Fin k1_t20_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_254 : BitVec 32 := 16#32
  let v396 : BitVec 32 := Scalar.muli v126 c16_i32_254
  let c0_i32_255 : BitVec 32 := 0#32
  let v397 : BitVec 32 := Scalar.addi v396 c0_i32_255
  let c13_i32 : BitVec 32 := 13#32
  let v398 : BitVec 32 := Scalar.addi v397 c13_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v402 : BitVec 1 := Scalar.cmpi .slt v398 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v401 : BitVec 32 := Scalar.subi v400 v48
  let c0_i32_256 : BitVec 32 := 0#32
  let v403 : BitVec 1 := Scalar.cmpi .sge v401 c0_i32_256
  let v404 : BitVec 1 := Scalar.andi v402 v403
  let c128_i32_257 : BitVec 32 := 128#32
  let v405 : BitVec 1 := Scalar.cmpi .slt v401 c128_i32_257
  let v406 : BitVec 1 := Scalar.andi v404 v405
  let c128_i32_258 : BitVec 32 := 128#32
  let v407 : BitVec 32 := Scalar.select v406 v401 c128_i32_258
  let c768_i32_259 : BitVec 32 := 768#32
  let v408 : BitVec 32 := Scalar.muli v407 c768_i32_259
  let c0_i32_294 : BitVec 32 := 0#32
  let c0_i32_263 : BitVec 32 := 0#32
  let c1_i32_265 : BitVec 32 := 1#32
  let arg21 : BitVec 32 := Scf.iv c0_i32_263 c1_i32_265 k1_t20
  let c16_i32_293 : BitVec 32 := 16#32
  let v447 : BitVec 32 := Scalar.muli arg21 c16_i32_293
  let v448 : BitVec 32 := Scalar.addi c0_i32_294 v447
  let v449 : BitVec 32 := Scalar.addi v408 v448
  let v450 : Index := Scalar.indexCast v449
  ![v450.toNat]

def k1_chk16 (i : grid1.Coords) (v37 : BitVec 32) (v40 : BitVec 32) (v43 : BitVec 32) (k1_t3 : Fin k1_t3_loop.trips) (k1_t6 : Fin (k1_t6_loop v37 v40 v43 k1_t3).trips) (v400 : BitVec 32) : Prop :=
  (∀ k1_t20 : Fin k1_t20_loop.trips, ∀ (k1_h2 : k1_cond2 v37 v40 v43 k1_t3 k1_t6 = 1#1), ∀ a, (k1_off37 i v37 v40 v43 k1_t3 k1_t6 v400 k1_t20) a + S16.size a ≤ S99072.size a)
theorem k1_off37_inb : ∀ (i : grid1.Coords) (v37 : BitVec 32) (v40 : BitVec 32) (v43 : BitVec 32) (k1_t3 : Fin k1_t3_loop.trips) (k1_t6 : Fin (k1_t6_loop v37 v40 v43 k1_t3).trips) (v400 : BitVec 32) (k1_hw16 : k1_chk16 i v37 v40 v43 k1_t3 k1_t6 v400) (k1_t20 : Fin k1_t20_loop.trips), ∀ (k1_h2 : k1_cond2 v37 v40 v43 k1_t3 k1_t6 = 1#1), ∀ a, (k1_off37 i v37 v40 v43 k1_t3 k1_t6 v400 k1_t20) a + S16.size a ≤ S99072.size a := fun i v37 v40 v43 k1_t3 k1_t6 v400 k1_hw16 k1_t20 k1_h2 => k1_hw16 k1_t20 k1_h2

def k1_off38 (v37 : BitVec 32) (v40 : BitVec 32) (v43 : BitVec 32) (k1_t3 : Fin k1_t3_loop.trips) (k1_t6 : Fin (k1_t6_loop v37 v40 v43 k1_t3).trips) (k1_t20 : Fin k1_t20_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_260 : BitVec 32 := 0#32
  let v409 : BitVec 32 := Scalar.addi v155 c0_i32_260
  let c13_i32_261 : BitVec 32 := 13#32
  let v410 : BitVec 32 := Scalar.addi v409 c13_i32_261
  let c768_i32_262 : BitVec 32 := 768#32
  let v411 : BitVec 32 := Scalar.muli v410 c768_i32_262
  let c0_i32_294 : BitVec 32 := 0#32
  let c0_i32_263 : BitVec 32 := 0#32
  let c1_i32_265 : BitVec 32 := 1#32
  let arg21 : BitVec 32 := Scf.iv c0_i32_263 c1_i32_265 k1_t20
  let c16_i32_293 : BitVec 32 := 16#32
  let v447 : BitVec 32 := Scalar.muli arg21 c16_i32_293
  let v448 : BitVec 32 := Scalar.addi c0_i32_294 v447
  let v452 : BitVec 32 := Scalar.addi v411 v448
  let v453 : Index := Scalar.indexCast v452
  ![v453.toNat]
@[reducible] def k1_t21_loop : Scf.Loop 32 :=
  let c0_i32_276 : BitVec 32 := 0#32
  let c48_i32_277 : BitVec 32 := 48#32
  let v429 : BitVec 32 := Scalar.addi c0_i32_276 c48_i32_277
  let c1_i32_278 : BitVec 32 := 1#32
  ⟨c0_i32_276, v429, c1_i32_278⟩
def k1_off39 (i : grid1.Coords) (v37 : BitVec 32) (v40 : BitVec 32) (v43 : BitVec 32) (k1_t3 : Fin k1_t3_loop.trips) (k1_t6 : Fin (k1_t6_loop v37 v40 v43 k1_t3).trips) (v417 : BitVec 32) (k1_t21 : Fin k1_t21_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_267 : BitVec 32 := 16#32
  let v413 : BitVec 32 := Scalar.muli v126 c16_i32_267
  let c0_i32_268 : BitVec 32 := 0#32
  let v414 : BitVec 32 := Scalar.addi v413 c0_i32_268
  let c14_i32 : BitVec 32 := 14#32
  let v415 : BitVec 32 := Scalar.addi v414 c14_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v419 : BitVec 1 := Scalar.cmpi .slt v415 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v418 : BitVec 32 := Scalar.subi v417 v48
  let c0_i32_269 : BitVec 32 := 0#32
  let v420 : BitVec 1 := Scalar.cmpi .sge v418 c0_i32_269
  let v421 : BitVec 1 := Scalar.andi v419 v420
  let c128_i32_270 : BitVec 32 := 128#32
  let v422 : BitVec 1 := Scalar.cmpi .slt v418 c128_i32_270
  let v423 : BitVec 1 := Scalar.andi v421 v422
  let c128_i32_271 : BitVec 32 := 128#32
  let v424 : BitVec 32 := Scalar.select v423 v418 c128_i32_271
  let c768_i32_272 : BitVec 32 := 768#32
  let v425 : BitVec 32 := Scalar.muli v424 c768_i32_272
  let c0_i32_294 : BitVec 32 := 0#32
  let c0_i32_276 : BitVec 32 := 0#32
  let c1_i32_278 : BitVec 32 := 1#32
  let arg21 : BitVec 32 := Scf.iv c0_i32_276 c1_i32_278 k1_t21
  let c16_i32_293 : BitVec 32 := 16#32
  let v447 : BitVec 32 := Scalar.muli arg21 c16_i32_293
  let v448 : BitVec 32 := Scalar.addi c0_i32_294 v447
  let v449 : BitVec 32 := Scalar.addi v425 v448
  let v450 : Index := Scalar.indexCast v449
  ![v450.toNat]

def k1_chk17 (i : grid1.Coords) (v37 : BitVec 32) (v40 : BitVec 32) (v43 : BitVec 32) (k1_t3 : Fin k1_t3_loop.trips) (k1_t6 : Fin (k1_t6_loop v37 v40 v43 k1_t3).trips) (v417 : BitVec 32) : Prop :=
  (∀ k1_t21 : Fin k1_t21_loop.trips, ∀ (k1_h2 : k1_cond2 v37 v40 v43 k1_t3 k1_t6 = 1#1), ∀ a, (k1_off39 i v37 v40 v43 k1_t3 k1_t6 v417 k1_t21) a + S16.size a ≤ S99072.size a)
theorem k1_off39_inb : ∀ (i : grid1.Coords) (v37 : BitVec 32) (v40 : BitVec 32) (v43 : BitVec 32) (k1_t3 : Fin k1_t3_loop.trips) (k1_t6 : Fin (k1_t6_loop v37 v40 v43 k1_t3).trips) (v417 : BitVec 32) (k1_hw17 : k1_chk17 i v37 v40 v43 k1_t3 k1_t6 v417) (k1_t21 : Fin k1_t21_loop.trips), ∀ (k1_h2 : k1_cond2 v37 v40 v43 k1_t3 k1_t6 = 1#1), ∀ a, (k1_off39 i v37 v40 v43 k1_t3 k1_t6 v417 k1_t21) a + S16.size a ≤ S99072.size a := fun i v37 v40 v43 k1_t3 k1_t6 v417 k1_hw17 k1_t21 k1_h2 => k1_hw17 k1_t21 k1_h2

def k1_off40 (v37 : BitVec 32) (v40 : BitVec 32) (v43 : BitVec 32) (k1_t3 : Fin k1_t3_loop.trips) (k1_t6 : Fin (k1_t6_loop v37 v40 v43 k1_t3).trips) (k1_t21 : Fin k1_t21_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_273 : BitVec 32 := 0#32
  let v426 : BitVec 32 := Scalar.addi v155 c0_i32_273
  let c14_i32_274 : BitVec 32 := 14#32
  let v427 : BitVec 32 := Scalar.addi v426 c14_i32_274
  let c768_i32_275 : BitVec 32 := 768#32
  let v428 : BitVec 32 := Scalar.muli v427 c768_i32_275
  let c0_i32_294 : BitVec 32 := 0#32
  let c0_i32_276 : BitVec 32 := 0#32
  let c1_i32_278 : BitVec 32 := 1#32
  let arg21 : BitVec 32 := Scf.iv c0_i32_276 c1_i32_278 k1_t21
  let c16_i32_293 : BitVec 32 := 16#32
  let v447 : BitVec 32 := Scalar.muli arg21 c16_i32_293
  let v448 : BitVec 32 := Scalar.addi c0_i32_294 v447
  let v452 : BitVec 32 := Scalar.addi v428 v448
  let v453 : Index := Scalar.indexCast v452
  ![v453.toNat]
@[reducible] def k1_t22_loop : Scf.Loop 32 :=
  let c0_i32_289 : BitVec 32 := 0#32
  let c48_i32_290 : BitVec 32 := 48#32
  let v446 : BitVec 32 := Scalar.addi c0_i32_289 c48_i32_290
  let c1_i32_291 : BitVec 32 := 1#32
  ⟨c0_i32_289, v446, c1_i32_291⟩
def k1_off41 (i : grid1.Coords) (v37 : BitVec 32) (v40 : BitVec 32) (v43 : BitVec 32) (k1_t3 : Fin k1_t3_loop.trips) (k1_t6 : Fin (k1_t6_loop v37 v40 v43 k1_t3).trips) (v434 : BitVec 32) (k1_t22 : Fin k1_t22_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_280 : BitVec 32 := 16#32
  let v430 : BitVec 32 := Scalar.muli v126 c16_i32_280
  let c0_i32_281 : BitVec 32 := 0#32
  let v431 : BitVec 32 := Scalar.addi v430 c0_i32_281
  let c15_i32 : BitVec 32 := 15#32
  let v432 : BitVec 32 := Scalar.addi v431 c15_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v436 : BitVec 1 := Scalar.cmpi .slt v432 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v435 : BitVec 32 := Scalar.subi v434 v48
  let c0_i32_282 : BitVec 32 := 0#32
  let v437 : BitVec 1 := Scalar.cmpi .sge v435 c0_i32_282
  let v438 : BitVec 1 := Scalar.andi v436 v437
  let c128_i32_283 : BitVec 32 := 128#32
  let v439 : BitVec 1 := Scalar.cmpi .slt v435 c128_i32_283
  let v440 : BitVec 1 := Scalar.andi v438 v439
  let c128_i32_284 : BitVec 32 := 128#32
  let v441 : BitVec 32 := Scalar.select v440 v435 c128_i32_284
  let c768_i32_285 : BitVec 32 := 768#32
  let v442 : BitVec 32 := Scalar.muli v441 c768_i32_285
  let c0_i32_294 : BitVec 32 := 0#32
  let c0_i32_289 : BitVec 32 := 0#32
  let c1_i32_291 : BitVec 32 := 1#32
  let arg21 : BitVec 32 := Scf.iv c0_i32_289 c1_i32_291 k1_t22
  let c16_i32_293 : BitVec 32 := 16#32
  let v447 : BitVec 32 := Scalar.muli arg21 c16_i32_293
  let v448 : BitVec 32 := Scalar.addi c0_i32_294 v447
  let v449 : BitVec 32 := Scalar.addi v442 v448
  let v450 : Index := Scalar.indexCast v449
  ![v450.toNat]

def k1_chk18 (i : grid1.Coords) (v37 : BitVec 32) (v40 : BitVec 32) (v43 : BitVec 32) (k1_t3 : Fin k1_t3_loop.trips) (k1_t6 : Fin (k1_t6_loop v37 v40 v43 k1_t3).trips) (v434 : BitVec 32) : Prop :=
  (∀ k1_t22 : Fin k1_t22_loop.trips, ∀ (k1_h2 : k1_cond2 v37 v40 v43 k1_t3 k1_t6 = 1#1), ∀ a, (k1_off41 i v37 v40 v43 k1_t3 k1_t6 v434 k1_t22) a + S16.size a ≤ S99072.size a)
theorem k1_off41_inb : ∀ (i : grid1.Coords) (v37 : BitVec 32) (v40 : BitVec 32) (v43 : BitVec 32) (k1_t3 : Fin k1_t3_loop.trips) (k1_t6 : Fin (k1_t6_loop v37 v40 v43 k1_t3).trips) (v434 : BitVec 32) (k1_hw18 : k1_chk18 i v37 v40 v43 k1_t3 k1_t6 v434) (k1_t22 : Fin k1_t22_loop.trips), ∀ (k1_h2 : k1_cond2 v37 v40 v43 k1_t3 k1_t6 = 1#1), ∀ a, (k1_off41 i v37 v40 v43 k1_t3 k1_t6 v434 k1_t22) a + S16.size a ≤ S99072.size a := fun i v37 v40 v43 k1_t3 k1_t6 v434 k1_hw18 k1_t22 k1_h2 => k1_hw18 k1_t22 k1_h2

def k1_off42 (v37 : BitVec 32) (v40 : BitVec 32) (v43 : BitVec 32) (k1_t3 : Fin k1_t3_loop.trips) (k1_t6 : Fin (k1_t6_loop v37 v40 v43 k1_t3).trips) (k1_t22 : Fin k1_t22_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_286 : BitVec 32 := 0#32
  let v443 : BitVec 32 := Scalar.addi v155 c0_i32_286
  let c15_i32_287 : BitVec 32 := 15#32
  let v444 : BitVec 32 := Scalar.addi v443 c15_i32_287
  let c768_i32_288 : BitVec 32 := 768#32
  let v445 : BitVec 32 := Scalar.muli v444 c768_i32_288
  let c0_i32_294 : BitVec 32 := 0#32
  let c0_i32_289 : BitVec 32 := 0#32
  let c1_i32_291 : BitVec 32 := 1#32
  let arg21 : BitVec 32 := Scf.iv c0_i32_289 c1_i32_291 k1_t22
  let c16_i32_293 : BitVec 32 := 16#32
  let v447 : BitVec 32 := Scalar.muli arg21 c16_i32_293
  let v448 : BitVec 32 := Scalar.addi c0_i32_294 v447
  let v452 : BitVec 32 := Scalar.addi v445 v448
  let v453 : Index := Scalar.indexCast v452
  ![v453.toNat]
def k1_mult6 (v37 : BitVec 32) (v40 : BitVec 32) (v43 : BitVec 32) (k1_t3 : Fin k1_t3_loop.trips) (k1_t6 : Fin (k1_t6_loop v37 v40 v43 k1_t3).trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_68 : BitVec 32 := 1#32
  let v134 : BitVec 32 := Scalar.addi v126 c1_i32_68
  let c16_i32_69 : BitVec 32 := 16#32
  let v135 : BitVec 32 := Scalar.muli v134 c16_i32_69
  let v136 : BitVec 32 := Scalar.addi v72 v135
  let c8176_i32 : BitVec 32 := 8176#32
  let v137 : BitVec 32 := Scalar.minsi v136 c8176_i32
  v137
def k1_cond4 (v37 : BitVec 32) (v40 : BitVec 32) (v43 : BitVec 32) (k1_t3 : Fin k1_t3_loop.trips) (k1_t6 : Fin (k1_t6_loop v37 v40 v43 k1_t3).trips) : BitVec 1 :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_65 : BitVec 32 := 1#32
  let v130 : BitVec 32 := Scalar.addi v126 c1_i32_65
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let v131 : BitVec 1 := Scalar.cmpi .slt v130 v92
  let v132 : BitVec 32 := Scalar.extui v131
  let c0_i32_66 : BitVec 32 := 0#32
  let v133 : BitVec 1 := Scalar.cmpi .ne v132 c0_i32_66
  v133

def k1_off43 (i : grid1.Coords) (v37 : BitVec 32) (v40 : BitVec 32) (v43 : BitVec 32) (k1_t3 : Fin k1_t3_loop.trips) (k1_t6 : Fin (k1_t6_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_68 : BitVec 32 := 1#32
  let v134 : BitVec 32 := Scalar.addi v126 c1_i32_68
  let c16_i32_69 : BitVec 32 := 16#32
  let v135 : BitVec 32 := Scalar.muli v134 c16_i32_69
  let v136 : BitVec 32 := Scalar.addi v72 v135
  let c8176_i32 : BitVec 32 := 8176#32
  let v137 : BitVec 32 := Scalar.minsi v136 c8176_i32
  let v138 : BitVec 32 := v137
  let v139 : BitVec 32 := Scalar.addi v31 v138
  ![v139.toNat]
def k1_off44 (i : grid1.Coords) (v37 : BitVec 32) (v40 : BitVec 32) (v43 : BitVec 32) (k1_t3 : Fin k1_t3_loop.trips) (k1_t6 : Fin (k1_t6_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_68 : BitVec 32 := 1#32
  let v134 : BitVec 32 := Scalar.addi v126 c1_i32_68
  let c16_i32_69 : BitVec 32 := 16#32
  let v135 : BitVec 32 := Scalar.muli v134 c16_i32_69
  let v136 : BitVec 32 := Scalar.addi v72 v135
  let c8176_i32 : BitVec 32 := 8176#32
  let v137 : BitVec 32 := Scalar.minsi v136 c8176_i32
  let v138 : BitVec 32 := v137
  let v142 : BitVec 32 := Scalar.addi v31 v138
  let c768_i32_70 : BitVec 32 := 768#32
  let v143 : BitVec 32 := Scalar.muli v142 c768_i32_70
  ![v143.toNat]
def k1_mult7 (v37 : BitVec 32) (v40 : BitVec 32) (v43 : BitVec 32) (k1_t3 : Fin k1_t3_loop.trips) (k1_t6 : Fin (k1_t6_loop v37 v40 v43 k1_t3).trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c2_i32_295 : BitVec 32 := 2#32
  let v449 : BitVec 32 := Scalar.addi v126 c2_i32_295
  let c16_i32_296 : BitVec 32 := 16#32
  let v450 : BitVec 32 := Scalar.muli v449 c16_i32_296
  let v451 : BitVec 32 := Scalar.addi v72 v450
  let c8176_i32_297 : BitVec 32 := 8176#32
  let v452 : BitVec 32 := Scalar.minsi v451 c8176_i32_297
  v452
def k1_cond5 (v37 : BitVec 32) (v40 : BitVec 32) (v43 : BitVec 32) (k1_t3 : Fin k1_t3_loop.trips) (k1_t6 : Fin (k1_t6_loop v37 v40 v43 k1_t3).trips) : BitVec 1 :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c2_i32_71 : BitVec 32 := 2#32
  let v146 : BitVec 32 := Scalar.addi v126 c2_i32_71
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let v147 : BitVec 1 := Scalar.cmpi .slt v146 v92
  let v148 : BitVec 32 := Scalar.extui v147
  let c0_i32_72 : BitVec 32 := 0#32
  let v149 : BitVec 1 := Scalar.cmpi .ne v148 c0_i32_72
  v149

def k1_off45 (i : grid1.Coords) (v37 : BitVec 32) (v40 : BitVec 32) (v43 : BitVec 32) (k1_t3 : Fin k1_t3_loop.trips) (k1_t6 : Fin (k1_t6_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c2_i32_295 : BitVec 32 := 2#32
  let v449 : BitVec 32 := Scalar.addi v126 c2_i32_295
  let c16_i32_296 : BitVec 32 := 16#32
  let v450 : BitVec 32 := Scalar.muli v449 c16_i32_296
  let v451 : BitVec 32 := Scalar.addi v72 v450
  let c8176_i32_297 : BitVec 32 := 8176#32
  let v452 : BitVec 32 := Scalar.minsi v451 c8176_i32_297
  let v453 : BitVec 32 := v452
  let v454 : BitVec 32 := Scalar.addi v31 v453
  ![v454.toNat]
def k1_off46 (i : grid1.Coords) (v37 : BitVec 32) (v40 : BitVec 32) (v43 : BitVec 32) (k1_t3 : Fin k1_t3_loop.trips) (k1_t6 : Fin (k1_t6_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c2_i32_295 : BitVec 32 := 2#32
  let v449 : BitVec 32 := Scalar.addi v126 c2_i32_295
  let c16_i32_296 : BitVec 32 := 16#32
  let v450 : BitVec 32 := Scalar.muli v449 c16_i32_296
  let v451 : BitVec 32 := Scalar.addi v72 v450
  let c8176_i32_297 : BitVec 32 := 8176#32
  let v452 : BitVec 32 := Scalar.minsi v451 c8176_i32_297
  let v453 : BitVec 32 := v452
  let v457 : BitVec 32 := Scalar.addi v31 v453
  let c768_i32_298 : BitVec 32 := 768#32
  let v458 : BitVec 32 := Scalar.muli v457 c768_i32_298
  ![v458.toNat]
def k1_mult8 (v37 : BitVec 32) (v40 : BitVec 32) (v43 : BitVec 32) (k1_t3 : Fin k1_t3_loop.trips) (k1_t6 : Fin (k1_t6_loop v37 v40 v43 k1_t3).trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  v153

def k1_chk19 (v37 : BitVec 32) (v40 : BitVec 32) (v43 : BitVec 32) (k1_t3 : Fin k1_t3_loop.trips) (k1_t6 : Fin (k1_t6_loop v37 v40 v43 k1_t3).trips) (v176 : IVec S16 32) : Prop :=
  (∀ (k1_h4 : k1_cond4 v37 v40 v43 k1_t3 k1_t6 = 1#1), ∀ a x, ((![v176] : Fin 1 → IVec S16 32) a x).toNat < S144.size a)
theorem k1_idx2_inb : ∀ (v37 : BitVec 32) (v40 : BitVec 32) (v43 : BitVec 32) (k1_t3 : Fin k1_t3_loop.trips) (k1_t6 : Fin (k1_t6_loop v37 v40 v43 k1_t3).trips) (v176 : IVec S16 32) (k1_hw19 : k1_chk19 v37 v40 v43 k1_t3 k1_t6 v176), ∀ (k1_h4 : k1_cond4 v37 v40 v43 k1_t3 k1_t6 = 1#1), ∀ a x, ((![v176] : Fin 1 → IVec S16 32) a x).toNat < S144.size a := fun v37 v40 v43 k1_t3 k1_t6 v176 k1_hw19 k1_h4 => k1_hw19 k1_h4
@[reducible] def k1_t23_loop : Scf.Loop 32 :=
  let c0_i32_93 : BitVec 32 := 0#32
  let c48_i32 : BitVec 32 := 48#32
  let v193 : BitVec 32 := Scalar.addi c0_i32_93 c48_i32
  let c1_i32_94 : BitVec 32 := 1#32
  ⟨c0_i32_93, v193, c1_i32_94⟩
def k1_off47 (i : grid1.Coords) (v37 : BitVec 32) (v40 : BitVec 32) (v43 : BitVec 32) (k1_t3 : Fin k1_t3_loop.trips) (k1_t6 : Fin (k1_t6_loop v37 v40 v43 k1_t3).trips) (v181 : BitVec 32) (k1_t23 : Fin k1_t23_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_83 : BitVec 32 := 16#32
  let v177 : BitVec 32 := Scalar.muli v150 c16_i32_83
  let c0_i32_84 : BitVec 32 := 0#32
  let v178 : BitVec 32 := Scalar.addi v177 c0_i32_84
  let c0_i32_85 : BitVec 32 := 0#32
  let v179 : BitVec 32 := Scalar.addi v178 c0_i32_85
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v183 : BitVec 1 := Scalar.cmpi .slt v179 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v182 : BitVec 32 := Scalar.subi v181 v48
  let c0_i32_86 : BitVec 32 := 0#32
  let v184 : BitVec 1 := Scalar.cmpi .sge v182 c0_i32_86
  let v185 : BitVec 1 := Scalar.andi v183 v184
  let c128_i32_87 : BitVec 32 := 128#32
  let v186 : BitVec 1 := Scalar.cmpi .slt v182 c128_i32_87
  let v187 : BitVec 1 := Scalar.andi v185 v186
  let c128_i32_88 : BitVec 32 := 128#32
  let v188 : BitVec 32 := Scalar.select v187 v182 c128_i32_88
  let c768_i32_89 : BitVec 32 := 768#32
  let v189 : BitVec 32 := Scalar.muli v188 c768_i32_89
  let c0_i32_296 : BitVec 32 := 0#32
  let c0_i32_93 : BitVec 32 := 0#32
  let c1_i32_94 : BitVec 32 := 1#32
  let arg21 : BitVec 32 := Scf.iv c0_i32_93 c1_i32_94 k1_t23
  let c16_i32_295 : BitVec 32 := 16#32
  let v449 : BitVec 32 := Scalar.muli arg21 c16_i32_295
  let v450 : BitVec 32 := Scalar.addi c0_i32_296 v449
  let v451 : BitVec 32 := Scalar.addi v189 v450
  let v452 : Index := Scalar.indexCast v451
  ![v452.toNat]

def k1_chk20 (i : grid1.Coords) (v37 : BitVec 32) (v40 : BitVec 32) (v43 : BitVec 32) (k1_t3 : Fin k1_t3_loop.trips) (k1_t6 : Fin (k1_t6_loop v37 v40 v43 k1_t3).trips) (v181 : BitVec 32) : Prop :=
  (∀ k1_t23 : Fin k1_t23_loop.trips, ∀ (k1_h4 : k1_cond4 v37 v40 v43 k1_t3 k1_t6 = 1#1), ∀ a, (k1_off47 i v37 v40 v43 k1_t3 k1_t6 v181 k1_t23) a + S16.size a ≤ S99072.size a)
theorem k1_off47_inb : ∀ (i : grid1.Coords) (v37 : BitVec 32) (v40 : BitVec 32) (v43 : BitVec 32) (k1_t3 : Fin k1_t3_loop.trips) (k1_t6 : Fin (k1_t6_loop v37 v40 v43 k1_t3).trips) (v181 : BitVec 32) (k1_hw20 : k1_chk20 i v37 v40 v43 k1_t3 k1_t6 v181) (k1_t23 : Fin k1_t23_loop.trips), ∀ (k1_h4 : k1_cond4 v37 v40 v43 k1_t3 k1_t6 = 1#1), ∀ a, (k1_off47 i v37 v40 v43 k1_t3 k1_t6 v181 k1_t23) a + S16.size a ≤ S99072.size a := fun i v37 v40 v43 k1_t3 k1_t6 v181 k1_hw20 k1_t23 k1_h4 => k1_hw20 k1_t23 k1_h4

def k1_off48 (v37 : BitVec 32) (v40 : BitVec 32) (v43 : BitVec 32) (k1_t3 : Fin k1_t3_loop.trips) (k1_t6 : Fin (k1_t6_loop v37 v40 v43 k1_t3).trips) (k1_t23 : Fin k1_t23_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_90 : BitVec 32 := 0#32
  let v190 : BitVec 32 := Scalar.addi v157 c0_i32_90
  let c0_i32_91 : BitVec 32 := 0#32
  let v191 : BitVec 32 := Scalar.addi v190 c0_i32_91
  let c768_i32_92 : BitVec 32 := 768#32
  let v192 : BitVec 32 := Scalar.muli v191 c768_i32_92
  let c0_i32_296 : BitVec 32 := 0#32
  let c0_i32_93 : BitVec 32 := 0#32
  let c1_i32_94 : BitVec 32 := 1#32
  let arg21 : BitVec 32 := Scf.iv c0_i32_93 c1_i32_94 k1_t23
  let c16_i32_295 : BitVec 32 := 16#32
  let v449 : BitVec 32 := Scalar.muli arg21 c16_i32_295
  let v450 : BitVec 32 := Scalar.addi c0_i32_296 v449
  let v454 : BitVec 32 := Scalar.addi v192 v450
  let v455 : Index := Scalar.indexCast v454
  ![v455.toNat]
@[reducible] def k1_t24_loop : Scf.Loop 32 :=
  let c0_i32_106 : BitVec 32 := 0#32
  let c48_i32_107 : BitVec 32 := 48#32
  let v210 : BitVec 32 := Scalar.addi c0_i32_106 c48_i32_107
  let c1_i32_108 : BitVec 32 := 1#32
  ⟨c0_i32_106, v210, c1_i32_108⟩
def k1_off49 (i : grid1.Coords) (v37 : BitVec 32) (v40 : BitVec 32) (v43 : BitVec 32) (k1_t3 : Fin k1_t3_loop.trips) (k1_t6 : Fin (k1_t6_loop v37 v40 v43 k1_t3).trips) (v198 : BitVec 32) (k1_t24 : Fin k1_t24_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_96 : BitVec 32 := 16#32
  let v194 : BitVec 32 := Scalar.muli v150 c16_i32_96
  let c0_i32_97 : BitVec 32 := 0#32
  let v195 : BitVec 32 := Scalar.addi v194 c0_i32_97
  let c1_i32_98 : BitVec 32 := 1#32
  let v196 : BitVec 32 := Scalar.addi v195 c1_i32_98
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v200 : BitVec 1 := Scalar.cmpi .slt v196 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v199 : BitVec 32 := Scalar.subi v198 v48
  let c0_i32_99 : BitVec 32 := 0#32
  let v201 : BitVec 1 := Scalar.cmpi .sge v199 c0_i32_99
  let v202 : BitVec 1 := Scalar.andi v200 v201
  let c128_i32_100 : BitVec 32 := 128#32
  let v203 : BitVec 1 := Scalar.cmpi .slt v199 c128_i32_100
  let v204 : BitVec 1 := Scalar.andi v202 v203
  let c128_i32_101 : BitVec 32 := 128#32
  let v205 : BitVec 32 := Scalar.select v204 v199 c128_i32_101
  let c768_i32_102 : BitVec 32 := 768#32
  let v206 : BitVec 32 := Scalar.muli v205 c768_i32_102
  let c0_i32_296 : BitVec 32 := 0#32
  let c0_i32_106 : BitVec 32 := 0#32
  let c1_i32_108 : BitVec 32 := 1#32
  let arg21 : BitVec 32 := Scf.iv c0_i32_106 c1_i32_108 k1_t24
  let c16_i32_295 : BitVec 32 := 16#32
  let v449 : BitVec 32 := Scalar.muli arg21 c16_i32_295
  let v450 : BitVec 32 := Scalar.addi c0_i32_296 v449
  let v451 : BitVec 32 := Scalar.addi v206 v450
  let v452 : Index := Scalar.indexCast v451
  ![v452.toNat]

def k1_chk21 (i : grid1.Coords) (v37 : BitVec 32) (v40 : BitVec 32) (v43 : BitVec 32) (k1_t3 : Fin k1_t3_loop.trips) (k1_t6 : Fin (k1_t6_loop v37 v40 v43 k1_t3).trips) (v198 : BitVec 32) : Prop :=
  (∀ k1_t24 : Fin k1_t24_loop.trips, ∀ (k1_h4 : k1_cond4 v37 v40 v43 k1_t3 k1_t6 = 1#1), ∀ a, (k1_off49 i v37 v40 v43 k1_t3 k1_t6 v198 k1_t24) a + S16.size a ≤ S99072.size a)
theorem k1_off49_inb : ∀ (i : grid1.Coords) (v37 : BitVec 32) (v40 : BitVec 32) (v43 : BitVec 32) (k1_t3 : Fin k1_t3_loop.trips) (k1_t6 : Fin (k1_t6_loop v37 v40 v43 k1_t3).trips) (v198 : BitVec 32) (k1_hw21 : k1_chk21 i v37 v40 v43 k1_t3 k1_t6 v198) (k1_t24 : Fin k1_t24_loop.trips), ∀ (k1_h4 : k1_cond4 v37 v40 v43 k1_t3 k1_t6 = 1#1), ∀ a, (k1_off49 i v37 v40 v43 k1_t3 k1_t6 v198 k1_t24) a + S16.size a ≤ S99072.size a := fun i v37 v40 v43 k1_t3 k1_t6 v198 k1_hw21 k1_t24 k1_h4 => k1_hw21 k1_t24 k1_h4

def k1_off50 (v37 : BitVec 32) (v40 : BitVec 32) (v43 : BitVec 32) (k1_t3 : Fin k1_t3_loop.trips) (k1_t6 : Fin (k1_t6_loop v37 v40 v43 k1_t3).trips) (k1_t24 : Fin k1_t24_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_103 : BitVec 32 := 0#32
  let v207 : BitVec 32 := Scalar.addi v157 c0_i32_103
  let c1_i32_104 : BitVec 32 := 1#32
  let v208 : BitVec 32 := Scalar.addi v207 c1_i32_104
  let c768_i32_105 : BitVec 32 := 768#32
  let v209 : BitVec 32 := Scalar.muli v208 c768_i32_105
  let c0_i32_296 : BitVec 32 := 0#32
  let c0_i32_106 : BitVec 32 := 0#32
  let c1_i32_108 : BitVec 32 := 1#32
  let arg21 : BitVec 32 := Scf.iv c0_i32_106 c1_i32_108 k1_t24
  let c16_i32_295 : BitVec 32 := 16#32
  let v449 : BitVec 32 := Scalar.muli arg21 c16_i32_295
  let v450 : BitVec 32 := Scalar.addi c0_i32_296 v449
  let v454 : BitVec 32 := Scalar.addi v209 v450
  let v455 : Index := Scalar.indexCast v454
  ![v455.toNat]
@[reducible] def k1_t25_loop : Scf.Loop 32 :=
  let c0_i32_120 : BitVec 32 := 0#32
  let c48_i32_121 : BitVec 32 := 48#32
  let v227 : BitVec 32 := Scalar.addi c0_i32_120 c48_i32_121
  let c1_i32_122 : BitVec 32 := 1#32
  ⟨c0_i32_120, v227, c1_i32_122⟩
def k1_off51 (i : grid1.Coords) (v37 : BitVec 32) (v40 : BitVec 32) (v43 : BitVec 32) (k1_t3 : Fin k1_t3_loop.trips) (k1_t6 : Fin (k1_t6_loop v37 v40 v43 k1_t3).trips) (v215 : BitVec 32) (k1_t25 : Fin k1_t25_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_110 : BitVec 32 := 16#32
  let v211 : BitVec 32 := Scalar.muli v150 c16_i32_110
  let c0_i32_111 : BitVec 32 := 0#32
  let v212 : BitVec 32 := Scalar.addi v211 c0_i32_111
  let c2_i32_112 : BitVec 32 := 2#32
  let v213 : BitVec 32 := Scalar.addi v212 c2_i32_112
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v217 : BitVec 1 := Scalar.cmpi .slt v213 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v216 : BitVec 32 := Scalar.subi v215 v48
  let c0_i32_113 : BitVec 32 := 0#32
  let v218 : BitVec 1 := Scalar.cmpi .sge v216 c0_i32_113
  let v219 : BitVec 1 := Scalar.andi v217 v218
  let c128_i32_114 : BitVec 32 := 128#32
  let v220 : BitVec 1 := Scalar.cmpi .slt v216 c128_i32_114
  let v221 : BitVec 1 := Scalar.andi v219 v220
  let c128_i32_115 : BitVec 32 := 128#32
  let v222 : BitVec 32 := Scalar.select v221 v216 c128_i32_115
  let c768_i32_116 : BitVec 32 := 768#32
  let v223 : BitVec 32 := Scalar.muli v222 c768_i32_116
  let c0_i32_296 : BitVec 32 := 0#32
  let c0_i32_120 : BitVec 32 := 0#32
  let c1_i32_122 : BitVec 32 := 1#32
  let arg21 : BitVec 32 := Scf.iv c0_i32_120 c1_i32_122 k1_t25
  let c16_i32_295 : BitVec 32 := 16#32
  let v449 : BitVec 32 := Scalar.muli arg21 c16_i32_295
  let v450 : BitVec 32 := Scalar.addi c0_i32_296 v449
  let v451 : BitVec 32 := Scalar.addi v223 v450
  let v452 : Index := Scalar.indexCast v451
  ![v452.toNat]

def k1_chk22 (i : grid1.Coords) (v37 : BitVec 32) (v40 : BitVec 32) (v43 : BitVec 32) (k1_t3 : Fin k1_t3_loop.trips) (k1_t6 : Fin (k1_t6_loop v37 v40 v43 k1_t3).trips) (v215 : BitVec 32) : Prop :=
  (∀ k1_t25 : Fin k1_t25_loop.trips, ∀ (k1_h4 : k1_cond4 v37 v40 v43 k1_t3 k1_t6 = 1#1), ∀ a, (k1_off51 i v37 v40 v43 k1_t3 k1_t6 v215 k1_t25) a + S16.size a ≤ S99072.size a)
theorem k1_off51_inb : ∀ (i : grid1.Coords) (v37 : BitVec 32) (v40 : BitVec 32) (v43 : BitVec 32) (k1_t3 : Fin k1_t3_loop.trips) (k1_t6 : Fin (k1_t6_loop v37 v40 v43 k1_t3).trips) (v215 : BitVec 32) (k1_hw22 : k1_chk22 i v37 v40 v43 k1_t3 k1_t6 v215) (k1_t25 : Fin k1_t25_loop.trips), ∀ (k1_h4 : k1_cond4 v37 v40 v43 k1_t3 k1_t6 = 1#1), ∀ a, (k1_off51 i v37 v40 v43 k1_t3 k1_t6 v215 k1_t25) a + S16.size a ≤ S99072.size a := fun i v37 v40 v43 k1_t3 k1_t6 v215 k1_hw22 k1_t25 k1_h4 => k1_hw22 k1_t25 k1_h4

def k1_off52 (v37 : BitVec 32) (v40 : BitVec 32) (v43 : BitVec 32) (k1_t3 : Fin k1_t3_loop.trips) (k1_t6 : Fin (k1_t6_loop v37 v40 v43 k1_t3).trips) (k1_t25 : Fin k1_t25_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_117 : BitVec 32 := 0#32
  let v224 : BitVec 32 := Scalar.addi v157 c0_i32_117
  let c2_i32_118 : BitVec 32 := 2#32
  let v225 : BitVec 32 := Scalar.addi v224 c2_i32_118
  let c768_i32_119 : BitVec 32 := 768#32
  let v226 : BitVec 32 := Scalar.muli v225 c768_i32_119
  let c0_i32_296 : BitVec 32 := 0#32
  let c0_i32_120 : BitVec 32 := 0#32
  let c1_i32_122 : BitVec 32 := 1#32
  let arg21 : BitVec 32 := Scf.iv c0_i32_120 c1_i32_122 k1_t25
  let c16_i32_295 : BitVec 32 := 16#32
  let v449 : BitVec 32 := Scalar.muli arg21 c16_i32_295
  let v450 : BitVec 32 := Scalar.addi c0_i32_296 v449
  let v454 : BitVec 32 := Scalar.addi v226 v450
  let v455 : Index := Scalar.indexCast v454
  ![v455.toNat]
@[reducible] def k1_t26_loop : Scf.Loop 32 :=
  let c0_i32_133 : BitVec 32 := 0#32
  let c48_i32_134 : BitVec 32 := 48#32
  let v244 : BitVec 32 := Scalar.addi c0_i32_133 c48_i32_134
  let c1_i32_135 : BitVec 32 := 1#32
  ⟨c0_i32_133, v244, c1_i32_135⟩
def k1_off53 (i : grid1.Coords) (v37 : BitVec 32) (v40 : BitVec 32) (v43 : BitVec 32) (k1_t3 : Fin k1_t3_loop.trips) (k1_t6 : Fin (k1_t6_loop v37 v40 v43 k1_t3).trips) (v232 : BitVec 32) (k1_t26 : Fin k1_t26_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_124 : BitVec 32 := 16#32
  let v228 : BitVec 32 := Scalar.muli v150 c16_i32_124
  let c0_i32_125 : BitVec 32 := 0#32
  let v229 : BitVec 32 := Scalar.addi v228 c0_i32_125
  let c3_i32 : BitVec 32 := 3#32
  let v230 : BitVec 32 := Scalar.addi v229 c3_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v234 : BitVec 1 := Scalar.cmpi .slt v230 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v233 : BitVec 32 := Scalar.subi v232 v48
  let c0_i32_126 : BitVec 32 := 0#32
  let v235 : BitVec 1 := Scalar.cmpi .sge v233 c0_i32_126
  let v236 : BitVec 1 := Scalar.andi v234 v235
  let c128_i32_127 : BitVec 32 := 128#32
  let v237 : BitVec 1 := Scalar.cmpi .slt v233 c128_i32_127
  let v238 : BitVec 1 := Scalar.andi v236 v237
  let c128_i32_128 : BitVec 32 := 128#32
  let v239 : BitVec 32 := Scalar.select v238 v233 c128_i32_128
  let c768_i32_129 : BitVec 32 := 768#32
  let v240 : BitVec 32 := Scalar.muli v239 c768_i32_129
  let c0_i32_296 : BitVec 32 := 0#32
  let c0_i32_133 : BitVec 32 := 0#32
  let c1_i32_135 : BitVec 32 := 1#32
  let arg21 : BitVec 32 := Scf.iv c0_i32_133 c1_i32_135 k1_t26
  let c16_i32_295 : BitVec 32 := 16#32
  let v449 : BitVec 32 := Scalar.muli arg21 c16_i32_295
  let v450 : BitVec 32 := Scalar.addi c0_i32_296 v449
  let v451 : BitVec 32 := Scalar.addi v240 v450
  let v452 : Index := Scalar.indexCast v451
  ![v452.toNat]

def k1_chk23 (i : grid1.Coords) (v37 : BitVec 32) (v40 : BitVec 32) (v43 : BitVec 32) (k1_t3 : Fin k1_t3_loop.trips) (k1_t6 : Fin (k1_t6_loop v37 v40 v43 k1_t3).trips) (v232 : BitVec 32) : Prop :=
  (∀ k1_t26 : Fin k1_t26_loop.trips, ∀ (k1_h4 : k1_cond4 v37 v40 v43 k1_t3 k1_t6 = 1#1), ∀ a, (k1_off53 i v37 v40 v43 k1_t3 k1_t6 v232 k1_t26) a + S16.size a ≤ S99072.size a)
theorem k1_off53_inb : ∀ (i : grid1.Coords) (v37 : BitVec 32) (v40 : BitVec 32) (v43 : BitVec 32) (k1_t3 : Fin k1_t3_loop.trips) (k1_t6 : Fin (k1_t6_loop v37 v40 v43 k1_t3).trips) (v232 : BitVec 32) (k1_hw23 : k1_chk23 i v37 v40 v43 k1_t3 k1_t6 v232) (k1_t26 : Fin k1_t26_loop.trips), ∀ (k1_h4 : k1_cond4 v37 v40 v43 k1_t3 k1_t6 = 1#1), ∀ a, (k1_off53 i v37 v40 v43 k1_t3 k1_t6 v232 k1_t26) a + S16.size a ≤ S99072.size a := fun i v37 v40 v43 k1_t3 k1_t6 v232 k1_hw23 k1_t26 k1_h4 => k1_hw23 k1_t26 k1_h4

def k1_off54 (v37 : BitVec 32) (v40 : BitVec 32) (v43 : BitVec 32) (k1_t3 : Fin k1_t3_loop.trips) (k1_t6 : Fin (k1_t6_loop v37 v40 v43 k1_t3).trips) (k1_t26 : Fin k1_t26_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_130 : BitVec 32 := 0#32
  let v241 : BitVec 32 := Scalar.addi v157 c0_i32_130
  let c3_i32_131 : BitVec 32 := 3#32
  let v242 : BitVec 32 := Scalar.addi v241 c3_i32_131
  let c768_i32_132 : BitVec 32 := 768#32
  let v243 : BitVec 32 := Scalar.muli v242 c768_i32_132
  let c0_i32_296 : BitVec 32 := 0#32
  let c0_i32_133 : BitVec 32 := 0#32
  let c1_i32_135 : BitVec 32 := 1#32
  let arg21 : BitVec 32 := Scf.iv c0_i32_133 c1_i32_135 k1_t26
  let c16_i32_295 : BitVec 32 := 16#32
  let v449 : BitVec 32 := Scalar.muli arg21 c16_i32_295
  let v450 : BitVec 32 := Scalar.addi c0_i32_296 v449
  let v454 : BitVec 32 := Scalar.addi v243 v450
  let v455 : Index := Scalar.indexCast v454
  ![v455.toNat]
@[reducible] def k1_t27_loop : Scf.Loop 32 :=
  let c0_i32_146 : BitVec 32 := 0#32
  let c48_i32_147 : BitVec 32 := 48#32
  let v261 : BitVec 32 := Scalar.addi c0_i32_146 c48_i32_147
  let c1_i32_148 : BitVec 32 := 1#32
  ⟨c0_i32_146, v261, c1_i32_148⟩
def k1_off55 (i : grid1.Coords) (v37 : BitVec 32) (v40 : BitVec 32) (v43 : BitVec 32) (k1_t3 : Fin k1_t3_loop.trips) (k1_t6 : Fin (k1_t6_loop v37 v40 v43 k1_t3).trips) (v249 : BitVec 32) (k1_t27 : Fin k1_t27_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_137 : BitVec 32 := 16#32
  let v245 : BitVec 32 := Scalar.muli v150 c16_i32_137
  let c0_i32_138 : BitVec 32 := 0#32
  let v246 : BitVec 32 := Scalar.addi v245 c0_i32_138
  let c4_i32 : BitVec 32 := 4#32
  let v247 : BitVec 32 := Scalar.addi v246 c4_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v251 : BitVec 1 := Scalar.cmpi .slt v247 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v250 : BitVec 32 := Scalar.subi v249 v48
  let c0_i32_139 : BitVec 32 := 0#32
  let v252 : BitVec 1 := Scalar.cmpi .sge v250 c0_i32_139
  let v253 : BitVec 1 := Scalar.andi v251 v252
  let c128_i32_140 : BitVec 32 := 128#32
  let v254 : BitVec 1 := Scalar.cmpi .slt v250 c128_i32_140
  let v255 : BitVec 1 := Scalar.andi v253 v254
  let c128_i32_141 : BitVec 32 := 128#32
  let v256 : BitVec 32 := Scalar.select v255 v250 c128_i32_141
  let c768_i32_142 : BitVec 32 := 768#32
  let v257 : BitVec 32 := Scalar.muli v256 c768_i32_142
  let c0_i32_296 : BitVec 32 := 0#32
  let c0_i32_146 : BitVec 32 := 0#32
  let c1_i32_148 : BitVec 32 := 1#32
  let arg21 : BitVec 32 := Scf.iv c0_i32_146 c1_i32_148 k1_t27
  let c16_i32_295 : BitVec 32 := 16#32
  let v449 : BitVec 32 := Scalar.muli arg21 c16_i32_295
  let v450 : BitVec 32 := Scalar.addi c0_i32_296 v449
  let v451 : BitVec 32 := Scalar.addi v257 v450
  let v452 : Index := Scalar.indexCast v451
  ![v452.toNat]

def k1_chk24 (i : grid1.Coords) (v37 : BitVec 32) (v40 : BitVec 32) (v43 : BitVec 32) (k1_t3 : Fin k1_t3_loop.trips) (k1_t6 : Fin (k1_t6_loop v37 v40 v43 k1_t3).trips) (v249 : BitVec 32) : Prop :=
  (∀ k1_t27 : Fin k1_t27_loop.trips, ∀ (k1_h4 : k1_cond4 v37 v40 v43 k1_t3 k1_t6 = 1#1), ∀ a, (k1_off55 i v37 v40 v43 k1_t3 k1_t6 v249 k1_t27) a + S16.size a ≤ S99072.size a)
theorem k1_off55_inb : ∀ (i : grid1.Coords) (v37 : BitVec 32) (v40 : BitVec 32) (v43 : BitVec 32) (k1_t3 : Fin k1_t3_loop.trips) (k1_t6 : Fin (k1_t6_loop v37 v40 v43 k1_t3).trips) (v249 : BitVec 32) (k1_hw24 : k1_chk24 i v37 v40 v43 k1_t3 k1_t6 v249) (k1_t27 : Fin k1_t27_loop.trips), ∀ (k1_h4 : k1_cond4 v37 v40 v43 k1_t3 k1_t6 = 1#1), ∀ a, (k1_off55 i v37 v40 v43 k1_t3 k1_t6 v249 k1_t27) a + S16.size a ≤ S99072.size a := fun i v37 v40 v43 k1_t3 k1_t6 v249 k1_hw24 k1_t27 k1_h4 => k1_hw24 k1_t27 k1_h4

def k1_off56 (v37 : BitVec 32) (v40 : BitVec 32) (v43 : BitVec 32) (k1_t3 : Fin k1_t3_loop.trips) (k1_t6 : Fin (k1_t6_loop v37 v40 v43 k1_t3).trips) (k1_t27 : Fin k1_t27_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_143 : BitVec 32 := 0#32
  let v258 : BitVec 32 := Scalar.addi v157 c0_i32_143
  let c4_i32_144 : BitVec 32 := 4#32
  let v259 : BitVec 32 := Scalar.addi v258 c4_i32_144
  let c768_i32_145 : BitVec 32 := 768#32
  let v260 : BitVec 32 := Scalar.muli v259 c768_i32_145
  let c0_i32_296 : BitVec 32 := 0#32
  let c0_i32_146 : BitVec 32 := 0#32
  let c1_i32_148 : BitVec 32 := 1#32
  let arg21 : BitVec 32 := Scf.iv c0_i32_146 c1_i32_148 k1_t27
  let c16_i32_295 : BitVec 32 := 16#32
  let v449 : BitVec 32 := Scalar.muli arg21 c16_i32_295
  let v450 : BitVec 32 := Scalar.addi c0_i32_296 v449
  let v454 : BitVec 32 := Scalar.addi v260 v450
  let v455 : Index := Scalar.indexCast v454
  ![v455.toNat]
@[reducible] def k1_t28_loop : Scf.Loop 32 :=
  let c0_i32_159 : BitVec 32 := 0#32
  let c48_i32_160 : BitVec 32 := 48#32
  let v278 : BitVec 32 := Scalar.addi c0_i32_159 c48_i32_160
  let c1_i32_161 : BitVec 32 := 1#32
  ⟨c0_i32_159, v278, c1_i32_161⟩
def k1_off57 (i : grid1.Coords) (v37 : BitVec 32) (v40 : BitVec 32) (v43 : BitVec 32) (k1_t3 : Fin k1_t3_loop.trips) (k1_t6 : Fin (k1_t6_loop v37 v40 v43 k1_t3).trips) (v266 : BitVec 32) (k1_t28 : Fin k1_t28_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_150 : BitVec 32 := 16#32
  let v262 : BitVec 32 := Scalar.muli v150 c16_i32_150
  let c0_i32_151 : BitVec 32 := 0#32
  let v263 : BitVec 32 := Scalar.addi v262 c0_i32_151
  let c5_i32 : BitVec 32 := 5#32
  let v264 : BitVec 32 := Scalar.addi v263 c5_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v268 : BitVec 1 := Scalar.cmpi .slt v264 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v267 : BitVec 32 := Scalar.subi v266 v48
  let c0_i32_152 : BitVec 32 := 0#32
  let v269 : BitVec 1 := Scalar.cmpi .sge v267 c0_i32_152
  let v270 : BitVec 1 := Scalar.andi v268 v269
  let c128_i32_153 : BitVec 32 := 128#32
  let v271 : BitVec 1 := Scalar.cmpi .slt v267 c128_i32_153
  let v272 : BitVec 1 := Scalar.andi v270 v271
  let c128_i32_154 : BitVec 32 := 128#32
  let v273 : BitVec 32 := Scalar.select v272 v267 c128_i32_154
  let c768_i32_155 : BitVec 32 := 768#32
  let v274 : BitVec 32 := Scalar.muli v273 c768_i32_155
  let c0_i32_296 : BitVec 32 := 0#32
  let c0_i32_159 : BitVec 32 := 0#32
  let c1_i32_161 : BitVec 32 := 1#32
  let arg21 : BitVec 32 := Scf.iv c0_i32_159 c1_i32_161 k1_t28
  let c16_i32_295 : BitVec 32 := 16#32
  let v449 : BitVec 32 := Scalar.muli arg21 c16_i32_295
  let v450 : BitVec 32 := Scalar.addi c0_i32_296 v449
  let v451 : BitVec 32 := Scalar.addi v274 v450
  let v452 : Index := Scalar.indexCast v451
  ![v452.toNat]

def k1_chk25 (i : grid1.Coords) (v37 : BitVec 32) (v40 : BitVec 32) (v43 : BitVec 32) (k1_t3 : Fin k1_t3_loop.trips) (k1_t6 : Fin (k1_t6_loop v37 v40 v43 k1_t3).trips) (v266 : BitVec 32) : Prop :=
  (∀ k1_t28 : Fin k1_t28_loop.trips, ∀ (k1_h4 : k1_cond4 v37 v40 v43 k1_t3 k1_t6 = 1#1), ∀ a, (k1_off57 i v37 v40 v43 k1_t3 k1_t6 v266 k1_t28) a + S16.size a ≤ S99072.size a)
theorem k1_off57_inb : ∀ (i : grid1.Coords) (v37 : BitVec 32) (v40 : BitVec 32) (v43 : BitVec 32) (k1_t3 : Fin k1_t3_loop.trips) (k1_t6 : Fin (k1_t6_loop v37 v40 v43 k1_t3).trips) (v266 : BitVec 32) (k1_hw25 : k1_chk25 i v37 v40 v43 k1_t3 k1_t6 v266) (k1_t28 : Fin k1_t28_loop.trips), ∀ (k1_h4 : k1_cond4 v37 v40 v43 k1_t3 k1_t6 = 1#1), ∀ a, (k1_off57 i v37 v40 v43 k1_t3 k1_t6 v266 k1_t28) a + S16.size a ≤ S99072.size a := fun i v37 v40 v43 k1_t3 k1_t6 v266 k1_hw25 k1_t28 k1_h4 => k1_hw25 k1_t28 k1_h4

def k1_off58 (v37 : BitVec 32) (v40 : BitVec 32) (v43 : BitVec 32) (k1_t3 : Fin k1_t3_loop.trips) (k1_t6 : Fin (k1_t6_loop v37 v40 v43 k1_t3).trips) (k1_t28 : Fin k1_t28_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_156 : BitVec 32 := 0#32
  let v275 : BitVec 32 := Scalar.addi v157 c0_i32_156
  let c5_i32_157 : BitVec 32 := 5#32
  let v276 : BitVec 32 := Scalar.addi v275 c5_i32_157
  let c768_i32_158 : BitVec 32 := 768#32
  let v277 : BitVec 32 := Scalar.muli v276 c768_i32_158
  let c0_i32_296 : BitVec 32 := 0#32
  let c0_i32_159 : BitVec 32 := 0#32
  let c1_i32_161 : BitVec 32 := 1#32
  let arg21 : BitVec 32 := Scf.iv c0_i32_159 c1_i32_161 k1_t28
  let c16_i32_295 : BitVec 32 := 16#32
  let v449 : BitVec 32 := Scalar.muli arg21 c16_i32_295
  let v450 : BitVec 32 := Scalar.addi c0_i32_296 v449
  let v454 : BitVec 32 := Scalar.addi v277 v450
  let v455 : Index := Scalar.indexCast v454
  ![v455.toNat]
@[reducible] def k1_t29_loop : Scf.Loop 32 :=
  let c0_i32_172 : BitVec 32 := 0#32
  let c48_i32_173 : BitVec 32 := 48#32
  let v295 : BitVec 32 := Scalar.addi c0_i32_172 c48_i32_173
  let c1_i32_174 : BitVec 32 := 1#32
  ⟨c0_i32_172, v295, c1_i32_174⟩
def k1_off59 (i : grid1.Coords) (v37 : BitVec 32) (v40 : BitVec 32) (v43 : BitVec 32) (k1_t3 : Fin k1_t3_loop.trips) (k1_t6 : Fin (k1_t6_loop v37 v40 v43 k1_t3).trips) (v283 : BitVec 32) (k1_t29 : Fin k1_t29_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_163 : BitVec 32 := 16#32
  let v279 : BitVec 32 := Scalar.muli v150 c16_i32_163
  let c0_i32_164 : BitVec 32 := 0#32
  let v280 : BitVec 32 := Scalar.addi v279 c0_i32_164
  let c6_i32 : BitVec 32 := 6#32
  let v281 : BitVec 32 := Scalar.addi v280 c6_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v285 : BitVec 1 := Scalar.cmpi .slt v281 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v284 : BitVec 32 := Scalar.subi v283 v48
  let c0_i32_165 : BitVec 32 := 0#32
  let v286 : BitVec 1 := Scalar.cmpi .sge v284 c0_i32_165
  let v287 : BitVec 1 := Scalar.andi v285 v286
  let c128_i32_166 : BitVec 32 := 128#32
  let v288 : BitVec 1 := Scalar.cmpi .slt v284 c128_i32_166
  let v289 : BitVec 1 := Scalar.andi v287 v288
  let c128_i32_167 : BitVec 32 := 128#32
  let v290 : BitVec 32 := Scalar.select v289 v284 c128_i32_167
  let c768_i32_168 : BitVec 32 := 768#32
  let v291 : BitVec 32 := Scalar.muli v290 c768_i32_168
  let c0_i32_296 : BitVec 32 := 0#32
  let c0_i32_172 : BitVec 32 := 0#32
  let c1_i32_174 : BitVec 32 := 1#32
  let arg21 : BitVec 32 := Scf.iv c0_i32_172 c1_i32_174 k1_t29
  let c16_i32_295 : BitVec 32 := 16#32
  let v449 : BitVec 32 := Scalar.muli arg21 c16_i32_295
  let v450 : BitVec 32 := Scalar.addi c0_i32_296 v449
  let v451 : BitVec 32 := Scalar.addi v291 v450
  let v452 : Index := Scalar.indexCast v451
  ![v452.toNat]

def k1_chk26 (i : grid1.Coords) (v37 : BitVec 32) (v40 : BitVec 32) (v43 : BitVec 32) (k1_t3 : Fin k1_t3_loop.trips) (k1_t6 : Fin (k1_t6_loop v37 v40 v43 k1_t3).trips) (v283 : BitVec 32) : Prop :=
  (∀ k1_t29 : Fin k1_t29_loop.trips, ∀ (k1_h4 : k1_cond4 v37 v40 v43 k1_t3 k1_t6 = 1#1), ∀ a, (k1_off59 i v37 v40 v43 k1_t3 k1_t6 v283 k1_t29) a + S16.size a ≤ S99072.size a)
theorem k1_off59_inb : ∀ (i : grid1.Coords) (v37 : BitVec 32) (v40 : BitVec 32) (v43 : BitVec 32) (k1_t3 : Fin k1_t3_loop.trips) (k1_t6 : Fin (k1_t6_loop v37 v40 v43 k1_t3).trips) (v283 : BitVec 32) (k1_hw26 : k1_chk26 i v37 v40 v43 k1_t3 k1_t6 v283) (k1_t29 : Fin k1_t29_loop.trips), ∀ (k1_h4 : k1_cond4 v37 v40 v43 k1_t3 k1_t6 = 1#1), ∀ a, (k1_off59 i v37 v40 v43 k1_t3 k1_t6 v283 k1_t29) a + S16.size a ≤ S99072.size a := fun i v37 v40 v43 k1_t3 k1_t6 v283 k1_hw26 k1_t29 k1_h4 => k1_hw26 k1_t29 k1_h4

def k1_off60 (v37 : BitVec 32) (v40 : BitVec 32) (v43 : BitVec 32) (k1_t3 : Fin k1_t3_loop.trips) (k1_t6 : Fin (k1_t6_loop v37 v40 v43 k1_t3).trips) (k1_t29 : Fin k1_t29_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_169 : BitVec 32 := 0#32
  let v292 : BitVec 32 := Scalar.addi v157 c0_i32_169
  let c6_i32_170 : BitVec 32 := 6#32
  let v293 : BitVec 32 := Scalar.addi v292 c6_i32_170
  let c768_i32_171 : BitVec 32 := 768#32
  let v294 : BitVec 32 := Scalar.muli v293 c768_i32_171
  let c0_i32_296 : BitVec 32 := 0#32
  let c0_i32_172 : BitVec 32 := 0#32
  let c1_i32_174 : BitVec 32 := 1#32
  let arg21 : BitVec 32 := Scf.iv c0_i32_172 c1_i32_174 k1_t29
  let c16_i32_295 : BitVec 32 := 16#32
  let v449 : BitVec 32 := Scalar.muli arg21 c16_i32_295
  let v450 : BitVec 32 := Scalar.addi c0_i32_296 v449
  let v454 : BitVec 32 := Scalar.addi v294 v450
  let v455 : Index := Scalar.indexCast v454
  ![v455.toNat]
@[reducible] def k1_t30_loop : Scf.Loop 32 :=
  let c0_i32_185 : BitVec 32 := 0#32
  let c48_i32_186 : BitVec 32 := 48#32
  let v312 : BitVec 32 := Scalar.addi c0_i32_185 c48_i32_186
  let c1_i32_187 : BitVec 32 := 1#32
  ⟨c0_i32_185, v312, c1_i32_187⟩
def k1_off61 (i : grid1.Coords) (v37 : BitVec 32) (v40 : BitVec 32) (v43 : BitVec 32) (k1_t3 : Fin k1_t3_loop.trips) (k1_t6 : Fin (k1_t6_loop v37 v40 v43 k1_t3).trips) (v300 : BitVec 32) (k1_t30 : Fin k1_t30_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_176 : BitVec 32 := 16#32
  let v296 : BitVec 32 := Scalar.muli v150 c16_i32_176
  let c0_i32_177 : BitVec 32 := 0#32
  let v297 : BitVec 32 := Scalar.addi v296 c0_i32_177
  let c7_i32 : BitVec 32 := 7#32
  let v298 : BitVec 32 := Scalar.addi v297 c7_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v302 : BitVec 1 := Scalar.cmpi .slt v298 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v301 : BitVec 32 := Scalar.subi v300 v48
  let c0_i32_178 : BitVec 32 := 0#32
  let v303 : BitVec 1 := Scalar.cmpi .sge v301 c0_i32_178
  let v304 : BitVec 1 := Scalar.andi v302 v303
  let c128_i32_179 : BitVec 32 := 128#32
  let v305 : BitVec 1 := Scalar.cmpi .slt v301 c128_i32_179
  let v306 : BitVec 1 := Scalar.andi v304 v305
  let c128_i32_180 : BitVec 32 := 128#32
  let v307 : BitVec 32 := Scalar.select v306 v301 c128_i32_180
  let c768_i32_181 : BitVec 32 := 768#32
  let v308 : BitVec 32 := Scalar.muli v307 c768_i32_181
  let c0_i32_296 : BitVec 32 := 0#32
  let c0_i32_185 : BitVec 32 := 0#32
  let c1_i32_187 : BitVec 32 := 1#32
  let arg21 : BitVec 32 := Scf.iv c0_i32_185 c1_i32_187 k1_t30
  let c16_i32_295 : BitVec 32 := 16#32
  let v449 : BitVec 32 := Scalar.muli arg21 c16_i32_295
  let v450 : BitVec 32 := Scalar.addi c0_i32_296 v449
  let v451 : BitVec 32 := Scalar.addi v308 v450
  let v452 : Index := Scalar.indexCast v451
  ![v452.toNat]

def k1_chk27 (i : grid1.Coords) (v37 : BitVec 32) (v40 : BitVec 32) (v43 : BitVec 32) (k1_t3 : Fin k1_t3_loop.trips) (k1_t6 : Fin (k1_t6_loop v37 v40 v43 k1_t3).trips) (v300 : BitVec 32) : Prop :=
  (∀ k1_t30 : Fin k1_t30_loop.trips, ∀ (k1_h4 : k1_cond4 v37 v40 v43 k1_t3 k1_t6 = 1#1), ∀ a, (k1_off61 i v37 v40 v43 k1_t3 k1_t6 v300 k1_t30) a + S16.size a ≤ S99072.size a)
theorem k1_off61_inb : ∀ (i : grid1.Coords) (v37 : BitVec 32) (v40 : BitVec 32) (v43 : BitVec 32) (k1_t3 : Fin k1_t3_loop.trips) (k1_t6 : Fin (k1_t6_loop v37 v40 v43 k1_t3).trips) (v300 : BitVec 32) (k1_hw27 : k1_chk27 i v37 v40 v43 k1_t3 k1_t6 v300) (k1_t30 : Fin k1_t30_loop.trips), ∀ (k1_h4 : k1_cond4 v37 v40 v43 k1_t3 k1_t6 = 1#1), ∀ a, (k1_off61 i v37 v40 v43 k1_t3 k1_t6 v300 k1_t30) a + S16.size a ≤ S99072.size a := fun i v37 v40 v43 k1_t3 k1_t6 v300 k1_hw27 k1_t30 k1_h4 => k1_hw27 k1_t30 k1_h4

def k1_off62 (v37 : BitVec 32) (v40 : BitVec 32) (v43 : BitVec 32) (k1_t3 : Fin k1_t3_loop.trips) (k1_t6 : Fin (k1_t6_loop v37 v40 v43 k1_t3).trips) (k1_t30 : Fin k1_t30_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_182 : BitVec 32 := 0#32
  let v309 : BitVec 32 := Scalar.addi v157 c0_i32_182
  let c7_i32_183 : BitVec 32 := 7#32
  let v310 : BitVec 32 := Scalar.addi v309 c7_i32_183
  let c768_i32_184 : BitVec 32 := 768#32
  let v311 : BitVec 32 := Scalar.muli v310 c768_i32_184
  let c0_i32_296 : BitVec 32 := 0#32
  let c0_i32_185 : BitVec 32 := 0#32
  let c1_i32_187 : BitVec 32 := 1#32
  let arg21 : BitVec 32 := Scf.iv c0_i32_185 c1_i32_187 k1_t30
  let c16_i32_295 : BitVec 32 := 16#32
  let v449 : BitVec 32 := Scalar.muli arg21 c16_i32_295
  let v450 : BitVec 32 := Scalar.addi c0_i32_296 v449
  let v454 : BitVec 32 := Scalar.addi v311 v450
  let v455 : Index := Scalar.indexCast v454
  ![v455.toNat]
@[reducible] def k1_t31_loop : Scf.Loop 32 :=
  let c0_i32_199 : BitVec 32 := 0#32
  let c48_i32_200 : BitVec 32 := 48#32
  let v329 : BitVec 32 := Scalar.addi c0_i32_199 c48_i32_200
  let c1_i32_201 : BitVec 32 := 1#32
  ⟨c0_i32_199, v329, c1_i32_201⟩
def k1_off63 (i : grid1.Coords) (v37 : BitVec 32) (v40 : BitVec 32) (v43 : BitVec 32) (k1_t3 : Fin k1_t3_loop.trips) (k1_t6 : Fin (k1_t6_loop v37 v40 v43 k1_t3).trips) (v317 : BitVec 32) (k1_t31 : Fin k1_t31_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_189 : BitVec 32 := 16#32
  let v313 : BitVec 32 := Scalar.muli v150 c16_i32_189
  let c0_i32_190 : BitVec 32 := 0#32
  let v314 : BitVec 32 := Scalar.addi v313 c0_i32_190
  let c8_i32_191 : BitVec 32 := 8#32
  let v315 : BitVec 32 := Scalar.addi v314 c8_i32_191
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v319 : BitVec 1 := Scalar.cmpi .slt v315 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v318 : BitVec 32 := Scalar.subi v317 v48
  let c0_i32_192 : BitVec 32 := 0#32
  let v320 : BitVec 1 := Scalar.cmpi .sge v318 c0_i32_192
  let v321 : BitVec 1 := Scalar.andi v319 v320
  let c128_i32_193 : BitVec 32 := 128#32
  let v322 : BitVec 1 := Scalar.cmpi .slt v318 c128_i32_193
  let v323 : BitVec 1 := Scalar.andi v321 v322
  let c128_i32_194 : BitVec 32 := 128#32
  let v324 : BitVec 32 := Scalar.select v323 v318 c128_i32_194
  let c768_i32_195 : BitVec 32 := 768#32
  let v325 : BitVec 32 := Scalar.muli v324 c768_i32_195
  let c0_i32_296 : BitVec 32 := 0#32
  let c0_i32_199 : BitVec 32 := 0#32
  let c1_i32_201 : BitVec 32 := 1#32
  let arg21 : BitVec 32 := Scf.iv c0_i32_199 c1_i32_201 k1_t31
  let c16_i32_295 : BitVec 32 := 16#32
  let v449 : BitVec 32 := Scalar.muli arg21 c16_i32_295
  let v450 : BitVec 32 := Scalar.addi c0_i32_296 v449
  let v451 : BitVec 32 := Scalar.addi v325 v450
  let v452 : Index := Scalar.indexCast v451
  ![v452.toNat]

def k1_chk28 (i : grid1.Coords) (v37 : BitVec 32) (v40 : BitVec 32) (v43 : BitVec 32) (k1_t3 : Fin k1_t3_loop.trips) (k1_t6 : Fin (k1_t6_loop v37 v40 v43 k1_t3).trips) (v317 : BitVec 32) : Prop :=
  (∀ k1_t31 : Fin k1_t31_loop.trips, ∀ (k1_h4 : k1_cond4 v37 v40 v43 k1_t3 k1_t6 = 1#1), ∀ a, (k1_off63 i v37 v40 v43 k1_t3 k1_t6 v317 k1_t31) a + S16.size a ≤ S99072.size a)
theorem k1_off63_inb : ∀ (i : grid1.Coords) (v37 : BitVec 32) (v40 : BitVec 32) (v43 : BitVec 32) (k1_t3 : Fin k1_t3_loop.trips) (k1_t6 : Fin (k1_t6_loop v37 v40 v43 k1_t3).trips) (v317 : BitVec 32) (k1_hw28 : k1_chk28 i v37 v40 v43 k1_t3 k1_t6 v317) (k1_t31 : Fin k1_t31_loop.trips), ∀ (k1_h4 : k1_cond4 v37 v40 v43 k1_t3 k1_t6 = 1#1), ∀ a, (k1_off63 i v37 v40 v43 k1_t3 k1_t6 v317 k1_t31) a + S16.size a ≤ S99072.size a := fun i v37 v40 v43 k1_t3 k1_t6 v317 k1_hw28 k1_t31 k1_h4 => k1_hw28 k1_t31 k1_h4

def k1_off64 (v37 : BitVec 32) (v40 : BitVec 32) (v43 : BitVec 32) (k1_t3 : Fin k1_t3_loop.trips) (k1_t6 : Fin (k1_t6_loop v37 v40 v43 k1_t3).trips) (k1_t31 : Fin k1_t31_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_196 : BitVec 32 := 0#32
  let v326 : BitVec 32 := Scalar.addi v157 c0_i32_196
  let c8_i32_197 : BitVec 32 := 8#32
  let v327 : BitVec 32 := Scalar.addi v326 c8_i32_197
  let c768_i32_198 : BitVec 32 := 768#32
  let v328 : BitVec 32 := Scalar.muli v327 c768_i32_198
  let c0_i32_296 : BitVec 32 := 0#32
  let c0_i32_199 : BitVec 32 := 0#32
  let c1_i32_201 : BitVec 32 := 1#32
  let arg21 : BitVec 32 := Scf.iv c0_i32_199 c1_i32_201 k1_t31
  let c16_i32_295 : BitVec 32 := 16#32
  let v449 : BitVec 32 := Scalar.muli arg21 c16_i32_295
  let v450 : BitVec 32 := Scalar.addi c0_i32_296 v449
  let v454 : BitVec 32 := Scalar.addi v328 v450
  let v455 : Index := Scalar.indexCast v454
  ![v455.toNat]
@[reducible] def k1_t32_loop : Scf.Loop 32 :=
  let c0_i32_213 : BitVec 32 := 0#32
  let c48_i32_214 : BitVec 32 := 48#32
  let v346 : BitVec 32 := Scalar.addi c0_i32_213 c48_i32_214
  let c1_i32_215 : BitVec 32 := 1#32
  ⟨c0_i32_213, v346, c1_i32_215⟩
def k1_off65 (i : grid1.Coords) (v37 : BitVec 32) (v40 : BitVec 32) (v43 : BitVec 32) (k1_t3 : Fin k1_t3_loop.trips) (k1_t6 : Fin (k1_t6_loop v37 v40 v43 k1_t3).trips) (v334 : BitVec 32) (k1_t32 : Fin k1_t32_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_203 : BitVec 32 := 16#32
  let v330 : BitVec 32 := Scalar.muli v150 c16_i32_203
  let c0_i32_204 : BitVec 32 := 0#32
  let v331 : BitVec 32 := Scalar.addi v330 c0_i32_204
  let c9_i32_205 : BitVec 32 := 9#32
  let v332 : BitVec 32 := Scalar.addi v331 c9_i32_205
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v336 : BitVec 1 := Scalar.cmpi .slt v332 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v335 : BitVec 32 := Scalar.subi v334 v48
  let c0_i32_206 : BitVec 32 := 0#32
  let v337 : BitVec 1 := Scalar.cmpi .sge v335 c0_i32_206
  let v338 : BitVec 1 := Scalar.andi v336 v337
  let c128_i32_207 : BitVec 32 := 128#32
  let v339 : BitVec 1 := Scalar.cmpi .slt v335 c128_i32_207
  let v340 : BitVec 1 := Scalar.andi v338 v339
  let c128_i32_208 : BitVec 32 := 128#32
  let v341 : BitVec 32 := Scalar.select v340 v335 c128_i32_208
  let c768_i32_209 : BitVec 32 := 768#32
  let v342 : BitVec 32 := Scalar.muli v341 c768_i32_209
  let c0_i32_296 : BitVec 32 := 0#32
  let c0_i32_213 : BitVec 32 := 0#32
  let c1_i32_215 : BitVec 32 := 1#32
  let arg21 : BitVec 32 := Scf.iv c0_i32_213 c1_i32_215 k1_t32
  let c16_i32_295 : BitVec 32 := 16#32
  let v449 : BitVec 32 := Scalar.muli arg21 c16_i32_295
  let v450 : BitVec 32 := Scalar.addi c0_i32_296 v449
  let v451 : BitVec 32 := Scalar.addi v342 v450
  let v452 : Index := Scalar.indexCast v451
  ![v452.toNat]

def k1_chk29 (i : grid1.Coords) (v37 : BitVec 32) (v40 : BitVec 32) (v43 : BitVec 32) (k1_t3 : Fin k1_t3_loop.trips) (k1_t6 : Fin (k1_t6_loop v37 v40 v43 k1_t3).trips) (v334 : BitVec 32) : Prop :=
  (∀ k1_t32 : Fin k1_t32_loop.trips, ∀ (k1_h4 : k1_cond4 v37 v40 v43 k1_t3 k1_t6 = 1#1), ∀ a, (k1_off65 i v37 v40 v43 k1_t3 k1_t6 v334 k1_t32) a + S16.size a ≤ S99072.size a)
theorem k1_off65_inb : ∀ (i : grid1.Coords) (v37 : BitVec 32) (v40 : BitVec 32) (v43 : BitVec 32) (k1_t3 : Fin k1_t3_loop.trips) (k1_t6 : Fin (k1_t6_loop v37 v40 v43 k1_t3).trips) (v334 : BitVec 32) (k1_hw29 : k1_chk29 i v37 v40 v43 k1_t3 k1_t6 v334) (k1_t32 : Fin k1_t32_loop.trips), ∀ (k1_h4 : k1_cond4 v37 v40 v43 k1_t3 k1_t6 = 1#1), ∀ a, (k1_off65 i v37 v40 v43 k1_t3 k1_t6 v334 k1_t32) a + S16.size a ≤ S99072.size a := fun i v37 v40 v43 k1_t3 k1_t6 v334 k1_hw29 k1_t32 k1_h4 => k1_hw29 k1_t32 k1_h4

def k1_off66 (v37 : BitVec 32) (v40 : BitVec 32) (v43 : BitVec 32) (k1_t3 : Fin k1_t3_loop.trips) (k1_t6 : Fin (k1_t6_loop v37 v40 v43 k1_t3).trips) (k1_t32 : Fin k1_t32_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_210 : BitVec 32 := 0#32
  let v343 : BitVec 32 := Scalar.addi v157 c0_i32_210
  let c9_i32_211 : BitVec 32 := 9#32
  let v344 : BitVec 32 := Scalar.addi v343 c9_i32_211
  let c768_i32_212 : BitVec 32 := 768#32
  let v345 : BitVec 32 := Scalar.muli v344 c768_i32_212
  let c0_i32_296 : BitVec 32 := 0#32
  let c0_i32_213 : BitVec 32 := 0#32
  let c1_i32_215 : BitVec 32 := 1#32
  let arg21 : BitVec 32 := Scf.iv c0_i32_213 c1_i32_215 k1_t32
  let c16_i32_295 : BitVec 32 := 16#32
  let v449 : BitVec 32 := Scalar.muli arg21 c16_i32_295
  let v450 : BitVec 32 := Scalar.addi c0_i32_296 v449
  let v454 : BitVec 32 := Scalar.addi v345 v450
  let v455 : Index := Scalar.indexCast v454
  ![v455.toNat]
@[reducible] def k1_t33_loop : Scf.Loop 32 :=
  let c0_i32_226 : BitVec 32 := 0#32
  let c48_i32_227 : BitVec 32 := 48#32
  let v363 : BitVec 32 := Scalar.addi c0_i32_226 c48_i32_227
  let c1_i32_228 : BitVec 32 := 1#32
  ⟨c0_i32_226, v363, c1_i32_228⟩
def k1_off67 (i : grid1.Coords) (v37 : BitVec 32) (v40 : BitVec 32) (v43 : BitVec 32) (k1_t3 : Fin k1_t3_loop.trips) (k1_t6 : Fin (k1_t6_loop v37 v40 v43 k1_t3).trips) (v351 : BitVec 32) (k1_t33 : Fin k1_t33_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_217 : BitVec 32 := 16#32
  let v347 : BitVec 32 := Scalar.muli v150 c16_i32_217
  let c0_i32_218 : BitVec 32 := 0#32
  let v348 : BitVec 32 := Scalar.addi v347 c0_i32_218
  let c10_i32 : BitVec 32 := 10#32
  let v349 : BitVec 32 := Scalar.addi v348 c10_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v353 : BitVec 1 := Scalar.cmpi .slt v349 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v352 : BitVec 32 := Scalar.subi v351 v48
  let c0_i32_219 : BitVec 32 := 0#32
  let v354 : BitVec 1 := Scalar.cmpi .sge v352 c0_i32_219
  let v355 : BitVec 1 := Scalar.andi v353 v354
  let c128_i32_220 : BitVec 32 := 128#32
  let v356 : BitVec 1 := Scalar.cmpi .slt v352 c128_i32_220
  let v357 : BitVec 1 := Scalar.andi v355 v356
  let c128_i32_221 : BitVec 32 := 128#32
  let v358 : BitVec 32 := Scalar.select v357 v352 c128_i32_221
  let c768_i32_222 : BitVec 32 := 768#32
  let v359 : BitVec 32 := Scalar.muli v358 c768_i32_222
  let c0_i32_296 : BitVec 32 := 0#32
  let c0_i32_226 : BitVec 32 := 0#32
  let c1_i32_228 : BitVec 32 := 1#32
  let arg21 : BitVec 32 := Scf.iv c0_i32_226 c1_i32_228 k1_t33
  let c16_i32_295 : BitVec 32 := 16#32
  let v449 : BitVec 32 := Scalar.muli arg21 c16_i32_295
  let v450 : BitVec 32 := Scalar.addi c0_i32_296 v449
  let v451 : BitVec 32 := Scalar.addi v359 v450
  let v452 : Index := Scalar.indexCast v451
  ![v452.toNat]

def k1_chk30 (i : grid1.Coords) (v37 : BitVec 32) (v40 : BitVec 32) (v43 : BitVec 32) (k1_t3 : Fin k1_t3_loop.trips) (k1_t6 : Fin (k1_t6_loop v37 v40 v43 k1_t3).trips) (v351 : BitVec 32) : Prop :=
  (∀ k1_t33 : Fin k1_t33_loop.trips, ∀ (k1_h4 : k1_cond4 v37 v40 v43 k1_t3 k1_t6 = 1#1), ∀ a, (k1_off67 i v37 v40 v43 k1_t3 k1_t6 v351 k1_t33) a + S16.size a ≤ S99072.size a)
theorem k1_off67_inb : ∀ (i : grid1.Coords) (v37 : BitVec 32) (v40 : BitVec 32) (v43 : BitVec 32) (k1_t3 : Fin k1_t3_loop.trips) (k1_t6 : Fin (k1_t6_loop v37 v40 v43 k1_t3).trips) (v351 : BitVec 32) (k1_hw30 : k1_chk30 i v37 v40 v43 k1_t3 k1_t6 v351) (k1_t33 : Fin k1_t33_loop.trips), ∀ (k1_h4 : k1_cond4 v37 v40 v43 k1_t3 k1_t6 = 1#1), ∀ a, (k1_off67 i v37 v40 v43 k1_t3 k1_t6 v351 k1_t33) a + S16.size a ≤ S99072.size a := fun i v37 v40 v43 k1_t3 k1_t6 v351 k1_hw30 k1_t33 k1_h4 => k1_hw30 k1_t33 k1_h4

def k1_off68 (v37 : BitVec 32) (v40 : BitVec 32) (v43 : BitVec 32) (k1_t3 : Fin k1_t3_loop.trips) (k1_t6 : Fin (k1_t6_loop v37 v40 v43 k1_t3).trips) (k1_t33 : Fin k1_t33_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_223 : BitVec 32 := 0#32
  let v360 : BitVec 32 := Scalar.addi v157 c0_i32_223
  let c10_i32_224 : BitVec 32 := 10#32
  let v361 : BitVec 32 := Scalar.addi v360 c10_i32_224
  let c768_i32_225 : BitVec 32 := 768#32
  let v362 : BitVec 32 := Scalar.muli v361 c768_i32_225
  let c0_i32_296 : BitVec 32 := 0#32
  let c0_i32_226 : BitVec 32 := 0#32
  let c1_i32_228 : BitVec 32 := 1#32
  let arg21 : BitVec 32 := Scf.iv c0_i32_226 c1_i32_228 k1_t33
  let c16_i32_295 : BitVec 32 := 16#32
  let v449 : BitVec 32 := Scalar.muli arg21 c16_i32_295
  let v450 : BitVec 32 := Scalar.addi c0_i32_296 v449
  let v454 : BitVec 32 := Scalar.addi v362 v450
  let v455 : Index := Scalar.indexCast v454
  ![v455.toNat]
@[reducible] def k1_t34_loop : Scf.Loop 32 :=
  let c0_i32_239 : BitVec 32 := 0#32
  let c48_i32_240 : BitVec 32 := 48#32
  let v380 : BitVec 32 := Scalar.addi c0_i32_239 c48_i32_240
  let c1_i32_241 : BitVec 32 := 1#32
  ⟨c0_i32_239, v380, c1_i32_241⟩
def k1_off69 (i : grid1.Coords) (v37 : BitVec 32) (v40 : BitVec 32) (v43 : BitVec 32) (k1_t3 : Fin k1_t3_loop.trips) (k1_t6 : Fin (k1_t6_loop v37 v40 v43 k1_t3).trips) (v368 : BitVec 32) (k1_t34 : Fin k1_t34_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_230 : BitVec 32 := 16#32
  let v364 : BitVec 32 := Scalar.muli v150 c16_i32_230
  let c0_i32_231 : BitVec 32 := 0#32
  let v365 : BitVec 32 := Scalar.addi v364 c0_i32_231
  let c11_i32 : BitVec 32 := 11#32
  let v366 : BitVec 32 := Scalar.addi v365 c11_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v370 : BitVec 1 := Scalar.cmpi .slt v366 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v369 : BitVec 32 := Scalar.subi v368 v48
  let c0_i32_232 : BitVec 32 := 0#32
  let v371 : BitVec 1 := Scalar.cmpi .sge v369 c0_i32_232
  let v372 : BitVec 1 := Scalar.andi v370 v371
  let c128_i32_233 : BitVec 32 := 128#32
  let v373 : BitVec 1 := Scalar.cmpi .slt v369 c128_i32_233
  let v374 : BitVec 1 := Scalar.andi v372 v373
  let c128_i32_234 : BitVec 32 := 128#32
  let v375 : BitVec 32 := Scalar.select v374 v369 c128_i32_234
  let c768_i32_235 : BitVec 32 := 768#32
  let v376 : BitVec 32 := Scalar.muli v375 c768_i32_235
  let c0_i32_296 : BitVec 32 := 0#32
  let c0_i32_239 : BitVec 32 := 0#32
  let c1_i32_241 : BitVec 32 := 1#32
  let arg21 : BitVec 32 := Scf.iv c0_i32_239 c1_i32_241 k1_t34
  let c16_i32_295 : BitVec 32 := 16#32
  let v449 : BitVec 32 := Scalar.muli arg21 c16_i32_295
  let v450 : BitVec 32 := Scalar.addi c0_i32_296 v449
  let v451 : BitVec 32 := Scalar.addi v376 v450
  let v452 : Index := Scalar.indexCast v451
  ![v452.toNat]

def k1_chk31 (i : grid1.Coords) (v37 : BitVec 32) (v40 : BitVec 32) (v43 : BitVec 32) (k1_t3 : Fin k1_t3_loop.trips) (k1_t6 : Fin (k1_t6_loop v37 v40 v43 k1_t3).trips) (v368 : BitVec 32) : Prop :=
  (∀ k1_t34 : Fin k1_t34_loop.trips, ∀ (k1_h4 : k1_cond4 v37 v40 v43 k1_t3 k1_t6 = 1#1), ∀ a, (k1_off69 i v37 v40 v43 k1_t3 k1_t6 v368 k1_t34) a + S16.size a ≤ S99072.size a)
theorem k1_off69_inb : ∀ (i : grid1.Coords) (v37 : BitVec 32) (v40 : BitVec 32) (v43 : BitVec 32) (k1_t3 : Fin k1_t3_loop.trips) (k1_t6 : Fin (k1_t6_loop v37 v40 v43 k1_t3).trips) (v368 : BitVec 32) (k1_hw31 : k1_chk31 i v37 v40 v43 k1_t3 k1_t6 v368) (k1_t34 : Fin k1_t34_loop.trips), ∀ (k1_h4 : k1_cond4 v37 v40 v43 k1_t3 k1_t6 = 1#1), ∀ a, (k1_off69 i v37 v40 v43 k1_t3 k1_t6 v368 k1_t34) a + S16.size a ≤ S99072.size a := fun i v37 v40 v43 k1_t3 k1_t6 v368 k1_hw31 k1_t34 k1_h4 => k1_hw31 k1_t34 k1_h4

def k1_off70 (v37 : BitVec 32) (v40 : BitVec 32) (v43 : BitVec 32) (k1_t3 : Fin k1_t3_loop.trips) (k1_t6 : Fin (k1_t6_loop v37 v40 v43 k1_t3).trips) (k1_t34 : Fin k1_t34_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_236 : BitVec 32 := 0#32
  let v377 : BitVec 32 := Scalar.addi v157 c0_i32_236
  let c11_i32_237 : BitVec 32 := 11#32
  let v378 : BitVec 32 := Scalar.addi v377 c11_i32_237
  let c768_i32_238 : BitVec 32 := 768#32
  let v379 : BitVec 32 := Scalar.muli v378 c768_i32_238
  let c0_i32_296 : BitVec 32 := 0#32
  let c0_i32_239 : BitVec 32 := 0#32
  let c1_i32_241 : BitVec 32 := 1#32
  let arg21 : BitVec 32 := Scf.iv c0_i32_239 c1_i32_241 k1_t34
  let c16_i32_295 : BitVec 32 := 16#32
  let v449 : BitVec 32 := Scalar.muli arg21 c16_i32_295
  let v450 : BitVec 32 := Scalar.addi c0_i32_296 v449
  let v454 : BitVec 32 := Scalar.addi v379 v450
  let v455 : Index := Scalar.indexCast v454
  ![v455.toNat]
@[reducible] def k1_t35_loop : Scf.Loop 32 :=
  let c0_i32_252 : BitVec 32 := 0#32
  let c48_i32_253 : BitVec 32 := 48#32
  let v397 : BitVec 32 := Scalar.addi c0_i32_252 c48_i32_253
  let c1_i32_254 : BitVec 32 := 1#32
  ⟨c0_i32_252, v397, c1_i32_254⟩
def k1_off71 (i : grid1.Coords) (v37 : BitVec 32) (v40 : BitVec 32) (v43 : BitVec 32) (k1_t3 : Fin k1_t3_loop.trips) (k1_t6 : Fin (k1_t6_loop v37 v40 v43 k1_t3).trips) (v385 : BitVec 32) (k1_t35 : Fin k1_t35_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_243 : BitVec 32 := 16#32
  let v381 : BitVec 32 := Scalar.muli v150 c16_i32_243
  let c0_i32_244 : BitVec 32 := 0#32
  let v382 : BitVec 32 := Scalar.addi v381 c0_i32_244
  let c12_i32 : BitVec 32 := 12#32
  let v383 : BitVec 32 := Scalar.addi v382 c12_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v387 : BitVec 1 := Scalar.cmpi .slt v383 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v386 : BitVec 32 := Scalar.subi v385 v48
  let c0_i32_245 : BitVec 32 := 0#32
  let v388 : BitVec 1 := Scalar.cmpi .sge v386 c0_i32_245
  let v389 : BitVec 1 := Scalar.andi v387 v388
  let c128_i32_246 : BitVec 32 := 128#32
  let v390 : BitVec 1 := Scalar.cmpi .slt v386 c128_i32_246
  let v391 : BitVec 1 := Scalar.andi v389 v390
  let c128_i32_247 : BitVec 32 := 128#32
  let v392 : BitVec 32 := Scalar.select v391 v386 c128_i32_247
  let c768_i32_248 : BitVec 32 := 768#32
  let v393 : BitVec 32 := Scalar.muli v392 c768_i32_248
  let c0_i32_296 : BitVec 32 := 0#32
  let c0_i32_252 : BitVec 32 := 0#32
  let c1_i32_254 : BitVec 32 := 1#32
  let arg21 : BitVec 32 := Scf.iv c0_i32_252 c1_i32_254 k1_t35
  let c16_i32_295 : BitVec 32 := 16#32
  let v449 : BitVec 32 := Scalar.muli arg21 c16_i32_295
  let v450 : BitVec 32 := Scalar.addi c0_i32_296 v449
  let v451 : BitVec 32 := Scalar.addi v393 v450
  let v452 : Index := Scalar.indexCast v451
  ![v452.toNat]

def k1_chk32 (i : grid1.Coords) (v37 : BitVec 32) (v40 : BitVec 32) (v43 : BitVec 32) (k1_t3 : Fin k1_t3_loop.trips) (k1_t6 : Fin (k1_t6_loop v37 v40 v43 k1_t3).trips) (v385 : BitVec 32) : Prop :=
  (∀ k1_t35 : Fin k1_t35_loop.trips, ∀ (k1_h4 : k1_cond4 v37 v40 v43 k1_t3 k1_t6 = 1#1), ∀ a, (k1_off71 i v37 v40 v43 k1_t3 k1_t6 v385 k1_t35) a + S16.size a ≤ S99072.size a)
theorem k1_off71_inb : ∀ (i : grid1.Coords) (v37 : BitVec 32) (v40 : BitVec 32) (v43 : BitVec 32) (k1_t3 : Fin k1_t3_loop.trips) (k1_t6 : Fin (k1_t6_loop v37 v40 v43 k1_t3).trips) (v385 : BitVec 32) (k1_hw32 : k1_chk32 i v37 v40 v43 k1_t3 k1_t6 v385) (k1_t35 : Fin k1_t35_loop.trips), ∀ (k1_h4 : k1_cond4 v37 v40 v43 k1_t3 k1_t6 = 1#1), ∀ a, (k1_off71 i v37 v40 v43 k1_t3 k1_t6 v385 k1_t35) a + S16.size a ≤ S99072.size a := fun i v37 v40 v43 k1_t3 k1_t6 v385 k1_hw32 k1_t35 k1_h4 => k1_hw32 k1_t35 k1_h4

def k1_off72 (v37 : BitVec 32) (v40 : BitVec 32) (v43 : BitVec 32) (k1_t3 : Fin k1_t3_loop.trips) (k1_t6 : Fin (k1_t6_loop v37 v40 v43 k1_t3).trips) (k1_t35 : Fin k1_t35_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_249 : BitVec 32 := 0#32
  let v394 : BitVec 32 := Scalar.addi v157 c0_i32_249
  let c12_i32_250 : BitVec 32 := 12#32
  let v395 : BitVec 32 := Scalar.addi v394 c12_i32_250
  let c768_i32_251 : BitVec 32 := 768#32
  let v396 : BitVec 32 := Scalar.muli v395 c768_i32_251
  let c0_i32_296 : BitVec 32 := 0#32
  let c0_i32_252 : BitVec 32 := 0#32
  let c1_i32_254 : BitVec 32 := 1#32
  let arg21 : BitVec 32 := Scf.iv c0_i32_252 c1_i32_254 k1_t35
  let c16_i32_295 : BitVec 32 := 16#32
  let v449 : BitVec 32 := Scalar.muli arg21 c16_i32_295
  let v450 : BitVec 32 := Scalar.addi c0_i32_296 v449
  let v454 : BitVec 32 := Scalar.addi v396 v450
  let v455 : Index := Scalar.indexCast v454
  ![v455.toNat]
@[reducible] def k1_t36_loop : Scf.Loop 32 :=
  let c0_i32_265 : BitVec 32 := 0#32
  let c48_i32_266 : BitVec 32 := 48#32
  let v414 : BitVec 32 := Scalar.addi c0_i32_265 c48_i32_266
  let c1_i32_267 : BitVec 32 := 1#32
  ⟨c0_i32_265, v414, c1_i32_267⟩
def k1_off73 (i : grid1.Coords) (v37 : BitVec 32) (v40 : BitVec 32) (v43 : BitVec 32) (k1_t3 : Fin k1_t3_loop.trips) (k1_t6 : Fin (k1_t6_loop v37 v40 v43 k1_t3).trips) (v402 : BitVec 32) (k1_t36 : Fin k1_t36_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_256 : BitVec 32 := 16#32
  let v398 : BitVec 32 := Scalar.muli v150 c16_i32_256
  let c0_i32_257 : BitVec 32 := 0#32
  let v399 : BitVec 32 := Scalar.addi v398 c0_i32_257
  let c13_i32 : BitVec 32 := 13#32
  let v400 : BitVec 32 := Scalar.addi v399 c13_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v404 : BitVec 1 := Scalar.cmpi .slt v400 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v403 : BitVec 32 := Scalar.subi v402 v48
  let c0_i32_258 : BitVec 32 := 0#32
  let v405 : BitVec 1 := Scalar.cmpi .sge v403 c0_i32_258
  let v406 : BitVec 1 := Scalar.andi v404 v405
  let c128_i32_259 : BitVec 32 := 128#32
  let v407 : BitVec 1 := Scalar.cmpi .slt v403 c128_i32_259
  let v408 : BitVec 1 := Scalar.andi v406 v407
  let c128_i32_260 : BitVec 32 := 128#32
  let v409 : BitVec 32 := Scalar.select v408 v403 c128_i32_260
  let c768_i32_261 : BitVec 32 := 768#32
  let v410 : BitVec 32 := Scalar.muli v409 c768_i32_261
  let c0_i32_296 : BitVec 32 := 0#32
  let c0_i32_265 : BitVec 32 := 0#32
  let c1_i32_267 : BitVec 32 := 1#32
  let arg21 : BitVec 32 := Scf.iv c0_i32_265 c1_i32_267 k1_t36
  let c16_i32_295 : BitVec 32 := 16#32
  let v449 : BitVec 32 := Scalar.muli arg21 c16_i32_295
  let v450 : BitVec 32 := Scalar.addi c0_i32_296 v449
  let v451 : BitVec 32 := Scalar.addi v410 v450
  let v452 : Index := Scalar.indexCast v451
  ![v452.toNat]

def k1_chk33 (i : grid1.Coords) (v37 : BitVec 32) (v40 : BitVec 32) (v43 : BitVec 32) (k1_t3 : Fin k1_t3_loop.trips) (k1_t6 : Fin (k1_t6_loop v37 v40 v43 k1_t3).trips) (v402 : BitVec 32) : Prop :=
  (∀ k1_t36 : Fin k1_t36_loop.trips, ∀ (k1_h4 : k1_cond4 v37 v40 v43 k1_t3 k1_t6 = 1#1), ∀ a, (k1_off73 i v37 v40 v43 k1_t3 k1_t6 v402 k1_t36) a + S16.size a ≤ S99072.size a)
theorem k1_off73_inb : ∀ (i : grid1.Coords) (v37 : BitVec 32) (v40 : BitVec 32) (v43 : BitVec 32) (k1_t3 : Fin k1_t3_loop.trips) (k1_t6 : Fin (k1_t6_loop v37 v40 v43 k1_t3).trips) (v402 : BitVec 32) (k1_hw33 : k1_chk33 i v37 v40 v43 k1_t3 k1_t6 v402) (k1_t36 : Fin k1_t36_loop.trips), ∀ (k1_h4 : k1_cond4 v37 v40 v43 k1_t3 k1_t6 = 1#1), ∀ a, (k1_off73 i v37 v40 v43 k1_t3 k1_t6 v402 k1_t36) a + S16.size a ≤ S99072.size a := fun i v37 v40 v43 k1_t3 k1_t6 v402 k1_hw33 k1_t36 k1_h4 => k1_hw33 k1_t36 k1_h4

def k1_off74 (v37 : BitVec 32) (v40 : BitVec 32) (v43 : BitVec 32) (k1_t3 : Fin k1_t3_loop.trips) (k1_t6 : Fin (k1_t6_loop v37 v40 v43 k1_t3).trips) (k1_t36 : Fin k1_t36_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_262 : BitVec 32 := 0#32
  let v411 : BitVec 32 := Scalar.addi v157 c0_i32_262
  let c13_i32_263 : BitVec 32 := 13#32
  let v412 : BitVec 32 := Scalar.addi v411 c13_i32_263
  let c768_i32_264 : BitVec 32 := 768#32
  let v413 : BitVec 32 := Scalar.muli v412 c768_i32_264
  let c0_i32_296 : BitVec 32 := 0#32
  let c0_i32_265 : BitVec 32 := 0#32
  let c1_i32_267 : BitVec 32 := 1#32
  let arg21 : BitVec 32 := Scf.iv c0_i32_265 c1_i32_267 k1_t36
  let c16_i32_295 : BitVec 32 := 16#32
  let v449 : BitVec 32 := Scalar.muli arg21 c16_i32_295
  let v450 : BitVec 32 := Scalar.addi c0_i32_296 v449
  let v454 : BitVec 32 := Scalar.addi v413 v450
  let v455 : Index := Scalar.indexCast v454
  ![v455.toNat]
@[reducible] def k1_t37_loop : Scf.Loop 32 :=
  let c0_i32_278 : BitVec 32 := 0#32
  let c48_i32_279 : BitVec 32 := 48#32
  let v431 : BitVec 32 := Scalar.addi c0_i32_278 c48_i32_279
  let c1_i32_280 : BitVec 32 := 1#32
  ⟨c0_i32_278, v431, c1_i32_280⟩
def k1_off75 (i : grid1.Coords) (v37 : BitVec 32) (v40 : BitVec 32) (v43 : BitVec 32) (k1_t3 : Fin k1_t3_loop.trips) (k1_t6 : Fin (k1_t6_loop v37 v40 v43 k1_t3).trips) (v419 : BitVec 32) (k1_t37 : Fin k1_t37_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_269 : BitVec 32 := 16#32
  let v415 : BitVec 32 := Scalar.muli v150 c16_i32_269
  let c0_i32_270 : BitVec 32 := 0#32
  let v416 : BitVec 32 := Scalar.addi v415 c0_i32_270
  let c14_i32 : BitVec 32 := 14#32
  let v417 : BitVec 32 := Scalar.addi v416 c14_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v421 : BitVec 1 := Scalar.cmpi .slt v417 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v420 : BitVec 32 := Scalar.subi v419 v48
  let c0_i32_271 : BitVec 32 := 0#32
  let v422 : BitVec 1 := Scalar.cmpi .sge v420 c0_i32_271
  let v423 : BitVec 1 := Scalar.andi v421 v422
  let c128_i32_272 : BitVec 32 := 128#32
  let v424 : BitVec 1 := Scalar.cmpi .slt v420 c128_i32_272
  let v425 : BitVec 1 := Scalar.andi v423 v424
  let c128_i32_273 : BitVec 32 := 128#32
  let v426 : BitVec 32 := Scalar.select v425 v420 c128_i32_273
  let c768_i32_274 : BitVec 32 := 768#32
  let v427 : BitVec 32 := Scalar.muli v426 c768_i32_274
  let c0_i32_296 : BitVec 32 := 0#32
  let c0_i32_278 : BitVec 32 := 0#32
  let c1_i32_280 : BitVec 32 := 1#32
  let arg21 : BitVec 32 := Scf.iv c0_i32_278 c1_i32_280 k1_t37
  let c16_i32_295 : BitVec 32 := 16#32
  let v449 : BitVec 32 := Scalar.muli arg21 c16_i32_295
  let v450 : BitVec 32 := Scalar.addi c0_i32_296 v449
  let v451 : BitVec 32 := Scalar.addi v427 v450
  let v452 : Index := Scalar.indexCast v451
  ![v452.toNat]

def k1_chk34 (i : grid1.Coords) (v37 : BitVec 32) (v40 : BitVec 32) (v43 : BitVec 32) (k1_t3 : Fin k1_t3_loop.trips) (k1_t6 : Fin (k1_t6_loop v37 v40 v43 k1_t3).trips) (v419 : BitVec 32) : Prop :=
  (∀ k1_t37 : Fin k1_t37_loop.trips, ∀ (k1_h4 : k1_cond4 v37 v40 v43 k1_t3 k1_t6 = 1#1), ∀ a, (k1_off75 i v37 v40 v43 k1_t3 k1_t6 v419 k1_t37) a + S16.size a ≤ S99072.size a)
theorem k1_off75_inb : ∀ (i : grid1.Coords) (v37 : BitVec 32) (v40 : BitVec 32) (v43 : BitVec 32) (k1_t3 : Fin k1_t3_loop.trips) (k1_t6 : Fin (k1_t6_loop v37 v40 v43 k1_t3).trips) (v419 : BitVec 32) (k1_hw34 : k1_chk34 i v37 v40 v43 k1_t3 k1_t6 v419) (k1_t37 : Fin k1_t37_loop.trips), ∀ (k1_h4 : k1_cond4 v37 v40 v43 k1_t3 k1_t6 = 1#1), ∀ a, (k1_off75 i v37 v40 v43 k1_t3 k1_t6 v419 k1_t37) a + S16.size a ≤ S99072.size a := fun i v37 v40 v43 k1_t3 k1_t6 v419 k1_hw34 k1_t37 k1_h4 => k1_hw34 k1_t37 k1_h4

def k1_off76 (v37 : BitVec 32) (v40 : BitVec 32) (v43 : BitVec 32) (k1_t3 : Fin k1_t3_loop.trips) (k1_t6 : Fin (k1_t6_loop v37 v40 v43 k1_t3).trips) (k1_t37 : Fin k1_t37_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_275 : BitVec 32 := 0#32
  let v428 : BitVec 32 := Scalar.addi v157 c0_i32_275
  let c14_i32_276 : BitVec 32 := 14#32
  let v429 : BitVec 32 := Scalar.addi v428 c14_i32_276
  let c768_i32_277 : BitVec 32 := 768#32
  let v430 : BitVec 32 := Scalar.muli v429 c768_i32_277
  let c0_i32_296 : BitVec 32 := 0#32
  let c0_i32_278 : BitVec 32 := 0#32
  let c1_i32_280 : BitVec 32 := 1#32
  let arg21 : BitVec 32 := Scf.iv c0_i32_278 c1_i32_280 k1_t37
  let c16_i32_295 : BitVec 32 := 16#32
  let v449 : BitVec 32 := Scalar.muli arg21 c16_i32_295
  let v450 : BitVec 32 := Scalar.addi c0_i32_296 v449
  let v454 : BitVec 32 := Scalar.addi v430 v450
  let v455 : Index := Scalar.indexCast v454
  ![v455.toNat]
@[reducible] def k1_t38_loop : Scf.Loop 32 :=
  let c0_i32_291 : BitVec 32 := 0#32
  let c48_i32_292 : BitVec 32 := 48#32
  let v448 : BitVec 32 := Scalar.addi c0_i32_291 c48_i32_292
  let c1_i32_293 : BitVec 32 := 1#32
  ⟨c0_i32_291, v448, c1_i32_293⟩
def k1_off77 (i : grid1.Coords) (v37 : BitVec 32) (v40 : BitVec 32) (v43 : BitVec 32) (k1_t3 : Fin k1_t3_loop.trips) (k1_t6 : Fin (k1_t6_loop v37 v40 v43 k1_t3).trips) (v436 : BitVec 32) (k1_t38 : Fin k1_t38_loop.trips) : Fin 1 → Nat :=
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_282 : BitVec 32 := 16#32
  let v432 : BitVec 32 := Scalar.muli v150 c16_i32_282
  let c0_i32_283 : BitVec 32 := 0#32
  let v433 : BitVec 32 := Scalar.addi v432 c0_i32_283
  let c15_i32 : BitVec 32 := 15#32
  let v434 : BitVec 32 := Scalar.addi v433 c15_i32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let v438 : BitVec 1 := Scalar.cmpi .slt v434 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v437 : BitVec 32 := Scalar.subi v436 v48
  let c0_i32_284 : BitVec 32 := 0#32
  let v439 : BitVec 1 := Scalar.cmpi .sge v437 c0_i32_284
  let v440 : BitVec 1 := Scalar.andi v438 v439
  let c128_i32_285 : BitVec 32 := 128#32
  let v441 : BitVec 1 := Scalar.cmpi .slt v437 c128_i32_285
  let v442 : BitVec 1 := Scalar.andi v440 v441
  let c128_i32_286 : BitVec 32 := 128#32
  let v443 : BitVec 32 := Scalar.select v442 v437 c128_i32_286
  let c768_i32_287 : BitVec 32 := 768#32
  let v444 : BitVec 32 := Scalar.muli v443 c768_i32_287
  let c0_i32_296 : BitVec 32 := 0#32
  let c0_i32_291 : BitVec 32 := 0#32
  let c1_i32_293 : BitVec 32 := 1#32
  let arg21 : BitVec 32 := Scf.iv c0_i32_291 c1_i32_293 k1_t38
  let c16_i32_295 : BitVec 32 := 16#32
  let v449 : BitVec 32 := Scalar.muli arg21 c16_i32_295
  let v450 : BitVec 32 := Scalar.addi c0_i32_296 v449
  let v451 : BitVec 32 := Scalar.addi v444 v450
  let v452 : Index := Scalar.indexCast v451
  ![v452.toNat]

def k1_chk35 (i : grid1.Coords) (v37 : BitVec 32) (v40 : BitVec 32) (v43 : BitVec 32) (k1_t3 : Fin k1_t3_loop.trips) (k1_t6 : Fin (k1_t6_loop v37 v40 v43 k1_t3).trips) (v436 : BitVec 32) : Prop :=
  (∀ k1_t38 : Fin k1_t38_loop.trips, ∀ (k1_h4 : k1_cond4 v37 v40 v43 k1_t3 k1_t6 = 1#1), ∀ a, (k1_off77 i v37 v40 v43 k1_t3 k1_t6 v436 k1_t38) a + S16.size a ≤ S99072.size a)
theorem k1_off77_inb : ∀ (i : grid1.Coords) (v37 : BitVec 32) (v40 : BitVec 32) (v43 : BitVec 32) (k1_t3 : Fin k1_t3_loop.trips) (k1_t6 : Fin (k1_t6_loop v37 v40 v43 k1_t3).trips) (v436 : BitVec 32) (k1_hw35 : k1_chk35 i v37 v40 v43 k1_t3 k1_t6 v436) (k1_t38 : Fin k1_t38_loop.trips), ∀ (k1_h4 : k1_cond4 v37 v40 v43 k1_t3 k1_t6 = 1#1), ∀ a, (k1_off77 i v37 v40 v43 k1_t3 k1_t6 v436 k1_t38) a + S16.size a ≤ S99072.size a := fun i v37 v40 v43 k1_t3 k1_t6 v436 k1_hw35 k1_t38 k1_h4 => k1_hw35 k1_t38 k1_h4

def k1_off78 (v37 : BitVec 32) (v40 : BitVec 32) (v43 : BitVec 32) (k1_t3 : Fin k1_t3_loop.trips) (k1_t6 : Fin (k1_t6_loop v37 v40 v43 k1_t3).trips) (k1_t38 : Fin k1_t38_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c1_i32_59 : BitVec 32 := 1#32
  let arg19 : BitVec 32 := Scf.iv c0_i32_56 c1_i32_59 k1_t6
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_288 : BitVec 32 := 0#32
  let v445 : BitVec 32 := Scalar.addi v157 c0_i32_288
  let c15_i32_289 : BitVec 32 := 15#32
  let v446 : BitVec 32 := Scalar.addi v445 c15_i32_289
  let c768_i32_290 : BitVec 32 := 768#32
  let v447 : BitVec 32 := Scalar.muli v446 c768_i32_290
  let c0_i32_296 : BitVec 32 := 0#32
  let c0_i32_291 : BitVec 32 := 0#32
  let c1_i32_293 : BitVec 32 := 1#32
  let arg21 : BitVec 32 := Scf.iv c0_i32_291 c1_i32_293 k1_t38
  let c16_i32_295 : BitVec 32 := 16#32
  let v449 : BitVec 32 := Scalar.muli arg21 c16_i32_295
  let v450 : BitVec 32 := Scalar.addi c0_i32_296 v449
  let v454 : BitVec 32 := Scalar.addi v447 v450
  let v455 : Index := Scalar.indexCast v454
  ![v455.toNat]
@[reducible] def k1_t39_loop (v37 : BitVec 32) (v40 : BitVec 32) (v43 : BitVec 32) (k1_t3 : Fin k1_t3_loop.trips) : Scf.Loop 32 :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let v115 : BitVec 32 := Scalar.addi c0_i32_56 v114
  let c1_i32_60 : BitVec 32 := 1#32
  ⟨v118, v115, c1_i32_60⟩
def k1_mult9 (v37 : BitVec 32) (v40 : BitVec 32) (v43 : BitVec 32) (k1_t3 : Fin k1_t3_loop.trips) (k1_t39 : Fin (k1_t39_loop v37 v40 v43 k1_t3).trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_68 : BitVec 32 := 16#32
  let v134 : BitVec 32 := Scalar.muli v126 c16_i32_68
  let v135 : BitVec 32 := Scalar.addi v72 v134
  let c8176_i32 : BitVec 32 := 8176#32
  let v136 : BitVec 32 := Scalar.minsi v135 c8176_i32
  v136
def k1_cond6 (v37 : BitVec 32) (v40 : BitVec 32) (v43 : BitVec 32) (k1_t3 : Fin k1_t3_loop.trips) (k1_t39 : Fin (k1_t39_loop v37 v40 v43 k1_t3).trips) : BitVec 1 :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let v127 : BitVec 1 := Scalar.cmpi .slt v126 v92
  let v128 : BitVec 32 := Scalar.extui v127
  let c0_i32_64 : BitVec 32 := 0#32
  let v129 : BitVec 1 := Scalar.cmpi .ne v128 c0_i32_64
  v129

def k1_off79 (i : grid1.Coords) (v37 : BitVec 32) (v40 : BitVec 32) (v43 : BitVec 32) (k1_t3 : Fin k1_t3_loop.trips) (k1_t39 : Fin (k1_t39_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_68 : BitVec 32 := 16#32
  let v134 : BitVec 32 := Scalar.muli v126 c16_i32_68
  let v135 : BitVec 32 := Scalar.addi v72 v134
  let c8176_i32 : BitVec 32 := 8176#32
  let v136 : BitVec 32 := Scalar.minsi v135 c8176_i32
  let v137 : BitVec 32 := v136
  let v138 : BitVec 32 := Scalar.addi v31 v137
  ![v138.toNat]
def k1_off80 (i : grid1.Coords) (v37 : BitVec 32) (v40 : BitVec 32) (v43 : BitVec 32) (k1_t3 : Fin k1_t3_loop.trips) (k1_t39 : Fin (k1_t39_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_68 : BitVec 32 := 16#32
  let v134 : BitVec 32 := Scalar.muli v126 c16_i32_68
  let v135 : BitVec 32 := Scalar.addi v72 v134
  let c8176_i32 : BitVec 32 := 8176#32
  let v136 : BitVec 32 := Scalar.minsi v135 c8176_i32
  let v137 : BitVec 32 := v136
  let v141 : BitVec 32 := Scalar.addi v31 v137
  let c768_i32_69 : BitVec 32 := 768#32
  let v142 : BitVec 32 := Scalar.muli v141 c768_i32_69
  ![v142.toNat]
def k1_mult10 (v37 : BitVec 32) (v40 : BitVec 32) (v43 : BitVec 32) (k1_t3 : Fin k1_t3_loop.trips) (k1_t39 : Fin (k1_t39_loop v37 v40 v43 k1_t3).trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_293 : BitVec 32 := 1#32
  let v447 : BitVec 32 := Scalar.addi v126 c1_i32_293
  let c16_i32_294 : BitVec 32 := 16#32
  let v448 : BitVec 32 := Scalar.muli v447 c16_i32_294
  let v449 : BitVec 32 := Scalar.addi v72 v448
  let c8176_i32_295 : BitVec 32 := 8176#32
  let v450 : BitVec 32 := Scalar.minsi v449 c8176_i32_295
  v450
def k1_cond7 (v37 : BitVec 32) (v40 : BitVec 32) (v43 : BitVec 32) (k1_t3 : Fin k1_t3_loop.trips) (k1_t39 : Fin (k1_t39_loop v37 v40 v43 k1_t3).trips) : BitVec 1 :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_70 : BitVec 32 := 1#32
  let v145 : BitVec 32 := Scalar.addi v126 c1_i32_70
  let v146 : BitVec 1 := Scalar.cmpi .slt v145 v92
  let v147 : BitVec 32 := Scalar.extui v146
  let c0_i32_71 : BitVec 32 := 0#32
  let v148 : BitVec 1 := Scalar.cmpi .ne v147 c0_i32_71
  v148

def k1_off81 (i : grid1.Coords) (v37 : BitVec 32) (v40 : BitVec 32) (v43 : BitVec 32) (k1_t3 : Fin k1_t3_loop.trips) (k1_t39 : Fin (k1_t39_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_293 : BitVec 32 := 1#32
  let v447 : BitVec 32 := Scalar.addi v126 c1_i32_293
  let c16_i32_294 : BitVec 32 := 16#32
  let v448 : BitVec 32 := Scalar.muli v447 c16_i32_294
  let v449 : BitVec 32 := Scalar.addi v72 v448
  let c8176_i32_295 : BitVec 32 := 8176#32
  let v450 : BitVec 32 := Scalar.minsi v449 c8176_i32_295
  let v451 : BitVec 32 := v450
  let v452 : BitVec 32 := Scalar.addi v31 v451
  ![v452.toNat]
def k1_off82 (i : grid1.Coords) (v37 : BitVec 32) (v40 : BitVec 32) (v43 : BitVec 32) (k1_t3 : Fin k1_t3_loop.trips) (k1_t39 : Fin (k1_t39_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_293 : BitVec 32 := 1#32
  let v447 : BitVec 32 := Scalar.addi v126 c1_i32_293
  let c16_i32_294 : BitVec 32 := 16#32
  let v448 : BitVec 32 := Scalar.muli v447 c16_i32_294
  let v449 : BitVec 32 := Scalar.addi v72 v448
  let c8176_i32_295 : BitVec 32 := 8176#32
  let v450 : BitVec 32 := Scalar.minsi v449 c8176_i32_295
  let v451 : BitVec 32 := v450
  let v455 : BitVec 32 := Scalar.addi v31 v451
  let c768_i32_296 : BitVec 32 := 768#32
  let v456 : BitVec 32 := Scalar.muli v455 c768_i32_296
  ![v456.toNat]
def k1_mult11 (v37 : BitVec 32) (v40 : BitVec 32) (v43 : BitVec 32) (k1_t3 : Fin k1_t3_loop.trips) (k1_t39 : Fin (k1_t39_loop v37 v40 v43 k1_t3).trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  v151

def k1_chk36 (v37 : BitVec 32) (v40 : BitVec 32) (v43 : BitVec 32) (k1_t3 : Fin k1_t3_loop.trips) (k1_t39 : Fin (k1_t39_loop v37 v40 v43 k1_t3).trips) (v174 : IVec S16 32) : Prop :=
  (∀ (k1_h6 : k1_cond6 v37 v40 v43 k1_t3 k1_t39 = 1#1), ∀ a x, ((![v174] : Fin 1 → IVec S16 32) a x).toNat < S144.size a)
theorem k1_idx3_inb : ∀ (v37 : BitVec 32) (v40 : BitVec 32) (v43 : BitVec 32) (k1_t3 : Fin k1_t3_loop.trips) (k1_t39 : Fin (k1_t39_loop v37 v40 v43 k1_t3).trips) (v174 : IVec S16 32) (k1_hw36 : k1_chk36 v37 v40 v43 k1_t3 k1_t39 v174), ∀ (k1_h6 : k1_cond6 v37 v40 v43 k1_t3 k1_t39 = 1#1), ∀ a x, ((![v174] : Fin 1 → IVec S16 32) a x).toNat < S144.size a := fun v37 v40 v43 k1_t3 k1_t39 v174 k1_hw36 k1_h6 => k1_hw36 k1_h6
@[reducible] def k1_t40_loop : Scf.Loop 32 :=
  let c0_i32_91 : BitVec 32 := 0#32
  let c48_i32 : BitVec 32 := 48#32
  let v191 : BitVec 32 := Scalar.addi c0_i32_91 c48_i32
  let c1_i32_92 : BitVec 32 := 1#32
  ⟨c0_i32_91, v191, c1_i32_92⟩
def k1_off83 (i : grid1.Coords) (v37 : BitVec 32) (v40 : BitVec 32) (v43 : BitVec 32) (k1_t3 : Fin k1_t3_loop.trips) (k1_t39 : Fin (k1_t39_loop v37 v40 v43 k1_t3).trips) (v179 : BitVec 32) (k1_t40 : Fin k1_t40_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_81 : BitVec 32 := 16#32
  let v175 : BitVec 32 := Scalar.muli v126 c16_i32_81
  let c0_i32_82 : BitVec 32 := 0#32
  let v176 : BitVec 32 := Scalar.addi v175 c0_i32_82
  let c0_i32_83 : BitVec 32 := 0#32
  let v177 : BitVec 32 := Scalar.addi v176 c0_i32_83
  let v181 : BitVec 1 := Scalar.cmpi .slt v177 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v180 : BitVec 32 := Scalar.subi v179 v48
  let c0_i32_84 : BitVec 32 := 0#32
  let v182 : BitVec 1 := Scalar.cmpi .sge v180 c0_i32_84
  let v183 : BitVec 1 := Scalar.andi v181 v182
  let c128_i32_85 : BitVec 32 := 128#32
  let v184 : BitVec 1 := Scalar.cmpi .slt v180 c128_i32_85
  let v185 : BitVec 1 := Scalar.andi v183 v184
  let c128_i32_86 : BitVec 32 := 128#32
  let v186 : BitVec 32 := Scalar.select v185 v180 c128_i32_86
  let c768_i32_87 : BitVec 32 := 768#32
  let v187 : BitVec 32 := Scalar.muli v186 c768_i32_87
  let c0_i32_294 : BitVec 32 := 0#32
  let c0_i32_91 : BitVec 32 := 0#32
  let c1_i32_92 : BitVec 32 := 1#32
  let arg21 : BitVec 32 := Scf.iv c0_i32_91 c1_i32_92 k1_t40
  let c16_i32_293 : BitVec 32 := 16#32
  let v447 : BitVec 32 := Scalar.muli arg21 c16_i32_293
  let v448 : BitVec 32 := Scalar.addi c0_i32_294 v447
  let v449 : BitVec 32 := Scalar.addi v187 v448
  let v450 : Index := Scalar.indexCast v449
  ![v450.toNat]

def k1_chk37 (i : grid1.Coords) (v37 : BitVec 32) (v40 : BitVec 32) (v43 : BitVec 32) (k1_t3 : Fin k1_t3_loop.trips) (k1_t39 : Fin (k1_t39_loop v37 v40 v43 k1_t3).trips) (v179 : BitVec 32) : Prop :=
  (∀ k1_t40 : Fin k1_t40_loop.trips, ∀ (k1_h6 : k1_cond6 v37 v40 v43 k1_t3 k1_t39 = 1#1), ∀ a, (k1_off83 i v37 v40 v43 k1_t3 k1_t39 v179 k1_t40) a + S16.size a ≤ S99072.size a)
theorem k1_off83_inb : ∀ (i : grid1.Coords) (v37 : BitVec 32) (v40 : BitVec 32) (v43 : BitVec 32) (k1_t3 : Fin k1_t3_loop.trips) (k1_t39 : Fin (k1_t39_loop v37 v40 v43 k1_t3).trips) (v179 : BitVec 32) (k1_hw37 : k1_chk37 i v37 v40 v43 k1_t3 k1_t39 v179) (k1_t40 : Fin k1_t40_loop.trips), ∀ (k1_h6 : k1_cond6 v37 v40 v43 k1_t3 k1_t39 = 1#1), ∀ a, (k1_off83 i v37 v40 v43 k1_t3 k1_t39 v179 k1_t40) a + S16.size a ≤ S99072.size a := fun i v37 v40 v43 k1_t3 k1_t39 v179 k1_hw37 k1_t40 k1_h6 => k1_hw37 k1_t40 k1_h6

def k1_off84 (v37 : BitVec 32) (v40 : BitVec 32) (v43 : BitVec 32) (k1_t3 : Fin k1_t3_loop.trips) (k1_t39 : Fin (k1_t39_loop v37 v40 v43 k1_t3).trips) (k1_t40 : Fin k1_t40_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_88 : BitVec 32 := 0#32
  let v188 : BitVec 32 := Scalar.addi v155 c0_i32_88
  let c0_i32_89 : BitVec 32 := 0#32
  let v189 : BitVec 32 := Scalar.addi v188 c0_i32_89
  let c768_i32_90 : BitVec 32 := 768#32
  let v190 : BitVec 32 := Scalar.muli v189 c768_i32_90
  let c0_i32_294 : BitVec 32 := 0#32
  let c0_i32_91 : BitVec 32 := 0#32
  let c1_i32_92 : BitVec 32 := 1#32
  let arg21 : BitVec 32 := Scf.iv c0_i32_91 c1_i32_92 k1_t40
  let c16_i32_293 : BitVec 32 := 16#32
  let v447 : BitVec 32 := Scalar.muli arg21 c16_i32_293
  let v448 : BitVec 32 := Scalar.addi c0_i32_294 v447
  let v452 : BitVec 32 := Scalar.addi v190 v448
  let v453 : Index := Scalar.indexCast v452
  ![v453.toNat]
@[reducible] def k1_t41_loop : Scf.Loop 32 :=
  let c0_i32_104 : BitVec 32 := 0#32
  let c48_i32_105 : BitVec 32 := 48#32
  let v208 : BitVec 32 := Scalar.addi c0_i32_104 c48_i32_105
  let c1_i32_106 : BitVec 32 := 1#32
  ⟨c0_i32_104, v208, c1_i32_106⟩
def k1_off85 (i : grid1.Coords) (v37 : BitVec 32) (v40 : BitVec 32) (v43 : BitVec 32) (k1_t3 : Fin k1_t3_loop.trips) (k1_t39 : Fin (k1_t39_loop v37 v40 v43 k1_t3).trips) (v196 : BitVec 32) (k1_t41 : Fin k1_t41_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_94 : BitVec 32 := 16#32
  let v192 : BitVec 32 := Scalar.muli v126 c16_i32_94
  let c0_i32_95 : BitVec 32 := 0#32
  let v193 : BitVec 32 := Scalar.addi v192 c0_i32_95
  let c1_i32_96 : BitVec 32 := 1#32
  let v194 : BitVec 32 := Scalar.addi v193 c1_i32_96
  let v198 : BitVec 1 := Scalar.cmpi .slt v194 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v197 : BitVec 32 := Scalar.subi v196 v48
  let c0_i32_97 : BitVec 32 := 0#32
  let v199 : BitVec 1 := Scalar.cmpi .sge v197 c0_i32_97
  let v200 : BitVec 1 := Scalar.andi v198 v199
  let c128_i32_98 : BitVec 32 := 128#32
  let v201 : BitVec 1 := Scalar.cmpi .slt v197 c128_i32_98
  let v202 : BitVec 1 := Scalar.andi v200 v201
  let c128_i32_99 : BitVec 32 := 128#32
  let v203 : BitVec 32 := Scalar.select v202 v197 c128_i32_99
  let c768_i32_100 : BitVec 32 := 768#32
  let v204 : BitVec 32 := Scalar.muli v203 c768_i32_100
  let c0_i32_294 : BitVec 32 := 0#32
  let c0_i32_104 : BitVec 32 := 0#32
  let c1_i32_106 : BitVec 32 := 1#32
  let arg21 : BitVec 32 := Scf.iv c0_i32_104 c1_i32_106 k1_t41
  let c16_i32_293 : BitVec 32 := 16#32
  let v447 : BitVec 32 := Scalar.muli arg21 c16_i32_293
  let v448 : BitVec 32 := Scalar.addi c0_i32_294 v447
  let v449 : BitVec 32 := Scalar.addi v204 v448
  let v450 : Index := Scalar.indexCast v449
  ![v450.toNat]

def k1_chk38 (i : grid1.Coords) (v37 : BitVec 32) (v40 : BitVec 32) (v43 : BitVec 32) (k1_t3 : Fin k1_t3_loop.trips) (k1_t39 : Fin (k1_t39_loop v37 v40 v43 k1_t3).trips) (v196 : BitVec 32) : Prop :=
  (∀ k1_t41 : Fin k1_t41_loop.trips, ∀ (k1_h6 : k1_cond6 v37 v40 v43 k1_t3 k1_t39 = 1#1), ∀ a, (k1_off85 i v37 v40 v43 k1_t3 k1_t39 v196 k1_t41) a + S16.size a ≤ S99072.size a)
theorem k1_off85_inb : ∀ (i : grid1.Coords) (v37 : BitVec 32) (v40 : BitVec 32) (v43 : BitVec 32) (k1_t3 : Fin k1_t3_loop.trips) (k1_t39 : Fin (k1_t39_loop v37 v40 v43 k1_t3).trips) (v196 : BitVec 32) (k1_hw38 : k1_chk38 i v37 v40 v43 k1_t3 k1_t39 v196) (k1_t41 : Fin k1_t41_loop.trips), ∀ (k1_h6 : k1_cond6 v37 v40 v43 k1_t3 k1_t39 = 1#1), ∀ a, (k1_off85 i v37 v40 v43 k1_t3 k1_t39 v196 k1_t41) a + S16.size a ≤ S99072.size a := fun i v37 v40 v43 k1_t3 k1_t39 v196 k1_hw38 k1_t41 k1_h6 => k1_hw38 k1_t41 k1_h6

def k1_off86 (v37 : BitVec 32) (v40 : BitVec 32) (v43 : BitVec 32) (k1_t3 : Fin k1_t3_loop.trips) (k1_t39 : Fin (k1_t39_loop v37 v40 v43 k1_t3).trips) (k1_t41 : Fin k1_t41_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_101 : BitVec 32 := 0#32
  let v205 : BitVec 32 := Scalar.addi v155 c0_i32_101
  let c1_i32_102 : BitVec 32 := 1#32
  let v206 : BitVec 32 := Scalar.addi v205 c1_i32_102
  let c768_i32_103 : BitVec 32 := 768#32
  let v207 : BitVec 32 := Scalar.muli v206 c768_i32_103
  let c0_i32_294 : BitVec 32 := 0#32
  let c0_i32_104 : BitVec 32 := 0#32
  let c1_i32_106 : BitVec 32 := 1#32
  let arg21 : BitVec 32 := Scf.iv c0_i32_104 c1_i32_106 k1_t41
  let c16_i32_293 : BitVec 32 := 16#32
  let v447 : BitVec 32 := Scalar.muli arg21 c16_i32_293
  let v448 : BitVec 32 := Scalar.addi c0_i32_294 v447
  let v452 : BitVec 32 := Scalar.addi v207 v448
  let v453 : Index := Scalar.indexCast v452
  ![v453.toNat]
@[reducible] def k1_t42_loop : Scf.Loop 32 :=
  let c0_i32_118 : BitVec 32 := 0#32
  let c48_i32_119 : BitVec 32 := 48#32
  let v225 : BitVec 32 := Scalar.addi c0_i32_118 c48_i32_119
  let c1_i32_120 : BitVec 32 := 1#32
  ⟨c0_i32_118, v225, c1_i32_120⟩
def k1_off87 (i : grid1.Coords) (v37 : BitVec 32) (v40 : BitVec 32) (v43 : BitVec 32) (k1_t3 : Fin k1_t3_loop.trips) (k1_t39 : Fin (k1_t39_loop v37 v40 v43 k1_t3).trips) (v213 : BitVec 32) (k1_t42 : Fin k1_t42_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_108 : BitVec 32 := 16#32
  let v209 : BitVec 32 := Scalar.muli v126 c16_i32_108
  let c0_i32_109 : BitVec 32 := 0#32
  let v210 : BitVec 32 := Scalar.addi v209 c0_i32_109
  let c2_i32_110 : BitVec 32 := 2#32
  let v211 : BitVec 32 := Scalar.addi v210 c2_i32_110
  let v215 : BitVec 1 := Scalar.cmpi .slt v211 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v214 : BitVec 32 := Scalar.subi v213 v48
  let c0_i32_111 : BitVec 32 := 0#32
  let v216 : BitVec 1 := Scalar.cmpi .sge v214 c0_i32_111
  let v217 : BitVec 1 := Scalar.andi v215 v216
  let c128_i32_112 : BitVec 32 := 128#32
  let v218 : BitVec 1 := Scalar.cmpi .slt v214 c128_i32_112
  let v219 : BitVec 1 := Scalar.andi v217 v218
  let c128_i32_113 : BitVec 32 := 128#32
  let v220 : BitVec 32 := Scalar.select v219 v214 c128_i32_113
  let c768_i32_114 : BitVec 32 := 768#32
  let v221 : BitVec 32 := Scalar.muli v220 c768_i32_114
  let c0_i32_294 : BitVec 32 := 0#32
  let c0_i32_118 : BitVec 32 := 0#32
  let c1_i32_120 : BitVec 32 := 1#32
  let arg21 : BitVec 32 := Scf.iv c0_i32_118 c1_i32_120 k1_t42
  let c16_i32_293 : BitVec 32 := 16#32
  let v447 : BitVec 32 := Scalar.muli arg21 c16_i32_293
  let v448 : BitVec 32 := Scalar.addi c0_i32_294 v447
  let v449 : BitVec 32 := Scalar.addi v221 v448
  let v450 : Index := Scalar.indexCast v449
  ![v450.toNat]

def k1_chk39 (i : grid1.Coords) (v37 : BitVec 32) (v40 : BitVec 32) (v43 : BitVec 32) (k1_t3 : Fin k1_t3_loop.trips) (k1_t39 : Fin (k1_t39_loop v37 v40 v43 k1_t3).trips) (v213 : BitVec 32) : Prop :=
  (∀ k1_t42 : Fin k1_t42_loop.trips, ∀ (k1_h6 : k1_cond6 v37 v40 v43 k1_t3 k1_t39 = 1#1), ∀ a, (k1_off87 i v37 v40 v43 k1_t3 k1_t39 v213 k1_t42) a + S16.size a ≤ S99072.size a)
theorem k1_off87_inb : ∀ (i : grid1.Coords) (v37 : BitVec 32) (v40 : BitVec 32) (v43 : BitVec 32) (k1_t3 : Fin k1_t3_loop.trips) (k1_t39 : Fin (k1_t39_loop v37 v40 v43 k1_t3).trips) (v213 : BitVec 32) (k1_hw39 : k1_chk39 i v37 v40 v43 k1_t3 k1_t39 v213) (k1_t42 : Fin k1_t42_loop.trips), ∀ (k1_h6 : k1_cond6 v37 v40 v43 k1_t3 k1_t39 = 1#1), ∀ a, (k1_off87 i v37 v40 v43 k1_t3 k1_t39 v213 k1_t42) a + S16.size a ≤ S99072.size a := fun i v37 v40 v43 k1_t3 k1_t39 v213 k1_hw39 k1_t42 k1_h6 => k1_hw39 k1_t42 k1_h6

def k1_off88 (v37 : BitVec 32) (v40 : BitVec 32) (v43 : BitVec 32) (k1_t3 : Fin k1_t3_loop.trips) (k1_t39 : Fin (k1_t39_loop v37 v40 v43 k1_t3).trips) (k1_t42 : Fin k1_t42_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_115 : BitVec 32 := 0#32
  let v222 : BitVec 32 := Scalar.addi v155 c0_i32_115
  let c2_i32_116 : BitVec 32 := 2#32
  let v223 : BitVec 32 := Scalar.addi v222 c2_i32_116
  let c768_i32_117 : BitVec 32 := 768#32
  let v224 : BitVec 32 := Scalar.muli v223 c768_i32_117
  let c0_i32_294 : BitVec 32 := 0#32
  let c0_i32_118 : BitVec 32 := 0#32
  let c1_i32_120 : BitVec 32 := 1#32
  let arg21 : BitVec 32 := Scf.iv c0_i32_118 c1_i32_120 k1_t42
  let c16_i32_293 : BitVec 32 := 16#32
  let v447 : BitVec 32 := Scalar.muli arg21 c16_i32_293
  let v448 : BitVec 32 := Scalar.addi c0_i32_294 v447
  let v452 : BitVec 32 := Scalar.addi v224 v448
  let v453 : Index := Scalar.indexCast v452
  ![v453.toNat]
@[reducible] def k1_t43_loop : Scf.Loop 32 :=
  let c0_i32_131 : BitVec 32 := 0#32
  let c48_i32_132 : BitVec 32 := 48#32
  let v242 : BitVec 32 := Scalar.addi c0_i32_131 c48_i32_132
  let c1_i32_133 : BitVec 32 := 1#32
  ⟨c0_i32_131, v242, c1_i32_133⟩
def k1_off89 (i : grid1.Coords) (v37 : BitVec 32) (v40 : BitVec 32) (v43 : BitVec 32) (k1_t3 : Fin k1_t3_loop.trips) (k1_t39 : Fin (k1_t39_loop v37 v40 v43 k1_t3).trips) (v230 : BitVec 32) (k1_t43 : Fin k1_t43_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_122 : BitVec 32 := 16#32
  let v226 : BitVec 32 := Scalar.muli v126 c16_i32_122
  let c0_i32_123 : BitVec 32 := 0#32
  let v227 : BitVec 32 := Scalar.addi v226 c0_i32_123
  let c3_i32 : BitVec 32 := 3#32
  let v228 : BitVec 32 := Scalar.addi v227 c3_i32
  let v232 : BitVec 1 := Scalar.cmpi .slt v228 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v231 : BitVec 32 := Scalar.subi v230 v48
  let c0_i32_124 : BitVec 32 := 0#32
  let v233 : BitVec 1 := Scalar.cmpi .sge v231 c0_i32_124
  let v234 : BitVec 1 := Scalar.andi v232 v233
  let c128_i32_125 : BitVec 32 := 128#32
  let v235 : BitVec 1 := Scalar.cmpi .slt v231 c128_i32_125
  let v236 : BitVec 1 := Scalar.andi v234 v235
  let c128_i32_126 : BitVec 32 := 128#32
  let v237 : BitVec 32 := Scalar.select v236 v231 c128_i32_126
  let c768_i32_127 : BitVec 32 := 768#32
  let v238 : BitVec 32 := Scalar.muli v237 c768_i32_127
  let c0_i32_294 : BitVec 32 := 0#32
  let c0_i32_131 : BitVec 32 := 0#32
  let c1_i32_133 : BitVec 32 := 1#32
  let arg21 : BitVec 32 := Scf.iv c0_i32_131 c1_i32_133 k1_t43
  let c16_i32_293 : BitVec 32 := 16#32
  let v447 : BitVec 32 := Scalar.muli arg21 c16_i32_293
  let v448 : BitVec 32 := Scalar.addi c0_i32_294 v447
  let v449 : BitVec 32 := Scalar.addi v238 v448
  let v450 : Index := Scalar.indexCast v449
  ![v450.toNat]

def k1_chk40 (i : grid1.Coords) (v37 : BitVec 32) (v40 : BitVec 32) (v43 : BitVec 32) (k1_t3 : Fin k1_t3_loop.trips) (k1_t39 : Fin (k1_t39_loop v37 v40 v43 k1_t3).trips) (v230 : BitVec 32) : Prop :=
  (∀ k1_t43 : Fin k1_t43_loop.trips, ∀ (k1_h6 : k1_cond6 v37 v40 v43 k1_t3 k1_t39 = 1#1), ∀ a, (k1_off89 i v37 v40 v43 k1_t3 k1_t39 v230 k1_t43) a + S16.size a ≤ S99072.size a)
theorem k1_off89_inb : ∀ (i : grid1.Coords) (v37 : BitVec 32) (v40 : BitVec 32) (v43 : BitVec 32) (k1_t3 : Fin k1_t3_loop.trips) (k1_t39 : Fin (k1_t39_loop v37 v40 v43 k1_t3).trips) (v230 : BitVec 32) (k1_hw40 : k1_chk40 i v37 v40 v43 k1_t3 k1_t39 v230) (k1_t43 : Fin k1_t43_loop.trips), ∀ (k1_h6 : k1_cond6 v37 v40 v43 k1_t3 k1_t39 = 1#1), ∀ a, (k1_off89 i v37 v40 v43 k1_t3 k1_t39 v230 k1_t43) a + S16.size a ≤ S99072.size a := fun i v37 v40 v43 k1_t3 k1_t39 v230 k1_hw40 k1_t43 k1_h6 => k1_hw40 k1_t43 k1_h6

def k1_off90 (v37 : BitVec 32) (v40 : BitVec 32) (v43 : BitVec 32) (k1_t3 : Fin k1_t3_loop.trips) (k1_t39 : Fin (k1_t39_loop v37 v40 v43 k1_t3).trips) (k1_t43 : Fin k1_t43_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_128 : BitVec 32 := 0#32
  let v239 : BitVec 32 := Scalar.addi v155 c0_i32_128
  let c3_i32_129 : BitVec 32 := 3#32
  let v240 : BitVec 32 := Scalar.addi v239 c3_i32_129
  let c768_i32_130 : BitVec 32 := 768#32
  let v241 : BitVec 32 := Scalar.muli v240 c768_i32_130
  let c0_i32_294 : BitVec 32 := 0#32
  let c0_i32_131 : BitVec 32 := 0#32
  let c1_i32_133 : BitVec 32 := 1#32
  let arg21 : BitVec 32 := Scf.iv c0_i32_131 c1_i32_133 k1_t43
  let c16_i32_293 : BitVec 32 := 16#32
  let v447 : BitVec 32 := Scalar.muli arg21 c16_i32_293
  let v448 : BitVec 32 := Scalar.addi c0_i32_294 v447
  let v452 : BitVec 32 := Scalar.addi v241 v448
  let v453 : Index := Scalar.indexCast v452
  ![v453.toNat]
@[reducible] def k1_t44_loop : Scf.Loop 32 :=
  let c0_i32_144 : BitVec 32 := 0#32
  let c48_i32_145 : BitVec 32 := 48#32
  let v259 : BitVec 32 := Scalar.addi c0_i32_144 c48_i32_145
  let c1_i32_146 : BitVec 32 := 1#32
  ⟨c0_i32_144, v259, c1_i32_146⟩
def k1_off91 (i : grid1.Coords) (v37 : BitVec 32) (v40 : BitVec 32) (v43 : BitVec 32) (k1_t3 : Fin k1_t3_loop.trips) (k1_t39 : Fin (k1_t39_loop v37 v40 v43 k1_t3).trips) (v247 : BitVec 32) (k1_t44 : Fin k1_t44_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_135 : BitVec 32 := 16#32
  let v243 : BitVec 32 := Scalar.muli v126 c16_i32_135
  let c0_i32_136 : BitVec 32 := 0#32
  let v244 : BitVec 32 := Scalar.addi v243 c0_i32_136
  let c4_i32 : BitVec 32 := 4#32
  let v245 : BitVec 32 := Scalar.addi v244 c4_i32
  let v249 : BitVec 1 := Scalar.cmpi .slt v245 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v248 : BitVec 32 := Scalar.subi v247 v48
  let c0_i32_137 : BitVec 32 := 0#32
  let v250 : BitVec 1 := Scalar.cmpi .sge v248 c0_i32_137
  let v251 : BitVec 1 := Scalar.andi v249 v250
  let c128_i32_138 : BitVec 32 := 128#32
  let v252 : BitVec 1 := Scalar.cmpi .slt v248 c128_i32_138
  let v253 : BitVec 1 := Scalar.andi v251 v252
  let c128_i32_139 : BitVec 32 := 128#32
  let v254 : BitVec 32 := Scalar.select v253 v248 c128_i32_139
  let c768_i32_140 : BitVec 32 := 768#32
  let v255 : BitVec 32 := Scalar.muli v254 c768_i32_140
  let c0_i32_294 : BitVec 32 := 0#32
  let c0_i32_144 : BitVec 32 := 0#32
  let c1_i32_146 : BitVec 32 := 1#32
  let arg21 : BitVec 32 := Scf.iv c0_i32_144 c1_i32_146 k1_t44
  let c16_i32_293 : BitVec 32 := 16#32
  let v447 : BitVec 32 := Scalar.muli arg21 c16_i32_293
  let v448 : BitVec 32 := Scalar.addi c0_i32_294 v447
  let v449 : BitVec 32 := Scalar.addi v255 v448
  let v450 : Index := Scalar.indexCast v449
  ![v450.toNat]

def k1_chk41 (i : grid1.Coords) (v37 : BitVec 32) (v40 : BitVec 32) (v43 : BitVec 32) (k1_t3 : Fin k1_t3_loop.trips) (k1_t39 : Fin (k1_t39_loop v37 v40 v43 k1_t3).trips) (v247 : BitVec 32) : Prop :=
  (∀ k1_t44 : Fin k1_t44_loop.trips, ∀ (k1_h6 : k1_cond6 v37 v40 v43 k1_t3 k1_t39 = 1#1), ∀ a, (k1_off91 i v37 v40 v43 k1_t3 k1_t39 v247 k1_t44) a + S16.size a ≤ S99072.size a)
theorem k1_off91_inb : ∀ (i : grid1.Coords) (v37 : BitVec 32) (v40 : BitVec 32) (v43 : BitVec 32) (k1_t3 : Fin k1_t3_loop.trips) (k1_t39 : Fin (k1_t39_loop v37 v40 v43 k1_t3).trips) (v247 : BitVec 32) (k1_hw41 : k1_chk41 i v37 v40 v43 k1_t3 k1_t39 v247) (k1_t44 : Fin k1_t44_loop.trips), ∀ (k1_h6 : k1_cond6 v37 v40 v43 k1_t3 k1_t39 = 1#1), ∀ a, (k1_off91 i v37 v40 v43 k1_t3 k1_t39 v247 k1_t44) a + S16.size a ≤ S99072.size a := fun i v37 v40 v43 k1_t3 k1_t39 v247 k1_hw41 k1_t44 k1_h6 => k1_hw41 k1_t44 k1_h6

def k1_off92 (v37 : BitVec 32) (v40 : BitVec 32) (v43 : BitVec 32) (k1_t3 : Fin k1_t3_loop.trips) (k1_t39 : Fin (k1_t39_loop v37 v40 v43 k1_t3).trips) (k1_t44 : Fin k1_t44_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_141 : BitVec 32 := 0#32
  let v256 : BitVec 32 := Scalar.addi v155 c0_i32_141
  let c4_i32_142 : BitVec 32 := 4#32
  let v257 : BitVec 32 := Scalar.addi v256 c4_i32_142
  let c768_i32_143 : BitVec 32 := 768#32
  let v258 : BitVec 32 := Scalar.muli v257 c768_i32_143
  let c0_i32_294 : BitVec 32 := 0#32
  let c0_i32_144 : BitVec 32 := 0#32
  let c1_i32_146 : BitVec 32 := 1#32
  let arg21 : BitVec 32 := Scf.iv c0_i32_144 c1_i32_146 k1_t44
  let c16_i32_293 : BitVec 32 := 16#32
  let v447 : BitVec 32 := Scalar.muli arg21 c16_i32_293
  let v448 : BitVec 32 := Scalar.addi c0_i32_294 v447
  let v452 : BitVec 32 := Scalar.addi v258 v448
  let v453 : Index := Scalar.indexCast v452
  ![v453.toNat]
@[reducible] def k1_t45_loop : Scf.Loop 32 :=
  let c0_i32_157 : BitVec 32 := 0#32
  let c48_i32_158 : BitVec 32 := 48#32
  let v276 : BitVec 32 := Scalar.addi c0_i32_157 c48_i32_158
  let c1_i32_159 : BitVec 32 := 1#32
  ⟨c0_i32_157, v276, c1_i32_159⟩
def k1_off93 (i : grid1.Coords) (v37 : BitVec 32) (v40 : BitVec 32) (v43 : BitVec 32) (k1_t3 : Fin k1_t3_loop.trips) (k1_t39 : Fin (k1_t39_loop v37 v40 v43 k1_t3).trips) (v264 : BitVec 32) (k1_t45 : Fin k1_t45_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_148 : BitVec 32 := 16#32
  let v260 : BitVec 32 := Scalar.muli v126 c16_i32_148
  let c0_i32_149 : BitVec 32 := 0#32
  let v261 : BitVec 32 := Scalar.addi v260 c0_i32_149
  let c5_i32 : BitVec 32 := 5#32
  let v262 : BitVec 32 := Scalar.addi v261 c5_i32
  let v266 : BitVec 1 := Scalar.cmpi .slt v262 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v265 : BitVec 32 := Scalar.subi v264 v48
  let c0_i32_150 : BitVec 32 := 0#32
  let v267 : BitVec 1 := Scalar.cmpi .sge v265 c0_i32_150
  let v268 : BitVec 1 := Scalar.andi v266 v267
  let c128_i32_151 : BitVec 32 := 128#32
  let v269 : BitVec 1 := Scalar.cmpi .slt v265 c128_i32_151
  let v270 : BitVec 1 := Scalar.andi v268 v269
  let c128_i32_152 : BitVec 32 := 128#32
  let v271 : BitVec 32 := Scalar.select v270 v265 c128_i32_152
  let c768_i32_153 : BitVec 32 := 768#32
  let v272 : BitVec 32 := Scalar.muli v271 c768_i32_153
  let c0_i32_294 : BitVec 32 := 0#32
  let c0_i32_157 : BitVec 32 := 0#32
  let c1_i32_159 : BitVec 32 := 1#32
  let arg21 : BitVec 32 := Scf.iv c0_i32_157 c1_i32_159 k1_t45
  let c16_i32_293 : BitVec 32 := 16#32
  let v447 : BitVec 32 := Scalar.muli arg21 c16_i32_293
  let v448 : BitVec 32 := Scalar.addi c0_i32_294 v447
  let v449 : BitVec 32 := Scalar.addi v272 v448
  let v450 : Index := Scalar.indexCast v449
  ![v450.toNat]

def k1_chk42 (i : grid1.Coords) (v37 : BitVec 32) (v40 : BitVec 32) (v43 : BitVec 32) (k1_t3 : Fin k1_t3_loop.trips) (k1_t39 : Fin (k1_t39_loop v37 v40 v43 k1_t3).trips) (v264 : BitVec 32) : Prop :=
  (∀ k1_t45 : Fin k1_t45_loop.trips, ∀ (k1_h6 : k1_cond6 v37 v40 v43 k1_t3 k1_t39 = 1#1), ∀ a, (k1_off93 i v37 v40 v43 k1_t3 k1_t39 v264 k1_t45) a + S16.size a ≤ S99072.size a)
theorem k1_off93_inb : ∀ (i : grid1.Coords) (v37 : BitVec 32) (v40 : BitVec 32) (v43 : BitVec 32) (k1_t3 : Fin k1_t3_loop.trips) (k1_t39 : Fin (k1_t39_loop v37 v40 v43 k1_t3).trips) (v264 : BitVec 32) (k1_hw42 : k1_chk42 i v37 v40 v43 k1_t3 k1_t39 v264) (k1_t45 : Fin k1_t45_loop.trips), ∀ (k1_h6 : k1_cond6 v37 v40 v43 k1_t3 k1_t39 = 1#1), ∀ a, (k1_off93 i v37 v40 v43 k1_t3 k1_t39 v264 k1_t45) a + S16.size a ≤ S99072.size a := fun i v37 v40 v43 k1_t3 k1_t39 v264 k1_hw42 k1_t45 k1_h6 => k1_hw42 k1_t45 k1_h6

def k1_off94 (v37 : BitVec 32) (v40 : BitVec 32) (v43 : BitVec 32) (k1_t3 : Fin k1_t3_loop.trips) (k1_t39 : Fin (k1_t39_loop v37 v40 v43 k1_t3).trips) (k1_t45 : Fin k1_t45_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_154 : BitVec 32 := 0#32
  let v273 : BitVec 32 := Scalar.addi v155 c0_i32_154
  let c5_i32_155 : BitVec 32 := 5#32
  let v274 : BitVec 32 := Scalar.addi v273 c5_i32_155
  let c768_i32_156 : BitVec 32 := 768#32
  let v275 : BitVec 32 := Scalar.muli v274 c768_i32_156
  let c0_i32_294 : BitVec 32 := 0#32
  let c0_i32_157 : BitVec 32 := 0#32
  let c1_i32_159 : BitVec 32 := 1#32
  let arg21 : BitVec 32 := Scf.iv c0_i32_157 c1_i32_159 k1_t45
  let c16_i32_293 : BitVec 32 := 16#32
  let v447 : BitVec 32 := Scalar.muli arg21 c16_i32_293
  let v448 : BitVec 32 := Scalar.addi c0_i32_294 v447
  let v452 : BitVec 32 := Scalar.addi v275 v448
  let v453 : Index := Scalar.indexCast v452
  ![v453.toNat]
@[reducible] def k1_t46_loop : Scf.Loop 32 :=
  let c0_i32_170 : BitVec 32 := 0#32
  let c48_i32_171 : BitVec 32 := 48#32
  let v293 : BitVec 32 := Scalar.addi c0_i32_170 c48_i32_171
  let c1_i32_172 : BitVec 32 := 1#32
  ⟨c0_i32_170, v293, c1_i32_172⟩
def k1_off95 (i : grid1.Coords) (v37 : BitVec 32) (v40 : BitVec 32) (v43 : BitVec 32) (k1_t3 : Fin k1_t3_loop.trips) (k1_t39 : Fin (k1_t39_loop v37 v40 v43 k1_t3).trips) (v281 : BitVec 32) (k1_t46 : Fin k1_t46_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_161 : BitVec 32 := 16#32
  let v277 : BitVec 32 := Scalar.muli v126 c16_i32_161
  let c0_i32_162 : BitVec 32 := 0#32
  let v278 : BitVec 32 := Scalar.addi v277 c0_i32_162
  let c6_i32 : BitVec 32 := 6#32
  let v279 : BitVec 32 := Scalar.addi v278 c6_i32
  let v283 : BitVec 1 := Scalar.cmpi .slt v279 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v282 : BitVec 32 := Scalar.subi v281 v48
  let c0_i32_163 : BitVec 32 := 0#32
  let v284 : BitVec 1 := Scalar.cmpi .sge v282 c0_i32_163
  let v285 : BitVec 1 := Scalar.andi v283 v284
  let c128_i32_164 : BitVec 32 := 128#32
  let v286 : BitVec 1 := Scalar.cmpi .slt v282 c128_i32_164
  let v287 : BitVec 1 := Scalar.andi v285 v286
  let c128_i32_165 : BitVec 32 := 128#32
  let v288 : BitVec 32 := Scalar.select v287 v282 c128_i32_165
  let c768_i32_166 : BitVec 32 := 768#32
  let v289 : BitVec 32 := Scalar.muli v288 c768_i32_166
  let c0_i32_294 : BitVec 32 := 0#32
  let c0_i32_170 : BitVec 32 := 0#32
  let c1_i32_172 : BitVec 32 := 1#32
  let arg21 : BitVec 32 := Scf.iv c0_i32_170 c1_i32_172 k1_t46
  let c16_i32_293 : BitVec 32 := 16#32
  let v447 : BitVec 32 := Scalar.muli arg21 c16_i32_293
  let v448 : BitVec 32 := Scalar.addi c0_i32_294 v447
  let v449 : BitVec 32 := Scalar.addi v289 v448
  let v450 : Index := Scalar.indexCast v449
  ![v450.toNat]

def k1_chk43 (i : grid1.Coords) (v37 : BitVec 32) (v40 : BitVec 32) (v43 : BitVec 32) (k1_t3 : Fin k1_t3_loop.trips) (k1_t39 : Fin (k1_t39_loop v37 v40 v43 k1_t3).trips) (v281 : BitVec 32) : Prop :=
  (∀ k1_t46 : Fin k1_t46_loop.trips, ∀ (k1_h6 : k1_cond6 v37 v40 v43 k1_t3 k1_t39 = 1#1), ∀ a, (k1_off95 i v37 v40 v43 k1_t3 k1_t39 v281 k1_t46) a + S16.size a ≤ S99072.size a)
theorem k1_off95_inb : ∀ (i : grid1.Coords) (v37 : BitVec 32) (v40 : BitVec 32) (v43 : BitVec 32) (k1_t3 : Fin k1_t3_loop.trips) (k1_t39 : Fin (k1_t39_loop v37 v40 v43 k1_t3).trips) (v281 : BitVec 32) (k1_hw43 : k1_chk43 i v37 v40 v43 k1_t3 k1_t39 v281) (k1_t46 : Fin k1_t46_loop.trips), ∀ (k1_h6 : k1_cond6 v37 v40 v43 k1_t3 k1_t39 = 1#1), ∀ a, (k1_off95 i v37 v40 v43 k1_t3 k1_t39 v281 k1_t46) a + S16.size a ≤ S99072.size a := fun i v37 v40 v43 k1_t3 k1_t39 v281 k1_hw43 k1_t46 k1_h6 => k1_hw43 k1_t46 k1_h6

def k1_off96 (v37 : BitVec 32) (v40 : BitVec 32) (v43 : BitVec 32) (k1_t3 : Fin k1_t3_loop.trips) (k1_t39 : Fin (k1_t39_loop v37 v40 v43 k1_t3).trips) (k1_t46 : Fin k1_t46_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_167 : BitVec 32 := 0#32
  let v290 : BitVec 32 := Scalar.addi v155 c0_i32_167
  let c6_i32_168 : BitVec 32 := 6#32
  let v291 : BitVec 32 := Scalar.addi v290 c6_i32_168
  let c768_i32_169 : BitVec 32 := 768#32
  let v292 : BitVec 32 := Scalar.muli v291 c768_i32_169
  let c0_i32_294 : BitVec 32 := 0#32
  let c0_i32_170 : BitVec 32 := 0#32
  let c1_i32_172 : BitVec 32 := 1#32
  let arg21 : BitVec 32 := Scf.iv c0_i32_170 c1_i32_172 k1_t46
  let c16_i32_293 : BitVec 32 := 16#32
  let v447 : BitVec 32 := Scalar.muli arg21 c16_i32_293
  let v448 : BitVec 32 := Scalar.addi c0_i32_294 v447
  let v452 : BitVec 32 := Scalar.addi v292 v448
  let v453 : Index := Scalar.indexCast v452
  ![v453.toNat]
@[reducible] def k1_t47_loop : Scf.Loop 32 :=
  let c0_i32_183 : BitVec 32 := 0#32
  let c48_i32_184 : BitVec 32 := 48#32
  let v310 : BitVec 32 := Scalar.addi c0_i32_183 c48_i32_184
  let c1_i32_185 : BitVec 32 := 1#32
  ⟨c0_i32_183, v310, c1_i32_185⟩
def k1_off97 (i : grid1.Coords) (v37 : BitVec 32) (v40 : BitVec 32) (v43 : BitVec 32) (k1_t3 : Fin k1_t3_loop.trips) (k1_t39 : Fin (k1_t39_loop v37 v40 v43 k1_t3).trips) (v298 : BitVec 32) (k1_t47 : Fin k1_t47_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_174 : BitVec 32 := 16#32
  let v294 : BitVec 32 := Scalar.muli v126 c16_i32_174
  let c0_i32_175 : BitVec 32 := 0#32
  let v295 : BitVec 32 := Scalar.addi v294 c0_i32_175
  let c7_i32 : BitVec 32 := 7#32
  let v296 : BitVec 32 := Scalar.addi v295 c7_i32
  let v300 : BitVec 1 := Scalar.cmpi .slt v296 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v299 : BitVec 32 := Scalar.subi v298 v48
  let c0_i32_176 : BitVec 32 := 0#32
  let v301 : BitVec 1 := Scalar.cmpi .sge v299 c0_i32_176
  let v302 : BitVec 1 := Scalar.andi v300 v301
  let c128_i32_177 : BitVec 32 := 128#32
  let v303 : BitVec 1 := Scalar.cmpi .slt v299 c128_i32_177
  let v304 : BitVec 1 := Scalar.andi v302 v303
  let c128_i32_178 : BitVec 32 := 128#32
  let v305 : BitVec 32 := Scalar.select v304 v299 c128_i32_178
  let c768_i32_179 : BitVec 32 := 768#32
  let v306 : BitVec 32 := Scalar.muli v305 c768_i32_179
  let c0_i32_294 : BitVec 32 := 0#32
  let c0_i32_183 : BitVec 32 := 0#32
  let c1_i32_185 : BitVec 32 := 1#32
  let arg21 : BitVec 32 := Scf.iv c0_i32_183 c1_i32_185 k1_t47
  let c16_i32_293 : BitVec 32 := 16#32
  let v447 : BitVec 32 := Scalar.muli arg21 c16_i32_293
  let v448 : BitVec 32 := Scalar.addi c0_i32_294 v447
  let v449 : BitVec 32 := Scalar.addi v306 v448
  let v450 : Index := Scalar.indexCast v449
  ![v450.toNat]

def k1_chk44 (i : grid1.Coords) (v37 : BitVec 32) (v40 : BitVec 32) (v43 : BitVec 32) (k1_t3 : Fin k1_t3_loop.trips) (k1_t39 : Fin (k1_t39_loop v37 v40 v43 k1_t3).trips) (v298 : BitVec 32) : Prop :=
  (∀ k1_t47 : Fin k1_t47_loop.trips, ∀ (k1_h6 : k1_cond6 v37 v40 v43 k1_t3 k1_t39 = 1#1), ∀ a, (k1_off97 i v37 v40 v43 k1_t3 k1_t39 v298 k1_t47) a + S16.size a ≤ S99072.size a)
theorem k1_off97_inb : ∀ (i : grid1.Coords) (v37 : BitVec 32) (v40 : BitVec 32) (v43 : BitVec 32) (k1_t3 : Fin k1_t3_loop.trips) (k1_t39 : Fin (k1_t39_loop v37 v40 v43 k1_t3).trips) (v298 : BitVec 32) (k1_hw44 : k1_chk44 i v37 v40 v43 k1_t3 k1_t39 v298) (k1_t47 : Fin k1_t47_loop.trips), ∀ (k1_h6 : k1_cond6 v37 v40 v43 k1_t3 k1_t39 = 1#1), ∀ a, (k1_off97 i v37 v40 v43 k1_t3 k1_t39 v298 k1_t47) a + S16.size a ≤ S99072.size a := fun i v37 v40 v43 k1_t3 k1_t39 v298 k1_hw44 k1_t47 k1_h6 => k1_hw44 k1_t47 k1_h6

def k1_off98 (v37 : BitVec 32) (v40 : BitVec 32) (v43 : BitVec 32) (k1_t3 : Fin k1_t3_loop.trips) (k1_t39 : Fin (k1_t39_loop v37 v40 v43 k1_t3).trips) (k1_t47 : Fin k1_t47_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_180 : BitVec 32 := 0#32
  let v307 : BitVec 32 := Scalar.addi v155 c0_i32_180
  let c7_i32_181 : BitVec 32 := 7#32
  let v308 : BitVec 32 := Scalar.addi v307 c7_i32_181
  let c768_i32_182 : BitVec 32 := 768#32
  let v309 : BitVec 32 := Scalar.muli v308 c768_i32_182
  let c0_i32_294 : BitVec 32 := 0#32
  let c0_i32_183 : BitVec 32 := 0#32
  let c1_i32_185 : BitVec 32 := 1#32
  let arg21 : BitVec 32 := Scf.iv c0_i32_183 c1_i32_185 k1_t47
  let c16_i32_293 : BitVec 32 := 16#32
  let v447 : BitVec 32 := Scalar.muli arg21 c16_i32_293
  let v448 : BitVec 32 := Scalar.addi c0_i32_294 v447
  let v452 : BitVec 32 := Scalar.addi v309 v448
  let v453 : Index := Scalar.indexCast v452
  ![v453.toNat]
@[reducible] def k1_t48_loop : Scf.Loop 32 :=
  let c0_i32_197 : BitVec 32 := 0#32
  let c48_i32_198 : BitVec 32 := 48#32
  let v327 : BitVec 32 := Scalar.addi c0_i32_197 c48_i32_198
  let c1_i32_199 : BitVec 32 := 1#32
  ⟨c0_i32_197, v327, c1_i32_199⟩
def k1_off99 (i : grid1.Coords) (v37 : BitVec 32) (v40 : BitVec 32) (v43 : BitVec 32) (k1_t3 : Fin k1_t3_loop.trips) (k1_t39 : Fin (k1_t39_loop v37 v40 v43 k1_t3).trips) (v315 : BitVec 32) (k1_t48 : Fin k1_t48_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_187 : BitVec 32 := 16#32
  let v311 : BitVec 32 := Scalar.muli v126 c16_i32_187
  let c0_i32_188 : BitVec 32 := 0#32
  let v312 : BitVec 32 := Scalar.addi v311 c0_i32_188
  let c8_i32_189 : BitVec 32 := 8#32
  let v313 : BitVec 32 := Scalar.addi v312 c8_i32_189
  let v317 : BitVec 1 := Scalar.cmpi .slt v313 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v316 : BitVec 32 := Scalar.subi v315 v48
  let c0_i32_190 : BitVec 32 := 0#32
  let v318 : BitVec 1 := Scalar.cmpi .sge v316 c0_i32_190
  let v319 : BitVec 1 := Scalar.andi v317 v318
  let c128_i32_191 : BitVec 32 := 128#32
  let v320 : BitVec 1 := Scalar.cmpi .slt v316 c128_i32_191
  let v321 : BitVec 1 := Scalar.andi v319 v320
  let c128_i32_192 : BitVec 32 := 128#32
  let v322 : BitVec 32 := Scalar.select v321 v316 c128_i32_192
  let c768_i32_193 : BitVec 32 := 768#32
  let v323 : BitVec 32 := Scalar.muli v322 c768_i32_193
  let c0_i32_294 : BitVec 32 := 0#32
  let c0_i32_197 : BitVec 32 := 0#32
  let c1_i32_199 : BitVec 32 := 1#32
  let arg21 : BitVec 32 := Scf.iv c0_i32_197 c1_i32_199 k1_t48
  let c16_i32_293 : BitVec 32 := 16#32
  let v447 : BitVec 32 := Scalar.muli arg21 c16_i32_293
  let v448 : BitVec 32 := Scalar.addi c0_i32_294 v447
  let v449 : BitVec 32 := Scalar.addi v323 v448
  let v450 : Index := Scalar.indexCast v449
  ![v450.toNat]

def k1_chk45 (i : grid1.Coords) (v37 : BitVec 32) (v40 : BitVec 32) (v43 : BitVec 32) (k1_t3 : Fin k1_t3_loop.trips) (k1_t39 : Fin (k1_t39_loop v37 v40 v43 k1_t3).trips) (v315 : BitVec 32) : Prop :=
  (∀ k1_t48 : Fin k1_t48_loop.trips, ∀ (k1_h6 : k1_cond6 v37 v40 v43 k1_t3 k1_t39 = 1#1), ∀ a, (k1_off99 i v37 v40 v43 k1_t3 k1_t39 v315 k1_t48) a + S16.size a ≤ S99072.size a)
theorem k1_off99_inb : ∀ (i : grid1.Coords) (v37 : BitVec 32) (v40 : BitVec 32) (v43 : BitVec 32) (k1_t3 : Fin k1_t3_loop.trips) (k1_t39 : Fin (k1_t39_loop v37 v40 v43 k1_t3).trips) (v315 : BitVec 32) (k1_hw45 : k1_chk45 i v37 v40 v43 k1_t3 k1_t39 v315) (k1_t48 : Fin k1_t48_loop.trips), ∀ (k1_h6 : k1_cond6 v37 v40 v43 k1_t3 k1_t39 = 1#1), ∀ a, (k1_off99 i v37 v40 v43 k1_t3 k1_t39 v315 k1_t48) a + S16.size a ≤ S99072.size a := fun i v37 v40 v43 k1_t3 k1_t39 v315 k1_hw45 k1_t48 k1_h6 => k1_hw45 k1_t48 k1_h6

def k1_off100 (v37 : BitVec 32) (v40 : BitVec 32) (v43 : BitVec 32) (k1_t3 : Fin k1_t3_loop.trips) (k1_t39 : Fin (k1_t39_loop v37 v40 v43 k1_t3).trips) (k1_t48 : Fin k1_t48_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_194 : BitVec 32 := 0#32
  let v324 : BitVec 32 := Scalar.addi v155 c0_i32_194
  let c8_i32_195 : BitVec 32 := 8#32
  let v325 : BitVec 32 := Scalar.addi v324 c8_i32_195
  let c768_i32_196 : BitVec 32 := 768#32
  let v326 : BitVec 32 := Scalar.muli v325 c768_i32_196
  let c0_i32_294 : BitVec 32 := 0#32
  let c0_i32_197 : BitVec 32 := 0#32
  let c1_i32_199 : BitVec 32 := 1#32
  let arg21 : BitVec 32 := Scf.iv c0_i32_197 c1_i32_199 k1_t48
  let c16_i32_293 : BitVec 32 := 16#32
  let v447 : BitVec 32 := Scalar.muli arg21 c16_i32_293
  let v448 : BitVec 32 := Scalar.addi c0_i32_294 v447
  let v452 : BitVec 32 := Scalar.addi v326 v448
  let v453 : Index := Scalar.indexCast v452
  ![v453.toNat]
@[reducible] def k1_t49_loop : Scf.Loop 32 :=
  let c0_i32_211 : BitVec 32 := 0#32
  let c48_i32_212 : BitVec 32 := 48#32
  let v344 : BitVec 32 := Scalar.addi c0_i32_211 c48_i32_212
  let c1_i32_213 : BitVec 32 := 1#32
  ⟨c0_i32_211, v344, c1_i32_213⟩
def k1_off101 (i : grid1.Coords) (v37 : BitVec 32) (v40 : BitVec 32) (v43 : BitVec 32) (k1_t3 : Fin k1_t3_loop.trips) (k1_t39 : Fin (k1_t39_loop v37 v40 v43 k1_t3).trips) (v332 : BitVec 32) (k1_t49 : Fin k1_t49_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_201 : BitVec 32 := 16#32
  let v328 : BitVec 32 := Scalar.muli v126 c16_i32_201
  let c0_i32_202 : BitVec 32 := 0#32
  let v329 : BitVec 32 := Scalar.addi v328 c0_i32_202
  let c9_i32_203 : BitVec 32 := 9#32
  let v330 : BitVec 32 := Scalar.addi v329 c9_i32_203
  let v334 : BitVec 1 := Scalar.cmpi .slt v330 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v333 : BitVec 32 := Scalar.subi v332 v48
  let c0_i32_204 : BitVec 32 := 0#32
  let v335 : BitVec 1 := Scalar.cmpi .sge v333 c0_i32_204
  let v336 : BitVec 1 := Scalar.andi v334 v335
  let c128_i32_205 : BitVec 32 := 128#32
  let v337 : BitVec 1 := Scalar.cmpi .slt v333 c128_i32_205
  let v338 : BitVec 1 := Scalar.andi v336 v337
  let c128_i32_206 : BitVec 32 := 128#32
  let v339 : BitVec 32 := Scalar.select v338 v333 c128_i32_206
  let c768_i32_207 : BitVec 32 := 768#32
  let v340 : BitVec 32 := Scalar.muli v339 c768_i32_207
  let c0_i32_294 : BitVec 32 := 0#32
  let c0_i32_211 : BitVec 32 := 0#32
  let c1_i32_213 : BitVec 32 := 1#32
  let arg21 : BitVec 32 := Scf.iv c0_i32_211 c1_i32_213 k1_t49
  let c16_i32_293 : BitVec 32 := 16#32
  let v447 : BitVec 32 := Scalar.muli arg21 c16_i32_293
  let v448 : BitVec 32 := Scalar.addi c0_i32_294 v447
  let v449 : BitVec 32 := Scalar.addi v340 v448
  let v450 : Index := Scalar.indexCast v449
  ![v450.toNat]

def k1_chk46 (i : grid1.Coords) (v37 : BitVec 32) (v40 : BitVec 32) (v43 : BitVec 32) (k1_t3 : Fin k1_t3_loop.trips) (k1_t39 : Fin (k1_t39_loop v37 v40 v43 k1_t3).trips) (v332 : BitVec 32) : Prop :=
  (∀ k1_t49 : Fin k1_t49_loop.trips, ∀ (k1_h6 : k1_cond6 v37 v40 v43 k1_t3 k1_t39 = 1#1), ∀ a, (k1_off101 i v37 v40 v43 k1_t3 k1_t39 v332 k1_t49) a + S16.size a ≤ S99072.size a)
theorem k1_off101_inb : ∀ (i : grid1.Coords) (v37 : BitVec 32) (v40 : BitVec 32) (v43 : BitVec 32) (k1_t3 : Fin k1_t3_loop.trips) (k1_t39 : Fin (k1_t39_loop v37 v40 v43 k1_t3).trips) (v332 : BitVec 32) (k1_hw46 : k1_chk46 i v37 v40 v43 k1_t3 k1_t39 v332) (k1_t49 : Fin k1_t49_loop.trips), ∀ (k1_h6 : k1_cond6 v37 v40 v43 k1_t3 k1_t39 = 1#1), ∀ a, (k1_off101 i v37 v40 v43 k1_t3 k1_t39 v332 k1_t49) a + S16.size a ≤ S99072.size a := fun i v37 v40 v43 k1_t3 k1_t39 v332 k1_hw46 k1_t49 k1_h6 => k1_hw46 k1_t49 k1_h6

def k1_off102 (v37 : BitVec 32) (v40 : BitVec 32) (v43 : BitVec 32) (k1_t3 : Fin k1_t3_loop.trips) (k1_t39 : Fin (k1_t39_loop v37 v40 v43 k1_t3).trips) (k1_t49 : Fin k1_t49_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_208 : BitVec 32 := 0#32
  let v341 : BitVec 32 := Scalar.addi v155 c0_i32_208
  let c9_i32_209 : BitVec 32 := 9#32
  let v342 : BitVec 32 := Scalar.addi v341 c9_i32_209
  let c768_i32_210 : BitVec 32 := 768#32
  let v343 : BitVec 32 := Scalar.muli v342 c768_i32_210
  let c0_i32_294 : BitVec 32 := 0#32
  let c0_i32_211 : BitVec 32 := 0#32
  let c1_i32_213 : BitVec 32 := 1#32
  let arg21 : BitVec 32 := Scf.iv c0_i32_211 c1_i32_213 k1_t49
  let c16_i32_293 : BitVec 32 := 16#32
  let v447 : BitVec 32 := Scalar.muli arg21 c16_i32_293
  let v448 : BitVec 32 := Scalar.addi c0_i32_294 v447
  let v452 : BitVec 32 := Scalar.addi v343 v448
  let v453 : Index := Scalar.indexCast v452
  ![v453.toNat]
@[reducible] def k1_t50_loop : Scf.Loop 32 :=
  let c0_i32_224 : BitVec 32 := 0#32
  let c48_i32_225 : BitVec 32 := 48#32
  let v361 : BitVec 32 := Scalar.addi c0_i32_224 c48_i32_225
  let c1_i32_226 : BitVec 32 := 1#32
  ⟨c0_i32_224, v361, c1_i32_226⟩
def k1_off103 (i : grid1.Coords) (v37 : BitVec 32) (v40 : BitVec 32) (v43 : BitVec 32) (k1_t3 : Fin k1_t3_loop.trips) (k1_t39 : Fin (k1_t39_loop v37 v40 v43 k1_t3).trips) (v349 : BitVec 32) (k1_t50 : Fin k1_t50_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_215 : BitVec 32 := 16#32
  let v345 : BitVec 32 := Scalar.muli v126 c16_i32_215
  let c0_i32_216 : BitVec 32 := 0#32
  let v346 : BitVec 32 := Scalar.addi v345 c0_i32_216
  let c10_i32 : BitVec 32 := 10#32
  let v347 : BitVec 32 := Scalar.addi v346 c10_i32
  let v351 : BitVec 1 := Scalar.cmpi .slt v347 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v350 : BitVec 32 := Scalar.subi v349 v48
  let c0_i32_217 : BitVec 32 := 0#32
  let v352 : BitVec 1 := Scalar.cmpi .sge v350 c0_i32_217
  let v353 : BitVec 1 := Scalar.andi v351 v352
  let c128_i32_218 : BitVec 32 := 128#32
  let v354 : BitVec 1 := Scalar.cmpi .slt v350 c128_i32_218
  let v355 : BitVec 1 := Scalar.andi v353 v354
  let c128_i32_219 : BitVec 32 := 128#32
  let v356 : BitVec 32 := Scalar.select v355 v350 c128_i32_219
  let c768_i32_220 : BitVec 32 := 768#32
  let v357 : BitVec 32 := Scalar.muli v356 c768_i32_220
  let c0_i32_294 : BitVec 32 := 0#32
  let c0_i32_224 : BitVec 32 := 0#32
  let c1_i32_226 : BitVec 32 := 1#32
  let arg21 : BitVec 32 := Scf.iv c0_i32_224 c1_i32_226 k1_t50
  let c16_i32_293 : BitVec 32 := 16#32
  let v447 : BitVec 32 := Scalar.muli arg21 c16_i32_293
  let v448 : BitVec 32 := Scalar.addi c0_i32_294 v447
  let v449 : BitVec 32 := Scalar.addi v357 v448
  let v450 : Index := Scalar.indexCast v449
  ![v450.toNat]

def k1_chk47 (i : grid1.Coords) (v37 : BitVec 32) (v40 : BitVec 32) (v43 : BitVec 32) (k1_t3 : Fin k1_t3_loop.trips) (k1_t39 : Fin (k1_t39_loop v37 v40 v43 k1_t3).trips) (v349 : BitVec 32) : Prop :=
  (∀ k1_t50 : Fin k1_t50_loop.trips, ∀ (k1_h6 : k1_cond6 v37 v40 v43 k1_t3 k1_t39 = 1#1), ∀ a, (k1_off103 i v37 v40 v43 k1_t3 k1_t39 v349 k1_t50) a + S16.size a ≤ S99072.size a)
theorem k1_off103_inb : ∀ (i : grid1.Coords) (v37 : BitVec 32) (v40 : BitVec 32) (v43 : BitVec 32) (k1_t3 : Fin k1_t3_loop.trips) (k1_t39 : Fin (k1_t39_loop v37 v40 v43 k1_t3).trips) (v349 : BitVec 32) (k1_hw47 : k1_chk47 i v37 v40 v43 k1_t3 k1_t39 v349) (k1_t50 : Fin k1_t50_loop.trips), ∀ (k1_h6 : k1_cond6 v37 v40 v43 k1_t3 k1_t39 = 1#1), ∀ a, (k1_off103 i v37 v40 v43 k1_t3 k1_t39 v349 k1_t50) a + S16.size a ≤ S99072.size a := fun i v37 v40 v43 k1_t3 k1_t39 v349 k1_hw47 k1_t50 k1_h6 => k1_hw47 k1_t50 k1_h6

def k1_off104 (v37 : BitVec 32) (v40 : BitVec 32) (v43 : BitVec 32) (k1_t3 : Fin k1_t3_loop.trips) (k1_t39 : Fin (k1_t39_loop v37 v40 v43 k1_t3).trips) (k1_t50 : Fin k1_t50_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_221 : BitVec 32 := 0#32
  let v358 : BitVec 32 := Scalar.addi v155 c0_i32_221
  let c10_i32_222 : BitVec 32 := 10#32
  let v359 : BitVec 32 := Scalar.addi v358 c10_i32_222
  let c768_i32_223 : BitVec 32 := 768#32
  let v360 : BitVec 32 := Scalar.muli v359 c768_i32_223
  let c0_i32_294 : BitVec 32 := 0#32
  let c0_i32_224 : BitVec 32 := 0#32
  let c1_i32_226 : BitVec 32 := 1#32
  let arg21 : BitVec 32 := Scf.iv c0_i32_224 c1_i32_226 k1_t50
  let c16_i32_293 : BitVec 32 := 16#32
  let v447 : BitVec 32 := Scalar.muli arg21 c16_i32_293
  let v448 : BitVec 32 := Scalar.addi c0_i32_294 v447
  let v452 : BitVec 32 := Scalar.addi v360 v448
  let v453 : Index := Scalar.indexCast v452
  ![v453.toNat]
@[reducible] def k1_t51_loop : Scf.Loop 32 :=
  let c0_i32_237 : BitVec 32 := 0#32
  let c48_i32_238 : BitVec 32 := 48#32
  let v378 : BitVec 32 := Scalar.addi c0_i32_237 c48_i32_238
  let c1_i32_239 : BitVec 32 := 1#32
  ⟨c0_i32_237, v378, c1_i32_239⟩
def k1_off105 (i : grid1.Coords) (v37 : BitVec 32) (v40 : BitVec 32) (v43 : BitVec 32) (k1_t3 : Fin k1_t3_loop.trips) (k1_t39 : Fin (k1_t39_loop v37 v40 v43 k1_t3).trips) (v366 : BitVec 32) (k1_t51 : Fin k1_t51_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_228 : BitVec 32 := 16#32
  let v362 : BitVec 32 := Scalar.muli v126 c16_i32_228
  let c0_i32_229 : BitVec 32 := 0#32
  let v363 : BitVec 32 := Scalar.addi v362 c0_i32_229
  let c11_i32 : BitVec 32 := 11#32
  let v364 : BitVec 32 := Scalar.addi v363 c11_i32
  let v368 : BitVec 1 := Scalar.cmpi .slt v364 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v367 : BitVec 32 := Scalar.subi v366 v48
  let c0_i32_230 : BitVec 32 := 0#32
  let v369 : BitVec 1 := Scalar.cmpi .sge v367 c0_i32_230
  let v370 : BitVec 1 := Scalar.andi v368 v369
  let c128_i32_231 : BitVec 32 := 128#32
  let v371 : BitVec 1 := Scalar.cmpi .slt v367 c128_i32_231
  let v372 : BitVec 1 := Scalar.andi v370 v371
  let c128_i32_232 : BitVec 32 := 128#32
  let v373 : BitVec 32 := Scalar.select v372 v367 c128_i32_232
  let c768_i32_233 : BitVec 32 := 768#32
  let v374 : BitVec 32 := Scalar.muli v373 c768_i32_233
  let c0_i32_294 : BitVec 32 := 0#32
  let c0_i32_237 : BitVec 32 := 0#32
  let c1_i32_239 : BitVec 32 := 1#32
  let arg21 : BitVec 32 := Scf.iv c0_i32_237 c1_i32_239 k1_t51
  let c16_i32_293 : BitVec 32 := 16#32
  let v447 : BitVec 32 := Scalar.muli arg21 c16_i32_293
  let v448 : BitVec 32 := Scalar.addi c0_i32_294 v447
  let v449 : BitVec 32 := Scalar.addi v374 v448
  let v450 : Index := Scalar.indexCast v449
  ![v450.toNat]

def k1_chk48 (i : grid1.Coords) (v37 : BitVec 32) (v40 : BitVec 32) (v43 : BitVec 32) (k1_t3 : Fin k1_t3_loop.trips) (k1_t39 : Fin (k1_t39_loop v37 v40 v43 k1_t3).trips) (v366 : BitVec 32) : Prop :=
  (∀ k1_t51 : Fin k1_t51_loop.trips, ∀ (k1_h6 : k1_cond6 v37 v40 v43 k1_t3 k1_t39 = 1#1), ∀ a, (k1_off105 i v37 v40 v43 k1_t3 k1_t39 v366 k1_t51) a + S16.size a ≤ S99072.size a)
theorem k1_off105_inb : ∀ (i : grid1.Coords) (v37 : BitVec 32) (v40 : BitVec 32) (v43 : BitVec 32) (k1_t3 : Fin k1_t3_loop.trips) (k1_t39 : Fin (k1_t39_loop v37 v40 v43 k1_t3).trips) (v366 : BitVec 32) (k1_hw48 : k1_chk48 i v37 v40 v43 k1_t3 k1_t39 v366) (k1_t51 : Fin k1_t51_loop.trips), ∀ (k1_h6 : k1_cond6 v37 v40 v43 k1_t3 k1_t39 = 1#1), ∀ a, (k1_off105 i v37 v40 v43 k1_t3 k1_t39 v366 k1_t51) a + S16.size a ≤ S99072.size a := fun i v37 v40 v43 k1_t3 k1_t39 v366 k1_hw48 k1_t51 k1_h6 => k1_hw48 k1_t51 k1_h6

def k1_off106 (v37 : BitVec 32) (v40 : BitVec 32) (v43 : BitVec 32) (k1_t3 : Fin k1_t3_loop.trips) (k1_t39 : Fin (k1_t39_loop v37 v40 v43 k1_t3).trips) (k1_t51 : Fin k1_t51_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_234 : BitVec 32 := 0#32
  let v375 : BitVec 32 := Scalar.addi v155 c0_i32_234
  let c11_i32_235 : BitVec 32 := 11#32
  let v376 : BitVec 32 := Scalar.addi v375 c11_i32_235
  let c768_i32_236 : BitVec 32 := 768#32
  let v377 : BitVec 32 := Scalar.muli v376 c768_i32_236
  let c0_i32_294 : BitVec 32 := 0#32
  let c0_i32_237 : BitVec 32 := 0#32
  let c1_i32_239 : BitVec 32 := 1#32
  let arg21 : BitVec 32 := Scf.iv c0_i32_237 c1_i32_239 k1_t51
  let c16_i32_293 : BitVec 32 := 16#32
  let v447 : BitVec 32 := Scalar.muli arg21 c16_i32_293
  let v448 : BitVec 32 := Scalar.addi c0_i32_294 v447
  let v452 : BitVec 32 := Scalar.addi v377 v448
  let v453 : Index := Scalar.indexCast v452
  ![v453.toNat]
@[reducible] def k1_t52_loop : Scf.Loop 32 :=
  let c0_i32_250 : BitVec 32 := 0#32
  let c48_i32_251 : BitVec 32 := 48#32
  let v395 : BitVec 32 := Scalar.addi c0_i32_250 c48_i32_251
  let c1_i32_252 : BitVec 32 := 1#32
  ⟨c0_i32_250, v395, c1_i32_252⟩
def k1_off107 (i : grid1.Coords) (v37 : BitVec 32) (v40 : BitVec 32) (v43 : BitVec 32) (k1_t3 : Fin k1_t3_loop.trips) (k1_t39 : Fin (k1_t39_loop v37 v40 v43 k1_t3).trips) (v383 : BitVec 32) (k1_t52 : Fin k1_t52_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_241 : BitVec 32 := 16#32
  let v379 : BitVec 32 := Scalar.muli v126 c16_i32_241
  let c0_i32_242 : BitVec 32 := 0#32
  let v380 : BitVec 32 := Scalar.addi v379 c0_i32_242
  let c12_i32 : BitVec 32 := 12#32
  let v381 : BitVec 32 := Scalar.addi v380 c12_i32
  let v385 : BitVec 1 := Scalar.cmpi .slt v381 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v384 : BitVec 32 := Scalar.subi v383 v48
  let c0_i32_243 : BitVec 32 := 0#32
  let v386 : BitVec 1 := Scalar.cmpi .sge v384 c0_i32_243
  let v387 : BitVec 1 := Scalar.andi v385 v386
  let c128_i32_244 : BitVec 32 := 128#32
  let v388 : BitVec 1 := Scalar.cmpi .slt v384 c128_i32_244
  let v389 : BitVec 1 := Scalar.andi v387 v388
  let c128_i32_245 : BitVec 32 := 128#32
  let v390 : BitVec 32 := Scalar.select v389 v384 c128_i32_245
  let c768_i32_246 : BitVec 32 := 768#32
  let v391 : BitVec 32 := Scalar.muli v390 c768_i32_246
  let c0_i32_294 : BitVec 32 := 0#32
  let c0_i32_250 : BitVec 32 := 0#32
  let c1_i32_252 : BitVec 32 := 1#32
  let arg21 : BitVec 32 := Scf.iv c0_i32_250 c1_i32_252 k1_t52
  let c16_i32_293 : BitVec 32 := 16#32
  let v447 : BitVec 32 := Scalar.muli arg21 c16_i32_293
  let v448 : BitVec 32 := Scalar.addi c0_i32_294 v447
  let v449 : BitVec 32 := Scalar.addi v391 v448
  let v450 : Index := Scalar.indexCast v449
  ![v450.toNat]

def k1_chk49 (i : grid1.Coords) (v37 : BitVec 32) (v40 : BitVec 32) (v43 : BitVec 32) (k1_t3 : Fin k1_t3_loop.trips) (k1_t39 : Fin (k1_t39_loop v37 v40 v43 k1_t3).trips) (v383 : BitVec 32) : Prop :=
  (∀ k1_t52 : Fin k1_t52_loop.trips, ∀ (k1_h6 : k1_cond6 v37 v40 v43 k1_t3 k1_t39 = 1#1), ∀ a, (k1_off107 i v37 v40 v43 k1_t3 k1_t39 v383 k1_t52) a + S16.size a ≤ S99072.size a)
theorem k1_off107_inb : ∀ (i : grid1.Coords) (v37 : BitVec 32) (v40 : BitVec 32) (v43 : BitVec 32) (k1_t3 : Fin k1_t3_loop.trips) (k1_t39 : Fin (k1_t39_loop v37 v40 v43 k1_t3).trips) (v383 : BitVec 32) (k1_hw49 : k1_chk49 i v37 v40 v43 k1_t3 k1_t39 v383) (k1_t52 : Fin k1_t52_loop.trips), ∀ (k1_h6 : k1_cond6 v37 v40 v43 k1_t3 k1_t39 = 1#1), ∀ a, (k1_off107 i v37 v40 v43 k1_t3 k1_t39 v383 k1_t52) a + S16.size a ≤ S99072.size a := fun i v37 v40 v43 k1_t3 k1_t39 v383 k1_hw49 k1_t52 k1_h6 => k1_hw49 k1_t52 k1_h6

def k1_off108 (v37 : BitVec 32) (v40 : BitVec 32) (v43 : BitVec 32) (k1_t3 : Fin k1_t3_loop.trips) (k1_t39 : Fin (k1_t39_loop v37 v40 v43 k1_t3).trips) (k1_t52 : Fin k1_t52_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_247 : BitVec 32 := 0#32
  let v392 : BitVec 32 := Scalar.addi v155 c0_i32_247
  let c12_i32_248 : BitVec 32 := 12#32
  let v393 : BitVec 32 := Scalar.addi v392 c12_i32_248
  let c768_i32_249 : BitVec 32 := 768#32
  let v394 : BitVec 32 := Scalar.muli v393 c768_i32_249
  let c0_i32_294 : BitVec 32 := 0#32
  let c0_i32_250 : BitVec 32 := 0#32
  let c1_i32_252 : BitVec 32 := 1#32
  let arg21 : BitVec 32 := Scf.iv c0_i32_250 c1_i32_252 k1_t52
  let c16_i32_293 : BitVec 32 := 16#32
  let v447 : BitVec 32 := Scalar.muli arg21 c16_i32_293
  let v448 : BitVec 32 := Scalar.addi c0_i32_294 v447
  let v452 : BitVec 32 := Scalar.addi v394 v448
  let v453 : Index := Scalar.indexCast v452
  ![v453.toNat]
@[reducible] def k1_t53_loop : Scf.Loop 32 :=
  let c0_i32_263 : BitVec 32 := 0#32
  let c48_i32_264 : BitVec 32 := 48#32
  let v412 : BitVec 32 := Scalar.addi c0_i32_263 c48_i32_264
  let c1_i32_265 : BitVec 32 := 1#32
  ⟨c0_i32_263, v412, c1_i32_265⟩
def k1_off109 (i : grid1.Coords) (v37 : BitVec 32) (v40 : BitVec 32) (v43 : BitVec 32) (k1_t3 : Fin k1_t3_loop.trips) (k1_t39 : Fin (k1_t39_loop v37 v40 v43 k1_t3).trips) (v400 : BitVec 32) (k1_t53 : Fin k1_t53_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_254 : BitVec 32 := 16#32
  let v396 : BitVec 32 := Scalar.muli v126 c16_i32_254
  let c0_i32_255 : BitVec 32 := 0#32
  let v397 : BitVec 32 := Scalar.addi v396 c0_i32_255
  let c13_i32 : BitVec 32 := 13#32
  let v398 : BitVec 32 := Scalar.addi v397 c13_i32
  let v402 : BitVec 1 := Scalar.cmpi .slt v398 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v401 : BitVec 32 := Scalar.subi v400 v48
  let c0_i32_256 : BitVec 32 := 0#32
  let v403 : BitVec 1 := Scalar.cmpi .sge v401 c0_i32_256
  let v404 : BitVec 1 := Scalar.andi v402 v403
  let c128_i32_257 : BitVec 32 := 128#32
  let v405 : BitVec 1 := Scalar.cmpi .slt v401 c128_i32_257
  let v406 : BitVec 1 := Scalar.andi v404 v405
  let c128_i32_258 : BitVec 32 := 128#32
  let v407 : BitVec 32 := Scalar.select v406 v401 c128_i32_258
  let c768_i32_259 : BitVec 32 := 768#32
  let v408 : BitVec 32 := Scalar.muli v407 c768_i32_259
  let c0_i32_294 : BitVec 32 := 0#32
  let c0_i32_263 : BitVec 32 := 0#32
  let c1_i32_265 : BitVec 32 := 1#32
  let arg21 : BitVec 32 := Scf.iv c0_i32_263 c1_i32_265 k1_t53
  let c16_i32_293 : BitVec 32 := 16#32
  let v447 : BitVec 32 := Scalar.muli arg21 c16_i32_293
  let v448 : BitVec 32 := Scalar.addi c0_i32_294 v447
  let v449 : BitVec 32 := Scalar.addi v408 v448
  let v450 : Index := Scalar.indexCast v449
  ![v450.toNat]

def k1_chk50 (i : grid1.Coords) (v37 : BitVec 32) (v40 : BitVec 32) (v43 : BitVec 32) (k1_t3 : Fin k1_t3_loop.trips) (k1_t39 : Fin (k1_t39_loop v37 v40 v43 k1_t3).trips) (v400 : BitVec 32) : Prop :=
  (∀ k1_t53 : Fin k1_t53_loop.trips, ∀ (k1_h6 : k1_cond6 v37 v40 v43 k1_t3 k1_t39 = 1#1), ∀ a, (k1_off109 i v37 v40 v43 k1_t3 k1_t39 v400 k1_t53) a + S16.size a ≤ S99072.size a)
theorem k1_off109_inb : ∀ (i : grid1.Coords) (v37 : BitVec 32) (v40 : BitVec 32) (v43 : BitVec 32) (k1_t3 : Fin k1_t3_loop.trips) (k1_t39 : Fin (k1_t39_loop v37 v40 v43 k1_t3).trips) (v400 : BitVec 32) (k1_hw50 : k1_chk50 i v37 v40 v43 k1_t3 k1_t39 v400) (k1_t53 : Fin k1_t53_loop.trips), ∀ (k1_h6 : k1_cond6 v37 v40 v43 k1_t3 k1_t39 = 1#1), ∀ a, (k1_off109 i v37 v40 v43 k1_t3 k1_t39 v400 k1_t53) a + S16.size a ≤ S99072.size a := fun i v37 v40 v43 k1_t3 k1_t39 v400 k1_hw50 k1_t53 k1_h6 => k1_hw50 k1_t53 k1_h6

def k1_off110 (v37 : BitVec 32) (v40 : BitVec 32) (v43 : BitVec 32) (k1_t3 : Fin k1_t3_loop.trips) (k1_t39 : Fin (k1_t39_loop v37 v40 v43 k1_t3).trips) (k1_t53 : Fin k1_t53_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_260 : BitVec 32 := 0#32
  let v409 : BitVec 32 := Scalar.addi v155 c0_i32_260
  let c13_i32_261 : BitVec 32 := 13#32
  let v410 : BitVec 32 := Scalar.addi v409 c13_i32_261
  let c768_i32_262 : BitVec 32 := 768#32
  let v411 : BitVec 32 := Scalar.muli v410 c768_i32_262
  let c0_i32_294 : BitVec 32 := 0#32
  let c0_i32_263 : BitVec 32 := 0#32
  let c1_i32_265 : BitVec 32 := 1#32
  let arg21 : BitVec 32 := Scf.iv c0_i32_263 c1_i32_265 k1_t53
  let c16_i32_293 : BitVec 32 := 16#32
  let v447 : BitVec 32 := Scalar.muli arg21 c16_i32_293
  let v448 : BitVec 32 := Scalar.addi c0_i32_294 v447
  let v452 : BitVec 32 := Scalar.addi v411 v448
  let v453 : Index := Scalar.indexCast v452
  ![v453.toNat]
@[reducible] def k1_t54_loop : Scf.Loop 32 :=
  let c0_i32_276 : BitVec 32 := 0#32
  let c48_i32_277 : BitVec 32 := 48#32
  let v429 : BitVec 32 := Scalar.addi c0_i32_276 c48_i32_277
  let c1_i32_278 : BitVec 32 := 1#32
  ⟨c0_i32_276, v429, c1_i32_278⟩
def k1_off111 (i : grid1.Coords) (v37 : BitVec 32) (v40 : BitVec 32) (v43 : BitVec 32) (k1_t3 : Fin k1_t3_loop.trips) (k1_t39 : Fin (k1_t39_loop v37 v40 v43 k1_t3).trips) (v417 : BitVec 32) (k1_t54 : Fin k1_t54_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_267 : BitVec 32 := 16#32
  let v413 : BitVec 32 := Scalar.muli v126 c16_i32_267
  let c0_i32_268 : BitVec 32 := 0#32
  let v414 : BitVec 32 := Scalar.addi v413 c0_i32_268
  let c14_i32 : BitVec 32 := 14#32
  let v415 : BitVec 32 := Scalar.addi v414 c14_i32
  let v419 : BitVec 1 := Scalar.cmpi .slt v415 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v418 : BitVec 32 := Scalar.subi v417 v48
  let c0_i32_269 : BitVec 32 := 0#32
  let v420 : BitVec 1 := Scalar.cmpi .sge v418 c0_i32_269
  let v421 : BitVec 1 := Scalar.andi v419 v420
  let c128_i32_270 : BitVec 32 := 128#32
  let v422 : BitVec 1 := Scalar.cmpi .slt v418 c128_i32_270
  let v423 : BitVec 1 := Scalar.andi v421 v422
  let c128_i32_271 : BitVec 32 := 128#32
  let v424 : BitVec 32 := Scalar.select v423 v418 c128_i32_271
  let c768_i32_272 : BitVec 32 := 768#32
  let v425 : BitVec 32 := Scalar.muli v424 c768_i32_272
  let c0_i32_294 : BitVec 32 := 0#32
  let c0_i32_276 : BitVec 32 := 0#32
  let c1_i32_278 : BitVec 32 := 1#32
  let arg21 : BitVec 32 := Scf.iv c0_i32_276 c1_i32_278 k1_t54
  let c16_i32_293 : BitVec 32 := 16#32
  let v447 : BitVec 32 := Scalar.muli arg21 c16_i32_293
  let v448 : BitVec 32 := Scalar.addi c0_i32_294 v447
  let v449 : BitVec 32 := Scalar.addi v425 v448
  let v450 : Index := Scalar.indexCast v449
  ![v450.toNat]

def k1_chk51 (i : grid1.Coords) (v37 : BitVec 32) (v40 : BitVec 32) (v43 : BitVec 32) (k1_t3 : Fin k1_t3_loop.trips) (k1_t39 : Fin (k1_t39_loop v37 v40 v43 k1_t3).trips) (v417 : BitVec 32) : Prop :=
  (∀ k1_t54 : Fin k1_t54_loop.trips, ∀ (k1_h6 : k1_cond6 v37 v40 v43 k1_t3 k1_t39 = 1#1), ∀ a, (k1_off111 i v37 v40 v43 k1_t3 k1_t39 v417 k1_t54) a + S16.size a ≤ S99072.size a)
theorem k1_off111_inb : ∀ (i : grid1.Coords) (v37 : BitVec 32) (v40 : BitVec 32) (v43 : BitVec 32) (k1_t3 : Fin k1_t3_loop.trips) (k1_t39 : Fin (k1_t39_loop v37 v40 v43 k1_t3).trips) (v417 : BitVec 32) (k1_hw51 : k1_chk51 i v37 v40 v43 k1_t3 k1_t39 v417) (k1_t54 : Fin k1_t54_loop.trips), ∀ (k1_h6 : k1_cond6 v37 v40 v43 k1_t3 k1_t39 = 1#1), ∀ a, (k1_off111 i v37 v40 v43 k1_t3 k1_t39 v417 k1_t54) a + S16.size a ≤ S99072.size a := fun i v37 v40 v43 k1_t3 k1_t39 v417 k1_hw51 k1_t54 k1_h6 => k1_hw51 k1_t54 k1_h6

def k1_off112 (v37 : BitVec 32) (v40 : BitVec 32) (v43 : BitVec 32) (k1_t3 : Fin k1_t3_loop.trips) (k1_t39 : Fin (k1_t39_loop v37 v40 v43 k1_t3).trips) (k1_t54 : Fin k1_t54_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_273 : BitVec 32 := 0#32
  let v426 : BitVec 32 := Scalar.addi v155 c0_i32_273
  let c14_i32_274 : BitVec 32 := 14#32
  let v427 : BitVec 32 := Scalar.addi v426 c14_i32_274
  let c768_i32_275 : BitVec 32 := 768#32
  let v428 : BitVec 32 := Scalar.muli v427 c768_i32_275
  let c0_i32_294 : BitVec 32 := 0#32
  let c0_i32_276 : BitVec 32 := 0#32
  let c1_i32_278 : BitVec 32 := 1#32
  let arg21 : BitVec 32 := Scf.iv c0_i32_276 c1_i32_278 k1_t54
  let c16_i32_293 : BitVec 32 := 16#32
  let v447 : BitVec 32 := Scalar.muli arg21 c16_i32_293
  let v448 : BitVec 32 := Scalar.addi c0_i32_294 v447
  let v452 : BitVec 32 := Scalar.addi v428 v448
  let v453 : Index := Scalar.indexCast v452
  ![v453.toNat]
@[reducible] def k1_t55_loop : Scf.Loop 32 :=
  let c0_i32_289 : BitVec 32 := 0#32
  let c48_i32_290 : BitVec 32 := 48#32
  let v446 : BitVec 32 := Scalar.addi c0_i32_289 c48_i32_290
  let c1_i32_291 : BitVec 32 := 1#32
  ⟨c0_i32_289, v446, c1_i32_291⟩
def k1_off113 (i : grid1.Coords) (v37 : BitVec 32) (v40 : BitVec 32) (v43 : BitVec 32) (k1_t3 : Fin k1_t3_loop.trips) (k1_t39 : Fin (k1_t39_loop v37 v40 v43 k1_t3).trips) (v434 : BitVec 32) (k1_t55 : Fin k1_t55_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_280 : BitVec 32 := 16#32
  let v430 : BitVec 32 := Scalar.muli v126 c16_i32_280
  let c0_i32_281 : BitVec 32 := 0#32
  let v431 : BitVec 32 := Scalar.addi v430 c0_i32_281
  let c15_i32 : BitVec 32 := 15#32
  let v432 : BitVec 32 := Scalar.addi v431 c15_i32
  let v436 : BitVec 1 := Scalar.cmpi .slt v432 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v435 : BitVec 32 := Scalar.subi v434 v48
  let c0_i32_282 : BitVec 32 := 0#32
  let v437 : BitVec 1 := Scalar.cmpi .sge v435 c0_i32_282
  let v438 : BitVec 1 := Scalar.andi v436 v437
  let c128_i32_283 : BitVec 32 := 128#32
  let v439 : BitVec 1 := Scalar.cmpi .slt v435 c128_i32_283
  let v440 : BitVec 1 := Scalar.andi v438 v439
  let c128_i32_284 : BitVec 32 := 128#32
  let v441 : BitVec 32 := Scalar.select v440 v435 c128_i32_284
  let c768_i32_285 : BitVec 32 := 768#32
  let v442 : BitVec 32 := Scalar.muli v441 c768_i32_285
  let c0_i32_294 : BitVec 32 := 0#32
  let c0_i32_289 : BitVec 32 := 0#32
  let c1_i32_291 : BitVec 32 := 1#32
  let arg21 : BitVec 32 := Scf.iv c0_i32_289 c1_i32_291 k1_t55
  let c16_i32_293 : BitVec 32 := 16#32
  let v447 : BitVec 32 := Scalar.muli arg21 c16_i32_293
  let v448 : BitVec 32 := Scalar.addi c0_i32_294 v447
  let v449 : BitVec 32 := Scalar.addi v442 v448
  let v450 : Index := Scalar.indexCast v449
  ![v450.toNat]

def k1_chk52 (i : grid1.Coords) (v37 : BitVec 32) (v40 : BitVec 32) (v43 : BitVec 32) (k1_t3 : Fin k1_t3_loop.trips) (k1_t39 : Fin (k1_t39_loop v37 v40 v43 k1_t3).trips) (v434 : BitVec 32) : Prop :=
  (∀ k1_t55 : Fin k1_t55_loop.trips, ∀ (k1_h6 : k1_cond6 v37 v40 v43 k1_t3 k1_t39 = 1#1), ∀ a, (k1_off113 i v37 v40 v43 k1_t3 k1_t39 v434 k1_t55) a + S16.size a ≤ S99072.size a)
theorem k1_off113_inb : ∀ (i : grid1.Coords) (v37 : BitVec 32) (v40 : BitVec 32) (v43 : BitVec 32) (k1_t3 : Fin k1_t3_loop.trips) (k1_t39 : Fin (k1_t39_loop v37 v40 v43 k1_t3).trips) (v434 : BitVec 32) (k1_hw52 : k1_chk52 i v37 v40 v43 k1_t3 k1_t39 v434) (k1_t55 : Fin k1_t55_loop.trips), ∀ (k1_h6 : k1_cond6 v37 v40 v43 k1_t3 k1_t39 = 1#1), ∀ a, (k1_off113 i v37 v40 v43 k1_t3 k1_t39 v434 k1_t55) a + S16.size a ≤ S99072.size a := fun i v37 v40 v43 k1_t3 k1_t39 v434 k1_hw52 k1_t55 k1_h6 => k1_hw52 k1_t55 k1_h6

def k1_off114 (v37 : BitVec 32) (v40 : BitVec 32) (v43 : BitVec 32) (k1_t3 : Fin k1_t3_loop.trips) (k1_t39 : Fin (k1_t39_loop v37 v40 v43 k1_t3).trips) (k1_t55 : Fin k1_t55_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c16_i32_74 : BitVec 32 := 16#32
  let v153 : BitVec 32 := Scalar.muli v126 c16_i32_74
  let v154 : BitVec 32 := Scalar.addi v72 v153
  let c16_i32_72 : BitVec 32 := 16#32
  let v149 : BitVec 32 := Scalar.muli v126 c16_i32_72
  let v150 : BitVec 32 := Scalar.addi v72 v149
  let c8176_i32_73 : BitVec 32 := 8176#32
  let v151 : BitVec 32 := Scalar.minsi v150 c8176_i32_73
  let v152 : BitVec 32 := v151
  let v155 : BitVec 32 := Scalar.subi v154 v152
  let c0_i32_286 : BitVec 32 := 0#32
  let v443 : BitVec 32 := Scalar.addi v155 c0_i32_286
  let c15_i32_287 : BitVec 32 := 15#32
  let v444 : BitVec 32 := Scalar.addi v443 c15_i32_287
  let c768_i32_288 : BitVec 32 := 768#32
  let v445 : BitVec 32 := Scalar.muli v444 c768_i32_288
  let c0_i32_294 : BitVec 32 := 0#32
  let c0_i32_289 : BitVec 32 := 0#32
  let c1_i32_291 : BitVec 32 := 1#32
  let arg21 : BitVec 32 := Scf.iv c0_i32_289 c1_i32_291 k1_t55
  let c16_i32_293 : BitVec 32 := 16#32
  let v447 : BitVec 32 := Scalar.muli arg21 c16_i32_293
  let v448 : BitVec 32 := Scalar.addi c0_i32_294 v447
  let v452 : BitVec 32 := Scalar.addi v445 v448
  let v453 : Index := Scalar.indexCast v452
  ![v453.toNat]
def k1_mult12 (v37 : BitVec 32) (v40 : BitVec 32) (v43 : BitVec 32) (k1_t3 : Fin k1_t3_loop.trips) (k1_t39 : Fin (k1_t39_loop v37 v40 v43 k1_t3).trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_68 : BitVec 32 := 1#32
  let v134 : BitVec 32 := Scalar.addi v126 c1_i32_68
  let c16_i32_69 : BitVec 32 := 16#32
  let v135 : BitVec 32 := Scalar.muli v134 c16_i32_69
  let v136 : BitVec 32 := Scalar.addi v72 v135
  let c8176_i32 : BitVec 32 := 8176#32
  let v137 : BitVec 32 := Scalar.minsi v136 c8176_i32
  v137
def k1_cond8 (v37 : BitVec 32) (v40 : BitVec 32) (v43 : BitVec 32) (k1_t3 : Fin k1_t3_loop.trips) (k1_t39 : Fin (k1_t39_loop v37 v40 v43 k1_t3).trips) : BitVec 1 :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_65 : BitVec 32 := 1#32
  let v130 : BitVec 32 := Scalar.addi v126 c1_i32_65
  let v131 : BitVec 1 := Scalar.cmpi .slt v130 v92
  let v132 : BitVec 32 := Scalar.extui v131
  let c0_i32_66 : BitVec 32 := 0#32
  let v133 : BitVec 1 := Scalar.cmpi .ne v132 c0_i32_66
  v133

def k1_off115 (i : grid1.Coords) (v37 : BitVec 32) (v40 : BitVec 32) (v43 : BitVec 32) (k1_t3 : Fin k1_t3_loop.trips) (k1_t39 : Fin (k1_t39_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_68 : BitVec 32 := 1#32
  let v134 : BitVec 32 := Scalar.addi v126 c1_i32_68
  let c16_i32_69 : BitVec 32 := 16#32
  let v135 : BitVec 32 := Scalar.muli v134 c16_i32_69
  let v136 : BitVec 32 := Scalar.addi v72 v135
  let c8176_i32 : BitVec 32 := 8176#32
  let v137 : BitVec 32 := Scalar.minsi v136 c8176_i32
  let v138 : BitVec 32 := v137
  let v139 : BitVec 32 := Scalar.addi v31 v138
  ![v139.toNat]
def k1_off116 (i : grid1.Coords) (v37 : BitVec 32) (v40 : BitVec 32) (v43 : BitVec 32) (k1_t3 : Fin k1_t3_loop.trips) (k1_t39 : Fin (k1_t39_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_68 : BitVec 32 := 1#32
  let v134 : BitVec 32 := Scalar.addi v126 c1_i32_68
  let c16_i32_69 : BitVec 32 := 16#32
  let v135 : BitVec 32 := Scalar.muli v134 c16_i32_69
  let v136 : BitVec 32 := Scalar.addi v72 v135
  let c8176_i32 : BitVec 32 := 8176#32
  let v137 : BitVec 32 := Scalar.minsi v136 c8176_i32
  let v138 : BitVec 32 := v137
  let v142 : BitVec 32 := Scalar.addi v31 v138
  let c768_i32_70 : BitVec 32 := 768#32
  let v143 : BitVec 32 := Scalar.muli v142 c768_i32_70
  ![v143.toNat]
def k1_mult13 (v37 : BitVec 32) (v40 : BitVec 32) (v43 : BitVec 32) (k1_t3 : Fin k1_t3_loop.trips) (k1_t39 : Fin (k1_t39_loop v37 v40 v43 k1_t3).trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c2_i32_295 : BitVec 32 := 2#32
  let v449 : BitVec 32 := Scalar.addi v126 c2_i32_295
  let c16_i32_296 : BitVec 32 := 16#32
  let v450 : BitVec 32 := Scalar.muli v449 c16_i32_296
  let v451 : BitVec 32 := Scalar.addi v72 v450
  let c8176_i32_297 : BitVec 32 := 8176#32
  let v452 : BitVec 32 := Scalar.minsi v451 c8176_i32_297
  v452
def k1_cond9 (v37 : BitVec 32) (v40 : BitVec 32) (v43 : BitVec 32) (k1_t3 : Fin k1_t3_loop.trips) (k1_t39 : Fin (k1_t39_loop v37 v40 v43 k1_t3).trips) : BitVec 1 :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c2_i32_71 : BitVec 32 := 2#32
  let v146 : BitVec 32 := Scalar.addi v126 c2_i32_71
  let v147 : BitVec 1 := Scalar.cmpi .slt v146 v92
  let v148 : BitVec 32 := Scalar.extui v147
  let c0_i32_72 : BitVec 32 := 0#32
  let v149 : BitVec 1 := Scalar.cmpi .ne v148 c0_i32_72
  v149

def k1_off117 (i : grid1.Coords) (v37 : BitVec 32) (v40 : BitVec 32) (v43 : BitVec 32) (k1_t3 : Fin k1_t3_loop.trips) (k1_t39 : Fin (k1_t39_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c2_i32_295 : BitVec 32 := 2#32
  let v449 : BitVec 32 := Scalar.addi v126 c2_i32_295
  let c16_i32_296 : BitVec 32 := 16#32
  let v450 : BitVec 32 := Scalar.muli v449 c16_i32_296
  let v451 : BitVec 32 := Scalar.addi v72 v450
  let c8176_i32_297 : BitVec 32 := 8176#32
  let v452 : BitVec 32 := Scalar.minsi v451 c8176_i32_297
  let v453 : BitVec 32 := v452
  let v454 : BitVec 32 := Scalar.addi v31 v453
  ![v454.toNat]
def k1_off118 (i : grid1.Coords) (v37 : BitVec 32) (v40 : BitVec 32) (v43 : BitVec 32) (k1_t3 : Fin k1_t3_loop.trips) (k1_t39 : Fin (k1_t39_loop v37 v40 v43 k1_t3).trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v30 : BitVec 32 := Scalar.muli v18 c8192_i32
  let v31 : BitVec 32 := v30
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c2_i32_295 : BitVec 32 := 2#32
  let v449 : BitVec 32 := Scalar.addi v126 c2_i32_295
  let c16_i32_296 : BitVec 32 := 16#32
  let v450 : BitVec 32 := Scalar.muli v449 c16_i32_296
  let v451 : BitVec 32 := Scalar.addi v72 v450
  let c8176_i32_297 : BitVec 32 := 8176#32
  let v452 : BitVec 32 := Scalar.minsi v451 c8176_i32_297
  let v453 : BitVec 32 := v452
  let v457 : BitVec 32 := Scalar.addi v31 v453
  let c768_i32_298 : BitVec 32 := 768#32
  let v458 : BitVec 32 := Scalar.muli v457 c768_i32_298
  ![v458.toNat]
def k1_mult14 (v37 : BitVec 32) (v40 : BitVec 32) (v43 : BitVec 32) (k1_t3 : Fin k1_t3_loop.trips) (k1_t39 : Fin (k1_t39_loop v37 v40 v43 k1_t3).trips) : BitVec 32 :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  v153

def k1_chk53 (v37 : BitVec 32) (v40 : BitVec 32) (v43 : BitVec 32) (k1_t3 : Fin k1_t3_loop.trips) (k1_t39 : Fin (k1_t39_loop v37 v40 v43 k1_t3).trips) (v176 : IVec S16 32) : Prop :=
  (∀ (k1_h8 : k1_cond8 v37 v40 v43 k1_t3 k1_t39 = 1#1), ∀ a x, ((![v176] : Fin 1 → IVec S16 32) a x).toNat < S144.size a)
theorem k1_idx4_inb : ∀ (v37 : BitVec 32) (v40 : BitVec 32) (v43 : BitVec 32) (k1_t3 : Fin k1_t3_loop.trips) (k1_t39 : Fin (k1_t39_loop v37 v40 v43 k1_t3).trips) (v176 : IVec S16 32) (k1_hw53 : k1_chk53 v37 v40 v43 k1_t3 k1_t39 v176), ∀ (k1_h8 : k1_cond8 v37 v40 v43 k1_t3 k1_t39 = 1#1), ∀ a x, ((![v176] : Fin 1 → IVec S16 32) a x).toNat < S144.size a := fun v37 v40 v43 k1_t3 k1_t39 v176 k1_hw53 k1_h8 => k1_hw53 k1_h8
@[reducible] def k1_t56_loop : Scf.Loop 32 :=
  let c0_i32_93 : BitVec 32 := 0#32
  let c48_i32 : BitVec 32 := 48#32
  let v193 : BitVec 32 := Scalar.addi c0_i32_93 c48_i32
  let c1_i32_94 : BitVec 32 := 1#32
  ⟨c0_i32_93, v193, c1_i32_94⟩
def k1_off119 (i : grid1.Coords) (v37 : BitVec 32) (v40 : BitVec 32) (v43 : BitVec 32) (k1_t3 : Fin k1_t3_loop.trips) (k1_t39 : Fin (k1_t39_loop v37 v40 v43 k1_t3).trips) (v181 : BitVec 32) (k1_t56 : Fin k1_t56_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_83 : BitVec 32 := 16#32
  let v177 : BitVec 32 := Scalar.muli v150 c16_i32_83
  let c0_i32_84 : BitVec 32 := 0#32
  let v178 : BitVec 32 := Scalar.addi v177 c0_i32_84
  let c0_i32_85 : BitVec 32 := 0#32
  let v179 : BitVec 32 := Scalar.addi v178 c0_i32_85
  let v183 : BitVec 1 := Scalar.cmpi .slt v179 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v182 : BitVec 32 := Scalar.subi v181 v48
  let c0_i32_86 : BitVec 32 := 0#32
  let v184 : BitVec 1 := Scalar.cmpi .sge v182 c0_i32_86
  let v185 : BitVec 1 := Scalar.andi v183 v184
  let c128_i32_87 : BitVec 32 := 128#32
  let v186 : BitVec 1 := Scalar.cmpi .slt v182 c128_i32_87
  let v187 : BitVec 1 := Scalar.andi v185 v186
  let c128_i32_88 : BitVec 32 := 128#32
  let v188 : BitVec 32 := Scalar.select v187 v182 c128_i32_88
  let c768_i32_89 : BitVec 32 := 768#32
  let v189 : BitVec 32 := Scalar.muli v188 c768_i32_89
  let c0_i32_296 : BitVec 32 := 0#32
  let c0_i32_93 : BitVec 32 := 0#32
  let c1_i32_94 : BitVec 32 := 1#32
  let arg21 : BitVec 32 := Scf.iv c0_i32_93 c1_i32_94 k1_t56
  let c16_i32_295 : BitVec 32 := 16#32
  let v449 : BitVec 32 := Scalar.muli arg21 c16_i32_295
  let v450 : BitVec 32 := Scalar.addi c0_i32_296 v449
  let v451 : BitVec 32 := Scalar.addi v189 v450
  let v452 : Index := Scalar.indexCast v451
  ![v452.toNat]

def k1_chk54 (i : grid1.Coords) (v37 : BitVec 32) (v40 : BitVec 32) (v43 : BitVec 32) (k1_t3 : Fin k1_t3_loop.trips) (k1_t39 : Fin (k1_t39_loop v37 v40 v43 k1_t3).trips) (v181 : BitVec 32) : Prop :=
  (∀ k1_t56 : Fin k1_t56_loop.trips, ∀ (k1_h8 : k1_cond8 v37 v40 v43 k1_t3 k1_t39 = 1#1), ∀ a, (k1_off119 i v37 v40 v43 k1_t3 k1_t39 v181 k1_t56) a + S16.size a ≤ S99072.size a)
theorem k1_off119_inb : ∀ (i : grid1.Coords) (v37 : BitVec 32) (v40 : BitVec 32) (v43 : BitVec 32) (k1_t3 : Fin k1_t3_loop.trips) (k1_t39 : Fin (k1_t39_loop v37 v40 v43 k1_t3).trips) (v181 : BitVec 32) (k1_hw54 : k1_chk54 i v37 v40 v43 k1_t3 k1_t39 v181) (k1_t56 : Fin k1_t56_loop.trips), ∀ (k1_h8 : k1_cond8 v37 v40 v43 k1_t3 k1_t39 = 1#1), ∀ a, (k1_off119 i v37 v40 v43 k1_t3 k1_t39 v181 k1_t56) a + S16.size a ≤ S99072.size a := fun i v37 v40 v43 k1_t3 k1_t39 v181 k1_hw54 k1_t56 k1_h8 => k1_hw54 k1_t56 k1_h8

def k1_off120 (v37 : BitVec 32) (v40 : BitVec 32) (v43 : BitVec 32) (k1_t3 : Fin k1_t3_loop.trips) (k1_t39 : Fin (k1_t39_loop v37 v40 v43 k1_t3).trips) (k1_t56 : Fin k1_t56_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_90 : BitVec 32 := 0#32
  let v190 : BitVec 32 := Scalar.addi v157 c0_i32_90
  let c0_i32_91 : BitVec 32 := 0#32
  let v191 : BitVec 32 := Scalar.addi v190 c0_i32_91
  let c768_i32_92 : BitVec 32 := 768#32
  let v192 : BitVec 32 := Scalar.muli v191 c768_i32_92
  let c0_i32_296 : BitVec 32 := 0#32
  let c0_i32_93 : BitVec 32 := 0#32
  let c1_i32_94 : BitVec 32 := 1#32
  let arg21 : BitVec 32 := Scf.iv c0_i32_93 c1_i32_94 k1_t56
  let c16_i32_295 : BitVec 32 := 16#32
  let v449 : BitVec 32 := Scalar.muli arg21 c16_i32_295
  let v450 : BitVec 32 := Scalar.addi c0_i32_296 v449
  let v454 : BitVec 32 := Scalar.addi v192 v450
  let v455 : Index := Scalar.indexCast v454
  ![v455.toNat]
@[reducible] def k1_t57_loop : Scf.Loop 32 :=
  let c0_i32_106 : BitVec 32 := 0#32
  let c48_i32_107 : BitVec 32 := 48#32
  let v210 : BitVec 32 := Scalar.addi c0_i32_106 c48_i32_107
  let c1_i32_108 : BitVec 32 := 1#32
  ⟨c0_i32_106, v210, c1_i32_108⟩
def k1_off121 (i : grid1.Coords) (v37 : BitVec 32) (v40 : BitVec 32) (v43 : BitVec 32) (k1_t3 : Fin k1_t3_loop.trips) (k1_t39 : Fin (k1_t39_loop v37 v40 v43 k1_t3).trips) (v198 : BitVec 32) (k1_t57 : Fin k1_t57_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_96 : BitVec 32 := 16#32
  let v194 : BitVec 32 := Scalar.muli v150 c16_i32_96
  let c0_i32_97 : BitVec 32 := 0#32
  let v195 : BitVec 32 := Scalar.addi v194 c0_i32_97
  let c1_i32_98 : BitVec 32 := 1#32
  let v196 : BitVec 32 := Scalar.addi v195 c1_i32_98
  let v200 : BitVec 1 := Scalar.cmpi .slt v196 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v199 : BitVec 32 := Scalar.subi v198 v48
  let c0_i32_99 : BitVec 32 := 0#32
  let v201 : BitVec 1 := Scalar.cmpi .sge v199 c0_i32_99
  let v202 : BitVec 1 := Scalar.andi v200 v201
  let c128_i32_100 : BitVec 32 := 128#32
  let v203 : BitVec 1 := Scalar.cmpi .slt v199 c128_i32_100
  let v204 : BitVec 1 := Scalar.andi v202 v203
  let c128_i32_101 : BitVec 32 := 128#32
  let v205 : BitVec 32 := Scalar.select v204 v199 c128_i32_101
  let c768_i32_102 : BitVec 32 := 768#32
  let v206 : BitVec 32 := Scalar.muli v205 c768_i32_102
  let c0_i32_296 : BitVec 32 := 0#32
  let c0_i32_106 : BitVec 32 := 0#32
  let c1_i32_108 : BitVec 32 := 1#32
  let arg21 : BitVec 32 := Scf.iv c0_i32_106 c1_i32_108 k1_t57
  let c16_i32_295 : BitVec 32 := 16#32
  let v449 : BitVec 32 := Scalar.muli arg21 c16_i32_295
  let v450 : BitVec 32 := Scalar.addi c0_i32_296 v449
  let v451 : BitVec 32 := Scalar.addi v206 v450
  let v452 : Index := Scalar.indexCast v451
  ![v452.toNat]

def k1_chk55 (i : grid1.Coords) (v37 : BitVec 32) (v40 : BitVec 32) (v43 : BitVec 32) (k1_t3 : Fin k1_t3_loop.trips) (k1_t39 : Fin (k1_t39_loop v37 v40 v43 k1_t3).trips) (v198 : BitVec 32) : Prop :=
  (∀ k1_t57 : Fin k1_t57_loop.trips, ∀ (k1_h8 : k1_cond8 v37 v40 v43 k1_t3 k1_t39 = 1#1), ∀ a, (k1_off121 i v37 v40 v43 k1_t3 k1_t39 v198 k1_t57) a + S16.size a ≤ S99072.size a)
theorem k1_off121_inb : ∀ (i : grid1.Coords) (v37 : BitVec 32) (v40 : BitVec 32) (v43 : BitVec 32) (k1_t3 : Fin k1_t3_loop.trips) (k1_t39 : Fin (k1_t39_loop v37 v40 v43 k1_t3).trips) (v198 : BitVec 32) (k1_hw55 : k1_chk55 i v37 v40 v43 k1_t3 k1_t39 v198) (k1_t57 : Fin k1_t57_loop.trips), ∀ (k1_h8 : k1_cond8 v37 v40 v43 k1_t3 k1_t39 = 1#1), ∀ a, (k1_off121 i v37 v40 v43 k1_t3 k1_t39 v198 k1_t57) a + S16.size a ≤ S99072.size a := fun i v37 v40 v43 k1_t3 k1_t39 v198 k1_hw55 k1_t57 k1_h8 => k1_hw55 k1_t57 k1_h8

def k1_off122 (v37 : BitVec 32) (v40 : BitVec 32) (v43 : BitVec 32) (k1_t3 : Fin k1_t3_loop.trips) (k1_t39 : Fin (k1_t39_loop v37 v40 v43 k1_t3).trips) (k1_t57 : Fin k1_t57_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_103 : BitVec 32 := 0#32
  let v207 : BitVec 32 := Scalar.addi v157 c0_i32_103
  let c1_i32_104 : BitVec 32 := 1#32
  let v208 : BitVec 32 := Scalar.addi v207 c1_i32_104
  let c768_i32_105 : BitVec 32 := 768#32
  let v209 : BitVec 32 := Scalar.muli v208 c768_i32_105
  let c0_i32_296 : BitVec 32 := 0#32
  let c0_i32_106 : BitVec 32 := 0#32
  let c1_i32_108 : BitVec 32 := 1#32
  let arg21 : BitVec 32 := Scf.iv c0_i32_106 c1_i32_108 k1_t57
  let c16_i32_295 : BitVec 32 := 16#32
  let v449 : BitVec 32 := Scalar.muli arg21 c16_i32_295
  let v450 : BitVec 32 := Scalar.addi c0_i32_296 v449
  let v454 : BitVec 32 := Scalar.addi v209 v450
  let v455 : Index := Scalar.indexCast v454
  ![v455.toNat]
@[reducible] def k1_t58_loop : Scf.Loop 32 :=
  let c0_i32_120 : BitVec 32 := 0#32
  let c48_i32_121 : BitVec 32 := 48#32
  let v227 : BitVec 32 := Scalar.addi c0_i32_120 c48_i32_121
  let c1_i32_122 : BitVec 32 := 1#32
  ⟨c0_i32_120, v227, c1_i32_122⟩
def k1_off123 (i : grid1.Coords) (v37 : BitVec 32) (v40 : BitVec 32) (v43 : BitVec 32) (k1_t3 : Fin k1_t3_loop.trips) (k1_t39 : Fin (k1_t39_loop v37 v40 v43 k1_t3).trips) (v215 : BitVec 32) (k1_t58 : Fin k1_t58_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_110 : BitVec 32 := 16#32
  let v211 : BitVec 32 := Scalar.muli v150 c16_i32_110
  let c0_i32_111 : BitVec 32 := 0#32
  let v212 : BitVec 32 := Scalar.addi v211 c0_i32_111
  let c2_i32_112 : BitVec 32 := 2#32
  let v213 : BitVec 32 := Scalar.addi v212 c2_i32_112
  let v217 : BitVec 1 := Scalar.cmpi .slt v213 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v216 : BitVec 32 := Scalar.subi v215 v48
  let c0_i32_113 : BitVec 32 := 0#32
  let v218 : BitVec 1 := Scalar.cmpi .sge v216 c0_i32_113
  let v219 : BitVec 1 := Scalar.andi v217 v218
  let c128_i32_114 : BitVec 32 := 128#32
  let v220 : BitVec 1 := Scalar.cmpi .slt v216 c128_i32_114
  let v221 : BitVec 1 := Scalar.andi v219 v220
  let c128_i32_115 : BitVec 32 := 128#32
  let v222 : BitVec 32 := Scalar.select v221 v216 c128_i32_115
  let c768_i32_116 : BitVec 32 := 768#32
  let v223 : BitVec 32 := Scalar.muli v222 c768_i32_116
  let c0_i32_296 : BitVec 32 := 0#32
  let c0_i32_120 : BitVec 32 := 0#32
  let c1_i32_122 : BitVec 32 := 1#32
  let arg21 : BitVec 32 := Scf.iv c0_i32_120 c1_i32_122 k1_t58
  let c16_i32_295 : BitVec 32 := 16#32
  let v449 : BitVec 32 := Scalar.muli arg21 c16_i32_295
  let v450 : BitVec 32 := Scalar.addi c0_i32_296 v449
  let v451 : BitVec 32 := Scalar.addi v223 v450
  let v452 : Index := Scalar.indexCast v451
  ![v452.toNat]

def k1_chk56 (i : grid1.Coords) (v37 : BitVec 32) (v40 : BitVec 32) (v43 : BitVec 32) (k1_t3 : Fin k1_t3_loop.trips) (k1_t39 : Fin (k1_t39_loop v37 v40 v43 k1_t3).trips) (v215 : BitVec 32) : Prop :=
  (∀ k1_t58 : Fin k1_t58_loop.trips, ∀ (k1_h8 : k1_cond8 v37 v40 v43 k1_t3 k1_t39 = 1#1), ∀ a, (k1_off123 i v37 v40 v43 k1_t3 k1_t39 v215 k1_t58) a + S16.size a ≤ S99072.size a)
theorem k1_off123_inb : ∀ (i : grid1.Coords) (v37 : BitVec 32) (v40 : BitVec 32) (v43 : BitVec 32) (k1_t3 : Fin k1_t3_loop.trips) (k1_t39 : Fin (k1_t39_loop v37 v40 v43 k1_t3).trips) (v215 : BitVec 32) (k1_hw56 : k1_chk56 i v37 v40 v43 k1_t3 k1_t39 v215) (k1_t58 : Fin k1_t58_loop.trips), ∀ (k1_h8 : k1_cond8 v37 v40 v43 k1_t3 k1_t39 = 1#1), ∀ a, (k1_off123 i v37 v40 v43 k1_t3 k1_t39 v215 k1_t58) a + S16.size a ≤ S99072.size a := fun i v37 v40 v43 k1_t3 k1_t39 v215 k1_hw56 k1_t58 k1_h8 => k1_hw56 k1_t58 k1_h8

def k1_off124 (v37 : BitVec 32) (v40 : BitVec 32) (v43 : BitVec 32) (k1_t3 : Fin k1_t3_loop.trips) (k1_t39 : Fin (k1_t39_loop v37 v40 v43 k1_t3).trips) (k1_t58 : Fin k1_t58_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_117 : BitVec 32 := 0#32
  let v224 : BitVec 32 := Scalar.addi v157 c0_i32_117
  let c2_i32_118 : BitVec 32 := 2#32
  let v225 : BitVec 32 := Scalar.addi v224 c2_i32_118
  let c768_i32_119 : BitVec 32 := 768#32
  let v226 : BitVec 32 := Scalar.muli v225 c768_i32_119
  let c0_i32_296 : BitVec 32 := 0#32
  let c0_i32_120 : BitVec 32 := 0#32
  let c1_i32_122 : BitVec 32 := 1#32
  let arg21 : BitVec 32 := Scf.iv c0_i32_120 c1_i32_122 k1_t58
  let c16_i32_295 : BitVec 32 := 16#32
  let v449 : BitVec 32 := Scalar.muli arg21 c16_i32_295
  let v450 : BitVec 32 := Scalar.addi c0_i32_296 v449
  let v454 : BitVec 32 := Scalar.addi v226 v450
  let v455 : Index := Scalar.indexCast v454
  ![v455.toNat]
@[reducible] def k1_t59_loop : Scf.Loop 32 :=
  let c0_i32_133 : BitVec 32 := 0#32
  let c48_i32_134 : BitVec 32 := 48#32
  let v244 : BitVec 32 := Scalar.addi c0_i32_133 c48_i32_134
  let c1_i32_135 : BitVec 32 := 1#32
  ⟨c0_i32_133, v244, c1_i32_135⟩
def k1_off125 (i : grid1.Coords) (v37 : BitVec 32) (v40 : BitVec 32) (v43 : BitVec 32) (k1_t3 : Fin k1_t3_loop.trips) (k1_t39 : Fin (k1_t39_loop v37 v40 v43 k1_t3).trips) (v232 : BitVec 32) (k1_t59 : Fin k1_t59_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_124 : BitVec 32 := 16#32
  let v228 : BitVec 32 := Scalar.muli v150 c16_i32_124
  let c0_i32_125 : BitVec 32 := 0#32
  let v229 : BitVec 32 := Scalar.addi v228 c0_i32_125
  let c3_i32 : BitVec 32 := 3#32
  let v230 : BitVec 32 := Scalar.addi v229 c3_i32
  let v234 : BitVec 1 := Scalar.cmpi .slt v230 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v233 : BitVec 32 := Scalar.subi v232 v48
  let c0_i32_126 : BitVec 32 := 0#32
  let v235 : BitVec 1 := Scalar.cmpi .sge v233 c0_i32_126
  let v236 : BitVec 1 := Scalar.andi v234 v235
  let c128_i32_127 : BitVec 32 := 128#32
  let v237 : BitVec 1 := Scalar.cmpi .slt v233 c128_i32_127
  let v238 : BitVec 1 := Scalar.andi v236 v237
  let c128_i32_128 : BitVec 32 := 128#32
  let v239 : BitVec 32 := Scalar.select v238 v233 c128_i32_128
  let c768_i32_129 : BitVec 32 := 768#32
  let v240 : BitVec 32 := Scalar.muli v239 c768_i32_129
  let c0_i32_296 : BitVec 32 := 0#32
  let c0_i32_133 : BitVec 32 := 0#32
  let c1_i32_135 : BitVec 32 := 1#32
  let arg21 : BitVec 32 := Scf.iv c0_i32_133 c1_i32_135 k1_t59
  let c16_i32_295 : BitVec 32 := 16#32
  let v449 : BitVec 32 := Scalar.muli arg21 c16_i32_295
  let v450 : BitVec 32 := Scalar.addi c0_i32_296 v449
  let v451 : BitVec 32 := Scalar.addi v240 v450
  let v452 : Index := Scalar.indexCast v451
  ![v452.toNat]

def k1_chk57 (i : grid1.Coords) (v37 : BitVec 32) (v40 : BitVec 32) (v43 : BitVec 32) (k1_t3 : Fin k1_t3_loop.trips) (k1_t39 : Fin (k1_t39_loop v37 v40 v43 k1_t3).trips) (v232 : BitVec 32) : Prop :=
  (∀ k1_t59 : Fin k1_t59_loop.trips, ∀ (k1_h8 : k1_cond8 v37 v40 v43 k1_t3 k1_t39 = 1#1), ∀ a, (k1_off125 i v37 v40 v43 k1_t3 k1_t39 v232 k1_t59) a + S16.size a ≤ S99072.size a)
theorem k1_off125_inb : ∀ (i : grid1.Coords) (v37 : BitVec 32) (v40 : BitVec 32) (v43 : BitVec 32) (k1_t3 : Fin k1_t3_loop.trips) (k1_t39 : Fin (k1_t39_loop v37 v40 v43 k1_t3).trips) (v232 : BitVec 32) (k1_hw57 : k1_chk57 i v37 v40 v43 k1_t3 k1_t39 v232) (k1_t59 : Fin k1_t59_loop.trips), ∀ (k1_h8 : k1_cond8 v37 v40 v43 k1_t3 k1_t39 = 1#1), ∀ a, (k1_off125 i v37 v40 v43 k1_t3 k1_t39 v232 k1_t59) a + S16.size a ≤ S99072.size a := fun i v37 v40 v43 k1_t3 k1_t39 v232 k1_hw57 k1_t59 k1_h8 => k1_hw57 k1_t59 k1_h8

def k1_off126 (v37 : BitVec 32) (v40 : BitVec 32) (v43 : BitVec 32) (k1_t3 : Fin k1_t3_loop.trips) (k1_t39 : Fin (k1_t39_loop v37 v40 v43 k1_t3).trips) (k1_t59 : Fin k1_t59_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_130 : BitVec 32 := 0#32
  let v241 : BitVec 32 := Scalar.addi v157 c0_i32_130
  let c3_i32_131 : BitVec 32 := 3#32
  let v242 : BitVec 32 := Scalar.addi v241 c3_i32_131
  let c768_i32_132 : BitVec 32 := 768#32
  let v243 : BitVec 32 := Scalar.muli v242 c768_i32_132
  let c0_i32_296 : BitVec 32 := 0#32
  let c0_i32_133 : BitVec 32 := 0#32
  let c1_i32_135 : BitVec 32 := 1#32
  let arg21 : BitVec 32 := Scf.iv c0_i32_133 c1_i32_135 k1_t59
  let c16_i32_295 : BitVec 32 := 16#32
  let v449 : BitVec 32 := Scalar.muli arg21 c16_i32_295
  let v450 : BitVec 32 := Scalar.addi c0_i32_296 v449
  let v454 : BitVec 32 := Scalar.addi v243 v450
  let v455 : Index := Scalar.indexCast v454
  ![v455.toNat]
@[reducible] def k1_t60_loop : Scf.Loop 32 :=
  let c0_i32_146 : BitVec 32 := 0#32
  let c48_i32_147 : BitVec 32 := 48#32
  let v261 : BitVec 32 := Scalar.addi c0_i32_146 c48_i32_147
  let c1_i32_148 : BitVec 32 := 1#32
  ⟨c0_i32_146, v261, c1_i32_148⟩
def k1_off127 (i : grid1.Coords) (v37 : BitVec 32) (v40 : BitVec 32) (v43 : BitVec 32) (k1_t3 : Fin k1_t3_loop.trips) (k1_t39 : Fin (k1_t39_loop v37 v40 v43 k1_t3).trips) (v249 : BitVec 32) (k1_t60 : Fin k1_t60_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_137 : BitVec 32 := 16#32
  let v245 : BitVec 32 := Scalar.muli v150 c16_i32_137
  let c0_i32_138 : BitVec 32 := 0#32
  let v246 : BitVec 32 := Scalar.addi v245 c0_i32_138
  let c4_i32 : BitVec 32 := 4#32
  let v247 : BitVec 32 := Scalar.addi v246 c4_i32
  let v251 : BitVec 1 := Scalar.cmpi .slt v247 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v250 : BitVec 32 := Scalar.subi v249 v48
  let c0_i32_139 : BitVec 32 := 0#32
  let v252 : BitVec 1 := Scalar.cmpi .sge v250 c0_i32_139
  let v253 : BitVec 1 := Scalar.andi v251 v252
  let c128_i32_140 : BitVec 32 := 128#32
  let v254 : BitVec 1 := Scalar.cmpi .slt v250 c128_i32_140
  let v255 : BitVec 1 := Scalar.andi v253 v254
  let c128_i32_141 : BitVec 32 := 128#32
  let v256 : BitVec 32 := Scalar.select v255 v250 c128_i32_141
  let c768_i32_142 : BitVec 32 := 768#32
  let v257 : BitVec 32 := Scalar.muli v256 c768_i32_142
  let c0_i32_296 : BitVec 32 := 0#32
  let c0_i32_146 : BitVec 32 := 0#32
  let c1_i32_148 : BitVec 32 := 1#32
  let arg21 : BitVec 32 := Scf.iv c0_i32_146 c1_i32_148 k1_t60
  let c16_i32_295 : BitVec 32 := 16#32
  let v449 : BitVec 32 := Scalar.muli arg21 c16_i32_295
  let v450 : BitVec 32 := Scalar.addi c0_i32_296 v449
  let v451 : BitVec 32 := Scalar.addi v257 v450
  let v452 : Index := Scalar.indexCast v451
  ![v452.toNat]

def k1_chk58 (i : grid1.Coords) (v37 : BitVec 32) (v40 : BitVec 32) (v43 : BitVec 32) (k1_t3 : Fin k1_t3_loop.trips) (k1_t39 : Fin (k1_t39_loop v37 v40 v43 k1_t3).trips) (v249 : BitVec 32) : Prop :=
  (∀ k1_t60 : Fin k1_t60_loop.trips, ∀ (k1_h8 : k1_cond8 v37 v40 v43 k1_t3 k1_t39 = 1#1), ∀ a, (k1_off127 i v37 v40 v43 k1_t3 k1_t39 v249 k1_t60) a + S16.size a ≤ S99072.size a)
theorem k1_off127_inb : ∀ (i : grid1.Coords) (v37 : BitVec 32) (v40 : BitVec 32) (v43 : BitVec 32) (k1_t3 : Fin k1_t3_loop.trips) (k1_t39 : Fin (k1_t39_loop v37 v40 v43 k1_t3).trips) (v249 : BitVec 32) (k1_hw58 : k1_chk58 i v37 v40 v43 k1_t3 k1_t39 v249) (k1_t60 : Fin k1_t60_loop.trips), ∀ (k1_h8 : k1_cond8 v37 v40 v43 k1_t3 k1_t39 = 1#1), ∀ a, (k1_off127 i v37 v40 v43 k1_t3 k1_t39 v249 k1_t60) a + S16.size a ≤ S99072.size a := fun i v37 v40 v43 k1_t3 k1_t39 v249 k1_hw58 k1_t60 k1_h8 => k1_hw58 k1_t60 k1_h8

def k1_off128 (v37 : BitVec 32) (v40 : BitVec 32) (v43 : BitVec 32) (k1_t3 : Fin k1_t3_loop.trips) (k1_t39 : Fin (k1_t39_loop v37 v40 v43 k1_t3).trips) (k1_t60 : Fin k1_t60_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_143 : BitVec 32 := 0#32
  let v258 : BitVec 32 := Scalar.addi v157 c0_i32_143
  let c4_i32_144 : BitVec 32 := 4#32
  let v259 : BitVec 32 := Scalar.addi v258 c4_i32_144
  let c768_i32_145 : BitVec 32 := 768#32
  let v260 : BitVec 32 := Scalar.muli v259 c768_i32_145
  let c0_i32_296 : BitVec 32 := 0#32
  let c0_i32_146 : BitVec 32 := 0#32
  let c1_i32_148 : BitVec 32 := 1#32
  let arg21 : BitVec 32 := Scf.iv c0_i32_146 c1_i32_148 k1_t60
  let c16_i32_295 : BitVec 32 := 16#32
  let v449 : BitVec 32 := Scalar.muli arg21 c16_i32_295
  let v450 : BitVec 32 := Scalar.addi c0_i32_296 v449
  let v454 : BitVec 32 := Scalar.addi v260 v450
  let v455 : Index := Scalar.indexCast v454
  ![v455.toNat]
@[reducible] def k1_t61_loop : Scf.Loop 32 :=
  let c0_i32_159 : BitVec 32 := 0#32
  let c48_i32_160 : BitVec 32 := 48#32
  let v278 : BitVec 32 := Scalar.addi c0_i32_159 c48_i32_160
  let c1_i32_161 : BitVec 32 := 1#32
  ⟨c0_i32_159, v278, c1_i32_161⟩
def k1_off129 (i : grid1.Coords) (v37 : BitVec 32) (v40 : BitVec 32) (v43 : BitVec 32) (k1_t3 : Fin k1_t3_loop.trips) (k1_t39 : Fin (k1_t39_loop v37 v40 v43 k1_t3).trips) (v266 : BitVec 32) (k1_t61 : Fin k1_t61_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_150 : BitVec 32 := 16#32
  let v262 : BitVec 32 := Scalar.muli v150 c16_i32_150
  let c0_i32_151 : BitVec 32 := 0#32
  let v263 : BitVec 32 := Scalar.addi v262 c0_i32_151
  let c5_i32 : BitVec 32 := 5#32
  let v264 : BitVec 32 := Scalar.addi v263 c5_i32
  let v268 : BitVec 1 := Scalar.cmpi .slt v264 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v267 : BitVec 32 := Scalar.subi v266 v48
  let c0_i32_152 : BitVec 32 := 0#32
  let v269 : BitVec 1 := Scalar.cmpi .sge v267 c0_i32_152
  let v270 : BitVec 1 := Scalar.andi v268 v269
  let c128_i32_153 : BitVec 32 := 128#32
  let v271 : BitVec 1 := Scalar.cmpi .slt v267 c128_i32_153
  let v272 : BitVec 1 := Scalar.andi v270 v271
  let c128_i32_154 : BitVec 32 := 128#32
  let v273 : BitVec 32 := Scalar.select v272 v267 c128_i32_154
  let c768_i32_155 : BitVec 32 := 768#32
  let v274 : BitVec 32 := Scalar.muli v273 c768_i32_155
  let c0_i32_296 : BitVec 32 := 0#32
  let c0_i32_159 : BitVec 32 := 0#32
  let c1_i32_161 : BitVec 32 := 1#32
  let arg21 : BitVec 32 := Scf.iv c0_i32_159 c1_i32_161 k1_t61
  let c16_i32_295 : BitVec 32 := 16#32
  let v449 : BitVec 32 := Scalar.muli arg21 c16_i32_295
  let v450 : BitVec 32 := Scalar.addi c0_i32_296 v449
  let v451 : BitVec 32 := Scalar.addi v274 v450
  let v452 : Index := Scalar.indexCast v451
  ![v452.toNat]

def k1_chk59 (i : grid1.Coords) (v37 : BitVec 32) (v40 : BitVec 32) (v43 : BitVec 32) (k1_t3 : Fin k1_t3_loop.trips) (k1_t39 : Fin (k1_t39_loop v37 v40 v43 k1_t3).trips) (v266 : BitVec 32) : Prop :=
  (∀ k1_t61 : Fin k1_t61_loop.trips, ∀ (k1_h8 : k1_cond8 v37 v40 v43 k1_t3 k1_t39 = 1#1), ∀ a, (k1_off129 i v37 v40 v43 k1_t3 k1_t39 v266 k1_t61) a + S16.size a ≤ S99072.size a)
theorem k1_off129_inb : ∀ (i : grid1.Coords) (v37 : BitVec 32) (v40 : BitVec 32) (v43 : BitVec 32) (k1_t3 : Fin k1_t3_loop.trips) (k1_t39 : Fin (k1_t39_loop v37 v40 v43 k1_t3).trips) (v266 : BitVec 32) (k1_hw59 : k1_chk59 i v37 v40 v43 k1_t3 k1_t39 v266) (k1_t61 : Fin k1_t61_loop.trips), ∀ (k1_h8 : k1_cond8 v37 v40 v43 k1_t3 k1_t39 = 1#1), ∀ a, (k1_off129 i v37 v40 v43 k1_t3 k1_t39 v266 k1_t61) a + S16.size a ≤ S99072.size a := fun i v37 v40 v43 k1_t3 k1_t39 v266 k1_hw59 k1_t61 k1_h8 => k1_hw59 k1_t61 k1_h8

def k1_off130 (v37 : BitVec 32) (v40 : BitVec 32) (v43 : BitVec 32) (k1_t3 : Fin k1_t3_loop.trips) (k1_t39 : Fin (k1_t39_loop v37 v40 v43 k1_t3).trips) (k1_t61 : Fin k1_t61_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_156 : BitVec 32 := 0#32
  let v275 : BitVec 32 := Scalar.addi v157 c0_i32_156
  let c5_i32_157 : BitVec 32 := 5#32
  let v276 : BitVec 32 := Scalar.addi v275 c5_i32_157
  let c768_i32_158 : BitVec 32 := 768#32
  let v277 : BitVec 32 := Scalar.muli v276 c768_i32_158
  let c0_i32_296 : BitVec 32 := 0#32
  let c0_i32_159 : BitVec 32 := 0#32
  let c1_i32_161 : BitVec 32 := 1#32
  let arg21 : BitVec 32 := Scf.iv c0_i32_159 c1_i32_161 k1_t61
  let c16_i32_295 : BitVec 32 := 16#32
  let v449 : BitVec 32 := Scalar.muli arg21 c16_i32_295
  let v450 : BitVec 32 := Scalar.addi c0_i32_296 v449
  let v454 : BitVec 32 := Scalar.addi v277 v450
  let v455 : Index := Scalar.indexCast v454
  ![v455.toNat]
@[reducible] def k1_t62_loop : Scf.Loop 32 :=
  let c0_i32_172 : BitVec 32 := 0#32
  let c48_i32_173 : BitVec 32 := 48#32
  let v295 : BitVec 32 := Scalar.addi c0_i32_172 c48_i32_173
  let c1_i32_174 : BitVec 32 := 1#32
  ⟨c0_i32_172, v295, c1_i32_174⟩
def k1_off131 (i : grid1.Coords) (v37 : BitVec 32) (v40 : BitVec 32) (v43 : BitVec 32) (k1_t3 : Fin k1_t3_loop.trips) (k1_t39 : Fin (k1_t39_loop v37 v40 v43 k1_t3).trips) (v283 : BitVec 32) (k1_t62 : Fin k1_t62_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_163 : BitVec 32 := 16#32
  let v279 : BitVec 32 := Scalar.muli v150 c16_i32_163
  let c0_i32_164 : BitVec 32 := 0#32
  let v280 : BitVec 32 := Scalar.addi v279 c0_i32_164
  let c6_i32 : BitVec 32 := 6#32
  let v281 : BitVec 32 := Scalar.addi v280 c6_i32
  let v285 : BitVec 1 := Scalar.cmpi .slt v281 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v284 : BitVec 32 := Scalar.subi v283 v48
  let c0_i32_165 : BitVec 32 := 0#32
  let v286 : BitVec 1 := Scalar.cmpi .sge v284 c0_i32_165
  let v287 : BitVec 1 := Scalar.andi v285 v286
  let c128_i32_166 : BitVec 32 := 128#32
  let v288 : BitVec 1 := Scalar.cmpi .slt v284 c128_i32_166
  let v289 : BitVec 1 := Scalar.andi v287 v288
  let c128_i32_167 : BitVec 32 := 128#32
  let v290 : BitVec 32 := Scalar.select v289 v284 c128_i32_167
  let c768_i32_168 : BitVec 32 := 768#32
  let v291 : BitVec 32 := Scalar.muli v290 c768_i32_168
  let c0_i32_296 : BitVec 32 := 0#32
  let c0_i32_172 : BitVec 32 := 0#32
  let c1_i32_174 : BitVec 32 := 1#32
  let arg21 : BitVec 32 := Scf.iv c0_i32_172 c1_i32_174 k1_t62
  let c16_i32_295 : BitVec 32 := 16#32
  let v449 : BitVec 32 := Scalar.muli arg21 c16_i32_295
  let v450 : BitVec 32 := Scalar.addi c0_i32_296 v449
  let v451 : BitVec 32 := Scalar.addi v291 v450
  let v452 : Index := Scalar.indexCast v451
  ![v452.toNat]

def k1_chk60 (i : grid1.Coords) (v37 : BitVec 32) (v40 : BitVec 32) (v43 : BitVec 32) (k1_t3 : Fin k1_t3_loop.trips) (k1_t39 : Fin (k1_t39_loop v37 v40 v43 k1_t3).trips) (v283 : BitVec 32) : Prop :=
  (∀ k1_t62 : Fin k1_t62_loop.trips, ∀ (k1_h8 : k1_cond8 v37 v40 v43 k1_t3 k1_t39 = 1#1), ∀ a, (k1_off131 i v37 v40 v43 k1_t3 k1_t39 v283 k1_t62) a + S16.size a ≤ S99072.size a)
theorem k1_off131_inb : ∀ (i : grid1.Coords) (v37 : BitVec 32) (v40 : BitVec 32) (v43 : BitVec 32) (k1_t3 : Fin k1_t3_loop.trips) (k1_t39 : Fin (k1_t39_loop v37 v40 v43 k1_t3).trips) (v283 : BitVec 32) (k1_hw60 : k1_chk60 i v37 v40 v43 k1_t3 k1_t39 v283) (k1_t62 : Fin k1_t62_loop.trips), ∀ (k1_h8 : k1_cond8 v37 v40 v43 k1_t3 k1_t39 = 1#1), ∀ a, (k1_off131 i v37 v40 v43 k1_t3 k1_t39 v283 k1_t62) a + S16.size a ≤ S99072.size a := fun i v37 v40 v43 k1_t3 k1_t39 v283 k1_hw60 k1_t62 k1_h8 => k1_hw60 k1_t62 k1_h8

def k1_off132 (v37 : BitVec 32) (v40 : BitVec 32) (v43 : BitVec 32) (k1_t3 : Fin k1_t3_loop.trips) (k1_t39 : Fin (k1_t39_loop v37 v40 v43 k1_t3).trips) (k1_t62 : Fin k1_t62_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_169 : BitVec 32 := 0#32
  let v292 : BitVec 32 := Scalar.addi v157 c0_i32_169
  let c6_i32_170 : BitVec 32 := 6#32
  let v293 : BitVec 32 := Scalar.addi v292 c6_i32_170
  let c768_i32_171 : BitVec 32 := 768#32
  let v294 : BitVec 32 := Scalar.muli v293 c768_i32_171
  let c0_i32_296 : BitVec 32 := 0#32
  let c0_i32_172 : BitVec 32 := 0#32
  let c1_i32_174 : BitVec 32 := 1#32
  let arg21 : BitVec 32 := Scf.iv c0_i32_172 c1_i32_174 k1_t62
  let c16_i32_295 : BitVec 32 := 16#32
  let v449 : BitVec 32 := Scalar.muli arg21 c16_i32_295
  let v450 : BitVec 32 := Scalar.addi c0_i32_296 v449
  let v454 : BitVec 32 := Scalar.addi v294 v450
  let v455 : Index := Scalar.indexCast v454
  ![v455.toNat]
@[reducible] def k1_t63_loop : Scf.Loop 32 :=
  let c0_i32_185 : BitVec 32 := 0#32
  let c48_i32_186 : BitVec 32 := 48#32
  let v312 : BitVec 32 := Scalar.addi c0_i32_185 c48_i32_186
  let c1_i32_187 : BitVec 32 := 1#32
  ⟨c0_i32_185, v312, c1_i32_187⟩
def k1_off133 (i : grid1.Coords) (v37 : BitVec 32) (v40 : BitVec 32) (v43 : BitVec 32) (k1_t3 : Fin k1_t3_loop.trips) (k1_t39 : Fin (k1_t39_loop v37 v40 v43 k1_t3).trips) (v300 : BitVec 32) (k1_t63 : Fin k1_t63_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_176 : BitVec 32 := 16#32
  let v296 : BitVec 32 := Scalar.muli v150 c16_i32_176
  let c0_i32_177 : BitVec 32 := 0#32
  let v297 : BitVec 32 := Scalar.addi v296 c0_i32_177
  let c7_i32 : BitVec 32 := 7#32
  let v298 : BitVec 32 := Scalar.addi v297 c7_i32
  let v302 : BitVec 1 := Scalar.cmpi .slt v298 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v301 : BitVec 32 := Scalar.subi v300 v48
  let c0_i32_178 : BitVec 32 := 0#32
  let v303 : BitVec 1 := Scalar.cmpi .sge v301 c0_i32_178
  let v304 : BitVec 1 := Scalar.andi v302 v303
  let c128_i32_179 : BitVec 32 := 128#32
  let v305 : BitVec 1 := Scalar.cmpi .slt v301 c128_i32_179
  let v306 : BitVec 1 := Scalar.andi v304 v305
  let c128_i32_180 : BitVec 32 := 128#32
  let v307 : BitVec 32 := Scalar.select v306 v301 c128_i32_180
  let c768_i32_181 : BitVec 32 := 768#32
  let v308 : BitVec 32 := Scalar.muli v307 c768_i32_181
  let c0_i32_296 : BitVec 32 := 0#32
  let c0_i32_185 : BitVec 32 := 0#32
  let c1_i32_187 : BitVec 32 := 1#32
  let arg21 : BitVec 32 := Scf.iv c0_i32_185 c1_i32_187 k1_t63
  let c16_i32_295 : BitVec 32 := 16#32
  let v449 : BitVec 32 := Scalar.muli arg21 c16_i32_295
  let v450 : BitVec 32 := Scalar.addi c0_i32_296 v449
  let v451 : BitVec 32 := Scalar.addi v308 v450
  let v452 : Index := Scalar.indexCast v451
  ![v452.toNat]

def k1_chk61 (i : grid1.Coords) (v37 : BitVec 32) (v40 : BitVec 32) (v43 : BitVec 32) (k1_t3 : Fin k1_t3_loop.trips) (k1_t39 : Fin (k1_t39_loop v37 v40 v43 k1_t3).trips) (v300 : BitVec 32) : Prop :=
  (∀ k1_t63 : Fin k1_t63_loop.trips, ∀ (k1_h8 : k1_cond8 v37 v40 v43 k1_t3 k1_t39 = 1#1), ∀ a, (k1_off133 i v37 v40 v43 k1_t3 k1_t39 v300 k1_t63) a + S16.size a ≤ S99072.size a)
theorem k1_off133_inb : ∀ (i : grid1.Coords) (v37 : BitVec 32) (v40 : BitVec 32) (v43 : BitVec 32) (k1_t3 : Fin k1_t3_loop.trips) (k1_t39 : Fin (k1_t39_loop v37 v40 v43 k1_t3).trips) (v300 : BitVec 32) (k1_hw61 : k1_chk61 i v37 v40 v43 k1_t3 k1_t39 v300) (k1_t63 : Fin k1_t63_loop.trips), ∀ (k1_h8 : k1_cond8 v37 v40 v43 k1_t3 k1_t39 = 1#1), ∀ a, (k1_off133 i v37 v40 v43 k1_t3 k1_t39 v300 k1_t63) a + S16.size a ≤ S99072.size a := fun i v37 v40 v43 k1_t3 k1_t39 v300 k1_hw61 k1_t63 k1_h8 => k1_hw61 k1_t63 k1_h8

def k1_off134 (v37 : BitVec 32) (v40 : BitVec 32) (v43 : BitVec 32) (k1_t3 : Fin k1_t3_loop.trips) (k1_t39 : Fin (k1_t39_loop v37 v40 v43 k1_t3).trips) (k1_t63 : Fin k1_t63_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_182 : BitVec 32 := 0#32
  let v309 : BitVec 32 := Scalar.addi v157 c0_i32_182
  let c7_i32_183 : BitVec 32 := 7#32
  let v310 : BitVec 32 := Scalar.addi v309 c7_i32_183
  let c768_i32_184 : BitVec 32 := 768#32
  let v311 : BitVec 32 := Scalar.muli v310 c768_i32_184
  let c0_i32_296 : BitVec 32 := 0#32
  let c0_i32_185 : BitVec 32 := 0#32
  let c1_i32_187 : BitVec 32 := 1#32
  let arg21 : BitVec 32 := Scf.iv c0_i32_185 c1_i32_187 k1_t63
  let c16_i32_295 : BitVec 32 := 16#32
  let v449 : BitVec 32 := Scalar.muli arg21 c16_i32_295
  let v450 : BitVec 32 := Scalar.addi c0_i32_296 v449
  let v454 : BitVec 32 := Scalar.addi v311 v450
  let v455 : Index := Scalar.indexCast v454
  ![v455.toNat]
@[reducible] def k1_t64_loop : Scf.Loop 32 :=
  let c0_i32_199 : BitVec 32 := 0#32
  let c48_i32_200 : BitVec 32 := 48#32
  let v329 : BitVec 32 := Scalar.addi c0_i32_199 c48_i32_200
  let c1_i32_201 : BitVec 32 := 1#32
  ⟨c0_i32_199, v329, c1_i32_201⟩
def k1_off135 (i : grid1.Coords) (v37 : BitVec 32) (v40 : BitVec 32) (v43 : BitVec 32) (k1_t3 : Fin k1_t3_loop.trips) (k1_t39 : Fin (k1_t39_loop v37 v40 v43 k1_t3).trips) (v317 : BitVec 32) (k1_t64 : Fin k1_t64_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_189 : BitVec 32 := 16#32
  let v313 : BitVec 32 := Scalar.muli v150 c16_i32_189
  let c0_i32_190 : BitVec 32 := 0#32
  let v314 : BitVec 32 := Scalar.addi v313 c0_i32_190
  let c8_i32_191 : BitVec 32 := 8#32
  let v315 : BitVec 32 := Scalar.addi v314 c8_i32_191
  let v319 : BitVec 1 := Scalar.cmpi .slt v315 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v318 : BitVec 32 := Scalar.subi v317 v48
  let c0_i32_192 : BitVec 32 := 0#32
  let v320 : BitVec 1 := Scalar.cmpi .sge v318 c0_i32_192
  let v321 : BitVec 1 := Scalar.andi v319 v320
  let c128_i32_193 : BitVec 32 := 128#32
  let v322 : BitVec 1 := Scalar.cmpi .slt v318 c128_i32_193
  let v323 : BitVec 1 := Scalar.andi v321 v322
  let c128_i32_194 : BitVec 32 := 128#32
  let v324 : BitVec 32 := Scalar.select v323 v318 c128_i32_194
  let c768_i32_195 : BitVec 32 := 768#32
  let v325 : BitVec 32 := Scalar.muli v324 c768_i32_195
  let c0_i32_296 : BitVec 32 := 0#32
  let c0_i32_199 : BitVec 32 := 0#32
  let c1_i32_201 : BitVec 32 := 1#32
  let arg21 : BitVec 32 := Scf.iv c0_i32_199 c1_i32_201 k1_t64
  let c16_i32_295 : BitVec 32 := 16#32
  let v449 : BitVec 32 := Scalar.muli arg21 c16_i32_295
  let v450 : BitVec 32 := Scalar.addi c0_i32_296 v449
  let v451 : BitVec 32 := Scalar.addi v325 v450
  let v452 : Index := Scalar.indexCast v451
  ![v452.toNat]

def k1_chk62 (i : grid1.Coords) (v37 : BitVec 32) (v40 : BitVec 32) (v43 : BitVec 32) (k1_t3 : Fin k1_t3_loop.trips) (k1_t39 : Fin (k1_t39_loop v37 v40 v43 k1_t3).trips) (v317 : BitVec 32) : Prop :=
  (∀ k1_t64 : Fin k1_t64_loop.trips, ∀ (k1_h8 : k1_cond8 v37 v40 v43 k1_t3 k1_t39 = 1#1), ∀ a, (k1_off135 i v37 v40 v43 k1_t3 k1_t39 v317 k1_t64) a + S16.size a ≤ S99072.size a)
theorem k1_off135_inb : ∀ (i : grid1.Coords) (v37 : BitVec 32) (v40 : BitVec 32) (v43 : BitVec 32) (k1_t3 : Fin k1_t3_loop.trips) (k1_t39 : Fin (k1_t39_loop v37 v40 v43 k1_t3).trips) (v317 : BitVec 32) (k1_hw62 : k1_chk62 i v37 v40 v43 k1_t3 k1_t39 v317) (k1_t64 : Fin k1_t64_loop.trips), ∀ (k1_h8 : k1_cond8 v37 v40 v43 k1_t3 k1_t39 = 1#1), ∀ a, (k1_off135 i v37 v40 v43 k1_t3 k1_t39 v317 k1_t64) a + S16.size a ≤ S99072.size a := fun i v37 v40 v43 k1_t3 k1_t39 v317 k1_hw62 k1_t64 k1_h8 => k1_hw62 k1_t64 k1_h8

def k1_off136 (v37 : BitVec 32) (v40 : BitVec 32) (v43 : BitVec 32) (k1_t3 : Fin k1_t3_loop.trips) (k1_t39 : Fin (k1_t39_loop v37 v40 v43 k1_t3).trips) (k1_t64 : Fin k1_t64_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_196 : BitVec 32 := 0#32
  let v326 : BitVec 32 := Scalar.addi v157 c0_i32_196
  let c8_i32_197 : BitVec 32 := 8#32
  let v327 : BitVec 32 := Scalar.addi v326 c8_i32_197
  let c768_i32_198 : BitVec 32 := 768#32
  let v328 : BitVec 32 := Scalar.muli v327 c768_i32_198
  let c0_i32_296 : BitVec 32 := 0#32
  let c0_i32_199 : BitVec 32 := 0#32
  let c1_i32_201 : BitVec 32 := 1#32
  let arg21 : BitVec 32 := Scf.iv c0_i32_199 c1_i32_201 k1_t64
  let c16_i32_295 : BitVec 32 := 16#32
  let v449 : BitVec 32 := Scalar.muli arg21 c16_i32_295
  let v450 : BitVec 32 := Scalar.addi c0_i32_296 v449
  let v454 : BitVec 32 := Scalar.addi v328 v450
  let v455 : Index := Scalar.indexCast v454
  ![v455.toNat]
@[reducible] def k1_t65_loop : Scf.Loop 32 :=
  let c0_i32_213 : BitVec 32 := 0#32
  let c48_i32_214 : BitVec 32 := 48#32
  let v346 : BitVec 32 := Scalar.addi c0_i32_213 c48_i32_214
  let c1_i32_215 : BitVec 32 := 1#32
  ⟨c0_i32_213, v346, c1_i32_215⟩
def k1_off137 (i : grid1.Coords) (v37 : BitVec 32) (v40 : BitVec 32) (v43 : BitVec 32) (k1_t3 : Fin k1_t3_loop.trips) (k1_t39 : Fin (k1_t39_loop v37 v40 v43 k1_t3).trips) (v334 : BitVec 32) (k1_t65 : Fin k1_t65_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_203 : BitVec 32 := 16#32
  let v330 : BitVec 32 := Scalar.muli v150 c16_i32_203
  let c0_i32_204 : BitVec 32 := 0#32
  let v331 : BitVec 32 := Scalar.addi v330 c0_i32_204
  let c9_i32_205 : BitVec 32 := 9#32
  let v332 : BitVec 32 := Scalar.addi v331 c9_i32_205
  let v336 : BitVec 1 := Scalar.cmpi .slt v332 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v335 : BitVec 32 := Scalar.subi v334 v48
  let c0_i32_206 : BitVec 32 := 0#32
  let v337 : BitVec 1 := Scalar.cmpi .sge v335 c0_i32_206
  let v338 : BitVec 1 := Scalar.andi v336 v337
  let c128_i32_207 : BitVec 32 := 128#32
  let v339 : BitVec 1 := Scalar.cmpi .slt v335 c128_i32_207
  let v340 : BitVec 1 := Scalar.andi v338 v339
  let c128_i32_208 : BitVec 32 := 128#32
  let v341 : BitVec 32 := Scalar.select v340 v335 c128_i32_208
  let c768_i32_209 : BitVec 32 := 768#32
  let v342 : BitVec 32 := Scalar.muli v341 c768_i32_209
  let c0_i32_296 : BitVec 32 := 0#32
  let c0_i32_213 : BitVec 32 := 0#32
  let c1_i32_215 : BitVec 32 := 1#32
  let arg21 : BitVec 32 := Scf.iv c0_i32_213 c1_i32_215 k1_t65
  let c16_i32_295 : BitVec 32 := 16#32
  let v449 : BitVec 32 := Scalar.muli arg21 c16_i32_295
  let v450 : BitVec 32 := Scalar.addi c0_i32_296 v449
  let v451 : BitVec 32 := Scalar.addi v342 v450
  let v452 : Index := Scalar.indexCast v451
  ![v452.toNat]

def k1_chk63 (i : grid1.Coords) (v37 : BitVec 32) (v40 : BitVec 32) (v43 : BitVec 32) (k1_t3 : Fin k1_t3_loop.trips) (k1_t39 : Fin (k1_t39_loop v37 v40 v43 k1_t3).trips) (v334 : BitVec 32) : Prop :=
  (∀ k1_t65 : Fin k1_t65_loop.trips, ∀ (k1_h8 : k1_cond8 v37 v40 v43 k1_t3 k1_t39 = 1#1), ∀ a, (k1_off137 i v37 v40 v43 k1_t3 k1_t39 v334 k1_t65) a + S16.size a ≤ S99072.size a)
theorem k1_off137_inb : ∀ (i : grid1.Coords) (v37 : BitVec 32) (v40 : BitVec 32) (v43 : BitVec 32) (k1_t3 : Fin k1_t3_loop.trips) (k1_t39 : Fin (k1_t39_loop v37 v40 v43 k1_t3).trips) (v334 : BitVec 32) (k1_hw63 : k1_chk63 i v37 v40 v43 k1_t3 k1_t39 v334) (k1_t65 : Fin k1_t65_loop.trips), ∀ (k1_h8 : k1_cond8 v37 v40 v43 k1_t3 k1_t39 = 1#1), ∀ a, (k1_off137 i v37 v40 v43 k1_t3 k1_t39 v334 k1_t65) a + S16.size a ≤ S99072.size a := fun i v37 v40 v43 k1_t3 k1_t39 v334 k1_hw63 k1_t65 k1_h8 => k1_hw63 k1_t65 k1_h8

def k1_off138 (v37 : BitVec 32) (v40 : BitVec 32) (v43 : BitVec 32) (k1_t3 : Fin k1_t3_loop.trips) (k1_t39 : Fin (k1_t39_loop v37 v40 v43 k1_t3).trips) (k1_t65 : Fin k1_t65_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_210 : BitVec 32 := 0#32
  let v343 : BitVec 32 := Scalar.addi v157 c0_i32_210
  let c9_i32_211 : BitVec 32 := 9#32
  let v344 : BitVec 32 := Scalar.addi v343 c9_i32_211
  let c768_i32_212 : BitVec 32 := 768#32
  let v345 : BitVec 32 := Scalar.muli v344 c768_i32_212
  let c0_i32_296 : BitVec 32 := 0#32
  let c0_i32_213 : BitVec 32 := 0#32
  let c1_i32_215 : BitVec 32 := 1#32
  let arg21 : BitVec 32 := Scf.iv c0_i32_213 c1_i32_215 k1_t65
  let c16_i32_295 : BitVec 32 := 16#32
  let v449 : BitVec 32 := Scalar.muli arg21 c16_i32_295
  let v450 : BitVec 32 := Scalar.addi c0_i32_296 v449
  let v454 : BitVec 32 := Scalar.addi v345 v450
  let v455 : Index := Scalar.indexCast v454
  ![v455.toNat]
@[reducible] def k1_t66_loop : Scf.Loop 32 :=
  let c0_i32_226 : BitVec 32 := 0#32
  let c48_i32_227 : BitVec 32 := 48#32
  let v363 : BitVec 32 := Scalar.addi c0_i32_226 c48_i32_227
  let c1_i32_228 : BitVec 32 := 1#32
  ⟨c0_i32_226, v363, c1_i32_228⟩
def k1_off139 (i : grid1.Coords) (v37 : BitVec 32) (v40 : BitVec 32) (v43 : BitVec 32) (k1_t3 : Fin k1_t3_loop.trips) (k1_t39 : Fin (k1_t39_loop v37 v40 v43 k1_t3).trips) (v351 : BitVec 32) (k1_t66 : Fin k1_t66_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_217 : BitVec 32 := 16#32
  let v347 : BitVec 32 := Scalar.muli v150 c16_i32_217
  let c0_i32_218 : BitVec 32 := 0#32
  let v348 : BitVec 32 := Scalar.addi v347 c0_i32_218
  let c10_i32 : BitVec 32 := 10#32
  let v349 : BitVec 32 := Scalar.addi v348 c10_i32
  let v353 : BitVec 1 := Scalar.cmpi .slt v349 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v352 : BitVec 32 := Scalar.subi v351 v48
  let c0_i32_219 : BitVec 32 := 0#32
  let v354 : BitVec 1 := Scalar.cmpi .sge v352 c0_i32_219
  let v355 : BitVec 1 := Scalar.andi v353 v354
  let c128_i32_220 : BitVec 32 := 128#32
  let v356 : BitVec 1 := Scalar.cmpi .slt v352 c128_i32_220
  let v357 : BitVec 1 := Scalar.andi v355 v356
  let c128_i32_221 : BitVec 32 := 128#32
  let v358 : BitVec 32 := Scalar.select v357 v352 c128_i32_221
  let c768_i32_222 : BitVec 32 := 768#32
  let v359 : BitVec 32 := Scalar.muli v358 c768_i32_222
  let c0_i32_296 : BitVec 32 := 0#32
  let c0_i32_226 : BitVec 32 := 0#32
  let c1_i32_228 : BitVec 32 := 1#32
  let arg21 : BitVec 32 := Scf.iv c0_i32_226 c1_i32_228 k1_t66
  let c16_i32_295 : BitVec 32 := 16#32
  let v449 : BitVec 32 := Scalar.muli arg21 c16_i32_295
  let v450 : BitVec 32 := Scalar.addi c0_i32_296 v449
  let v451 : BitVec 32 := Scalar.addi v359 v450
  let v452 : Index := Scalar.indexCast v451
  ![v452.toNat]

def k1_chk64 (i : grid1.Coords) (v37 : BitVec 32) (v40 : BitVec 32) (v43 : BitVec 32) (k1_t3 : Fin k1_t3_loop.trips) (k1_t39 : Fin (k1_t39_loop v37 v40 v43 k1_t3).trips) (v351 : BitVec 32) : Prop :=
  (∀ k1_t66 : Fin k1_t66_loop.trips, ∀ (k1_h8 : k1_cond8 v37 v40 v43 k1_t3 k1_t39 = 1#1), ∀ a, (k1_off139 i v37 v40 v43 k1_t3 k1_t39 v351 k1_t66) a + S16.size a ≤ S99072.size a)
theorem k1_off139_inb : ∀ (i : grid1.Coords) (v37 : BitVec 32) (v40 : BitVec 32) (v43 : BitVec 32) (k1_t3 : Fin k1_t3_loop.trips) (k1_t39 : Fin (k1_t39_loop v37 v40 v43 k1_t3).trips) (v351 : BitVec 32) (k1_hw64 : k1_chk64 i v37 v40 v43 k1_t3 k1_t39 v351) (k1_t66 : Fin k1_t66_loop.trips), ∀ (k1_h8 : k1_cond8 v37 v40 v43 k1_t3 k1_t39 = 1#1), ∀ a, (k1_off139 i v37 v40 v43 k1_t3 k1_t39 v351 k1_t66) a + S16.size a ≤ S99072.size a := fun i v37 v40 v43 k1_t3 k1_t39 v351 k1_hw64 k1_t66 k1_h8 => k1_hw64 k1_t66 k1_h8

def k1_off140 (v37 : BitVec 32) (v40 : BitVec 32) (v43 : BitVec 32) (k1_t3 : Fin k1_t3_loop.trips) (k1_t39 : Fin (k1_t39_loop v37 v40 v43 k1_t3).trips) (k1_t66 : Fin k1_t66_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_223 : BitVec 32 := 0#32
  let v360 : BitVec 32 := Scalar.addi v157 c0_i32_223
  let c10_i32_224 : BitVec 32 := 10#32
  let v361 : BitVec 32 := Scalar.addi v360 c10_i32_224
  let c768_i32_225 : BitVec 32 := 768#32
  let v362 : BitVec 32 := Scalar.muli v361 c768_i32_225
  let c0_i32_296 : BitVec 32 := 0#32
  let c0_i32_226 : BitVec 32 := 0#32
  let c1_i32_228 : BitVec 32 := 1#32
  let arg21 : BitVec 32 := Scf.iv c0_i32_226 c1_i32_228 k1_t66
  let c16_i32_295 : BitVec 32 := 16#32
  let v449 : BitVec 32 := Scalar.muli arg21 c16_i32_295
  let v450 : BitVec 32 := Scalar.addi c0_i32_296 v449
  let v454 : BitVec 32 := Scalar.addi v362 v450
  let v455 : Index := Scalar.indexCast v454
  ![v455.toNat]
@[reducible] def k1_t67_loop : Scf.Loop 32 :=
  let c0_i32_239 : BitVec 32 := 0#32
  let c48_i32_240 : BitVec 32 := 48#32
  let v380 : BitVec 32 := Scalar.addi c0_i32_239 c48_i32_240
  let c1_i32_241 : BitVec 32 := 1#32
  ⟨c0_i32_239, v380, c1_i32_241⟩
def k1_off141 (i : grid1.Coords) (v37 : BitVec 32) (v40 : BitVec 32) (v43 : BitVec 32) (k1_t3 : Fin k1_t3_loop.trips) (k1_t39 : Fin (k1_t39_loop v37 v40 v43 k1_t3).trips) (v368 : BitVec 32) (k1_t67 : Fin k1_t67_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_230 : BitVec 32 := 16#32
  let v364 : BitVec 32 := Scalar.muli v150 c16_i32_230
  let c0_i32_231 : BitVec 32 := 0#32
  let v365 : BitVec 32 := Scalar.addi v364 c0_i32_231
  let c11_i32 : BitVec 32 := 11#32
  let v366 : BitVec 32 := Scalar.addi v365 c11_i32
  let v370 : BitVec 1 := Scalar.cmpi .slt v366 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v369 : BitVec 32 := Scalar.subi v368 v48
  let c0_i32_232 : BitVec 32 := 0#32
  let v371 : BitVec 1 := Scalar.cmpi .sge v369 c0_i32_232
  let v372 : BitVec 1 := Scalar.andi v370 v371
  let c128_i32_233 : BitVec 32 := 128#32
  let v373 : BitVec 1 := Scalar.cmpi .slt v369 c128_i32_233
  let v374 : BitVec 1 := Scalar.andi v372 v373
  let c128_i32_234 : BitVec 32 := 128#32
  let v375 : BitVec 32 := Scalar.select v374 v369 c128_i32_234
  let c768_i32_235 : BitVec 32 := 768#32
  let v376 : BitVec 32 := Scalar.muli v375 c768_i32_235
  let c0_i32_296 : BitVec 32 := 0#32
  let c0_i32_239 : BitVec 32 := 0#32
  let c1_i32_241 : BitVec 32 := 1#32
  let arg21 : BitVec 32 := Scf.iv c0_i32_239 c1_i32_241 k1_t67
  let c16_i32_295 : BitVec 32 := 16#32
  let v449 : BitVec 32 := Scalar.muli arg21 c16_i32_295
  let v450 : BitVec 32 := Scalar.addi c0_i32_296 v449
  let v451 : BitVec 32 := Scalar.addi v376 v450
  let v452 : Index := Scalar.indexCast v451
  ![v452.toNat]

def k1_chk65 (i : grid1.Coords) (v37 : BitVec 32) (v40 : BitVec 32) (v43 : BitVec 32) (k1_t3 : Fin k1_t3_loop.trips) (k1_t39 : Fin (k1_t39_loop v37 v40 v43 k1_t3).trips) (v368 : BitVec 32) : Prop :=
  (∀ k1_t67 : Fin k1_t67_loop.trips, ∀ (k1_h8 : k1_cond8 v37 v40 v43 k1_t3 k1_t39 = 1#1), ∀ a, (k1_off141 i v37 v40 v43 k1_t3 k1_t39 v368 k1_t67) a + S16.size a ≤ S99072.size a)
theorem k1_off141_inb : ∀ (i : grid1.Coords) (v37 : BitVec 32) (v40 : BitVec 32) (v43 : BitVec 32) (k1_t3 : Fin k1_t3_loop.trips) (k1_t39 : Fin (k1_t39_loop v37 v40 v43 k1_t3).trips) (v368 : BitVec 32) (k1_hw65 : k1_chk65 i v37 v40 v43 k1_t3 k1_t39 v368) (k1_t67 : Fin k1_t67_loop.trips), ∀ (k1_h8 : k1_cond8 v37 v40 v43 k1_t3 k1_t39 = 1#1), ∀ a, (k1_off141 i v37 v40 v43 k1_t3 k1_t39 v368 k1_t67) a + S16.size a ≤ S99072.size a := fun i v37 v40 v43 k1_t3 k1_t39 v368 k1_hw65 k1_t67 k1_h8 => k1_hw65 k1_t67 k1_h8

def k1_off142 (v37 : BitVec 32) (v40 : BitVec 32) (v43 : BitVec 32) (k1_t3 : Fin k1_t3_loop.trips) (k1_t39 : Fin (k1_t39_loop v37 v40 v43 k1_t3).trips) (k1_t67 : Fin k1_t67_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_236 : BitVec 32 := 0#32
  let v377 : BitVec 32 := Scalar.addi v157 c0_i32_236
  let c11_i32_237 : BitVec 32 := 11#32
  let v378 : BitVec 32 := Scalar.addi v377 c11_i32_237
  let c768_i32_238 : BitVec 32 := 768#32
  let v379 : BitVec 32 := Scalar.muli v378 c768_i32_238
  let c0_i32_296 : BitVec 32 := 0#32
  let c0_i32_239 : BitVec 32 := 0#32
  let c1_i32_241 : BitVec 32 := 1#32
  let arg21 : BitVec 32 := Scf.iv c0_i32_239 c1_i32_241 k1_t67
  let c16_i32_295 : BitVec 32 := 16#32
  let v449 : BitVec 32 := Scalar.muli arg21 c16_i32_295
  let v450 : BitVec 32 := Scalar.addi c0_i32_296 v449
  let v454 : BitVec 32 := Scalar.addi v379 v450
  let v455 : Index := Scalar.indexCast v454
  ![v455.toNat]
@[reducible] def k1_t68_loop : Scf.Loop 32 :=
  let c0_i32_252 : BitVec 32 := 0#32
  let c48_i32_253 : BitVec 32 := 48#32
  let v397 : BitVec 32 := Scalar.addi c0_i32_252 c48_i32_253
  let c1_i32_254 : BitVec 32 := 1#32
  ⟨c0_i32_252, v397, c1_i32_254⟩
def k1_off143 (i : grid1.Coords) (v37 : BitVec 32) (v40 : BitVec 32) (v43 : BitVec 32) (k1_t3 : Fin k1_t3_loop.trips) (k1_t39 : Fin (k1_t39_loop v37 v40 v43 k1_t3).trips) (v385 : BitVec 32) (k1_t68 : Fin k1_t68_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_243 : BitVec 32 := 16#32
  let v381 : BitVec 32 := Scalar.muli v150 c16_i32_243
  let c0_i32_244 : BitVec 32 := 0#32
  let v382 : BitVec 32 := Scalar.addi v381 c0_i32_244
  let c12_i32 : BitVec 32 := 12#32
  let v383 : BitVec 32 := Scalar.addi v382 c12_i32
  let v387 : BitVec 1 := Scalar.cmpi .slt v383 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v386 : BitVec 32 := Scalar.subi v385 v48
  let c0_i32_245 : BitVec 32 := 0#32
  let v388 : BitVec 1 := Scalar.cmpi .sge v386 c0_i32_245
  let v389 : BitVec 1 := Scalar.andi v387 v388
  let c128_i32_246 : BitVec 32 := 128#32
  let v390 : BitVec 1 := Scalar.cmpi .slt v386 c128_i32_246
  let v391 : BitVec 1 := Scalar.andi v389 v390
  let c128_i32_247 : BitVec 32 := 128#32
  let v392 : BitVec 32 := Scalar.select v391 v386 c128_i32_247
  let c768_i32_248 : BitVec 32 := 768#32
  let v393 : BitVec 32 := Scalar.muli v392 c768_i32_248
  let c0_i32_296 : BitVec 32 := 0#32
  let c0_i32_252 : BitVec 32 := 0#32
  let c1_i32_254 : BitVec 32 := 1#32
  let arg21 : BitVec 32 := Scf.iv c0_i32_252 c1_i32_254 k1_t68
  let c16_i32_295 : BitVec 32 := 16#32
  let v449 : BitVec 32 := Scalar.muli arg21 c16_i32_295
  let v450 : BitVec 32 := Scalar.addi c0_i32_296 v449
  let v451 : BitVec 32 := Scalar.addi v393 v450
  let v452 : Index := Scalar.indexCast v451
  ![v452.toNat]

def k1_chk66 (i : grid1.Coords) (v37 : BitVec 32) (v40 : BitVec 32) (v43 : BitVec 32) (k1_t3 : Fin k1_t3_loop.trips) (k1_t39 : Fin (k1_t39_loop v37 v40 v43 k1_t3).trips) (v385 : BitVec 32) : Prop :=
  (∀ k1_t68 : Fin k1_t68_loop.trips, ∀ (k1_h8 : k1_cond8 v37 v40 v43 k1_t3 k1_t39 = 1#1), ∀ a, (k1_off143 i v37 v40 v43 k1_t3 k1_t39 v385 k1_t68) a + S16.size a ≤ S99072.size a)
theorem k1_off143_inb : ∀ (i : grid1.Coords) (v37 : BitVec 32) (v40 : BitVec 32) (v43 : BitVec 32) (k1_t3 : Fin k1_t3_loop.trips) (k1_t39 : Fin (k1_t39_loop v37 v40 v43 k1_t3).trips) (v385 : BitVec 32) (k1_hw66 : k1_chk66 i v37 v40 v43 k1_t3 k1_t39 v385) (k1_t68 : Fin k1_t68_loop.trips), ∀ (k1_h8 : k1_cond8 v37 v40 v43 k1_t3 k1_t39 = 1#1), ∀ a, (k1_off143 i v37 v40 v43 k1_t3 k1_t39 v385 k1_t68) a + S16.size a ≤ S99072.size a := fun i v37 v40 v43 k1_t3 k1_t39 v385 k1_hw66 k1_t68 k1_h8 => k1_hw66 k1_t68 k1_h8

def k1_off144 (v37 : BitVec 32) (v40 : BitVec 32) (v43 : BitVec 32) (k1_t3 : Fin k1_t3_loop.trips) (k1_t39 : Fin (k1_t39_loop v37 v40 v43 k1_t3).trips) (k1_t68 : Fin k1_t68_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_249 : BitVec 32 := 0#32
  let v394 : BitVec 32 := Scalar.addi v157 c0_i32_249
  let c12_i32_250 : BitVec 32 := 12#32
  let v395 : BitVec 32 := Scalar.addi v394 c12_i32_250
  let c768_i32_251 : BitVec 32 := 768#32
  let v396 : BitVec 32 := Scalar.muli v395 c768_i32_251
  let c0_i32_296 : BitVec 32 := 0#32
  let c0_i32_252 : BitVec 32 := 0#32
  let c1_i32_254 : BitVec 32 := 1#32
  let arg21 : BitVec 32 := Scf.iv c0_i32_252 c1_i32_254 k1_t68
  let c16_i32_295 : BitVec 32 := 16#32
  let v449 : BitVec 32 := Scalar.muli arg21 c16_i32_295
  let v450 : BitVec 32 := Scalar.addi c0_i32_296 v449
  let v454 : BitVec 32 := Scalar.addi v396 v450
  let v455 : Index := Scalar.indexCast v454
  ![v455.toNat]
@[reducible] def k1_t69_loop : Scf.Loop 32 :=
  let c0_i32_265 : BitVec 32 := 0#32
  let c48_i32_266 : BitVec 32 := 48#32
  let v414 : BitVec 32 := Scalar.addi c0_i32_265 c48_i32_266
  let c1_i32_267 : BitVec 32 := 1#32
  ⟨c0_i32_265, v414, c1_i32_267⟩
def k1_off145 (i : grid1.Coords) (v37 : BitVec 32) (v40 : BitVec 32) (v43 : BitVec 32) (k1_t3 : Fin k1_t3_loop.trips) (k1_t39 : Fin (k1_t39_loop v37 v40 v43 k1_t3).trips) (v402 : BitVec 32) (k1_t69 : Fin k1_t69_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_256 : BitVec 32 := 16#32
  let v398 : BitVec 32 := Scalar.muli v150 c16_i32_256
  let c0_i32_257 : BitVec 32 := 0#32
  let v399 : BitVec 32 := Scalar.addi v398 c0_i32_257
  let c13_i32 : BitVec 32 := 13#32
  let v400 : BitVec 32 := Scalar.addi v399 c13_i32
  let v404 : BitVec 1 := Scalar.cmpi .slt v400 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v403 : BitVec 32 := Scalar.subi v402 v48
  let c0_i32_258 : BitVec 32 := 0#32
  let v405 : BitVec 1 := Scalar.cmpi .sge v403 c0_i32_258
  let v406 : BitVec 1 := Scalar.andi v404 v405
  let c128_i32_259 : BitVec 32 := 128#32
  let v407 : BitVec 1 := Scalar.cmpi .slt v403 c128_i32_259
  let v408 : BitVec 1 := Scalar.andi v406 v407
  let c128_i32_260 : BitVec 32 := 128#32
  let v409 : BitVec 32 := Scalar.select v408 v403 c128_i32_260
  let c768_i32_261 : BitVec 32 := 768#32
  let v410 : BitVec 32 := Scalar.muli v409 c768_i32_261
  let c0_i32_296 : BitVec 32 := 0#32
  let c0_i32_265 : BitVec 32 := 0#32
  let c1_i32_267 : BitVec 32 := 1#32
  let arg21 : BitVec 32 := Scf.iv c0_i32_265 c1_i32_267 k1_t69
  let c16_i32_295 : BitVec 32 := 16#32
  let v449 : BitVec 32 := Scalar.muli arg21 c16_i32_295
  let v450 : BitVec 32 := Scalar.addi c0_i32_296 v449
  let v451 : BitVec 32 := Scalar.addi v410 v450
  let v452 : Index := Scalar.indexCast v451
  ![v452.toNat]

def k1_chk67 (i : grid1.Coords) (v37 : BitVec 32) (v40 : BitVec 32) (v43 : BitVec 32) (k1_t3 : Fin k1_t3_loop.trips) (k1_t39 : Fin (k1_t39_loop v37 v40 v43 k1_t3).trips) (v402 : BitVec 32) : Prop :=
  (∀ k1_t69 : Fin k1_t69_loop.trips, ∀ (k1_h8 : k1_cond8 v37 v40 v43 k1_t3 k1_t39 = 1#1), ∀ a, (k1_off145 i v37 v40 v43 k1_t3 k1_t39 v402 k1_t69) a + S16.size a ≤ S99072.size a)
theorem k1_off145_inb : ∀ (i : grid1.Coords) (v37 : BitVec 32) (v40 : BitVec 32) (v43 : BitVec 32) (k1_t3 : Fin k1_t3_loop.trips) (k1_t39 : Fin (k1_t39_loop v37 v40 v43 k1_t3).trips) (v402 : BitVec 32) (k1_hw67 : k1_chk67 i v37 v40 v43 k1_t3 k1_t39 v402) (k1_t69 : Fin k1_t69_loop.trips), ∀ (k1_h8 : k1_cond8 v37 v40 v43 k1_t3 k1_t39 = 1#1), ∀ a, (k1_off145 i v37 v40 v43 k1_t3 k1_t39 v402 k1_t69) a + S16.size a ≤ S99072.size a := fun i v37 v40 v43 k1_t3 k1_t39 v402 k1_hw67 k1_t69 k1_h8 => k1_hw67 k1_t69 k1_h8

def k1_off146 (v37 : BitVec 32) (v40 : BitVec 32) (v43 : BitVec 32) (k1_t3 : Fin k1_t3_loop.trips) (k1_t39 : Fin (k1_t39_loop v37 v40 v43 k1_t3).trips) (k1_t69 : Fin k1_t69_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_262 : BitVec 32 := 0#32
  let v411 : BitVec 32 := Scalar.addi v157 c0_i32_262
  let c13_i32_263 : BitVec 32 := 13#32
  let v412 : BitVec 32 := Scalar.addi v411 c13_i32_263
  let c768_i32_264 : BitVec 32 := 768#32
  let v413 : BitVec 32 := Scalar.muli v412 c768_i32_264
  let c0_i32_296 : BitVec 32 := 0#32
  let c0_i32_265 : BitVec 32 := 0#32
  let c1_i32_267 : BitVec 32 := 1#32
  let arg21 : BitVec 32 := Scf.iv c0_i32_265 c1_i32_267 k1_t69
  let c16_i32_295 : BitVec 32 := 16#32
  let v449 : BitVec 32 := Scalar.muli arg21 c16_i32_295
  let v450 : BitVec 32 := Scalar.addi c0_i32_296 v449
  let v454 : BitVec 32 := Scalar.addi v413 v450
  let v455 : Index := Scalar.indexCast v454
  ![v455.toNat]
@[reducible] def k1_t70_loop : Scf.Loop 32 :=
  let c0_i32_278 : BitVec 32 := 0#32
  let c48_i32_279 : BitVec 32 := 48#32
  let v431 : BitVec 32 := Scalar.addi c0_i32_278 c48_i32_279
  let c1_i32_280 : BitVec 32 := 1#32
  ⟨c0_i32_278, v431, c1_i32_280⟩
def k1_off147 (i : grid1.Coords) (v37 : BitVec 32) (v40 : BitVec 32) (v43 : BitVec 32) (k1_t3 : Fin k1_t3_loop.trips) (k1_t39 : Fin (k1_t39_loop v37 v40 v43 k1_t3).trips) (v419 : BitVec 32) (k1_t70 : Fin k1_t70_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_269 : BitVec 32 := 16#32
  let v415 : BitVec 32 := Scalar.muli v150 c16_i32_269
  let c0_i32_270 : BitVec 32 := 0#32
  let v416 : BitVec 32 := Scalar.addi v415 c0_i32_270
  let c14_i32 : BitVec 32 := 14#32
  let v417 : BitVec 32 := Scalar.addi v416 c14_i32
  let v421 : BitVec 1 := Scalar.cmpi .slt v417 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v420 : BitVec 32 := Scalar.subi v419 v48
  let c0_i32_271 : BitVec 32 := 0#32
  let v422 : BitVec 1 := Scalar.cmpi .sge v420 c0_i32_271
  let v423 : BitVec 1 := Scalar.andi v421 v422
  let c128_i32_272 : BitVec 32 := 128#32
  let v424 : BitVec 1 := Scalar.cmpi .slt v420 c128_i32_272
  let v425 : BitVec 1 := Scalar.andi v423 v424
  let c128_i32_273 : BitVec 32 := 128#32
  let v426 : BitVec 32 := Scalar.select v425 v420 c128_i32_273
  let c768_i32_274 : BitVec 32 := 768#32
  let v427 : BitVec 32 := Scalar.muli v426 c768_i32_274
  let c0_i32_296 : BitVec 32 := 0#32
  let c0_i32_278 : BitVec 32 := 0#32
  let c1_i32_280 : BitVec 32 := 1#32
  let arg21 : BitVec 32 := Scf.iv c0_i32_278 c1_i32_280 k1_t70
  let c16_i32_295 : BitVec 32 := 16#32
  let v449 : BitVec 32 := Scalar.muli arg21 c16_i32_295
  let v450 : BitVec 32 := Scalar.addi c0_i32_296 v449
  let v451 : BitVec 32 := Scalar.addi v427 v450
  let v452 : Index := Scalar.indexCast v451
  ![v452.toNat]

def k1_chk68 (i : grid1.Coords) (v37 : BitVec 32) (v40 : BitVec 32) (v43 : BitVec 32) (k1_t3 : Fin k1_t3_loop.trips) (k1_t39 : Fin (k1_t39_loop v37 v40 v43 k1_t3).trips) (v419 : BitVec 32) : Prop :=
  (∀ k1_t70 : Fin k1_t70_loop.trips, ∀ (k1_h8 : k1_cond8 v37 v40 v43 k1_t3 k1_t39 = 1#1), ∀ a, (k1_off147 i v37 v40 v43 k1_t3 k1_t39 v419 k1_t70) a + S16.size a ≤ S99072.size a)
theorem k1_off147_inb : ∀ (i : grid1.Coords) (v37 : BitVec 32) (v40 : BitVec 32) (v43 : BitVec 32) (k1_t3 : Fin k1_t3_loop.trips) (k1_t39 : Fin (k1_t39_loop v37 v40 v43 k1_t3).trips) (v419 : BitVec 32) (k1_hw68 : k1_chk68 i v37 v40 v43 k1_t3 k1_t39 v419) (k1_t70 : Fin k1_t70_loop.trips), ∀ (k1_h8 : k1_cond8 v37 v40 v43 k1_t3 k1_t39 = 1#1), ∀ a, (k1_off147 i v37 v40 v43 k1_t3 k1_t39 v419 k1_t70) a + S16.size a ≤ S99072.size a := fun i v37 v40 v43 k1_t3 k1_t39 v419 k1_hw68 k1_t70 k1_h8 => k1_hw68 k1_t70 k1_h8

def k1_off148 (v37 : BitVec 32) (v40 : BitVec 32) (v43 : BitVec 32) (k1_t3 : Fin k1_t3_loop.trips) (k1_t39 : Fin (k1_t39_loop v37 v40 v43 k1_t3).trips) (k1_t70 : Fin k1_t70_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_275 : BitVec 32 := 0#32
  let v428 : BitVec 32 := Scalar.addi v157 c0_i32_275
  let c14_i32_276 : BitVec 32 := 14#32
  let v429 : BitVec 32 := Scalar.addi v428 c14_i32_276
  let c768_i32_277 : BitVec 32 := 768#32
  let v430 : BitVec 32 := Scalar.muli v429 c768_i32_277
  let c0_i32_296 : BitVec 32 := 0#32
  let c0_i32_278 : BitVec 32 := 0#32
  let c1_i32_280 : BitVec 32 := 1#32
  let arg21 : BitVec 32 := Scf.iv c0_i32_278 c1_i32_280 k1_t70
  let c16_i32_295 : BitVec 32 := 16#32
  let v449 : BitVec 32 := Scalar.muli arg21 c16_i32_295
  let v450 : BitVec 32 := Scalar.addi c0_i32_296 v449
  let v454 : BitVec 32 := Scalar.addi v430 v450
  let v455 : Index := Scalar.indexCast v454
  ![v455.toNat]
@[reducible] def k1_t71_loop : Scf.Loop 32 :=
  let c0_i32_291 : BitVec 32 := 0#32
  let c48_i32_292 : BitVec 32 := 48#32
  let v448 : BitVec 32 := Scalar.addi c0_i32_291 c48_i32_292
  let c1_i32_293 : BitVec 32 := 1#32
  ⟨c0_i32_291, v448, c1_i32_293⟩
def k1_off149 (i : grid1.Coords) (v37 : BitVec 32) (v40 : BitVec 32) (v43 : BitVec 32) (k1_t3 : Fin k1_t3_loop.trips) (k1_t39 : Fin (k1_t39_loop v37 v40 v43 k1_t3).trips) (v436 : BitVec 32) (k1_t71 : Fin k1_t71_loop.trips) : Fin 1 → Nat :=
  let c0_i32_56 : BitVec 32 := 0#32
  let c0_i32_18 : BitVec 32 := 0#32
  let c1_i32_19 : BitVec 32 := 1#32
  let arg17 : BitVec 32 := Scf.iv c0_i32_18 c1_i32_19 k1_t3
  let c0_i32_22 : BitVec 32 := 0#32
  let v51 : BitVec 1 := Scalar.cmpi .eq arg17 c0_i32_22
  let v52 : BitVec 32 := Scalar.select v51 v40 v43
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_282 : BitVec 32 := 16#32
  let v432 : BitVec 32 := Scalar.muli v150 c16_i32_282
  let c0_i32_283 : BitVec 32 := 0#32
  let v433 : BitVec 32 := Scalar.addi v432 c0_i32_283
  let c15_i32 : BitVec 32 := 15#32
  let v434 : BitVec 32 := Scalar.addi v433 c15_i32
  let v438 : BitVec 1 := Scalar.cmpi .slt v434 v73
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c128_i32 : BitVec 32 := 128#32
  let v47 : BitVec 32 := Scalar.muli arg17 c128_i32
  let v48 : BitVec 32 := Scalar.addi v29 v47
  let v437 : BitVec 32 := Scalar.subi v436 v48
  let c0_i32_284 : BitVec 32 := 0#32
  let v439 : BitVec 1 := Scalar.cmpi .sge v437 c0_i32_284
  let v440 : BitVec 1 := Scalar.andi v438 v439
  let c128_i32_285 : BitVec 32 := 128#32
  let v441 : BitVec 1 := Scalar.cmpi .slt v437 c128_i32_285
  let v442 : BitVec 1 := Scalar.andi v440 v441
  let c128_i32_286 : BitVec 32 := 128#32
  let v443 : BitVec 32 := Scalar.select v442 v437 c128_i32_286
  let c768_i32_287 : BitVec 32 := 768#32
  let v444 : BitVec 32 := Scalar.muli v443 c768_i32_287
  let c0_i32_296 : BitVec 32 := 0#32
  let c0_i32_291 : BitVec 32 := 0#32
  let c1_i32_293 : BitVec 32 := 1#32
  let arg21 : BitVec 32 := Scf.iv c0_i32_291 c1_i32_293 k1_t71
  let c16_i32_295 : BitVec 32 := 16#32
  let v449 : BitVec 32 := Scalar.muli arg21 c16_i32_295
  let v450 : BitVec 32 := Scalar.addi c0_i32_296 v449
  let v451 : BitVec 32 := Scalar.addi v444 v450
  let v452 : Index := Scalar.indexCast v451
  ![v452.toNat]

def k1_chk69 (i : grid1.Coords) (v37 : BitVec 32) (v40 : BitVec 32) (v43 : BitVec 32) (k1_t3 : Fin k1_t3_loop.trips) (k1_t39 : Fin (k1_t39_loop v37 v40 v43 k1_t3).trips) (v436 : BitVec 32) : Prop :=
  (∀ k1_t71 : Fin k1_t71_loop.trips, ∀ (k1_h8 : k1_cond8 v37 v40 v43 k1_t3 k1_t39 = 1#1), ∀ a, (k1_off149 i v37 v40 v43 k1_t3 k1_t39 v436 k1_t71) a + S16.size a ≤ S99072.size a)
theorem k1_off149_inb : ∀ (i : grid1.Coords) (v37 : BitVec 32) (v40 : BitVec 32) (v43 : BitVec 32) (k1_t3 : Fin k1_t3_loop.trips) (k1_t39 : Fin (k1_t39_loop v37 v40 v43 k1_t3).trips) (v436 : BitVec 32) (k1_hw69 : k1_chk69 i v37 v40 v43 k1_t3 k1_t39 v436) (k1_t71 : Fin k1_t71_loop.trips), ∀ (k1_h8 : k1_cond8 v37 v40 v43 k1_t3 k1_t39 = 1#1), ∀ a, (k1_off149 i v37 v40 v43 k1_t3 k1_t39 v436 k1_t71) a + S16.size a ≤ S99072.size a := fun i v37 v40 v43 k1_t3 k1_t39 v436 k1_hw69 k1_t71 k1_h8 => k1_hw69 k1_t71 k1_h8

def k1_off150 (v37 : BitVec 32) (v40 : BitVec 32) (v43 : BitVec 32) (k1_t3 : Fin k1_t3_loop.trips) (k1_t39 : Fin (k1_t39_loop v37 v40 v43 k1_t3).trips) (k1_t71 : Fin k1_t71_loop.trips) : Fin 1 → Nat :=
  let c0_i32_18 : BitVec 32 := 0#32
  let c1_i32_19 : BitVec 32 := 1#32
  let arg17 : BitVec 32 := Scf.iv c0_i32_18 c1_i32_19 k1_t3
  let c0_i32_21 : BitVec 32 := 0#32
  let v49 : BitVec 1 := Scalar.cmpi .eq arg17 c0_i32_21
  let v50 : BitVec 32 := Scalar.select v49 v37 v40
  let c0_i32_30 : BitVec 32 := 0#32
  let v56 : BitVec 1 := Scalar.cmpi .sgt v50 c0_i32_30
  let v57 : BitVec 32 := Scalar.extui v56
  let c0_i32_31 : BitVec 32 := 0#32
  let v58 : BitVec 1 := Scalar.cmpi .slt v50 c0_i32_31
  let v59 : BitVec 32 := Scalar.extui v58
  let v60 : BitVec 32 := Scalar.subi v57 v59
  let c16_i32_29 : BitVec 32 := 16#32
  let c0_i32_32 : BitVec 32 := 0#32
  let v61 : BitVec 1 := Scalar.cmpi .sgt c16_i32_29 c0_i32_32
  let v62 : BitVec 32 := Scalar.extui v61
  let c0_i32_33 : BitVec 32 := 0#32
  let v63 : BitVec 1 := Scalar.cmpi .slt c16_i32_29 c0_i32_33
  let v64 : BitVec 32 := Scalar.extui v63
  let v65 : BitVec 32 := Scalar.subi v62 v64
  let v66 : BitVec 1 := Scalar.cmpi .ne v60 v65
  let v67 : BitVec 32 := Scalar.remsi v50 c16_i32_29
  let c0_i32_34 : BitVec 32 := 0#32
  let v68 : BitVec 1 := Scalar.cmpi .ne v67 c0_i32_34
  let v69 : BitVec 1 := Scalar.andi v66 v68
  let v55 : BitVec 32 := Scalar.divsi v50 c16_i32_29
  let c1_i32_35 : BitVec 32 := 1#32
  let v70 : BitVec 32 := Scalar.subi v55 c1_i32_35
  let v71 : BitVec 32 := Scalar.select v69 v70 v55
  let c16_i32_36 : BitVec 32 := 16#32
  let v72 : BitVec 32 := Scalar.muli v71 c16_i32_36
  let c0_i32_56 : BitVec 32 := 0#32
  let c0_i32_22 : BitVec 32 := 0#32
  let v51 : BitVec 1 := Scalar.cmpi .eq arg17 c0_i32_22
  let v52 : BitVec 32 := Scalar.select v51 v40 v43
  let v73 : BitVec 32 := Scalar.subi v52 v72
  let c16_i32_37 : BitVec 32 := 16#32
  let v74 : BitVec 32 := Scalar.addi v73 c16_i32_37
  let c1_i32_38 : BitVec 32 := 1#32
  let v75 : BitVec 32 := Scalar.subi v74 c1_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c16_i32_39 : BitVec 32 := 16#32
  let c0_i32_42 : BitVec 32 := 0#32
  let v82 : BitVec 1 := Scalar.cmpi .sgt c16_i32_39 c0_i32_42
  let v83 : BitVec 32 := Scalar.extui v82
  let c0_i32_43 : BitVec 32 := 0#32
  let v84 : BitVec 1 := Scalar.cmpi .slt c16_i32_39 c0_i32_43
  let v85 : BitVec 32 := Scalar.extui v84
  let v86 : BitVec 32 := Scalar.subi v83 v85
  let v87 : BitVec 1 := Scalar.cmpi .ne v81 v86
  let v88 : BitVec 32 := Scalar.remsi v75 c16_i32_39
  let c0_i32_44 : BitVec 32 := 0#32
  let v89 : BitVec 1 := Scalar.cmpi .ne v88 c0_i32_44
  let v90 : BitVec 1 := Scalar.andi v87 v89
  let v76 : BitVec 32 := Scalar.divsi v75 c16_i32_39
  let c1_i32_45 : BitVec 32 := 1#32
  let v91 : BitVec 32 := Scalar.subi v76 c1_i32_45
  let v92 : BitVec 32 := Scalar.select v90 v91 v76
  let c1_i32_48 : BitVec 32 := 1#32
  let v96 : BitVec 32 := Scalar.addi v92 c1_i32_48
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c2_i32_49 : BitVec 32 := 2#32
  let c0_i32_52 : BitVec 32 := 0#32
  let v103 : BitVec 1 := Scalar.cmpi .sgt c2_i32_49 c0_i32_52
  let v104 : BitVec 32 := Scalar.extui v103
  let c0_i32_53 : BitVec 32 := 0#32
  let v105 : BitVec 1 := Scalar.cmpi .slt c2_i32_49 c0_i32_53
  let v106 : BitVec 32 := Scalar.extui v105
  let v107 : BitVec 32 := Scalar.subi v104 v106
  let v108 : BitVec 1 := Scalar.cmpi .ne v102 v107
  let v109 : BitVec 32 := Scalar.remsi v96 c2_i32_49
  let c0_i32_54 : BitVec 32 := 0#32
  let v110 : BitVec 1 := Scalar.cmpi .ne v109 c0_i32_54
  let v111 : BitVec 1 := Scalar.andi v108 v110
  let v97 : BitVec 32 := Scalar.divsi v96 c2_i32_49
  let c1_i32_55 : BitVec 32 := 1#32
  let v112 : BitVec 32 := Scalar.subi v97 c1_i32_55
  let v113 : BitVec 32 := Scalar.select v111 v112 v97
  let v114 : BitVec 32 := Scalar.subi v113 c0_i32_56
  let c1_i32_58 : BitVec 32 := 1#32
  let v116 : BitVec 32 := Scalar.divsi v114 c1_i32_58
  let v117 : BitVec 32 := Scalar.muli v116 c1_i32_58
  let v118 : BitVec 32 := Scalar.addi c0_i32_56 v117
  let c1_i32_60 : BitVec 32 := 1#32
  let arg19 : BitVec 32 := Scf.iv v118 c1_i32_60 k1_t39
  let c2_i32_63 : BitVec 32 := 2#32
  let v126 : BitVec 32 := Scalar.muli arg19 c2_i32_63
  let c1_i32_73 : BitVec 32 := 1#32
  let v150 : BitVec 32 := Scalar.addi v126 c1_i32_73
  let c16_i32_76 : BitVec 32 := 16#32
  let v155 : BitVec 32 := Scalar.muli v150 c16_i32_76
  let v156 : BitVec 32 := Scalar.addi v72 v155
  let c16_i32_74 : BitVec 32 := 16#32
  let v151 : BitVec 32 := Scalar.muli v150 c16_i32_74
  let v152 : BitVec 32 := Scalar.addi v72 v151
  let c8176_i32_75 : BitVec 32 := 8176#32
  let v153 : BitVec 32 := Scalar.minsi v152 c8176_i32_75
  let v154 : BitVec 32 := v153
  let v157 : BitVec 32 := Scalar.subi v156 v154
  let c0_i32_288 : BitVec 32 := 0#32
  let v445 : BitVec 32 := Scalar.addi v157 c0_i32_288
  let c15_i32_289 : BitVec 32 := 15#32
  let v446 : BitVec 32 := Scalar.addi v445 c15_i32_289
  let c768_i32_290 : BitVec 32 := 768#32
  let v447 : BitVec 32 := Scalar.muli v446 c768_i32_290
  let c0_i32_296 : BitVec 32 := 0#32
  let c0_i32_291 : BitVec 32 := 0#32
  let c1_i32_293 : BitVec 32 := 1#32
  let arg21 : BitVec 32 := Scf.iv c0_i32_291 c1_i32_293 k1_t71
  let c16_i32_295 : BitVec 32 := 16#32
  let v449 : BitVec 32 := Scalar.muli arg21 c16_i32_295
  let v450 : BitVec 32 := Scalar.addi c0_i32_296 v449
  let v454 : BitVec 32 := Scalar.addi v447 v450
  let v455 : Index := Scalar.indexCast v454
  ![v455.toNat]

def k1_chk1_0 (i : grid1.Coords) (v37 : BitVec 32) (v40 : BitVec 32) (v43 : BitVec 32) : Prop :=
  (∀ k1_t3 : Fin k1_t3_loop.trips, ∀ (k1_h1 : k1_cond1 v37 v40 v43 k1_t3 = 1#1), 16 ∣ (k1_mult2 v37 v40 k1_t3).toNat) ∧
  (∀ k1_t3 : Fin k1_t3_loop.trips, ∀ (k1_h1 : k1_cond1 v37 v40 v43 k1_t3 = 1#1), ∀ a, (k1_off5 i v37 v40 k1_t3) a + S16.size a ≤ S32768.size a) ∧
  (∀ k1_t3 : Fin k1_t3_loop.trips, ∀ (k1_h1 : k1_cond1 v37 v40 v43 k1_t3 = 1#1), ∀ a, (k1_off6 i v37 v40 k1_t3) a + S12288.size a ≤ S25165824.size a) ∧
  (∀ k1_t3 : Fin k1_t3_loop.trips, (k1_t6_loop v37 v40 v43 k1_t3).OK) ∧
  (∀ (k1_t3 : Fin k1_t3_loop.trips) (k1_t6 : Fin (k1_t6_loop v37 v40 v43 k1_t3).trips), ∀ (k1_h2 : k1_cond2 v37 v40 v43 k1_t3 k1_t6 = 1#1), 16 ∣ (k1_mult3 v37 v40 v43 k1_t3 k1_t6).toNat) ∧
  (∀ (k1_t3 : Fin k1_t3_loop.trips) (k1_t6 : Fin (k1_t6_loop v37 v40 v43 k1_t3).trips), ∀ (k1_h2 : k1_cond2 v37 v40 v43 k1_t3 k1_t6 = 1#1), ∀ a, (k1_off7 i v37 v40 v43 k1_t3 k1_t6) a + S16.size a ≤ S32768.size a) ∧
  (∀ (k1_t3 : Fin k1_t3_loop.trips) (k1_t6 : Fin (k1_t6_loop v37 v40 v43 k1_t3).trips), ∀ (k1_h2 : k1_cond2 v37 v40 v43 k1_t3 k1_t6 = 1#1), ∀ a, (k1_off8 i v37 v40 v43 k1_t3 k1_t6) a + S12288.size a ≤ S25165824.size a) ∧
  (∀ (k1_t3 : Fin k1_t3_loop.trips) (k1_t6 : Fin (k1_t6_loop v37 v40 v43 k1_t3).trips), ∀ (k1_h2 : k1_cond2 v37 v40 v43 k1_t3 k1_t6 = 1#1), ∀ (k1_h3 : k1_cond3 v37 v40 v43 k1_t3 k1_t6 = 1#1), 16 ∣ (k1_mult4 v37 v40 v43 k1_t3 k1_t6).toNat) ∧
  (∀ (k1_t3 : Fin k1_t3_loop.trips) (k1_t6 : Fin (k1_t6_loop v37 v40 v43 k1_t3).trips), ∀ (k1_h2 : k1_cond2 v37 v40 v43 k1_t3 k1_t6 = 1#1), ∀ (k1_h3 : k1_cond3 v37 v40 v43 k1_t3 k1_t6 = 1#1), ∀ a, (k1_off9 i v37 v40 v43 k1_t3 k1_t6) a + S16.size a ≤ S32768.size a) ∧
  (∀ (k1_t3 : Fin k1_t3_loop.trips) (k1_t6 : Fin (k1_t6_loop v37 v40 v43 k1_t3).trips), ∀ (k1_h2 : k1_cond2 v37 v40 v43 k1_t3 k1_t6 = 1#1), ∀ (k1_h3 : k1_cond3 v37 v40 v43 k1_t3 k1_t6 = 1#1), ∀ a, (k1_off10 i v37 v40 v43 k1_t3 k1_t6) a + S12288.size a ≤ S25165824.size a) ∧
  (∀ (k1_t3 : Fin k1_t3_loop.trips) (k1_t6 : Fin (k1_t6_loop v37 v40 v43 k1_t3).trips), ∀ (k1_h2 : k1_cond2 v37 v40 v43 k1_t3 k1_t6 = 1#1), 16 ∣ (k1_mult5 v37 v40 v43 k1_t3 k1_t6).toNat) ∧
  (∀ (k1_t3 : Fin k1_t3_loop.trips) (k1_t6 : Fin (k1_t6_loop v37 v40 v43 k1_t3).trips) (k1_t7 : Fin k1_t7_loop.trips), ∀ (k1_h2 : k1_cond2 v37 v40 v43 k1_t3 k1_t6 = 1#1), ∀ a, (k1_off12 v37 v40 v43 k1_t3 k1_t6 k1_t7) a + S16.size a ≤ S12288.size a) ∧
  (∀ (k1_t3 : Fin k1_t3_loop.trips) (k1_t6 : Fin (k1_t6_loop v37 v40 v43 k1_t3).trips) (k1_t8 : Fin k1_t8_loop.trips), ∀ (k1_h2 : k1_cond2 v37 v40 v43 k1_t3 k1_t6 = 1#1), ∀ a, (k1_off14 v37 v40 v43 k1_t3 k1_t6 k1_t8) a + S16.size a ≤ S12288.size a) ∧
  (∀ (k1_t3 : Fin k1_t3_loop.trips) (k1_t6 : Fin (k1_t6_loop v37 v40 v43 k1_t3).trips) (k1_t9 : Fin k1_t9_loop.trips), ∀ (k1_h2 : k1_cond2 v37 v40 v43 k1_t3 k1_t6 = 1#1), ∀ a, (k1_off16 v37 v40 v43 k1_t3 k1_t6 k1_t9) a + S16.size a ≤ S12288.size a) ∧
  (∀ (k1_t3 : Fin k1_t3_loop.trips) (k1_t6 : Fin (k1_t6_loop v37 v40 v43 k1_t3).trips) (k1_t10 : Fin k1_t10_loop.trips), ∀ (k1_h2 : k1_cond2 v37 v40 v43 k1_t3 k1_t6 = 1#1), ∀ a, (k1_off18 v37 v40 v43 k1_t3 k1_t6 k1_t10) a + S16.size a ≤ S12288.size a) ∧
  (∀ (k1_t3 : Fin k1_t3_loop.trips) (k1_t6 : Fin (k1_t6_loop v37 v40 v43 k1_t3).trips) (k1_t11 : Fin k1_t11_loop.trips), ∀ (k1_h2 : k1_cond2 v37 v40 v43 k1_t3 k1_t6 = 1#1), ∀ a, (k1_off20 v37 v40 v43 k1_t3 k1_t6 k1_t11) a + S16.size a ≤ S12288.size a) ∧
  (∀ (k1_t3 : Fin k1_t3_loop.trips) (k1_t6 : Fin (k1_t6_loop v37 v40 v43 k1_t3).trips) (k1_t12 : Fin k1_t12_loop.trips), ∀ (k1_h2 : k1_cond2 v37 v40 v43 k1_t3 k1_t6 = 1#1), ∀ a, (k1_off22 v37 v40 v43 k1_t3 k1_t6 k1_t12) a + S16.size a ≤ S12288.size a) ∧
  (∀ (k1_t3 : Fin k1_t3_loop.trips) (k1_t6 : Fin (k1_t6_loop v37 v40 v43 k1_t3).trips) (k1_t13 : Fin k1_t13_loop.trips), ∀ (k1_h2 : k1_cond2 v37 v40 v43 k1_t3 k1_t6 = 1#1), ∀ a, (k1_off24 v37 v40 v43 k1_t3 k1_t6 k1_t13) a + S16.size a ≤ S12288.size a) ∧
  (∀ (k1_t3 : Fin k1_t3_loop.trips) (k1_t6 : Fin (k1_t6_loop v37 v40 v43 k1_t3).trips) (k1_t14 : Fin k1_t14_loop.trips), ∀ (k1_h2 : k1_cond2 v37 v40 v43 k1_t3 k1_t6 = 1#1), ∀ a, (k1_off26 v37 v40 v43 k1_t3 k1_t6 k1_t14) a + S16.size a ≤ S12288.size a) ∧
  (∀ (k1_t3 : Fin k1_t3_loop.trips) (k1_t6 : Fin (k1_t6_loop v37 v40 v43 k1_t3).trips) (k1_t15 : Fin k1_t15_loop.trips), ∀ (k1_h2 : k1_cond2 v37 v40 v43 k1_t3 k1_t6 = 1#1), ∀ a, (k1_off28 v37 v40 v43 k1_t3 k1_t6 k1_t15) a + S16.size a ≤ S12288.size a) ∧
  (∀ (k1_t3 : Fin k1_t3_loop.trips) (k1_t6 : Fin (k1_t6_loop v37 v40 v43 k1_t3).trips) (k1_t16 : Fin k1_t16_loop.trips), ∀ (k1_h2 : k1_cond2 v37 v40 v43 k1_t3 k1_t6 = 1#1), ∀ a, (k1_off30 v37 v40 v43 k1_t3 k1_t6 k1_t16) a + S16.size a ≤ S12288.size a) ∧
  (∀ (k1_t3 : Fin k1_t3_loop.trips) (k1_t6 : Fin (k1_t6_loop v37 v40 v43 k1_t3).trips) (k1_t17 : Fin k1_t17_loop.trips), ∀ (k1_h2 : k1_cond2 v37 v40 v43 k1_t3 k1_t6 = 1#1), ∀ a, (k1_off32 v37 v40 v43 k1_t3 k1_t6 k1_t17) a + S16.size a ≤ S12288.size a) ∧
  (∀ (k1_t3 : Fin k1_t3_loop.trips) (k1_t6 : Fin (k1_t6_loop v37 v40 v43 k1_t3).trips) (k1_t18 : Fin k1_t18_loop.trips), ∀ (k1_h2 : k1_cond2 v37 v40 v43 k1_t3 k1_t6 = 1#1), ∀ a, (k1_off34 v37 v40 v43 k1_t3 k1_t6 k1_t18) a + S16.size a ≤ S12288.size a) ∧
  (∀ (k1_t3 : Fin k1_t3_loop.trips) (k1_t6 : Fin (k1_t6_loop v37 v40 v43 k1_t3).trips) (k1_t19 : Fin k1_t19_loop.trips), ∀ (k1_h2 : k1_cond2 v37 v40 v43 k1_t3 k1_t6 = 1#1), ∀ a, (k1_off36 v37 v40 v43 k1_t3 k1_t6 k1_t19) a + S16.size a ≤ S12288.size a) ∧
  (∀ (k1_t3 : Fin k1_t3_loop.trips) (k1_t6 : Fin (k1_t6_loop v37 v40 v43 k1_t3).trips) (k1_t20 : Fin k1_t20_loop.trips), ∀ (k1_h2 : k1_cond2 v37 v40 v43 k1_t3 k1_t6 = 1#1), ∀ a, (k1_off38 v37 v40 v43 k1_t3 k1_t6 k1_t20) a + S16.size a ≤ S12288.size a) ∧
  (∀ (k1_t3 : Fin k1_t3_loop.trips) (k1_t6 : Fin (k1_t6_loop v37 v40 v43 k1_t3).trips) (k1_t21 : Fin k1_t21_loop.trips), ∀ (k1_h2 : k1_cond2 v37 v40 v43 k1_t3 k1_t6 = 1#1), ∀ a, (k1_off40 v37 v40 v43 k1_t3 k1_t6 k1_t21) a + S16.size a ≤ S12288.size a) ∧
  (∀ (k1_t3 : Fin k1_t3_loop.trips) (k1_t6 : Fin (k1_t6_loop v37 v40 v43 k1_t3).trips) (k1_t22 : Fin k1_t22_loop.trips), ∀ (k1_h2 : k1_cond2 v37 v40 v43 k1_t3 k1_t6 = 1#1), ∀ a, (k1_off42 v37 v40 v43 k1_t3 k1_t6 k1_t22) a + S16.size a ≤ S12288.size a) ∧
  (∀ (k1_t3 : Fin k1_t3_loop.trips) (k1_t6 : Fin (k1_t6_loop v37 v40 v43 k1_t3).trips), ∀ (k1_h4 : k1_cond4 v37 v40 v43 k1_t3 k1_t6 = 1#1), 16 ∣ (k1_mult6 v37 v40 v43 k1_t3 k1_t6).toNat) ∧
  (∀ (k1_t3 : Fin k1_t3_loop.trips) (k1_t6 : Fin (k1_t6_loop v37 v40 v43 k1_t3).trips), ∀ (k1_h4 : k1_cond4 v37 v40 v43 k1_t3 k1_t6 = 1#1), ∀ a, (k1_off43 i v37 v40 v43 k1_t3 k1_t6) a + S16.size a ≤ S32768.size a) ∧
  (∀ (k1_t3 : Fin k1_t3_loop.trips) (k1_t6 : Fin (k1_t6_loop v37 v40 v43 k1_t3).trips), ∀ (k1_h4 : k1_cond4 v37 v40 v43 k1_t3 k1_t6 = 1#1), ∀ a, (k1_off44 i v37 v40 v43 k1_t3 k1_t6) a + S12288.size a ≤ S25165824.size a) ∧
  (∀ (k1_t3 : Fin k1_t3_loop.trips) (k1_t6 : Fin (k1_t6_loop v37 v40 v43 k1_t3).trips), ∀ (k1_h4 : k1_cond4 v37 v40 v43 k1_t3 k1_t6 = 1#1), ∀ (k1_h5 : k1_cond5 v37 v40 v43 k1_t3 k1_t6 = 1#1), 16 ∣ (k1_mult7 v37 v40 v43 k1_t3 k1_t6).toNat) ∧
  (∀ (k1_t3 : Fin k1_t3_loop.trips) (k1_t6 : Fin (k1_t6_loop v37 v40 v43 k1_t3).trips), ∀ (k1_h4 : k1_cond4 v37 v40 v43 k1_t3 k1_t6 = 1#1), ∀ (k1_h5 : k1_cond5 v37 v40 v43 k1_t3 k1_t6 = 1#1), ∀ a, (k1_off45 i v37 v40 v43 k1_t3 k1_t6) a + S16.size a ≤ S32768.size a)
def k1_chk1_1 (i : grid1.Coords) (v37 : BitVec 32) (v40 : BitVec 32) (v43 : BitVec 32) : Prop :=
  (∀ (k1_t3 : Fin k1_t3_loop.trips) (k1_t6 : Fin (k1_t6_loop v37 v40 v43 k1_t3).trips), ∀ (k1_h4 : k1_cond4 v37 v40 v43 k1_t3 k1_t6 = 1#1), ∀ (k1_h5 : k1_cond5 v37 v40 v43 k1_t3 k1_t6 = 1#1), ∀ a, (k1_off46 i v37 v40 v43 k1_t3 k1_t6) a + S12288.size a ≤ S25165824.size a) ∧
  (∀ (k1_t3 : Fin k1_t3_loop.trips) (k1_t6 : Fin (k1_t6_loop v37 v40 v43 k1_t3).trips), ∀ (k1_h4 : k1_cond4 v37 v40 v43 k1_t3 k1_t6 = 1#1), 16 ∣ (k1_mult8 v37 v40 v43 k1_t3 k1_t6).toNat) ∧
  (∀ (k1_t3 : Fin k1_t3_loop.trips) (k1_t6 : Fin (k1_t6_loop v37 v40 v43 k1_t3).trips) (k1_t23 : Fin k1_t23_loop.trips), ∀ (k1_h4 : k1_cond4 v37 v40 v43 k1_t3 k1_t6 = 1#1), ∀ a, (k1_off48 v37 v40 v43 k1_t3 k1_t6 k1_t23) a + S16.size a ≤ S12288.size a) ∧
  (∀ (k1_t3 : Fin k1_t3_loop.trips) (k1_t6 : Fin (k1_t6_loop v37 v40 v43 k1_t3).trips) (k1_t24 : Fin k1_t24_loop.trips), ∀ (k1_h4 : k1_cond4 v37 v40 v43 k1_t3 k1_t6 = 1#1), ∀ a, (k1_off50 v37 v40 v43 k1_t3 k1_t6 k1_t24) a + S16.size a ≤ S12288.size a) ∧
  (∀ (k1_t3 : Fin k1_t3_loop.trips) (k1_t6 : Fin (k1_t6_loop v37 v40 v43 k1_t3).trips) (k1_t25 : Fin k1_t25_loop.trips), ∀ (k1_h4 : k1_cond4 v37 v40 v43 k1_t3 k1_t6 = 1#1), ∀ a, (k1_off52 v37 v40 v43 k1_t3 k1_t6 k1_t25) a + S16.size a ≤ S12288.size a) ∧
  (∀ (k1_t3 : Fin k1_t3_loop.trips) (k1_t6 : Fin (k1_t6_loop v37 v40 v43 k1_t3).trips) (k1_t26 : Fin k1_t26_loop.trips), ∀ (k1_h4 : k1_cond4 v37 v40 v43 k1_t3 k1_t6 = 1#1), ∀ a, (k1_off54 v37 v40 v43 k1_t3 k1_t6 k1_t26) a + S16.size a ≤ S12288.size a) ∧
  (∀ (k1_t3 : Fin k1_t3_loop.trips) (k1_t6 : Fin (k1_t6_loop v37 v40 v43 k1_t3).trips) (k1_t27 : Fin k1_t27_loop.trips), ∀ (k1_h4 : k1_cond4 v37 v40 v43 k1_t3 k1_t6 = 1#1), ∀ a, (k1_off56 v37 v40 v43 k1_t3 k1_t6 k1_t27) a + S16.size a ≤ S12288.size a) ∧
  (∀ (k1_t3 : Fin k1_t3_loop.trips) (k1_t6 : Fin (k1_t6_loop v37 v40 v43 k1_t3).trips) (k1_t28 : Fin k1_t28_loop.trips), ∀ (k1_h4 : k1_cond4 v37 v40 v43 k1_t3 k1_t6 = 1#1), ∀ a, (k1_off58 v37 v40 v43 k1_t3 k1_t6 k1_t28) a + S16.size a ≤ S12288.size a) ∧
  (∀ (k1_t3 : Fin k1_t3_loop.trips) (k1_t6 : Fin (k1_t6_loop v37 v40 v43 k1_t3).trips) (k1_t29 : Fin k1_t29_loop.trips), ∀ (k1_h4 : k1_cond4 v37 v40 v43 k1_t3 k1_t6 = 1#1), ∀ a, (k1_off60 v37 v40 v43 k1_t3 k1_t6 k1_t29) a + S16.size a ≤ S12288.size a) ∧
  (∀ (k1_t3 : Fin k1_t3_loop.trips) (k1_t6 : Fin (k1_t6_loop v37 v40 v43 k1_t3).trips) (k1_t30 : Fin k1_t30_loop.trips), ∀ (k1_h4 : k1_cond4 v37 v40 v43 k1_t3 k1_t6 = 1#1), ∀ a, (k1_off62 v37 v40 v43 k1_t3 k1_t6 k1_t30) a + S16.size a ≤ S12288.size a) ∧
  (∀ (k1_t3 : Fin k1_t3_loop.trips) (k1_t6 : Fin (k1_t6_loop v37 v40 v43 k1_t3).trips) (k1_t31 : Fin k1_t31_loop.trips), ∀ (k1_h4 : k1_cond4 v37 v40 v43 k1_t3 k1_t6 = 1#1), ∀ a, (k1_off64 v37 v40 v43 k1_t3 k1_t6 k1_t31) a + S16.size a ≤ S12288.size a) ∧
  (∀ (k1_t3 : Fin k1_t3_loop.trips) (k1_t6 : Fin (k1_t6_loop v37 v40 v43 k1_t3).trips) (k1_t32 : Fin k1_t32_loop.trips), ∀ (k1_h4 : k1_cond4 v37 v40 v43 k1_t3 k1_t6 = 1#1), ∀ a, (k1_off66 v37 v40 v43 k1_t3 k1_t6 k1_t32) a + S16.size a ≤ S12288.size a) ∧
  (∀ (k1_t3 : Fin k1_t3_loop.trips) (k1_t6 : Fin (k1_t6_loop v37 v40 v43 k1_t3).trips) (k1_t33 : Fin k1_t33_loop.trips), ∀ (k1_h4 : k1_cond4 v37 v40 v43 k1_t3 k1_t6 = 1#1), ∀ a, (k1_off68 v37 v40 v43 k1_t3 k1_t6 k1_t33) a + S16.size a ≤ S12288.size a) ∧
  (∀ (k1_t3 : Fin k1_t3_loop.trips) (k1_t6 : Fin (k1_t6_loop v37 v40 v43 k1_t3).trips) (k1_t34 : Fin k1_t34_loop.trips), ∀ (k1_h4 : k1_cond4 v37 v40 v43 k1_t3 k1_t6 = 1#1), ∀ a, (k1_off70 v37 v40 v43 k1_t3 k1_t6 k1_t34) a + S16.size a ≤ S12288.size a) ∧
  (∀ (k1_t3 : Fin k1_t3_loop.trips) (k1_t6 : Fin (k1_t6_loop v37 v40 v43 k1_t3).trips) (k1_t35 : Fin k1_t35_loop.trips), ∀ (k1_h4 : k1_cond4 v37 v40 v43 k1_t3 k1_t6 = 1#1), ∀ a, (k1_off72 v37 v40 v43 k1_t3 k1_t6 k1_t35) a + S16.size a ≤ S12288.size a) ∧
  (∀ (k1_t3 : Fin k1_t3_loop.trips) (k1_t6 : Fin (k1_t6_loop v37 v40 v43 k1_t3).trips) (k1_t36 : Fin k1_t36_loop.trips), ∀ (k1_h4 : k1_cond4 v37 v40 v43 k1_t3 k1_t6 = 1#1), ∀ a, (k1_off74 v37 v40 v43 k1_t3 k1_t6 k1_t36) a + S16.size a ≤ S12288.size a) ∧
  (∀ (k1_t3 : Fin k1_t3_loop.trips) (k1_t6 : Fin (k1_t6_loop v37 v40 v43 k1_t3).trips) (k1_t37 : Fin k1_t37_loop.trips), ∀ (k1_h4 : k1_cond4 v37 v40 v43 k1_t3 k1_t6 = 1#1), ∀ a, (k1_off76 v37 v40 v43 k1_t3 k1_t6 k1_t37) a + S16.size a ≤ S12288.size a) ∧
  (∀ (k1_t3 : Fin k1_t3_loop.trips) (k1_t6 : Fin (k1_t6_loop v37 v40 v43 k1_t3).trips) (k1_t38 : Fin k1_t38_loop.trips), ∀ (k1_h4 : k1_cond4 v37 v40 v43 k1_t3 k1_t6 = 1#1), ∀ a, (k1_off78 v37 v40 v43 k1_t3 k1_t6 k1_t38) a + S16.size a ≤ S12288.size a) ∧
  (∀ k1_t3 : Fin k1_t3_loop.trips, (k1_t39_loop v37 v40 v43 k1_t3).OK) ∧
  (∀ (k1_t3 : Fin k1_t3_loop.trips) (k1_t39 : Fin (k1_t39_loop v37 v40 v43 k1_t3).trips), ∀ (k1_h6 : k1_cond6 v37 v40 v43 k1_t3 k1_t39 = 1#1), 16 ∣ (k1_mult9 v37 v40 v43 k1_t3 k1_t39).toNat) ∧
  (∀ (k1_t3 : Fin k1_t3_loop.trips) (k1_t39 : Fin (k1_t39_loop v37 v40 v43 k1_t3).trips), ∀ (k1_h6 : k1_cond6 v37 v40 v43 k1_t3 k1_t39 = 1#1), ∀ a, (k1_off79 i v37 v40 v43 k1_t3 k1_t39) a + S16.size a ≤ S32768.size a) ∧
  (∀ (k1_t3 : Fin k1_t3_loop.trips) (k1_t39 : Fin (k1_t39_loop v37 v40 v43 k1_t3).trips), ∀ (k1_h6 : k1_cond6 v37 v40 v43 k1_t3 k1_t39 = 1#1), ∀ a, (k1_off80 i v37 v40 v43 k1_t3 k1_t39) a + S12288.size a ≤ S25165824.size a) ∧
  (∀ (k1_t3 : Fin k1_t3_loop.trips) (k1_t39 : Fin (k1_t39_loop v37 v40 v43 k1_t3).trips), ∀ (k1_h6 : k1_cond6 v37 v40 v43 k1_t3 k1_t39 = 1#1), ∀ (k1_h7 : k1_cond7 v37 v40 v43 k1_t3 k1_t39 = 1#1), 16 ∣ (k1_mult10 v37 v40 v43 k1_t3 k1_t39).toNat) ∧
  (∀ (k1_t3 : Fin k1_t3_loop.trips) (k1_t39 : Fin (k1_t39_loop v37 v40 v43 k1_t3).trips), ∀ (k1_h6 : k1_cond6 v37 v40 v43 k1_t3 k1_t39 = 1#1), ∀ (k1_h7 : k1_cond7 v37 v40 v43 k1_t3 k1_t39 = 1#1), ∀ a, (k1_off81 i v37 v40 v43 k1_t3 k1_t39) a + S16.size a ≤ S32768.size a) ∧
  (∀ (k1_t3 : Fin k1_t3_loop.trips) (k1_t39 : Fin (k1_t39_loop v37 v40 v43 k1_t3).trips), ∀ (k1_h6 : k1_cond6 v37 v40 v43 k1_t3 k1_t39 = 1#1), ∀ (k1_h7 : k1_cond7 v37 v40 v43 k1_t3 k1_t39 = 1#1), ∀ a, (k1_off82 i v37 v40 v43 k1_t3 k1_t39) a + S12288.size a ≤ S25165824.size a) ∧
  (∀ (k1_t3 : Fin k1_t3_loop.trips) (k1_t39 : Fin (k1_t39_loop v37 v40 v43 k1_t3).trips), ∀ (k1_h6 : k1_cond6 v37 v40 v43 k1_t3 k1_t39 = 1#1), 16 ∣ (k1_mult11 v37 v40 v43 k1_t3 k1_t39).toNat) ∧
  (∀ (k1_t3 : Fin k1_t3_loop.trips) (k1_t39 : Fin (k1_t39_loop v37 v40 v43 k1_t3).trips) (k1_t40 : Fin k1_t40_loop.trips), ∀ (k1_h6 : k1_cond6 v37 v40 v43 k1_t3 k1_t39 = 1#1), ∀ a, (k1_off84 v37 v40 v43 k1_t3 k1_t39 k1_t40) a + S16.size a ≤ S12288.size a) ∧
  (∀ (k1_t3 : Fin k1_t3_loop.trips) (k1_t39 : Fin (k1_t39_loop v37 v40 v43 k1_t3).trips) (k1_t41 : Fin k1_t41_loop.trips), ∀ (k1_h6 : k1_cond6 v37 v40 v43 k1_t3 k1_t39 = 1#1), ∀ a, (k1_off86 v37 v40 v43 k1_t3 k1_t39 k1_t41) a + S16.size a ≤ S12288.size a) ∧
  (∀ (k1_t3 : Fin k1_t3_loop.trips) (k1_t39 : Fin (k1_t39_loop v37 v40 v43 k1_t3).trips) (k1_t42 : Fin k1_t42_loop.trips), ∀ (k1_h6 : k1_cond6 v37 v40 v43 k1_t3 k1_t39 = 1#1), ∀ a, (k1_off88 v37 v40 v43 k1_t3 k1_t39 k1_t42) a + S16.size a ≤ S12288.size a) ∧
  (∀ (k1_t3 : Fin k1_t3_loop.trips) (k1_t39 : Fin (k1_t39_loop v37 v40 v43 k1_t3).trips) (k1_t43 : Fin k1_t43_loop.trips), ∀ (k1_h6 : k1_cond6 v37 v40 v43 k1_t3 k1_t39 = 1#1), ∀ a, (k1_off90 v37 v40 v43 k1_t3 k1_t39 k1_t43) a + S16.size a ≤ S12288.size a) ∧
  (∀ (k1_t3 : Fin k1_t3_loop.trips) (k1_t39 : Fin (k1_t39_loop v37 v40 v43 k1_t3).trips) (k1_t44 : Fin k1_t44_loop.trips), ∀ (k1_h6 : k1_cond6 v37 v40 v43 k1_t3 k1_t39 = 1#1), ∀ a, (k1_off92 v37 v40 v43 k1_t3 k1_t39 k1_t44) a + S16.size a ≤ S12288.size a) ∧
  (∀ (k1_t3 : Fin k1_t3_loop.trips) (k1_t39 : Fin (k1_t39_loop v37 v40 v43 k1_t3).trips) (k1_t45 : Fin k1_t45_loop.trips), ∀ (k1_h6 : k1_cond6 v37 v40 v43 k1_t3 k1_t39 = 1#1), ∀ a, (k1_off94 v37 v40 v43 k1_t3 k1_t39 k1_t45) a + S16.size a ≤ S12288.size a)
def k1_chk1_2 (i : grid1.Coords) (v37 : BitVec 32) (v40 : BitVec 32) (v43 : BitVec 32) : Prop :=
  (∀ (k1_t3 : Fin k1_t3_loop.trips) (k1_t39 : Fin (k1_t39_loop v37 v40 v43 k1_t3).trips) (k1_t46 : Fin k1_t46_loop.trips), ∀ (k1_h6 : k1_cond6 v37 v40 v43 k1_t3 k1_t39 = 1#1), ∀ a, (k1_off96 v37 v40 v43 k1_t3 k1_t39 k1_t46) a + S16.size a ≤ S12288.size a) ∧
  (∀ (k1_t3 : Fin k1_t3_loop.trips) (k1_t39 : Fin (k1_t39_loop v37 v40 v43 k1_t3).trips) (k1_t47 : Fin k1_t47_loop.trips), ∀ (k1_h6 : k1_cond6 v37 v40 v43 k1_t3 k1_t39 = 1#1), ∀ a, (k1_off98 v37 v40 v43 k1_t3 k1_t39 k1_t47) a + S16.size a ≤ S12288.size a) ∧
  (∀ (k1_t3 : Fin k1_t3_loop.trips) (k1_t39 : Fin (k1_t39_loop v37 v40 v43 k1_t3).trips) (k1_t48 : Fin k1_t48_loop.trips), ∀ (k1_h6 : k1_cond6 v37 v40 v43 k1_t3 k1_t39 = 1#1), ∀ a, (k1_off100 v37 v40 v43 k1_t3 k1_t39 k1_t48) a + S16.size a ≤ S12288.size a) ∧
  (∀ (k1_t3 : Fin k1_t3_loop.trips) (k1_t39 : Fin (k1_t39_loop v37 v40 v43 k1_t3).trips) (k1_t49 : Fin k1_t49_loop.trips), ∀ (k1_h6 : k1_cond6 v37 v40 v43 k1_t3 k1_t39 = 1#1), ∀ a, (k1_off102 v37 v40 v43 k1_t3 k1_t39 k1_t49) a + S16.size a ≤ S12288.size a) ∧
  (∀ (k1_t3 : Fin k1_t3_loop.trips) (k1_t39 : Fin (k1_t39_loop v37 v40 v43 k1_t3).trips) (k1_t50 : Fin k1_t50_loop.trips), ∀ (k1_h6 : k1_cond6 v37 v40 v43 k1_t3 k1_t39 = 1#1), ∀ a, (k1_off104 v37 v40 v43 k1_t3 k1_t39 k1_t50) a + S16.size a ≤ S12288.size a) ∧
  (∀ (k1_t3 : Fin k1_t3_loop.trips) (k1_t39 : Fin (k1_t39_loop v37 v40 v43 k1_t3).trips) (k1_t51 : Fin k1_t51_loop.trips), ∀ (k1_h6 : k1_cond6 v37 v40 v43 k1_t3 k1_t39 = 1#1), ∀ a, (k1_off106 v37 v40 v43 k1_t3 k1_t39 k1_t51) a + S16.size a ≤ S12288.size a) ∧
  (∀ (k1_t3 : Fin k1_t3_loop.trips) (k1_t39 : Fin (k1_t39_loop v37 v40 v43 k1_t3).trips) (k1_t52 : Fin k1_t52_loop.trips), ∀ (k1_h6 : k1_cond6 v37 v40 v43 k1_t3 k1_t39 = 1#1), ∀ a, (k1_off108 v37 v40 v43 k1_t3 k1_t39 k1_t52) a + S16.size a ≤ S12288.size a) ∧
  (∀ (k1_t3 : Fin k1_t3_loop.trips) (k1_t39 : Fin (k1_t39_loop v37 v40 v43 k1_t3).trips) (k1_t53 : Fin k1_t53_loop.trips), ∀ (k1_h6 : k1_cond6 v37 v40 v43 k1_t3 k1_t39 = 1#1), ∀ a, (k1_off110 v37 v40 v43 k1_t3 k1_t39 k1_t53) a + S16.size a ≤ S12288.size a) ∧
  (∀ (k1_t3 : Fin k1_t3_loop.trips) (k1_t39 : Fin (k1_t39_loop v37 v40 v43 k1_t3).trips) (k1_t54 : Fin k1_t54_loop.trips), ∀ (k1_h6 : k1_cond6 v37 v40 v43 k1_t3 k1_t39 = 1#1), ∀ a, (k1_off112 v37 v40 v43 k1_t3 k1_t39 k1_t54) a + S16.size a ≤ S12288.size a) ∧
  (∀ (k1_t3 : Fin k1_t3_loop.trips) (k1_t39 : Fin (k1_t39_loop v37 v40 v43 k1_t3).trips) (k1_t55 : Fin k1_t55_loop.trips), ∀ (k1_h6 : k1_cond6 v37 v40 v43 k1_t3 k1_t39 = 1#1), ∀ a, (k1_off114 v37 v40 v43 k1_t3 k1_t39 k1_t55) a + S16.size a ≤ S12288.size a) ∧
  (∀ (k1_t3 : Fin k1_t3_loop.trips) (k1_t39 : Fin (k1_t39_loop v37 v40 v43 k1_t3).trips), ∀ (k1_h8 : k1_cond8 v37 v40 v43 k1_t3 k1_t39 = 1#1), 16 ∣ (k1_mult12 v37 v40 v43 k1_t3 k1_t39).toNat) ∧
  (∀ (k1_t3 : Fin k1_t3_loop.trips) (k1_t39 : Fin (k1_t39_loop v37 v40 v43 k1_t3).trips), ∀ (k1_h8 : k1_cond8 v37 v40 v43 k1_t3 k1_t39 = 1#1), ∀ a, (k1_off115 i v37 v40 v43 k1_t3 k1_t39) a + S16.size a ≤ S32768.size a) ∧
  (∀ (k1_t3 : Fin k1_t3_loop.trips) (k1_t39 : Fin (k1_t39_loop v37 v40 v43 k1_t3).trips), ∀ (k1_h8 : k1_cond8 v37 v40 v43 k1_t3 k1_t39 = 1#1), ∀ a, (k1_off116 i v37 v40 v43 k1_t3 k1_t39) a + S12288.size a ≤ S25165824.size a) ∧
  (∀ (k1_t3 : Fin k1_t3_loop.trips) (k1_t39 : Fin (k1_t39_loop v37 v40 v43 k1_t3).trips), ∀ (k1_h8 : k1_cond8 v37 v40 v43 k1_t3 k1_t39 = 1#1), ∀ (k1_h9 : k1_cond9 v37 v40 v43 k1_t3 k1_t39 = 1#1), 16 ∣ (k1_mult13 v37 v40 v43 k1_t3 k1_t39).toNat) ∧
  (∀ (k1_t3 : Fin k1_t3_loop.trips) (k1_t39 : Fin (k1_t39_loop v37 v40 v43 k1_t3).trips), ∀ (k1_h8 : k1_cond8 v37 v40 v43 k1_t3 k1_t39 = 1#1), ∀ (k1_h9 : k1_cond9 v37 v40 v43 k1_t3 k1_t39 = 1#1), ∀ a, (k1_off117 i v37 v40 v43 k1_t3 k1_t39) a + S16.size a ≤ S32768.size a) ∧
  (∀ (k1_t3 : Fin k1_t3_loop.trips) (k1_t39 : Fin (k1_t39_loop v37 v40 v43 k1_t3).trips), ∀ (k1_h8 : k1_cond8 v37 v40 v43 k1_t3 k1_t39 = 1#1), ∀ (k1_h9 : k1_cond9 v37 v40 v43 k1_t3 k1_t39 = 1#1), ∀ a, (k1_off118 i v37 v40 v43 k1_t3 k1_t39) a + S12288.size a ≤ S25165824.size a) ∧
  (∀ (k1_t3 : Fin k1_t3_loop.trips) (k1_t39 : Fin (k1_t39_loop v37 v40 v43 k1_t3).trips), ∀ (k1_h8 : k1_cond8 v37 v40 v43 k1_t3 k1_t39 = 1#1), 16 ∣ (k1_mult14 v37 v40 v43 k1_t3 k1_t39).toNat) ∧
  (∀ (k1_t3 : Fin k1_t3_loop.trips) (k1_t39 : Fin (k1_t39_loop v37 v40 v43 k1_t3).trips) (k1_t56 : Fin k1_t56_loop.trips), ∀ (k1_h8 : k1_cond8 v37 v40 v43 k1_t3 k1_t39 = 1#1), ∀ a, (k1_off120 v37 v40 v43 k1_t3 k1_t39 k1_t56) a + S16.size a ≤ S12288.size a) ∧
  (∀ (k1_t3 : Fin k1_t3_loop.trips) (k1_t39 : Fin (k1_t39_loop v37 v40 v43 k1_t3).trips) (k1_t57 : Fin k1_t57_loop.trips), ∀ (k1_h8 : k1_cond8 v37 v40 v43 k1_t3 k1_t39 = 1#1), ∀ a, (k1_off122 v37 v40 v43 k1_t3 k1_t39 k1_t57) a + S16.size a ≤ S12288.size a) ∧
  (∀ (k1_t3 : Fin k1_t3_loop.trips) (k1_t39 : Fin (k1_t39_loop v37 v40 v43 k1_t3).trips) (k1_t58 : Fin k1_t58_loop.trips), ∀ (k1_h8 : k1_cond8 v37 v40 v43 k1_t3 k1_t39 = 1#1), ∀ a, (k1_off124 v37 v40 v43 k1_t3 k1_t39 k1_t58) a + S16.size a ≤ S12288.size a) ∧
  (∀ (k1_t3 : Fin k1_t3_loop.trips) (k1_t39 : Fin (k1_t39_loop v37 v40 v43 k1_t3).trips) (k1_t59 : Fin k1_t59_loop.trips), ∀ (k1_h8 : k1_cond8 v37 v40 v43 k1_t3 k1_t39 = 1#1), ∀ a, (k1_off126 v37 v40 v43 k1_t3 k1_t39 k1_t59) a + S16.size a ≤ S12288.size a) ∧
  (∀ (k1_t3 : Fin k1_t3_loop.trips) (k1_t39 : Fin (k1_t39_loop v37 v40 v43 k1_t3).trips) (k1_t60 : Fin k1_t60_loop.trips), ∀ (k1_h8 : k1_cond8 v37 v40 v43 k1_t3 k1_t39 = 1#1), ∀ a, (k1_off128 v37 v40 v43 k1_t3 k1_t39 k1_t60) a + S16.size a ≤ S12288.size a) ∧
  (∀ (k1_t3 : Fin k1_t3_loop.trips) (k1_t39 : Fin (k1_t39_loop v37 v40 v43 k1_t3).trips) (k1_t61 : Fin k1_t61_loop.trips), ∀ (k1_h8 : k1_cond8 v37 v40 v43 k1_t3 k1_t39 = 1#1), ∀ a, (k1_off130 v37 v40 v43 k1_t3 k1_t39 k1_t61) a + S16.size a ≤ S12288.size a) ∧
  (∀ (k1_t3 : Fin k1_t3_loop.trips) (k1_t39 : Fin (k1_t39_loop v37 v40 v43 k1_t3).trips) (k1_t62 : Fin k1_t62_loop.trips), ∀ (k1_h8 : k1_cond8 v37 v40 v43 k1_t3 k1_t39 = 1#1), ∀ a, (k1_off132 v37 v40 v43 k1_t3 k1_t39 k1_t62) a + S16.size a ≤ S12288.size a) ∧
  (∀ (k1_t3 : Fin k1_t3_loop.trips) (k1_t39 : Fin (k1_t39_loop v37 v40 v43 k1_t3).trips) (k1_t63 : Fin k1_t63_loop.trips), ∀ (k1_h8 : k1_cond8 v37 v40 v43 k1_t3 k1_t39 = 1#1), ∀ a, (k1_off134 v37 v40 v43 k1_t3 k1_t39 k1_t63) a + S16.size a ≤ S12288.size a) ∧
  (∀ (k1_t3 : Fin k1_t3_loop.trips) (k1_t39 : Fin (k1_t39_loop v37 v40 v43 k1_t3).trips) (k1_t64 : Fin k1_t64_loop.trips), ∀ (k1_h8 : k1_cond8 v37 v40 v43 k1_t3 k1_t39 = 1#1), ∀ a, (k1_off136 v37 v40 v43 k1_t3 k1_t39 k1_t64) a + S16.size a ≤ S12288.size a) ∧
  (∀ (k1_t3 : Fin k1_t3_loop.trips) (k1_t39 : Fin (k1_t39_loop v37 v40 v43 k1_t3).trips) (k1_t65 : Fin k1_t65_loop.trips), ∀ (k1_h8 : k1_cond8 v37 v40 v43 k1_t3 k1_t39 = 1#1), ∀ a, (k1_off138 v37 v40 v43 k1_t3 k1_t39 k1_t65) a + S16.size a ≤ S12288.size a) ∧
  (∀ (k1_t3 : Fin k1_t3_loop.trips) (k1_t39 : Fin (k1_t39_loop v37 v40 v43 k1_t3).trips) (k1_t66 : Fin k1_t66_loop.trips), ∀ (k1_h8 : k1_cond8 v37 v40 v43 k1_t3 k1_t39 = 1#1), ∀ a, (k1_off140 v37 v40 v43 k1_t3 k1_t39 k1_t66) a + S16.size a ≤ S12288.size a) ∧
  (∀ (k1_t3 : Fin k1_t3_loop.trips) (k1_t39 : Fin (k1_t39_loop v37 v40 v43 k1_t3).trips) (k1_t67 : Fin k1_t67_loop.trips), ∀ (k1_h8 : k1_cond8 v37 v40 v43 k1_t3 k1_t39 = 1#1), ∀ a, (k1_off142 v37 v40 v43 k1_t3 k1_t39 k1_t67) a + S16.size a ≤ S12288.size a) ∧
  (∀ (k1_t3 : Fin k1_t3_loop.trips) (k1_t39 : Fin (k1_t39_loop v37 v40 v43 k1_t3).trips) (k1_t68 : Fin k1_t68_loop.trips), ∀ (k1_h8 : k1_cond8 v37 v40 v43 k1_t3 k1_t39 = 1#1), ∀ a, (k1_off144 v37 v40 v43 k1_t3 k1_t39 k1_t68) a + S16.size a ≤ S12288.size a) ∧
  (∀ (k1_t3 : Fin k1_t3_loop.trips) (k1_t39 : Fin (k1_t39_loop v37 v40 v43 k1_t3).trips) (k1_t69 : Fin k1_t69_loop.trips), ∀ (k1_h8 : k1_cond8 v37 v40 v43 k1_t3 k1_t39 = 1#1), ∀ a, (k1_off146 v37 v40 v43 k1_t3 k1_t39 k1_t69) a + S16.size a ≤ S12288.size a) ∧
  (∀ (k1_t3 : Fin k1_t3_loop.trips) (k1_t39 : Fin (k1_t39_loop v37 v40 v43 k1_t3).trips) (k1_t70 : Fin k1_t70_loop.trips), ∀ (k1_h8 : k1_cond8 v37 v40 v43 k1_t3 k1_t39 = 1#1), ∀ a, (k1_off148 v37 v40 v43 k1_t3 k1_t39 k1_t70) a + S16.size a ≤ S12288.size a)
def k1_chk1_3 (i : grid1.Coords) (v37 : BitVec 32) (v40 : BitVec 32) (v43 : BitVec 32) : Prop :=
  (∀ (k1_t3 : Fin k1_t3_loop.trips) (k1_t39 : Fin (k1_t39_loop v37 v40 v43 k1_t3).trips) (k1_t71 : Fin k1_t71_loop.trips), ∀ (k1_h8 : k1_cond8 v37 v40 v43 k1_t3 k1_t39 = 1#1), ∀ a, (k1_off150 v37 v40 v43 k1_t3 k1_t39 k1_t71) a + S16.size a ≤ S12288.size a)
def k1_chk1 (i : grid1.Coords) (v37 : BitVec 32) (v40 : BitVec 32) (v43 : BitVec 32) : Prop :=
  k1_chk1_0 i v37 v40 v43 ∧
  k1_chk1_1 i v37 v40 v43 ∧
  k1_chk1_2 i v37 v40 v43 ∧
  k1_chk1_3 i v37 v40 v43
theorem k1_mult2_dvd : ∀ (i : grid1.Coords) (v37 : BitVec 32) (v40 : BitVec 32) (v43 : BitVec 32) (k1_hw1 : k1_chk1 i v37 v40 v43) (k1_t3 : Fin k1_t3_loop.trips), ∀ (k1_h1 : k1_cond1 v37 v40 v43 k1_t3 = 1#1), 16 ∣ (k1_mult2 v37 v40 k1_t3).toNat := fun i v37 v40 v43 k1_hw1 k1_t3 k1_h1 => k1_hw1.1.1 k1_t3 k1_h1
theorem k1_off5_inb : ∀ (i : grid1.Coords) (v37 : BitVec 32) (v40 : BitVec 32) (v43 : BitVec 32) (k1_hw1 : k1_chk1 i v37 v40 v43) (k1_t3 : Fin k1_t3_loop.trips), ∀ (k1_h1 : k1_cond1 v37 v40 v43 k1_t3 = 1#1), ∀ a, (k1_off5 i v37 v40 k1_t3) a + S16.size a ≤ S32768.size a := fun i v37 v40 v43 k1_hw1 k1_t3 k1_h1 => k1_hw1.1.2.1 k1_t3 k1_h1
theorem k1_off6_inb : ∀ (i : grid1.Coords) (v37 : BitVec 32) (v40 : BitVec 32) (v43 : BitVec 32) (k1_hw1 : k1_chk1 i v37 v40 v43) (k1_t3 : Fin k1_t3_loop.trips), ∀ (k1_h1 : k1_cond1 v37 v40 v43 k1_t3 = 1#1), ∀ a, (k1_off6 i v37 v40 k1_t3) a + S12288.size a ≤ S25165824.size a := fun i v37 v40 v43 k1_hw1 k1_t3 k1_h1 => k1_hw1.1.2.2.1 k1_t3 k1_h1
theorem k1_t6_ok : ∀ (i : grid1.Coords) (v37 : BitVec 32) (v40 : BitVec 32) (v43 : BitVec 32) (k1_hw1 : k1_chk1 i v37 v40 v43) (k1_t3 : Fin k1_t3_loop.trips), (k1_t6_loop v37 v40 v43 k1_t3).OK := fun i v37 v40 v43 k1_hw1 k1_t3 => k1_hw1.1.2.2.2.1 k1_t3
theorem k1_mult3_dvd : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h2 : k1_cond2 v37 v40 v43 k1_t3 k1_t6 = 1#1), 16 ∣ (k1_mult3 v37 v40 v43 k1_t3 k1_t6).toNat := fun i v37 v40 v43 k1_hw1 k1_t3 k1_t6 k1_h2 => k1_hw1.1.2.2.2.2.1 k1_t3 k1_t6 k1_h2
theorem k1_off7_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h2 : k1_cond2 v37 v40 v43 k1_t3 k1_t6 = 1#1), ∀ a, (k1_off7 i v37 v40 v43 k1_t3 k1_t6) a + S16.size a ≤ S32768.size a := fun i v37 v40 v43 k1_hw1 k1_t3 k1_t6 k1_h2 => k1_hw1.1.2.2.2.2.2.1 k1_t3 k1_t6 k1_h2
theorem k1_off8_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h2 : k1_cond2 v37 v40 v43 k1_t3 k1_t6 = 1#1), ∀ a, (k1_off8 i v37 v40 v43 k1_t3 k1_t6) a + S12288.size a ≤ S25165824.size a := fun i v37 v40 v43 k1_hw1 k1_t3 k1_t6 k1_h2 => k1_hw1.1.2.2.2.2.2.2.1 k1_t3 k1_t6 k1_h2
theorem k1_mult4_dvd : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h2 : k1_cond2 v37 v40 v43 k1_t3 k1_t6 = 1#1), ∀ (k1_h3 : k1_cond3 v37 v40 v43 k1_t3 k1_t6 = 1#1), 16 ∣ (k1_mult4 v37 v40 v43 k1_t3 k1_t6).toNat := fun i v37 v40 v43 k1_hw1 k1_t3 k1_t6 k1_h2 k1_h3 => k1_hw1.1.2.2.2.2.2.2.2.1 k1_t3 k1_t6 k1_h2 k1_h3
theorem k1_off9_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h2 : k1_cond2 v37 v40 v43 k1_t3 k1_t6 = 1#1), ∀ (k1_h3 : k1_cond3 v37 v40 v43 k1_t3 k1_t6 = 1#1), ∀ a, (k1_off9 i v37 v40 v43 k1_t3 k1_t6) a + S16.size a ≤ S32768.size a := fun i v37 v40 v43 k1_hw1 k1_t3 k1_t6 k1_h2 k1_h3 => k1_hw1.1.2.2.2.2.2.2.2.2.1 k1_t3 k1_t6 k1_h2 k1_h3
theorem k1_off10_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h2 : k1_cond2 v37 v40 v43 k1_t3 k1_t6 = 1#1), ∀ (k1_h3 : k1_cond3 v37 v40 v43 k1_t3 k1_t6 = 1#1), ∀ a, (k1_off10 i v37 v40 v43 k1_t3 k1_t6) a + S12288.size a ≤ S25165824.size a := fun i v37 v40 v43 k1_hw1 k1_t3 k1_t6 k1_h2 k1_h3 => k1_hw1.1.2.2.2.2.2.2.2.2.2.1 k1_t3 k1_t6 k1_h2 k1_h3
theorem k1_mult5_dvd : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h2 : k1_cond2 v37 v40 v43 k1_t3 k1_t6 = 1#1), 16 ∣ (k1_mult5 v37 v40 v43 k1_t3 k1_t6).toNat := fun i v37 v40 v43 k1_hw1 k1_t3 k1_t6 k1_h2 => k1_hw1.1.2.2.2.2.2.2.2.2.2.2.1 k1_t3 k1_t6 k1_h2
theorem k1_off12_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t7 : Fin k1_t7_loop.trips), ∀ (k1_h2 : k1_cond2 v37 v40 v43 k1_t3 k1_t6 = 1#1), ∀ a, (k1_off12 v37 v40 v43 k1_t3 k1_t6 k1_t7) a + S16.size a ≤ S12288.size a := fun i v37 v40 v43 k1_hw1 k1_t3 k1_t6 k1_t7 k1_h2 => k1_hw1.1.2.2.2.2.2.2.2.2.2.2.2.1 k1_t3 k1_t6 k1_t7 k1_h2
theorem k1_off14_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t8 : Fin k1_t8_loop.trips), ∀ (k1_h2 : k1_cond2 v37 v40 v43 k1_t3 k1_t6 = 1#1), ∀ a, (k1_off14 v37 v40 v43 k1_t3 k1_t6 k1_t8) a + S16.size a ≤ S12288.size a := fun i v37 v40 v43 k1_hw1 k1_t3 k1_t6 k1_t8 k1_h2 => k1_hw1.1.2.2.2.2.2.2.2.2.2.2.2.2.1 k1_t3 k1_t6 k1_t8 k1_h2
theorem k1_off16_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t9 : Fin k1_t9_loop.trips), ∀ (k1_h2 : k1_cond2 v37 v40 v43 k1_t3 k1_t6 = 1#1), ∀ a, (k1_off16 v37 v40 v43 k1_t3 k1_t6 k1_t9) a + S16.size a ≤ S12288.size a := fun i v37 v40 v43 k1_hw1 k1_t3 k1_t6 k1_t9 k1_h2 => k1_hw1.1.2.2.2.2.2.2.2.2.2.2.2.2.2.1 k1_t3 k1_t6 k1_t9 k1_h2
theorem k1_off18_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t10 : Fin k1_t10_loop.trips), ∀ (k1_h2 : k1_cond2 v37 v40 v43 k1_t3 k1_t6 = 1#1), ∀ a, (k1_off18 v37 v40 v43 k1_t3 k1_t6 k1_t10) a + S16.size a ≤ S12288.size a := fun i v37 v40 v43 k1_hw1 k1_t3 k1_t6 k1_t10 k1_h2 => k1_hw1.1.2.2.2.2.2.2.2.2.2.2.2.2.2.2.1 k1_t3 k1_t6 k1_t10 k1_h2
theorem k1_off20_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t11 : Fin k1_t11_loop.trips), ∀ (k1_h2 : k1_cond2 v37 v40 v43 k1_t3 k1_t6 = 1#1), ∀ a, (k1_off20 v37 v40 v43 k1_t3 k1_t6 k1_t11) a + S16.size a ≤ S12288.size a := fun i v37 v40 v43 k1_hw1 k1_t3 k1_t6 k1_t11 k1_h2 => k1_hw1.1.2.2.2.2.2.2.2.2.2.2.2.2.2.2.2.1 k1_t3 k1_t6 k1_t11 k1_h2
theorem k1_off22_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t12 : Fin k1_t12_loop.trips), ∀ (k1_h2 : k1_cond2 v37 v40 v43 k1_t3 k1_t6 = 1#1), ∀ a, (k1_off22 v37 v40 v43 k1_t3 k1_t6 k1_t12) a + S16.size a ≤ S12288.size a := fun i v37 v40 v43 k1_hw1 k1_t3 k1_t6 k1_t12 k1_h2 => k1_hw1.1.2.2.2.2.2.2.2.2.2.2.2.2.2.2.2.2.1 k1_t3 k1_t6 k1_t12 k1_h2
theorem k1_off24_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t13 : Fin k1_t13_loop.trips), ∀ (k1_h2 : k1_cond2 v37 v40 v43 k1_t3 k1_t6 = 1#1), ∀ a, (k1_off24 v37 v40 v43 k1_t3 k1_t6 k1_t13) a + S16.size a ≤ S12288.size a := fun i v37 v40 v43 k1_hw1 k1_t3 k1_t6 k1_t13 k1_h2 => k1_hw1.1.2.2.2.2.2.2.2.2.2.2.2.2.2.2.2.2.2.1 k1_t3 k1_t6 k1_t13 k1_h2
theorem k1_off26_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t14 : Fin k1_t14_loop.trips), ∀ (k1_h2 : k1_cond2 v37 v40 v43 k1_t3 k1_t6 = 1#1), ∀ a, (k1_off26 v37 v40 v43 k1_t3 k1_t6 k1_t14) a + S16.size a ≤ S12288.size a := fun i v37 v40 v43 k1_hw1 k1_t3 k1_t6 k1_t14 k1_h2 => k1_hw1.1.2.2.2.2.2.2.2.2.2.2.2.2.2.2.2.2.2.2.1 k1_t3 k1_t6 k1_t14 k1_h2
theorem k1_off28_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t15 : Fin k1_t15_loop.trips), ∀ (k1_h2 : k1_cond2 v37 v40 v43 k1_t3 k1_t6 = 1#1), ∀ a, (k1_off28 v37 v40 v43 k1_t3 k1_t6 k1_t15) a + S16.size a ≤ S12288.size a := fun i v37 v40 v43 k1_hw1 k1_t3 k1_t6 k1_t15 k1_h2 => k1_hw1.1.2.2.2.2.2.2.2.2.2.2.2.2.2.2.2.2.2.2.2.1 k1_t3 k1_t6 k1_t15 k1_h2
theorem k1_off30_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t16 : Fin k1_t16_loop.trips), ∀ (k1_h2 : k1_cond2 v37 v40 v43 k1_t3 k1_t6 = 1#1), ∀ a, (k1_off30 v37 v40 v43 k1_t3 k1_t6 k1_t16) a + S16.size a ≤ S12288.size a := fun i v37 v40 v43 k1_hw1 k1_t3 k1_t6 k1_t16 k1_h2 => k1_hw1.1.2.2.2.2.2.2.2.2.2.2.2.2.2.2.2.2.2.2.2.2.1 k1_t3 k1_t6 k1_t16 k1_h2
theorem k1_off32_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t17 : Fin k1_t17_loop.trips), ∀ (k1_h2 : k1_cond2 v37 v40 v43 k1_t3 k1_t6 = 1#1), ∀ a, (k1_off32 v37 v40 v43 k1_t3 k1_t6 k1_t17) a + S16.size a ≤ S12288.size a := fun i v37 v40 v43 k1_hw1 k1_t3 k1_t6 k1_t17 k1_h2 => k1_hw1.1.2.2.2.2.2.2.2.2.2.2.2.2.2.2.2.2.2.2.2.2.2.1 k1_t3 k1_t6 k1_t17 k1_h2
theorem k1_off34_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t18 : Fin k1_t18_loop.trips), ∀ (k1_h2 : k1_cond2 v37 v40 v43 k1_t3 k1_t6 = 1#1), ∀ a, (k1_off34 v37 v40 v43 k1_t3 k1_t6 k1_t18) a + S16.size a ≤ S12288.size a := fun i v37 v40 v43 k1_hw1 k1_t3 k1_t6 k1_t18 k1_h2 => k1_hw1.1.2.2.2.2.2.2.2.2.2.2.2.2.2.2.2.2.2.2.2.2.2.2.1 k1_t3 k1_t6 k1_t18 k1_h2
theorem k1_off36_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t19 : Fin k1_t19_loop.trips), ∀ (k1_h2 : k1_cond2 v37 v40 v43 k1_t3 k1_t6 = 1#1), ∀ a, (k1_off36 v37 v40 v43 k1_t3 k1_t6 k1_t19) a + S16.size a ≤ S12288.size a := fun i v37 v40 v43 k1_hw1 k1_t3 k1_t6 k1_t19 k1_h2 => k1_hw1.1.2.2.2.2.2.2.2.2.2.2.2.2.2.2.2.2.2.2.2.2.2.2.2.1 k1_t3 k1_t6 k1_t19 k1_h2
theorem k1_off38_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t20 : Fin k1_t20_loop.trips), ∀ (k1_h2 : k1_cond2 v37 v40 v43 k1_t3 k1_t6 = 1#1), ∀ a, (k1_off38 v37 v40 v43 k1_t3 k1_t6 k1_t20) a + S16.size a ≤ S12288.size a := fun i v37 v40 v43 k1_hw1 k1_t3 k1_t6 k1_t20 k1_h2 => k1_hw1.1.2.2.2.2.2.2.2.2.2.2.2.2.2.2.2.2.2.2.2.2.2.2.2.2.1 k1_t3 k1_t6 k1_t20 k1_h2
theorem k1_off40_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t21 : Fin k1_t21_loop.trips), ∀ (k1_h2 : k1_cond2 v37 v40 v43 k1_t3 k1_t6 = 1#1), ∀ a, (k1_off40 v37 v40 v43 k1_t3 k1_t6 k1_t21) a + S16.size a ≤ S12288.size a := fun i v37 v40 v43 k1_hw1 k1_t3 k1_t6 k1_t21 k1_h2 => k1_hw1.1.2.2.2.2.2.2.2.2.2.2.2.2.2.2.2.2.2.2.2.2.2.2.2.2.2.1 k1_t3 k1_t6 k1_t21 k1_h2
theorem k1_off42_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t22 : Fin k1_t22_loop.trips), ∀ (k1_h2 : k1_cond2 v37 v40 v43 k1_t3 k1_t6 = 1#1), ∀ a, (k1_off42 v37 v40 v43 k1_t3 k1_t6 k1_t22) a + S16.size a ≤ S12288.size a := fun i v37 v40 v43 k1_hw1 k1_t3 k1_t6 k1_t22 k1_h2 => k1_hw1.1.2.2.2.2.2.2.2.2.2.2.2.2.2.2.2.2.2.2.2.2.2.2.2.2.2.2.1 k1_t3 k1_t6 k1_t22 k1_h2
theorem k1_mult6_dvd : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h4 : k1_cond4 v37 v40 v43 k1_t3 k1_t6 = 1#1), 16 ∣ (k1_mult6 v37 v40 v43 k1_t3 k1_t6).toNat := fun i v37 v40 v43 k1_hw1 k1_t3 k1_t6 k1_h4 => k1_hw1.1.2.2.2.2.2.2.2.2.2.2.2.2.2.2.2.2.2.2.2.2.2.2.2.2.2.2.2.1 k1_t3 k1_t6 k1_h4
theorem k1_off43_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h4 : k1_cond4 v37 v40 v43 k1_t3 k1_t6 = 1#1), ∀ a, (k1_off43 i v37 v40 v43 k1_t3 k1_t6) a + S16.size a ≤ S32768.size a := fun i v37 v40 v43 k1_hw1 k1_t3 k1_t6 k1_h4 => k1_hw1.1.2.2.2.2.2.2.2.2.2.2.2.2.2.2.2.2.2.2.2.2.2.2.2.2.2.2.2.2.1 k1_t3 k1_t6 k1_h4
theorem k1_off44_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h4 : k1_cond4 v37 v40 v43 k1_t3 k1_t6 = 1#1), ∀ a, (k1_off44 i v37 v40 v43 k1_t3 k1_t6) a + S12288.size a ≤ S25165824.size a := fun i v37 v40 v43 k1_hw1 k1_t3 k1_t6 k1_h4 => k1_hw1.1.2.2.2.2.2.2.2.2.2.2.2.2.2.2.2.2.2.2.2.2.2.2.2.2.2.2.2.2.2.1 k1_t3 k1_t6 k1_h4
theorem k1_mult7_dvd : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h4 : k1_cond4 v37 v40 v43 k1_t3 k1_t6 = 1#1), ∀ (k1_h5 : k1_cond5 v37 v40 v43 k1_t3 k1_t6 = 1#1), 16 ∣ (k1_mult7 v37 v40 v43 k1_t3 k1_t6).toNat := fun i v37 v40 v43 k1_hw1 k1_t3 k1_t6 k1_h4 k1_h5 => k1_hw1.1.2.2.2.2.2.2.2.2.2.2.2.2.2.2.2.2.2.2.2.2.2.2.2.2.2.2.2.2.2.2.1 k1_t3 k1_t6 k1_h4 k1_h5
theorem k1_off45_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h4 : k1_cond4 v37 v40 v43 k1_t3 k1_t6 = 1#1), ∀ (k1_h5 : k1_cond5 v37 v40 v43 k1_t3 k1_t6 = 1#1), ∀ a, (k1_off45 i v37 v40 v43 k1_t3 k1_t6) a + S16.size a ≤ S32768.size a := fun i v37 v40 v43 k1_hw1 k1_t3 k1_t6 k1_h4 k1_h5 => k1_hw1.1.2.2.2.2.2.2.2.2.2.2.2.2.2.2.2.2.2.2.2.2.2.2.2.2.2.2.2.2.2.2.2 k1_t3 k1_t6 k1_h4 k1_h5
theorem k1_off46_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h4 : k1_cond4 v37 v40 v43 k1_t3 k1_t6 = 1#1), ∀ (k1_h5 : k1_cond5 v37 v40 v43 k1_t3 k1_t6 = 1#1), ∀ a, (k1_off46 i v37 v40 v43 k1_t3 k1_t6) a + S12288.size a ≤ S25165824.size a := fun i v37 v40 v43 k1_hw1 k1_t3 k1_t6 k1_h4 k1_h5 => k1_hw1.2.1.1 k1_t3 k1_t6 k1_h4 k1_h5
theorem k1_mult8_dvd : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips), ∀ (k1_h4 : k1_cond4 v37 v40 v43 k1_t3 k1_t6 = 1#1), 16 ∣ (k1_mult8 v37 v40 v43 k1_t3 k1_t6).toNat := fun i v37 v40 v43 k1_hw1 k1_t3 k1_t6 k1_h4 => k1_hw1.2.1.2.1 k1_t3 k1_t6 k1_h4
theorem k1_off48_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t23 : Fin k1_t23_loop.trips), ∀ (k1_h4 : k1_cond4 v37 v40 v43 k1_t3 k1_t6 = 1#1), ∀ a, (k1_off48 v37 v40 v43 k1_t3 k1_t6 k1_t23) a + S16.size a ≤ S12288.size a := fun i v37 v40 v43 k1_hw1 k1_t3 k1_t6 k1_t23 k1_h4 => k1_hw1.2.1.2.2.1 k1_t3 k1_t6 k1_t23 k1_h4
theorem k1_off50_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t24 : Fin k1_t24_loop.trips), ∀ (k1_h4 : k1_cond4 v37 v40 v43 k1_t3 k1_t6 = 1#1), ∀ a, (k1_off50 v37 v40 v43 k1_t3 k1_t6 k1_t24) a + S16.size a ≤ S12288.size a := fun i v37 v40 v43 k1_hw1 k1_t3 k1_t6 k1_t24 k1_h4 => k1_hw1.2.1.2.2.2.1 k1_t3 k1_t6 k1_t24 k1_h4
theorem k1_off52_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t25 : Fin k1_t25_loop.trips), ∀ (k1_h4 : k1_cond4 v37 v40 v43 k1_t3 k1_t6 = 1#1), ∀ a, (k1_off52 v37 v40 v43 k1_t3 k1_t6 k1_t25) a + S16.size a ≤ S12288.size a := fun i v37 v40 v43 k1_hw1 k1_t3 k1_t6 k1_t25 k1_h4 => k1_hw1.2.1.2.2.2.2.1 k1_t3 k1_t6 k1_t25 k1_h4
theorem k1_off54_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t26 : Fin k1_t26_loop.trips), ∀ (k1_h4 : k1_cond4 v37 v40 v43 k1_t3 k1_t6 = 1#1), ∀ a, (k1_off54 v37 v40 v43 k1_t3 k1_t6 k1_t26) a + S16.size a ≤ S12288.size a := fun i v37 v40 v43 k1_hw1 k1_t3 k1_t6 k1_t26 k1_h4 => k1_hw1.2.1.2.2.2.2.2.1 k1_t3 k1_t6 k1_t26 k1_h4
theorem k1_off56_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t27 : Fin k1_t27_loop.trips), ∀ (k1_h4 : k1_cond4 v37 v40 v43 k1_t3 k1_t6 = 1#1), ∀ a, (k1_off56 v37 v40 v43 k1_t3 k1_t6 k1_t27) a + S16.size a ≤ S12288.size a := fun i v37 v40 v43 k1_hw1 k1_t3 k1_t6 k1_t27 k1_h4 => k1_hw1.2.1.2.2.2.2.2.2.1 k1_t3 k1_t6 k1_t27 k1_h4
theorem k1_off58_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t28 : Fin k1_t28_loop.trips), ∀ (k1_h4 : k1_cond4 v37 v40 v43 k1_t3 k1_t6 = 1#1), ∀ a, (k1_off58 v37 v40 v43 k1_t3 k1_t6 k1_t28) a + S16.size a ≤ S12288.size a := fun i v37 v40 v43 k1_hw1 k1_t3 k1_t6 k1_t28 k1_h4 => k1_hw1.2.1.2.2.2.2.2.2.2.1 k1_t3 k1_t6 k1_t28 k1_h4
theorem k1_off60_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t29 : Fin k1_t29_loop.trips), ∀ (k1_h4 : k1_cond4 v37 v40 v43 k1_t3 k1_t6 = 1#1), ∀ a, (k1_off60 v37 v40 v43 k1_t3 k1_t6 k1_t29) a + S16.size a ≤ S12288.size a := fun i v37 v40 v43 k1_hw1 k1_t3 k1_t6 k1_t29 k1_h4 => k1_hw1.2.1.2.2.2.2.2.2.2.2.1 k1_t3 k1_t6 k1_t29 k1_h4
theorem k1_off62_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t30 : Fin k1_t30_loop.trips), ∀ (k1_h4 : k1_cond4 v37 v40 v43 k1_t3 k1_t6 = 1#1), ∀ a, (k1_off62 v37 v40 v43 k1_t3 k1_t6 k1_t30) a + S16.size a ≤ S12288.size a := fun i v37 v40 v43 k1_hw1 k1_t3 k1_t6 k1_t30 k1_h4 => k1_hw1.2.1.2.2.2.2.2.2.2.2.2.1 k1_t3 k1_t6 k1_t30 k1_h4
theorem k1_off64_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t31 : Fin k1_t31_loop.trips), ∀ (k1_h4 : k1_cond4 v37 v40 v43 k1_t3 k1_t6 = 1#1), ∀ a, (k1_off64 v37 v40 v43 k1_t3 k1_t6 k1_t31) a + S16.size a ≤ S12288.size a := fun i v37 v40 v43 k1_hw1 k1_t3 k1_t6 k1_t31 k1_h4 => k1_hw1.2.1.2.2.2.2.2.2.2.2.2.2.1 k1_t3 k1_t6 k1_t31 k1_h4
theorem k1_off66_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t32 : Fin k1_t32_loop.trips), ∀ (k1_h4 : k1_cond4 v37 v40 v43 k1_t3 k1_t6 = 1#1), ∀ a, (k1_off66 v37 v40 v43 k1_t3 k1_t6 k1_t32) a + S16.size a ≤ S12288.size a := fun i v37 v40 v43 k1_hw1 k1_t3 k1_t6 k1_t32 k1_h4 => k1_hw1.2.1.2.2.2.2.2.2.2.2.2.2.2.1 k1_t3 k1_t6 k1_t32 k1_h4
theorem k1_off68_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t33 : Fin k1_t33_loop.trips), ∀ (k1_h4 : k1_cond4 v37 v40 v43 k1_t3 k1_t6 = 1#1), ∀ a, (k1_off68 v37 v40 v43 k1_t3 k1_t6 k1_t33) a + S16.size a ≤ S12288.size a := fun i v37 v40 v43 k1_hw1 k1_t3 k1_t6 k1_t33 k1_h4 => k1_hw1.2.1.2.2.2.2.2.2.2.2.2.2.2.2.1 k1_t3 k1_t6 k1_t33 k1_h4
theorem k1_off70_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t34 : Fin k1_t34_loop.trips), ∀ (k1_h4 : k1_cond4 v37 v40 v43 k1_t3 k1_t6 = 1#1), ∀ a, (k1_off70 v37 v40 v43 k1_t3 k1_t6 k1_t34) a + S16.size a ≤ S12288.size a := fun i v37 v40 v43 k1_hw1 k1_t3 k1_t6 k1_t34 k1_h4 => k1_hw1.2.1.2.2.2.2.2.2.2.2.2.2.2.2.2.1 k1_t3 k1_t6 k1_t34 k1_h4
theorem k1_off72_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t35 : Fin k1_t35_loop.trips), ∀ (k1_h4 : k1_cond4 v37 v40 v43 k1_t3 k1_t6 = 1#1), ∀ a, (k1_off72 v37 v40 v43 k1_t3 k1_t6 k1_t35) a + S16.size a ≤ S12288.size a := fun i v37 v40 v43 k1_hw1 k1_t3 k1_t6 k1_t35 k1_h4 => k1_hw1.2.1.2.2.2.2.2.2.2.2.2.2.2.2.2.2.1 k1_t3 k1_t6 k1_t35 k1_h4
theorem k1_off74_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t36 : Fin k1_t36_loop.trips), ∀ (k1_h4 : k1_cond4 v37 v40 v43 k1_t3 k1_t6 = 1#1), ∀ a, (k1_off74 v37 v40 v43 k1_t3 k1_t6 k1_t36) a + S16.size a ≤ S12288.size a := fun i v37 v40 v43 k1_hw1 k1_t3 k1_t6 k1_t36 k1_h4 => k1_hw1.2.1.2.2.2.2.2.2.2.2.2.2.2.2.2.2.2.1 k1_t3 k1_t6 k1_t36 k1_h4
theorem k1_off76_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t37 : Fin k1_t37_loop.trips), ∀ (k1_h4 : k1_cond4 v37 v40 v43 k1_t3 k1_t6 = 1#1), ∀ a, (k1_off76 v37 v40 v43 k1_t3 k1_t6 k1_t37) a + S16.size a ≤ S12288.size a := fun i v37 v40 v43 k1_hw1 k1_t3 k1_t6 k1_t37 k1_h4 => k1_hw1.2.1.2.2.2.2.2.2.2.2.2.2.2.2.2.2.2.2.1 k1_t3 k1_t6 k1_t37 k1_h4
theorem k1_off78_inb : ∀ (i : grid1.Coords) (v37 : BitVec 32) (v40 : BitVec 32) (v43 : BitVec 32) (k1_hw1 : k1_chk1 i v37 v40 v43) (k1_t3 : Fin k1_t3_loop.trips) (k1_t6 : Fin (k1_t6_loop v37 v40 v43 k1_t3).trips) (k1_t38 : Fin k1_t38_loop.trips), ∀ (k1_h4 : k1_cond4 v37 v40 v43 k1_t3 k1_t6 = 1#1), ∀ a, (k1_off78 v37 v40 v43 k1_t3 k1_t6 k1_t38) a + S16.size a ≤ S12288.size a := fun i v37 v40 v43 k1_hw1 k1_t3 k1_t6 k1_t38 k1_h4 => k1_hw1.2.1.2.2.2.2.2.2.2.2.2.2.2.2.2.2.2.2.2.1 k1_t3 k1_t6 k1_t38 k1_h4
theorem k1_t39_ok : ∀ (i : grid1.Coords) (v37 : BitVec 32) (v40 : BitVec 32) (v43 : BitVec 32) (k1_hw1 : k1_chk1 i v37 v40 v43) (k1_t3 : Fin k1_t3_loop.trips), (k1_t39_loop v37 v40 v43 k1_t3).OK := fun i v37 v40 v43 k1_hw1 k1_t3 => k1_hw1.2.1.2.2.2.2.2.2.2.2.2.2.2.2.2.2.2.2.2.2.1 k1_t3
theorem k1_mult9_dvd : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h6 : k1_cond6 v37 v40 v43 k1_t3 k1_t39 = 1#1), 16 ∣ (k1_mult9 v37 v40 v43 k1_t3 k1_t39).toNat := fun i v37 v40 v43 k1_hw1 k1_t3 k1_t39 k1_h6 => k1_hw1.2.1.2.2.2.2.2.2.2.2.2.2.2.2.2.2.2.2.2.2.2.1 k1_t3 k1_t39 k1_h6
theorem k1_off79_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h6 : k1_cond6 v37 v40 v43 k1_t3 k1_t39 = 1#1), ∀ a, (k1_off79 i v37 v40 v43 k1_t3 k1_t39) a + S16.size a ≤ S32768.size a := fun i v37 v40 v43 k1_hw1 k1_t3 k1_t39 k1_h6 => k1_hw1.2.1.2.2.2.2.2.2.2.2.2.2.2.2.2.2.2.2.2.2.2.2.1 k1_t3 k1_t39 k1_h6
theorem k1_off80_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h6 : k1_cond6 v37 v40 v43 k1_t3 k1_t39 = 1#1), ∀ a, (k1_off80 i v37 v40 v43 k1_t3 k1_t39) a + S12288.size a ≤ S25165824.size a := fun i v37 v40 v43 k1_hw1 k1_t3 k1_t39 k1_h6 => k1_hw1.2.1.2.2.2.2.2.2.2.2.2.2.2.2.2.2.2.2.2.2.2.2.2.1 k1_t3 k1_t39 k1_h6
theorem k1_mult10_dvd : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h6 : k1_cond6 v37 v40 v43 k1_t3 k1_t39 = 1#1), ∀ (k1_h7 : k1_cond7 v37 v40 v43 k1_t3 k1_t39 = 1#1), 16 ∣ (k1_mult10 v37 v40 v43 k1_t3 k1_t39).toNat := fun i v37 v40 v43 k1_hw1 k1_t3 k1_t39 k1_h6 k1_h7 => k1_hw1.2.1.2.2.2.2.2.2.2.2.2.2.2.2.2.2.2.2.2.2.2.2.2.2.1 k1_t3 k1_t39 k1_h6 k1_h7
theorem k1_off81_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h6 : k1_cond6 v37 v40 v43 k1_t3 k1_t39 = 1#1), ∀ (k1_h7 : k1_cond7 v37 v40 v43 k1_t3 k1_t39 = 1#1), ∀ a, (k1_off81 i v37 v40 v43 k1_t3 k1_t39) a + S16.size a ≤ S32768.size a := fun i v37 v40 v43 k1_hw1 k1_t3 k1_t39 k1_h6 k1_h7 => k1_hw1.2.1.2.2.2.2.2.2.2.2.2.2.2.2.2.2.2.2.2.2.2.2.2.2.2.1 k1_t3 k1_t39 k1_h6 k1_h7
theorem k1_off82_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h6 : k1_cond6 v37 v40 v43 k1_t3 k1_t39 = 1#1), ∀ (k1_h7 : k1_cond7 v37 v40 v43 k1_t3 k1_t39 = 1#1), ∀ a, (k1_off82 i v37 v40 v43 k1_t3 k1_t39) a + S12288.size a ≤ S25165824.size a := fun i v37 v40 v43 k1_hw1 k1_t3 k1_t39 k1_h6 k1_h7 => k1_hw1.2.1.2.2.2.2.2.2.2.2.2.2.2.2.2.2.2.2.2.2.2.2.2.2.2.2.1 k1_t3 k1_t39 k1_h6 k1_h7
theorem k1_mult11_dvd : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h6 : k1_cond6 v37 v40 v43 k1_t3 k1_t39 = 1#1), 16 ∣ (k1_mult11 v37 v40 v43 k1_t3 k1_t39).toNat := fun i v37 v40 v43 k1_hw1 k1_t3 k1_t39 k1_h6 => k1_hw1.2.1.2.2.2.2.2.2.2.2.2.2.2.2.2.2.2.2.2.2.2.2.2.2.2.2.2.1 k1_t3 k1_t39 k1_h6
theorem k1_off84_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t40 : Fin k1_t40_loop.trips), ∀ (k1_h6 : k1_cond6 v37 v40 v43 k1_t3 k1_t39 = 1#1), ∀ a, (k1_off84 v37 v40 v43 k1_t3 k1_t39 k1_t40) a + S16.size a ≤ S12288.size a := fun i v37 v40 v43 k1_hw1 k1_t3 k1_t39 k1_t40 k1_h6 => k1_hw1.2.1.2.2.2.2.2.2.2.2.2.2.2.2.2.2.2.2.2.2.2.2.2.2.2.2.2.2.1 k1_t3 k1_t39 k1_t40 k1_h6
theorem k1_off86_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t41 : Fin k1_t41_loop.trips), ∀ (k1_h6 : k1_cond6 v37 v40 v43 k1_t3 k1_t39 = 1#1), ∀ a, (k1_off86 v37 v40 v43 k1_t3 k1_t39 k1_t41) a + S16.size a ≤ S12288.size a := fun i v37 v40 v43 k1_hw1 k1_t3 k1_t39 k1_t41 k1_h6 => k1_hw1.2.1.2.2.2.2.2.2.2.2.2.2.2.2.2.2.2.2.2.2.2.2.2.2.2.2.2.2.2.1 k1_t3 k1_t39 k1_t41 k1_h6
theorem k1_off88_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t42 : Fin k1_t42_loop.trips), ∀ (k1_h6 : k1_cond6 v37 v40 v43 k1_t3 k1_t39 = 1#1), ∀ a, (k1_off88 v37 v40 v43 k1_t3 k1_t39 k1_t42) a + S16.size a ≤ S12288.size a := fun i v37 v40 v43 k1_hw1 k1_t3 k1_t39 k1_t42 k1_h6 => k1_hw1.2.1.2.2.2.2.2.2.2.2.2.2.2.2.2.2.2.2.2.2.2.2.2.2.2.2.2.2.2.2.1 k1_t3 k1_t39 k1_t42 k1_h6
theorem k1_off90_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t43 : Fin k1_t43_loop.trips), ∀ (k1_h6 : k1_cond6 v37 v40 v43 k1_t3 k1_t39 = 1#1), ∀ a, (k1_off90 v37 v40 v43 k1_t3 k1_t39 k1_t43) a + S16.size a ≤ S12288.size a := fun i v37 v40 v43 k1_hw1 k1_t3 k1_t39 k1_t43 k1_h6 => k1_hw1.2.1.2.2.2.2.2.2.2.2.2.2.2.2.2.2.2.2.2.2.2.2.2.2.2.2.2.2.2.2.2.1 k1_t3 k1_t39 k1_t43 k1_h6
theorem k1_off92_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t44 : Fin k1_t44_loop.trips), ∀ (k1_h6 : k1_cond6 v37 v40 v43 k1_t3 k1_t39 = 1#1), ∀ a, (k1_off92 v37 v40 v43 k1_t3 k1_t39 k1_t44) a + S16.size a ≤ S12288.size a := fun i v37 v40 v43 k1_hw1 k1_t3 k1_t39 k1_t44 k1_h6 => k1_hw1.2.1.2.2.2.2.2.2.2.2.2.2.2.2.2.2.2.2.2.2.2.2.2.2.2.2.2.2.2.2.2.2.1 k1_t3 k1_t39 k1_t44 k1_h6
theorem k1_off94_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t45 : Fin k1_t45_loop.trips), ∀ (k1_h6 : k1_cond6 v37 v40 v43 k1_t3 k1_t39 = 1#1), ∀ a, (k1_off94 v37 v40 v43 k1_t3 k1_t39 k1_t45) a + S16.size a ≤ S12288.size a := fun i v37 v40 v43 k1_hw1 k1_t3 k1_t39 k1_t45 k1_h6 => k1_hw1.2.1.2.2.2.2.2.2.2.2.2.2.2.2.2.2.2.2.2.2.2.2.2.2.2.2.2.2.2.2.2.2.2 k1_t3 k1_t39 k1_t45 k1_h6
theorem k1_off96_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t46 : Fin k1_t46_loop.trips), ∀ (k1_h6 : k1_cond6 v37 v40 v43 k1_t3 k1_t39 = 1#1), ∀ a, (k1_off96 v37 v40 v43 k1_t3 k1_t39 k1_t46) a + S16.size a ≤ S12288.size a := fun i v37 v40 v43 k1_hw1 k1_t3 k1_t39 k1_t46 k1_h6 => k1_hw1.2.2.1.1 k1_t3 k1_t39 k1_t46 k1_h6
theorem k1_off98_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t47 : Fin k1_t47_loop.trips), ∀ (k1_h6 : k1_cond6 v37 v40 v43 k1_t3 k1_t39 = 1#1), ∀ a, (k1_off98 v37 v40 v43 k1_t3 k1_t39 k1_t47) a + S16.size a ≤ S12288.size a := fun i v37 v40 v43 k1_hw1 k1_t3 k1_t39 k1_t47 k1_h6 => k1_hw1.2.2.1.2.1 k1_t3 k1_t39 k1_t47 k1_h6
theorem k1_off100_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t48 : Fin k1_t48_loop.trips), ∀ (k1_h6 : k1_cond6 v37 v40 v43 k1_t3 k1_t39 = 1#1), ∀ a, (k1_off100 v37 v40 v43 k1_t3 k1_t39 k1_t48) a + S16.size a ≤ S12288.size a := fun i v37 v40 v43 k1_hw1 k1_t3 k1_t39 k1_t48 k1_h6 => k1_hw1.2.2.1.2.2.1 k1_t3 k1_t39 k1_t48 k1_h6
theorem k1_off102_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t49 : Fin k1_t49_loop.trips), ∀ (k1_h6 : k1_cond6 v37 v40 v43 k1_t3 k1_t39 = 1#1), ∀ a, (k1_off102 v37 v40 v43 k1_t3 k1_t39 k1_t49) a + S16.size a ≤ S12288.size a := fun i v37 v40 v43 k1_hw1 k1_t3 k1_t39 k1_t49 k1_h6 => k1_hw1.2.2.1.2.2.2.1 k1_t3 k1_t39 k1_t49 k1_h6
theorem k1_off104_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t50 : Fin k1_t50_loop.trips), ∀ (k1_h6 : k1_cond6 v37 v40 v43 k1_t3 k1_t39 = 1#1), ∀ a, (k1_off104 v37 v40 v43 k1_t3 k1_t39 k1_t50) a + S16.size a ≤ S12288.size a := fun i v37 v40 v43 k1_hw1 k1_t3 k1_t39 k1_t50 k1_h6 => k1_hw1.2.2.1.2.2.2.2.1 k1_t3 k1_t39 k1_t50 k1_h6
theorem k1_off106_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t51 : Fin k1_t51_loop.trips), ∀ (k1_h6 : k1_cond6 v37 v40 v43 k1_t3 k1_t39 = 1#1), ∀ a, (k1_off106 v37 v40 v43 k1_t3 k1_t39 k1_t51) a + S16.size a ≤ S12288.size a := fun i v37 v40 v43 k1_hw1 k1_t3 k1_t39 k1_t51 k1_h6 => k1_hw1.2.2.1.2.2.2.2.2.1 k1_t3 k1_t39 k1_t51 k1_h6
theorem k1_off108_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t52 : Fin k1_t52_loop.trips), ∀ (k1_h6 : k1_cond6 v37 v40 v43 k1_t3 k1_t39 = 1#1), ∀ a, (k1_off108 v37 v40 v43 k1_t3 k1_t39 k1_t52) a + S16.size a ≤ S12288.size a := fun i v37 v40 v43 k1_hw1 k1_t3 k1_t39 k1_t52 k1_h6 => k1_hw1.2.2.1.2.2.2.2.2.2.1 k1_t3 k1_t39 k1_t52 k1_h6
theorem k1_off110_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t53 : Fin k1_t53_loop.trips), ∀ (k1_h6 : k1_cond6 v37 v40 v43 k1_t3 k1_t39 = 1#1), ∀ a, (k1_off110 v37 v40 v43 k1_t3 k1_t39 k1_t53) a + S16.size a ≤ S12288.size a := fun i v37 v40 v43 k1_hw1 k1_t3 k1_t39 k1_t53 k1_h6 => k1_hw1.2.2.1.2.2.2.2.2.2.2.1 k1_t3 k1_t39 k1_t53 k1_h6
theorem k1_off112_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t54 : Fin k1_t54_loop.trips), ∀ (k1_h6 : k1_cond6 v37 v40 v43 k1_t3 k1_t39 = 1#1), ∀ a, (k1_off112 v37 v40 v43 k1_t3 k1_t39 k1_t54) a + S16.size a ≤ S12288.size a := fun i v37 v40 v43 k1_hw1 k1_t3 k1_t39 k1_t54 k1_h6 => k1_hw1.2.2.1.2.2.2.2.2.2.2.2.1 k1_t3 k1_t39 k1_t54 k1_h6
theorem k1_off114_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t55 : Fin k1_t55_loop.trips), ∀ (k1_h6 : k1_cond6 v37 v40 v43 k1_t3 k1_t39 = 1#1), ∀ a, (k1_off114 v37 v40 v43 k1_t3 k1_t39 k1_t55) a + S16.size a ≤ S12288.size a := fun i v37 v40 v43 k1_hw1 k1_t3 k1_t39 k1_t55 k1_h6 => k1_hw1.2.2.1.2.2.2.2.2.2.2.2.2.1 k1_t3 k1_t39 k1_t55 k1_h6
theorem k1_mult12_dvd : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h8 : k1_cond8 v37 v40 v43 k1_t3 k1_t39 = 1#1), 16 ∣ (k1_mult12 v37 v40 v43 k1_t3 k1_t39).toNat := fun i v37 v40 v43 k1_hw1 k1_t3 k1_t39 k1_h8 => k1_hw1.2.2.1.2.2.2.2.2.2.2.2.2.2.1 k1_t3 k1_t39 k1_h8
theorem k1_off115_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h8 : k1_cond8 v37 v40 v43 k1_t3 k1_t39 = 1#1), ∀ a, (k1_off115 i v37 v40 v43 k1_t3 k1_t39) a + S16.size a ≤ S32768.size a := fun i v37 v40 v43 k1_hw1 k1_t3 k1_t39 k1_h8 => k1_hw1.2.2.1.2.2.2.2.2.2.2.2.2.2.2.1 k1_t3 k1_t39 k1_h8
theorem k1_off116_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h8 : k1_cond8 v37 v40 v43 k1_t3 k1_t39 = 1#1), ∀ a, (k1_off116 i v37 v40 v43 k1_t3 k1_t39) a + S12288.size a ≤ S25165824.size a := fun i v37 v40 v43 k1_hw1 k1_t3 k1_t39 k1_h8 => k1_hw1.2.2.1.2.2.2.2.2.2.2.2.2.2.2.2.1 k1_t3 k1_t39 k1_h8
theorem k1_mult13_dvd : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h8 : k1_cond8 v37 v40 v43 k1_t3 k1_t39 = 1#1), ∀ (k1_h9 : k1_cond9 v37 v40 v43 k1_t3 k1_t39 = 1#1), 16 ∣ (k1_mult13 v37 v40 v43 k1_t3 k1_t39).toNat := fun i v37 v40 v43 k1_hw1 k1_t3 k1_t39 k1_h8 k1_h9 => k1_hw1.2.2.1.2.2.2.2.2.2.2.2.2.2.2.2.2.1 k1_t3 k1_t39 k1_h8 k1_h9
theorem k1_off117_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h8 : k1_cond8 v37 v40 v43 k1_t3 k1_t39 = 1#1), ∀ (k1_h9 : k1_cond9 v37 v40 v43 k1_t3 k1_t39 = 1#1), ∀ a, (k1_off117 i v37 v40 v43 k1_t3 k1_t39) a + S16.size a ≤ S32768.size a := fun i v37 v40 v43 k1_hw1 k1_t3 k1_t39 k1_h8 k1_h9 => k1_hw1.2.2.1.2.2.2.2.2.2.2.2.2.2.2.2.2.2.1 k1_t3 k1_t39 k1_h8 k1_h9
theorem k1_off118_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h8 : k1_cond8 v37 v40 v43 k1_t3 k1_t39 = 1#1), ∀ (k1_h9 : k1_cond9 v37 v40 v43 k1_t3 k1_t39 = 1#1), ∀ a, (k1_off118 i v37 v40 v43 k1_t3 k1_t39) a + S12288.size a ≤ S25165824.size a := fun i v37 v40 v43 k1_hw1 k1_t3 k1_t39 k1_h8 k1_h9 => k1_hw1.2.2.1.2.2.2.2.2.2.2.2.2.2.2.2.2.2.2.1 k1_t3 k1_t39 k1_h8 k1_h9
theorem k1_mult14_dvd : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips), ∀ (k1_h8 : k1_cond8 v37 v40 v43 k1_t3 k1_t39 = 1#1), 16 ∣ (k1_mult14 v37 v40 v43 k1_t3 k1_t39).toNat := fun i v37 v40 v43 k1_hw1 k1_t3 k1_t39 k1_h8 => k1_hw1.2.2.1.2.2.2.2.2.2.2.2.2.2.2.2.2.2.2.2.1 k1_t3 k1_t39 k1_h8
theorem k1_off120_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t56 : Fin k1_t56_loop.trips), ∀ (k1_h8 : k1_cond8 v37 v40 v43 k1_t3 k1_t39 = 1#1), ∀ a, (k1_off120 v37 v40 v43 k1_t3 k1_t39 k1_t56) a + S16.size a ≤ S12288.size a := fun i v37 v40 v43 k1_hw1 k1_t3 k1_t39 k1_t56 k1_h8 => k1_hw1.2.2.1.2.2.2.2.2.2.2.2.2.2.2.2.2.2.2.2.2.1 k1_t3 k1_t39 k1_t56 k1_h8
theorem k1_off122_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t57 : Fin k1_t57_loop.trips), ∀ (k1_h8 : k1_cond8 v37 v40 v43 k1_t3 k1_t39 = 1#1), ∀ a, (k1_off122 v37 v40 v43 k1_t3 k1_t39 k1_t57) a + S16.size a ≤ S12288.size a := fun i v37 v40 v43 k1_hw1 k1_t3 k1_t39 k1_t57 k1_h8 => k1_hw1.2.2.1.2.2.2.2.2.2.2.2.2.2.2.2.2.2.2.2.2.2.1 k1_t3 k1_t39 k1_t57 k1_h8
theorem k1_off124_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t58 : Fin k1_t58_loop.trips), ∀ (k1_h8 : k1_cond8 v37 v40 v43 k1_t3 k1_t39 = 1#1), ∀ a, (k1_off124 v37 v40 v43 k1_t3 k1_t39 k1_t58) a + S16.size a ≤ S12288.size a := fun i v37 v40 v43 k1_hw1 k1_t3 k1_t39 k1_t58 k1_h8 => k1_hw1.2.2.1.2.2.2.2.2.2.2.2.2.2.2.2.2.2.2.2.2.2.2.1 k1_t3 k1_t39 k1_t58 k1_h8
theorem k1_off126_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t59 : Fin k1_t59_loop.trips), ∀ (k1_h8 : k1_cond8 v37 v40 v43 k1_t3 k1_t39 = 1#1), ∀ a, (k1_off126 v37 v40 v43 k1_t3 k1_t39 k1_t59) a + S16.size a ≤ S12288.size a := fun i v37 v40 v43 k1_hw1 k1_t3 k1_t39 k1_t59 k1_h8 => k1_hw1.2.2.1.2.2.2.2.2.2.2.2.2.2.2.2.2.2.2.2.2.2.2.2.1 k1_t3 k1_t39 k1_t59 k1_h8
theorem k1_off128_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t60 : Fin k1_t60_loop.trips), ∀ (k1_h8 : k1_cond8 v37 v40 v43 k1_t3 k1_t39 = 1#1), ∀ a, (k1_off128 v37 v40 v43 k1_t3 k1_t39 k1_t60) a + S16.size a ≤ S12288.size a := fun i v37 v40 v43 k1_hw1 k1_t3 k1_t39 k1_t60 k1_h8 => k1_hw1.2.2.1.2.2.2.2.2.2.2.2.2.2.2.2.2.2.2.2.2.2.2.2.2.1 k1_t3 k1_t39 k1_t60 k1_h8
theorem k1_off130_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t61 : Fin k1_t61_loop.trips), ∀ (k1_h8 : k1_cond8 v37 v40 v43 k1_t3 k1_t39 = 1#1), ∀ a, (k1_off130 v37 v40 v43 k1_t3 k1_t39 k1_t61) a + S16.size a ≤ S12288.size a := fun i v37 v40 v43 k1_hw1 k1_t3 k1_t39 k1_t61 k1_h8 => k1_hw1.2.2.1.2.2.2.2.2.2.2.2.2.2.2.2.2.2.2.2.2.2.2.2.2.2.1 k1_t3 k1_t39 k1_t61 k1_h8
theorem k1_off132_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t62 : Fin k1_t62_loop.trips), ∀ (k1_h8 : k1_cond8 v37 v40 v43 k1_t3 k1_t39 = 1#1), ∀ a, (k1_off132 v37 v40 v43 k1_t3 k1_t39 k1_t62) a + S16.size a ≤ S12288.size a := fun i v37 v40 v43 k1_hw1 k1_t3 k1_t39 k1_t62 k1_h8 => k1_hw1.2.2.1.2.2.2.2.2.2.2.2.2.2.2.2.2.2.2.2.2.2.2.2.2.2.2.1 k1_t3 k1_t39 k1_t62 k1_h8
theorem k1_off134_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t63 : Fin k1_t63_loop.trips), ∀ (k1_h8 : k1_cond8 v37 v40 v43 k1_t3 k1_t39 = 1#1), ∀ a, (k1_off134 v37 v40 v43 k1_t3 k1_t39 k1_t63) a + S16.size a ≤ S12288.size a := fun i v37 v40 v43 k1_hw1 k1_t3 k1_t39 k1_t63 k1_h8 => k1_hw1.2.2.1.2.2.2.2.2.2.2.2.2.2.2.2.2.2.2.2.2.2.2.2.2.2.2.2.1 k1_t3 k1_t39 k1_t63 k1_h8
theorem k1_off136_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t64 : Fin k1_t64_loop.trips), ∀ (k1_h8 : k1_cond8 v37 v40 v43 k1_t3 k1_t39 = 1#1), ∀ a, (k1_off136 v37 v40 v43 k1_t3 k1_t39 k1_t64) a + S16.size a ≤ S12288.size a := fun i v37 v40 v43 k1_hw1 k1_t3 k1_t39 k1_t64 k1_h8 => k1_hw1.2.2.1.2.2.2.2.2.2.2.2.2.2.2.2.2.2.2.2.2.2.2.2.2.2.2.2.2.1 k1_t3 k1_t39 k1_t64 k1_h8
theorem k1_off138_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t65 : Fin k1_t65_loop.trips), ∀ (k1_h8 : k1_cond8 v37 v40 v43 k1_t3 k1_t39 = 1#1), ∀ a, (k1_off138 v37 v40 v43 k1_t3 k1_t39 k1_t65) a + S16.size a ≤ S12288.size a := fun i v37 v40 v43 k1_hw1 k1_t3 k1_t39 k1_t65 k1_h8 => k1_hw1.2.2.1.2.2.2.2.2.2.2.2.2.2.2.2.2.2.2.2.2.2.2.2.2.2.2.2.2.2.1 k1_t3 k1_t39 k1_t65 k1_h8
theorem k1_off140_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t66 : Fin k1_t66_loop.trips), ∀ (k1_h8 : k1_cond8 v37 v40 v43 k1_t3 k1_t39 = 1#1), ∀ a, (k1_off140 v37 v40 v43 k1_t3 k1_t39 k1_t66) a + S16.size a ≤ S12288.size a := fun i v37 v40 v43 k1_hw1 k1_t3 k1_t39 k1_t66 k1_h8 => k1_hw1.2.2.1.2.2.2.2.2.2.2.2.2.2.2.2.2.2.2.2.2.2.2.2.2.2.2.2.2.2.2.1 k1_t3 k1_t39 k1_t66 k1_h8
theorem k1_off142_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t67 : Fin k1_t67_loop.trips), ∀ (k1_h8 : k1_cond8 v37 v40 v43 k1_t3 k1_t39 = 1#1), ∀ a, (k1_off142 v37 v40 v43 k1_t3 k1_t39 k1_t67) a + S16.size a ≤ S12288.size a := fun i v37 v40 v43 k1_hw1 k1_t3 k1_t39 k1_t67 k1_h8 => k1_hw1.2.2.1.2.2.2.2.2.2.2.2.2.2.2.2.2.2.2.2.2.2.2.2.2.2.2.2.2.2.2.2.1 k1_t3 k1_t39 k1_t67 k1_h8
theorem k1_off144_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t68 : Fin k1_t68_loop.trips), ∀ (k1_h8 : k1_cond8 v37 v40 v43 k1_t3 k1_t39 = 1#1), ∀ a, (k1_off144 v37 v40 v43 k1_t3 k1_t39 k1_t68) a + S16.size a ≤ S12288.size a := fun i v37 v40 v43 k1_hw1 k1_t3 k1_t39 k1_t68 k1_h8 => k1_hw1.2.2.1.2.2.2.2.2.2.2.2.2.2.2.2.2.2.2.2.2.2.2.2.2.2.2.2.2.2.2.2.2.1 k1_t3 k1_t39 k1_t68 k1_h8
theorem k1_off146_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t69 : Fin k1_t69_loop.trips), ∀ (k1_h8 : k1_cond8 v37 v40 v43 k1_t3 k1_t39 = 1#1), ∀ a, (k1_off146 v37 v40 v43 k1_t3 k1_t39 k1_t69) a + S16.size a ≤ S12288.size a := fun i v37 v40 v43 k1_hw1 k1_t3 k1_t39 k1_t69 k1_h8 => k1_hw1.2.2.1.2.2.2.2.2.2.2.2.2.2.2.2.2.2.2.2.2.2.2.2.2.2.2.2.2.2.2.2.2.2.1 k1_t3 k1_t39 k1_t69 k1_h8
theorem k1_off148_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t70 : Fin k1_t70_loop.trips), ∀ (k1_h8 : k1_cond8 v37 v40 v43 k1_t3 k1_t39 = 1#1), ∀ a, (k1_off148 v37 v40 v43 k1_t3 k1_t39 k1_t70) a + S16.size a ≤ S12288.size a := fun i v37 v40 v43 k1_hw1 k1_t3 k1_t39 k1_t70 k1_h8 => k1_hw1.2.2.1.2.2.2.2.2.2.2.2.2.2.2.2.2.2.2.2.2.2.2.2.2.2.2.2.2.2.2.2.2.2.2 k1_t3 k1_t39 k1_t70 k1_h8
theorem k1_off150_inb : ∀ (i : grid1.Coords) (v37 : BitVec 32) (v40 : BitVec 32) (v43 : BitVec 32) (k1_hw1 : k1_chk1 i v37 v40 v43) (k1_t3 : Fin k1_t3_loop.trips) (k1_t39 : Fin (k1_t39_loop v37 v40 v43 k1_t3).trips) (k1_t71 : Fin k1_t71_loop.trips), ∀ (k1_h8 : k1_cond8 v37 v40 v43 k1_t3 k1_t39 = 1#1), ∀ a, (k1_off150 v37 v40 v43 k1_t3 k1_t39 k1_t71) a + S16.size a ≤ S12288.size a := fun i v37 v40 v43 k1_hw1 k1_t3 k1_t39 k1_t71 k1_h8 => k1_hw1.2.2.2 k1_t3 k1_t39 k1_t71 k1_h8

def k1_off151 (i : grid1.Coords) (k1_t3 : Fin k1_t3_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2048_i32 : BitVec 32 := 2048#32
  let v121 : BitVec 32 := Scalar.muli v18 c2048_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_18 : BitVec 32 := 0#32
  let c1_i32_19 : BitVec 32 := 1#32
  let arg17 : BitVec 32 := Scf.iv c0_i32_18 c1_i32_19 k1_t3
  let c128_i32 : BitVec 32 := 128#32
  let v47 : BitVec 32 := Scalar.muli arg17 c128_i32
  let v48 : BitVec 32 := Scalar.addi v29 v47
  let v122 : BitVec 32 := Scalar.addi v121 v48
  let c768_i32 : BitVec 32 := 768#32
  let v123 : BitVec 32 := Scalar.muli v122 c768_i32
  ![v123.toNat]
def k1_off152 (i : grid1.Coords) (k1_t3 : Fin k1_t3_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2048_i32_61 : BitVec 32 := 2048#32
  let v124 : BitVec 32 := Scalar.muli v18 c2048_i32_61
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_18 : BitVec 32 := 0#32
  let c1_i32_19 : BitVec 32 := 1#32
  let arg17 : BitVec 32 := Scf.iv c0_i32_18 c1_i32_19 k1_t3
  let c128_i32 : BitVec 32 := 128#32
  let v47 : BitVec 32 := Scalar.muli arg17 c128_i32
  let v48 : BitVec 32 := Scalar.addi v29 v47
  let v125 : BitVec 32 := Scalar.addi v124 v48
  ![v125.toNat]
abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S768x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x768 : Shape := ⟨3, ![4, 8192, 768]⟩
abbrev S4x8192 : Shape := ⟨2, ![4, 8192]⟩
abbrev S768x1024 : Shape := ⟨2, ![768, 1024]⟩
abbrev S1024 : Shape := ⟨1, ![1024]⟩
abbrev S4 : Shape := ⟨1, ![4]⟩
abbrev S_ : Shape := ⟨0, ![]⟩
abbrev S4x1 : Shape := ⟨2, ![4, 1]⟩
abbrev S32768 : Shape := ⟨1, ![32768]⟩
abbrev S32768x768 : Shape := ⟨2, ![32768, 768]⟩
abbrev S8192x768 : Shape := ⟨2, ![8192, 768]⟩
abbrev S32768x1 : Shape := ⟨2, ![32768, 1]⟩
abbrev S8192 : Shape := ⟨1, ![8192]⟩
abbrev S8192x1 : Shape := ⟨2, ![8192, 1]⟩
abbrev S4x2048x768 : Shape := ⟨3, ![4, 2048, 768]⟩
abbrev S4x2048x1024 : Shape := ⟨3, ![4, 2048, 1024]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192, .i32⟩
  | .hbm, ⟨2, _⟩ => ⟨S768x1024, .f32⟩
  | .hbm, ⟨3, _⟩ => ⟨S1024, .f32⟩
  | .hbm, ⟨4, _⟩ => ⟨S4x8192x768, .bf16⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4x1, .i32⟩
  | .hbm, ⟨10, _⟩ => ⟨S4x8192, .i32⟩
  | .hbm, ⟨11, _⟩ => ⟨S4x8192, .i32⟩
  | .hbm, ⟨12, _⟩ => ⟨S32768, .i32⟩
  | .hbm, ⟨13, _⟩ => ⟨S32768x768, .bf16⟩
  | .hbm, ⟨14, _⟩ => ⟨S_, .bf16⟩
  | .hbm, ⟨15, _⟩ => ⟨S8192x768, .bf16⟩
  | .hbm, ⟨16, _⟩ => ⟨S32768x1, .i32⟩
  | .hbm, ⟨17, _⟩ => ⟨S8192x768, .bf16⟩
  | .hbm, ⟨18, _⟩ => ⟨S_, .bf16⟩
  | .hbm, ⟨19, _⟩ => ⟨S32768, .bf16⟩
  | .hbm, ⟨20, _⟩ => ⟨S_, .bf16⟩
  | .hbm, ⟨21, _⟩ => ⟨S8192, .bf16⟩
  | .hbm, ⟨22, _⟩ => ⟨S32768x1, .i32⟩
  | .hbm, ⟨23, _⟩ => ⟨S8192, .bf16⟩
  | .hbm, ⟨24, _⟩ => ⟨S_, .bf16⟩
  | .hbm, ⟨25, _⟩ => ⟨S8192, .bf16⟩
  | .hbm, ⟨26, _⟩ => ⟨S8192, .bf16⟩
  | .hbm, ⟨27, _⟩ => ⟨S8192x1, .bf16⟩
  | .hbm, ⟨28, _⟩ => ⟨S8192x768, .bf16⟩
  | .hbm, ⟨29, _⟩ => ⟨S8192x768, .bf16⟩
  | .hbm, ⟨30, _⟩ => ⟨S4x2048x768, .bf16⟩
  | .hbm, ⟨31, _⟩ => ⟨S4x2048x768, .f32⟩
  | .hbm, ⟨32, _⟩ => ⟨S4x2048x1024, .f32⟩
  | .hbm, ⟨33, _⟩ => ⟨S1x1x1024, .f32⟩
  | .hbm, ⟨34, _⟩ => ⟨S4x2048x1024, .f32⟩
  | .hbm, ⟨35, _⟩ => ⟨S4x2048x1024, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Words.lean ====
/-
  The scalar words that a tile computes, in short: the same operations as in the printed kernel, as functions of the tile's
  coordinates, of the three counts (identifiers below the tile's start, its middle and its end) and of the chunk's number; and the
  number that each of them is.
-/
module

public import Idealize.ShloMosaic.Lib.Affine
public import Idealize.ShloMosaic.Lib.WordArith
public import Idealize.ShloMosaic.Lib.WordArith.Masks
public import Idealize.ShloMosaic.Lib.LoopRemainder

@[expose] public section

namespace PatchMean

open Idealize.ShloMosaic Idealize.ShloMosaic.Affine

/-! ## Floor division -/

/-- Division of signed words that rounds down, as the kernel spells it. -/
def fdivW (v c : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt c 0#32)) (Scalar.extui (Scalar.cmpi .slt c 0#32))))
      (Scalar.cmpi .ne (Scalar.remsi v c) 0#32))
    (Scalar.subi (Scalar.divsi v c) 1#32) (Scalar.divsi v c)

theorem lit (n : Nat) (h : n < 2 ^ 31) : IsInt (BitVec.ofNat 32 n) (n : Int) := ofNat n ⟨rfl, h⟩

theorem fdivW_isInt {v c : BitVec 32} {a k : Int} (hv : IsInt v a) (hc : IsInt c k) (ha : 0 ≤ a) (hk : 0 < k) :
    IsInt (fdivW v c) (a / k) := by
  have h0 : IsInt (0#32) 0 := lit 0 (by decide)
  have hd : IsInt (Scalar.divsi v c) (a / k) := divsi hv hc ⟨rfl, ha, hk⟩
  have hcs : IsInt (Scalar.subi (Scalar.extui (Scalar.cmpi .sgt c 0#32)) (Scalar.extui (Scalar.cmpi .slt c 0#32))) 1 :=
    subi (extui_holds (sgt_holds hc h0 hk) rfl) (extui_fails (slt_fails hc h0 (by omega)) rfl) (by decide)
  unfold fdivW
  refine select_fails ?_ (word _) hd rfl
  rcases Int.lt_or_eq_of_le ha with h | h
  · refine andi_fails_left (ne_fails (subi (e := 1) (extui_holds (sgt_holds hv h0 h) rfl) (extui_fails (slt_fails hv h0 (by omega)) rfl) (by decide)) hcs rfl) trivial
  · refine andi_fails_right trivial (ne_fails (remsi (e := a % k) hv hc ⟨rfl, ha, hk⟩) h0 ?_)
    rw [← h]; exact Int.zero_emod k

/-! ## The tile -/

/-- The tile's number. -/
def tileW (c s : Nat) : BitVec 32 := Scalar.addi (Scalar.muli (BitVec.ofNat 32 c) 16#32) (BitVec.ofNat 32 s)

/-- The constant eight, as the remainder's guard leaves it. -/
def eightW : BitVec 32 := Scalar.select (Scalar.cmpi .eq 8#32 0#32) 1#32 8#32

/-- The tile's number modulo eight, as the kernel spells it. -/
def remW (c s : Nat) : BitVec 32 :=
  Scalar.select (Scalar.andi (Scalar.xori (Scalar.cmpi .slt (Scalar.remsi (tileW c s) eightW) 0#32) (Scalar.cmpi .slt eightW 0#32))
      (Scalar.cmpi .ne (Scalar.remsi (tileW c s) eightW) 0#32))
    (Scalar.addi (Scalar.remsi (tileW c s) eightW) eightW) (Scalar.remsi (tileW c s) eightW)

/-- The row of the batch that the tile works on. -/
def rowW (c s : Nat) : BitVec 32 := fdivW (tileW c s) 8#32

/-- The tile's first patch. -/
def p0W (c s : Nat) : BitVec 32 := Scalar.muli (remW c s) 256#32

/-- The row's first position in the flat list of identifiers. -/
def rbW (c s : Nat) : BitVec 32 := Scalar.muli (rowW c s) 8192#32

/-- The first patch of the tile's half `q`. -/
def pqW (c s q : Nat) : BitVec 32 := Scalar.addi (p0W c s) (Scalar.muli (Scf.iv 0#32 1#32 q) 128#32)

/-- The tile's row. -/
def rowN (c s : Nat) : Nat := (16 * c + s) / 8
/-- The tile's first patch. -/
def p0N (c s : Nat) : Nat := 256 * ((16 * c + s) % 8)
/-- The first patch of half `q`. -/
def pqN (c s q : Nat) : Nat := p0N c s + 128 * q
/-- The first position of the tile's row. -/
def rbN (c s : Nat) : Nat := 8192 * rowN c s

theorem iv_isInt {q : Nat} (hq : q < 2 ^ 31) : IsInt (Scf.iv 0#32 1#32 q) (q : Int) := by
  refine relit (word _) ?_
  rw [BitVec.toInt_eq_toNat_of_lt (by rw [WordArith.toNat_iv_zero_one q (by omega)]; omega), WordArith.toNat_iv_zero_one q (by omega)]

section
variable {c s : Nat} (hc : c < 2) (hs : s < 16)
include hc hs

theorem tileW_isInt : IsInt (tileW c s) ((16 * c + s : Nat) : Int) := by
  unfold tileW
  refine addi (muli (e := ((c : Int) * 16)) (lit c (by omega)) (lit 16 (by decide)) ⟨rfl, ?_, ?_⟩) (lit s (by omega)) ⟨?_, ?_, ?_⟩ <;> omega

theorem remW_isInt : IsInt (remW c s) (((16 * c + s) % 8 : Nat) : Int) := by
  have h8 : IsInt eightW 8 := by
    unfold eightW
    exact select_fails (eq_fails (lit 8 (by decide)) (lit 0 (by decide)) (by decide)) (word _) (lit 8 (by decide)) rfl
  have hr : IsInt (Scalar.remsi (tileW c s) eightW) (((16 * c + s) % 8 : Nat) : Int) :=
    remsi (tileW_isInt hc hs) h8 ⟨by omega, by omega, by decide⟩
  unfold remW
  refine select_fails (andi_fails_left (xori_ff (slt_fails hr (lit 0 (by decide)) (by omega)) (slt_fails h8 (lit 0 (by decide)) (by decide))) trivial)
    (word _) hr rfl

theorem rowW_isInt : IsInt (rowW c s) (rowN c s : Int) := by
  refine relit (fdivW_isInt (tileW_isInt hc hs) (lit 8 (by decide)) (by omega) (by decide)) ?_
  unfold rowN; omega

theorem rowN_lt : rowN c s < 4 := by unfold rowN; omega

theorem p0W_isInt : IsInt (p0W c s) (p0N c s : Int) := by
  unfold p0W p0N
  refine muli (remW_isInt hc hs) (lit 256 (by decide)) ⟨?_, ?_, ?_⟩ <;> omega

theorem rbW_isInt : IsInt (rbW c s) (rbN c s : Int) := by
  have := rowN_lt hc hs
  unfold rbW rbN
  refine muli (rowW_isInt hc hs) (lit 8192 (by decide)) ⟨?_, ?_, ?_⟩ <;> omega

theorem pqW_isInt {q : Nat} (hq : q < 2) : IsInt (pqW c s q) (pqN c s q : Int) := by
  unfold pqW pqN
  have : p0N c s ≤ 1792 := by unfold p0N; omega
  refine addi (p0W_isInt hc hs) (muli (e := 128 * (q : Int)) (iv_isInt (by omega)) (lit 128 (by decide)) ⟨?_, ?_, ?_⟩) ⟨?_, ?_, ?_⟩ <;> omega

theorem pqN_le {q : Nat} (hq : q < 2) : pqN c s q + 128 ≤ 2048 := by unfold pqN p0N; omega

end

/-! ## A half's run of positions -/

/-- The half's first position. -/
def b0W (lo mid : BitVec 32) (q : Nat) : BitVec 32 := Scalar.select (Scalar.cmpi .eq (Scf.iv 0#32 1#32 q) 0#32) lo mid
/-- The half's first position rounded down to sixteen. -/
def bsW (lo mid : BitVec 32) (q : Nat) : BitVec 32 := Scalar.muli (fdivW (b0W lo mid q) 16#32) 16#32
/-- The positions from there to the half's end. -/
def ntpW (lo mid hi : BitVec 32) (q : Nat) : BitVec 32 := Scalar.subi (b0W mid hi q) (bsW lo mid q)
/-- The half's chunks. -/
def nchW (lo mid hi : BitVec 32) (q : Nat) : BitVec 32 := fdivW (Scalar.subi (Scalar.addi (ntpW lo mid hi q) 16#32) 1#32) 16#32
/-- The pairs of chunks. -/
def pairsW (lo mid hi : BitVec 32) (q : Nat) : BitVec 32 := Scalar.subi (fdivW (Scalar.addi (nchW lo mid hi q) 1#32) 2#32) 0#32
/-- Whether a word is below the number of chunks, as a branch tests it. -/
def belowW (x nch : BitVec 32) : BitVec 1 := Scalar.cmpi .ne (Scalar.extui (Scalar.cmpi .slt x nch)) 0#32
/-- A chunk's first position, kept in the row. -/
def chunkW (bs kw : BitVec 32) : BitVec 32 := Scalar.minsi (Scalar.addi bs (Scalar.muli kw 16#32)) 8176#32

/-- The half's first position: the count below its start. -/
def selN (a b q : Nat) : Nat := if q = 0 then a else b
/-- Rounded down to sixteen. -/
def bsN (lo mid q : Nat) : Nat := selN lo mid q / 16 * 16
/-- The positions from there to the half's end. -/
def ntpN (lo mid hi q : Nat) : Nat := selN mid hi q - bsN lo mid q
/-- The half's chunks. -/
def nchN (lo mid hi q : Nat) : Nat := (ntpN lo mid hi q + 15) / 16

/-- The three counts as words: they do not decrease, and a row has 8192 positions. -/
structure Sums (lo mid hi : BitVec 32) (l m h : Nat) : Prop where
  lo : IsInt lo (l : Int)
  mid : IsInt mid (m : Int)
  hi : IsInt hi (h : Int)
  lm : l ≤ m
  mh : m ≤ h
  top : h ≤ 8192

section
variable {lo mid hi : BitVec 32} {l m h q : Nat} (S : Sums lo mid hi l m h) (hq : q < 2)
include hq

theorem b0W_isInt {x y : BitVec 32} {a b : Nat} (hx : IsInt x (a : Int)) (hy : IsInt y (b : Int)) : IsInt (b0W x y q) (selN a b q : Int) := by
  unfold b0W selN
  by_cases h : q = 0
  · rw [if_pos h]
    exact select_holds (eq_holds (iv_isInt (by omega)) (lit 0 (by decide)) (by omega)) hx hy rfl
  · rw [if_neg h]
    exact select_fails (eq_fails (iv_isInt (by omega)) (lit 0 (by decide)) (by omega)) hx hy rfl

include S

theorem sel_le : selN l m q ≤ selN m h q ∧ selN m h q ≤ 8192 := by
  have := S.lm; have := S.mh; have := S.top
  unfold selN; split <;> omega

theorem bsW_isInt : IsInt (bsW lo mid q) (bsN l m q : Int) := by
  have := sel_le S hq
  unfold bsW bsN
  refine muli (fdivW_isInt (b0W_isInt hq S.lo S.mid) (lit 16 (by decide)) (by omega) (by decide)) (lit 16 (by decide)) ⟨?_, ?_, ?_⟩ <;> omega

theorem ntpW_isInt : IsInt (ntpW lo mid hi q) (ntpN l m h q : Int) := by
  have := sel_le S hq
  unfold ntpW ntpN
  have h' : bsN l m q ≤ selN l m q := by unfold bsN; omega
  refine subi (b0W_isInt hq S.mid S.hi) (bsW_isInt S hq) ⟨?_, ?_, ?_⟩ <;> omega

theorem ntpN_le : bsN l m q + ntpN l m h q ≤ 8192 := by
  have := sel_le S hq
  unfold ntpN bsN; omega

theorem nchW_isInt : IsInt (nchW lo mid hi q) (nchN l m h q : Int) := by
  have := ntpN_le S hq
  unfold nchW
  refine relit (fdivW_isInt (subi (e := (ntpN l m h q : Int) + 15) (addi (e := (ntpN l m h q : Int) + 16) (ntpW_isInt S hq) (lit 16 (by decide)) ⟨rfl, ?_, ?_⟩)
    (lit 1 (by decide)) ⟨?_, ?_, ?_⟩) (lit 16 (by decide)) (by omega) (by decide)) ?_
  all_goals first | omega | (unfold nchN; omega)

theorem nchN_le : nchN l m h q ≤ 512 := by
  have := ntpN_le S hq
  unfold nchN; omega

theorem pairsW_isInt : IsInt (pairsW lo mid hi q) (((nchN l m h q + 1) / 2 : Nat) : Int) := by
  have := nchN_le S hq
  unfold pairsW
  refine subi (fdivW_isInt (addi (e := (nchN l m h q : Int) + 1) (nchW_isInt S hq) (lit 1 (by decide)) ⟨rfl, ?_, ?_⟩) (lit 2 (by decide)) (by omega) (by decide))
    (lit 0 (by decide)) ⟨?_, ?_, ?_⟩ <;> omega

/-- A chunk's positions lie in the row. -/
theorem chunk_le {k : Nat} (hk : k < nchN l m h q) : bsN l m q + 16 * k ≤ 8176 := by
  have := ntpN_le S hq
  have h16 : bsN l m q % 16 = 0 := by unfold bsN; omega
  unfold nchN at hk; omega

theorem chunkW_isInt {k : Nat} {kw : BitVec 32} (hkw : IsInt kw (k : Int)) (hk : k < nchN l m h q) :
    IsInt (chunkW (bsW lo mid q) kw) ((bsN l m q + 16 * k : Nat) : Int) := by
  have := chunk_le S hq hk
  unfold chunkW
  refine minsi (addi (e := (bsN l m q : Int) + 16 * k) (bsW_isInt S hq) (muli (e := 16 * (k : Int)) hkw (lit 16 (by decide)) ⟨?_, ?_, ?_⟩) ⟨rfl, ?_, ?_⟩)
    (lit 8176 (by decide)) ?_ <;> omega

theorem belowW_iff {k : Nat} {kw : BitVec 32} (hkw : IsInt kw (k : Int)) : belowW kw (nchW lo mid hi q) = 1#1 ↔ k < nchN l m h q := by
  have hn := nchW_isInt S hq
  constructor
  · intro hb
    by_contra hlt
    exact ne_fails (extui_fails (slt_fails hkw hn (by omega)) rfl) (lit 0 (by decide)) rfl hb
  · intro hlt
    exact ne_holds (extui_holds (slt_holds hkw hn (by omega)) rfl) (lit 0 (by decide)) (by decide)

end

/-! ## The accumulator's row -/

/-- The accumulator's row of an identifier: its distance from the half's first patch, or the spare row 128 where the position
    is past the half's end or the identifier is not one of its 128 patches. -/
def relW (pq ntp nw id : BitVec 32) : BitVec 32 :=
  Scalar.select (Scalar.andi (Scalar.andi (Scalar.cmpi .slt nw ntp) (Scalar.cmpi .sge (Scalar.subi id pq) 0#32)) (Scalar.cmpi .slt (Scalar.subi id pq) 128#32))
    (Scalar.subi id pq) 128#32

/-- The same as a number, at position `n` of the run. -/
def relN (pq ntp n : Nat) (id : BitVec 32) : Nat :=
  if n < ntp ∧ 0 ≤ (id - BitVec.ofNat 32 pq).toInt ∧ (id - BitVec.ofNat 32 pq).toInt < 128 then (id - BitVec.ofNat 32 pq).toNat else 128

theorem toNat_of_toInt {x : BitVec 32} (h : 0 ≤ x.toInt) : (x.toNat : Int) = x.toInt := by
  rw [BitVec.toInt_eq_toNat_cond] at h ⊢
  have := x.isLt
  split at h <;> split <;> omega

theorem relN_le (pq ntp n : Nat) (id : BitVec 32) : relN pq ntp n id ≤ 128 := by
  unfold relN
  split
  · rename_i h
    have := toNat_of_toInt h.2.1
    omega
  · exact Nat.le_refl _

theorem relW_toNat {pqw ntpw nw id : BitVec 32} {pq ntp n : Nat} (hp : IsInt pqw (pq : Int)) (ht : IsInt ntpw (ntp : Int)) (hn : IsInt nw (n : Int)) :
    (relW pqw ntpw nw id).toNat = relN pq ntp n id := by
  obtain rfl : pqw = BitVec.ofNat 32 pq := eq_of hp pq rfl
  unfold relW relN Scalar.select
  have e : (Scalar.andi (Scalar.andi (Scalar.cmpi .slt nw ntpw) (Scalar.cmpi .sge (Scalar.subi id (BitVec.ofNat 32 pq)) 0#32)) (Scalar.cmpi .slt (Scalar.subi id (BitVec.ofNat 32 pq)) 128#32)) = 1#1
      ↔ n < ntp ∧ 0 ≤ (id - BitVec.ofNat 32 pq).toInt ∧ (id - BitVec.ofNat 32 pq).toInt < 128 := by
    have h1 : (Scalar.cmpi .slt nw ntpw = 1#1) ↔ n < ntp := by
      constructor
      · intro hb; by_contra hlt; exact slt_fails hn ht (by omega) hb
      · intro hlt; exact slt_holds hn ht (by omega)
    rw [show (1#1 : BitVec 1) = 1 from rfl] at h1 ⊢
    simp only [Scalar.andi, Idealize.ShloMosaic.IntOp.andi_eq_one, show (1 : BitVec 1) = 1#1 from rfl] at h1 ⊢
    rw [h1]
    simp only [Scalar.cmpi, Scalar.subi, IntOp.subi, IntOp.cmpi_sge, IntOp.cmpi_slt]
    rw [show (0#32 : BitVec 32).toInt = 0 from rfl, show (128#32 : BitVec 32).toInt = 128 from rfl, and_assoc]
  by_cases hc : n < ntp ∧ 0 ≤ (id - BitVec.ofNat 32 pq).toInt ∧ (id - BitVec.ofNat 32 pq).toInt < 128
  · rw [if_pos hc, if_pos (show _ = (1 : BitVec 1) from e.mpr hc)]; rfl
  · rw [if_neg hc, if_neg (show ¬(_ = (1 : BitVec 1)) from fun h => hc (e.mp h))]; rfl

/-! ## The offsets of a lane's trip -/

/-- The position in the run of lane `l` of chunk `kw`. -/
def laneW (kw l : BitVec 32) : BitVec 32 := Scalar.addi (Scalar.addi (Scalar.muli kw 16#32) 0#32) l
/-- The offset within a row of the accumulator at trip `t`. -/
def colW (t : Nat) : BitVec 32 := Scalar.addi 0#32 (Scalar.muli (Scf.iv 0#32 1#32 t) 16#32)
/-- Where lane `l` of chunk `kw` adds at trip `t`. -/
def accW (pq ntp kw id l : BitVec 32) (t : Nat) : BitVec 32 := Scalar.addi (Scalar.muli (relW pq ntp (laneW kw l) id) 768#32) (colW t)
/-- Where lane `l` of chunk `kw` reads at trip `t`. -/
def srcW (bs kw l : BitVec 32) (t : Nat) : BitVec 32 :=
  Scalar.addi (Scalar.muli (Scalar.addi (Scalar.addi (Scalar.subi (Scalar.addi bs (Scalar.muli kw 16#32)) (chunkW bs kw)) 0#32) l) 768#32) (colW t)

theorem colW_isInt {t : Nat} (ht : t < 48) : IsInt (colW t) ((16 * t : Nat) : Int) := by
  unfold colW
  refine addi (lit 0 (by decide)) (muli (e := 16 * (t : Int)) (iv_isInt (by omega)) (lit 16 (by decide)) ⟨?_, ?_, ?_⟩) ⟨?_, ?_, ?_⟩ <;> omega

theorem laneW_isInt {k l : Nat} {kw lw : BitVec 32} (hkw : IsInt kw (k : Int)) (hk : k < 512) (hlw : IsInt lw (l : Int)) (hl : l < 16) :
    IsInt (laneW kw lw) ((16 * k + l : Nat) : Int) := by
  unfold laneW
  refine addi (addi (e := 16 * (k : Int)) (muli (e := 16 * (k : Int)) hkw (lit 16 (by decide)) ⟨?_, ?_, ?_⟩) (lit 0 (by decide)) ⟨?_, ?_, ?_⟩) hlw ⟨?_, ?_, ?_⟩ <;> omega

theorem accW_toNat {pqw ntpw kw lw id : BitVec 32} {pq ntp k l t : Nat} (hp : IsInt pqw (pq : Int)) (hn : IsInt ntpw (ntp : Int))
    (hkw : IsInt kw (k : Int)) (hk : k < 512) (hlw : IsInt lw (l : Int)) (hl : l < 16) (ht : t < 48) :
    (accW pqw ntpw kw id lw t).toNat = 768 * relN pq ntp (16 * k + l) id + 16 * t := by
  have e := relW_toNat (id := id) hp hn (laneW_isInt hkw hk hlw hl)
  have hle := relN_le pq ntp (16 * k + l) id
  have hr : IsInt (relW pqw ntpw (laneW kw lw) id) (relN pq ntp (16 * k + l) id : Int) := by
    refine relit (word _) ?_
    rw [BitVec.toInt_eq_toNat_of_lt (by rw [e]; omega), e]
  unfold accW
  refine nat_eq (addi (e := 768 * (relN pq ntp (16 * k + l) id : Int) + 16 * t) (muli (e := 768 * (relN pq ntp (16 * k + l) id : Int)) hr (lit 768 (by decide)) ⟨?_, ?_, ?_⟩) (colW_isInt ht) ⟨?_, ?_, ?_⟩) _ ?_ <;> omega

theorem srcW_toNat {lo mid hi : BitVec 32} {lc m h q : Nat} (S : Sums lo mid hi lc m h) (hq : q < 2) {kw lw : BitVec 32} {k l t : Nat}
    (hkw : IsInt kw (k : Int)) (hk : k < nchN lc m h q) (hlw : IsInt lw (l : Int)) (hl : l < 16) (ht : t < 48) :
    (srcW (bsW lo mid q) kw lw t).toNat = 768 * l + 16 * t := by
  have hb := chunk_le S hq hk
  unfold srcW
  refine nat_eq (addi (e := 768 * (l : Int) + 16 * t) (muli (e := 768 * (l : Int)) (addi (e := (l : Int)) (addi (e := 0) (subi (e := 0)
    (addi (e := (bsN lc m q : Int) + 16 * k) (bsW_isInt S hq) (muli (e := 16 * (k : Int)) hkw (lit 16 (by decide)) ⟨?_, ?_, ?_⟩) ⟨rfl, ?_, ?_⟩)
    (chunkW_isInt S hq hkw hk) ⟨?_, ?_, ?_⟩) (lit 0 (by decide)) ⟨?_, ?_, ?_⟩) hlw ⟨?_, ?_, ?_⟩) (lit 768 (by decide)) ⟨?_, ?_, ?_⟩) (colW_isInt ht) ⟨?_, ?_, ?_⟩) _ ?_ <;> omega

/-! ## The offsets of the copies -/

/-- Where a chunk's identifiers start. -/
def idOffW (c s : Nat) (ch : BitVec 32) : BitVec 32 := Scalar.addi (rbW c s) ch
/-- Where a chunk's rows start. -/
def rowOffW (c s : Nat) (ch : BitVec 32) : BitVec 32 := Scalar.muli (Scalar.addi (rbW c s) ch) 768#32
/-- The first chunk's first position. -/
def firstW (bs : BitVec 32) : BitVec 32 := Scalar.minsi (Scalar.addi bs 0#32) 8176#32

section
variable {c s : Nat} (hc : c < 2) (hs : s < 16)
include hc hs

theorem idOffW_isInt {ch : BitVec 32} {n : Nat} (h : IsInt ch (n : Int)) (hn : n ≤ 8176) : IsInt (idOffW c s ch) ((rbN c s + n : Nat) : Int) := by
  have := rowN_lt hc hs
  have hr : rbN c s = 8192 * rowN c s := rfl
  unfold idOffW
  refine addi (rbW_isInt hc hs) h ⟨?_, ?_, ?_⟩ <;> omega

theorem rowOffW_isInt {ch : BitVec 32} {n : Nat} (h : IsInt ch (n : Int)) (hn : n ≤ 8176) : IsInt (rowOffW c s ch) ((768 * (rbN c s + n) : Nat) : Int) := by
  have := rowN_lt hc hs
  have hr : rbN c s = 8192 * rowN c s := rfl
  unfold rowOffW
  refine muli (idOffW_isInt hc hs h hn) (lit 768 (by decide)) ⟨?_, ?_, ?_⟩ <;> omega

end

theorem firstW_isInt {lo mid hi : BitVec 32} {l m h q : Nat} (S : Sums lo mid hi l m h) (hq : q < 2) (h0 : 0 < nchN l m h q) :
    IsInt (firstW (bsW lo mid q)) (bsN l m q : Int) := by
  have := chunk_le S hq h0
  unfold firstW
  refine minsi (addi (e := (bsN l m q : Int)) (bsW_isInt S hq) (lit 0 (by decide)) ⟨?_, ?_, ?_⟩) (lit 8176 (by decide)) ?_ <;> omega

/-! ## Where a half's results go -/

/-- The first of the half's patches among all rows'. -/
def cntOffW (c s q : Nat) : BitVec 32 := Scalar.addi (Scalar.muli (rowW c s) 2048#32) (pqW c s q)
/-- The first of the half's sums. -/
def sumOffW (c s q : Nat) : BitVec 32 := Scalar.muli (cntOffW c s q) 768#32

/-- The first of the half's patches among all rows'. -/
def outN (c s q : Nat) : Nat := 2048 * rowN c s + pqN c s q

section
variable {c s q : Nat} (hc : c < 2) (hs : s < 16) (hq : q < 2)
include hc hs hq

theorem outN_le : outN c s q + 128 ≤ 8192 := by
  have := rowN_lt hc hs
  have := pqN_le hc hs hq
  unfold outN; omega

theorem cntOffW_isInt : IsInt (cntOffW c s q) (outN c s q : Int) := by
  have := rowN_lt hc hs
  have := pqN_le hc hs hq
  unfold cntOffW outN
  refine addi (muli (e := 2048 * (rowN c s : Int)) (rowW_isInt hc hs) (lit 2048 (by decide)) ⟨?_, ?_, ?_⟩) (pqW_isInt hc hs hq) ⟨?_, ?_, ?_⟩ <;> omega

theorem sumOffW_isInt : IsInt (sumOffW c s q) ((768 * outN c s q : Nat) : Int) := by
  have := outN_le hc hs hq
  unfold sumOffW
  refine muli (cntOffW_isInt hc hs hq) (lit 768 (by decide)) ⟨?_, ?_, ?_⟩ <;> omega

end

end PatchMean
-- ==== Proof.Model.lean ====
/-
  What a tile computes, as functions of a position's number: the accumulator and the counts after each position of a half's run, and
  what a buffer holds, read by position.
-/
module

public import Idealize.ShloMosaic.Rules
public import Idealize.ShloMosaic.Lib.Scf
public import Idealize.ShloMosaic.Lib.VecWindow
public import Idealize.ShloMosaic.Lib.WritesUnit
public import Idealize.ShloMosaic.PureOps
public import proofs.«01_k».proof.Proof.Words

@[expose] public section

namespace PatchMean

open Idealize.ShloMosaic

/-- One axis of `n` elements. -/
abbrev Row (n : Nat) : Shape := ⟨1, ![n]⟩

variable {F : FTy → Type} [FloatOps F]

/-- The number zero. -/
def zeroF : F .f32 := Scalar.ofBits .f32 0x00000000#32
/-- The number one. -/
def oneF : F .f32 := Scalar.ofBits .f32 0x3F800000#32

/-- The first `n` columns of row `rel` of an accumulator with those of `r` added. -/
def addCols (rel n : Nat) (r : Nat → F .f32) (f : Nat → F .f32) : Nat → F .f32 :=
  fun j => if j / 768 = rel ∧ j % 768 < n then FloatOps.addf (f j) (r (j % 768)) else f j

/-- The accumulator after the first `n` positions from `base`: each adds its row of `x` to the row that its identifier names. -/
def accF (x : Nat → F .f32) (id : Nat → BitVec 32) (pq ntp base : Nat) : Nat → Nat → F .f32
  | 0 => fun _ => zeroF
  | n + 1 => addCols (relN pq ntp n (id (base + n))) 768 (fun j => x (768 * (base + n) + j)) (accF x id pq ntp base n)

/-- The counts after the first `n` positions from `base`. -/
def cntF (id : Nat → BitVec 32) (pq ntp base : Nat) : Nat → Nat → F .f32
  | 0 => fun _ => zeroF
  | n + 1 => fun r => if r = relN pq ntp n (id (base + n)) then FloatOps.idxAddf (cntF id pq ntp base n r) oneF else cntF id pq ntp base n r

theorem addCols_zero (rel : Nat) (r f : Nat → F .f32) : addCols rel 0 r f = f := by
  funext j; exact if_neg (by omega)

/-- What a view reads, by position. -/
def Reads {sig : RefSig} {κ : Kind} {sp : Space} {e : EltTy} {N : Nat} (v : View sig κ sp (Row N) e)
    (f : v.ty.Contents (Elt F)) (A : Nat → Elt F e) : Prop := ∀ y : (Row N).Idx, v.read (Elt F) f y = A (y 0).val

end PatchMean
-- ==== Proof.LaneLoop.lean ====
/-
  The two loops that walk a buffer sixteen words at a time: the one that adds a position's row to the accumulator, and the one that
  fills a buffer with one value.
-/
module

public import proofs.«01_k».proof.Proof.Model

@[expose] public section

namespace PatchMean

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)

local notation "𝕄" => MT nD τ sig Ix (Elt F) Name U Lvl

/-- One trip of the loop that adds a row: sixteen words of the accumulator and of the row are read and their sums stored. -/
def laneTrip {κ : Proc τ} {N N' : Nat} (m : Memref sig κ.kind .vmem (Row N) .f32) (r : Memref sig κ.kind .vmem (Row N') .f32)
    {T : Nat} (off off' : Fin T → Fin 1 → Nat) (inb : ∀ t a, off t a + (Row 16).size a ≤ (Row N).size a) (inb' : ∀ t a, off' t a + (Row 16).size a ≤ (Row N').size a)
    (pay : Vec F (Row 16) .f32 → Vec F (Row 16) .f32 → FVec F (Row 16) .f32) (h16 : 0 < (Row 16).numel) :
    Fin T → Unit → Prog (TpuEff nD τ sig (Elt F) Λ κ) Unit := fun t _ => do
  let a : Vec F (Row 16) .f32 ← Prog.lift (.load m (Rect.unit (s := Row N) (off t) (Row 16).size (inb t)).toLoadRect (View.loadsAt_vmem h16))
  let b : Vec F (Row 16) .f32 ← Prog.lift (.load r (Rect.unit (s := Row N') (off' t) (Row 16).size (inb' t)).toLoadRect (View.loadsAt_vmem h16))
  let _a' : Vec F (Row 16) .f32 ← Prog.lift (.load m (Rect.unit (s := Row N) (off t) (Row 16).size (inb t)).toLoadRect (View.loadsAt_vmem h16))
  Prog.lift (.store m (Rect.unit (s := Row N) (off t) (Row 16).size (inb t)) (pay a b) Finset.univ (View.stores_vmem_bits_univ h16 rfl) (.inl rfl))
  pure ⟨⟩

/-- Sixteen more columns of a row added. -/
theorem reads_step {κ : Kind} {N N' : Nat} {m : View sig κ .vmem (Row N) .f32} {r : View sig κ .vmem (Row N') .f32} {off off' : Fin 1 → Nat}
    {inb : ∀ a, off a + (Row 16).size a ≤ (Row N).size a} {inb' : ∀ a, off' a + (Row 16).size a ≤ (Row N').size a} {f : m.ty.Contents (Elt F)} {g : r.ty.Contents (Elt F)}
    {A R : Nat → F .f32} {rel l t : Nat} (ht : t < 48) (hoff : off = ![768 * rel + 16 * t]) (hoff' : off' = ![768 * l + 16 * t])
    (hf : Reads m f (addCols rel (16 * t) (fun j => R (768 * l + j)) A)) (hg : Reads r g R) :
    Reads m ((m.slice (Rect.unit (s := Row N) off (Row 16).size inb)).write (Elt F) f
      (addf (m.readAt (Elt F) (Rect.unit (s := Row N) off (Row 16).size inb).toLoadRect f) (r.readAt (Elt F) (Rect.unit (s := Row N') off' (Row 16).size inb').toLoadRect g)) Finset.univ)
      (addCols rel (16 * (t + 1)) (fun j => R (768 * l + j)) A) := by
  subst hoff hoff'
  intro y
  have e := View.read_writes_cons_unit m f inb (addf (m.readAt (Elt F) (Rect.unit (s := Row N) _ (Row 16).size inb).toLoadRect f) (r.readAt (Elt F) (Rect.unit (s := Row N') _ (Row 16).size inb').toLoadRect g)) [] y rfl
  refine e.trans ?_
  have h0 := hf y
  by_cases h : 768 * rel + 16 * t ≤ (y 0).val ∧ (y 0).val < 768 * rel + 16 * t + 16
  · rw [dif_pos (fun a => by fin_cases a; exact h)]
    have e1 : (y 0).val / 768 = rel := by omega
    have e2 : (y 0).val % 768 = (y 0).val - 768 * rel := by omega
    unfold addCols
    rw [if_pos ⟨e1, by omega⟩]
    refine congrArg₂ FloatOps.addf ?_ ?_
    · refine (hf _).trans ?_
      unfold addCols
      have e3 : ((Rect.unit (s := Row N) ![768 * rel + 16 * t] (Row 16).size inb).emb (Rect.unitLocal (s := Row N) (off := ![768 * rel + 16 * t]) (size := (Row 16).size) y (fun a => by fin_cases a; exact h)) 0).val = (y 0).val := by
        show 768 * rel + 16 * t + 1 * ((y 0).val - (768 * rel + 16 * t)) = _
        omega
      erw [e3]
      rw [if_neg (by omega)]
    · refine (hg _).trans (congrArg R ?_)
      show 768 * l + 16 * t + 1 * ((y 0).val - (768 * rel + 16 * t)) = _
      omega
  · rw [dif_neg (fun h' => h (h' 0))]
    refine h0.trans ?_
    unfold addCols
    by_cases h2 : (y 0).val / 768 = rel ∧ (y 0).val % 768 < 16 * t
    · rw [if_pos h2, if_pos ⟨h2.1, by omega⟩]
    · rw [if_neg h2, if_neg (by omega)]

/-- One trip: the columns added grow by sixteen. -/
theorem wp_laneTrip {N N' : Nat} {m : Memref sig c.2.kind .vmem (Row N) .f32} {r : Memref sig c.2.kind .vmem (Row N') .f32}
    {T : Nat} {off off' : Fin T → Fin 1 → Nat} {inb : ∀ t a, off t a + (Row 16).size a ≤ (Row N).size a} {inb' : ∀ t a, off' t a + (Row 16).size a ≤ (Row N').size a}
    {pay : Vec F (Row 16) .f32 → Vec F (Row 16) .f32 → FVec F (Row 16) .f32} {h16 : 0 < (Row 16).numel} {rel l : Nat} {t : Fin T} (ht : t.val < 48)
    (hpay : pay = addf) (hoff : off t = ![768 * rel + 16 * t.val]) (hoff' : off' t = ![768 * l + 16 * t.val])
    {A R : Nat → F .f32} {q : PosShare TreeShare} {g : Buf (Elt F) (r.view.loc c)} (hg : Reads r.view g R) (u : Unit) :
    iprop((∃ f : Buf (Elt F) (m.view.loc c), ⌜Reads m.view f (addCols rel (16 * t.val) (fun j => R (768 * l + j)) A)⌝ ∗ m.view.loc c ↦[Finset.univ]{fullShare} f) ∗ r.view.loc c ↦[Finset.univ]{q} g)
      ⊢ wp frame (wpE (Ix := Ix) (Name := Name) (U := U) (Lvl := Lvl) defs 𝒱 c bd) E (laneTrip (Λ := Λ) m r off off' inb inb' pay h16 t u)
        (fun _ => iprop((∃ f : Buf (Elt F) (m.view.loc c), ⌜Reads m.view f (addCols rel (16 * (t.val + 1)) (fun j => R (768 * l + j)) A)⌝ ∗ m.view.loc c ↦[Finset.univ]{fullShare} f) ∗ r.view.loc c ↦[Finset.univ]{q} g)) := by
  subst hpay
  unfold laneTrip
  iintro ⟨⟨%f, %hf, Hm⟩, Hr⟩
  iapply (wp_load (defs := defs) 𝒱 c bd E (m := m) (S := Finset.univ) (Finset.subset_univ _)) $$ Hm
  iintro Hm
  iapply (wp_load (defs := defs) 𝒱 c bd E (m := r) (S := Finset.univ) (Finset.subset_univ _)) $$ Hr
  iintro Hr
  iapply (wp_load (defs := defs) 𝒱 c bd E (m := m) (S := Finset.univ) (Finset.subset_univ _)) $$ Hm
  iintro Hm
  iapply (wp_store (defs := defs) 𝒱 c bd E (m := m) (r := Rect.unit (s := Row N) (off t) (Row 16).size (inb t)) (f := f) (S := Finset.univ) (Finset.subset_univ _)) $$ Hm
  iintro Hm
  iapply (le_wp_ret _ _ _ _ _)
  isplitl [Hm]
  · iexists _
    isplitr [Hm]
    swap
    · iexact Hm
    · ipureintro
      exact reads_step ht hoff hoff' hf hg
  · iexact Hr

end PatchMean
-- ==== Proof.Lane.lean ====
/-
  One lane of a chunk: the loop of 48 trips that adds the lane's row of the bytes to the accumulator's row of the lane's identifier.
-/
module

public import proofs.«01_k».proof.Proof.LaneLoop

@[expose] public section

namespace PatchMean

open Idealize.ShloMosaic Idealize.ShloMosaic.Affine
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)

local notation "𝕄" => MT nD τ sig Ix (Elt F) Name U Lvl

/-- A share of a whole buffer, whose contents read as `A` by position. -/
noncomputable def Holds {sp : Space} {e : EltTy} {N : Nat} (c : Thread nD τ) (m : Memref sig c.2.kind sp (Row N) e) (q : PosShare TreeShare)
    (A : Nat → Elt F e) : sProp 𝕄 :=
  iprop(∃ f : Buf (Elt F) (m.view.loc c), ⌜Reads m.view f A⌝ ∗ m.view.loc c ↦[Finset.univ]{q} f)

variable {lo mid hi : BitVec 32} {lc mc hc' : Nat} (S : Sums lo mid hi lc mc hc') {q : Nat} (hq : q < 2)
variable {cc ss : Nat} (hcc : cc < 2) (hss : ss < 16)
include S hq hcc hss

/-- A lane's loop adds one position. -/
theorem wp_lane {N N' : Nat} {m : Memref sig c.2.kind .vmem (Row N) .f32} {r : Memref sig c.2.kind .vmem (Row N') .f32}
    {k : Nat} {kw : BitVec 32} (hkw : IsInt kw (k : Int)) (hk : k < nchN lc mc hc' q) (l : Nat) (hl : l < 16)
    {v : BitVec 32} {x : Nat → F .f32} {id : Nat → BitVec 32} {base : Nat} (hv : v = id (base + (16 * k + l)))
    {lp : Scf.Loop 32} {ok : lp.OK} {body : Fin lp.trips → Unit → Prog (TpuEff nD τ sig (Elt F) Λ c.2) Unit}
    {off off' : Fin lp.trips → Fin 1 → Nat} {inb : ∀ t a, off t a + (Row 16).size a ≤ (Row N).size a} {inb' : ∀ t a, off' t a + (Row 16).size a ≤ (Row N').size a}
    {pay : Vec F (Row 16) .f32 → Vec F (Row 16) .f32 → FVec F (Row 16) .f32} {h16 : 0 < (Row 16).numel}
    (hbody : body = laneTrip (Λ := Λ) m r off off' inb inb' pay h16) (hT : lp.trips = 48) (hpay : pay = addf)
    (hoff : ∀ t : Fin lp.trips, off t = ![(accW (pqW cc ss q) (ntpW lo mid hi q) kw v (BitVec.ofNat 32 l) t.val).toNat])
    (hoff' : ∀ t : Fin lp.trips, off' t = ![(srcW (bsW lo mid q) kw (BitVec.ofNat 32 l) t.val).toNat])
    {α : Type} {kk : Unit → Prog (TpuEff nD τ sig (Elt F) Λ c.2) α} {Q : α → sProp 𝕄} {qr : PosShare TreeShare} :
    iprop(Holds c m fullShare (accF x id (pqN cc ss q) (ntpN lc mc hc' q) base (16 * k + l)) ∗ Holds c r qr (fun j => x (768 * (base + 16 * k) + j)))
      ⊢ iprop((iprop(Holds c m fullShare (accF x id (pqN cc ss q) (ntpN lc mc hc' q) base (16 * k + (l + 1))) ∗ Holds c r qr (fun j => x (768 * (base + 16 * k) + j)))
          -∗ wp frame (wpE (Ix := Ix) (Name := Name) (U := U) (Lvl := Lvl) defs 𝒱 c bd) E (kk ⟨⟩) Q)
        -∗ wp frame (wpE (Ix := Ix) (Name := Name) (U := U) (Lvl := Lvl) defs 𝒱 c bd) E (Scf.Loop.for lp ok ⟨⟩ body >>= kk) Q) := by
  subst hbody hv
  have hn := nchN_le S hq
  have hlw : IsInt (BitVec.ofNat 32 l) (l : Int) := lit l (by omega)
  have eoff : ∀ t : Fin lp.trips, off t = ![768 * relN (pqN cc ss q) (ntpN lc mc hc' q) (16 * k + l) (id (base + (16 * k + l))) + 16 * t.val] := fun t => by
    rw [hoff t, accW_toNat (pqW_isInt hcc hss hq) (ntpW_isInt S hq) hkw (by omega) hlw hl (lt_of_lt_of_eq t.isLt hT)]
  have eoff' : ∀ t : Fin lp.trips, off' t = ![768 * l + 16 * t.val] := fun t => by
    rw [hoff' t, srcW_toNat S hq hkw hk hlw hl (lt_of_lt_of_eq t.isLt hT)]
  unfold Holds
  iintro ⟨⟨%f, %hf, Hm⟩, ⟨%g, %hg, Hr⟩⟩ Hk
  iapply (Scf.wp_for_bind frame (wpE (Ix := Ix) (Name := Name) (U := U) (Lvl := Lvl) defs 𝒱 c bd) E lp.lb lp.ub lp.st ok ⟨⟩ (laneTrip (Λ := Λ) m r off off' inb inb' pay h16)
    (fun t _ => iprop((∃ f : Buf (Elt F) (m.view.loc c), ⌜Reads m.view f (addCols (relN (pqN cc ss q) (ntpN lc mc hc' q) (16 * k + l) (id (base + (16 * k + l)))) (16 * t)
      (fun j => (fun j => x (768 * (base + 16 * k) + j)) (768 * l + j)) (accF x id (pqN cc ss q) (ntpN lc mc hc' q) base (16 * k + l)))⌝ ∗ m.view.loc c ↦[Finset.univ]{fullShare} f)
      ∗ r.view.loc c ↦[Finset.univ]{qr} g))
    (fun t u => wp_laneTrip 𝒱 c bd E (lt_of_lt_of_eq t.isLt hT) hpay (eoff t) (eoff' t) hg u)) $$ [Hm Hr]
  · isplitr [Hr]
    · iexists f
      isplitr [Hm]
      · ipureintro
        rw [Nat.mul_zero, addCols_zero]; exact hf
      · iexact Hm
    · iexact Hr
  iintro %u ⟨⟨%f', %hf', Hm⟩, Hr⟩
  iapply Hk
  isplitr [Hr]
  · iexists f'
    isplitr [Hm]
    · ipureintro
      have e : lp.trips = 48 := hT
      unfold Scf.Loop.trips at e
      rw [e] at hf'
      have e2 : (fun j => (fun j => x (768 * (base + 16 * k) + j)) (768 * l + j)) = fun j => x (768 * (base + (16 * k + l)) + j) := by
        funext j; exact congrArg x (by omega)
      rw [e2] at hf'
      exact hf'
    · iexact Hm
  · iexists g
    isplitr [Hr]
    · ipureintro; exact hg
    · iexact Hr

omit S in
/-- A lane's places in the accumulator are inside it, whatever the identifier is. -/
theorem acc_inb (S : Sums lo mid hi lc mc hc') {k t : Nat} {kw lw v : BitVec 32} (hkw : IsInt kw (k : Int)) (hk : k < nchN lc mc hc' q) (hl : lw.toNat < 16) (ht : t < 48) :
    ∀ a : Fin 1, (![(accW (pqW cc ss q) (ntpW lo mid hi q) kw v lw t).toNat] : Fin 1 → Nat) a + (Row 16).size a ≤ (Row 99072).size a := by
  have hlw : IsInt lw (lw.toNat : Int) := relit (word lw) (by rw [BitVec.toInt_eq_toNat_of_lt (by omega)])
  have hn := nchN_le S hq
  have hr := relN_le (pqN cc ss q) (ntpN lc mc hc' q) (16 * k + lw.toNat) v
  intro a
  fin_cases a
  show (accW (pqW cc ss q) (ntpW lo mid hi q) kw v lw t).toNat + 16 ≤ 99072
  rw [accW_toNat (pqW_isInt hcc hss hq) (ntpW_isInt S hq) hkw (by omega) hlw hl ht]; omega

end PatchMean
-- ==== Proof.Copies.lean ====
/-
  A copy of part of a flat array into a buffer, from its start to its wait, by position.
-/
module

public import proofs.«01_k».proof.Proof.Lane
public import Idealize.ShloMosaic.Lib.Transfers
public import Idealize.ShloMosaic.Lib.SparseCore.Ops

@[expose] public section

namespace PatchMean

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable (EC : UEmb Counters (MT nD τ sig Ix (Elt F) Name U Lvl))

local notation "𝕄" => MT nD τ sig Ix (Elt F) Name U Lvl

variable {sp sp' : Space} {e : EltTy} {M n : Nat}

/-- A copy under way: at its wait the destination reads as `B`, and the source's share comes back. -/
noncomputable def Copying (sem : DmaSem sig) (ι : Ix) (src : Memref sig c.2.kind sp (Row M) e) (q : PosShare TreeShare) (A : Nat → Elt F e)
    (dst : Memref sig c.2.kind sp' (Row n) e) (B : Nat → Elt F e) : sProp 𝕄 :=
  iprop(∃ (T : Finset (Idx (src.view.loc c))) (f : Buf (Elt F) (src.view.loc c)), ⌜Reads src.view f A⌝
    ∗ Transfers.Flight EC c (.dma sem) ι dst.view.dmaCredit iprop(Holds c dst fullShare B ∗ src.view.loc c ↦[T]{q} f)
    ∗ src.view.loc c ↦[Finset.univ \ T]{q} f)

/-- The start of a copy of the part at `a` of a flat array into a whole buffer. -/
theorem wp_start [Infinite Name] [EC.LandsIn (upEmb : UEmb _ 𝕄)] {α : Type} {Q : α → sProp 𝕄} {src : Memref sig c.2.kind sp (Row M) e} {q : PosShare TreeShare} {A B : Nat → Elt F e}
    {dst : Memref sig c.2.kind sp' (Row n) e} {off : Fin 1 → Nat} {inb : ∀ a, off a + (Row n).size a ≤ (Row M).size a} {a : Nat} (hoff : off = ![a]) (hn : 0 < (Row n).numel)
    {sem : DmaSem sig} {hr : ∀ a, (Rect.unit (s := Row M) off (Row n).size inb).stride a = 1} {hsrc hdst hsem} {k : PUnit → Prog (TpuEff nD τ sig (Elt F) Λ c.2) α} (ι : Ix)
    (hB : ∀ j, j < n → A (a + j) = B j) :
    iprop(Holds c src q A ∗ (∃ f : Buf (Elt F) (dst.view.loc c), dst.view.loc c ↦[Finset.univ]{fullShare} f) ∗ semVal (c, SemLoc.dma sem) 0)
      ⊢ iprop((Copying c EC sem ι src q A dst B -∗ wp frame (wpE (Ix := Ix) (Name := Name) (U := U) (Lvl := Lvl) defs 𝒱 c bd) Set.univ (k ⟨⟩) Q)
        -∗ wp frame (wpE (Ix := Ix) (Name := Name) (U := U) (Lvl := Lvl) defs 𝒱 c bd) Set.univ
            (.op (.enqueueDmaAs (src.slice (Rect.unit (s := Row M) off (Row n).size inb) hr) (.here dst) .same (.dma sem) hsrc hdst hsem) k) Q) := by
  subst hoff
  unfold Holds
  iintro ⟨⟨%f, %hf, Hs⟩, ⟨%g, Hd⟩, Hv⟩ Hk
  ihave ⟨Hs, Hs'⟩ := ((pointsTo_split_subset (Finset.subset_univ (src.slice (Rect.unit (s := Row M) ![a] (Row n).size inb) hr).view.set)).1) $$ Hs
  iapply (Transfers.wp_dmaLocal EC 𝒱 c bd ι dst.view.dmaCredit rfl (View.dmaCredit_pos _ hn) (Finset.subset_univ _)) $$ [Hs Hd Hv]
  · isplitl [Hs]; · iexact Hs
    isplitl [Hd]; · iexact Hd
    iexact Hv
  iintro Hf
  iapply Hk
  unfold Copying
  iexists _, f
  isplitr [Hf Hs']
  · ipureintro; exact hf
  isplitl [Hf]
  · iapply (Transfers.Flight_mono EC c ?_) $$ Hf
    iintro ⟨Hd, Hs⟩
    isplitl [Hd]
    · unfold Holds
      iexists _
      isplitr [Hd]
      swap
      · iexact Hd
      · ipureintro
        intro y
        rw [View.read_write_univ]
        refine (hf _).trans ?_
        have hy : (y 0).val < n := (y 0).isLt
        rw [← hB _ hy]
        refine congrArg A ?_
        show a + 1 * (y 0).val = _
        omega
    · iexact Hs
  · iexact Hs'

/-- Its wait. -/
theorem wp_wait [EC.LandsIn (upEmb : UEmb _ 𝕄)] {α : Type} {Q : α → sProp 𝕄} {src : Memref sig c.2.kind sp (Row M) e} {q : PosShare TreeShare} {A B : Nat → Elt F e}
    {dst : Memref sig c.2.kind sp' (Row n) e} {sem : DmaSem sig} {s' : Shape} {e' : EltTy} {sp₀ : Space} {srcw : Memref sig c.2.kind sp₀ s' e'} {hsrc hdst} {k : PUnit → Prog (TpuEff nD τ sig (Elt F) Λ c.2) α} {ι : Ix}
    {O : CellTallies nD τ sig Ix} {W : Waits sig Ix} :
    iprop(Copying c EC sem ι src q A dst B ∗ owes c O W ∗ Transfers.MayWaits c ι O)
      ⊢ iprop((iprop(Holds c src q A ∗ Holds c dst fullShare B ∗ semVal (c, SemLoc.dma sem) 0 ∗ owes c O (insert (SemLoc.dma sem, ι) W)) -∗ wp frame (wpE (Ix := Ix) (Name := Name) (U := U) (Lvl := Lvl) defs 𝒱 c bd) Set.univ (k ⟨⟩) Q)
        -∗ wp frame (wpE (Ix := Ix) (Name := Name) (U := U) (Lvl := Lvl) defs 𝒱 c bd) Set.univ
            (.op (.waitDma2 sem srcw dst hsrc hdst) k) Q) := by
  unfold Copying
  iintro ⟨⟨%T, %f, %hf, Hf, Hs'⟩, HO, Hmw⟩ Hk
  iapply (Transfers.wp_waitLocalO EC 𝒱 c bd ι rfl) $$ [Hf HO Hmw]
  · isplitl [Hf]; · iexact Hf
    isplitl [HO]; · iexact HO
    iapply (Transfers.MayWaits.elim (SemLoc.dma sem)) $$ Hmw
  iintro ⟨⟨Hd, Hs⟩, Hv, HO⟩
  iapply Hk
  ihave Hs := ((pointsTo_split_subset (Finset.subset_univ T)).2) $$ [Hs Hs']
  · isplitl [Hs]; · iexact Hs
    iexact Hs'
  isplitl [Hs]
  · unfold Holds
    iexists f
    isplitr [Hs]
    · ipureintro; exact hf
    · iexact Hs
  isplitl [Hd]; · iexact Hd
  isplitl [Hv]; · iexact Hv
  iexact HO

end PatchMean
-- ==== Proof.Counts.lean ====
/-
  The counts: sixteen positions counted at once by an indexed store that adds, and the row that each lane of a chunk names.
-/
module

public import proofs.«01_k».proof.Proof.Copies

@[expose] public section

namespace PatchMean

open Idealize.ShloMosaic Idealize.ShloMosaic.Affine
open Idealize.SL
open Idealize.SL.BI (sProp)
open scoped Idealize.SL.BI
open Idealize.SL.BI.BIBase Idealize.SL.BI.Laws Idealize.SL.Sem Idealize.SL.ProofMode
open Idealize.SL.RA

section Pure
variable {F : FTy → Type} [FloatOps F]

/-- The indexed store, as the first `j` lanes leave it. -/
theorem storeIdx_take {N : Nat} {f : Vec F (Row N) .f32} {idxs : Fin (Row N).rank → IVec ⟨1, ![16]⟩ 32} {v : Vec F ⟨1, ![16]⟩ .f32}
    {h : ∀ a x, (idxs a x).toNat < (Row N).size a} {id : Nat → BitVec 32} {pq ntp base n : Nat} (hv : ∀ x, v x = oneF)
    (hrel : ∀ x : (Row 16).Idx, (idxs 0 x).toNat = relN pq ntp (n + (x 0).val) (id (base + (n + (x 0).val))))
    (hf : ∀ y : (Row N).Idx, f y = cntF id pq ntp base n (y 0).val) (y : (Row N).Idx) :
    storeIdx f idxs v (fun _ => 1#1) true h y = cntF id pq ntp base (n + 16) (y 0).val := by
  have key : ∀ j ≤ 16, ∀ y : (Row N).Idx, ((List.finRange 16).take j).foldl (fun (g : Vec F (Row N) .f32) (k : Fin 16) =>
      let x : (Row 16).Idx := Shape.ofLane k
      let i := idxAt idxs h x
      let y := Elt.idxAdd .f32 (g i) (v x)
      fun j => if (∀ a, (j a).val = (i a).val) then y else g j) f y = cntF id pq ntp base (n + j) (y 0).val := by
    intro j
    induction j with
    | zero => intro _ y; exact hf y
    | succ j ih =>
      intro hj y
      have hjl : j < (List.finRange 16).length := by rw [List.length_finRange]; omega
      rw [List.take_add_one, List.getElem?_eq_getElem hjl, List.foldl_append, List.getElem_finRange]
      simp only [Option.toList, List.foldl_cons, List.foldl_nil]
      have e : (idxAt idxs h (Shape.ofLane (Fin.cast (List.length_finRange) ⟨j, hjl⟩) : (Row 16).Idx) 0).val = relN pq ntp (n + j) (id (base + (n + j))) := hrel _
      rw [hv, ih (by omega), ih (by omega)]
      show _ = if (y 0).val = relN pq ntp (n + j) (id (base + (n + j))) then FloatOps.idxAddf (cntF id pq ntp base (n + j) (y 0).val) oneF else cntF id pq ntp base (n + j) (y 0).val
      by_cases hy : (y 0).val = relN pq ntp (n + j) (id (base + (n + j)))
      · rw [if_pos hy, if_pos (fun a => by fin_cases a; exact hy.trans e.symm)]
        exact congrArg (fun r => FloatOps.idxAddf (cntF id pq ntp base (n + j) r) oneF) (e.trans hy.symm)
      · rw [if_neg hy, if_neg (fun h' => hy ((h' 0).trans e))]
  have := key 16 le_rfl y
  rw [List.take_of_length_le (by rw [List.length_finRange])] at this
  refine Eq.trans ?_ this
  unfold storeIdx
  refine congrFun (congrArg (fun s => List.foldl s f (List.finRange 16)) ?_) y
  funext g k
  dsimp only
  rw [if_pos (show (1#1 : BitVec 1) = 1 from rfl), if_pos (show true = true from rfl)]
  funext j
  congr

/-- The rows that a chunk's lanes name, as the kernel computes them all at once. -/
def relV (pq ntp kw : BitVec 32) (v : IVec (Row 16) 32) (hi : (Row 16).Iotas .scVector 32 [0]) : IVec (Row 16) 32 :=
  select (andi (andi (cmpi .slt (addi (iota .scVector (Row 16) 32 [0] hi) (broadcast (Row 16) (Scalar.addi (Scalar.muli kw 16#32) 0#32))) (broadcast (Row 16) ntp))
      (cmpi .sge (subi v (broadcast (Row 16) pq)) (broadcast (Row 16) 0#32))) (cmpi .slt (subi v (broadcast (Row 16) pq)) (broadcast (Row 16) 128#32)))
    (subi v (broadcast (Row 16) pq)) (broadcast (Row 16) 128#32)

theorem relV_toNat {lo mid hi : BitVec 32} {lc m h q : Nat} (S : Sums lo mid hi lc m h) (hq : q < 2) {cc ss : Nat} (hcc : cc < 2) (hss : ss < 16)
    {k : Nat} {kw : BitVec 32} (hkw : IsInt kw (k : Int)) (hk : k < nchN lc m h q) (v : IVec (Row 16) 32) (hi' : (Row 16).Iotas .scVector 32 [0]) (x : (Row 16).Idx) :
    (relV (pqW cc ss q) (ntpW lo mid hi q) kw v hi' x).toNat = relN (pqN cc ss q) (ntpN lc m h q) (16 * k + (x 0).val) (v x) := by
  have hn := nchN_le S hq
  have hx : (x 0).val < 16 := (x 0).isLt
  have e : relV (pqW cc ss q) (ntpW lo mid hi q) kw v hi' x = relW (pqW cc ss q) (ntpW lo mid hi q) (Scalar.addi (BitVec.ofNat 32 (0 * 16 + (x 0).val)) (Scalar.addi (Scalar.muli kw 16#32) 0#32)) (v x) := rfl
  rw [e]
  refine relW_toNat (pqW_isInt hcc hss hq) (ntpW_isInt S hq) ?_
  rw [Nat.zero_mul, Nat.zero_add]
  refine addi (lit _ (by omega)) (addi (e := 16 * (k : Int)) (muli (e := 16 * (k : Int)) hkw (lit 16 (by decide)) ⟨?_, ?_, ?_⟩) (lit 0 (by decide)) ⟨?_, ?_, ?_⟩) ⟨?_, ?_, ?_⟩ <;> omega

/-- They are inside the counts' buffer. -/
theorem relV_inb {lo mid hi : BitVec 32} {lc m h q : Nat} (S : Sums lo mid hi lc m h) (hq : q < 2) {cc ss : Nat} (hcc : cc < 2) (hss : ss < 16)
    {k : Nat} {kw : BitVec 32} (hkw : IsInt kw (k : Int)) (hk : k < nchN lc m h q) (v : IVec (Row 16) 32) (hi' : (Row 16).Iotas .scVector 32 [0]) :
    ∀ a x, ((![relV (pqW cc ss q) (ntpW lo mid hi q) kw v hi'] : Fin 1 → IVec (Row 16) 32) a x).toNat < (Row 144).size a := by
  intro a x
  fin_cases a
  show (relV (pqW cc ss q) (ntpW lo mid hi q) kw v hi' x).toNat < 144
  rw [relV_toNat S hq hcc hss hkw hk]
  exact lt_of_le_of_lt (relN_le _ _ _ _) (by decide)

end Pure

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)

local notation "𝕄" => MT nD τ sig Ix (Elt F) Name U Lvl

/-- The indexed store of a chunk counts its sixteen positions. -/
theorem wp_count {N : Nat} {m : Memref sig c.2.kind .vmem (Row N) .f32} {idxs : Fin (Row N).rank → IVec ⟨1, ![16]⟩ 32} {v : Vec F ⟨1, ![16]⟩ .f32}
    {h : ∀ a x, (idxs a x).toNat < (Row N).size a} {hs : (m.access (.whole (Row N))).Stores Finset.univ} {id : Nat → BitVec 32} {pq ntp base n : Nat} (hv : ∀ x, v x = oneF)
    (hrel : ∀ x : (Row 16).Idx, (idxs 0 x).toNat = relN pq ntp (n + (x 0).val) (id (base + (n + (x 0).val))))
    {α : Type} {k : PUnit → Prog (TpuEff nD τ sig (Elt F) Λ c.2) α} {Q : α → sProp 𝕄} :
    Holds c m fullShare (cntF id pq ntp base n)
      ⊢ iprop((Holds c m fullShare (cntF id pq ntp base (n + 16)) -∗ wp frame (wpE (Ix := Ix) (Name := Name) (U := U) (Lvl := Lvl) defs 𝒱 c bd) E (k ⟨⟩) Q)
        -∗ wp frame (wpE (Ix := Ix) (Name := Name) (U := U) (Lvl := Lvl) defs 𝒱 c bd) E (SparseCore.vectorStoreIdx m idxs v (fun _ => 1#1) true h hs >>= k) Q) := by
  rw [SparseCore.vectorStoreIdx_bind]
  unfold Holds
  iintro ⟨%f, %hf, H⟩ Hk
  iapply (wp_load_rect (defs := defs) 𝒱 c bd E (Q := Q) (r := Rect.whole (Row N)) (hl := View.loadsAt_rect hs.loads)
    (k := fun f' => .op (.store m (.whole (Row N)) (storeIdx f' idxs v (fun _ => 1#1) true h) Finset.univ hs (.inl rfl)) k)
    (q := fullShare) (f := f) (S := Finset.univ) (Finset.subset_univ _)) $$ H
  iintro H
  iapply (wp_store (defs := defs) 𝒱 c bd E (Q := Q) (m := m) (r := .whole (Row N)) (Mk := Finset.univ)
    (hx := hs) (hm := .inl rfl) (k := k) (f := f) (S := Finset.univ) (Finset.subset_univ _)) $$ H
  iintro H
  iapply Hk
  iexists _
  isplitr [H]
  swap
  · iexact H
  · ipureintro
    intro y
    have ey : (Rect.whole (Row N)).emb y = y := by
      funext a; apply Fin.ext; show 0 + 1 * (y a).val = _; omega
    have e := View.read_slice_write_emb (Val := Elt F) (v := m.view) (Rect.whole (Row N)) f (storeIdx ((m.access (.whole (Row N))).read (Elt F) f) idxs v (fun _ => 1#1) true h) (Finset.mem_univ y)
    rw [ey] at e
    refine e.trans ?_
    refine storeIdx_take hv hrel (fun y => ?_) y
    have ey : (Rect.whole (Row N)).emb y = y := by
      funext a; apply Fin.ext; show 0 + 1 * (y a).val = _; omega
    refine Eq.trans ?_ (hf y)
    show m.view.read (Elt F) f ((Rect.whole (Row N)).emb y) = _
    rw [ey]

end PatchMean
-- ==== Proof.Offsets.lean ====
/-
  The printed kernel's side conditions: each offset, branch and bound that a tile computes is one of the short words, so that every
  access stays inside its buffer whatever the identifiers are.
-/
module

public import proofs.«01_k».proof.KernelIdeal
public import proofs.«01_k».proof.Proof.Gen.KernelIdeal
public import proofs.«01_k».proof.Proof.Model

@[expose] public section

namespace PatchMean

open Idealize.ShloMosaic Idealize.ShloMosaic.Affine Cert.KernelIdeal

/-- The chunk that the first slot takes in pair `p`. -/
def k0W (p : Nat) : BitVec 32 := Scalar.muli (Scf.iv 0#32 1#32 p) 2#32
/-- The chunk that the second slot takes in pair `p`. -/
def k1W (p : Nat) : BitVec 32 := Scalar.addi (k0W p) 1#32
/-- The chunk that the first slot takes in the next pair. -/
def k2W (p : Nat) : BitVec 32 := Scalar.addi (k0W p) 2#32

theorem k0W_isInt {p : Nat} (hp : p < 512) : IsInt (k0W p) ((2 * p : Nat) : Int) := by
  unfold k0W
  refine muli (iv_isInt (by omega)) (lit 2 (by decide)) ⟨?_, ?_, ?_⟩ <;> omega
theorem k1W_isInt {p : Nat} (hp : p < 512) : IsInt (k1W p) ((2 * p + 1 : Nat) : Int) := by
  unfold k1W
  refine addi (k0W_isInt hp) (lit 1 (by decide)) ⟨?_, ?_, ?_⟩ <;> omega
theorem k2W_isInt {p : Nat} (hp : p < 512) : IsInt (k2W p) ((2 * p + 2 : Nat) : Int) := by
  unfold k2W
  refine addi (k0W_isInt hp) (lit 2 (by decide)) ⟨?_, ?_, ?_⟩ <;> omega

theorem coord0 (i : grid1.Coords) : (i 0).val < 2 := (i 0).isLt
theorem coord1 (i : grid1.Coords) : (i 1).val < 16 := (i 1).isLt
theorem half_lt (q : Fin k1_t3_loop.trips) : q.val < 2 := lt_of_lt_of_eq q.isLt (by decide)
theorem trip48 (t : Fin k1_t7_loop.trips) : t.val < 48 := lt_of_lt_of_eq t.isLt (by decide)

section
variable {lo mid hi : BitVec 32} {l m h : Nat} (S : Sums lo mid hi l m h)
include S

/-- The number of pairs of chunks. -/
theorem t6_trips (q : Fin k1_t3_loop.trips) : (k1_t6_loop lo mid hi q).trips = (nchN l m h q.val + 1) / 2 := by
  have hp := pairsW_isInt S (half_lt q)
  have hn := nchN_le S (half_lt q)
  have hu : IsInt (Scalar.addi 0#32 (Scalar.muli (Scalar.divsi (pairsW lo mid hi q.val) 1#32) 1#32)) (((nchN l m h q.val + 1) / 2 : Nat) : Int) := by
    rw [Scalar.muli_divsi_one]
    refine addi (lit 0 (by decide)) hp ⟨?_, ?_, ?_⟩ <;> omega
  refine trips_eq (lit 0 (by decide)) hu (lit 1 (by decide)) _ ⟨by decide, ?_⟩
  omega

theorem t6_ok (q : Fin k1_t3_loop.trips) : (k1_t6_loop lo mid hi q).OK := by
  have hp := pairsW_isInt S (half_lt q)
  have hn := nchN_le S (half_lt q)
  have hu : IsInt (Scalar.addi 0#32 (Scalar.muli (Scalar.divsi (pairsW lo mid hi q.val) 1#32) 1#32)) (((nchN l m h q.val + 1) / 2 : Nat) : Int) := by
    rw [Scalar.muli_divsi_one]
    refine addi (lit 0 (by decide)) hp ⟨?_, ?_, ?_⟩ <;> omega
  exact ok (lit 0 (by decide)) hu (lit 1 (by decide)) ⟨by decide, by omega⟩

theorem t6_lt {q : Fin k1_t3_loop.trips} (p : Fin (k1_t6_loop lo mid hi q).trips) : p.val < (nchN l m h q.val + 1) / 2 := lt_of_lt_of_eq p.isLt (t6_trips S q)

theorem t6_lt' {q : Fin k1_t3_loop.trips} (p : Fin (k1_t6_loop lo mid hi q).trips) : p.val < 512 := by
  have := t6_lt S p; have := nchN_le S (half_lt q); omega

/-! ### The branches -/

theorem cond1_iff (q : Fin k1_t3_loop.trips) : k1_cond1 lo mid hi q = 1#1 ↔ 0 < nchN l m h q.val := by
  have hn := nchW_isInt S (half_lt q)
  have e : k1_cond1 lo mid hi q = Scalar.cmpi .ne (Scalar.extui (Scalar.cmpi .sgt (nchW lo mid hi q.val) 0#32)) 0#32 := rfl
  rw [e]
  constructor
  · intro hb
    by_contra hlt
    exact ne_fails (extui_fails (sgt_fails hn (lit 0 (by decide)) (by omega)) rfl) (lit 0 (by decide)) rfl hb
  · intro hlt
    exact ne_holds (extui_holds (sgt_holds hn (lit 0 (by decide)) (by omega)) rfl) (lit 0 (by decide)) (by decide)

variable (q : Fin k1_t3_loop.trips) (p : Fin (k1_t6_loop lo mid hi q).trips)

theorem cond2_iff : k1_cond2 lo mid hi q p = 1#1 ↔ 2 * p.val < nchN l m h q.val := belowW_iff S (half_lt q) (k0W_isInt (t6_lt' S p))
theorem cond3_iff : k1_cond3 lo mid hi q p = 1#1 ↔ 2 * p.val + 1 < nchN l m h q.val := belowW_iff S (half_lt q) (k1W_isInt (t6_lt' S p))
theorem cond4_iff : k1_cond4 lo mid hi q p = 1#1 ↔ 2 * p.val + 1 < nchN l m h q.val := belowW_iff S (half_lt q) (k1W_isInt (t6_lt' S p))
theorem cond5_iff : k1_cond5 lo mid hi q p = 1#1 ↔ 2 * p.val + 2 < nchN l m h q.val := belowW_iff S (half_lt q) (k2W_isInt (t6_lt' S p))

theorem cond2_holds : k1_cond2 lo mid hi q p = 1#1 := (cond2_iff S q p).mpr (by have := t6_lt S p; omega)

/-! ### The accesses -/

omit S in
theorem inb1 {w : BitVec 32} {n k N : Nat} (hw : IsInt w (n : Int)) (hn : n + k ≤ N) : ∀ a : Fin 1, (![w.toNat] : Fin 1 → Nat) a + (Row k).size a ≤ (Row N).size a := by
  intro a
  fin_cases a
  show w.toNat + k ≤ N
  rw [nat_eq hw n rfl]; exact hn

theorem chunk_dvd {kw : BitVec 32} {k : Nat} (hkw : IsInt kw (k : Int)) (hk : k < nchN l m h q.val) : 16 ∣ (chunkW (bsW lo mid q.val) kw).toNat := by
  rw [nat_eq (chunkW_isInt S (half_lt q) hkw hk) _ rfl]
  unfold bsN; omega

theorem first_dvd (h0 : 0 < nchN l m h q.val) : 16 ∣ (firstW (bsW lo mid q.val)).toNat := by
  rw [nat_eq (firstW_isInt S (half_lt q) h0) _ rfl]
  unfold bsN; omega

section
variable {c s : Nat} (hc : c < 2) (hs : s < 16)
include hc hs

theorem id_inb {kw : BitVec 32} {k : Nat} (hkw : IsInt kw (k : Int)) (hk : k < nchN l m h q.val) :
    ∀ a : Fin 1, (![(idOffW c s (chunkW (bsW lo mid q.val) kw)).toNat] : Fin 1 → Nat) a + (Row 16).size a ≤ (Row 32768).size a := by
  have h1 := chunk_le S (half_lt q) hk
  have h2 := rowN_lt hc hs
  exact inb1 (idOffW_isInt hc hs (chunkW_isInt S (half_lt q) hkw hk) h1) (by unfold rbN; omega)

theorem row_inb {kw : BitVec 32} {k : Nat} (hkw : IsInt kw (k : Int)) (hk : k < nchN l m h q.val) :
    ∀ a : Fin 1, (![(rowOffW c s (chunkW (bsW lo mid q.val) kw)).toNat] : Fin 1 → Nat) a + (Row 12288).size a ≤ (Row 25165824).size a := by
  have h1 := chunk_le S (half_lt q) hk
  have h2 := rowN_lt hc hs
  exact inb1 (rowOffW_isInt hc hs (chunkW_isInt S (half_lt q) hkw hk) h1) (by unfold rbN; omega)

theorem id_inb0 (h0 : 0 < nchN l m h q.val) :
    ∀ a : Fin 1, (![(idOffW c s (firstW (bsW lo mid q.val))).toNat] : Fin 1 → Nat) a + (Row 16).size a ≤ (Row 32768).size a := by
  have h1 := chunk_le S (half_lt q) h0
  have h2 := rowN_lt hc hs
  exact inb1 (idOffW_isInt hc hs (firstW_isInt S (half_lt q) h0) (by omega)) (by unfold rbN; omega)

theorem row_inb0 (h0 : 0 < nchN l m h q.val) :
    ∀ a : Fin 1, (![(rowOffW c s (firstW (bsW lo mid q.val))).toNat] : Fin 1 → Nat) a + (Row 12288).size a ≤ (Row 25165824).size a := by
  have h1 := chunk_le S (half_lt q) h0
  have h2 := rowN_lt hc hs
  exact inb1 (rowOffW_isInt hc hs (firstW_isInt S (half_lt q) h0) (by omega)) (by unfold rbN; omega)

end

theorem src_inb {kw lw : BitVec 32} {k t : Nat} (hkw : IsInt kw (k : Int)) (hk : k < nchN l m h q.val) (hl : lw.toNat < 16) (ht : t < 48) :
    ∀ a : Fin 1, (![(srcW (bsW lo mid q.val) kw lw t).toNat] : Fin 1 → Nat) a + (Row 16).size a ≤ (Row 12288).size a := by
  have hlw : IsInt lw (lw.toNat : Int) := relit (word lw) (by rw [BitVec.toInt_eq_toNat_of_lt (by omega)])
  intro a
  fin_cases a
  show (srcW (bsW lo mid q.val) kw lw t).toNat + 16 ≤ 12288
  rw [srcW_toNat S (half_lt q) hkw hk hlw hl ht]; omega

theorem chk1_0_holds (i : grid1.Coords) : k1_chk1_0 i lo mid hi := by
  have hc := coord0 i
  have hs := coord1 i
  unfold k1_chk1_0
  refine ⟨fun q h1 => first_dvd S q ((cond1_iff S q).mp h1), fun q h1 => id_inb0 S q hc hs ((cond1_iff S q).mp h1),
    fun q h1 => row_inb0 S q hc hs ((cond1_iff S q).mp h1), fun q => t6_ok S q,
    fun q p h2 => chunk_dvd S q (k0W_isInt (t6_lt' S p)) ((cond2_iff S q p).mp h2),
    fun q p h2 => id_inb S q hc hs (k0W_isInt (t6_lt' S p)) ((cond2_iff S q p).mp h2),
    fun q p h2 => row_inb S q hc hs (k0W_isInt (t6_lt' S p)) ((cond2_iff S q p).mp h2),
    fun q p _ h3 => chunk_dvd S q (k1W_isInt (t6_lt' S p)) ((cond3_iff S q p).mp h3),
    fun q p _ h3 => id_inb S q hc hs (k1W_isInt (t6_lt' S p)) ((cond3_iff S q p).mp h3),
    fun q p _ h3 => row_inb S q hc hs (k1W_isInt (t6_lt' S p)) ((cond3_iff S q p).mp h3),
    fun q p h2 => chunk_dvd S q (k0W_isInt (t6_lt' S p)) ((cond2_iff S q p).mp h2), ?_⟩
  iterate 16 refine And.intro (fun q p t h2 => src_inb S q (k0W_isInt (t6_lt' S p)) ((cond2_iff S q p).mp h2) (by decide) (trip48 t)) ?_
  exact ⟨fun q p h4 => chunk_dvd S q (k1W_isInt (t6_lt' S p)) ((cond4_iff S q p).mp h4),
    fun q p h4 => id_inb S q hc hs (k1W_isInt (t6_lt' S p)) ((cond4_iff S q p).mp h4),
    fun q p h4 => row_inb S q hc hs (k1W_isInt (t6_lt' S p)) ((cond4_iff S q p).mp h4),
    fun q p _ h5 => chunk_dvd S q (k2W_isInt (t6_lt' S p)) ((cond5_iff S q p).mp h5),
    fun q p _ h5 => id_inb S q hc hs (k2W_isInt (t6_lt' S p)) ((cond5_iff S q p).mp h5)⟩

omit S in
theorem no_rem {lo mid hi : BitVec 32} {q : Fin k1_t3_loop.trips} (p : Fin (k1_t39_loop lo mid hi q).trips) : False := Scf.rem_no_trip _ _ p

theorem chk1_1_holds (i : grid1.Coords) : k1_chk1_1 i lo mid hi := by
  have hc := coord0 i
  have hs := coord1 i
  unfold k1_chk1_1
  refine ⟨fun q p _ h5 => row_inb S q hc hs (k2W_isInt (t6_lt' S p)) ((cond5_iff S q p).mp h5),
    fun q p h4 => chunk_dvd S q (k1W_isInt (t6_lt' S p)) ((cond4_iff S q p).mp h4), ?_⟩
  iterate 16 refine And.intro (fun q p t h4 => src_inb S q (k1W_isInt (t6_lt' S p)) ((cond4_iff S q p).mp h4) (by decide) (trip48 t)) ?_
  refine And.intro (fun q => Scf.rem_ok _ _) ?_
  repeat' apply And.intro
  all_goals exact fun q p => (no_rem p).elim

omit S in
theorem chk1_2_holds (i : grid1.Coords) {lo mid hi : BitVec 32} : k1_chk1_2 i lo mid hi := by
  unfold k1_chk1_2
  repeat' apply And.intro
  all_goals exact fun q p => (no_rem p).elim

omit S in
theorem chk1_3_holds (i : grid1.Coords) {lo mid hi : BitVec 32} : k1_chk1_3 i lo mid hi := fun q p => (no_rem p).elim

/-- Every access whose place depends on the counts alone stays in its buffer. -/
theorem chk1_holds (i : grid1.Coords) : k1_chk1 i lo mid hi := ⟨chk1_0_holds S i, chk1_1_holds S i, chk1_2_holds i, chk1_3_holds i⟩

end
end PatchMean
-- ==== Proof.Trip.lean ====
/-
  One trip of the loop over pairs of chunks: the first slot's chunk is waited for and processed while the second's is fetched, then the
  second's while the first's next is.
-/
module

public import proofs.«01_k».proof.Proof.Counts
public import proofs.«01_k».proof.Proof.Offsets
public import proofs.«01_k».proof.Proof.Gen.KernelIdeal.Skeleton

@[expose] public section

set_option maxHeartbeats 4000000

namespace PatchMean

open Idealize.ShloMosaic Idealize.ShloMosaic.Affine
open Idealize.SL
open Idealize.SL.BI (sProp)
open scoped Idealize.SL.BI
open Idealize.SL.BI.BIBase Idealize.SL.BI.Laws Idealize.SL.Sem Idealize.SL.ProofMode
open Idealize.SL.RA
open Cert.KernelIdeal Cert.KernelIdeal.Gen

variable {Ix : Type} [DecidableEq Ix]
variable {F : FTy → Type} [FloatOps F] {Name : Type} [DecidableEq Name] [Infinite Name]
variable {U : Type} [URA U] {Lvl : Type} [Preorder Lvl]

local notation "𝕄" => MT nD τ sig Ix (Elt F) Name U Lvl

variable {defs : Defs nD τ sig (Elt F) Λ₀} (𝒱 : Variants) (bd : Option 𝒱.V)
variable (EC : UEmb Counters (MT nD τ sig Ix (Elt F) Name U Lvl)) [EC.LandsIn (upEmb : UEmb _ (MT nD τ sig Ix (Elt F) Name U Lvl))]

/-- The tile at a launch's coordinates. -/
abbrev thr (d : Dev nD) (i : grid1.Coords) : Thread nD τ := (d, .scVector ((i 0).castLE hcore1) ((i 1).castLE hsub1))

section
variable (d : Dev nD) (i : grid1.Coords) (ι : Ix)
  (arg2 : Memref sig .scVector .hbm S25165824 .f32) (arg3 : Memref sig .scVector .hbm S32768 .i32)
  (q : PosShare TreeShare) (x : Nat → F .f32) (id : Nat → BitVec 32)
  (rows : Memref sig .scVector .vmem S12288 .f32) (idx : Memref sig .scVector .vmem S16 .i32) (s1 s2 : DmaSem sig)

/-- A slot with no copy under way. -/
noncomputable def slotIdle : sProp 𝕄 :=
  iprop((Holds (thr d i) arg3 q id ∗ (∃ f : Buf (Elt F) (idx.view.loc (thr d i)), idx.view.loc (thr d i) ↦[Finset.univ]{fullShare} f) ∗ semVal (thr d i, SemLoc.dma s1) 0)
    ∗ (Holds (thr d i) arg2 q x ∗ (∃ f : Buf (Elt F) (rows.view.loc (thr d i)), rows.view.loc (thr d i) ↦[Finset.univ]{fullShare} f) ∗ semVal (thr d i, SemLoc.dma s2) 0))

/-- A slot whose sixteen identifiers and rows from position `b` are being fetched. -/
noncomputable def slotBusy (b : Nat) : sProp 𝕄 :=
  iprop(Copying (thr d i) EC s1 ι arg3 q id idx (fun j => id (b + j)) ∗ Copying (thr d i) EC s2 ι arg2 q x rows (fun j => x (768 * b + j)))

end

/-- The start of a slot's two copies under a branch. -/
theorem wp_startIf {d : Dev nD} {i : grid1.Coords} {ι : Ix}
    {arg2 : Memref sig .scVector .hbm S25165824 .f32} {arg3 : Memref sig .scVector .hbm S32768 .i32} {q : PosShare TreeShare} {x : Nat → F .f32} {id : Nat → BitVec 32}
    {rows : Memref sig .scVector .vmem S12288 .f32} {idx : Memref sig .scVector .vmem S16 .i32} {s1 s2 : DmaSem sig} {cnd : BitVec 1} {P : Prop} [Decidable P] (hc : cnd = 1#1 ↔ P) {b : Nat}
    {off1 off2 : Fin 1 → Nat} (h1 : P → off1 = ![b]) (h2 : P → off2 = ![768 * b])
    {inb1 : cnd = 1#1 → ∀ a, off1 a + S16.size a ≤ S32768.size a} {inb2 : cnd = 1#1 → ∀ a, off2 a + S12288.size a ≤ S25165824.size a}
    {hr1 : cnd = 1#1 → ∀ a : Fin 1, 1 = 1} {hr2 : cnd = 1#1 → ∀ a : Fin 1, 1 = 1}
    {α : Type} {k : Prog (TpuEff nD τ sig (Elt F) Λ₀ (thr d i).2) α} {Q : α → sProp 𝕄}
    {hs1 : ∀ h : cnd = 1#1, (arg3.slice (Rect.unit (s := S32768) off1 S16.size (inb1 h)) (hr1 h)).view.WordExact} {hd1 : idx.view.WordExact}
    {hs2 : ∀ h : cnd = 1#1, (arg2.slice (Rect.unit (s := S25165824) off2 S12288.size (inb2 h)) (hr2 h)).view.WordExact} {hd2 : rows.view.WordExact}
    {ht1 : (DmaTarget.here idx : DmaTarget nD τ sig (thr d i).2 .vmem S16 .i32).Typed .hbm (.dma s1)} {ht2 : (DmaTarget.here rows : DmaTarget nD τ sig (thr d i).2 .vmem S12288 .f32).Typed .hbm (.dma s2)} :
    (slotIdle d i arg2 arg3 q x id rows idx s1 s2 : sProp 𝕄)
      ⊢ iprop((iprop(if P then slotBusy EC d i ι arg2 arg3 q x id rows idx s1 s2 b else slotIdle d i arg2 arg3 q x id rows idx s1 s2)
          -∗ wp frame (wpE (Ix := Ix) (Name := Name) (U := U) (Lvl := Lvl) defs 𝒱 (thr d i) bd) Set.univ k Q)
        -∗ wp frame (wpE (Ix := Ix) (Name := Name) (U := U) (Lvl := Lvl) defs 𝒱 (thr d i) bd) Set.univ
          (if h : cnd = 1#1 then do
              Prog.lift (.enqueueDma (arg3.slice (Rect.unit (s := S32768) off1 S16.size (inb1 h)) (hr1 h)) (.here idx) (.dma s1) (hs1 h) hd1 ht1)
              Prog.lift (.enqueueDma (arg2.slice (Rect.unit (s := S25165824) off2 S12288.size (inb2 h)) (hr2 h)) (.here rows) (.dma s2) (hs2 h) hd2 ht2)
              k
            else k) Q) := by
  by_cases hP : P
  · rw [dif_pos (hc.mpr hP), if_pos hP]
    unfold slotIdle slotBusy
    iintro ⟨Hi, Hr⟩ Hk
    iapply (wp_start 𝒱 (thr d i) bd EC (h1 hP) (by decide) ι (fun _ _ => rfl)) $$ Hi
    iintro Hi
    iapply (wp_start 𝒱 (thr d i) bd EC (h2 hP) (by decide) ι (fun _ _ => rfl)) $$ Hr
    iintro Hr
    iapply Hk
    isplitl [Hi]; · iexact Hi
    iexact Hr
  · rw [dif_neg (fun h => hP (hc.mp h)), if_neg hP]
    iintro H Hk
    iapply Hk
    iexact H

/-- The first position of the half's run in the flat list of identifiers. -/
def baseN (i : grid1.Coords) (l m q : Nat) : Nat := rbN (i 0).val (i 1).val + bsN l m q

/-- A chunk's identifiers and rows start at its first position. -/
theorem chunk_off {lo mid hi : BitVec 32} {l m h : Nat} (S : Sums lo mid hi l m h) (i : grid1.Coords) (q : Fin k1_t3_loop.trips) {kw : BitVec 32} {k : Nat}
    (hkw : IsInt kw (k : Int)) (hk : k < nchN l m h q.val) :
    (idOffW (i 0).val (i 1).val (chunkW (bsW lo mid q.val) kw)).toNat = baseN i l m q.val + 16 * k
      ∧ (rowOffW (i 0).val (i 1).val (chunkW (bsW lo mid q.val) kw)).toNat = 768 * (baseN i l m q.val + 16 * k) := by
  have h1 := chunk_le S (half_lt q) hk
  have hc := chunkW_isInt S (half_lt q) hkw hk
  refine ⟨nat_eq (idOffW_isInt (coord0 i) (coord1 i) hc h1) _ ?_, nat_eq (rowOffW_isInt (coord0 i) (coord1 i) hc h1) _ ?_⟩
  · unfold baseN; omega
  · unfold baseN; omega

/-- A branch taken. -/
theorem of_if_pos {P : Prop} [Decidable P] (hP : P) {A B : sProp 𝕄} : iprop(if P then A else B) ⊢ A := by rw [if_pos hP]
/-- A branch not taken. -/
theorem of_if_neg {P : Prop} [Decidable P] (hP : ¬ P) {A B : sProp 𝕄} : iprop(if P then A else B) ⊢ B := by rw [if_neg hP]
/-- What stands where a branch is not taken. -/
theorem to_if_neg {P : Prop} [Decidable P] (hP : ¬ P) {A B : sProp 𝕄} : B ⊢ iprop(if P then A else B) := by rw [if_neg hP]

/-- A buffer with known contents is a buffer. -/
theorem holds_any {sp : Space} {e : EltTy} {N : Nat} (c : Thread nD τ) {mm : Memref sig c.2.kind sp (Row N) e} {qm : PosShare TreeShare} {A : Nat → Elt F e} :
    (Holds c mm qm A : sProp 𝕄) ⊢ iprop(∃ f : Buf (Elt F) (mm.view.loc c), mm.view.loc c ↦[Finset.univ]{qm} f) := by
  unfold Holds
  iintro ⟨%f, -, H⟩
  iexists f
  iexact H

/-- A chunk's identifier by lane. -/
theorem lane_id {v : IVec (Row 16) 32} {id : Nat → BitVec 32} {b n : Nat} (hv : ∀ y : (Row 16).Idx, v y = id (b + n + (y 0).val)) {w : BitVec 32} {y : (Row 16).Idx} (e : w = v y)
    {j : Nat} (hy : (y 0).val = j) : w = id (b + (n + j)) := by
  rw [e, hv, hy, Nat.add_assoc]

/-- So do the first chunk's. -/
theorem first_off {lo mid hi : BitVec 32} {l m h : Nat} (S : Sums lo mid hi l m h) (i : grid1.Coords) (q : Fin k1_t3_loop.trips) (h0 : 0 < nchN l m h q.val) :
    (idOffW (i 0).val (i 1).val (firstW (bsW lo mid q.val))).toNat = baseN i l m q.val + 16 * (2 * 0)
      ∧ (rowOffW (i 0).val (i 1).val (firstW (bsW lo mid q.val))).toNat = 768 * (baseN i l m q.val + 16 * (2 * 0)) := by
  have h1 := chunk_le S (half_lt q) h0
  have hc := firstW_isInt S (half_lt q) h0
  refine ⟨nat_eq (idOffW_isInt (coord0 i) (coord1 i) hc (by omega)) _ ?_, nat_eq (rowOffW_isInt (coord0 i) (coord1 i) hc (by omega)) _ ?_⟩
  · unfold baseN; omega
  · unfold baseN; omega

/-- The load of a whole small buffer. -/
theorem wp_loadAll {N : Nat} {e : EltTy} {c : Thread nD τ} {mm : Memref sig c.2.kind .vmem (Row N) e} {qm : PosShare TreeShare} {A : Nat → Elt F e}
    {off : Fin 1 → Nat} {inb : ∀ a, off a + (Row N).size a ≤ (Row N).size a} (hoff : off = ![0])
    {hl : mm.view.LoadsAt (Rect.unit (s := Row N) off (Row N).size inb).toLoadRect} {α : Type} {k : Vec F (Row N) e → Prog (TpuEff nD τ sig (Elt F) Λ₀ c.2) α} {Q : α → sProp 𝕄} :
    Holds c mm qm A
      ⊢ iprop((∀ v : Vec F (Row N) e, iprop(⌜∀ x, v x = A (x 0).val⌝ ∗ Holds c mm qm A) -∗ wp frame (wpE (Ix := Ix) (Name := Name) (U := U) (Lvl := Lvl) defs 𝒱 c bd) Set.univ (k v) Q)
        -∗ wp frame (wpE (Ix := Ix) (Name := Name) (U := U) (Lvl := Lvl) defs 𝒱 c bd) Set.univ (.op (.load mm (Rect.unit (s := Row N) off (Row N).size inb).toLoadRect hl) k) Q) := by
  subst hoff
  unfold Holds
  iintro ⟨%f, %hf, H⟩ Hk
  iapply (wp_load (defs := defs) 𝒱 c bd Set.univ (m := mm) (S := Finset.univ) (Finset.subset_univ _)) $$ H
  iintro H
  iapply Hk
  isplitr [H]
  · ipureintro
    intro y
    have ey : (Rect.unit (s := Row N) (![0] : Fin 1 → Nat) (Row N).size inb).emb y = y := by
      funext a; apply Fin.ext; fin_cases a; show 0 + 1 * (y 0).val = _; simp
    refine Eq.trans ?_ (hf y)
    show mm.view.read (Elt F) f ((Rect.unit (s := Row N) (![0] : Fin 1 → Nat) (Row N).size inb).emb y) = _
    rw [ey]
  · iexists f
    isplitr [H]
    · ipureintro; exact hf
    · iexact H

variable {lo mid hi : BitVec 32} {l m h : Nat} (S : Sums lo mid hi l m h)
variable (d : Dev nD) (i : grid1.Coords) (ι : Ix)
  (arg2 : Memref sig .scVector .hbm S25165824 .f32) (harg2 : arg2.IsWhole) (arg3 : Memref sig .scVector .hbm S32768 .i32) (harg3 : arg3.IsWhole) (arg4 : Memref sig .scVector .hbm S6291456 .f32) (harg4 : arg4.IsWhole) (arg5 : Memref sig .scVector .hbm S8192 .f32) (harg5 : arg5.IsWhole) (arg6 : Memref sig .scVector .vmem S99072 .f32) (harg6 : arg6.IsWhole) (arg7 : Memref sig .scVector .vmem S144 .f32) (harg7 : arg7.IsWhole) (arg8 : Memref sig .scVector .vmem S12288 .f32) (harg8 : arg8.IsWhole) (arg9 : Memref sig .scVector .vmem S12288 .f32) (harg9 : arg9.IsWhole) (arg10 : Memref sig .scVector .vmem S1024 .i32) (harg10 : arg10.IsWhole) (arg11 : Memref sig .scVector .vmem S16 .i32) (harg11 : arg11.IsWhole) (arg12 : Memref sig .scVector .vmem S16 .i32) (harg12 : arg12.IsWhole) (arg13 : DmaSems sig S_) (arg14 : DmaSems sig S_) (arg15 : DmaSems sig S_) (arg16 : DmaSems sig S_) (v51_r0 : DmaSems sig S_) (v126_r1 : DmaSems sig S_) (v126_r2 : DmaSems sig S_)
  (q : Fin k1_t3_loop.trips) (qs : PosShare TreeShare) (x : Nat → F .f32) (id : Nat → BitVec 32) (O : CellTallies nD τ sig Ix) (W : Waits sig Ix)

/-- What the tile may have waited on: nothing new but at the index `ι`. -/
noncomputable def owesOf : sProp 𝕄 := iprop(∃ W' : Waits sig Ix, ⌜∀ p ∈ W', p ∈ W ∨ p.2 = ι⌝ ∗ owes (thr d i) O W')

/-- Before pair `p`: the chunks before it are in the accumulator and the counts, and the pair's first chunk is on its way. -/
noncomputable def pairInv (l m h : Nat) (p : Nat) : sProp 𝕄 :=
  iprop(Holds (thr d i) arg6 fullShare (accF x id (pqN (i 0).val (i 1).val q.val) (ntpN l m h q.val) (baseN i l m q.val) (16 * min (2 * p) (nchN l m h q.val)))
    ∗ Holds (thr d i) arg7 fullShare (cntF id (pqN (i 0).val (i 1).val q.val) (ntpN l m h q.val) (baseN i l m q.val) (16 * min (2 * p) (nchN l m h q.val)))
    ∗ (if 2 * p < nchN l m h q.val then slotBusy EC d i ι arg2 arg3 qs.left x id arg8 arg11 arg13.sem arg14.sem (baseN i l m q.val + 16 * (2 * p))
        else slotIdle d i arg2 arg3 qs.left x id arg8 arg11 arg13.sem arg14.sem)
    ∗ slotIdle d i arg2 arg3 qs.right x id arg9 arg12 arg15.sem arg16.sem
    ∗ owesOf d i ι O W)

include S in
/-- A pair of chunks. -/
theorem wp_pair (hw1 : k1_chk1 i lo mid hi) (v31 v75 c16 v76 v78 v92 u : BitVec 32) (v79 : BitVec 1) (p : Fin (k1_t6_loop lo mid hi q).trips) :
    iprop(Transfers.MayWaits (thr d i) ι O ∗ pairInv EC d i ι arg2 arg3 arg6 arg7 arg8 arg9 arg11 arg12 arg13 arg14 arg15 arg16 q qs x id O W l m h p.val)
      ⊢ wp frame (wpE (Ix := Ix) (Name := Name) (U := U) (Lvl := Lvl) defs 𝒱 (thr d i) bd) Set.univ
          (k1_t6_body (F := F) i arg2 harg2 arg3 harg3 arg4 harg4 arg5 harg5 arg6 harg6 arg7 harg7 arg8 harg8 arg9 harg9 arg10 harg10 arg11 harg11 arg12 harg12 arg13 arg14 arg15 arg16 v51_r0 v126_r1 v126_r2
            v31 lo mid hi hw1 q (pqW (i 0).val (i 1).val q.val) (bsW lo mid q.val) (ntpW lo mid hi q.val) v75 c16 v76 v78 v79 (nchW lo mid hi q.val) p u)
          (fun _ => pairInv EC d i ι arg2 arg3 arg6 arg7 arg8 arg9 arg11 arg12 arg13 arg14 arg15 arg16 q qs x id O W l m h (p.val + 1)) := by
  have h2 := cond2_holds S q p
  have h2' := (cond2_iff S q p).mp h2
  have hk0 := k0W_isInt (t6_lt' S p)
  have hk1 := k1W_isInt (t6_lt' S p)
  unfold pairInv
  rw [if_pos h2', Nat.min_eq_left (le_of_lt h2')]
  unfold owesOf
  iintro ⟨#Hmw, Ha, Hc, Hs0, Hs1, ⟨%W1, %hW1, HO⟩⟩
  unfold k1_t6_body
  dsimp only
  rw [dif_pos h2]
  rw [wp_bind, k1_part1_eq_skeleton]
  unfold k1_part1_skel
  dsimp only
  unfold slotBusy
  icases Hs0 with ⟨Hi, Hr⟩
  iapply (wp_wait 𝒱 (thr d i) bd EC) $$ [Hi HO]
  · isplitl [Hi]; · iexact Hi
    isplitl [HO]; · iexact HO
    iexact Hmw
  iintro ⟨Hi3, Hid, Hv1, HO⟩
  iapply (wp_wait 𝒱 (thr d i) bd EC) $$ [Hr HO]
  · isplitl [Hr]; · iexact Hr
    isplitl [HO]; · iexact HO
    iexact Hmw
  iintro ⟨Hb2, Hrow, Hv2, HO⟩
  iapply (wp_startIf 𝒱 bd EC (ι := ι) (cond3_iff S q p) (b := baseN i l m q.val + 16 * (2 * p.val + 1))
    (fun hk => congrArg (fun n : Nat => (![n] : Fin 1 → Nat)) (chunk_off S i q (k1W_isInt (t6_lt' S p)) hk).1)
    (fun hk => congrArg (fun n : Nat => (![n] : Fin 1 → Nat)) (chunk_off S i q (k1W_isInt (t6_lt' S p)) hk).2)) $$ Hs1
  iintro Hs1
  iapply (wp_loadAll 𝒱 bd (hoff := rfl)) $$ Hid
  iintro %v ⟨%hv, Hid⟩
  iapply (wp_assume 𝒱 (thr d i) bd Set.univ (fun _ => relV_inb S (half_lt q) (coord0 i) (coord1 i) (k0W_isInt (t6_lt' S p)) h2' v _))
  iapply (le_wp_ret _ _ _ _ _)
  dsimp only
  rw [wp_bind, k1_part2_eq_skeleton]
  unfold k1_part2_skel
  dsimp only
  iapply (wp_count 𝒱 (thr d i) bd Set.univ (fun _ => rfl) (fun y => (relV_toNat S (half_lt q) (coord0 i) (coord1 i) (k0W_isInt (t6_lt' S p)) h2' v _ y).trans (by rw [hv y, Nat.add_assoc]))) $$ Hc
  iintro Hc
  icombine Ha Hrow as H
  iapply (wp_assume 𝒱 (thr d i) bd Set.univ (fun t _ => acc_inb (half_lt q) (coord0 i) (coord1 i) S hk0 h2' (by decide) (trip48 t)))
  iapply (wp_lane 𝒱 (thr d i) bd Set.univ S (half_lt q) (coord0 i) (coord1 i) hk0 h2' 0 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (le_wp_ret _ _ _ _ _)
  dsimp only
  rw [wp_bind, k1_part3_eq_skeleton]
  unfold k1_part3_skel
  dsimp only
  iapply (wp_lane 𝒱 (thr d i) bd Set.univ S (half_lt q) (coord0 i) (coord1 i) hk0 h2' 1 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (wp_lane 𝒱 (thr d i) bd Set.univ S (half_lt q) (coord0 i) (coord1 i) hk0 h2' 2 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (le_wp_ret _ _ _ _ _)
  dsimp only
  rw [wp_bind, k1_part4_eq_skeleton]
  unfold k1_part4_skel
  dsimp only
  iapply (wp_lane 𝒱 (thr d i) bd Set.univ S (half_lt q) (coord0 i) (coord1 i) hk0 h2' 3 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (wp_lane 𝒱 (thr d i) bd Set.univ S (half_lt q) (coord0 i) (coord1 i) hk0 h2' 4 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (le_wp_ret _ _ _ _ _)
  dsimp only
  rw [wp_bind, k1_part5_eq_skeleton]
  unfold k1_part5_skel
  dsimp only
  iapply (wp_lane 𝒱 (thr d i) bd Set.univ S (half_lt q) (coord0 i) (coord1 i) hk0 h2' 5 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (wp_lane 𝒱 (thr d i) bd Set.univ S (half_lt q) (coord0 i) (coord1 i) hk0 h2' 6 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (le_wp_ret _ _ _ _ _)
  dsimp only
  rw [wp_bind, k1_part6_eq_skeleton]
  unfold k1_part6_skel
  dsimp only
  iapply (wp_assume 𝒱 (thr d i) bd Set.univ (fun t _ => acc_inb (half_lt q) (coord0 i) (coord1 i) S hk0 h2' (by decide) (trip48 t)))
  iapply (wp_lane 𝒱 (thr d i) bd Set.univ S (half_lt q) (coord0 i) (coord1 i) hk0 h2' 7 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (wp_lane 𝒱 (thr d i) bd Set.univ S (half_lt q) (coord0 i) (coord1 i) hk0 h2' 8 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (le_wp_ret _ _ _ _ _)
  dsimp only
  rw [wp_bind, k1_part7_eq_skeleton]
  unfold k1_part7_skel
  dsimp only
  iapply (wp_assume 𝒱 (thr d i) bd Set.univ (fun t _ => acc_inb (half_lt q) (coord0 i) (coord1 i) S hk0 h2' (by decide) (trip48 t)))
  iapply (wp_lane 𝒱 (thr d i) bd Set.univ S (half_lt q) (coord0 i) (coord1 i) hk0 h2' 9 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (le_wp_ret _ _ _ _ _)
  dsimp only
  rw [wp_bind, k1_part8_eq_skeleton]
  unfold k1_part8_skel
  dsimp only
  iapply (wp_lane 𝒱 (thr d i) bd Set.univ S (half_lt q) (coord0 i) (coord1 i) hk0 h2' 10 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (wp_lane 𝒱 (thr d i) bd Set.univ S (half_lt q) (coord0 i) (coord1 i) hk0 h2' 11 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (le_wp_ret _ _ _ _ _)
  dsimp only
  rw [wp_bind, k1_part9_eq_skeleton]
  unfold k1_part9_skel
  dsimp only
  iapply (wp_lane 𝒱 (thr d i) bd Set.univ S (half_lt q) (coord0 i) (coord1 i) hk0 h2' 12 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (wp_lane 𝒱 (thr d i) bd Set.univ S (half_lt q) (coord0 i) (coord1 i) hk0 h2' 13 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (le_wp_ret _ _ _ _ _)
  dsimp only
  iapply (wp_lane 𝒱 (thr d i) bd Set.univ S (half_lt q) (coord0 i) (coord1 i) hk0 h2' 14 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk0 h2' (by decide) (trip48 t)))
  iapply (wp_lane 𝒱 (thr d i) bd Set.univ S (half_lt q) (coord0 i) (coord1 i) hk0 h2' 15 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  icases H with ⟨Ha, Hrow⟩
  ihave Hs0 : slotIdle d i arg2 arg3 qs.left x id arg8 arg11 arg13.sem arg14.sem $$ [Hi3 Hid Hv1 Hb2 Hrow Hv2]
  · unfold slotIdle
    isplitl [Hi3 Hid Hv1]
    · isplitl [Hi3]; · iexact Hi3
      isplitl [Hid]; · iapply (holds_any _) $$ Hid
      iexact Hv1
    · isplitl [Hb2]; · iexact Hb2
      isplitl [Hrow]; · iapply (holds_any _) $$ Hrow
      iexact Hv2
  have e1 : 16 * (2 * p.val) + (15 + 1) = 16 * (2 * p.val + 1) := by omega
  rw [e1]
  by_cases h4' : 2 * p.val + 1 < nchN l m h q.val
  swap
  · have h4 : ¬ k1_cond4 lo mid hi q p = 1#1 := fun h4 => h4' ((cond4_iff S q p).mp h4)
    have e3 : min (2 * (p.val + 1)) (nchN l m h q.val) = 2 * p.val + 1 := by omega
    rw [dif_neg h4, e3]
    ihave Hs1 := (of_if_neg h4') $$ Hs1
    iapply (le_wp_ret _ _ _ _ _)
    isplitl [Ha]; · iexact Ha
    isplitl [Hc]; · iexact Hc
    isplitl [Hs0]; · iapply (to_if_neg (show ¬ 2 * (p.val + 1) < nchN l m h q.val by omega)) $$ Hs0
    isplitl [Hs1]; · iexact Hs1
    iexists _
    isplitr [HO]
    swap
    · iexact HO
    · ipureintro
      intro w hw
      rcases Finset.mem_insert.mp hw with e | hw
      · exact Or.inr (congrArg Prod.snd e)
      rcases Finset.mem_insert.mp hw with e | hw
      · exact Or.inr (congrArg Prod.snd e)
      exact hW1 w hw
  have h4 := (cond4_iff S q p).mpr h4'
  rw [dif_pos h4]
  ihave Hs1 := (of_if_pos h4') $$ Hs1
  rw [wp_bind, k1_part19_eq_skeleton]
  unfold k1_part19_skel
  dsimp only
  rw [wp_bind, k1_part10_eq_skeleton]
  unfold k1_part10_skel
  dsimp only
  unfold slotBusy
  icases Hs1 with ⟨Hi, Hr⟩
  iapply (wp_wait 𝒱 (thr d i) bd EC) $$ [Hi HO]
  · isplitl [Hi]; · iexact Hi
    isplitl [HO]; · iexact HO
    iexact Hmw
  iintro ⟨Hi3, Hid, Hv1, HO⟩
  iapply (wp_wait 𝒱 (thr d i) bd EC) $$ [Hr HO]
  · isplitl [Hr]; · iexact Hr
    isplitl [HO]; · iexact HO
    iexact Hmw
  iintro ⟨Hb2, Hrow, Hv2, HO⟩
  iapply (wp_startIf 𝒱 bd EC (ι := ι) (cond5_iff S q p) (b := baseN i l m q.val + 16 * (2 * p.val + 2))
    (fun hk => congrArg (fun n : Nat => (![n] : Fin 1 → Nat)) (chunk_off S i q (k2W_isInt (t6_lt' S p)) hk).1)
    (fun hk => congrArg (fun n : Nat => (![n] : Fin 1 → Nat)) (chunk_off S i q (k2W_isInt (t6_lt' S p)) hk).2)) $$ Hs0
  iintro Hs0
  iapply (wp_loadAll 𝒱 bd (hoff := rfl)) $$ Hid
  iintro %v' ⟨%hv, Hid⟩
  iapply (le_wp_ret _ _ _ _ _)
  dsimp only
  rw [wp_bind, k1_part11_eq_skeleton]
  unfold k1_part11_skel
  dsimp only
  iapply (wp_assume 𝒱 (thr d i) bd Set.univ (fun _ => relV_inb S (half_lt q) (coord0 i) (coord1 i) hk1 h4' v' _))
  iapply (wp_count 𝒱 (thr d i) bd Set.univ (fun _ => rfl) (fun y => (relV_toNat S (half_lt q) (coord0 i) (coord1 i) hk1 h4' v' _ y).trans (by rw [hv y, Nat.add_assoc]))) $$ Hc
  iintro Hc
  icombine Ha Hrow as H
  iapply (wp_assume 𝒱 (thr d i) bd Set.univ (fun t _ => acc_inb (half_lt q) (coord0 i) (coord1 i) S hk1 h4' (by decide) (trip48 t)))
  iapply (wp_lane 𝒱 (thr d i) bd Set.univ S (half_lt q) (coord0 i) (coord1 i) hk1 h4' 0 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (le_wp_ret _ _ _ _ _)
  dsimp only
  rw [wp_bind, k1_part12_eq_skeleton]
  unfold k1_part12_skel
  dsimp only
  iapply (wp_lane 𝒱 (thr d i) bd Set.univ S (half_lt q) (coord0 i) (coord1 i) hk1 h4' 1 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (wp_lane 𝒱 (thr d i) bd Set.univ S (half_lt q) (coord0 i) (coord1 i) hk1 h4' 2 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (le_wp_ret _ _ _ _ _)
  dsimp only
  rw [wp_bind, k1_part13_eq_skeleton]
  unfold k1_part13_skel
  dsimp only
  iapply (wp_lane 𝒱 (thr d i) bd Set.univ S (half_lt q) (coord0 i) (coord1 i) hk1 h4' 3 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (wp_lane 𝒱 (thr d i) bd Set.univ S (half_lt q) (coord0 i) (coord1 i) hk1 h4' 4 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (le_wp_ret _ _ _ _ _)
  dsimp only
  rw [wp_bind, k1_part14_eq_skeleton]
  unfold k1_part14_skel
  dsimp only
  iapply (wp_lane 𝒱 (thr d i) bd Set.univ S (half_lt q) (coord0 i) (coord1 i) hk1 h4' 5 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (wp_lane 𝒱 (thr d i) bd Set.univ S (half_lt q) (coord0 i) (coord1 i) hk1 h4' 6 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (le_wp_ret _ _ _ _ _)
  dsimp only
  rw [wp_bind, k1_part15_eq_skeleton]
  unfold k1_part15_skel
  dsimp only
  iapply (wp_assume 𝒱 (thr d i) bd Set.univ (fun t _ => acc_inb (half_lt q) (coord0 i) (coord1 i) S hk1 h4' (by decide) (trip48 t)))
  iapply (wp_lane 𝒱 (thr d i) bd Set.univ S (half_lt q) (coord0 i) (coord1 i) hk1 h4' 7 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (le_wp_ret _ _ _ _ _)
  dsimp only
  rw [wp_bind, k1_part16_eq_skeleton]
  unfold k1_part16_skel
  dsimp only
  iapply (wp_lane 𝒱 (thr d i) bd Set.univ S (half_lt q) (coord0 i) (coord1 i) hk1 h4' 8 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (wp_lane 𝒱 (thr d i) bd Set.univ S (half_lt q) (coord0 i) (coord1 i) hk1 h4' 9 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (le_wp_ret _ _ _ _ _)
  dsimp only
  rw [wp_bind, k1_part17_eq_skeleton]
  unfold k1_part17_skel
  dsimp only
  iapply (wp_lane 𝒱 (thr d i) bd Set.univ S (half_lt q) (coord0 i) (coord1 i) hk1 h4' 10 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (wp_lane 𝒱 (thr d i) bd Set.univ S (half_lt q) (coord0 i) (coord1 i) hk1 h4' 11 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (le_wp_ret _ _ _ _ _)
  dsimp only
  rw [wp_bind, k1_part18_eq_skeleton]
  unfold k1_part18_skel
  dsimp only
  iapply (wp_lane 𝒱 (thr d i) bd Set.univ S (half_lt q) (coord0 i) (coord1 i) hk1 h4' 12 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (wp_lane 𝒱 (thr d i) bd Set.univ S (half_lt q) (coord0 i) (coord1 i) hk1 h4' 13 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (le_wp_ret _ _ _ _ _)
  dsimp only
  iapply (wp_lane 𝒱 (thr d i) bd Set.univ S (half_lt q) (coord0 i) (coord1 i) hk1 h4' 14 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  iapply (wp_assume 𝒱 (thr d i) bd Set.univ (fun t _ => acc_inb (half_lt q) (coord0 i) (coord1 i) S hk1 h4' (by decide) (trip48 t)))
  iapply (le_wp_ret _ _ _ _ _)
  dsimp only
  iapply (wp_lane 𝒱 (thr d i) bd Set.univ S (half_lt q) (coord0 i) (coord1 i) hk1 h4' 15 (by decide) (h16 := by decide) ?hv ?hb ?hT ?hp ?ho ?ho') $$ H
  case hb => rfl
  case hT => decide
  case hp => rfl
  case ho => exact fun _ => rfl
  case ho' => exact fun _ => rfl
  case hv => exact lane_id hv rfl rfl
  iintro H
  icases H with ⟨Ha, Hrow⟩
  have e3 : 16 * (2 * p.val + 1) + (15 + 1) = 16 * min (2 * (p.val + 1)) (nchN l m h q.val) := by omega
  rw [e3]
  iapply (le_wp_ret _ _ _ _ _)
  isplitl [Ha]; · iexact Ha
  isplitl [Hc]; · iexact Hc
  isplitl [Hs0]; · iexact Hs0
  isplitl [Hi3 Hid Hv1 Hb2 Hrow Hv2]
  · unfold slotIdle
    isplitl [Hi3 Hid Hv1]
    · isplitl [Hi3]; · iexact Hi3
      isplitl [Hid]; · iapply (holds_any _) $$ Hid
      iexact Hv1
    · isplitl [Hb2]; · iexact Hb2
      isplitl [Hrow]; · iapply (holds_any _) $$ Hrow
      iexact Hv2
  iexists _
  isplitr [HO]
  swap
  · iexact HO
  · ipureintro
    intro w hw
    rcases Finset.mem_insert.mp hw with e | hw
    · exact Or.inr (congrArg Prod.snd e)
    rcases Finset.mem_insert.mp hw with e | hw
    · exact Or.inr (congrArg Prod.snd e)
    rcases Finset.mem_insert.mp hw with e | hw
    · exact Or.inr (congrArg Prod.snd e)
    rcases Finset.mem_insert.mp hw with e | hw
    · exact Or.inr (congrArg Prod.snd e)
    exact hW1 w hw

end PatchMean
-- ==== Proof.Fill.lean ====
/-
  The loops that clear a buffer, sixteen words a trip, and the copy of a buffer's first part out to a part of an array, waited for at once.
-/
module

public import proofs.«01_k».proof.Proof.Copies
public import proofs.«01_k».proof.Proof.Words

@[expose] public section

namespace PatchMean

open Idealize.ShloMosaic Idealize.ShloMosaic.Affine
open Idealize.SL
open Idealize.SL.BI (sProp)
open scoped Idealize.SL.BI
open Idealize.SL.BI.BIBase Idealize.SL.BI.Laws Idealize.SL.Sem Idealize.SL.ProofMode
open Idealize.SL.RA

/-- A clearing loop's place of trip `t`. -/
theorem fill_off {t : Nat} (ht : t < 6192) : (colW t).toNat = 16 * t := by
  have h : IsInt (colW t) ((16 * t : Nat) : Int) := by
    unfold colW
    refine addi (e := 16 * (t : Int)) (lit 0 (by decide)) (muli (e := 16 * (t : Int)) (iv_isInt (by omega)) (lit 16 (by decide)) ⟨?_, ?_, ?_⟩) ⟨?_, ?_, ?_⟩ <;> omega
  exact nat_eq h _ rfl

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)

local notation "𝕄" => MT nD τ sig Ix (Elt F) Name U Lvl

/-- One trip of a clearing loop: the sixteen words are read, and the filling stored over them. -/
def fillTrip {κ : Proc τ} {N : Nat} (m : Memref sig κ.kind .vmem (Row N) .f32) {T : Nat} (off : Fin T → Fin 1 → Nat)
    (inb : ∀ t a, off t a + (Row 16).size a ≤ (Row N).size a) (v : Vec F (Row 16) .f32) (h16 : 0 < (Row 16).numel) :
    Fin T → Unit → Prog (TpuEff nD τ sig (Elt F) Λ κ) Unit := fun t _ => do
  let _a : Vec F (Row 16) .f32 ← Prog.lift (.load m (Rect.unit (s := Row N) (off t) (Row 16).size (inb t)).toLoadRect (View.loadsAt_vmem h16))
  Prog.lift (.store m (Rect.unit (s := Row N) (off t) (Row 16).size (inb t)) v Finset.univ (View.stores_vmem_bits_univ h16 rfl) (.inl rfl))
  pure ⟨⟩

/-- Sixteen more words filled. -/
theorem fill_step {κ : Kind} {N : Nat} {m : View sig κ .vmem (Row N) .f32} {off : Fin 1 → Nat} {inb : ∀ a, off a + (Row 16).size a ≤ (Row N).size a}
    {f : m.ty.Contents (Elt F)} {z : F .f32} {v : Vec F (Row 16) .f32} {t : Nat} (hoff : off = ![16 * t]) (hv : ∀ x, v x = z)
    (hf : ∀ y : (Row N).Idx, (y 0).val < 16 * t → m.read (Elt F) f y = z) :
    ∀ y : (Row N).Idx, (y 0).val < 16 * (t + 1) → m.read (Elt F) ((m.slice (Rect.unit (s := Row N) off (Row 16).size inb)).write (Elt F) f v Finset.univ) y = z := by
  subst hoff
  intro y hy
  have e := View.read_writes_cons_unit m f inb v [] y rfl
  refine e.trans ?_
  by_cases h : 16 * t ≤ (y 0).val ∧ (y 0).val < 16 * t + 16
  · rw [dif_pos (fun a => by fin_cases a; exact h)]
    exact hv _
  · rw [dif_neg (fun h' => h (h' 0))]
    exact hf y (by omega)

/-- A clearing loop fills the whole buffer. -/
theorem wp_fill {N : Nat} {m : Memref sig c.2.kind .vmem (Row N) .f32} {z : F .f32}
    {lp : Scf.Loop 32} {ok : lp.OK} {body : Fin lp.trips → Unit → Prog (TpuEff nD τ sig (Elt F) Λ c.2) Unit}
    {off : Fin lp.trips → Fin 1 → Nat} {inb : ∀ t a, off t a + (Row 16).size a ≤ (Row N).size a} {v : Vec F (Row 16) .f32} {h16 : 0 < (Row 16).numel}
    (hbody : body = fillTrip (Λ := Λ) m off inb v h16) {T : Nat} (hT : lp.trips = T) (hN : N = 16 * T) (hv : ∀ x, v x = z) (hoff : ∀ t : Fin lp.trips, off t = ![16 * t.val])
    {α : Type} {kk : Unit → Prog (TpuEff nD τ sig (Elt F) Λ c.2) α} {Q : α → sProp 𝕄} :
    iprop(∃ f : Buf (Elt F) (m.view.loc c), m.view.loc c ↦[Finset.univ]{fullShare} f)
      ⊢ iprop((Holds c m fullShare (fun _ => z) -∗ wp frame (wpE (Ix := Ix) (Name := Name) (U := U) (Lvl := Lvl) defs 𝒱 c bd) Set.univ (kk ⟨⟩) Q)
        -∗ wp frame (wpE (Ix := Ix) (Name := Name) (U := U) (Lvl := Lvl) defs 𝒱 c bd) Set.univ (Scf.Loop.for lp ok ⟨⟩ body >>= kk) Q) := by
  subst hbody
  iintro ⟨%f, H⟩ Hk
  iapply (Scf.wp_for_bind frame (wpE (Ix := Ix) (Name := Name) (U := U) (Lvl := Lvl) defs 𝒱 c bd) Set.univ lp.lb lp.ub lp.st ok ⟨⟩ (fillTrip (Λ := Λ) m off inb v h16)
    (fun t _ => iprop(∃ f : Buf (Elt F) (m.view.loc c), ⌜∀ y : (Row N).Idx, (y 0).val < 16 * t → m.view.read (Elt F) f y = z⌝ ∗ m.view.loc c ↦[Finset.univ]{fullShare} f))
    ?_) $$ [H]
  rotate_left
  · iexists f
    isplitr [H]
    · ipureintro; intro y hy; omega
    · iexact H
  · iintro %u ⟨%f', %hf', H⟩
    iapply Hk
    unfold Holds
    iexists f'
    isplitr [H]
    · ipureintro
      intro y
      refine hf' y ?_
      have e : lp.trips = T := hT
      unfold Scf.Loop.trips at e
      rw [e]
      exact lt_of_lt_of_eq (y 0).isLt hN
    · iexact H
  · intro t u
    unfold fillTrip
    iintro ⟨%f, %hf, Hm⟩
    iapply (wp_load (defs := defs) 𝒱 c bd Set.univ (m := m) (S := Finset.univ) (Finset.subset_univ _)) $$ Hm
    iintro Hm
    iapply (wp_store (defs := defs) 𝒱 c bd Set.univ (m := m) (r := Rect.unit (s := Row N) (off t) (Row 16).size (inb t)) (f := f) (S := Finset.univ) (Finset.subset_univ _)) $$ Hm
    iintro Hm
    iapply (le_wp_ret _ _ _ _ _)
    iexists _
    isplitr [Hm]
    swap
    · iexact Hm
    · ipureintro
      exact fill_step (hoff t) hv hf

variable (EC : UEmb Counters (MT nD τ sig Ix (Elt F) Name U Lvl))

/-- A part of an array, whose contents read as `A` by position in the part. -/
noncomputable def Part {sp : Space} {e : EltTy} {n : Nat} (c : Thread nD τ) (m : Memref sig c.2.kind sp (Row n) e) (A : Nat → Elt F e) : sProp 𝕄 :=
  iprop(∃ f : Buf (Elt F) (m.view.loc c), ⌜Reads m.view f A⌝ ∗ m.view.loc c ↦[m.view.set]{fullShare} f)

/-- The copy of a buffer's first words over a part of an array, and its wait. -/
theorem wp_copyOut [Infinite Name] [EC.LandsIn (upEmb : UEmb _ 𝕄)] {sp sp' : Space} {e : EltTy} {M n : Nat} {α : Type} {Q : α → sProp 𝕄}
    {src : Memref sig c.2.kind sp (Row M) e} {A : Nat → Elt F e}
    {dst : Memref sig c.2.kind sp' (Row n) e} {inb : ∀ a, (![0] : Fin 1 → Nat) a + (Row n).size a ≤ (Row M).size a} (hn : 0 < (Row n).numel)
    {sem : DmaSem sig} {hr : ∀ a, (Rect.unit (s := Row M) ![0] (Row n).size inb).stride a = 1} {hsrc hdst hsem} {s' : Shape} {e' : EltTy} {sp₀ : Space} {srcw : Memref sig c.2.kind sp₀ s' e'} {hsrc' hdst'}
    {k : PUnit → Prog (TpuEff nD τ sig (Elt F) Λ c.2) α} {ι : Ix} {O : CellTallies nD τ sig Ix} {W : Waits sig Ix} :
    iprop(Holds c src fullShare A ∗ (∃ f : Buf (Elt F) (dst.view.loc c), dst.view.loc c ↦[dst.view.set]{fullShare} f) ∗ semVal (c, SemLoc.dma sem) 0 ∗ owes c O W ∗ Transfers.MayWaits c ι O)
      ⊢ iprop((iprop(Holds c src fullShare A ∗ Part c dst A ∗ semVal (c, SemLoc.dma sem) 0 ∗ owes c O (insert (SemLoc.dma sem, ι) W))
            -∗ wp frame (wpE (Ix := Ix) (Name := Name) (U := U) (Lvl := Lvl) defs 𝒱 c bd) Set.univ (k ⟨⟩) Q)
        -∗ wp frame (wpE (Ix := Ix) (Name := Name) (U := U) (Lvl := Lvl) defs 𝒱 c bd) Set.univ
            (.op (.enqueueDmaAs (src.slice (Rect.unit (s := Row M) ![0] (Row n).size inb) hr) (.here dst) .same (.dma sem) hsrc hdst hsem)
              (fun _ => .op (.waitDma2 sem srcw dst hsrc' hdst') k)) Q) := by
  unfold Holds
  iintro ⟨⟨%f, %hf, Hs⟩, ⟨%g, Hd⟩, Hv, HO, Hmw⟩ Hk
  ihave ⟨Hs, Hs'⟩ := ((pointsTo_split_subset (Finset.subset_univ (src.slice (Rect.unit (s := Row M) ![0] (Row n).size inb) hr).view.set)).1) $$ Hs
  iapply (Transfers.wp_dmaLocal EC 𝒱 c bd ι dst.view.dmaCredit rfl (View.dmaCredit_pos _ hn) (Finset.Subset.refl _)) $$ [Hs Hd Hv]
  · isplitl [Hs]; · iexact Hs
    isplitl [Hd]; · iexact Hd
    iexact Hv
  iintro Hf
  iapply (Transfers.wp_waitLocalO EC 𝒱 c bd ι rfl) $$ [Hf HO Hmw]
  · isplitl [Hf]; · iexact Hf
    isplitl [HO]; · iexact HO
    iapply (Transfers.MayWaits.elim (SemLoc.dma sem)) $$ Hmw
  iintro ⟨⟨Hd, Hs⟩, Hv, HO⟩
  iapply Hk
  ihave Hs := ((pointsTo_split_subset (ℓ := src.view.loc c) (Finset.subset_univ (src.slice (Rect.unit (s := Row M) ![0] (Row n).size inb) hr).view.set)).2) $$ [Hs Hs']
  · isplitl [Hs]; · iexact Hs
    iexact Hs'
  isplitl [Hs]
  · iexists f
    isplitr [Hs]
    · ipureintro; exact hf
    · iexact Hs
  isplitl [Hd]
  · unfold Part
    iexists _
    isplitr [Hd]
    swap
    · iexact Hd
    · ipureintro
      intro y
      rw [View.read_write_univ]
      refine (hf _).trans (congrArg A ?_)
      show 0 + 1 * (y 0).val = _
      omega
  isplitl [Hv]; · iexact Hv
  iexact HO

end PatchMean
-- ==== Proof.Pass.lean ====
/-
  One half of a tile's patches: the accumulator and the counts are cleared, the pairs of chunks added, and both copied out.
-/
module

public import proofs.«01_k».proof.Proof.Trip
public import proofs.«01_k».proof.Proof.Fill

@[expose] public section

set_option maxHeartbeats 200000

namespace PatchMean

open Idealize.ShloMosaic Idealize.ShloMosaic.Affine
open Idealize.SL
open Idealize.SL.BI (sProp)
open scoped Idealize.SL.BI
open Idealize.SL.BI.BIBase Idealize.SL.BI.Laws Idealize.SL.Sem Idealize.SL.ProofMode
open Idealize.SL.RA
open Cert.KernelIdeal Cert.KernelIdeal.Gen

variable {Ix : Type} [DecidableEq Ix]
variable {F : FTy → Type} [FloatOps F] {Name : Type} [DecidableEq Name] [Infinite Name]
variable {U : Type} [URA U] {Lvl : Type} [Preorder Lvl]

local notation "𝕄" => MT nD τ sig Ix (Elt F) Name U Lvl

variable {defs : Defs nD τ sig (Elt F) Λ₀} (𝒱 : Variants) (bd : Option 𝒱.V)
variable (EC : UEmb Counters (MT nD τ sig Ix (Elt F) Name U Lvl)) [EC.LandsIn (upEmb : UEmb _ (MT nD τ sig Ix (Elt F) Name U Lvl))]

/-- A loop without trips returns its start. -/
theorem loop_none {E : Type → Type} {σ : Type} {lp : Scf.Loop 32} {ok : lp.OK} {init : σ} {body : Fin lp.trips → σ → Prog E σ} (h : lp.trips = 0) :
    Scf.Loop.for lp ok init body = .ret init := Scf.for_eq_ret lp.lb lp.ub lp.st ok init body h

/-- The remainder loop has no trip. -/
theorem no_trips (lo mid hi : BitVec 32) (q : Fin k1_t3_loop.trips) : (k1_t39_loop lo mid hi q).trips = 0 :=
  Nat.eq_zero_of_not_pos fun h => no_rem ⟨0, h⟩

/-- What stays true is kept through a program. -/
theorem keep {c : Thread nD τ} {α : Type} {M I : sProp 𝕄} [BI.Persistent M] {p : Prog (TpuEff nD τ sig (Elt F) Λ₀ c.2) α} {J : sProp 𝕄}
    (h : iprop(M ∗ I) ⊢ wp Idealize.ShloMosaic.frame (wpE (Ix := Ix) (Name := Name) (U := U) (Lvl := Lvl) defs 𝒱 c bd) Set.univ p (fun _ => J)) :
    iprop(M ∗ I) ⊢ wp Idealize.ShloMosaic.frame (wpE (Ix := Ix) (Name := Name) (U := U) (Lvl := Lvl) defs 𝒱 c bd) Set.univ p (fun _ => iprop(M ∗ J)) := by
  iintro ⟨#Hm, H⟩
  iapply (wp_wand_r Idealize.ShloMosaic.frame (wpE (Ix := Ix) (Name := Name) (U := U) (Lvl := Lvl) defs 𝒱 c bd) Set.univ)
  isplitl [H]
  · iapply h
    isplitr [H]
    · iexact Hm
    · iexact H
  · iintro %a H
    isplitr [H]
    · iexact Hm
    · iexact H

variable {lo mid hi : BitVec 32} {l m h : Nat} (S : Sums lo mid hi l m h)
variable (d : Dev nD) (i : grid1.Coords) (ι : Ix)
  (arg2 : Memref sig .scVector .hbm S25165824 .f32) (harg2 : arg2.IsWhole) (arg3 : Memref sig .scVector .hbm S32768 .i32) (harg3 : arg3.IsWhole) (arg4 : Memref sig .scVector .hbm S6291456 .f32) (harg4 : arg4.IsWhole) (arg5 : Memref sig .scVector .hbm S8192 .f32) (harg5 : arg5.IsWhole) (arg6 : Memref sig .scVector .vmem S99072 .f32) (harg6 : arg6.IsWhole) (arg7 : Memref sig .scVector .vmem S144 .f32) (harg7 : arg7.IsWhole) (arg8 : Memref sig .scVector .vmem S12288 .f32) (harg8 : arg8.IsWhole) (arg9 : Memref sig .scVector .vmem S12288 .f32) (harg9 : arg9.IsWhole) (arg10 : Memref sig .scVector .vmem S1024 .i32) (harg10 : arg10.IsWhole) (arg11 : Memref sig .scVector .vmem S16 .i32) (harg11 : arg11.IsWhole) (arg12 : Memref sig .scVector .vmem S16 .i32) (harg12 : arg12.IsWhole) (arg13 : DmaSems sig S_) (arg14 : DmaSems sig S_) (arg15 : DmaSems sig S_) (arg16 : DmaSems sig S_) (v51_r0 : DmaSems sig S_) (v126_r1 : DmaSems sig S_) (v126_r2 : DmaSems sig S_)
  (q : Fin k1_t3_loop.trips) (qs : PosShare TreeShare) (x : Nat → F .f32) (id : Nat → BitVec 32) (O : CellTallies nD τ sig Ix) (W : Waits sig Ix)

/-- What a half works in: nothing of it is remembered between halves. -/
noncomputable def scratch : sProp 𝕄 :=
  iprop((∃ f : Buf (Elt F) (arg6.view.loc (thr d i)), arg6.view.loc (thr d i) ↦[Finset.univ]{fullShare} f)
    ∗ (∃ f : Buf (Elt F) (arg7.view.loc (thr d i)), arg7.view.loc (thr d i) ↦[Finset.univ]{fullShare} f)
    ∗ slotIdle d i arg2 arg3 qs.left x id arg8 arg11 arg13.sem arg14.sem
    ∗ slotIdle d i arg2 arg3 qs.right x id arg9 arg12 arg15.sem arg16.sem
    ∗ semVal (thr d i, SemLoc.dma v126_r1.sem) 0 ∗ semVal (thr d i, SemLoc.dma v126_r2.sem) 0
    ∗ owesOf d i ι O W)

/-- The half's place among the sums. -/
abbrev sumsAt : Memref sig .scVector .hbm S98304 .f32 := arg4.slice (Rect.unit (s := S6291456) (k1_off151 i q) S98304.size (k1_off151_inb i q)) (fun _ => rfl)
/-- The half's place among the counts. -/
abbrev cntsAt : Memref sig .scVector .hbm S128 .f32 := arg5.slice (Rect.unit (s := S8192) (k1_off152 i q) S128.size (k1_off152_inb i q)) (fun _ => rfl)

include S in
/-- After the last pair every chunk is in. -/
theorem pairInv_end :
    (pairInv EC d i ι arg2 arg3 arg6 arg7 arg8 arg9 arg11 arg12 arg13 arg14 arg15 arg16 q qs x id O W l m h (k1_t6_loop lo mid hi q).trips : sProp 𝕄)
      ⊢ iprop(Holds (thr d i) arg6 fullShare (accF x id (pqN (i 0).val (i 1).val q.val) (ntpN l m h q.val) (baseN i l m q.val) (16 * nchN l m h q.val))
        ∗ Holds (thr d i) arg7 fullShare (cntF id (pqN (i 0).val (i 1).val q.val) (ntpN l m h q.val) (baseN i l m q.val) (16 * nchN l m h q.val))
        ∗ slotIdle d i arg2 arg3 qs.left x id arg8 arg11 arg13.sem arg14.sem ∗ slotIdle d i arg2 arg3 qs.right x id arg9 arg12 arg15.sem arg16.sem
        ∗ owesOf d i ι O W) := by
  rw [t6_trips S q]
  unfold pairInv
  rw [if_neg (by omega), Nat.min_eq_right (by omega)]

include S EC in
/-- One half. -/
theorem wp_pass (hw1 : k1_chk1 i lo mid hi) (u : BitVec 32) :
    iprop(Transfers.MayWaits (thr d i) ι O ∗ scratch d i ι arg2 arg3 arg6 arg7 arg8 arg9 arg11 arg12 arg13 arg14 arg15 arg16 v126_r1 v126_r2 qs x id O W
      ∗ (∃ f : Buf (Elt F) ((sumsAt i arg4 q).view.loc (thr d i)), (sumsAt i arg4 q).view.loc (thr d i) ↦[(sumsAt i arg4 q).view.set]{fullShare} f)
      ∗ (∃ f : Buf (Elt F) ((cntsAt i arg5 q).view.loc (thr d i)), (cntsAt i arg5 q).view.loc (thr d i) ↦[(cntsAt i arg5 q).view.set]{fullShare} f))
      ⊢ wp frame (wpE (Ix := Ix) (Name := Name) (U := U) (Lvl := Lvl) defs 𝒱 (thr d i) bd) Set.univ
          (k1_t3_body (F := F) i arg2 harg2 arg3 harg3 arg4 harg4 arg5 harg5 arg6 harg6 arg7 harg7 arg8 harg8 arg9 harg9 arg10 harg10 arg11 harg11 arg12 harg12 arg13 arg14 arg15 arg16 v51_r0 v126_r1 v126_r2 (p0W (i 0).val (i 1).val) (rbW (i 0).val (i 1).val) lo mid hi hw1 q u)
          (fun _ => iprop(scratch d i ι arg2 arg3 arg6 arg7 arg8 arg9 arg11 arg12 arg13 arg14 arg15 arg16 v126_r1 v126_r2 qs x id O W
            ∗ Part (thr d i) (sumsAt i arg4 q) (accF x id (pqN (i 0).val (i 1).val q.val) (ntpN l m h q.val) (baseN i l m q.val) (16 * nchN l m h q.val))
            ∗ Part (thr d i) (cntsAt i arg5 q) (cntF id (pqN (i 0).val (i 1).val q.val) (ntpN l m h q.val) (baseN i l m q.val) (16 * nchN l m h q.val)))) := by
  have hn := nchN_le S (half_lt q)
  unfold scratch
  iintro ⟨#Hmw, ⟨Ha, Hc, Hs0, Hs1, Hv1, Hv2, HO⟩, Hso, Hco⟩
  unfold k1_t3_body
  dsimp only
  rw [wp_bind, k1_part39_eq_skeleton]
  unfold k1_part39_skel
  dsimp only
  iapply (wp_fill (thr d i) (𝒱 := 𝒱) (bd := bd) (z := zeroF) (h16 := by decide) ?hb (T := 6192) ?hT rfl ?hv ?ho) $$ Ha
  case hb => rfl
  case hT => decide
  case hv => exact fun _ => rfl
  case ho => exact fun t => congrArg (fun n : Nat => (![n] : Fin 1 → Nat)) (fill_off (lt_of_lt_of_eq t.isLt (by decide)))
  iintro Ha
  iapply (wp_fill (thr d i) (𝒱 := 𝒱) (bd := bd) (z := zeroF) (h16 := by decide) ?hb (T := 9) ?hT rfl ?hv ?ho) $$ Hc
  case hb => rfl
  case hT => decide
  case hv => exact fun _ => rfl
  case ho => exact fun t => congrArg (fun n : Nat => (![n] : Fin 1 → Nat)) (fill_off (lt_trans (lt_of_lt_of_eq t.isLt (show k1_t5_loop.trips = 9 by decide)) (by decide)))
  iintro Hc
  iapply (le_wp_ret _ _ _ _ _)
  dsimp only
  rw [wp_bind, k1_part40_eq_skeleton]
  unfold k1_part40_skel
  dsimp only
  iapply (wp_startIf 𝒱 bd EC (ι := ι) (cond1_iff S q) (b := baseN i l m q.val + 16 * (2 * 0))
    (fun hk => congrArg (fun n : Nat => (![n] : Fin 1 → Nat)) (first_off S i q hk).1)
    (fun hk => congrArg (fun n : Nat => (![n] : Fin 1 → Nat)) (first_off S i q hk).2)) $$ Hs0
  iintro Hs0
  iapply (Scf.wp_for_bind frame (wpE (Ix := Ix) (Name := Name) (U := U) (Lvl := Lvl) defs 𝒱 (thr d i) bd) Set.univ _ _ _ (k1_t6_ok i lo mid hi hw1 q) _ _
    (fun p _ => iprop(Transfers.MayWaits (thr d i) ι O ∗ pairInv EC d i ι arg2 arg3 arg6 arg7 arg8 arg9 arg11 arg12 arg13 arg14 arg15 arg16 q qs x id O W l m h p))
    ?hbody) $$ [Ha Hc Hs0 Hs1 HO]
  case hbody =>
    exact fun p u => keep 𝒱 bd (wp_pair (Name := Name) (U := U) (Lvl := Lvl) (Ix := Ix) (F := F) (defs := defs) 𝒱 bd EC S d i ι arg2 harg2 arg3 harg3 arg4 harg4 arg5 harg5 arg6 harg6 arg7 harg7 arg8 harg8 arg9 harg9 arg10 harg10 arg11 harg11 arg12 harg12 arg13 arg14 arg15 arg16 v51_r0 v126_r1 v126_r2 q qs x id O W hw1 _ _ _ _ _ 0#32 u _ p)
  · isplitr [Ha Hc Hs0 Hs1 HO]
    · iexact Hmw
    unfold pairInv
    rw [Nat.mul_zero, Nat.zero_min, Nat.mul_zero]
    isplitl [Ha]; · iexact Ha
    isplitl [Hc]; · iexact Hc
    isplitl [Hs0]; · iexact Hs0
    isplitl [Hs1]; · iexact Hs1
    iexact HO
  iintro %u2 ⟨-, H⟩
  ihave H := (pairInv_end EC S d i ι arg2 arg3 arg6 arg7 arg8 arg9 arg11 arg12 arg13 arg14 arg15 arg16 q qs x id O W) $$ H
  unfold owesOf
  icases H with ⟨Ha, Hc, Hs0, Hs1, ⟨%W1, %hW1, HO⟩⟩
  iapply (le_wp_ret _ _ _ _ _)
  dsimp only
  rw [loop_none (no_trips lo mid hi q)]
  rw [wp_bind]
  iapply (le_wp_ret _ _ _ _ _)
  iapply (wp_copyOut 𝒱 (thr d i) bd EC (by decide) (n := 98304)) $$ [Ha Hso Hv1 HO]
  · isplitl [Ha]; · iexact Ha
    isplitl [Hso]; · iexact Hso
    isplitl [Hv1]; · iexact Hv1
    isplitl [HO]; · iexact HO
    iexact Hmw
  iintro ⟨Ha, Hso, Hv1, HO⟩
  iapply (wp_copyOut 𝒱 (thr d i) bd EC (by decide) (n := 128)) $$ [Hc Hco Hv2 HO]
  · isplitl [Hc]; · iexact Hc
    isplitl [Hco]; · iexact Hco
    isplitl [Hv2]; · iexact Hv2
    isplitl [HO]; · iexact HO
    iexact Hmw
  iintro ⟨Hc, Hco, Hv2, HO⟩
  iapply (le_wp_ret _ _ _ _ _)
  isplitr [Hso Hco]
  · isplitl [Ha]; · iapply (holds_any _) $$ Ha
    isplitl [Hc]; · iapply (holds_any _) $$ Hc
    isplitl [Hs0]; · iexact Hs0
    isplitl [Hs1]; · iexact Hs1
    isplitl [Hv1]; · iexact Hv1
    isplitl [Hv2]; · iexact Hv2
    iexists _
    isplitr [HO]
    swap
    · iexact HO
    · ipureintro
      intro w hw
      rcases Finset.mem_insert.mp hw with e | hw
      · exact Or.inr (congrArg Prod.snd e)
      rcases Finset.mem_insert.mp hw with e | hw
      · exact Or.inr (congrArg Prod.snd e)
      exact hW1 w hw
  isplitl [Hso]; · iexact Hso
  iexact Hco

end PatchMean
-- ==== Proof.Tally.lean ====
/-
  The counting loops: how many of a row's identifiers lie below the tile's first patch, its middle one and its end. Each of the sixteen
  lanes counts the positions that fall to it, and a sum over the lanes counts the row.
-/
module

public import proofs.«01_k».proof.Proof.Words
public import proofs.«01_k».proof.Proof.Model
public import Mathlib.Data.Nat.Count

@[expose] public section

namespace PatchMean

open Idealize.ShloMosaic Idealize.ShloMosaic.Affine

/-- Whether the identifier at `j` past `b` lies below `t`. -/
def Below (id : Nat → BitVec 32) (b : Nat) (t : Int) (j : Nat) : Prop := (id (b + j)).toInt < t

instance (id : Nat → BitVec 32) (b : Nat) (t : Int) : DecidablePred (Below id b t) := fun j => inferInstanceAs (Decidable ((id (b + j)).toInt < t))

/-- What a lane has counted after `n` vectors. -/
def laneN (id : Nat → BitVec 32) (b : Nat) (t : Int) (n x : Nat) : Nat := Nat.count (fun u => Below id b t (16 * u + x)) n

/-- The lanes' counts as a vector of words. -/
def laneV (id : Nat → BitVec 32) (b : Nat) (t : Int) (n : Nat) : IVec (Row 16) 32 := fun x => BitVec.ofNat 32 (laneN id b t n (x 0).val)

/-- The row's count. -/
def belowN (id : Nat → BitVec 32) (b : Nat) (t : Int) : Nat := Nat.count (Below id b t) 8192

theorem laneV_zero (id : Nat → BitVec 32) (b : Nat) (t : Int) : laneV id b t 0 = fun _ => 0#32 := rfl

/-- One more vector. -/
theorem laneV_step {id : Nat → BitVec 32} {b : Nat} {t : Int} {tw : BitVec 32} (ht : IsInt tw t) {n : Nat} {v : IVec (Row 16) 32}
    (hv : ∀ x : (Row 16).Idx, v x = id (b + (16 * n + (x 0).val))) :
    (fun x => IntOp.addi (laneV id b t n x) (Scalar.select (IntOp.cmpi .slt (v x) tw) 1#32 0#32)) = laneV id b t (n + 1) := by
  have ht' : tw.toInt = t := by unfold IsInt at ht; exact ht
  funext x
  have hc : IntOp.cmpi .slt (v x) tw = (1 : BitVec 1) ↔ Below id b t (16 * n + (x 0).val) := by
    unfold Below
    refine IntOp.cmpi_slt.trans ?_
    rw [hv x, ht']
  unfold laneV laneN
  rw [Nat.count_succ]
  by_cases h : Below id b t (16 * n + (x 0).val)
  · rw [if_pos h, hc.mpr h]
    show BitVec.ofNat 32 _ + 1#32 = _
    rw [BitVec.ofNat_add]
  · rw [if_neg h]
    unfold Scalar.select
    rw [if_neg (fun hh => h (hc.mp hh))]
    show BitVec.ofNat 32 _ + 0#32 = _
    rw [BitVec.add_zero, Nat.add_zero]

/-- Sixteen lanes' counts make up the positions' count. -/
theorem count_sixteen (P : Nat → Prop) [DecidablePred P] (n : Nat) :
    Nat.count P (16 * n) = ∑ x ∈ Finset.range 16, Nat.count (fun u => P (16 * u + x)) n := by
  induction n with
  | zero => simp
  | succ n ih =>
    have e : ∀ x, Nat.count (fun u => P (16 * u + x)) (n + 1) = Nat.count (fun u => P (16 * u + x)) n + if P (16 * n + x) then 1 else 0 :=
      fun x => Nat.count_succ _ _
    simp only [e]
    rw [Finset.sum_add_distrib, ← ih, show 16 * (n + 1) = 16 * n + 16 by omega, Nat.count_add, Nat.count_eq_card_filter_range (fun k => P (16 * n + k)), Finset.card_filter]

/-- The wrapping sum of words that are numbers is the number of the sum. -/
theorem foldl_ofNat (g : Fin 16 → Nat) (L : List (Fin 16)) (a : Nat) :
    L.foldl (fun (r : BitVec 32) k => r + BitVec.ofNat 32 (g k)) (BitVec.ofNat 32 a) = BitVec.ofNat 32 (a + (L.map g).sum) := by
  induction L generalizing a with
  | nil => simp
  | cons k L ih =>
    rw [List.foldl_cons, ← BitVec.ofNat_add, ih, List.map_cons, List.sum_cons, Nat.add_assoc]

/-- The last lane of the running sums of words that are numbers. -/
theorem scan_last (v : IVec (Row 16) 32) (g : Nat → Nat) (hv : ∀ x : (Row 16).Idx, v x = BitVec.ofNat 32 (g (x 0).val)) (h : ∀ a, (![15] : Fin 1 → Nat) a < (Row 16).size a) :
    extractAt (s := Row 16) ![15] (scan .sum v) h = BitVec.ofNat 32 (∑ x ∈ Finset.range 16, g x) := by
  have hv' : v = fun x => BitVec.ofNat 32 (g (x 0).val) := funext hv
  subst hv'
  have e := foldl_ofNat (fun x => g x.val) ((List.finRange 16).filter fun k => decide (0 < k.val ∧ k.val ≤ 15)) (g 0)
  refine Eq.trans ?_ (e.trans ?_)
  · rfl
  · rw [show ((List.finRange 16).filter fun k => decide (0 < k.val ∧ k.val ≤ 15)) = [1, 2, 3, 4, 5, 6, 7, 8, 9, 10, 11, 12, 13, 14, 15] from by decide]
    refine congrArg (BitVec.ofNat 32) ?_
    simp only [Finset.sum_range_succ, Finset.sum_range_zero, List.map_cons, List.map_nil, List.sum_cons, List.sum_nil]
    show g 0 + (g 1 + (g 2 + (g 3 + (g 4 + (g 5 + (g 6 + (g 7 + (g 8 + (g 9 + (g 10 + (g 11 + (g 12 + (g 13 + (g 14 + (g 15 + 0))))))))))))))) = _
    omega

/-- The last lane of the running sums counts the whole row. -/
theorem scan_laneV (id : Nat → BitVec 32) (b : Nat) (t : Int) (h : ∀ a, (![15] : Fin 1 → Nat) a < (Row 16).size a) :
    extractAt (s := Row 16) ![15] (scan .sum (laneV id b t 512)) h = BitVec.ofNat 32 (belowN id b t) := by
  refine (scan_last (laneV id b t 512) (laneN id b t 512) (fun _ => rfl) h).trans ?_
  refine congrArg (BitVec.ofNat 32) ?_
  unfold belowN
  rw [show 8192 = 16 * 512 from rfl, count_sixteen]
  rfl

theorem belowN_le (id : Nat → BitVec 32) (b : Nat) (t : Int) : belowN id b t ≤ 8192 := Nat.count_le _

theorem belowN_mono (id : Nat → BitVec 32) (b : Nat) {t t' : Int} (h : t ≤ t') : belowN id b t ≤ belowN id b t' :=
  Nat.count_mono_left (p := Below id b t) fun _ _ hk => lt_of_lt_of_le hk h

/-- The three counts of a tile. -/
theorem sums_of (id : Nat → BitVec 32) (b p : Nat) :
    Sums (BitVec.ofNat 32 (belowN id b (p : Int))) (BitVec.ofNat 32 (belowN id b ((p + 128 : Nat) : Int))) (BitVec.ofNat 32 (belowN id b ((p + 256 : Nat) : Int)))
      (belowN id b (p : Int)) (belowN id b ((p + 128 : Nat) : Int)) (belowN id b ((p + 256 : Nat) : Int)) where
  lo := lit _ (lt_of_le_of_lt (belowN_le _ _ _) (by decide))
  mid := lit _ (lt_of_le_of_lt (belowN_le _ _ _) (by decide))
  hi := lit _ (lt_of_le_of_lt (belowN_le _ _ _) (by decide))
  lm := belowN_mono id b (by omega)
  mh := belowN_mono id b (by omega)
  top := belowN_le _ _ _

end PatchMean
-- ==== Proof.TallyRun.lean ====
/-
  The counting loops run: eight copies of 1024 identifiers, sixty-four vectors each.
-/
module

public import proofs.«01_k».proof.Proof.Pass
public import proofs.«01_k».proof.Proof.Tally

@[expose] public section

set_option pp.maxSteps 200

namespace PatchMean

open Idealize.ShloMosaic Idealize.ShloMosaic.Affine
open Idealize.SL
open Idealize.SL.BI (sProp)
open scoped Idealize.SL.BI
open Idealize.SL.BI.BIBase Idealize.SL.BI.Laws Idealize.SL.Sem Idealize.SL.ProofMode
open Idealize.SL.RA
open Cert.KernelIdeal Cert.KernelIdeal.Gen

variable {Ix : Type} [DecidableEq Ix]
variable {F : FTy → Type} [FloatOps F] {Name : Type} [DecidableEq Name] [Infinite Name]
variable {U : Type} [URA U] {Lvl : Type} [Preorder Lvl]

local notation "𝕄" => MT nD τ sig Ix (Elt F) Name U Lvl

variable {defs : Defs nD τ sig (Elt F) Λ₀} (𝒱 : Variants) (bd : Option 𝒱.V)
variable (EC : UEmb Counters (MT nD τ sig Ix (Elt F) Name U Lvl)) [EC.LandsIn (upEmb : UEmb _ (MT nD τ sig Ix (Elt F) Name U Lvl))]

/-- The load of sixteen words of a buffer. -/
theorem wp_loadAt {N : Nat} {e : EltTy} {c : Thread nD τ} {mm : Memref sig c.2.kind .vmem (Row N) e} {qm : PosShare TreeShare} {A : Nat → Elt F e}
    {off : Fin 1 → Nat} {a : Nat} {inb : ∀ a, off a + (Row 16).size a ≤ (Row N).size a} (hoff : off = ![a])
    {hl : mm.view.LoadsAt (Rect.unit (s := Row N) off (Row 16).size inb).toLoadRect} {α : Type} {k : Vec F (Row 16) e → Prog (TpuEff nD τ sig (Elt F) Λ₀ c.2) α} {Q : α → sProp 𝕄} :
    Holds c mm qm A
      ⊢ iprop((∀ v : Vec F (Row 16) e, iprop(⌜∀ x, v x = A (a + (x 0).val)⌝ ∗ Holds c mm qm A) -∗ wp frame (wpE (Ix := Ix) (Name := Name) (U := U) (Lvl := Lvl) defs 𝒱 c bd) Set.univ (k v) Q)
        -∗ wp frame (wpE (Ix := Ix) (Name := Name) (U := U) (Lvl := Lvl) defs 𝒱 c bd) Set.univ (.op (.load mm (Rect.unit (s := Row N) off (Row 16).size inb).toLoadRect hl) k) Q) := by
  subst hoff
  unfold Holds
  iintro ⟨%f, %hf, H⟩ Hk
  iapply (wp_load (defs := defs) 𝒱 c bd Set.univ (m := mm) (S := Finset.univ) (Finset.subset_univ _)) $$ H
  iintro H
  iapply Hk
  isplitr [H]
  · ipureintro
    intro y
    refine (hf _).trans (congrArg A ?_)
    show a + 1 * (y 0).val = _
    omega
  · iexists f
    isplitr [H]
    · ipureintro; exact hf
    · iexact H

/-- The lanes' counts against the tile's three bounds. -/
def tallies (id : Nat → BitVec 32) (c s n : Nat) : IVec S16 32 × IVec S16 32 × IVec S16 32 :=
  (laneV id (rbN c s) (p0N c s : Int) n, laneV id (rbN c s) ((p0N c s + 128 : Nat) : Int) n, laneV id (rbN c s) ((p0N c s + 256 : Nat) : Int) n)

/-- One vector counted. -/
theorem tallies_step (id : Nat → BitVec 32) (i : grid1.Coords) {n : Nat} {v : Vec F S16 .i32}
    (hv : ∀ x : (Row 16).Idx, v x = id (rbN (i 0).val (i 1).val + (16 * n + (x 0).val))) :
    (k1_pay148 (F := F) i (tallies id (i 0).val (i 1).val n).1 v, k1_pay149 (F := F) i (tallies id (i 0).val (i 1).val n).2.1 v, k1_pay150 (F := F) i (tallies id (i 0).val (i 1).val n).2.2 v)
      = tallies id (i 0).val (i 1).val (n + 1) := by
  have h0 := p0W_isInt (coord0 i) (coord1 i)
  have hl : p0N (i 0).val (i 1).val < 2048 := by unfold p0N; omega
  have h1 : IsInt (Scalar.addi (p0W (i 0).val (i 1).val) 128#32) ((p0N (i 0).val (i 1).val + 128 : Nat) : Int) := addi h0 (lit 128 (by decide)) ⟨by omega, by omega, by omega⟩
  have h2 : IsInt (Scalar.addi (p0W (i 0).val (i 1).val) 256#32) ((p0N (i 0).val (i 1).val + 256 : Nat) : Int) := addi h0 (lit 256 (by decide)) ⟨by omega, by omega, by omega⟩
  exact Prod.ext (laneV_step h0 hv) (Prod.ext (laneV_step h1 hv) (laneV_step h2 hv))

/-- Where the counting loop's copies start. -/
theorem part_off (i : grid1.Coords) {k : Nat} (hk : k < 8) :
    (Scalar.addi (rbW (i 0).val (i 1).val) (Scalar.muli (Scf.iv 0#32 1#32 k) 1024#32)).toNat = rbN (i 0).val (i 1).val + 1024 * k := by
  have hr := rowN_lt (coord0 i) (coord1 i)
  have he : rbN (i 0).val (i 1).val = 8192 * rowN (i 0).val (i 1).val := rfl
  have h : IsInt (Scalar.addi (rbW (i 0).val (i 1).val) (Scalar.muli (Scf.iv 0#32 1#32 k) 1024#32)) ((rbN (i 0).val (i 1).val + 1024 * k : Nat) : Int) := by
    refine addi (e := _) (rbW_isInt (coord0 i) (coord1 i)) (muli (e := 1024 * (k : Int)) (iv_isInt (by omega)) (lit 1024 (by decide)) ⟨?_, ?_, ?_⟩) ⟨?_, ?_, ?_⟩ <;> omega
  exact nat_eq h _ rfl

/-- Where its vectors lie in the copy. -/
theorem vec_off {v : Nat} (hv : v < 64) : (Scalar.muli (Scf.iv 0#32 1#32 v) 16#32).toNat = 16 * v := by
  have h : IsInt (Scalar.muli (Scf.iv 0#32 1#32 v) 16#32) ((16 * v : Nat) : Int) := by
    refine muli (iv_isInt (by omega)) (lit 16 (by decide)) ⟨?_, ?_, ?_⟩ <;> omega
  exact nat_eq h _ rfl

variable (d : Dev nD) (i : grid1.Coords) (ι : Ix)
  (arg2 : Memref sig .scVector .hbm S25165824 .f32) (harg2 : arg2.IsWhole) (arg3 : Memref sig .scVector .hbm S32768 .i32) (harg3 : arg3.IsWhole) (arg4 : Memref sig .scVector .hbm S6291456 .f32) (harg4 : arg4.IsWhole) (arg5 : Memref sig .scVector .hbm S8192 .f32) (harg5 : arg5.IsWhole) (arg6 : Memref sig .scVector .vmem S99072 .f32) (harg6 : arg6.IsWhole) (arg7 : Memref sig .scVector .vmem S144 .f32) (harg7 : arg7.IsWhole) (arg8 : Memref sig .scVector .vmem S12288 .f32) (harg8 : arg8.IsWhole) (arg9 : Memref sig .scVector .vmem S12288 .f32) (harg9 : arg9.IsWhole) (arg10 : Memref sig .scVector .vmem S1024 .i32) (harg10 : arg10.IsWhole) (arg11 : Memref sig .scVector .vmem S16 .i32) (harg11 : arg11.IsWhole) (arg12 : Memref sig .scVector .vmem S16 .i32) (harg12 : arg12.IsWhole) (arg13 : DmaSems sig S_) (arg14 : DmaSems sig S_) (arg15 : DmaSems sig S_) (arg16 : DmaSems sig S_) (v51_r0 : DmaSems sig S_) (v126_r1 : DmaSems sig S_) (v126_r2 : DmaSems sig S_)
  (qs : PosShare TreeShare) (x : Nat → F .f32) (id : Nat → BitVec 32) (O : CellTallies nD τ sig Ix) (W : Waits sig Ix)

/-- Before a copy of the counting loop: the lanes' counts so far, and what the loop works in. -/
noncomputable def tallyInv (n : Nat) (acc : IVec S16 32 × IVec S16 32 × IVec S16 32) : sProp 𝕄 :=
  iprop(⌜acc = tallies id (i 0).val (i 1).val n⌝ ∗ Holds (thr d i) arg3 qs id
    ∗ (∃ f : Buf (Elt F) (arg10.view.loc (thr d i)), arg10.view.loc (thr d i) ↦[Finset.univ]{fullShare} f) ∗ semVal (thr d i, SemLoc.dma v51_r0.sem) 0 ∗ owesOf d i ι O W)

include EC in
/-- One copy and its vectors. -/
theorem wp_tally (k : Fin k1_t1_loop.trips) (acc : IVec S16 32 × IVec S16 32 × IVec S16 32) :
    iprop(Transfers.MayWaits (thr d i) ι O ∗ tallyInv d i ι arg3 arg10 v51_r0 qs id O W (64 * k.val) acc)
      ⊢ wp frame (wpE (Ix := Ix) (Name := Name) (U := U) (Lvl := Lvl) defs 𝒱 (thr d i) bd) Set.univ
          (k1_t1_body (F := F) i arg2 harg2 arg3 harg3 arg4 harg4 arg5 harg5 arg6 harg6 arg7 harg7 arg8 harg8 arg9 harg9 arg10 harg10 arg11 harg11 arg12 harg12 arg13 arg14 arg15 arg16 v51_r0 v126_r1 v126_r2 k acc)
          (fun acc => tallyInv d i ι arg3 arg10 v51_r0 qs id O W (64 * (k.val + 1)) acc) := by
  have hk : k.val < 8 := lt_of_lt_of_eq k.isLt (by decide)
  unfold tallyInv owesOf
  iintro ⟨#Hmw, ⟨%hacc, H3, H10, Hv, ⟨%W1, %hW1, HO⟩⟩⟩
  subst hacc
  unfold k1_t1_body
  dsimp only
  iapply (wp_start 𝒱 (thr d i) bd EC (n := 1024) (congrArg (fun n : Nat => (![n] : Fin 1 → Nat)) (part_off i hk)) (by decide) ι (fun _ _ => rfl)) $$ [H3 H10 Hv]
  · isplitl [H3]; · iexact H3
    isplitl [H10]; · iexact H10
    iexact Hv
  iintro H
  iapply (wp_wait 𝒱 (thr d i) bd EC) $$ [H HO]
  · isplitl [H]; · iexact H
    isplitl [HO]; · iexact HO
    iexact Hmw
  iintro ⟨H3, H10, Hv, HO⟩
  iapply (Scf.wp_for_bind frame (wpE (Ix := Ix) (Name := Name) (U := U) (Lvl := Lvl) defs 𝒱 (thr d i) bd) Set.univ _ _ _ k1_t2_ok _ _
    (fun v acc => iprop(⌜acc = tallies id (i 0).val (i 1).val (64 * k.val + v)⌝ ∗ Holds (thr d i) arg10 fullShare (fun j => id (rbN (i 0).val (i 1).val + 1024 * k.val + j))))
    ?hbody) $$ [H10]
  case hbody =>
    intro v acc
    have hv64 : v.val < 64 := lt_of_lt_of_eq v.isLt (by decide)
    iintro ⟨%hacc, H10⟩
    subst hacc
    unfold k1_t2_body
    dsimp only
    iapply (wp_loadAt 𝒱 bd (congrArg (fun n : Nat => (![n] : Fin 1 → Nat)) (vec_off hv64))) $$ H10
    iintro %w ⟨%hw, H10⟩
    iapply (le_wp_ret _ _ _ _ _)
    isplitr [H10]
    · ipureintro
      refine tallies_step id i (fun x => (hw x).trans (congrArg id ?_))
      omega
    · iexact H10
  · isplitr [H10]
    · ipureintro; rfl
    · iexact H10
  iintro %acc ⟨%hacc, H10⟩
  subst hacc
  iapply (le_wp_ret _ _ _ _ _)
  isplitr [H3 H10 Hv HO]
  · ipureintro
    rw [show Scf.trips k1_t2_loop.lb k1_t2_loop.ub k1_t2_loop.st = 64 by decide, show 64 * (k.val + 1) = 64 * k.val + 64 by omega]
  isplitl [H3]; · iexact H3
  isplitl [H10]; · iapply (holds_any _) $$ H10
  isplitl [Hv]; · iexact Hv
  iexists _
  isplitr [HO]
  swap
  · iexact HO
  · ipureintro
    intro w hw
    rcases Finset.mem_insert.mp hw with e | hw
    · exact Or.inr (congrArg Prod.snd e)
    exact hW1 w hw

end PatchMean
-- ==== Proof.Body.lean ====
/-
  A tile's whole run: its row's identifiers counted against the tile's bounds, then the two halves of its patches.
-/
module

public import proofs.«01_k».proof.Proof.TallyRun

@[expose] public section

set_option pp.maxSteps 200

namespace PatchMean

open Idealize.ShloMosaic Idealize.ShloMosaic.Affine
open Idealize.SL
open Idealize.SL.BI (sProp)
open scoped Idealize.SL.BI
open Idealize.SL.BI.BIBase Idealize.SL.BI.Laws Idealize.SL.Sem Idealize.SL.ProofMode
open Idealize.SL.RA
open Cert.KernelIdeal Cert.KernelIdeal.Gen

variable {Ix : Type} [DecidableEq Ix]
variable {F : FTy → Type} [FloatOps F] {Name : Type} [DecidableEq Name] [Infinite Name]
variable {U : Type} [URA U] {Lvl : Type} [Preorder Lvl]

local notation "𝕄" => MT nD τ sig Ix (Elt F) Name U Lvl

variable {defs : Defs nD τ sig (Elt F) Λ₀} (𝒱 : Variants) (bd : Option 𝒱.V)
variable (EC : UEmb Counters (MT nD τ sig Ix (Elt F) Name U Lvl)) [EC.LandsIn (upEmb : UEmb _ (MT nD τ sig Ix (Elt F) Name U Lvl))]

/-- How many of the row's identifiers are below the tile's first patch, its middle one, and the next tile's first. -/
abbrev loN (id : Nat → BitVec 32) (c s : Nat) : Nat := belowN id (rbN c s) (p0N c s : Int)
/-- Those below its middle patch. -/
abbrev midN (id : Nat → BitVec 32) (c s : Nat) : Nat := belowN id (rbN c s) ((p0N c s + 128 : Nat) : Int)
/-- Those below the next tile's first. -/
abbrev hiN (id : Nat → BitVec 32) (c s : Nat) : Nat := belowN id (rbN c s) ((p0N c s + 256 : Nat) : Int)

/-- The accumulator that half `q` of tile `(c, s)` copies out. -/
def sumF (x : Nat → F .f32) (id : Nat → BitVec 32) (c s q : Nat) : Nat → F .f32 :=
  accF x id (pqN c s q) (ntpN (loN id c s) (midN id c s) (hiN id c s) q) (rbN c s + bsN (loN id c s) (midN id c s) q) (16 * nchN (loN id c s) (midN id c s) (hiN id c s) q)
/-- The counts it copies out. -/
def numF (id : Nat → BitVec 32) (c s q : Nat) : Nat → F .f32 :=
  cntF id (pqN c s q) (ntpN (loN id c s) (midN id c s) (hiN id c s) q) (rbN c s + bsN (loN id c s) (midN id c s) q) (16 * nchN (loN id c s) (midN id c s) (hiN id c s) q)

/-- The two halves. -/
abbrev half0 : Fin k1_t3_loop.trips := ⟨0, by decide⟩
/-- The second half. -/
abbrev half1 : Fin k1_t3_loop.trips := ⟨1, by decide⟩

theorem half_cases (q : Fin k1_t3_loop.trips) : q = half0 ∨ q = half1 := by
  have h : q.val < 2 := lt_of_lt_of_eq q.isLt (by decide)
  rcases (by omega : q.val = 0 ∨ q.val = 1) with e | e
  · exact Or.inl (Fin.ext e)
  · exact Or.inr (Fin.ext e)

variable (d : Dev nD) (i : grid1.Coords) (ι : Ix)
  (arg2 : Memref sig .scVector .hbm S25165824 .f32) (harg2 : arg2.IsWhole) (arg3 : Memref sig .scVector .hbm S32768 .i32) (harg3 : arg3.IsWhole) (arg4 : Memref sig .scVector .hbm S6291456 .f32) (harg4 : arg4.IsWhole) (arg5 : Memref sig .scVector .hbm S8192 .f32) (harg5 : arg5.IsWhole) (arg6 : Memref sig .scVector .vmem S99072 .f32) (harg6 : arg6.IsWhole) (arg7 : Memref sig .scVector .vmem S144 .f32) (harg7 : arg7.IsWhole) (arg8 : Memref sig .scVector .vmem S12288 .f32) (harg8 : arg8.IsWhole) (arg9 : Memref sig .scVector .vmem S12288 .f32) (harg9 : arg9.IsWhole) (arg10 : Memref sig .scVector .vmem S1024 .i32) (harg10 : arg10.IsWhole) (arg11 : Memref sig .scVector .vmem S16 .i32) (harg11 : arg11.IsWhole) (arg12 : Memref sig .scVector .vmem S16 .i32) (harg12 : arg12.IsWhole) (arg13 : DmaSems sig S_) (arg14 : DmaSems sig S_) (arg15 : DmaSems sig S_) (arg16 : DmaSems sig S_) (v51_r0 : DmaSems sig S_) (v126_r1 : DmaSems sig S_) (v126_r2 : DmaSems sig S_)
  (qs : PosShare TreeShare) (x : Nat → F .f32) (id : Nat → BitVec 32) (O : CellTallies nD τ sig Ix) (W : Waits sig Ix)

/-- A half's places in the results, not yet written. -/
noncomputable def blank (q : Fin k1_t3_loop.trips) : sProp 𝕄 :=
  iprop((∃ f : Buf (Elt F) ((sumsAt i arg4 q).view.loc (thr d i)), (sumsAt i arg4 q).view.loc (thr d i) ↦[(sumsAt i arg4 q).view.set]{fullShare} f)
    ∗ (∃ f : Buf (Elt F) ((cntsAt i arg5 q).view.loc (thr d i)), (cntsAt i arg5 q).view.loc (thr d i) ↦[(cntsAt i arg5 q).view.set]{fullShare} f))
/-- A half's places in the results, written. -/
noncomputable def done (q : Fin k1_t3_loop.trips) : sProp 𝕄 :=
  iprop(Part (thr d i) (sumsAt i arg4 q) (sumF x id (i 0).val (i 1).val q.val) ∗ Part (thr d i) (cntsAt i arg5 q) (numF id (i 0).val (i 1).val q.val))
/-- A half's places after `n` halves. -/
noncomputable def place (n : Nat) (q : Fin k1_t3_loop.trips) : sProp 𝕄 :=
  if q.val < n then done d i arg4 arg5 x id q else blank d i arg4 arg5 q

theorem place_zero (q : Fin k1_t3_loop.trips) : (place d i arg4 arg5 x id 0 q : sProp 𝕄) = blank d i arg4 arg5 q := if_neg (Nat.not_lt_zero _)
theorem place_all (q : Fin k1_t3_loop.trips) : (place d i arg4 arg5 x id k1_t3_loop.trips q : sProp 𝕄) = done d i arg4 arg5 x id q := if_pos q.isLt

/-- What a tile works in, before and after its run. -/
noncomputable def room : sProp 𝕄 :=
  iprop((∃ f : Buf (Elt F) (arg10.view.loc (thr d i)), arg10.view.loc (thr d i) ↦[Finset.univ]{fullShare} f) ∗ semVal (thr d i, SemLoc.dma v51_r0.sem) 0 ∗ scratch d i ι arg2 arg3 arg6 arg7 arg8 arg9 arg11 arg12 arg13 arg14 arg15 arg16 v126_r1 v126_r2 qs x id O W)

include EC in
/-- One half, the other's places beside it. -/
theorem wp_half {lo mid hi : BitVec 32} (S : Sums lo mid hi (loN id (i 0).val (i 1).val) (midN id (i 0).val (i 1).val) (hiN id (i 0).val (i 1).val))
    (hw1 : k1_chk1 i lo mid hi) (q : Fin k1_t3_loop.trips) (u : BitVec 32) :
    iprop(Transfers.MayWaits (thr d i) ι O ∗ scratch d i ι arg2 arg3 arg6 arg7 arg8 arg9 arg11 arg12 arg13 arg14 arg15 arg16 v126_r1 v126_r2 qs x id O W ∗ place d i arg4 arg5 x id q.val half0 ∗ place d i arg4 arg5 x id q.val half1)
      ⊢ wp frame (wpE (Ix := Ix) (Name := Name) (U := U) (Lvl := Lvl) defs 𝒱 (thr d i) bd) Set.univ
          (k1_t3_body (F := F) i arg2 harg2 arg3 harg3 arg4 harg4 arg5 harg5 arg6 harg6 arg7 harg7 arg8 harg8 arg9 harg9 arg10 harg10 arg11 harg11 arg12 harg12 arg13 arg14 arg15 arg16 v51_r0 v126_r1 v126_r2 (p0W (i 0).val (i 1).val) (rbW (i 0).val (i 1).val) lo mid hi hw1 q u)
          (fun _ => iprop(scratch d i ι arg2 arg3 arg6 arg7 arg8 arg9 arg11 arg12 arg13 arg14 arg15 arg16 v126_r1 v126_r2 qs x id O W ∗ place d i arg4 arg5 x id (q.val + 1) half0 ∗ place d i arg4 arg5 x id (q.val + 1) half1)) := by
  have hp := wp_pass (Name := Name) (U := U) (Lvl := Lvl) (Ix := Ix) (F := F) (defs := defs) 𝒱 bd EC S d i ι arg2 harg2 arg3 harg3 arg4 harg4 arg5 harg5 arg6 harg6 arg7 harg7 arg8 harg8 arg9 harg9 arg10 harg10 arg11 harg11 arg12 harg12 arg13 arg14 arg15 arg16 v51_r0 v126_r1 v126_r2 q qs x id O W hw1 u
  rcases half_cases q with e | e <;> subst e
  · have e0 : (place d i arg4 arg5 x id half0.val half0 : sProp 𝕄) = blank d i arg4 arg5 half0 := if_neg (by decide)
    have e1 : (place d i arg4 arg5 x id (half0.val + 1) half0 : sProp 𝕄) = done d i arg4 arg5 x id half0 := if_pos (by decide)
    have e2 : (place d i arg4 arg5 x id half0.val half1 : sProp 𝕄) = place d i arg4 arg5 x id (half0.val + 1) half1 := (if_neg (by decide)).trans (if_neg (by decide)).symm
    rw [e0, e1, e2]
    unfold blank done
    iintro ⟨#Hmw, Hs, H0, H1⟩
    iapply (wp_wand_r Idealize.ShloMosaic.frame (wpE (Ix := Ix) (Name := Name) (U := U) (Lvl := Lvl) defs 𝒱 (thr d i) bd) Set.univ)
    isplitl [Hs H0]
    · iapply hp
      isplitr [Hs H0]
      · iexact Hmw
      isplitl [Hs]; · iexact Hs
      iexact H0
    · iintro %a ⟨Hs, H⟩
      isplitl [Hs]; · iexact Hs
      isplitl [H]; · iexact H
      iexact H1
  · have e0 : (place d i arg4 arg5 x id half1.val half1 : sProp 𝕄) = blank d i arg4 arg5 half1 := if_neg (by decide)
    have e1 : (place d i arg4 arg5 x id (half1.val + 1) half1 : sProp 𝕄) = done d i arg4 arg5 x id half1 := if_pos (by decide)
    have e2 : (place d i arg4 arg5 x id half1.val half0 : sProp 𝕄) = place d i arg4 arg5 x id (half1.val + 1) half0 := (if_pos (by decide)).trans (if_pos (by decide)).symm
    rw [e0, e1, e2]
    unfold blank done
    iintro ⟨#Hmw, Hs, H1, H0⟩
    iapply (wp_wand_r Idealize.ShloMosaic.frame (wpE (Ix := Ix) (Name := Name) (U := U) (Lvl := Lvl) defs 𝒱 (thr d i) bd) Set.univ)
    isplitl [Hs H0]
    · iapply hp
      isplitr [Hs H0]
      · iexact Hmw
      isplitl [Hs]; · iexact Hs
      iexact H0
    · iintro %a ⟨Hs, H⟩
      isplitl [Hs]; · iexact Hs
      isplitl [H1]; · iexact H1
      iexact H

include EC in
/-- A tile's run. -/
theorem wp_tile :
    iprop(Transfers.MayWaits (thr d i) ι O ∗ room d i ι arg2 arg3 arg6 arg7 arg8 arg9 arg10 arg11 arg12 arg13 arg14 arg15 arg16 v51_r0 v126_r1 v126_r2 qs x id O W
      ∗ blank d i arg4 arg5 half0 ∗ blank d i arg4 arg5 half1)
      ⊢ wp frame (wpE (Ix := Ix) (Name := Name) (U := U) (Lvl := Lvl) defs 𝒱 (thr d i) bd) Set.univ
          (cc1__sc_body (F := F) i arg2 harg2 arg3 harg3 arg4 harg4 arg5 harg5 arg6 harg6 arg7 harg7 arg8 harg8 arg9 harg9 arg10 harg10 arg11 harg11 arg12 harg12 arg13 arg14 arg15 arg16 v51_r0 v126_r1 v126_r2)
          (fun _ => iprop(room d i ι arg2 arg3 arg6 arg7 arg8 arg9 arg10 arg11 arg12 arg13 arg14 arg15 arg16 v51_r0 v126_r1 v126_r2 qs x id O W
            ∗ done d i arg4 arg5 x id half0 ∗ done d i arg4 arg5 x id half1)) := by
  rw [cc1__sc_body_eq_skeleton]
  unfold cc1__sc_body_skel
  rw [wp_bind, k1_part41_eq_skeleton]
  unfold k1_part41_skel
  dsimp only
  unfold room scratch slotIdle
  iintro ⟨#Hmw, ⟨H10, Hv0, Ha, Hc, ⟨⟨H3, Hi0, Hj0⟩, Hs0⟩, Hs1, Hv1, Hv2, HO⟩, Hb0, Hb1⟩
  iapply (Scf.wp_for_bind frame (wpE (Ix := Ix) (Name := Name) (U := U) (Lvl := Lvl) defs 𝒱 (thr d i) bd) Set.univ _ _ _ k1_t1_ok _ _
    (fun k acc => iprop(Transfers.MayWaits (thr d i) ι O ∗ tallyInv d i ι arg3 arg10 v51_r0 qs.left id O W (64 * k) acc))
    ?hbody) $$ [H10 Hv0 H3 HO]
  case hbody =>
    exact fun k acc => (by
      iintro ⟨#Hm, H⟩
      iapply (wp_wand_r Idealize.ShloMosaic.frame (wpE (Ix := Ix) (Name := Name) (U := U) (Lvl := Lvl) defs 𝒱 (thr d i) bd) Set.univ)
      isplitl [H]
      · iapply (wp_tally (Name := Name) (U := U) (Lvl := Lvl) (Ix := Ix) (F := F) (defs := defs) 𝒱 bd EC d i ι arg2 harg2 arg3 harg3 arg4 harg4 arg5 harg5 arg6 harg6 arg7 harg7 arg8 harg8 arg9 harg9 arg10 harg10 arg11 harg11 arg12 harg12 arg13 arg14 arg15 arg16 v51_r0 v126_r1 v126_r2 qs.left id O W k acc)
        isplitr [H]
        · iexact Hm
        · iexact H
      · iintro %a H
        isplitr [H]
        · iexact Hm
        · iexact H)
  · isplitr [H10 Hv0 H3 HO]
    · iexact Hmw
    unfold tallyInv
    isplitr [H10 Hv0 H3 HO]
    · ipureintro; rfl
    isplitl [H3]; · iexact H3
    isplitl [H10]; · iexact H10
    isplitl [Hv0]; · iexact Hv0
    iexact HO
  unfold tallyInv
  iintro %acc ⟨-, %hacc, H3, H10, Hv0, HO⟩
  subst hacc
  iapply (le_wp_ret _ _ _ _ _)
  dsimp only
  have S : Sums (extractAt ![15] (k1_pay1 (tallies id (i 0).val (i 1).val 512).1) inpos_S16_p15) (extractAt ![15] (k1_pay2 (tallies id (i 0).val (i 1).val 512).2.1) inpos_S16_p15)
      (extractAt ![15] (k1_pay3 (tallies id (i 0).val (i 1).val 512).2.2) inpos_S16_p15) (loN id (i 0).val (i 1).val) (midN id (i 0).val (i 1).val) (hiN id (i 0).val (i 1).val) := by
    have h := sums_of id (rbN (i 0).val (i 1).val) (p0N (i 0).val (i 1).val)
    rw [← scan_laneV _ _ _ inpos_S16_p15, ← scan_laneV _ _ _ inpos_S16_p15, ← scan_laneV _ _ _ inpos_S16_p15] at h
    exact h
  iapply (wp_assume 𝒱 (thr d i) bd Set.univ (chk1_holds S i))
  iapply (Scf.wp_for_bind frame (wpE (Ix := Ix) (Name := Name) (U := U) (Lvl := Lvl) defs 𝒱 (thr d i) bd) Set.univ _ _ _ k1_t3_ok _ _
    (fun n _ => iprop(Transfers.MayWaits (thr d i) ι O ∗ scratch d i ι arg2 arg3 arg6 arg7 arg8 arg9 arg11 arg12 arg13 arg14 arg15 arg16 v126_r1 v126_r2 qs x id O W ∗ place d i arg4 arg5 x id n half0 ∗ place d i arg4 arg5 x id n half1))
    ?hbody2) $$ [Ha Hc Hs0 Hs1 Hv1 Hv2 HO H3 Hi0 Hj0 Hb0 Hb1]
  case hbody2 =>
    exact fun q u => keep 𝒱 bd (wp_half (Name := Name) (U := U) (Lvl := Lvl) (Ix := Ix) (F := F) (defs := defs) 𝒱 bd EC d i ι arg2 harg2 arg3 harg3 arg4 harg4 arg5 harg5 arg6 harg6 arg7 harg7 arg8 harg8 arg9 harg9 arg10 harg10 arg11 harg11 arg12 harg12 arg13 arg14 arg15 arg16 v51_r0 v126_r1 v126_r2 qs x id O W S (chk1_holds S i) q u)
  · isplitr [Ha Hc Hs0 Hs1 Hv1 Hv2 HO H3 Hi0 Hj0 Hb0 Hb1]
    · iexact Hmw
    isplitr [Hb0 Hb1]
    · unfold scratch slotIdle
      isplitl [Ha]; · iexact Ha
      isplitl [Hc]; · iexact Hc
      isplitl [Hs0 H3 Hi0 Hj0]
      · isplitr [Hs0]
        · isplitl [H3]; · iexact H3
          isplitl [Hi0]; · iexact Hi0
          iexact Hj0
        · iexact Hs0
      isplitl [Hs1]; · iexact Hs1
      isplitl [Hv1]; · iexact Hv1
      isplitl [Hv2]; · iexact Hv2
      iexact HO
    rw [place_zero, place_zero]
    isplitl [Hb0]; · iexact Hb0
    iexact Hb1
  rw [show Scf.trips k1_t3_loop.lb k1_t3_loop.ub k1_t3_loop.st = k1_t3_loop.trips from rfl, place_all, place_all]
  iintro %u ⟨-, Hs, H0, H1⟩
  iapply (le_wp_ret _ _ _ _ _)
  isplitl [Hs H10 Hv0]
  · isplitl [H10]; · iexact H10
    isplitl [Hv0]; · iexact Hv0
    unfold scratch slotIdle
    iexact Hs
  isplitl [H0]; · iexact H0
  iexact H1

end PatchMean
-- ==== Proof.Pieces.lean ====
/-
  The results' arrays cut into sixty-four equal pieces, one per half of a tile, and what each piece reads.
-/
module

public import proofs.«01_k».proof.Proof.Body

@[expose] public section

set_option pp.maxSteps 200

namespace PatchMean

open Idealize.ShloMosaic Idealize.ShloMosaic.Affine
open Idealize.SL
open Idealize.SL.BI (sProp bigSep bigSep_congr bigSep_univ_equiv bigSep_univ_prod)
open scoped Idealize.SL.BI
open Idealize.SL.BI.BIBase Idealize.SL.BI.Laws Idealize.SL.Sem Idealize.SL.ProofMode
open Idealize.SL.RA
open Cert.KernelIdeal Cert.KernelIdeal.Gen

variable {Ix : Type} [DecidableEq Ix]
variable {F : FTy → Type} [FloatOps F] {Name : Type} [DecidableEq Name]
variable {U : Type} [URA U] {Lvl : Type}

local notation "𝕄" => MT nD τ sig Ix (Elt F) Name U Lvl

/-! ## Equal pieces of one axis -/

/-- The elements of piece `n` of an axis cut every `len`. -/
def seg (N len n : Nat) : Finset (Row N).Idx := Finset.univ.filter fun y => (y 0).val / len = n

theorem mem_seg {N len n : Nat} {y : (Row N).Idx} : y ∈ seg N len n ↔ (y 0).val / len = n := by
  unfold seg; rw [Finset.mem_filter]; exact ⟨fun h => h.2, fun h => ⟨Finset.mem_univ _, h⟩⟩

theorem seg_disjoint {N len : Nat} {P : Nat} (a b : Fin P) (h : a ≠ b) : Disjoint (seg N len a.val) (seg N len b.val) :=
  Finset.disjoint_left.mpr fun _ ha hb => h (Fin.ext ((mem_seg.mp ha).symm.trans (mem_seg.mp hb)))

theorem seg_cover {N len P : Nat} (h : N = P * len) : (Finset.univ : Finset (Fin P)).biUnion (fun p => seg N len p.val) = Finset.univ := by
  refine Finset.eq_univ_of_forall fun y => ?_
  have hy : (y 0).val < P * len := h ▸ (y 0).isLt
  exact Finset.mem_biUnion.mpr ⟨⟨(y 0).val / len, Nat.div_lt_of_lt_mul (Nat.mul_comm P len ▸ hy)⟩, Finset.mem_univ _, mem_seg.mpr rfl⟩

/-- A part at a multiple of its length is a piece. -/
theorem set_unit_seg {N len n : Nat} {off : Fin 1 → Nat} (hlen : 0 < len) (hoff : off 0 = len * n)
    (inb : ∀ a, off a + (Row len).size a ≤ (Row N).size a) : (Rect.unit (s := Row N) off (Row len).size inb).set = seg N len n := by
  ext y
  rw [Rect.mem_set_unit, mem_seg]
  have e : (Row len).size 0 = len := rfl
  constructor
  · intro h
    have h0 := h 0
    rw [hoff, e] at h0
    exact Nat.div_eq_of_lt_le (by rw [Nat.mul_comm]; exact h0.1) (by rw [Nat.succ_mul, Nat.mul_comm]; exact h0.2)
  · intro h a
    rw [show a = 0 from Subsingleton.elim _ _, hoff, e, ← h]
    have := Nat.div_add_mod (y 0).val len
    have := Nat.mod_lt (y 0).val hlen
    omega

/-! ## Whose piece is which -/

/-- The number of a tile. -/
def tileN (c s : Nat) : Nat := 16 * c + s
/-- The number of a half's piece. -/
def pieceN (c s q : Nat) : Nat := 2 * tileN c s + q

theorem outN_piece {c s q : Nat} : outN c s q = 128 * pieceN c s q := by
  unfold outN pieceN tileN pqN p0N rowN
  omega

/-- Something for every piece is something for both halves of every tile. -/
theorem bigSep_pieces (Φ : Fin 64 → sProp 𝕄) :
    bigSep Finset.univ Φ = bigSep Finset.univ fun c : Fin 2 => bigSep Finset.univ fun s : Fin 16 => bigSep Finset.univ fun q : Fin 2 =>
      Φ ⟨pieceN c.val s.val q.val, by unfold pieceN tileN; omega⟩ := by
  rw [bigSep_univ_equiv ((finProdFinEquiv (m := 2) (n := 32)).trans (finCongr (by decide : 2 * 32 = 64))), bigSep_univ_prod]
  refine bigSep_congr fun c _ => ?_
  rw [bigSep_univ_equiv ((finProdFinEquiv (m := 16) (n := 2)).trans (finCongr (by decide : 16 * 2 = 32))), bigSep_univ_prod]
  refine bigSep_congr fun s _ => bigSep_congr fun q _ => congrArg Φ (Fin.ext ?_)
  simp only [pieceN, tileN, Equiv.trans_apply, finCongr_apply, Fin.val_cast, finProdFinEquiv_apply_val]
  omega

/-- Something for every tile, by core. -/
theorem bigSep_tiles (Φ : Fin 32 → sProp 𝕄) :
    bigSep Finset.univ Φ = bigSep Finset.univ fun c : Fin 2 => bigSep Finset.univ fun s : Fin 16 => Φ ⟨tileN c.val s.val, by unfold tileN; omega⟩ := by
  rw [bigSep_univ_equiv ((finProdFinEquiv (m := 2) (n := 16)).trans (finCongr (by decide : 2 * 16 = 32))), bigSep_univ_prod]
  refine bigSep_congr fun c _ => bigSep_congr fun s _ => congrArg Φ (Fin.ext ?_)
  simp only [tileN, Equiv.trans_apply, finCongr_apply, Fin.val_cast, finProdFinEquiv_apply_val]
  omega

/-! ## Whole buffers by position -/

/-- The contents of one axis, by position. -/
def byPos {α : Type} {N : Nat} (hN : 0 < N) (f : (Row N).Idx → α) (n : Nat) : α := f fun a => ⟨n % (Row N).size a, Nat.mod_lt _ (show 0 < (Row N).size a by rw [show a = 0 from Subsingleton.elim _ _]; exact hN)⟩

theorem byPos_val {α : Type} {N : Nat} (hN : 0 < N) (f : (Row N).Idx → α) (y : (Row N).Idx) : byPos hN f (y 0).val = f y := by
  unfold byPos
  congr 1
  funext a
  rw [show a = 0 from Subsingleton.elim _ _]
  exact Fin.ext (Nat.mod_eq_of_lt (y 0).isLt)

/-- A share of a buffer whose contents are the only ones that read as `A`. -/
theorem holds_eq {sp : Space} {e : EltTy} {N : Nat} {c : Thread nD τ} {m : Memref sig c.2.kind sp (Row N) e} {q : PosShare TreeShare} {A : Nat → Elt F e}
    (f : Buf (Elt F) (m.view.loc c)) (hf : Reads m.view f A) (hu : ∀ g, Reads m.view g A → g = f) :
    (Holds c m q A : sProp 𝕄) = m.view.loc c ↦[Finset.univ]{q} f := by
  have h₁ : (Holds c m q A : sProp 𝕄) ⊢ m.view.loc c ↦[Finset.univ]{q} f := by
    unfold Holds
    iintro ⟨%g, %hg, H⟩
    cases hu g hg
    iexact H
  have h₂ : (m.view.loc c ↦[Finset.univ]{q} f : sProp 𝕄) ⊢ Holds c m q A := by
    unfold Holds
    iintro H
    iexists f
    isplitr
    · ipureintro; exact hf
    · iexact H
  exact BI.Entails.antisymm h₁ h₂

/-- A part that reads as `A`, at contents that read so. -/
theorem part_eq {sp : Space} {e : EltTy} {N : Nat} {c : Thread nD τ} {m : Memref sig c.2.kind sp (Row N) e} {A : Nat → Elt F e}
    (G : Buf (Elt F) (m.view.loc c)) (hG : Reads m.view G A) :
    (Part c m A : sProp 𝕄) ⊢ m.view.loc c ↦[m.view.set]{fullShare} G := by
  unfold Part
  iintro ⟨%f, %hf, H⟩
  iapply (Entails.of_eq (pointsTo_congr (f := f) (g := G) fun j hj => ?_)) $$ H
  obtain ⟨y, -, rfl⟩ := Finset.mem_map.mp hj
  have h := (hf y).trans (hG y).symm
  rw [View.read_apply, View.read_apply] at h
  exact (cast_inj _).mp h

end PatchMean
-- ==== Proof.Setup.lean ====
/-
  The launch's set-up: the program as the launch theorem sees it, the resource algebra, the contents of the arrays between the
  calls, and what the SparseCore call's handshakes carry.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic
public import proofs.«01_k».proof.Proof.Pieces

@[expose] public section

set_option pp.maxSteps 200

noncomputable section

namespace PatchMean

open Idealize.ShloMosaic
open Idealize.ShloMosaic.SparseCore (S V)
open Idealize.ShloMosaic.SparseCore.Cfg (HIx Pay)
open Idealize.SL Idealize.SL.RA
open Idealize.SL.BI (sProp bigSep Storable)
open scoped Idealize.SL.BI
open Idealize.SL.BI.BIBase Idealize.SL.BI.Laws Idealize.SL.Sem Idealize.SL.ProofMode
open Idealize.ShloMosaic.Rounds
open Cert.KernelIdeal Cert.KernelIdeal.Gen

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_eq : (K (F := F)).nCore 0 = 2 := rfl
theorem nSub_eq : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
abbrev EC : UEmb Counters (MT nD τ sig (HIx 1) (Elt F) ℕ UU ℕ) := countersEmb

instance EP_landsIn : (EP : Emb UP 𝕄).LandsIn (upEmb : UEmb _ 𝕄) := by unfold EP embR; infer_instance

/-! ## The arrays between the calls -/

/-- An array of @main on a device. -/
abbrev hb (d : Dev nD) (b : Ref sig .tc) : Loc nD τ sig := (SparseCore.T d).loc b

variable (m : (ℓ : Loc nD τ sig) → Buf (Elt F) ℓ)

/-- The rows as the tiles read them: the first argument's elements in order. -/
def rowsBuf (d : Dev nD) : Buf (Elt F) (hb d main_v1) := shapeCast S25165824 (m (hb d main_arg0)) shapeCasts_S4x8192x768_S25165824
/-- The identifiers as the tiles read them. -/
def idsBuf (d : Dev nD) : Buf (Elt F) (hb d main_v2) := shapeCast S32768 (m (hb d main_arg1)) shapeCasts_S4x8192_S32768
/-- The rows' elements by position. -/
def rowsN (d : Dev nD) : Nat → F .f32 := byPos (N := 25165824) (by decide) (rowsBuf m d)
/-- The identifiers by position. -/
def idsN (d : Dev nD) : Nat → BitVec 32 := byPos (N := 32768) (by decide) (idsBuf m d)

variable [FloatOps F]

/-- All sums by position: piece `g` is half `g % 2` of tile `g / 2`. -/
def sumsN (x : Nat → F .f32) (id : Nat → BitVec 32) (n : Nat) : F .f32 :=
  sumF x id (n / 98304 / 32) (n / 98304 / 2 % 16) (n / 98304 % 2) (n % 98304)
/-- All counts by position. -/
def cntsN (id : Nat → BitVec 32) (n : Nat) : F .f32 :=
  numF id (n / 128 / 32) (n / 128 / 2 % 16) (n / 128 % 2) (n % 128)

/-- The sums' array after the SparseCore call. -/
def sumsBuf (d : Dev nD) : Buf (Elt F) (hb d main_v3_0) := fun y : (Row 6291456).Idx => sumsN (rowsN m d) (idsN m d) (y 0).val
/-- The counts' array after it. -/
def cntsBuf (d : Dev nD) : Buf (Elt F) (hb d main_v3_1) := fun y : (Row 8192).Idx => cntsN (idsN m d) (y 0).val

theorem sumsN_piece (x : Nat → F .f32) (id : Nat → BitVec 32) {c s q j : Nat} (hs : s < 16) (hq : q < 2) (hj : j < 98304) :
    sumsN x id (98304 * pieceN c s q + j) = sumF x id c s q j := by
  unfold sumsN
  rw [Nat.mul_add_div (by decide), Nat.div_eq_of_lt hj, Nat.add_zero, Nat.mul_add_mod, Nat.mod_eq_of_lt hj]
  unfold pieceN tileN
  rw [show (2 * (16 * c + s) + q) / 32 = c by omega, show (2 * (16 * c + s) + q) / 2 % 16 = s by omega, show (2 * (16 * c + s) + q) % 2 = q by omega]

theorem cntsN_piece (id : Nat → BitVec 32) {c s q j : Nat} (hs : s < 16) (hq : q < 2) (hj : j < 128) :
    (cntsN id (128 * pieceN c s q + j) : F .f32) = numF id c s q j := by
  unfold cntsN
  rw [Nat.mul_add_div (by decide), Nat.div_eq_of_lt hj, Nat.add_zero, Nat.mul_add_mod, Nat.mod_eq_of_lt hj]
  unfold pieceN tileN
  rw [show (2 * (16 * c + s) + q) / 32 = c by omega, show (2 * (16 * c + s) + q) / 2 % 16 = s by omega, show (2 * (16 * c + s) + q) % 2 = q by omega]

/-! ## What the handshakes carry -/

/-- A tile's share of what all tiles read. -/
abbrev tileShare (c : Fin 2) (s : Fin 16) : PosShare TreeShare := ShareLeaves.leaf 5 fullShare ⟨tileN c.val s.val, by unfold tileN; omega⟩

/-- Piece `q` of a tile, of the sums and of the counts, at given contents. -/
def pieceAt (d : Dev nD) (f : Buf (Elt F) (hb d main_v3_0)) (g : Buf (Elt F) (hb d main_v3_1)) (c : Fin 2) (s : Fin 16) (q : Fin 2) : sProp 𝕄 :=
  iprop((hb d main_v3_0 ↦[seg 6291456 98304 (pieceN c.val s.val q.val)]{fullShare} f)
    ∗ (hb d main_v3_1 ↦[seg 8192 128 (pieceN c.val s.val q.val)]{fullShare} g))
/-- What a tile is handed and brings back: its shares of the rows and the identifiers, its pieces of the results. -/
def tileAt (d : Dev nD) (f : Buf (Elt F) (hb d main_v3_0)) (g : Buf (Elt F) (hb d main_v3_1)) (c : Fin 2) (s : Fin 16) : sProp 𝕄 :=
  iprop((hb d main_v1 ↦{tileShare c s} rowsBuf m d) ∗ (hb d main_v2 ↦{tileShare c s} idsBuf m d)
    ∗ bigSep Finset.univ fun q : Fin 2 => pieceAt d f g c s q)
/-- What a SparseCore is handed and brings back: its tiles'. -/
def coreAt (d : Dev nD) (f : Buf (Elt F) (hb d main_v3_0)) (g : Buf (Elt F) (hb d main_v3_1)) (c : Fin 2) : sProp 𝕄 :=
  bigSep Finset.univ fun s : Fin 16 => tileAt m d f g c s

instance pieceAt_storable (d : Dev nD) (f : Buf (Elt F) (hb d main_v3_0)) (g : Buf (Elt F) (hb d main_v3_1)) (c : Fin 2) (s : Fin 16) (q : Fin 2) :
    Storable (upEmb : UEmb _ 𝕄) (pieceAt d f g c s q) := by unfold pieceAt; infer_instance
instance tileAt_storable (d : Dev nD) (f : Buf (Elt F) (hb d main_v3_0)) (g : Buf (Elt F) (hb d main_v3_1)) (c : Fin 2) (s : Fin 16) :
    Storable (upEmb : UEmb _ 𝕄) (tileAt m d f g c s) := by unfold tileAt; infer_instance
instance coreAt_storable (d : Dev nD) (f : Buf (Elt F) (hb d main_v3_0)) (g : Buf (Elt F) (hb d main_v3_1)) (c : Fin 2) :
    Storable (upEmb : UEmb _ 𝕄) (coreAt m d f g c) := by unfold coreAt; infer_instance

/-- The one call: the results' pieces as the launch left them on the way out, with the sums and counts on the way back. -/
def P : (K (F := F)).Pay (nD := nD) (Val := Elt F) (Name := ℕ) (U := UU) where
  st := fun q d c => match q with | 0 => coreAt m d (m (hb d main_v3_0)) (m (hb d main_v3_1)) (Fin.cast nCore_eq c)
  dn := fun q d c => match q with | 0 => coreAt m d (sumsBuf m d) (cntsBuf m d) (Fin.cast nCore_eq c)
  go := fun q d c s => match q with | 0 => tileAt m d (m (hb d main_v3_0)) (m (hb d main_v3_1)) (Fin.cast nCore_eq c) (Fin.cast nSub_eq s)
  td := fun q d c s => match q with | 0 => tileAt m d (sumsBuf m d) (cntsBuf m d) (Fin.cast nCore_eq c) (Fin.cast nSub_eq s)
  x := fun _ _ => iprop(emp)

instance P_storable : (P (F := F) m).IsStorable where
  st q d c := match q with | 0 => (inferInstance : Storable (upEmb : UEmb _ 𝕄) (coreAt m d (m (hb d main_v3_0)) (m (hb d main_v3_1)) (Fin.cast nCore_eq c)))
  dn q d c := match q with | 0 => (inferInstance : Storable (upEmb : UEmb _ 𝕄) (coreAt m d (sumsBuf m d) (cntsBuf m d) (Fin.cast nCore_eq c)))
  go q d c s := match q with | 0 => (inferInstance : Storable (upEmb : UEmb _ 𝕄) (tileAt m d (m (hb d main_v3_0)) (m (hb d main_v3_1)) (Fin.cast nCore_eq c) (Fin.cast nSub_eq s)))
  td q d c s := match q with | 0 => (inferInstance : Storable (upEmb : UEmb _ 𝕄) (tileAt m d (sumsBuf m d) (cntsBuf m d) (Fin.cast nCore_eq c) (Fin.cast nSub_eq s)))

/-- A core's is its tiles' at once, on the way out and back. -/
theorem vecSplit : (K (F := F)).VecSplit' (P m) 0 := by
  intro d c
  show (coreAt m d (m (hb d main_v3_0)) (m (hb d main_v3_1)) (Fin.cast nCore_eq c) : sProp 𝕄) ⊢ |={Set.univ}=> iprop(
      (bigSep Finset.univ fun s : Fin 16 => tileAt m d (m (hb d main_v3_0)) (m (hb d main_v3_1)) (Fin.cast nCore_eq c) s)
      ∗ ((bigSep Finset.univ fun s : Fin 16 => tileAt m d (sumsBuf m d) (cntsBuf m d) (Fin.cast nCore_eq c) s)
          -∗ coreAt m d (sumsBuf m d) (cntsBuf m d) (Fin.cast nCore_eq c)))
  unfold coreAt
  iintro H
  imodintro
  isplitl [H]; · iexact H
  iintro H
  iexact H

end PatchMean

end
-- ==== Proof.Blocks.lean ====
/-
  The two TensorCore kernels' bodies on their staging buffers: a block loaded whole, a block stored whole.
-/
module

public import proofs.«01_k».proof.Proof.Setup
public import proofs.«01_k».proof.Proof.Gen.KernelIdeal.Points
public import proofs.«01_k».proof.Proof.Gen.KernelIdeal.Regions

@[expose] public section

set_option pp.maxSteps 200

noncomputable section

namespace PatchMean

open Idealize.ShloMosaic Idealize.ShloMosaic.TcCoe
open Idealize.ShloMosaic.SparseCore.Cfg (HIx)
open Idealize.SL Idealize.SL.RA
open Idealize.SL.BI (sProp bigSep)
open scoped Idealize.SL.BI
open Idealize.SL.BI.BIBase Idealize.SL.BI.Laws Idealize.SL.Sem Idealize.SL.ProofMode
open Cert.KernelIdeal Cert.KernelIdeal.Gen

variable {F : FTy → Type}
variable {Ix : Type} [DecidableEq Ix] {Name : Type} [DecidableEq Name] {U : Type} [URA U] {Lvl : Type} [Preorder Lvl]

local notation "𝕄" => MT nD τ sig Ix (Elt F) Name U Lvl

variable {Λ : Labels} {defs : Defs nD τ sig (Elt F) Λ} (𝒱 : Variants) {c : Thread nD τ} (bd : Option 𝒱.V)

/-- A whole block loaded. -/
theorem wp_loadBlock {s : Shape} {e : EltTy} {sp : CoreSpace} {mm : Memref sig c.2.kind sp s e} {q : PosShare TreeShare} {X : s.Idx → Elt F e}
    {off : Fin s.rank → Nat} {inb : ∀ a, off a + s.size a ≤ s.size a} (hoff : ∀ a, off a = 0)
    {hl : mm.view.LoadsAt (Rect.unit (s := s) off s.size inb).toLoadRect} {α : Type} {k : Vec F s e → Prog (TpuEff nD τ sig (Elt F) Λ c.2) α} {Q : α → sProp 𝕄} :
    (owns c mm q X : sProp 𝕄)
      ⊢ iprop((owns c mm q X -∗ wp frame (wpE (Ix := Ix) (Name := Name) (U := U) (Lvl := Lvl) defs 𝒱 c bd) Set.univ (k X) Q)
        -∗ wp frame (wpE (Ix := Ix) (Name := Name) (U := U) (Lvl := Lvl) defs 𝒱 c bd) Set.univ (.op (.load mm (Rect.unit (s := s) off s.size inb).toLoadRect hl) k) Q) := by
  unfold owns
  iintro ⟨%f, %hf, H⟩ Hk
  iapply (wp_load (defs := defs) 𝒱 c bd Set.univ (m := mm) (S := mm.view.set) (View.setOn_subset_set _ _)) $$ H
  iintro H
  have e : mm.view.readAt (Elt F) (Rect.unit (s := s) off s.size inb).toLoadRect f = X := by
    funext y
    have ey : (Rect.unit (s := s) off s.size inb).emb y = y := by
      funext a; apply Fin.ext; show off a + 1 * (y a).val = _; rw [hoff a]; omega
    refine Eq.trans ?_ (congrFun hf y)
    show mm.view.read (Elt F) f ((Rect.unit (s := s) off s.size inb).emb y) = _
    rw [ey]
  rw [e]
  iapply Hk
  iexists f
  isplitr [H]
  · ipureintro; exact hf
  · iexact H

/-- A whole block stored. -/
theorem wp_storeBlock {s : Shape} {e : EltTy} {sp : CoreSpace} {mm : Memref sig c.2.kind sp s e} {X w : s.Idx → Elt F e}
    {off : Fin s.rank → Nat} {inb : ∀ a, off a + s.size a ≤ s.size a} (hoff : ∀ a, off a = 0)
    {hx hm} {α : Type} {k : PUnit → Prog (TpuEff nD τ sig (Elt F) Λ c.2) α} {Q : α → sProp 𝕄} :
    (owns c mm fullShare X : sProp 𝕄)
      ⊢ iprop((owns c mm fullShare w -∗ wp frame (wpE (Ix := Ix) (Name := Name) (U := U) (Lvl := Lvl) defs 𝒱 c bd) Set.univ (k ⟨⟩) Q)
        -∗ wp frame (wpE (Ix := Ix) (Name := Name) (U := U) (Lvl := Lvl) defs 𝒱 c bd) Set.univ (.op (.store mm (Rect.unit (s := s) off s.size inb) w Finset.univ hx hm) k) Q) := by
  unfold owns
  iintro ⟨%f, %hf, H⟩ Hk
  have hS : (mm.access (Rect.unit (s := s) off s.size inb)).setOn Finset.univ ⊆ mm.view.set := by
    rw [View.setOn_univ]; exact View.set_slice_subset _ _
  iapply (wp_store (defs := defs) 𝒱 c bd Set.univ (m := mm) (r := Rect.unit (s := s) off s.size inb) (f := f) (S := mm.view.set) hS) $$ H
  iintro H
  iapply Hk
  iexists _
  isplitr [H]
  swap
  · iexact H
  ipureintro
  funext y
  have ey : (Rect.unit (s := s) off s.size inb).emb y = y := by
    funext a; apply Fin.ext; show off a + 1 * (y a).val = _; rw [hoff a]; omega
  refine Eq.trans ?_ (congrFun (View.read_write_univ (v := mm.access (Rect.unit (s := s) off s.size inb)) f w) y)
  show mm.view.read (Elt F) _ y = mm.view.read (Elt F) _ ((Rect.unit (s := s) off s.size inb).emb y)
  rw [ey]

theorem zero3 : ∀ a : Fin 3, (![0, 0, 0] : Fin 3 → Nat) a = 0 := by decide
theorem zero2 : ∀ a : Fin 2, (![0, 0] : Fin 2 → Nat) a = 0 := by decide

variable [FloatOps F] (d : Dev nD)

/-- The cast's body: the block's elements converted. -/
theorem wp_cast {defs : Defs nD τ sig (Elt F) Λ₀} (i : grid0.Coords) (arg1 : Memref sig .tc .vmem S1x1024x768 .f32) (harg1 : arg1.IsWhole)
    (arg2 : Memref sig .tc .vmem S1x1024x768 .bf16) (harg2 : arg2.IsWhole) (X : S1x1024x768.Idx → Elt F .f32) (Y : S1x1024x768.Idx → Elt F .bf16) {Q : PUnit → sProp 𝕄} :
    iprop(owns (SparseCore.T d) arg1 fullShare X ∗ owns (SparseCore.T d) arg2 fullShare Y
      ∗ (iprop(owns (SparseCore.T d) arg1 fullShare X ∗ owns (SparseCore.T d) arg2 fullShare (k0_pay1 X)) -∗ Q ⟨⟩))
      ⊢ wp frame (wpE (Ix := Ix) (Name := Name) (U := U) (Lvl := Lvl) defs 𝒱 (SparseCore.T d) bd) Set.univ (cc0__cast_body (F := F) i arg1 harg1 arg2 harg2) Q := by
  rw [cc0__cast_body_eq_skeleton]
  unfold cc0__cast_body_skel
  iintro ⟨H1, H2, Hk⟩
  iapply (wp_loadBlock 𝒱 bd zero3) $$ H1
  iintro H1
  iapply (wp_loadBlock 𝒱 bd zero3) $$ H2
  iintro H2
  iapply (wp_storeBlock 𝒱 bd zero3) $$ H2
  iintro H2
  iapply (le_wp_ret _ _ _ _ _)
  iapply Hk
  isplitl [H1] <;> iassumption

/-- The projection's body: the means' product with the weights, and the bias. -/
theorem wp_proj {defs : Defs nD τ sig (Elt F) Λ₀} (i : grid2.Coords) (arg2 : Memref sig .tc .vmem S1x512x768 .f32) (harg2 : arg2.IsWhole)
    (arg3 : Memref sig .tc .vmem S1x1x512 .f32) (harg3 : arg3.IsWhole) (arg4 : Memref sig .tc .vmem S768x1024 .f32) (harg4 : arg4.IsWhole)
    (arg5 : Memref sig .tc .vmem S1x1024 .f32) (harg5 : arg5.IsWhole) (arg6 : Memref sig .tc .vmem S1x512x1024 .f32) (harg6 : arg6.IsWhole)
    (X : S1x512x768.Idx → Elt F .f32) (N : S1x1x512.Idx → Elt F .f32) (M : S768x1024.Idx → Elt F .f32) (B : S1x1024.Idx → Elt F .f32) (Y : S1x512x1024.Idx → Elt F .f32)
    {Q : PUnit → sProp 𝕄} :
    iprop(owns (SparseCore.T d) arg2 fullShare X ∗ owns (SparseCore.T d) arg3 fullShare N ∗ owns (SparseCore.T d) arg4 fullShare M
      ∗ owns (SparseCore.T d) arg5 fullShare B ∗ owns (SparseCore.T d) arg6 fullShare Y
      ∗ (iprop(owns (SparseCore.T d) arg2 fullShare X ∗ owns (SparseCore.T d) arg3 fullShare N ∗ owns (SparseCore.T d) arg4 fullShare M
      ∗ owns (SparseCore.T d) arg5 fullShare B ∗ owns (SparseCore.T d) arg6 fullShare (k2_pay1 N X M B)) -∗ Q ⟨⟩))
      ⊢ wp frame (wpE (Ix := Ix) (Name := Name) (U := U) (Lvl := Lvl) defs 𝒱 (SparseCore.T d) bd) Set.univ
          (cc2__proj_body (F := F) i arg2 harg2 arg3 harg3 arg4 harg4 arg5 harg5 arg6 harg6) Q := by
  rw [cc2__proj_body_eq_skeleton]
  unfold cc2__proj_body_skel
  iintro ⟨H2, H3, H4, H5, H6, Hk⟩
  iapply (wp_loadBlock 𝒱 bd zero3) $$ H3
  iintro H3
  iapply (wp_loadBlock 𝒱 bd zero3) $$ H2
  iintro H2
  iapply (wp_loadBlock 𝒱 bd zero2) $$ H4
  iintro H4
  iapply (wp_loadBlock 𝒱 bd zero2) $$ H5
  iintro H5
  iapply (wp_loadBlock 𝒱 bd zero3) $$ H6
  iintro H6
  iapply (wp_storeBlock 𝒱 bd zero3) $$ H6
  iintro H6
  iapply (le_wp_ret _ _ _ _ _)
  iapply Hk
  isplitl [H2]; · iexact H2
  isplitl [H3]; · iexact H3
  isplitl [H4]; · iexact H4
  isplitl [H5]; · iexact H5
  iexact H6

end PatchMean

end
-- ==== Proof.Calls.lean ====
/-
  The two TensorCore calls of @main as regions: what each leaves in its arrays, its body at every point, and the call from what the core holds
  before it to what it holds after it.
-/
module

public import proofs.«01_k».proof.Proof.Blocks
public import proofs.«01_k».proof.Proof.Gen.KernelIdeal.Launch
public import Idealize.ShloMosaic.Lib.Pipeline.RegionArrays
public import Idealize.ShloMosaic.Lib.Pipeline.FrameBody

@[expose] public section

set_option pp.maxSteps 200

noncomputable section

namespace PatchMean

open Idealize.ShloMosaic Idealize.ShloMosaic.TcCoe
open Idealize.ShloMosaic.SparseCore.Cfg (HIx)
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Pipeline (Dat BodyObligation BodyObligationLoose RegionSeg LaunchFacts scopedRest)
open Cert.KernelIdeal Cert.KernelIdeal.Gen

variable {F : FTy → Type} [FloatOps F]

local notation "𝕄" => MT nD τ sig (HIx 1) (Elt F) ℕ UU ℕ

/-- What the core may have recorded before call `n`. -/
def pairsBelow (c : Dev nD) (n : ℕ) : Set (SemLoc sig × HIx 1) := {q | (K (F := F)).lev (SparseCore.T c, q.1) q.2 ≤ 8 * n}

/-- No prefetched table. -/
abbrev adm : (p : Fin 2) → (pcfgs (F := F) p).Adm := fun p => (cfgs p).toPCfg_adm

/-! ## The cast -/

section Cast

variable (c : Dev nD) (a : Buf (Elt F) (hb c main_arg0)) (z : Buf (Elt F) (hb c main_v0))

/-- The arrays of the cast before it. -/
def arr0 : (w : Fin cfg0.W) → Buf (Elt F) ((cfg0.win w).arr.view.loc (c.tc : Thread nD τ))
  | ⟨0, _⟩ => a
  | ⟨1, _⟩ => z
/-- The rows' block at a point. -/
def rows0 (t : Fin cfg0.N) : S1x1024x768.Idx → Elt F .f32 := ((cfg0.win 0).blk t).view.read (Elt F) (arr0 c a z 0)

/-- The cast's proof data. -/
def dat0 : Dat τ (Elt F) (HIx 1) ℕ UU ℕ cfg0 c where
  A := arr0 c a z
  after w t := match w with
    | ⟨0, _⟩ => rows0 c a z t
    | ⟨1, _⟩ => k0_pay1 (rows0 c a z t)
  Φ _ := scopedRest (Ix := HIx 1) (Name := ℕ) (U := UU) (Lvl := ℕ) (Val := Elt F) spec0 c
  q _ := fullShare
  owed _ := (K (F := F)).Otc c 0
  recorded _ := pairsBelow (F := F) c 0

theorem before0_0 (t : Fin cfg0.N) (d : (cfg0.win 0).block.Idx → Elt F (cfg0.win 0).elt) : (dat0 c a z).before 0 t d = rows0 c a z t :=
  ((dat0 c a z).before_in_eq_fetched 0 rfl (fun _ => rfl) (fun _ _ _ => rfl) (fun _ => rfl) t d).trans rfl

theorem body0 : BodyObligation (dat0 c a z) (defs₀ (F := F)) 𝒱₀ (none : HIx 1) Set.univ := fun t => by
  rw [bigSep_W0, bigSep_W0]
  rw [show (defs₀ (F := F)) .tc cfg0.body (cfg0.bodyArgs t (cfg0.slots t)) = bodyAt0 t from rfl]
  iintro ⟨HP, HO, ⟨%d0, H0⟩, ⟨%d1, H1⟩⟩
  rw [before0_0]
  rw [show (dat0 c a z).Φ t.succ = (dat0 c a z).Φ t.castSucc from rfl,
    show (dat0 c a z).owesAt (none : HIx 1) t.succ = (dat0 c a z).owesAt (none : HIx 1) t.castSucc from rfl]
  iapply (wp_cast (F := F) 𝒱₀ none c (grid0.coords t) (st0_0 t) (hstage0_0 ((cfg0.slots t 0).cast nbuf0_0)) (st0_1 t) (hstage0_1 ((cfg0.slots t 1).cast nbuf0_1)) (rows0 c a z t) _)
  isplitl [H0]; · iexact H0
  isplitl [H1]; · iexact H1
  iintro ⟨H0, H1⟩
  isplitl [HP]; · iexact HP
  isplitl [HO]; · iexact HO
  isplitl [H0]; · iexact H0
  iexact H1

end Cast

/-! ## The projection -/

section Proj

variable (c : Dev nD) (x : Buf (Elt F) (hb c main_v4)) (n : Buf (Elt F) (hb c main_v5)) (w : Buf (Elt F) (hb c main_arg2)) (b : Buf (Elt F) (hb c main_v6)) (z : Buf (Elt F) (hb c main_v7))

/-- The arrays of the projection before it. -/
def arr2 : (u : Fin cfg2.W) → Buf (Elt F) ((cfg2.win u).arr.view.loc (c.tc : Thread nD τ))
  | ⟨0, _⟩ => x
  | ⟨1, _⟩ => n
  | ⟨2, _⟩ => w
  | ⟨3, _⟩ => b
  | ⟨4, _⟩ => z
/-- The blocks at a point. -/
def sums2 (t : Fin cfg2.N) : S1x512x768.Idx → Elt F .f32 := ((cfg2.win 0).blk t).view.read (Elt F) (arr2 c x n w b z 0)
def cnts2 (t : Fin cfg2.N) : S1x1x512.Idx → Elt F .f32 := ((cfg2.win 1).blk t).view.read (Elt F) (arr2 c x n w b z 1)
def wts2 (t : Fin cfg2.N) : S768x1024.Idx → Elt F .f32 := ((cfg2.win 2).blk t).view.read (Elt F) (arr2 c x n w b z 2)
def bias2 (t : Fin cfg2.N) : S1x1024.Idx → Elt F .f32 := ((cfg2.win 3).blk t).view.read (Elt F) (arr2 c x n w b z 3)

/-- The projection's proof data. -/
def dat2 : Dat τ (Elt F) (HIx 1) ℕ UU ℕ cfg2 c where
  A := arr2 c x n w b z
  after u t := match u with
    | ⟨0, _⟩ => sums2 c x n w b z t
    | ⟨1, _⟩ => cnts2 c x n w b z t
    | ⟨2, _⟩ => wts2 c x n w b z t
    | ⟨3, _⟩ => bias2 c x n w b z t
    | ⟨4, _⟩ => k2_pay1 (cnts2 c x n w b z t) (sums2 c x n w b z t) (wts2 c x n w b z t) (bias2 c x n w b z t)
  Φ _ := scopedRest (Ix := HIx 1) (Name := ℕ) (U := UU) (Lvl := ℕ) (Val := Elt F) (Pipeline.pin (pcfgs (F := F)) adm 1).spec c
  q _ := fullShare
  owed _ := (K (F := F)).Otc c 1
  recorded _ := pairsBelow (F := F) c 1

theorem dat2_Φ (t : Fin (cfg2.N + 1)) : (dat2 c x n w b z).Φ t
    = scopedRest (Ix := HIx 1) (Name := ℕ) (U := UU) (Lvl := ℕ) (Val := Elt F) (Pipeline.pin (pcfgs (F := F)) adm 1).spec c := by
  unfold dat2
  dsimp only
theorem dat2_owed (t : Fin (cfg2.N + 1)) : (dat2 c x n w b z).owed t = (K (F := F)).Otc c 1 := (rfl)
theorem dat2_recorded (t : Fin (cfg2.N + 1)) : (dat2 c x n w b z).recorded t = pairsBelow (F := F) c 1 := (rfl)

theorem before2_0 (t : Fin cfg2.N) (d : (cfg2.win 0).block.Idx → Elt F (cfg2.win 0).elt) : (dat2 c x n w b z).before 0 t d = sums2 c x n w b z t :=
  ((dat2 c x n w b z).before_in_eq_fetched 0 rfl (fun _ => rfl) (fun _ _ _ => rfl) (fun _ => rfl) t d).trans rfl
theorem before2_1 (t : Fin cfg2.N) (d : (cfg2.win 1).block.Idx → Elt F (cfg2.win 1).elt) : (dat2 c x n w b z).before 1 t d = cnts2 c x n w b z t :=
  ((dat2 c x n w b z).before_in_eq_fetched 1 rfl (fun _ => rfl) (fun _ _ _ => rfl) (fun _ => rfl) t d).trans rfl
theorem before2_2 (t : Fin cfg2.N) (d : (cfg2.win 2).block.Idx → Elt F (cfg2.win 2).elt) : (dat2 c x n w b z).before 2 t d = wts2 c x n w b z t :=
  ((dat2 c x n w b z).before_in_eq_fetched 2 rfl (fun _ => rfl) (fun _ _ _ => rfl) (fun _ => rfl) t d).trans rfl
theorem before2_3 (t : Fin cfg2.N) (d : (cfg2.win 3).block.Idx → Elt F (cfg2.win 3).elt) : (dat2 c x n w b z).before 3 t d = bias2 c x n w b z t :=
  ((dat2 c x n w b z).before_in_eq_fetched 3 rfl (fun _ => rfl) (fun _ _ _ => rfl) (fun _ => rfl) t d).trans rfl

theorem body2 : BodyObligation (dat2 c x n w b z) (defs₀ (F := F)) 𝒱₀ (none : HIx 1) Set.univ := fun t => by
  rw [bigSep_W2, bigSep_W2]
  rw [show (defs₀ (F := F)) .tc cfg2.body (cfg2.bodyArgs t (cfg2.slots t)) = bodyAt2 t from rfl]
  iintro ⟨HP, HO, ⟨%d0, H0⟩, ⟨%d1, H1⟩, ⟨%d2, H2⟩, ⟨%d3, H3⟩, ⟨%d4, H4⟩⟩
  rw [before2_0, before2_1, before2_2, before2_3]
  rw [show (dat2 c x n w b z).Φ t.succ = (dat2 c x n w b z).Φ t.castSucc from rfl,
    show (dat2 c x n w b z).owesAt (none : HIx 1) t.succ = (dat2 c x n w b z).owesAt (none : HIx 1) t.castSucc from rfl]
  iapply (wp_proj (F := F) 𝒱₀ none c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3)) (st2_4 t) (hstage2_4 ((cfg2.slots t 4).cast nbuf2_4))
    (sums2 c x n w b z t) (cnts2 c x n w b z t) (wts2 c x n w b z t) (bias2 c x n w b z t) _)
  isplitl [H0]; · iexact H0
  isplitl [H1]; · iexact H1
  isplitl [H2]; · iexact H2
  isplitl [H3]; · iexact H3
  isplitl [H4]; · iexact H4
  iintro ⟨H0, H1, H2, H3, H4⟩
  isplitl [HP]; · iexact HP
  isplitl [HO]; · iexact HO
  isplitl [H0]; · iexact H0
  isplitl [H1]; · iexact H1
  isplitl [H2]; · iexact H2
  isplitl [H3]; · iexact H3
  iexact H4

end Proj

/-! ## A call as a region -/

section Region

variable (pd : (p : Fin 2) → (c : Dev nD) → Dat τ (Elt F) (HIx 1) ℕ UU ℕ (Pipeline.pin (pcfgs (F := F)) adm p) c)

theorem tally_none (g g' : GSem nD τ sig) (x : Fin 1) : (tallyAt g (some x : HIx 1) 1) g' none = 0 := by
  unfold tallyAt
  by_cases h : g' = g
  · subst h; rw [tallyOn_self]; exact Finsupp.single_eq_of_ne (by simp)
  · rw [tallyOn_ne h]; rfl

theorem otc_none (c : Dev nD) (n : ℕ) (g : GSem nD τ sig) : (K (F := F)).Otc c n g none = 0 := by
  unfold SparseCore.Cfg.Otc
  rw [Fin.sum_univ_one]
  split
  · rw [Finset.sum_apply, Finsupp.finset_sum_apply]
    exact Finset.sum_eq_zero fun i _ => tally_none _ _ _
  · rfl

/-- What the core holds of its debts before call `n`. -/
def debts (c : Dev nD) (n : ℕ) : sProp 𝕄 := iprop(∃ W, ⌜(K (F := F)).WBelow (SparseCore.T c) W (8 * n)⌝ ∗ owes (SparseCore.T c) ((K (F := F)).Otc c n) W)

/-- Pipeline `p`'s call while the core is before call `n`. -/
def region (p : Fin 2) (n : ℕ) (kit : LaunchFacts (nD := nD) (τ := τ) cfgs p)
    (hΦ : ∀ c t, (pd p c).Φ t = scopedRest (Pipeline.pin (pcfgs (F := F)) adm p).spec c)
    (howed : ∀ c t, (pd p c).owed t = (K (F := F)).Otc c n) (hrec : ∀ c t, (pd p c).recorded t = pairsBelow (F := F) c n)
    (hbody : ∀ c, BodyObligation (pd p c) (defs₀ (F := F)) 𝒱₀ none Set.univ) :
    RegionSeg (pcfgs (F := F)) adm pd (none : HIx 1) defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := Pipeline.cellsWaits_intro (Pipeline.pin (pcfgs (F := F)) adm) pd none p c fun w s t => by
    rw [howed c t]
    exact (K (F := F)).mayWait_none _ (otc_none c n)
  pre c := iprop((pd p c).arrays ((pd p c).arrAt · 0) ∗ debts c n)
  post c := iprop((pd p c).arrays ((pd p c).arrAt · (Pipeline.pin (pcfgs (F := F)) adm p).N) ∗ debts c n)
  X _ := iprop(emp)
  Y _ := iprop(emp)
  Z _ := iprop(emp)
  hentry c := by
    rw [Pipeline.ownSems0_none, Pipeline.prefHeld_of_none _ rfl]
    unfold debts
    iintro ⟨⟨Ha, %W, %hW, HO⟩, -, -⟩
    imodintro
    isplitl [Ha]; · iexact Ha
    isplitr; · iempintro
    isplitl [HO]
    · unfold Dat.owesAt Pipeline.owesWithin Dat.bound
      rw [howed c 0, hrec c 0]
      iexists W
      isplitr
      · ipureintro; exact fun q hq => Or.inl (hW q hq)
      iexact HO
    isplitr <;> iempintro
  hin c := by
    rw [hΦ c 0]
    iintro ⟨-, -, Hr⟩
    iexact Hr
  hout c := by
    rw [Pipeline.ownSems0_none, hΦ c]
    iintro Hr
    isplitr; · iempintro
    isplitr; · iempintro
    iexact Hr
  hexit c := by
    unfold debts
    iintro ⟨Ha, HO, -, -⟩
    imodintro
    isplitl [Ha]; · iexact Ha
    unfold Dat.owesAt Pipeline.owesWithin Dat.bound
    rw [howed c (Fin.last _), hrec c (Fin.last _)]
    icases HO with ⟨%W, %hW, HO⟩
    iexists W
    isplitr
    · ipureintro
      intro q hq
      rcases hW hq with h | ⟨w, s, rfl⟩
      · exact h
      · rw [show (K (F := F)).lev (SparseCore.T c, SemLoc.dma _) none = 0 from (K (F := F)).lev_none _]
        exact Nat.zero_le _
    · iexact HO

end Region

end PatchMean

end
-- ==== Proof.Task.lean ====
/-
  A tile's task: from its shares and its pieces of the results, as the handshake hands them, to the pieces with its sums and counts.
-/
module

public import proofs.«01_k».proof.Proof.Setup

@[expose] public section

set_option pp.maxSteps 200

noncomputable section

namespace PatchMean

open Idealize.ShloMosaic Idealize.ShloMosaic.Affine
open Idealize.ShloMosaic.SparseCore (S V)
open Idealize.ShloMosaic.SparseCore.Cfg (HIx Pay ownBufs ownSems0 ownCells ownRefs mem_ownCells mem_ownRefs mem_ownRefs_of_owner)
open Idealize.SL Idealize.SL.RA
open Idealize.SL.BI (sProp bigSep Storable bigSep_congr bigSep_map bigSep_singleton bigSep_union)
open scoped Idealize.SL.BI
open Idealize.SL.BI.BIBase Idealize.SL.BI.Laws Idealize.SL.Sem Idealize.SL.ProofMode
open Idealize.ShloMosaic.Rounds
open Cert.KernelIdeal Cert.KernelIdeal.Gen

variable {F : FTy → Type}

local notation "𝕄" => MT nD τ sig (HIx 1) (Elt F) ℕ UU ℕ

/-! ## The tile's own semaphores and buffers -/

variable (d : Dev nD) (L : grid1.Coords)

/-- The semaphores a tile's copies complete on. -/
def tileSems : Finset (DmaSem sig) :=
  {cc1_scratch7.sem, cc1_scratch8.sem, cc1_scratch9.sem, cc1_scratch10.sem, cc1_scoped0.sem, cc1_scoped1.sem, cc1_scoped2.sem}
/-- The buffers a tile works in. -/
def tileRefs : Finset (Ref sig .scVector) := {cc1_scratch0, cc1_scratch1, cc1_scratch2, cc1_scratch3, cc1_scratch4, cc1_scratch5, cc1_scratch6}

theorem tileSems_scoped : ∀ s ∈ tileSems, (SemLoc.dma s : SemLoc sig).isScoped .scVector = true := by decide

/-- The cells of those semaphores. -/
def tileCells : Finset (GSem nD τ sig) := tileSems.map ⟨fun s => (thr d L, SemLoc.dma s), fun _ _ h => by simpa using h⟩
/-- Those buffers as the device names them. -/
def tileBufs : Finset (DevRef τ sig) := tileRefs.map ⟨fun r : Ref sig .scVector => (thr d L).2.devRef r, Proc.devRef_injective (thr d L).2⟩

theorem tileCells_sub : tileCells d L ⊆ ownCells (thr d L) := by
  intro g hg
  obtain ⟨s, hs, rfl⟩ := Finset.mem_map.mp hg
  exact mem_ownCells.mpr ⟨rfl, tileSems_scoped s hs⟩

theorem tileBufs_sub : tileBufs d L ⊆ ownRefs (τ := τ) (thr d L).2 := by
  intro b hb
  obtain ⟨r, hr, rfl⟩ := Finset.mem_map.mp hb
  refine mem_ownRefs_of_owner (p := (thr d L).2) ?_
  simp only [tileRefs, Finset.mem_insert, Finset.mem_singleton] at hr
  rcases hr with rfl | rfl | rfl | rfl | rfl | rfl | rfl <;> rfl

theorem ownSems0_tile : (ownSems0 (thr d L) : sProp 𝕄)
    = iprop((semVal (thr d L, SemLoc.dma cc1_scratch7.sem) 0 ∗ semVal (thr d L, SemLoc.dma cc1_scratch8.sem) 0 ∗ semVal (thr d L, SemLoc.dma cc1_scratch9.sem) 0
        ∗ semVal (thr d L, SemLoc.dma cc1_scratch10.sem) 0 ∗ semVal (thr d L, SemLoc.dma cc1_scoped0.sem) 0 ∗ semVal (thr d L, SemLoc.dma cc1_scoped1.sem) 0
        ∗ semVal (thr d L, SemLoc.dma cc1_scoped2.sem) 0)
      ∗ bigSep (ownCells (thr d L) \ tileCells d L) fun g => semVal g 0) := by
  unfold SparseCore.Cfg.ownSems0
  conv_lhs => rw [← Finset.union_sdiff_of_subset (tileCells_sub d L)]
  rw [bigSep_union Finset.disjoint_sdiff]
  congr 1
  unfold tileCells tileSems
  rw [bigSep_map, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem ownBufs_tile : (ownBufs (thr d L) : sProp 𝕄)
    = iprop(((∃ f, (thr d L).loc cc1_scratch0 ↦{fullShare} f) ∗ (∃ f, (thr d L).loc cc1_scratch1 ↦{fullShare} f) ∗ (∃ f, (thr d L).loc cc1_scratch2 ↦{fullShare} f)
        ∗ (∃ f, (thr d L).loc cc1_scratch3 ↦{fullShare} f) ∗ (∃ f, (thr d L).loc cc1_scratch4 ↦{fullShare} f) ∗ (∃ f, (thr d L).loc cc1_scratch5 ↦{fullShare} f)
        ∗ (∃ f, (thr d L).loc cc1_scratch6 ↦{fullShare} f))
      ∗ bigSep (ownRefs (τ := τ) (thr d L).2 \ tileBufs d L) fun b => iprop(∃ f, ((d, b) : Loc nD τ sig) ↦{fullShare} f)) := by
  unfold SparseCore.Cfg.ownBufs
  conv_lhs => rw [← Finset.union_sdiff_of_subset (tileBufs_sub d L)]
  rw [bigSep_union Finset.disjoint_sdiff]
  congr 1
  unfold tileBufs tileRefs
  rw [bigSep_map, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-! ## The tile's pieces of the results -/

variable [FloatOps F]

/-- The tile's core and its number on the core. -/
abbrev coreOf : Fin 2 := ⟨(L 0).val, (L 0).isLt⟩
/-- The tile's number on its core. -/
abbrev subOf : Fin 16 := ⟨(L 1).val, (L 1).isLt⟩

theorem sums_off (q : Fin k1_t3_loop.trips) : k1_off151 L q 0 = 98304 * pieceN (L 0).val (L 1).val q.val := by
  have h := sumOffW_isInt (coord0 L) (coord1 L) (half_lt q)
  have e : k1_off151 L q 0 = (sumOffW (L 0).val (L 1).val q.val).toNat := rfl
  rw [e, nat_eq h _ rfl, outN_piece]; omega
theorem cnts_off (q : Fin k1_t3_loop.trips) : k1_off152 L q 0 = 128 * pieceN (L 0).val (L 1).val q.val := by
  have h := cntOffW_isInt (coord0 L) (coord1 L) (half_lt q)
  have e : k1_off152 L q 0 = (cntOffW (L 0).val (L 1).val q.val).toNat := rfl
  rw [e, nat_eq h _ rfl, outN_piece]

theorem sums_set (q : Fin k1_t3_loop.trips) : (sumsAt L (Memref.whole main_v3_0_scv) q).view.set = seg 6291456 98304 (pieceN (L 0).val (L 1).val q.val) :=
  (View.set_slice_whole _ _).trans (set_unit_seg (by decide) (sums_off L q) _)
theorem cnts_set (q : Fin k1_t3_loop.trips) : (cntsAt L (Memref.whole main_v3_1_scv) q).view.set = seg 8192 128 (pieceN (L 0).val (L 1).val q.val) :=
  (View.set_slice_whole _ _).trans (set_unit_seg (by decide) (cnts_off L q) _)

variable (m : (ℓ : Loc nD τ sig) → Buf (Elt F) ℓ)

theorem rows_holds (q : PosShare TreeShare) :
    (Holds (thr d L) (Memref.whole main_v1_scv) q (rowsN m d) : sProp 𝕄) = hb d main_v1 ↦{q} rowsBuf m d :=
  holds_eq (c := thr d L) (m := Memref.whole main_v1_scv) (rowsBuf m d) (fun y => (byPos_val (N := 25165824) (by decide) (rowsBuf m d) y).symm)
    (fun g h => funext fun y => (h y).trans (byPos_val (N := 25165824) (by decide) (rowsBuf m d) y))
theorem ids_holds (q : PosShare TreeShare) :
    (Holds (thr d L) (Memref.whole main_v2_scv) q (idsN m d) : sProp 𝕄) = hb d main_v2 ↦{q} idsBuf m d :=
  holds_eq (c := thr d L) (m := Memref.whole main_v2_scv) (idsBuf m d) (fun y => (byPos_val (N := 32768) (by decide) (idsBuf m d) y).symm)
    (fun g h => funext fun y => (h y).trans (byPos_val (N := 32768) (by decide) (idsBuf m d) y))

theorem sums_reads (q : Fin k1_t3_loop.trips) :
    Reads (sumsAt L (Memref.whole main_v3_0_scv) q).view (sumsBuf m d) (sumF (rowsN m d) (idsN m d) (L 0).val (L 1).val q.val) := by
  intro y
  have hy : (y 0).val < 98304 := (y 0).isLt
  refine Eq.trans (show _ = sumsN (rowsN m d) (idsN m d) (k1_off151 L q 0 + 1 * (y 0).val) from rfl) ?_
  rw [sums_off, Nat.one_mul, sumsN_piece _ _ (L 1).isLt (half_lt q) hy]
theorem cnts_reads (q : Fin k1_t3_loop.trips) :
    Reads (cntsAt L (Memref.whole main_v3_1_scv) q).view (cntsBuf m d) (numF (F := F) (idsN m d) (L 0).val (L 1).val q.val) := by
  intro y
  have hy : (y 0).val < 128 := (y 0).isLt
  refine Eq.trans (show _ = cntsN (idsN m d) (k1_off152 L q 0 + 1 * (y 0).val) from rfl) ?_
  rw [cnts_off, Nat.one_mul, cntsN_piece _ (L 1).isLt (half_lt q) hy]

/-- A half's piece before the run is a place to write. -/
theorem piece_blank (f : Buf (Elt F) (hb d main_v3_0)) (g : Buf (Elt F) (hb d main_v3_1)) (q : Fin k1_t3_loop.trips) (q' : Fin 2) (h : q'.val = q.val) :
    (pieceAt d f g (coreOf L) (subOf L) q' : sProp 𝕄) ⊢ blank d L (Memref.whole main_v3_0_scv) (Memref.whole main_v3_1_scv) q := by
  unfold blank pieceAt
  rw [sums_set, cnts_set, h]
  iintro ⟨A, B⟩
  isplitl [A]
  · iexists f; iexact A
  · iexists g; iexact B

/-- A half's places, written, are its piece of the sums and counts. -/
theorem done_piece (q : Fin k1_t3_loop.trips) (q' : Fin 2) (h : q'.val = q.val) :
    (done d L (Memref.whole main_v3_0_scv) (Memref.whole main_v3_1_scv) (rowsN m d) (idsN m d) q : sProp 𝕄)
      ⊢ pieceAt d (sumsBuf m d) (cntsBuf m d) (coreOf L) (subOf L) q' := by
  have hA : (Part (thr d L) (sumsAt L (Memref.whole main_v3_0_scv) q) (sumF (rowsN m d) (idsN m d) (L 0).val (L 1).val q.val) : sProp 𝕄) ⊢ _ := part_eq (F := F) (c := thr d L) (m := sumsAt L (Memref.whole main_v3_0_scv) q) (sumsBuf m d) (sums_reads d L m q)
  have hB : (Part (thr d L) (cntsAt L (Memref.whole main_v3_1_scv) q) (numF (idsN m d) (L 0).val (L 1).val q.val) : sProp 𝕄) ⊢ _ := part_eq (F := F) (c := thr d L) (m := cntsAt L (Memref.whole main_v3_1_scv) q) (cntsBuf m d) (cnts_reads d L m q)
  rw [sums_set] at hA
  rw [cnts_set] at hB
  unfold done pieceAt
  rw [h]
  iintro ⟨A, B⟩
  isplitl [A]
  · iapply hA $$ A
  · iapply hB $$ B

theorem two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- The read share of a tile is its two slots'. -/
theorem slots (b : Loc nD τ sig) (q : PosShare TreeShare) (f : Buf (Elt F) b) :
    (b ↦{q} f : sProp 𝕄) ⊣⊢ iprop((b ↦{q.left} f) ∗ b ↦{q.right} f) := pointsTo_share (PosShare.mem_left_op_right q)

/-! ## The task -/

variable [∀ e, Nonempty (Elt F e)]

theorem tile_body (O : CellTallies nD τ sig (HIx 1)) (W : Waits sig (HIx 1)) (hO : ∀ g, O g none = 0) :
    iprop(levAts (K (F := F)).L (K (F := F)).lev ∗ emp
        ∗ tileAt m d (m (hb d main_v3_0)) (m (hb d main_v3_1)) (coreOf L) (subOf L)
        ∗ scopedBufs (thr d L) ∗ scopedSems0 (thr d L) ∗ owes (thr d L) O W)
      ⊢ wp frame (wpE (Ix := HIx 1) (Name := ℕ) (U := UU) (Lvl := ℕ) (defs₀ (F := F)) 𝒱₀ (thr d L) none) Set.univ
          (cc1__sc_body L (Memref.whole main_v1_scv) (Memref.isWhole_whole _) (Memref.whole main_v2_scv) (Memref.isWhole_whole _)
            (Memref.whole main_v3_0_scv) (Memref.isWhole_whole _) (Memref.whole main_v3_1_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) cc1_scratch7 cc1_scratch8 cc1_scratch9 cc1_scratch10 cc1_scoped0 cc1_scoped1 cc1_scoped2)
          fun _ => iprop(tileAt m d (sumsBuf m d) (cntsBuf m d) (coreOf L) (subOf L)
            ∗ scopedBufs (thr d L) ∗ scopedSems0 (thr d L)
            ∗ ∃ W', ⌜∀ p ∈ W', p ∈ W ∨ p.2 = none⌝ ∗ owes (thr d L) O W') := by
  rw [show (scopedBufs (thr d L) : sProp 𝕄) = ownBufs (thr d L) from (K (F := F)).scopedBufs_V facts d ((L 0).castLE hcore1) ((L 1).castLE hsub1),
    show (scopedSems0 (thr d L) : sProp 𝕄) = ownSems0 (thr d L) from SparseCore.Cfg.scopedSems0_V (Val := Elt F) d ((L 0).castLE hcore1) ((L 1).castLE hsub1),
    ownSems0_tile, ownBufs_tile]
  unfold tileAt
  rw [two, two]
  iintro ⟨#Hlv, -, ⟨Hx, Hi, Hp0, Hp1⟩, ⟨⟨B0, B1, B2, B3, B4, B5, B6⟩, Bs⟩, ⟨⟨S7, S8, S9, S10, T0, T1, T2⟩, Ss⟩, HO⟩
  ihave Hmw := (show levAts (K (F := F)).L (K (F := F)).lev ⊢ Transfers.MayWaits (thr d L) (none : HIx 1) O from
    (K (F := F)).mayWaits_none (thr := thr d L) hO) $$ Hlv
  ihave ⟨Hxl, Hxr⟩ := ((slots (F := F) (hb d main_v1) (tileShare (coreOf L) (subOf L)) (rowsBuf m d)).1) $$ Hx
  ihave ⟨Hil, Hir⟩ := ((slots (F := F) (hb d main_v2) (tileShare (coreOf L) (subOf L)) (idsBuf m d)).1) $$ Hi
  iapply (wp_wand_r Idealize.ShloMosaic.frame (wpE (Ix := HIx 1) (Name := ℕ) (U := UU) (Lvl := ℕ) (defs₀ (F := F)) 𝒱₀ (thr d L) none) Set.univ)
  isplitr [Bs Ss]
  · iapply (wp_tile (Name := ℕ) (U := UU) (Lvl := ℕ) (Ix := HIx 1) (F := F) (defs := defs₀) 𝒱₀ none EC d L none
      (Memref.whole main_v1_scv) (Memref.isWhole_whole _) (Memref.whole main_v2_scv) (Memref.isWhole_whole _)
            (Memref.whole main_v3_0_scv) (Memref.isWhole_whole _) (Memref.whole main_v3_1_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) cc1_scratch7 cc1_scratch8 cc1_scratch9 cc1_scratch10 cc1_scoped0 cc1_scoped1 cc1_scoped2
      (tileShare (coreOf L) (subOf L)) (rowsN m d) (idsN m d) O W)
    isplitr [B0 B1 B2 B3 B4 B5 B6 S7 S8 S9 S10 T0 T1 T2 Hxl Hxr Hil Hir Hp0 Hp1 HO]
    · iexact Hmw
    isplitr [Hp0 Hp1]
    · unfold room scratch slotIdle owesOf
      rw [rows_holds, rows_holds, ids_holds, ids_holds]
      isplitl [B4]; · iexact B4
      isplitl [T0]; · iexact T0
      isplitl [B0]; · iexact B0
      isplitl [B1]; · iexact B1
      isplitl [B2 B5 S7 S8 Hxl Hil]
      · isplitl [Hil B5 S7]
        · isplitl [Hil]; · iexact Hil
          isplitl [B5]; · iexact B5
          iexact S7
        isplitl [Hxl]; · iexact Hxl
        isplitl [B2]; · iexact B2
        iexact S8
      isplitl [B3 B6 S9 S10 Hxr Hir]
      · isplitl [Hir B6 S9]
        · isplitl [Hir]; · iexact Hir
          isplitl [B6]; · iexact B6
          iexact S9
        isplitl [Hxr]; · iexact Hxr
        isplitl [B3]; · iexact B3
        iexact S10
      isplitl [T1]; · iexact T1
      isplitl [T2]; · iexact T2
      iexists W
      isplitr
      · ipureintro; exact fun p hp => .inl hp
      · iexact HO
    isplitl [Hp0]
    · iapply (piece_blank d L (m (hb d main_v3_0)) (m (hb d main_v3_1)) half0 0 rfl) $$ Hp0
    · iapply (piece_blank d L (m (hb d main_v3_0)) (m (hb d main_v3_1)) half1 1 rfl) $$ Hp1
  iintro %u H
  unfold room scratch slotIdle owesOf
  rw [rows_holds, rows_holds, ids_holds, ids_holds]
  icases H with ⟨⟨B4, T0, B0, B1, ⟨⟨Hil, B5, S7⟩, ⟨Hxl, B2, S8⟩⟩, ⟨⟨Hir, B6, S9⟩, ⟨Hxr, B3, S10⟩⟩, T1, T2, HO⟩, Hp0, Hp1⟩
  isplitl [Hil Hir Hxl Hxr Hp0 Hp1]
  · isplitl [Hxl Hxr]
    · iapply ((slots (F := F) (hb d main_v1) (tileShare (coreOf L) (subOf L)) (rowsBuf m d)).2)
      isplitl [Hxl]; · iexact Hxl
      iexact Hxr
    isplitl [Hil Hir]
    · iapply ((slots (F := F) (hb d main_v2) (tileShare (coreOf L) (subOf L)) (idsBuf m d)).2)
      isplitl [Hil]; · iexact Hil
      iexact Hir
    isplitl [Hp0]
    · iapply (done_piece d L m half0 0 rfl) $$ Hp0
    · iapply (done_piece d L m half1 1 rfl) $$ Hp1
  isplitl [B0 B1 B2 B3 B4 B5 B6 Bs]
  · isplitr [Bs]
    · isplitl [B0]; · iexact B0
      isplitl [B1]; · iexact B1
      isplitl [B2]; · iexact B2
      isplitl [B3]; · iexact B3
      isplitl [B4]; · iexact B4
      isplitl [B5]; · iexact B5
      iexact B6
    · iexact Bs
  isplitl [S7 S8 S9 S10 T0 T1 T2 Ss]
  · isplitr [Ss]
    · isplitl [S7]; · iexact S7
      isplitl [S8]; · iexact S8
      isplitl [S9]; · iexact S9
      isplitl [S10]; · iexact S10
      isplitl [T0]; · iexact T0
      isplitl [T1]; · iexact T1
      iexact T2
    · iexact Ss
  iexact HO

/-! ## The obligation -/

/-- A tile's coordinates from its core and its number. -/
def coordsOf (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1__sc_body (coordsOf c s) (Memref.whole main_v1_scv) (Memref.isWhole_whole _) (Memref.whole main_v2_scv) (Memref.isWhole_whole _)
            (Memref.whole main_v3_0_scv) (Memref.isWhole_whole _) (Memref.whole main_v3_1_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) cc1_scratch7 cc1_scratch8 cc1_scratch9 cc1_scratch10 cc1_scoped0 cc1_scoped1 cc1_scoped2) ⟨⟩ c s := rfl

omit [∀ e, Nonempty (Elt F e)] [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (coordsOf ⟨_, hci.1⟩ ⟨_, hci.2⟩) m O W hO).trans (wp_mono frame _ _ fun _ => obl_post)

end PatchMean

end
-- ==== Proof.Main.lean ====
/-
  @main on the TensorCore: the cast, the two reshapes into the tiles' arrays, the SparseCore call, the three reshapes of its results and of the
  bias, and the projection; from the launch memory to the arguments unchanged and the two results at their values.
-/
module

public import proofs.«01_k».proof.Proof.Calls
public import proofs.«01_k».proof.Proof.Task
public import Idealize.ShloMosaic.Lib.StableHlo.Run

@[expose] public section

set_option pp.maxSteps 200

noncomputable section

namespace PatchMean

open Idealize.ShloMosaic Idealize.ShloMosaic.TcCoe Idealize.ShloMosaic.StableHlo
open Idealize.ShloMosaic.SparseCore (S V)
open Idealize.ShloMosaic.SparseCore.Cfg (HIx Pay)
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Rounds
open Idealize.ShloMosaic.Pipeline (Dat RegionSeg LaunchFacts cellsGhost toksInit)
open Cert.KernelIdeal Cert.KernelIdeal.Gen

variable {F : FTy → Type} [FloatOps F]

local notation "𝕄" => MT nD τ sig (HIx 1) (Elt F) ℕ UU ℕ

/-! ## The arrays the tiles share out, and together again -/

theorem shares_eq {ℓ : Loc nD τ sig} (f : Buf (Elt F) ℓ) :
    (ℓ ↦{fullShare} f : sProp 𝕄) = bigSep Finset.univ fun c : Fin 2 => bigSep Finset.univ fun s : Fin 16 => ℓ ↦{tileShare c s} f := by
  rw [ShareLeaves.pointsTo_leaves Finset.univ f 5 fullShare]
  exact bigSep_tiles (fun n : Fin 32 => (ℓ ↦{ShareLeaves.leaf 5 fullShare n} f : sProp 𝕄))

theorem sums_pieces (d : Dev nD) (f : Buf (Elt F) (hb d main_v3_0)) :
    (hb d main_v3_0 ↦{fullShare} f : sProp 𝕄) = bigSep Finset.univ fun c : Fin 2 => bigSep Finset.univ fun s : Fin 16 => bigSep Finset.univ fun q : Fin 2 =>
      hb d main_v3_0 ↦[seg 6291456 98304 (pieceN c.val s.val q.val)]{fullShare} f := by
  have h := pointsTo_biUnion (nD := nD) (τ := τ) (sig := sig) (Val := Elt F) (Ix := HIx 1) (Name := ℕ) (U := UU) (Lvl := ℕ) (ℓ := hb d main_v3_0) (q := fullShare) (f := f)
    (Finset.univ : Finset (Fin 64)) (fun p => seg 6291456 98304 p.val) (fun a _ b _ hab => seg_disjoint a b hab)
  rw [seg_cover (by decide)] at h
  exact h.trans (bigSep_pieces _)

theorem cnts_pieces (d : Dev nD) (f : Buf (Elt F) (hb d main_v3_1)) :
    (hb d main_v3_1 ↦{fullShare} f : sProp 𝕄) = bigSep Finset.univ fun c : Fin 2 => bigSep Finset.univ fun s : Fin 16 => bigSep Finset.univ fun q : Fin 2 =>
      hb d main_v3_1 ↦[seg 8192 128 (pieceN c.val s.val q.val)]{fullShare} f := by
  have h := pointsTo_biUnion (nD := nD) (τ := τ) (sig := sig) (Val := Elt F) (Ix := HIx 1) (Name := ℕ) (U := UU) (Lvl := ℕ) (ℓ := hb d main_v3_1) (q := fullShare) (f := f)
    (Finset.univ : Finset (Fin 64)) (fun p => seg 8192 128 p.val) (fun a _ b _ hab => seg_disjoint a b hab)
  rw [seg_cover (by decide)] at h
  exact h.trans (bigSep_pieces _)

variable (m : (ℓ : Loc nD τ sig) → Buf (Elt F) ℓ)

/-- What the SparseCore call takes and brings back, whole and by core. -/
theorem cores_eq (d : Dev nD) (f : Buf (Elt F) (hb d main_v3_0)) (g : Buf (Elt F) (hb d main_v3_1)) :
    (iprop((hb d main_v1 ↦{fullShare} rowsBuf m d) ∗ (hb d main_v2 ↦{fullShare} idsBuf m d) ∗ (hb d main_v3_0 ↦{fullShare} f) ∗ (hb d main_v3_1 ↦{fullShare} g)) : sProp 𝕄)
      = bigSep Finset.univ fun c : Fin 2 => coreAt m d f g c := by
  unfold coreAt tileAt pieceAt
  simp only [BI.bigSep_sep']
  rw [shares_eq (rowsBuf m d), shares_eq (idsBuf m d), sums_pieces d f, cnts_pieces d g]

/-! ## A reshape between two arrays -/

include m in
theorem wp_reshape (d : Dev nD) (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false) (hxy : x ≠ y)
    (f : Buf (Elt F) (hb d x)) (g r : Buf (Elt F) (hb d y)) (hr : (fun i => he ▸ shapeCast y.ty.shape f hn i) = r) (Q : PUnit → sProp 𝕄) :
    iprop(boundary (SparseCore.T d) ∗ (hb d x ↦{fullShare} f) ∗ (hb d y ↦{fullShare} g)
        ∗ ((boundary (SparseCore.T d) ∗ (hb d x ↦{fullShare} f) ∗ (hb d y ↦{fullShare} r)) -∗ Q ⟨⟩))
      ⊢ wp frame (wpE ((K (F := F)).defs (D (F := F))) 𝒱 (SparseCore.T d) none) Set.univ (hlo rfl (reshape x y he hn hx hy) fun _ => .ret ⟨⟩) Q := by
  have hne : (Proc.devRef .tc x : DevRef τ sig) ≠ Proc.devRef .tc y := devRef_ne_of_ne hxy
  let W : Valuation τ sig (Elt F) := Function.update (Function.update (fun b => m (d, b)) (Proc.devRef .tc x) f) (Proc.devRef .tc y) g
  have hWx : W (Proc.devRef .tc x) = f := by
    show Function.update _ _ _ _ = _
    rw [Function.update_of_ne hne, Function.update_self]
  have hWy : W (Proc.devRef .tc y) = g := Function.update_self _ _ _
  have hheld (V : Valuation τ sig (Elt F)) (f' : Buf (Elt F) (hb d x)) (g' : Buf (Elt F) (hb d y)) (h1 : V (Proc.devRef .tc x) = f') (h2 : V (Proc.devRef .tc y) = g') :
      (held (SparseCore.T d) (reshape (τ := τ) (Val := Elt F) x y he hn hx hy).bufs V : sProp 𝕄) = iprop((hb d x ↦{fullShare} f') ∗ (hb d y ↦{fullShare} g')) := by
    subst h1 h2
    unfold held
    rw [reshape_bufs, SparseCore.bigSep_insert' (by rw [Finset.mem_singleton]; exact hne), BI.bigSep_singleton]
  iintro ⟨Hb, Hx, Hy, HQ⟩
  iapply (wp_hlo_within 𝒱 (SparseCore.T d) none Set.univ (S := (reshape (τ := τ) (Val := Elt F) x y he hn hx hy).bufs) (Finset.Subset.refl _) (V := W)) $$ [Hb Hx Hy]
  · isplitl [Hb]; · iexact Hb
    rw [hheld W f g hWx hWy]
    isplitl [Hx]; · iexact Hx
    iexact Hy
  rw [hheld ((reshape (τ := τ) (Val := Elt F) x y he hn hx hy).result W) f r
    ((reshape_result_ne x y he hn hx hy W hxy).trans hWx) ((reshape_result x y he hn hx hy W).trans (by rw [hWx]; exact hr))]
  iintro ⟨Hb, Hx, Hy⟩
  iapply (le_wp_ret _ _ _ _ _)
  iapply HQ
  isplitl [Hb]; · iexact Hb
  isplitl [Hx]; · iexact Hx
  iexact Hy

/-! ## The two regions -/

/-- What the projection reads. -/
def sumsIn (d : Dev nD) : Buf (Elt F) (hb d main_v4) := shapeCast S4x2048x768 (sumsBuf m d) shapeCasts_S6291456_S4x2048x768
def cntsIn (d : Dev nD) : Buf (Elt F) (hb d main_v5) := shapeCast S4x1x2048 (cntsBuf m d) shapeCasts_S8192_S4x1x2048
def biasIn (d : Dev nD) : Buf (Elt F) (hb d main_v6) := shapeCast S1x1024 (m (hb d main_arg3)) shapeCasts_S1024_S1x1024

def pd (p : Fin 2) (c : Dev nD) : Dat τ (Elt F) (HIx 1) ℕ UU ℕ (Pipeline.pin (pcfgs (F := F)) adm p) c :=
  match p with
  | 0 => dat0 c (m (hb c main_arg0)) (m (hb c main_v0))
  | 1 => dat2 c (sumsIn m c) (cntsIn m c) (m (hb c main_arg2)) (biasIn m c) (m (hb c main_v7))

/-- The first result. -/
def outCast (d : Dev nD) : Buf (Elt F) (hb d main_v0) := (dat0 d (m (hb d main_arg0)) (m (hb d main_v0))).arrAt 1 cfg0.N
/-- The second result. -/
def outProj (d : Dev nD) : Buf (Elt F) (hb d main_v7) :=
  (dat2 d (sumsIn m d) (cntsIn m d) (m (hb d main_arg2)) (biasIn m d) (m (hb d main_v7))).arrAt 4 cfg2.N

theorem pd_one (c : Dev nD) : pd m 1 c = dat2 c (sumsIn m c) (cntsIn m c) (m (hb c main_arg2)) (biasIn m c) (m (hb c main_v7)) := (rfl)
theorem pd2_Φ (c : Dev nD) (t : Fin ((Pipeline.pin (pcfgs (F := F)) adm 1).N + 1)) :
    (pd m 1 c).Φ t = Pipeline.scopedRest (Pipeline.pin (pcfgs (F := F)) adm 1).spec c := by rw [pd_one]; exact dat2_Φ c _ _ _ _ _ t
theorem pd2_owed (c : Dev nD) (t : Fin ((Pipeline.pin (pcfgs (F := F)) adm 1).N + 1)) : (pd m 1 c).owed t = (K (F := F)).Otc c 1 := by
  rw [pd_one]; exact dat2_owed c _ _ _ _ _ t
theorem pd2_recorded (c : Dev nD) (t : Fin ((Pipeline.pin (pcfgs (F := F)) adm 1).N + 1)) : (pd m 1 c).recorded t = pairsBelow (F := F) c 1 := by
  rw [pd_one]; exact dat2_recorded c _ _ _ _ _ t
theorem pd2_body (c : Dev nD) : Pipeline.BodyObligation (pd m 1 c) (defs₀ (F := F)) 𝒱₀ (none : HIx 1) Set.univ :=
  body2 c (sumsIn m c) (cntsIn m c) (m (hb c main_arg2)) (biasIn m c) (m (hb c main_v7))

def reg0 : RegionSeg (pcfgs (F := F)) adm (pd m) (none : HIx 1) defs₀ 𝒱₀ (K (F := F)).L (K (F := F)).lev 0 :=
  region (pd m) 0 0 launch0 (fun _ _ => rfl) (fun _ _ => rfl) (fun _ _ => rfl) fun c => body0 c (m (hb c main_arg0)) (m (hb c main_v0))
def reg2 : RegionSeg (pcfgs (F := F)) adm (pd m) (none : HIx 1) defs₀ 𝒱₀ (K (F := F)).L (K (F := F)).lev 1 :=
  region (pd m) 1 1 launch2 (pd2_Φ m) (pd2_owed m) (pd2_recorded m) (pd2_body m)

theorem pre0 (d : Dev nD) : (reg0 m).pre d = iprop(((hb d main_arg0 ↦{fullShare} m (hb d main_arg0)) ∗ (hb d main_v0 ↦{fullShare} m (hb d main_v0))) ∗ debts d 0) := by
  show iprop((pd m 0 d).arrays ((pd m 0 d).arrAt · 0) ∗ debts d 0) = _
  rw [Pipeline.arrays_eq (Pipeline.pin (pcfgs (F := F)) adm) (pd m) 0 d arr_whole0 ((pd m 0 d).share_full fun _ => rfl)]
  exact congrArg (fun X : sProp 𝕄 => iprop(X ∗ debts d 0)) (bigSep_W0 _)

theorem post0 (d : Dev nD) : (reg0 m).post d = iprop(((hb d main_arg0 ↦{fullShare} m (hb d main_arg0)) ∗ (hb d main_v0 ↦{fullShare} outCast m d)) ∗ debts d 0) := by
  show iprop((pd m 0 d).arrays ((pd m 0 d).arrAt · _) ∗ debts d 0) = _
  rw [Pipeline.arrays_eq (Pipeline.pin (pcfgs (F := F)) adm) (pd m) 0 d arr_whole0 ((pd m 0 d).share_full fun _ => rfl)]
  refine congrArg (fun X : sProp 𝕄 => iprop(X ∗ debts d 0)) ((bigSep_W0 _).trans ?_)
  rw [show (pd m 0 d).arrAt (0 : Fin 2) (Pipeline.pin (pcfgs (F := F)) adm 0).N = m (hb d main_arg0) from (pd m 0 d).arrAt_in 0 rfl _]
  rfl

theorem pre2 (d : Dev nD) : (reg2 m).pre d = iprop(((hb d main_v4 ↦{fullShare} sumsIn m d) ∗ (hb d main_v5 ↦{fullShare} cntsIn m d)
    ∗ (hb d main_arg2 ↦{fullShare} m (hb d main_arg2)) ∗ (hb d main_v6 ↦{fullShare} biasIn m d) ∗ (hb d main_v7 ↦{fullShare} m (hb d main_v7))) ∗ debts d 1) := by
  show iprop((pd m 1 d).arrays ((pd m 1 d).arrAt · 0) ∗ debts d 1) = _
  rw [Pipeline.arrays_eq (Pipeline.pin (pcfgs (F := F)) adm) (pd m) 1 d arr_whole2 ((pd m 1 d).share_full fun _ => rfl)]
  exact congrArg (fun X : sProp 𝕄 => iprop(X ∗ debts d 1)) (bigSep_W2 _)

theorem post2 (d : Dev nD) : (reg2 m).post d = iprop(((hb d main_v4 ↦{fullShare} sumsIn m d) ∗ (hb d main_v5 ↦{fullShare} cntsIn m d)
    ∗ (hb d main_arg2 ↦{fullShare} m (hb d main_arg2)) ∗ (hb d main_v6 ↦{fullShare} biasIn m d) ∗ (hb d main_v7 ↦{fullShare} outProj m d)) ∗ debts d 1) := by
  show iprop((pd m 1 d).arrays ((pd m 1 d).arrAt · _) ∗ debts d 1) = _
  rw [Pipeline.arrays_eq (Pipeline.pin (pcfgs (F := F)) adm) (pd m) 1 d arr_whole2 ((pd m 1 d).share_full fun _ => rfl)]
  refine congrArg (fun X : sProp 𝕄 => iprop(X ∗ debts d 1)) ((bigSep_W2 _).trans ?_)
  rw [show (pd m 1 d).arrAt (0 : Fin 5) (Pipeline.pin (pcfgs (F := F)) adm 1).N = sumsIn m d from (pd m 1 d).arrAt_in 0 rfl _,
    show (pd m 1 d).arrAt (1 : Fin 5) (Pipeline.pin (pcfgs (F := F)) adm 1).N = cntsIn m d from (pd m 1 d).arrAt_in 1 rfl _,
    show (pd m 1 d).arrAt (2 : Fin 5) (Pipeline.pin (pcfgs (F := F)) adm 1).N = m (hb d main_arg2) from (pd m 1 d).arrAt_in 2 rfl _,
    show (pd m 1 d).arrAt (3 : Fin 5) (Pipeline.pin (pcfgs (F := F)) adm 1).N = biasIn m d from (pd m 1 d).arrAt_in 3 rfl _]
  rfl

/-- A pallas_call of @main, entered among the SparseCore's calls. -/
theorem wp_entry [∀ e, Nonempty (Elt F e)] (p : Fin 2) (R : RegionSeg (pcfgs (F := F)) adm (pd m) (none : HIx 1) defs₀ 𝒱₀ (K (F := F)).L (K (F := F)).lev p)
    (d : Dev nD) (Q : PUnit → sProp 𝕄) :
    iprop(levAts (K (F := F)).L (K (F := F)).lev ∗ boundary (SparseCore.T d) ∗ cellsGhost (Pipeline.pin (pcfgs (F := F)) adm) EP p d
        ∗ toksInit (Pipeline.pin (pcfgs (F := F)) adm) EP p d ∗ R.pre d ∗ ((boundary (SparseCore.T d) ∗ R.post d) -∗ Q ⟨⟩))
      ⊢ wp frame (wpE ((K (F := F)).defs (D (F := F))) 𝒱 (SparseCore.T d) none) Set.univ (Prog.lift (.customCall (SparseCore.inner (Pipeline.entry p)) ())) Q := by
  iintro ⟨HL, Hb, Hg, Ht, Hp, HQ⟩
  iapply ((K (F := F)).wp_liftProg (D (F := F)) 𝒱 (SparseCore.T d) Set.univ none (Prog.lift (.customCall (Pipeline.entry p) ())) Q)
  iapply (RegionSeg.wp (pcfgs (F := F)) adm (pd m) (none : HIx 1) cellOf_inj EP defs₀ 𝒱₀ (K (F := F)).L (K (F := F)).lev R d none (fun u hu => nomatch hu) (fun x => .ret x) Q)
  isplitl [HQ]
  · iintro H
    iapply (le_wp_ret _ _ _ _ _)
    iapply HQ; iexact H
  isplitl [Hb]; · iexact Hb
  isplitl [Hp]; · iexact Hp
  isplitl [HL]; · iexact HL
  isplitl [Hg]; · iexact Hg
  iexact Ht

/-! ## The TensorCore's thread -/

theorem unscopedBufs_eq (d : Dev nD) (W : (b : Ref sig .tc) → Buf (Elt F) ((d.tc : Thread nD τ).loc b)) :
    (unscopedBufs d W : sProp 𝕄) = iprop((hb d main_arg0 ↦{fullShare} W main_arg0) ∗ (hb d main_arg1 ↦{fullShare} W main_arg1) ∗ (hb d main_arg2 ↦{fullShare} W main_arg2)
      ∗ (hb d main_arg3 ↦{fullShare} W main_arg3) ∗ (hb d main_v0 ↦{fullShare} W main_v0) ∗ (hb d main_v1 ↦{fullShare} W main_v1) ∗ (hb d main_v2 ↦{fullShare} W main_v2)
      ∗ (hb d main_v3_0 ↦{fullShare} W main_v3_0) ∗ (hb d main_v3_1 ↦{fullShare} W main_v3_1) ∗ (hb d main_v4 ↦{fullShare} W main_v4) ∗ (hb d main_v5 ↦{fullShare} W main_v5)
      ∗ (hb d main_v6 ↦{fullShare} W main_v6) ∗ (hb d main_v7 ↦{fullShare} W main_v7)) := by
  unfold unscopedBufs
  rw [show (Finset.univ.filter fun b : Ref sig .tc => ¬ b.isScoped)
    = {main_arg0, main_arg1, main_arg2, main_arg3, main_v0, main_v1, main_v2, main_v3_0, main_v3_1, main_v4, main_v5, main_v6, main_v7} by decide]
  repeat rw [SparseCore.bigSep_insert' (by decide)]
  rw [BI.bigSep_singleton]

/-- The pipelines' ghost state on a core. -/
def ghosts (d : Dev nD) : sProp 𝕄 :=
  iprop((bigSep Finset.univ fun p : Fin 2 => cellsGhost (Pipeline.pin (pcfgs (F := F)) adm) EP p d)
    ∗ bigSep Finset.univ fun p : Fin 2 => toksInit (Pipeline.pin (pcfgs (F := F)) adm) EP p d)

/-- What @main leaves. -/
def FIN (d : Dev nD) : sProp 𝕄 :=
  iprop((hb d main_arg0 ↦{fullShare} m (hb d main_arg0)) ∗ (hb d main_arg1 ↦{fullShare} m (hb d main_arg1)) ∗ (hb d main_arg2 ↦{fullShare} m (hb d main_arg2))
    ∗ (hb d main_arg3 ↦{fullShare} m (hb d main_arg3)) ∗ (hb d main_v0 ↦{fullShare} outCast m d) ∗ (hb d main_v7 ↦{fullShare} outProj m d))

/-- The rest of the core's state before a call. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(debts d n ∗ tcRest d n) := rfl

theorem st_eq (d : Dev nD) : (bigSep Finset.univ fun c : Fin ((K (F := F)).nCore 0) => (P m).st 0 d c)
    = iprop((hb d main_v1 ↦{fullShare} rowsBuf m d) ∗ (hb d main_v2 ↦{fullShare} idsBuf m d) ∗ (hb d main_v3_0 ↦{fullShare} m (hb d main_v3_0)) ∗ (hb d main_v3_1 ↦{fullShare} m (hb d main_v3_1))) :=
  (cores_eq m d _ _).symm
theorem dn_eq (d : Dev nD) : (bigSep Finset.univ fun c : Fin ((K (F := F)).nCore 0) => (P m).dn 0 d c)
    = iprop((hb d main_v1 ↦{fullShare} rowsBuf m d) ∗ (hb d main_v2 ↦{fullShare} idsBuf m d) ∗ (hb d main_v3_0 ↦{fullShare} sumsBuf m d) ∗ (hb d main_v3_1 ↦{fullShare} cntsBuf m d)) :=
  (cores_eq m d _ _).symm

variable (ρ : Dev nD → PrngReg)

set_option maxHeartbeats 1000000 in
/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd ghosts
  rw [unscopedBufs_eq, two (fun p : Fin 2 => cellsGhost (Pipeline.pin (pcfgs (F := F)) adm) EP p d), two (fun p : Fin 2 => toksInit (Pipeline.pin (pcfgs (F := F)) adm) EP p d)]
  simp only [main, wp_bind, wp_pure]
  rw [tcSt_eq d 0]
  iintro ⟨#Hctx, ⟨HD, Hst⟩, ⟨Hb, ⟨Ha0, Ha1, Ha2, Ha3, Hv0, Hv1, Hv2, Hs, Hn, Hv4, Hv5, Hv6, Hv7⟩, Hts, -⟩, ⟨Hg0, Hg1⟩, ⟨Ht0, Ht1⟩⟩
  ihave #HL := ((K (F := F)).ctx_levAts (EH := EH) (P := P m) κ) $$ Hctx
  iapply (wp_entry m 0 (reg0 m) d _)
  isplitr; · iexact HL
  isplitl [Hb]; · iexact Hb
  isplitl [Hg0]; · iexact Hg0
  isplitl [Ht0]; · iexact Ht0
  rw [pre0, post0]
  isplitl [Ha0 Hv0 HD]
  · isplitr [HD]
    · isplitl [Ha0]; · iexact Ha0
      iexact Hv0
    iexact HD
  iintro ⟨Hb, ⟨Ha0, Hv0⟩, HD⟩
  iapply (wp_reshape m d main_arg0 main_v1 rfl shapeCasts_S4x8192x768_S25165824 _ _ (by decide) (m (hb d main_arg0)) (m (hb d main_v1)) (rowsBuf m d) rfl _)
  isplitl [Hb]; · iexact Hb
  isplitl [Ha0]; · iexact Ha0
  isplitl [Hv1]; · iexact Hv1
  iintro ⟨Hb, Ha0, Hv1⟩
  iapply (wp_reshape m d main_arg1 main_v2 rfl shapeCasts_S4x8192_S32768 _ _ (by decide) (m (hb d main_arg1)) (m (hb d main_v2)) (idsBuf m d) rfl _)
  isplitl [Hb]; · iexact Hb
  isplitl [Ha1]; · iexact Ha1
  isplitl [Hv2]; · iexact Hv2
  iintro ⟨Hb, Ha1, Hv2⟩
  iapply ((K (F := F)).wp_run (D (F := F)) 𝒱 (EH := EH) (P := P m) κ d 0)
  isplitr; · iexact Hctx
  isplitl [HD Hst]
  · rw [show (((0 : Fin 1).val : ℕ)) = 0 from rfl, tcSt_eq d 0]
    isplitl [HD]; · iexact HD
    iexact Hst
  isplitl [Hv1 Hv2 Hs Hn]
  · rw [st_eq]
    isplitl [Hv1]; · iexact Hv1
    isplitl [Hv2]; · iexact Hv2
    isplitl [Hs]; · iexact Hs
    iexact Hn
  iintro ⟨Hst, Hdn⟩
  ihave Hdn' := (Entails.of_eq (dn_eq m d)) $$ Hdn
  icases Hdn' with ⟨-, -, Hs, Hn⟩
  ihave Hst' := (Entails.of_eq (show ((K (F := F)).tcSt EH d ((0 : Fin 1).val + 1) : sProp 𝕄) = iprop(debts d 1 ∗ tcRest d 1) from tcSt_eq d 1)) $$ Hst
  icases Hst' with ⟨HD, Hst⟩
  iapply (wp_reshape m d main_v3_0 main_v4 rfl shapeCasts_S6291456_S4x2048x768 _ _ (by decide) (sumsBuf m d) (m (hb d main_v4)) (sumsIn m d) rfl _)
  isplitl [Hb]; · iexact Hb
  isplitl [Hs]; · iexact Hs
  isplitl [Hv4]; · iexact Hv4
  iintro ⟨Hb, -, Hv4⟩
  iapply (wp_reshape m d main_v3_1 main_v5 rfl shapeCasts_S8192_S4x1x2048 _ _ (by decide) (cntsBuf m d) (m (hb d main_v5)) (cntsIn m d) rfl _)
  isplitl [Hb]; · iexact Hb
  isplitl [Hn]; · iexact Hn
  isplitl [Hv5]; · iexact Hv5
  iintro ⟨Hb, -, Hv5⟩
  iapply (wp_reshape m d main_arg3 main_v6 rfl shapeCasts_S1024_S1x1024 _ _ (by decide) (m (hb d main_arg3)) (m (hb d main_v6)) (biasIn m d) rfl _)
  isplitl [Hb]; · iexact Hb
  isplitl [Ha3]; · iexact Ha3
  isplitl [Hv6]; · iexact Hv6
  iintro ⟨Hb, Ha3, Hv6⟩
  iapply (wp_entry m 1 (reg2 m) d _)
  isplitr; · iexact HL
  isplitl [Hb]; · iexact Hb
  isplitl [Hg1]; · iexact Hg1
  isplitl [Ht1]; · iexact Ht1
  rw [pre2, post2]
  isplitl [Hv4 Hv5 Ha2 Hv6 Hv7 HD]
  · isplitr [HD]
    · isplitl [Hv4]; · iexact Hv4
      isplitl [Hv5]; · iexact Hv5
      isplitl [Ha2]; · iexact Ha2
      isplitl [Hv6]; · iexact Hv6
      iexact Hv7
    iexact HD
  iintro ⟨Hb, ⟨-, -, Ha2, -, Hv7⟩, HD⟩
  rw [tcSt_eq d 1]
  isplitl [HD Hst]
  · isplitl [HD]; · iexact HD
    iexact Hst
  isplitr [Hb Hts]
  · unfold FIN
    isplitl [Ha0]; · iexact Ha0
    isplitl [Ha1]; · iexact Ha1
    isplitl [Ha2]; · iexact Ha2
    isplitl [Ha3]; · iexact Ha3
    isplitl [Hv0]; · iexact Hv0
    iexact Hv7
  isplitl [Hb]; · iexact Hb
  iexact Hts

/-! ## The launch's ghost state -/

def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P m).x q thr) := by
  unfold u₀ ghosts
  rw [BI.bigSep_sep']
  iintro Hu
  ihave H := (ownU_pair (initOf (K (F := F)).hsCells (K (F := F)).hsToks) _) $$ Hu
  icases H with ⟨HH, HR⟩
  ihave H := (own_pair_emb (embR : Emb (UP × Counters) 𝕄) _ _) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · isplitl [Hg]; · iexact Hg
    iexact Ht
  rw [show (bigSep Finset.univ fun thr : Thread nD τ => bigSep Finset.univ fun q : Fin 1 => (P (F := F) m).x q thr) = (iprop(emp) : sProp 𝕄) from
    (BI.bigSep_congr fun _ _ => BI.bigSep_univ_of_subsingleton (0 : Fin 1)).trans (BI.bigSep_emp_const _)]
  iempintro

/-! ## The run -/

/-- Reading what is held whole. -/
theorem agree (ℓ : Loc nD τ sig) (f : Buf (Elt F) ℓ) (s' : Phys nD τ sig (Elt F)) : iprop((ℓ ↦{fullShare} f) ∗ SI s') ⊢ (iprop(⌜s'.mem.mem ℓ = f⌝ ∗ SI s') : sProp 𝕄) := by
  iintro ⟨H, HS⟩
  ihave H := (persistent_entails_right (SI_pointsTo_agree (st := s') (ℓ := ℓ) (I := Finset.univ) (q := fullShare) (f := f))) $$ [H HS]
  · isplitl [HS] <;> iassumption
  icases H with ⟨%h, HS, -⟩
  isplitr [HS]
  · ipureintro; exact funext fun i => h i (Finset.mem_univ i)
  iexact HS

/-- What holds at the end, on a device. -/
def fq (d : Dev nD) (s' : Phys nD τ sig (Elt F)) : Prop :=
  s'.mem.mem (hb d main_arg0) = m (hb d main_arg0) ∧ s'.mem.mem (hb d main_arg1) = m (hb d main_arg1) ∧ s'.mem.mem (hb d main_arg2) = m (hb d main_arg2)
    ∧ s'.mem.mem (hb d main_arg3) = m (hb d main_arg3) ∧ s'.mem.mem (hb d main_v0) = outCast m d ∧ s'.mem.mem (hb d main_v7) = outProj m d

theorem hfin (d : Dev nD) (s' : Phys nD τ sig (Elt F)) : iprop(FIN m d ∗ SI s') ⊢ (⌜fq m d s'⌝ : sProp 𝕄) := by
  unfold FIN
  iintro ⟨⟨H0, H1, H2, H3, H4, H5⟩, HS⟩
  ihave H := (agree _ _ s') $$ [H0 HS]
  · isplitl [H0] <;> iassumption
  icases H with ⟨%h0, HS⟩
  ihave H := (agree _ _ s') $$ [H1 HS]
  · isplitl [H1] <;> iassumption
  icases H with ⟨%h1, HS⟩
  ihave H := (agree _ _ s') $$ [H2 HS]
  · isplitl [H2] <;> iassumption
  icases H with ⟨%h2, HS⟩
  ihave H := (agree _ _ s') $$ [H3 HS]
  · isplitl [H3] <;> iassumption
  icases H with ⟨%h3, HS⟩
  ihave H := (agree _ _ s') $$ [H4 HS]
  · isplitl [H4] <;> iassumption
  icases H with ⟨%h4, HS⟩
  ihave H := (agree _ _ s') $$ [H5 HS]
  · isplitl [H5] <;> iassumption
  icases H with ⟨%h5, -⟩
  ipureintro
  exact ⟨h0, h1, h2, h3, h4, h5⟩

/-- What the run ends at. -/
def QC : PUnit × MemSt nD τ sig (Elt F) → Prop := fun r =>
  (∀ d : Dev nD, r.2.mem (hb d main_arg0) = m (hb d main_arg0) ∧ r.2.mem (hb d main_arg1) = m (hb d main_arg1) ∧ r.2.mem (hb d main_arg2) = m (hb d main_arg2)
    ∧ r.2.mem (hb d main_arg3) = m (hb d main_arg3) ∧ r.2.mem (hb d main_v0) = outCast m d ∧ r.2.mem (hb d main_v7) = outProj m d) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main ghosts (FIN m) (u₀ (F := F)) (sep_elim_left.trans (hu₀ m)) (hmain m ρ) (fq m) (hfin m) (QC m) (fun _ h hz => ⟨h, hz⟩)

end PatchMean

end
-- ==== Proof.Same.lean ====
/-
  The program read at machine words and the program read at the extended reals are one text: their body tables agree at any one reading.
-/
module

public import proofs.«01_k».proof.Defs
public import proofs.«01_k».proof.Proof.Gen.Kernel
public import proofs.«01_k».proof.Proof.Gen.KernelIdeal

@[expose] public section

namespace PatchMean

open Idealize.ShloMosaic Idealize.ShloMosaic.TcCoe Idealize.SL.Sem

set_option maxHeartbeats 0 in
/-- The SparseCore kernel is one text. -/
theorem scBody_eq : @Cert.KernelIdeal.cc1__sc_body Bits _ _ = @Cert.Kernel.cc1__sc_body Bits _ _ := (rfl)

/-! ## Label by label -/

theorem tc0 (a) : Cert.KernelIdeal.defs₀ (F := Bits) .tc 0 a = Cert.Kernel.defs₀ .tc 0 a := (rfl)
theorem tc1 (a) : Cert.KernelIdeal.defs₀ (F := Bits) .tc 1 a = Cert.Kernel.defs₀ .tc 1 a := (rfl)
theorem tc2 (a) : Cert.KernelIdeal.defs₀ (F := Bits) .tc 2 a = Cert.Kernel.defs₀ .tc 2 a := (rfl)
theorem sc0 (c) (ℓ : Cert.KernelIdeal.Λ₀.Label) (a) : Cert.KernelIdeal.defs₀ (F := Bits) (.scScalar c) ℓ a = Cert.Kernel.defs₀ (.scScalar c) ℓ a := (rfl)
theorem sv0 (c s) (a) : Cert.KernelIdeal.defs₀ (F := Bits) (.scVector c s) 0 a = Cert.Kernel.defs₀ (.scVector c s) 0 a := (rfl)
theorem sv2 (c s) (a) : Cert.KernelIdeal.defs₀ (F := Bits) (.scVector c s) 2 a = Cert.Kernel.defs₀ (.scVector c s) 2 a := (rfl)
theorem sv1 (c s) (a) : Cert.KernelIdeal.defs₀ (F := Bits) (.scVector c s) 1 a = Cert.Kernel.defs₀ (.scVector c s) 1 a := by
  unfold Cert.KernelIdeal.defs₀ Cert.Kernel.defs₀
  dsimp only
  rw [scBody_eq]
  rfl

/-- The kernels' table. -/
theorem defs0_eq : Cert.KernelIdeal.defs₀ (F := Bits) = Cert.Kernel.defs₀ := by
  funext p ℓ a
  match p, ℓ, a with
  | .tc, 0, a => exact tc0 a
  | .tc, 1, a => exact tc1 a
  | .tc, 2, a => exact tc2 a
  | .scScalar c, ℓ, a => exact sc0 c ℓ a
  | .scVector c s, 0, a => exact sv0 c s a
  | .scVector c s, 1, a => exact sv1 c s a
  | .scVector c s, 2, a => exact sv2 c s a

/-- The whole table. -/
theorem defs_eq : Cert.KernelIdeal.defs (F := Bits) = Cert.Kernel.defs (F := Bits) := by
  unfold Cert.KernelIdeal.defs Cert.Kernel.defs
  rw [defs0_eq]
  rfl

end PatchMean
-- ==== Proof.Frames.lean ====
/-
  The frames: each program runs, leaves its arguments as they were and every semaphore counter at zero.
-/
module

public import proofs.«01_k».proof.Defs
public import proofs.«01_k».proof.Proof.Main
public import proofs.«01_k».proof.Proof.Same
public import proofs.«01_k».proof.Proof.Gen.ReferenceIdeal.Run

@[expose] public section

set_option pp.maxSteps 200

noncomputable section

namespace PatchMean

open Idealize.ShloMosaic Idealize.ShloMosaic.TcCoe Idealize.SL.Sem

/-- The kernel at any float values: the arguments kept, the counters at zero. -/
theorem run_frame {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (Cert.KernelIdeal.threads (F := F)) ⟨m, fun _ => 0, g⟩ (fun r => (∀ c : Dev Cert.KernelIdeal.nD,
      r.2.mem (hb c Cert.KernelIdeal.main_arg0) = m (hb c Cert.KernelIdeal.main_arg0) ∧ r.2.mem (hb c Cert.KernelIdeal.main_arg1) = m (hb c Cert.KernelIdeal.main_arg1)
      ∧ r.2.mem (hb c Cert.KernelIdeal.main_arg2) = m (hb c Cert.KernelIdeal.main_arg2) ∧ r.2.mem (hb c Cert.KernelIdeal.main_arg3) = m (hb c Cert.KernelIdeal.main_arg3))
      ∧ r.2.sem = fun _ => 0) :=
  (θ_run Cert.KernelIdeal.defs _ _).mono (fun _ h => ⟨fun c => ⟨(h.1 c).1, (h.1 c).2.1, (h.1 c).2.2.1, (h.1 c).2.2.2.1⟩, h.2⟩) (run_main m g)

theorem frame_kernel : Cert.quiescent_Kernel := fun m g _ => by
  have h := run_frame (F := Bits) m g
  rw [defs_eq] at h
  exact h

theorem frame_ideal : Cert.quiescent_KernelIdeal := fun m g _ => run_frame (F := Ideal) m g

/-- The reference is a list of host operations and has no semaphore. -/
theorem frame_reference : Cert.quiescent_ReferenceIdeal := fun m g _ =>
  (θ_run Cert.ReferenceIdeal.defs _ _).mono (fun r h => ⟨fun c => ⟨(h c).2.2.1, (h c).2.2.2.1, (h c).2.2.2.2.1, (h c).2.2.2.2.2⟩,
    sem_eq_zero_of_no_sems (by decide) r.2⟩) (Cert.ReferenceIdeal.Value.run m g)

end PatchMean

end
-- ==== Proof.Out.lean ====
/-
  What the two TensorCore calls leave, element by element: the first array's elements cast, and the projection of the means.
-/
module

public import proofs.«01_k».proof.Proof.Main
public import Idealize.ShloMosaic.Lib.Pipeline.ValueKit

@[expose] public section

set_option maxRecDepth 16384

noncomputable section

namespace PatchMean

open Idealize.ShloMosaic Idealize.SL Idealize.SL.Sem Cert.KernelIdeal Cert.KernelIdeal.Gen

/-! ## The blocks' places -/

theorem index0 : ∀ t : Fin grid0.N, win0_0.index t = ![t.val / 8, t.val % 8, 0] ∧ win0_1.index t = ![t.val / 8, t.val % 8, 0] := by decide +kernel
theorem index2 : ∀ t : Fin grid2.N, win2_0.index t = ![t.val / 4, t.val % 4, 0] ∧ win2_1.index t = ![t.val / 4, 0, t.val % 4]
    ∧ win2_2.index t = ![0, 0] ∧ win2_3.index t = ![0, 0] ∧ win2_4.index t = ![t.val / 4, t.val % 4, 0] := by decide +kernel

/-! ## The cast -/

section
variable (c : Dev nD) (a : Buf (Elt Ideal) (hb c main_arg0)) (z : Buf (Elt Ideal) (hb c main_v0))

theorem cast_final : (dat0 c a z).arrAt 1 cfg0.N = (truncf .bf16 (show FVec Ideal S4x8192x768 .f32 from a) bitsLt_bf16_f32 : FVec Ideal S4x8192x768 .bf16) := by
  refine (dat0 c a z).arrAt_eq_of_covers 1 _ (by decide +kernel) fun t hf y => ?_
  blk_simp
  show k0_pay1 (rows0 c a z t) y = _
  pointwise [k0_pay1]
  blk_point [rows0, arr0, index0 t]

end

/-! ## The projection -/

/-- The means projected. -/
def project (sums : FVec Ideal S4x2048x768 .f32) (cnts : FVec Ideal S4x1x2048 .f32) (W : FVec Ideal S768x1024 .f32) (b : FVec Ideal S1x1024 .f32) : FVec Ideal S4x2048x1024 .f32 :=
  fun i => ((∑ k : Fin 768, Ideal.div (sums (ix3 (i 0) (i 1) k)) (max (cnts (ix3 (i 0) 0 (i 1))) 1) * W (ix2 k (i 2))) + b (ix2 0 (i 2)) : EReal)

section
variable (c : Dev nD) (x : Buf (Elt Ideal) (hb c main_v4)) (n : Buf (Elt Ideal) (hb c main_v5)) (w : Buf (Elt Ideal) (hb c main_arg2))
  (b : Buf (Elt Ideal) (hb c main_v6)) (z : Buf (Elt Ideal) (hb c main_v7))

theorem proj_final : (dat2 c x n w b z).arrAt 4 cfg2.N = project x n w b := by
  refine (dat2 c x n w b z).arrAt_eq_of_covers 4 _ (by decide +kernel) fun t hf y => ?_
  blk_simp
  show k2_pay1 (cnts2 c x n w b z t) (sums2 c x n w b z t) (wts2 c x n w b z t) (bias2 c x n w b z t) y = _
  pointwise [k2_pay1, project]
  blk_point [sums2, cnts2, wts2, bias2, arr2, index2 t]

end

end PatchMean

end
-- ==== Proof.Segment.lean ====
/-
  What the tiles' run adds up, with exact addition: where a row's identifiers do not decrease and name its patches, the accumulator's
  row of a patch is the sum of the rows whose identifier is the patch, and its count the number of them.
-/
module

public import proofs.«01_k».proof.Proof.Setup
public import Mathlib.Algebra.BigOperators.Intervals
public import Idealize.ShloMosaic.PureOps.Ideal.Laws
public import Idealize.ShloMosaic.Lib.IdealHost

@[expose] public section

noncomputable section

namespace PatchMean

open Idealize.ShloMosaic

/-- The identifiers of the four rows: each names a patch of its row, and along a row they do not decrease. -/
structure Rows (id : Nat → BitVec 32) : Prop where
  nonneg : ∀ n < 32768, 0 ≤ (id n).toInt
  lt : ∀ n < 32768, (id n).toInt < 2048
  mono : ∀ r < 4, ∀ i j, i ≤ j → j < 8192 → (id (8192 * r + i)).toInt ≤ (id (8192 * r + j)).toInt

/-- The sum of `f` over the positions of row `r` whose identifier is `p`. -/
def patchSum (id : Nat → BitVec 32) (f : Nat → EReal) (r p : Nat) : EReal :=
  ∑ j ∈ Finset.range 8192, if (id (8192 * r + j)).toInt = (p : Int) then f (8192 * r + j) else 0

theorem zeroF_ideal : (zeroF : Ideal .f32) = (0 : EReal) := Ideal.ofBits_zero_f32
theorem oneF_ideal : (oneF : Ideal .f32) = (1 : EReal) := Ideal.ofBits_one_f32

/-- An accumulator's element as a sum over the positions. -/
theorem accF_sum (x : Nat → Ideal .f32) (id : Nat → BitVec 32) (pq ntp base r c : Nat) (hc : c < 768) (n : Nat) :
    (accF x id pq ntp base n (768 * r + c) : EReal)
      = ∑ i ∈ Finset.range n, if relN pq ntp i (id (base + i)) = r then (x (768 * (base + i) + c) : EReal) else 0 := by
  induction n with
  | zero => rw [Finset.range_zero, Finset.sum_empty]; exact zeroF_ideal
  | succ n ih =>
    rw [Finset.sum_range_succ, ← ih]
    show addCols _ _ _ _ _ = _
    unfold addCols
    have e1 : (768 * r + c) / 768 = r := by omega
    have e2 : (768 * r + c) % 768 = c := by omega
    rw [e1, e2]
    by_cases h : relN pq ntp n (id (base + n)) = r
    · rw [if_pos ⟨h.symm, hc⟩, if_pos h]; rfl
    · rw [if_neg (fun hh => h hh.1.symm), if_neg h, add_zero]

/-- A count as a sum over the positions. -/
theorem cntF_sum (id : Nat → BitVec 32) (pq ntp base r : Nat) (n : Nat) :
    ((cntF id pq ntp base n r : Ideal .f32) : EReal)
      = ∑ i ∈ Finset.range n, if relN pq ntp i (id (base + i)) = r then (1 : EReal) else 0 := by
  induction n with
  | zero => rw [Finset.range_zero, Finset.sum_empty]; exact zeroF_ideal
  | succ n ih =>
    rw [Finset.sum_range_succ, ← ih]
    show (if r = relN pq ntp n (id (base + n)) then FloatOps.idxAddf (cntF id pq ntp base n r) oneF else cntF id pq ntp base n r : Ideal .f32) = _
    by_cases h : relN pq ntp n (id (base + n)) = r
    · rw [if_pos h.symm, if_pos h, oneF_ideal]; rfl
    · rw [if_neg (fun hh => h hh.symm), if_neg h, add_zero]

/-- Which row an identifier in range names. -/
theorem relN_eq_iff {pq ntp n r : Nat} {id : BitVec 32} (hpq : pq + 128 ≤ 2048) (hr : r < 128) (h0 : 0 ≤ id.toInt) (h1 : id.toInt < 2048) :
    relN pq ntp n id = r ↔ n < ntp ∧ id.toInt = ((pq + r : Nat) : Int) := by
  have hn := toNat_of_toInt h0
  have hlt := id.isLt
  have hs : (id - BitVec.ofNat 32 pq).toNat = (2 ^ 32 - pq + id.toNat) % 2 ^ 32 := by
    rw [BitVec.toNat_sub, BitVec.toNat_ofNat, Nat.mod_eq_of_lt (show pq < 2 ^ 32 by omega)]
  unfold relN
  rw [BitVec.toInt_eq_toNat_cond (x := id - BitVec.ofNat 32 pq), hs]
  split <;> split <;> omega

/-- Where a property holds on a first stretch, its count is the stretch's length. -/
theorem lt_count_iff (P : Nat → Prop) [DecidablePred P] (N : Nat) (hP : ∀ i j, i ≤ j → j < N → P j → P i) :
    ∀ j < N, (j < Nat.count P N ↔ P j) := by
  induction N with
  | zero => intro j hj; omega
  | succ N ih =>
    intro j hj
    by_cases h : P N
    · rw [Nat.count_iff_forall.mpr (fun i hi => hP i N (by omega) (by omega) h)]
      exact ⟨fun _ => hP j N (by omega) (by omega) h, fun _ => hj⟩
    · rw [Nat.count_succ, if_neg h, Nat.add_zero]
      rcases Nat.lt_or_ge j N with hlt | hge
      · exact ih (fun i j hij hj => hP i j hij (by omega)) j hlt
      · obtain rfl : j = N := by omega
        exact ⟨fun hh => absurd (Nat.count_le (p := P) (n := j)) (by omega), fun hh => absurd hh h⟩

section
variable {id : Nat → BitVec 32} (R : Rows id)
include R

theorem lt_belowN_iff {r : Nat} (hr : r < 4) (t : Int) {j : Nat} (hj : j < 8192) : j < belowN id (8192 * r) t ↔ (id (8192 * r + j)).toInt < t :=
  lt_count_iff (Below id (8192 * r) t) 8192 (fun i j hij hj h => lt_of_le_of_lt (R.mono r hr i j hij hj) h) j hj

/-- A half's run covers exactly the positions that name its patches. -/
theorem run_sum (f : Nat → EReal) {c s q r : Nat} (hc : c < 2) (hs : s < 16) (hq : q < 2) (hr : r < 128) :
    (∑ i ∈ Finset.range (16 * nchN (loN id c s) (midN id c s) (hiN id c s) q),
      if relN (pqN c s q) (ntpN (loN id c s) (midN id c s) (hiN id c s) q) i (id (rbN c s + bsN (loN id c s) (midN id c s) q + i)) = r
        then f (rbN c s + bsN (loN id c s) (midN id c s) q + i) else 0)
      = patchSum id f (rowN c s) (pqN c s q + r) := by
  have hrow := rowN_lt hc hs
  have hpq := pqN_le hc hs hq
  have e0 : selN (loN id c s) (midN id c s) q = belowN id (8192 * rowN c s) (pqN c s q : Int) := by
    unfold selN pqN
    rcases (by omega : q = 0 ∨ q = 1) with rfl | rfl
    · rw [if_pos rfl]; rfl
    · rw [if_neg (by decide)]; rfl
  have e1 : selN (midN id c s) (hiN id c s) q = belowN id (8192 * rowN c s) ((pqN c s q + 128 : Nat) : Int) := by
    unfold selN pqN
    rcases (by omega : q = 0 ∨ q = 1) with rfl | rfl
    · rw [if_pos rfl]; rfl
    · rw [if_neg (by decide)]; rfl
  have hle : belowN id (8192 * rowN c s) (pqN c s q : Int) ≤ belowN id (8192 * rowN c s) ((pqN c s q + 128 : Nat) : Int) := belowN_mono _ _ (by omega)
  have htop : belowN id (8192 * rowN c s) ((pqN c s q + 128 : Nat) : Int) ≤ 8192 := belowN_le _ _ _
  have hb0 := fun {j : Nat} (hj : j < 8192) => lt_belowN_iff R hrow (pqN c s q : Int) hj
  have hb1 := fun {j : Nat} (hj : j < 8192) => lt_belowN_iff R hrow ((pqN c s q + 128 : Nat) : Int) hj
  unfold nchN ntpN bsN
  rw [e0, e1]
  generalize belowN id (8192 * rowN c s) (pqN c s q : Int) = b0 at *
  generalize belowN id (8192 * rowN c s) ((pqN c s q + 128 : Nat) : Int) = b1 at *
  have hbs : b0 / 16 * 16 ≤ b0 := by omega
  generalize b0 / 16 * 16 = bs at *
  have hrb : rbN c s = 8192 * rowN c s := rfl
  rw [hrb]
  generalize pqN c s q = pq at *
  generalize rowN c s = row at *
  -- the run cut at the half's end
  have h1 : (∑ i ∈ Finset.range (16 * ((b1 - bs + 15) / 16)), if relN pq (b1 - bs) i (id (8192 * row + bs + i)) = r then f (8192 * row + bs + i) else 0)
      = ∑ i ∈ Finset.range (b1 - bs), if (id (8192 * row + (bs + i))).toInt = ((pq + r : Nat) : Int) then f (8192 * row + (bs + i)) else 0 := by
    rw [← Finset.sum_subset (Finset.range_subset_range.mpr (show b1 - bs ≤ 16 * ((b1 - bs + 15) / 16) by omega))]
    · refine Finset.sum_congr rfl fun i hi => ?_
      have hi := Finset.mem_range.mp hi
      have hn : 8192 * row + (bs + i) < 32768 := by omega
      rw [Nat.add_assoc]
      refine if_congr ((relN_eq_iff hpq hr (R.nonneg _ hn) (R.lt _ hn)).trans (and_iff_right hi)) rfl rfl
    · intro i _ hi
      have hi : ¬ i < b1 - bs := fun h => hi (Finset.mem_range.mpr h)
      refine if_neg fun h => ?_
      unfold relN at h
      rw [if_neg (fun hh => hi hh.1)] at h
      omega
  rw [h1, ← Finset.sum_Ico_eq_sum_range (fun j => if (id (8192 * row + j)).toInt = ((pq + r : Nat) : Int) then f (8192 * row + j) else 0) bs b1]
  unfold patchSum
  refine Finset.sum_subset (fun j hj => Finset.mem_range.mpr (lt_of_lt_of_le (Finset.mem_Ico.mp hj).2 htop)) fun j hj hn => ?_
  have hj := Finset.mem_range.mp hj
  refine if_neg fun h => hn (Finset.mem_Ico.mpr ⟨?_, ?_⟩)
  · have : ¬ j < b0 := fun hh => by have := (hb0 hj).mp hh; omega
    omega
  · exact (hb1 hj).mpr (by omega)

/-- The sums' array: the sum over the positions of the patch's row whose identifier is the patch. -/
theorem sumsN_eq (x : Nat → Ideal .f32) {p c : Nat} (hp : p < 8192) (hc : c < 768) :
    (sumsN x id (768 * p + c) : EReal) = patchSum id (fun n => x (768 * n + c)) (p / 2048) (p % 2048) := by
  have hg : (768 * p + c) / 98304 = p / 128 := by omega
  have hm : (768 * p + c) % 98304 = 768 * (p % 128) + c := by omega
  unfold sumsN
  rw [hg, hm]
  unfold sumF
  rw [accF_sum _ _ _ _ _ _ _ hc, run_sum R (fun n => x (768 * n + c)) (by omega) (by omega) (by omega) (by omega)]
  congr 1
  · unfold rowN; omega
  · unfold pqN p0N; omega

/-- The counts' array: the number of those positions. -/
theorem cntsN_eq {p : Nat} (hp : p < 8192) :
    ((cntsN id p : Ideal .f32) : EReal) = patchSum id (fun _ => 1) (p / 2048) (p % 2048) := by
  unfold cntsN numF
  rw [cntF_sum, run_sum R (fun _ => 1) (by omega) (by omega) (by omega) (by omega)]
  congr 1
  · unfold rowN; omega
  · unfold pqN p0N; omega

end

end PatchMean

end
-- ==== Proof.Arrays.lean ====
/-
  The arrays between the calls, element by element: what the host's reshapes make of the arguments and of the tiles' results.
-/
module

public import proofs.«01_k».proof.Proof.Main
public import proofs.«01_k».proof.Proof.Segment
public import Idealize.ShloMosaic.Lib.Pipeline.ValueKit

@[expose] public section

set_option maxRecDepth 16384

noncomputable section

namespace PatchMean

open Idealize.ShloMosaic Idealize.SL Idealize.SL.Sem Cert.KernelIdeal Cert.KernelIdeal.Gen

theorem byPos_at {α : Type} {N : Nat} (hN : 0 < N) (f : (Row N).Idx → α) {n : Nat} (h : n < N) : byPos hN f n = f (ix1 ⟨n, h⟩) := by
  unfold byPos
  congr 1
  funext a
  match a with
  | ⟨0, _⟩ => exact Fin.ext (Nat.mod_eq_of_lt h)

variable (m : (ℓ : Loc nD τ sig) → Buf (Elt Ideal) ℓ) (d : Dev nD)

/-- The rows' elements, in order. -/
theorem rowsN_at (r : Fin 4) (j : Fin 8192) (c : Fin 768) :
    rowsN m d (768 * (8192 * r.val + j.val) + c.val) = (show FVec Ideal S4x8192x768 .f32 from m (hb d main_arg0)) (ix3 r j c) := by
  unfold rowsN rowsBuf
  rw [byPos_at _ _ (show 768 * (8192 * r.val + j.val) + c.val < 25165824 by omega)]
  have e : ∀ f : FVec Ideal S4x8192x768 .f32, shapeCast S25165824 f shapeCasts_S4x8192x768_S25165824
      (ix1 ⟨768 * (8192 * r.val + j.val) + c.val, by omega⟩) = f (ix3 r j c) := by
    intro f
    pointwise
    blk_ext
  exact e (m (hb d main_arg0))

/-- The identifiers, in order. -/
theorem idsN_at (r : Fin 4) (j : Fin 8192) :
    idsN m d (8192 * r.val + j.val) = (show IVec S4x8192 32 from m (hb d main_arg1)) (ix2 r j) := by
  unfold idsN idsBuf
  rw [byPos_at _ _ (show 8192 * r.val + j.val < 32768 by omega)]
  have e : ∀ f : IVec S4x8192 32, shapeCast S32768 f shapeCasts_S4x8192_S32768 (ix1 ⟨8192 * r.val + j.val, by omega⟩) = f (ix2 r j) := by
    intro f
    pointwise
    blk_ext
  exact e (m (hb d main_arg1))

theorem sumsIn_at (i : Fin 4) (p : Fin 2048) (k : Fin 768) :
    (show FVec Ideal S4x2048x768 .f32 from sumsIn m d) (ix3 i p k) = sumsN (rowsN m d) (idsN m d) (768 * (2048 * i.val + p.val) + k.val) := by
  unfold sumsIn
  have e : ∀ f : FVec Ideal S6291456 .f32, shapeCast S4x2048x768 f shapeCasts_S6291456_S4x2048x768 (ix3 i p k)
      = f (ix1 ⟨768 * (2048 * i.val + p.val) + k.val, by omega⟩) := by
    intro f
    pointwise
    blk_ext
  exact e (sumsBuf m d)

theorem cntsIn_at (i : Fin 4) (p : Fin 2048) :
    (show FVec Ideal S4x1x2048 .f32 from cntsIn m d) (ix3 i 0 p) = cntsN (idsN m d) (2048 * i.val + p.val) := by
  unfold cntsIn
  have e : ∀ f : FVec Ideal S8192 .f32, shapeCast S4x1x2048 f shapeCasts_S8192_S4x1x2048 (ix3 i 0 p)
      = f (ix1 ⟨2048 * i.val + p.val, by omega⟩) := by
    intro f
    pointwise
    blk_ext
  exact e (cntsBuf m d)

theorem biasIn_at (e : Fin 1024) :
    (show FVec Ideal S1x1024 .f32 from biasIn m d) (ix2 0 e) = (show FVec Ideal S1024 .f32 from m (hb d main_arg3)) (ix1 e) := by
  unfold biasIn
  pointwise

end PatchMean

end
-- ==== Proof.Scatter.lean ====
/-
  The reference's scattered sums, with exact addition: an element of the result is what it held and the sum of the updates whose index
  names its row.
-/
module

public import proofs.«01_k».proof.Proof.Gen.ReferenceIdeal.Run
public import Idealize.ShloMosaic.Lib.Pointwise
public import Idealize.ShloMosaic.Lib.IdealHost

@[expose] public section

noncomputable section

namespace PatchMean

open Idealize.ShloMosaic Cert.ReferenceIdeal

/-- Where an update lands, axis by axis. -/
theorem result_iff {s si u : Shape} (D : ScatterDims s si u) {w : Nat} (j : u.Idx) (idx : IVec si w) (i : s.Idx) :
    D.resultIdx? j idx = some i ↔ ∀ a, D.start j idx a + D.window j a = ((i a).val : Int) := by
  unfold ScatterDims.resultIdx?
  split
  · rename_i h
    rw [Option.some.injEq]
    constructor
    · rintro rfl a
      have := h a
      show _ = (((D.start j idx a + D.window j a).toNat : Nat) : Int)
      omega
    · intro hh
      funext a
      refine Fin.ext ?_
      have := hh a
      show (D.start j idx a + D.window j a).toNat = _
      omega
  · rename_i h
    refine ⟨fun hh => by simp at hh, fun hh => absurd (fun a => ?_) h⟩
    have := hh a
    have := (i a).isLt
    omega

section
variable (idx : IVec S32768x1 32)

theorem start_rows (u : Fin 32768) (c : Fin 768) :
    (scatter_S8192x768_S32768x1_S32768x768_1_0_0_1.start (ix2 u c) idx 0 = (idx (ix2 u 0)).toInt)
      ∧ (scatter_S8192x768_S32768x1_S32768x768_1_0_0_1.start (ix2 u c) idx 1 = 0)
      ∧ (scatter_S8192x768_S32768x1_S32768x768_1_0_0_1.window (ix2 u c) 0 = 0)
      ∧ (scatter_S8192x768_S32768x1_S32768x768_1_0_0_1.window (ix2 u c) 1 = c.val) := by
  refine ⟨?_, rfl, rfl, rfl⟩
  have e : scatter_S8192x768_S32768x1_S32768x768_1_0_0_1.siIdx (ix2 u c) ⟨0, by decide⟩ = ix2 u 0 := by
    funext b; match b with
    | ⟨0, _⟩ => rfl
    | ⟨1, _⟩ => rfl
  rw [← e]; rfl

theorem start_ones (u : Fin 32768) :
    (scatter_S8192_S32768x1_S32768_n_0_0_1.start (ix1 u) idx 0 = (idx (ix2 u 0)).toInt)
      ∧ (scatter_S8192_S32768x1_S32768_n_0_0_1.window (ix1 u) 0 = 0) := by
  refine ⟨?_, rfl⟩
  have e : scatter_S8192_S32768x1_S32768_n_0_0_1.siIdx (ix1 u) ⟨0, by decide⟩ = ix2 u 0 := by
    funext b; match b with
    | ⟨0, _⟩ => rfl
    | ⟨1, _⟩ => rfl
  rw [← e]; rfl

/-- The scattered rows. -/
theorem scatter_rows (z : FVec Ideal S8192x768 .bf16) (upd : FVec Ideal S32768x768 .bf16) (p : Fin 8192) (c : Fin 768) :
    (Host.scatterAdd scatter_S8192x768_S32768x1_S32768x768_1_0_0_1 z idx upd (ix2 p c) : EReal)
      = z (ix2 p c) + ∑ u : Fin 32768, if (idx (ix2 u 0)).toInt = (p.val : Int) then (upd (ix2 u c) : EReal) else 0 := by
  show (z (ix2 p c) : EReal) + ∑ j ∈ Finset.univ.filter (fun j => scatter_S8192x768_S32768x1_S32768x768_1_0_0_1.resultIdx? j idx = some (ix2 p c)), (upd j : EReal) = _
  refine congrArg (fun v : EReal => z (ix2 p c) + v) ?_
  rw [Finset.sum_filter, sum_idx2]
  refine Finset.sum_congr rfl fun u _ => ?_
  have h : ∀ c' : Fin 768, (scatter_S8192x768_S32768x1_S32768x768_1_0_0_1.resultIdx? (ix2 u c') idx = some (ix2 p c)) ↔ ((idx (ix2 u 0)).toInt = (p.val : Int) ∧ c' = c) := by
    intro c'
    obtain ⟨h1, h2, h3, h4⟩ := start_rows idx u c'
    rw [result_iff]
    constructor
    · intro h
      have a0 := h 0
      have a1 := h 1
      rw [h1, h3] at a0
      rw [h2, h4] at a1
      have a0 : (idx (ix2 u 0)).toInt + ((0 : Nat) : Int) = (p.val : Int) := a0
      have a1 : (0 : Int) + (c'.val : Int) = (c.val : Int) := a1
      exact ⟨by omega, Fin.ext (by omega)⟩
    · rintro ⟨h, rfl⟩ a
      match a with
      | ⟨0, _⟩ => exact (congrArg₂ (fun (x : Int) (y : Nat) => x + (y : Int)) h1 h3).trans (by rw [h]; exact add_zero _)
      | ⟨1, _⟩ => exact (congrArg₂ (fun (x : Int) (y : Nat) => x + (y : Int)) h2 h4).trans (zero_add _)
  simp only [h]
  by_cases hp : (idx (ix2 u 0)).toInt = (p.val : Int)
  · simp only [hp, true_and]
    rw [Finset.sum_ite_eq' Finset.univ c, if_pos (Finset.mem_univ c), if_pos trivial]
  · simp only [hp, false_and, if_false, Finset.sum_const_zero]

/-- The scattered ones. -/
theorem scatter_ones (z : FVec Ideal S8192 .bf16) (upd : FVec Ideal S32768 .bf16) (p : Fin 8192) :
    (Host.scatterAdd scatter_S8192_S32768x1_S32768_n_0_0_1 z idx upd (ix1 p) : EReal)
      = z (ix1 p) + ∑ u : Fin 32768, if (idx (ix2 u 0)).toInt = (p.val : Int) then (upd (ix1 u) : EReal) else 0 := by
  show (z (ix1 p) : EReal) + ∑ j ∈ Finset.univ.filter (fun j => scatter_S8192_S32768x1_S32768_n_0_0_1.resultIdx? j idx = some (ix1 p)), (upd j : EReal) = _
  refine congrArg (fun v : EReal => z (ix1 p) + v) ?_
  rw [Finset.sum_filter, sum_idx1]
  refine Finset.sum_congr rfl fun u _ => if_congr ?_ rfl rfl
  obtain ⟨h1, h2⟩ := start_ones idx u
  rw [result_iff]
  constructor
  · intro h
    have a0 := h 0
    rw [h1, h2] at a0
    have a0 : (idx (ix2 u 0)).toInt + ((0 : Nat) : Int) = (p.val : Int) := a0
    omega
  · intro h a
    match a with
    | ⟨0, _⟩ => exact (congrArg₂ (fun (x : Int) (y : Nat) => x + (y : Int)) h1 h2).trans (by rw [h]; exact add_zero _)

end

end PatchMean

end
-- ==== Proof.Reference.lean ====
/-
  The reference's second result, element by element: the sum over the row's positions whose identifier is the patch, divided by their
  number (at least one), projected, and the bias added.
-/
module

public import proofs.«01_k».proof.Proof.Scatter
public import proofs.«01_k».proof.Proof.Segment

@[expose] public section

set_option maxRecDepth 16384

noncomputable section

namespace PatchMean

open Idealize.ShloMosaic Cert.ReferenceIdeal Cert.ReferenceIdeal.Facts₀

/-- Where the reference adds a position's row: its identifier, past the patches of the rows before its own. -/
def segIdx (ids : IVec S4x8192 32) : IVec S32768x1 32 :=
  broadcastInDim S32768x1 ![0] bcast_S32768_S32768x1_0 (shapeCast _ (addi ids (broadcastInDim S4x8192 ![0, 1] bcast_S4x1_S4x8192_0_1 (broadcastInDim S4x1 ![0] bcast_S4_S4x1_0 (muli (iotaInDim S4 32 0) (broadcastInDim S4 ![] bcast_S_S4 (constantI S_ 32 2048#32)))))) shapeCasts_S4x8192_S32768)

/-- The reference's second result. -/
def refOut (x : FVec Ideal S4x8192x768 .f32) (ids : IVec S4x8192 32) (W : FVec Ideal S768x1024 .f32) (b : FVec Ideal S1024 .f32) : FVec Ideal S4x2048x1024 .f32 :=
  addf (Host.dotGeneral dot_S4x2048x768_S768x1024_S4x2048x1024_2_0_01_1_n_n none (extf .f32 (shapeCast _ (Host.divf (Host.scatterAdd scatter_S8192x768_S32768x1_S32768x768_1_0_0_1 (broadcastInDim S8192x768 ![] bcast_S_S8192x768 (constant S_ .bf16 0x0000#16)) (segIdx ids) (shapeCast _ (truncf .bf16 x bitsLt_bf16_f32) shapeCasts_S4x8192x768_S32768x768)) (broadcastInDim S8192x768 ![0, 1] bcast_S8192x1_S8192x768_0_1 (broadcastInDim S8192x1 ![0] bcast_S8192_S8192x1_0 (maximumf (Host.scatterAdd scatter_S8192_S32768x1_S32768_n_0_0_1 (broadcastInDim S8192 ![] bcast_S_S8192 (constant S_ .bf16 0x0000#16)) (segIdx ids) (broadcastInDim S32768 ![] bcast_S_S32768 (constant S_ .bf16 0x3F80#16))) (broadcastInDim S8192 ![] bcast_S_S8192 (constant S_ .bf16 0x3F80#16)))))) shapeCasts_S8192x768_S4x2048x768) bitsLt_bf16_f32) W) (broadcastInDim S4x2048x1024 ![0, 1, 2] bcast_S1x1x1024_S4x2048x1024_0_1_2 (broadcastInDim S1x1x1024 ![2] bcast_S1024_S1x1x1024_2 b))

theorem segIdx_apply (ids : IVec S4x8192 32) (u : Fin 32768) :
    segIdx ids (ix2 u 0) = IntOp.addi (ids (ix2 ⟨u.val / 8192, by omega⟩ ⟨u.val % 8192, by omega⟩)) (IntOp.muli (BitVec.ofNat 32 (u.val / 8192)) 2048#32) := by
  unfold segIdx
  pointwise

section
variable {id : Nat → BitVec 32} (R : Rows id) {ids : IVec S4x8192 32} (hid : ∀ (r : Fin 4) (j : Fin 8192), id (8192 * r.val + j.val) = ids (ix2 r j))
include R hid

theorem segIdx_toInt (u : Fin 32768) : (segIdx ids (ix2 u 0)).toInt = (id u.val).toInt + 2048 * ((u.val / 8192 : Nat) : Int) := by
  have hu := u.isLt
  have h0 := R.nonneg u.val hu
  have h1 := R.lt u.val hu
  have e : ids (ix2 ⟨u.val / 8192, by omega⟩ ⟨u.val % 8192, by omega⟩) = id u.val := by
    rw [← hid]; congr 1; show 8192 * (u.val / 8192) + u.val % 8192 = u.val; omega
  rw [segIdx_apply, e]
  have hm : Affine.IsInt (IntOp.muli (BitVec.ofNat 32 (u.val / 8192)) 2048#32) (2048 * ((u.val / 8192 : Nat) : Int)) :=
    Affine.muli (lit _ (by omega)) (lit 2048 (by decide)) ⟨by omega, by omega, by omega⟩
  have hs := Affine.addi (Affine.word (id u.val)) hm ⟨rfl, by omega, by omega⟩
  unfold Affine.IsInt at hs
  exact hs

/-- A scattered sum at a patch is the sum over the positions of its row whose identifier it is. -/
theorem scattered (f : Nat → EReal) (i : Fin 4) (p : Fin 2048) :
    (∑ u : Fin 32768, if (segIdx ids (ix2 u 0)).toInt = ((i.val * 2048 + p.val : Nat) : Int) then f u.val else 0) = patchSum id f i.val p.val := by
  have hi := i.isLt
  have hp := p.isLt
  have e1 : (∑ u : Fin 32768, if (segIdx ids (ix2 u 0)).toInt = ((i.val * 2048 + p.val : Nat) : Int) then f u.val else 0)
      = ∑ u ∈ Finset.range 32768, if (id u).toInt + 2048 * ((u / 8192 : Nat) : Int) = ((i.val * 2048 + p.val : Nat) : Int) then f u else 0 := by
    rw [Finset.sum_range]
    exact Finset.sum_congr rfl fun u _ => by rw [segIdx_toInt R hid u]
  rw [e1]
  have e2 : patchSum id f i.val p.val = ∑ u ∈ Finset.Ico (8192 * i.val) (8192 * i.val + 8192), if (id u).toInt = (p.val : Int) then f u else 0 := by
    rw [Finset.sum_Ico_eq_sum_range, Nat.add_sub_cancel_left]; rfl
  rw [e2]
  symm
  refine (Finset.sum_congr rfl fun u hu => ?_).trans (Finset.sum_subset (s₁ := Finset.Ico (8192 * i.val) (8192 * i.val + 8192))
    (fun u hu => Finset.mem_range.mpr ?_) fun u hu hn => ?_)
  · have := Finset.mem_Ico.mp hu
    exact if_congr (by omega) rfl rfl
  · have := Finset.mem_Ico.mp hu
    omega
  · have hu := Finset.mem_range.mp hu
    have h0 := R.nonneg u hu
    have h1 := R.lt u hu
    refine if_neg fun hh => hn (Finset.mem_Ico.mpr ?_)
    omega

/-- The reference's second result at an element, of the rows' elements `x n` in order. -/
theorem refOut_apply (X : FVec Ideal S4x8192x768 .f32) (W : FVec Ideal S768x1024 .f32) (b : FVec Ideal S1024 .f32)
    (x : Nat → EReal) (hx : ∀ (r : Fin 4) (j : Fin 8192) (c : Fin 768), x (768 * (8192 * r.val + j.val) + c.val) = X (ix3 r j c))
    (i : Fin 4) (p : Fin 2048) (e : Fin 1024) :
    refOut X ids W b (ix3 i p e)
      = ((∑ k : Fin 768, Ideal.div (patchSum id (fun n => x (768 * n + k.val)) i.val p.val) (max (patchSum id (fun _ => 1) i.val p.val) 1) * W (ix2 k e)) + b (ix1 e) : EReal) := by
  have hS : ∀ k : Fin 768, (∑ u : Fin 32768, if (segIdx ids (ix2 u 0)).toInt = ((i.val * 2048 + p.val : Nat) : Int)
      then (X (ix3 ⟨u.val / 8192, by omega⟩ ⟨u.val % 8192, by omega⟩ k) : EReal) else 0) = patchSum id (fun n => x (768 * n + k.val)) i.val p.val := by
    intro k
    rw [← scattered R hid (fun n => x (768 * n + k.val)) i p]
    refine Finset.sum_congr rfl fun u _ => ?_
    have e := hx ⟨u.val / 8192, by omega⟩ ⟨u.val % 8192, by omega⟩ k
    rw [← e]
    have hu : 8192 * (u.val / 8192) + u.val % 8192 = u.val := by omega
    dsimp only
    rw [hu]
  have hC := scattered R hid (fun _ => 1) i p
  unfold refOut
  pointwise
  simp only [scatter_rows, scatter_ones]
  pointwise
  simp only [hS, hC]

end

end PatchMean

end
-- ==== Proof.Sorted.lean ====
/-
  What the precondition says of the identifiers: each names a patch of its row, and along a row they do not decrease.
-/
module

public import proofs.«01_k».proof.Pre_rows_sorted
public import proofs.«01_k».proof.Proof.Segment
public import Idealize.ShloMosaic.Lib.Pointwise

@[expose] public section

set_option maxRecDepth 16384

noncomputable section

namespace PatchMean

open Idealize.ShloMosaic

/-- The shape relations that the precondition states. -/
theorem sorted_facts : Cert.Pre_rows_sorted.Facts where
  slices_S4x8192_S4x1_0_0 := by decide
  slices_S4x8192_S4x8191_0_0 := by decide
  concatenates_S4x1_S4x8191_S4x8192_d1 := by decide
  bcast_S_S4x8192 := by decide

section
variable [Cert.Pre_rows_sorted.Facts] {x : FVec Ideal ⟨3, ![4, 8192, 768]⟩ .f32} {ids : IVec ⟨2, ![4, 8192]⟩ 32} {W : FVec Ideal ⟨2, ![768, 1024]⟩ .f32}
  {b : FVec Ideal ⟨1, ![1024]⟩ .f32} (h : Cert.Pre_rows_sorted.fn x ids W b = fun _ => 1#1)
include h

theorem ids_at (r : Fin 4) (j : Fin 8192) : 0 ≤ (ids (ix2 r j)).toInt ∧ (ids (ix2 r j)).toInt < 2048
    ∧ ∀ hj : 1 ≤ j.val, (ids (ix2 r ⟨j.val - 1, by omega⟩)).toInt ≤ (ids (ix2 r j)).toInt := by
  have e := congrFun h (ix2 r j)
  pointwise [Cert.Pre_rows_sorted.fn] at e
  obtain ⟨e12, e3⟩ := IntOp.andi_eq_one.mp e
  obtain ⟨e1, e2⟩ := IntOp.andi_eq_one.mp e12
  refine ⟨IntOp.cmpi_sge.mp e2, IntOp.cmpi_slt.mp e3, fun hj => ?_⟩
  replace e1 := IntOp.cmpi_sle.mp e1
  rwa [dif_neg (by omega)] at e1

/-- The identifiers as a list: row after row. -/
theorem rows_of {id : Nat → BitVec 32} (hid : ∀ (r : Fin 4) (j : Fin 8192), id (8192 * r.val + j.val) = ids (ix2 r j)) : Rows id := by
  have at_pos : ∀ n < 32768, ∃ (r : Fin 4) (j : Fin 8192), id n = ids (ix2 r j) := fun n hn =>
    ⟨⟨n / 8192, by omega⟩, ⟨n % 8192, by omega⟩, by rw [← hid]; congr 1; show n = 8192 * (n / 8192) + n % 8192; omega⟩
  refine ⟨fun n hn => ?_, fun n hn => ?_, fun r hr i j hij hj => ?_⟩
  · obtain ⟨r, j, e⟩ := at_pos n hn
    rw [e]; exact (ids_at h r j).1
  · obtain ⟨r, j, e⟩ := at_pos n hn
    rw [e]; exact (ids_at h r j).2.1
  · induction j, hij using Nat.le_induction with
    | base => exact Int.le_refl _
    | succ j hij ih =>
      refine Int.le_trans (ih (by omega)) ?_
      have e1 := hid ⟨r, hr⟩ ⟨j, by omega⟩
      have e2 := hid ⟨r, hr⟩ ⟨j + 1, hj⟩
      have e3 := (ids_at h ⟨r, hr⟩ ⟨j + 1, hj⟩).2.2 (Nat.succ_le_succ (Nat.zero_le j))
      dsimp only at e1 e2 e3
      rw [e1, e2]; exact e3

end

end PatchMean

end
-- ==== Proof.Algebraic.lean ====
/-
  The value claim: with exact addition, on identifiers that name patches and do not decrease along a row, the kernel's two results are the
  reference's.
-/
module

public import proofs.«01_k».proof.Defs
public import proofs.«01_k».proof.Proof.Out
public import proofs.«01_k».proof.Proof.Arrays
public import proofs.«01_k».proof.Proof.Reference
public import proofs.«01_k».proof.Proof.Sorted

@[expose] public section

noncomputable section

namespace PatchMean

open Idealize.ShloMosaic Idealize.ShloMosaic.TcCoe Idealize.SL.Sem

/-- An entry of the product depends on its sums, its count and its bias alone. -/
theorem entry_congr (s s' w : Fin 768 → EReal) (n n' b b' : EReal) (hs : ∀ k, s k = s' k) (hn : n = n') (hb : b = b') :
    (∑ k, Ideal.div (s k) (max n 1) * w k) + b = (∑ k, Ideal.div (s' k) (max n' 1) * w k) + b' := by
  obtain rfl : s = s' := funext hs
  rw [hn, hb]

section
open Cert.KernelIdeal
variable (m : (ℓ : Loc nD τ sig) → Buf (Elt Ideal) ℓ) (d : Dev nD)

/-- The second result is the reference's of the same arguments. -/
theorem outProj_eq (R : Rows (idsN m d)) :
    outProj m d = refOut (m (hb d main_arg0)) (m (hb d main_arg1)) (m (hb d main_arg2)) (m (hb d main_arg3)) := by
  unfold outProj
  rw [proj_final]
  refine funext fun y : S4x2048x1024.Idx => ?_
  obtain ⟨i, p, e, rfl⟩ : ∃ (i : Fin 4) (p : Fin 2048) (e : Fin 1024), y = ix3 i p e := ⟨y 0, y 1, y 2, eq_ix3 y⟩
  rw [refOut_apply R (idsN_at m d) _ _ _ (rowsN m d) (rowsN_at m d) i p e]
  have hr : (2048 * i.val + p.val) / 2048 = i.val := by omega
  have hm : (2048 * i.val + p.val) % 2048 = p.val := by omega
  have hS : ∀ k : Fin 768, (show FVec Ideal S4x2048x768 .f32 from sumsIn m d) (ix3 i p k)
      = patchSum (idsN m d) (fun n => rowsN m d (768 * n + k.val)) i.val p.val := fun k =>
    (sumsIn_at m d i p k).trans ((sumsN_eq R (rowsN m d) (by omega) k.isLt).trans (by rw [hr, hm]))
  have hC : (show FVec Ideal S4x1x2048 .f32 from cntsIn m d) (ix3 i 0 p) = patchSum (idsN m d) (fun _ => 1) i.val p.val :=
    (cntsIn_at m d i p).trans ((cntsN_eq R (by omega)).trans (by rw [hr, hm]))
  exact entry_congr _ _ _ _ _ _ _ hS hC (biasIn_at m d e)

/-- The first result is the first argument cast. -/
theorem outCast_eq : outCast m d = (truncf .bf16 (show FVec Ideal S4x8192x768 .f32 from m (hb d main_arg0)) Gen.bitsLt_bf16_f32 : FVec Ideal S4x8192x768 .bf16) :=
  cast_final d _ _

end

theorem algebraic [Cert.Pre_rows_sorted.Facts] : Cert.algebraic_KernelIdeal_ReferenceIdeal_pre_rows_sorted := fun m g m' g' hpre hagree => by
  have R : ∀ c : Dev Cert.KernelIdeal.nD, Rows (idsN m c) := fun c => rows_of (hpre c) (idsN_at m c)
  refine ⟨fun c => outCast m c, fun c => outProj m c, ?_, ?_⟩
  · exact (θ_run Cert.KernelIdeal.defs _ _).mono (fun _ h c => ⟨(h.1 c).2.2.2.2.1, (h.1 c).2.2.2.2.2, (h.1 c).1, (h.1 c).2.1, (h.1 c).2.2.1, (h.1 c).2.2.2.1⟩) (run_main m g)
  · refine (θ_run Cert.ReferenceIdeal.defs _ _).mono (fun r h c => ⟨(h c).1.trans ?_, (h c).2.1.trans ?_, (h c).2.2⟩) (Cert.ReferenceIdeal.Value.run m' g')
    · rw [(hagree c).1]
      exact (outCast_eq m c).symm
    · rw [(hagree c).1, (hagree c).2.1, (hagree c).2.2.1, (hagree c).2.2.2]
      exact (outProj_eq m c (R c)).symm

end PatchMean

end
-- ==== Proof.lean ====
/-
  The claims assembled: the side conditions the programs state, and each claim from its own module.
-/
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  PatchMean.sorted_facts, PatchMean.frame_kernel, PatchMean.frame_ideal, fun m g _ => PatchMean.frame_ideal m g ⟨⟩,
  PatchMean.frame_reference, fun m g _ => PatchMean.frame_reference m g ⟨⟩, trivial,
  haveI := PatchMean.sorted_facts; PatchMean.algebraic⟩

end Cert.Proof

end
